-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_RefInDwIdeal (m : (ℓ : Loc Cert.RefInDwIdeal.nD Cert.RefInDwIdeal.τ Cert.RefInDwIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_RefInDxIdeal (m : (ℓ : Loc Cert.RefInDxIdeal.nD Cert.RefInDxIdeal.τ Cert.RefInDxIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_RefUpDwIdeal (m : (ℓ : Loc Cert.RefUpDwIdeal.nD Cert.RefUpDwIdeal.τ Cert.RefUpDwIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_RefUpDxIdeal (m : (ℓ : Loc Cert.RefUpDxIdeal.nD Cert.RefUpDxIdeal.τ Cert.RefUpDxIdeal.sig) → Buf (Elt Ideal) ℓ) : Prop :=
  True

def Pre_DnDw (m : (ℓ : Loc Cert.DnDw.nD Cert.DnDw.τ Cert.DnDw.sig) → Buf (Elt Bits) ℓ) : Prop :=
  True

def Pre_DnDwIdeal (m : (ℓ : Loc Cert.DnDwIdeal.nD Cert.DnDwIdeal.τ Cert.DnDwIdeal.sig) → Buf (Elt Ideal) ℓ) : Prop :=
  True

def Pre_RefDnDwIdeal (m : (ℓ : Loc Cert.RefDnDwIdeal.nD Cert.RefDnDwIdeal.τ Cert.RefDnDwIdeal.sig) → Buf (Elt Ideal) ℓ) : Prop :=
  True

def Pre_DnDx (m : (ℓ : Loc Cert.DnDx.nD Cert.DnDx.τ Cert.DnDx.sig) → Buf (Elt Bits) ℓ) : Prop :=
  True

def Pre_DnDxIdeal (m : (ℓ : Loc Cert.DnDxIdeal.nD Cert.DnDxIdeal.τ Cert.DnDxIdeal.sig) → Buf (Elt Ideal) ℓ) : Prop :=
  True

def Pre_RefDnDxIdeal (m : (ℓ : Loc Cert.RefDnDxIdeal.nD Cert.RefDnDxIdeal.τ Cert.RefDnDxIdeal.sig) → Buf (Elt Ideal) ℓ) : Prop :=
  True

def Pre_ODw (m : (ℓ : Loc Cert.ODw.nD Cert.ODw.τ Cert.ODw.sig) → Buf (Elt Bits) ℓ) : Prop :=
  True

def Pre_ODwIdeal (m : (ℓ : Loc Cert.ODwIdeal.nD Cert.ODwIdeal.τ Cert.ODwIdeal.sig) → Buf (Elt Ideal) ℓ) : Prop :=
  True

def Pre_RefODwIdeal (m : (ℓ : Loc Cert.RefODwIdeal.nD Cert.RefODwIdeal.τ Cert.RefODwIdeal.sig) → Buf (Elt Ideal) ℓ) : Prop :=
  True

def Pre_ODx (m : (ℓ : Loc Cert.ODx.nD Cert.ODx.τ Cert.ODx.sig) → Buf (Elt Bits) ℓ) : Prop :=
  True

def Pre_ODxIdeal (m : (ℓ : Loc Cert.ODxIdeal.nD Cert.ODxIdeal.τ Cert.ODxIdeal.sig) → Buf (Elt Ideal) ℓ) : Prop :=
  True

def Pre_RefODxIdeal (m : (ℓ : Loc Cert.RefODxIdeal.nD Cert.RefODxIdeal.τ Cert.RefODxIdeal.sig) → Buf (Elt Ideal) ℓ) : Prop :=
  True

def Pre_OgDw (m : (ℓ : Loc Cert.OgDw.nD Cert.OgDw.τ Cert.OgDw.sig) → Buf (Elt Bits) ℓ) : Prop :=
  True

def Pre_OgDwIdeal (m : (ℓ : Loc Cert.OgDwIdeal.nD Cert.OgDwIdeal.τ Cert.OgDwIdeal.sig) → Buf (Elt Ideal) ℓ) : Prop :=
  True

def Pre_RefOgDwIdeal (m : (ℓ : Loc Cert.RefOgDwIdeal.nD Cert.RefOgDwIdeal.τ Cert.RefOgDwIdeal.sig) → Buf (Elt Ideal) ℓ) : Prop :=
  True

def Pre_OgDx (m : (ℓ : Loc Cert.OgDx.nD Cert.OgDx.τ Cert.OgDx.sig) → Buf (Elt Bits) ℓ) : Prop :=
  True

def Pre_OgDxIdeal (m : (ℓ : Loc Cert.OgDxIdeal.nD Cert.OgDxIdeal.τ Cert.OgDxIdeal.sig) → Buf (Elt Ideal) ℓ) : Prop :=
  True

def Pre_RefOgDxIdeal (m : (ℓ : Loc Cert.RefOgDxIdeal.nD Cert.RefOgDxIdeal.τ Cert.RefOgDxIdeal.sig) → Buf (Elt Ideal) ℓ) : Prop :=
  True

def Pre_InFw (m : (ℓ : Loc Cert.InFw.nD Cert.InFw.τ Cert.InFw.sig) → Buf (Elt Bits) ℓ) : Prop :=
  True

def Pre_InFwIdeal (m : (ℓ : Loc Cert.InFwIdeal.nD Cert.InFwIdeal.τ Cert.InFwIdeal.sig) → Buf (Elt Ideal) ℓ) : Prop :=
  True

def Pre_RefInFwIdeal (m : (ℓ : Loc Cert.RefInFwIdeal.nD Cert.RefInFwIdeal.τ Cert.RefInFwIdeal.sig) → Buf (Elt Ideal) ℓ) : Prop :=
  True

def Pre_OgFw (m : (ℓ : Loc Cert.OgFw.nD Cert.OgFw.τ Cert.OgFw.sig) → Buf (Elt Bits) ℓ) : Prop :=
  True

def Pre_OgFwIdeal (m : (ℓ : Loc Cert.OgFwIdeal.nD Cert.OgFwIdeal.τ Cert.OgFwIdeal.sig) → Buf (Elt Ideal) ℓ) : Prop :=
  True

def Pre_RefOgFwIdeal (m : (ℓ : Loc Cert.RefOgFwIdeal.nD Cert.RefOgFwIdeal.τ Cert.RefOgFwIdeal.sig) → Buf (Elt Ideal) ℓ) : Prop :=
  True

def Pre_OFw (m : (ℓ : Loc Cert.OFw.nD Cert.OFw.τ Cert.OFw.sig) → Buf (Elt Bits) ℓ) : Prop :=
  True

def Pre_OFwIdeal (m : (ℓ : Loc Cert.OFwIdeal.nD Cert.OFwIdeal.τ Cert.OFwIdeal.sig) → Buf (Elt Ideal) ℓ) : Prop :=
  True

def Pre_RefOFwIdeal (m : (ℓ : Loc Cert.RefOFwIdeal.nD Cert.RefOFwIdeal.τ Cert.RefOFwIdeal.sig) → Buf (Elt Ideal) ℓ) : Prop :=
  True

def Pre_UpFw (m : (ℓ : Loc Cert.UpFw.nD Cert.UpFw.τ Cert.UpFw.sig) → Buf (Elt Bits) ℓ) : Prop :=
  True

def Pre_UpFwIdeal (m : (ℓ : Loc Cert.UpFwIdeal.nD Cert.UpFwIdeal.τ Cert.UpFwIdeal.sig) → Buf (Elt Ideal) ℓ) : Prop :=
  True

def Pre_RefUpFwIdeal (m : (ℓ : Loc Cert.RefUpFwIdeal.nD Cert.RefUpFwIdeal.τ Cert.RefUpFwIdeal.sig) → Buf (Elt Ideal) ℓ) : Prop :=
  True

def Pre_DnFw (m : (ℓ : Loc Cert.DnFw.nD Cert.DnFw.τ Cert.DnFw.sig) → Buf (Elt Bits) ℓ) : Prop :=
  True

def Pre_DnFwIdeal (m : (ℓ : Loc Cert.DnFwIdeal.nD Cert.DnFwIdeal.τ Cert.DnFwIdeal.sig) → Buf (Elt Ideal) ℓ) : Prop :=
  True

def Pre_RefDnFwIdeal (m : (ℓ : Loc Cert.RefDnFwIdeal.nD Cert.RefDnFwIdeal.τ Cert.RefDnFwIdeal.sig) → Buf (Elt Ideal) ℓ) : Prop :=
  True

def Pre_AdDn (m : (ℓ : Loc Cert.AdDn.nD Cert.AdDn.τ Cert.AdDn.sig) → Buf (Elt Bits) ℓ) : Prop :=
  True

def Pre_AdDnIdeal (m : (ℓ : Loc Cert.AdDnIdeal.nD Cert.AdDnIdeal.τ Cert.AdDnIdeal.sig) → Buf (Elt Ideal) ℓ) : Prop :=
  True

def Pre_RefAdDnIdeal (m : (ℓ : Loc Cert.RefAdDnIdeal.nD Cert.RefAdDnIdeal.τ Cert.RefAdDnIdeal.sig) → Buf (Elt Ideal) ℓ) : Prop :=
  True

def Pre_AdUp (m : (ℓ : Loc Cert.AdUp.nD Cert.AdUp.τ Cert.AdUp.sig) → Buf (Elt Bits) ℓ) : Prop :=
  True

def Pre_AdUpIdeal (m : (ℓ : Loc Cert.AdUpIdeal.nD Cert.AdUpIdeal.τ Cert.AdUpIdeal.sig) → Buf (Elt Ideal) ℓ) : Prop :=
  True

def Pre_RefAdUpIdeal (m : (ℓ : Loc Cert.RefAdUpIdeal.nD Cert.RefAdUpIdeal.τ Cert.RefAdUpIdeal.sig) → Buf (Elt Ideal) ℓ) : Prop :=
  True

def Pre_AdO (m : (ℓ : Loc Cert.AdO.nD Cert.AdO.τ Cert.AdO.sig) → Buf (Elt Bits) ℓ) : Prop :=
  True

def Pre_AdOIdeal (m : (ℓ : Loc Cert.AdOIdeal.nD Cert.AdOIdeal.τ Cert.AdOIdeal.sig) → Buf (Elt Ideal) ℓ) : Prop :=
  True

def Pre_RefAdOIdeal (m : (ℓ : Loc Cert.RefAdOIdeal.nD Cert.RefAdOIdeal.τ Cert.RefAdOIdeal.sig) → Buf (Elt Ideal) ℓ) : Prop :=
  True

def Pre_AdOg (m : (ℓ : Loc Cert.AdOg.nD Cert.AdOg.τ Cert.AdOg.sig) → Buf (Elt Bits) ℓ) : Prop :=
  True

def Pre_AdOgIdeal (m : (ℓ : Loc Cert.AdOgIdeal.nD Cert.AdOgIdeal.τ Cert.AdOgIdeal.sig) → Buf (Elt Ideal) ℓ) : Prop :=
  True

def Pre_RefAdOgIdeal (m : (ℓ : Loc Cert.RefAdOgIdeal.nD Cert.RefAdOgIdeal.τ Cert.RefAdOgIdeal.sig) → Buf (Elt Ideal) ℓ) : Prop :=
  True

def Pre_AdIn (m : (ℓ : Loc Cert.AdIn.nD Cert.AdIn.τ Cert.AdIn.sig) → Buf (Elt Bits) ℓ) : Prop :=
  True

def Pre_AdInIdeal (m : (ℓ : Loc Cert.AdInIdeal.nD Cert.AdInIdeal.τ Cert.AdInIdeal.sig) → Buf (Elt Ideal) ℓ) : Prop :=
  True

def Pre_RefAdInIdeal (m : (ℓ : Loc Cert.RefAdInIdeal.nD Cert.RefAdInIdeal.τ Cert.RefAdInIdeal.sig) → Buf (Elt Ideal) ℓ) : Prop :=
  True

def Pre_AdAda (m : (ℓ : Loc Cert.AdAda.nD Cert.AdAda.τ Cert.AdAda.sig) → Buf (Elt Bits) ℓ) : Prop :=
  True

def Pre_AdAdaIdeal (m : (ℓ : Loc Cert.AdAdaIdeal.nD Cert.AdAdaIdeal.τ Cert.AdAdaIdeal.sig) → Buf (Elt Ideal) ℓ) : Prop :=
  True

def Pre_RefAdAdaIdeal (m : (ℓ : Loc Cert.RefAdAdaIdeal.nD Cert.RefAdAdaIdeal.τ Cert.RefAdAdaIdeal.sig) → Buf (Elt Ideal) ℓ) : Prop :=
  True

def Pre_AdBada (m : (ℓ : Loc Cert.AdBada.nD Cert.AdBada.τ Cert.AdBada.sig) → Buf (Elt Bits) ℓ) : Prop :=
  True

def Pre_AdBadaIdeal (m : (ℓ : Loc Cert.AdBadaIdeal.nD Cert.AdBadaIdeal.τ Cert.AdBadaIdeal.sig) → Buf (Elt Ideal) ℓ) : Prop :=
  True

def Pre_RefAdBadaIdeal (m : (ℓ : Loc Cert.RefAdBadaIdeal.nD Cert.RefAdBadaIdeal.τ Cert.RefAdBadaIdeal.sig) → Buf (Elt Ideal) ℓ) : Prop :=
  True

def Pre_AdNorm (m : (ℓ : Loc Cert.AdNorm.nD Cert.AdNorm.τ Cert.AdNorm.sig) → Buf (Elt Bits) ℓ) : Prop :=
  True

def Pre_AdNormIdeal (m : (ℓ : Loc Cert.AdNormIdeal.nD Cert.AdNormIdeal.τ Cert.AdNormIdeal.sig) → Buf (Elt Ideal) ℓ) : Prop :=
  True

def Pre_RefAdNormIdeal (m : (ℓ : Loc Cert.RefAdNormIdeal.nD Cert.RefAdNormIdeal.τ Cert.RefAdNormIdeal.sig) → Buf (Elt Ideal) ℓ) : Prop :=
  True

def Pre_AdWa (m : (ℓ : Loc Cert.AdWa.nD Cert.AdWa.τ Cert.AdWa.sig) → Buf (Elt Bits) ℓ) : Prop :=
  True

def Pre_AdWaIdeal (m : (ℓ : Loc Cert.AdWaIdeal.nD Cert.AdWaIdeal.τ Cert.AdWaIdeal.sig) → Buf (Elt Ideal) ℓ) : Prop :=
  True

def Pre_RefAdWaIdeal (m : (ℓ : Loc Cert.RefAdWaIdeal.nD Cert.RefAdWaIdeal.τ Cert.RefAdWaIdeal.sig) → Buf (Elt Ideal) ℓ) : Prop :=
  True

def Pre_AdBa (m : (ℓ : Loc Cert.AdBa.nD Cert.AdBa.τ Cert.AdBa.sig) → Buf (Elt Bits) ℓ) : Prop :=
  True

def Pre_AdBaIdeal (m : (ℓ : Loc Cert.AdBaIdeal.nD Cert.AdBaIdeal.τ Cert.AdBaIdeal.sig) → Buf (Elt Ideal) ℓ) : Prop :=
  True

def Pre_RefAdBaIdeal (m : (ℓ : Loc Cert.RefAdBaIdeal.nD Cert.RefAdBaIdeal.τ Cert.RefAdBaIdeal.sig) → Buf (Elt Ideal) ℓ) : Prop :=
  True

def Pre_AdGn (m : (ℓ : Loc Cert.AdGn.nD Cert.AdGn.τ Cert.AdGn.sig) → Buf (Elt Bits) ℓ) : Prop :=
  True

def Pre_AdGnIdeal (m : (ℓ : Loc Cert.AdGnIdeal.nD Cert.AdGnIdeal.τ Cert.AdGnIdeal.sig) → Buf (Elt Ideal) ℓ) : Prop :=
  True

def Pre_RefAdGnIdeal (m : (ℓ : Loc Cert.RefAdGnIdeal.nD Cert.RefAdGnIdeal.τ Cert.RefAdGnIdeal.sig) → Buf (Elt Ideal) ℓ) : Prop :=
  True

def Pre_AdCw (m : (ℓ : Loc Cert.AdCw.nD Cert.AdCw.τ Cert.AdCw.sig) → Buf (Elt Bits) ℓ) : Prop :=
  True

def Pre_AdCwIdeal (m : (ℓ : Loc Cert.AdCwIdeal.nD Cert.AdCwIdeal.τ Cert.AdCwIdeal.sig) → Buf (Elt Ideal) ℓ) : Prop :=
  True

def Pre_RefAdCwIdeal (m : (ℓ : Loc Cert.RefAdCwIdeal.nD Cert.RefAdCwIdeal.τ Cert.RefAdCwIdeal.sig) → Buf (Elt Ideal) ℓ) : Prop :=
  True

def Pre_AdFw (m : (ℓ : Loc Cert.AdFw.nD Cert.AdFw.τ Cert.AdFw.sig) → Buf (Elt Bits) ℓ) : Prop :=
  True

def Pre_AdFwIdeal (m : (ℓ : Loc Cert.AdFwIdeal.nD Cert.AdFwIdeal.τ Cert.AdFwIdeal.sig) → Buf (Elt Ideal) ℓ) : Prop :=
  True

def Pre_RefAdFwIdeal (m : (ℓ : Loc Cert.RefAdFwIdeal.nD Cert.RefAdFwIdeal.τ Cert.RefAdFwIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_RefInDwIdeal [hRefInDwIdeal : Cert.RefInDwIdeal.Facts] : Prop :=
  ∀ (m : (ℓ : Loc Cert.RefInDwIdeal.nD Cert.RefInDwIdeal.τ Cert.RefInDwIdeal.sig) → Buf (Elt Ideal) ℓ) (g : Dev Cert.RefInDwIdeal.nD → PrngReg), Pre_RefInDwIdeal m →
    θ_run (Cert.RefInDwIdeal.defs (F := Ideal)) (onTc (τ := Cert.RefInDwIdeal.τ) (Cert.RefInDwIdeal.main (F := Ideal))) ⟨m, fun _ => 0, g⟩ (fun r => (∀ c : Dev Cert.RefInDwIdeal.nD,
      r.2.mem ((c.tc : Thread Cert.RefInDwIdeal.nD Cert.RefInDwIdeal.τ).loc Cert.RefInDwIdeal.main_arg0) = m ((c.tc : Thread Cert.RefInDwIdeal.nD Cert.RefInDwIdeal.τ).loc Cert.RefInDwIdeal.main_arg0)
      ∧ r.2.mem ((c.tc : Thread Cert.RefInDwIdeal.nD Cert.RefInDwIdeal.τ).loc Cert.RefInDwIdeal.main_arg1) = m ((c.tc : Thread Cert.RefInDwIdeal.nD Cert.RefInDwIdeal.τ).loc Cert.RefInDwIdeal.main_arg1))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ r.2.sem = fun _ => 0)

def quiescent_RefInDxIdeal [hRefInDxIdeal : Cert.RefInDxIdeal.Facts] : Prop :=
  ∀ (m : (ℓ : Loc Cert.RefInDxIdeal.nD Cert.RefInDxIdeal.τ Cert.RefInDxIdeal.sig) → Buf (Elt Ideal) ℓ) (g : Dev Cert.RefInDxIdeal.nD → PrngReg), Pre_RefInDxIdeal m →
    θ_run (Cert.RefInDxIdeal.defs (F := Ideal)) (onTc (τ := Cert.RefInDxIdeal.τ) (Cert.RefInDxIdeal.main (F := Ideal))) ⟨m, fun _ => 0, g⟩ (fun r => (∀ c : Dev Cert.RefInDxIdeal.nD,
      r.2.mem ((c.tc : Thread Cert.RefInDxIdeal.nD Cert.RefInDxIdeal.τ).loc Cert.RefInDxIdeal.main_arg0) = m ((c.tc : Thread Cert.RefInDxIdeal.nD Cert.RefInDxIdeal.τ).loc Cert.RefInDxIdeal.main_arg0)
      ∧ r.2.mem ((c.tc : Thread Cert.RefInDxIdeal.nD Cert.RefInDxIdeal.τ).loc Cert.RefInDxIdeal.main_arg1) = m ((c.tc : Thread Cert.RefInDxIdeal.nD Cert.RefInDxIdeal.τ).loc Cert.RefInDxIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1)
      ∧ r.2.mem ((c.tc : Thread Cert.UpDw.nD Cert.UpDw.τ).loc Cert.UpDw.main_arg2) = m ((c.tc : Thread Cert.UpDw.nD Cert.UpDw.τ).loc Cert.UpDw.main_arg2))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1)
      ∧ r.2.mem ((c.tc : Thread Cert.UpDwIdeal.nD Cert.UpDwIdeal.τ).loc Cert.UpDwIdeal.main_arg2) = m ((c.tc : Thread Cert.UpDwIdeal.nD Cert.UpDwIdeal.τ).loc Cert.UpDwIdeal.main_arg2))
      ∧ r.2.sem = fun _ => 0)

def quiescent_RefUpDwIdeal [hRefUpDwIdeal : Cert.RefUpDwIdeal.Facts] : Prop :=
  ∀ (m : (ℓ : Loc Cert.RefUpDwIdeal.nD Cert.RefUpDwIdeal.τ Cert.RefUpDwIdeal.sig) → Buf (Elt Ideal) ℓ) (g : Dev Cert.RefUpDwIdeal.nD → PrngReg), Pre_RefUpDwIdeal m →
    θ_run (Cert.RefUpDwIdeal.defs (F := Ideal)) (onTc (τ := Cert.RefUpDwIdeal.τ) (Cert.RefUpDwIdeal.main (F := Ideal))) ⟨m, fun _ => 0, g⟩ (fun r => (∀ c : Dev Cert.RefUpDwIdeal.nD,
      r.2.mem ((c.tc : Thread Cert.RefUpDwIdeal.nD Cert.RefUpDwIdeal.τ).loc Cert.RefUpDwIdeal.main_arg0) = m ((c.tc : Thread Cert.RefUpDwIdeal.nD Cert.RefUpDwIdeal.τ).loc Cert.RefUpDwIdeal.main_arg0)
      ∧ r.2.mem ((c.tc : Thread Cert.RefUpDwIdeal.nD Cert.RefUpDwIdeal.τ).loc Cert.RefUpDwIdeal.main_arg1) = m ((c.tc : Thread Cert.RefUpDwIdeal.nD Cert.RefUpDwIdeal.τ).loc Cert.RefUpDwIdeal.main_arg1)
      ∧ r.2.mem ((c.tc : Thread Cert.RefUpDwIdeal.nD Cert.RefUpDwIdeal.τ).loc Cert.RefUpDwIdeal.main_arg2) = m ((c.tc : Thread Cert.RefUpDwIdeal.nD Cert.RefUpDwIdeal.τ).loc Cert.RefUpDwIdeal.main_arg2))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1)
      ∧ r.2.mem ((c.tc : Thread Cert.UpDx.nD Cert.UpDx.τ).loc Cert.UpDx.main_arg2) = m ((c.tc : Thread Cert.UpDx.nD Cert.UpDx.τ).loc Cert.UpDx.main_arg2))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
      ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2))
      ∧ r.2.sem = fun _ => 0)

def quiescent_RefUpDxIdeal [hRefUpDxIdeal : Cert.RefUpDxIdeal.Facts] : Prop :=
  ∀ (m : (ℓ : Loc Cert.RefUpDxIdeal.nD Cert.RefUpDxIdeal.τ Cert.RefUpDxIdeal.sig) → Buf (Elt Ideal) ℓ) (g : Dev Cert.RefUpDxIdeal.nD → PrngReg), Pre_RefUpDxIdeal m →
    θ_run (Cert.RefUpDxIdeal.defs (F := Ideal)) (onTc (τ := Cert.RefUpDxIdeal.τ) (Cert.RefUpDxIdeal.main (F := Ideal))) ⟨m, fun _ => 0, g⟩ (fun r => (∀ c : Dev Cert.RefUpDxIdeal.nD,
      r.2.mem ((c.tc : Thread Cert.RefUpDxIdeal.nD Cert.RefUpDxIdeal.τ).loc Cert.RefUpDxIdeal.main_arg0) = m ((c.tc : Thread Cert.RefUpDxIdeal.nD Cert.RefUpDxIdeal.τ).loc Cert.RefUpDxIdeal.main_arg0)
      ∧ r.2.mem ((c.tc : Thread Cert.RefUpDxIdeal.nD Cert.RefUpDxIdeal.τ).loc Cert.RefUpDxIdeal.main_arg1) = m ((c.tc : Thread Cert.RefUpDxIdeal.nD Cert.RefUpDxIdeal.τ).loc Cert.RefUpDxIdeal.main_arg1)
      ∧ r.2.mem ((c.tc : Thread Cert.RefUpDxIdeal.nD Cert.RefUpDxIdeal.τ).loc Cert.RefUpDxIdeal.main_arg2) = m ((c.tc : Thread Cert.RefUpDxIdeal.nD Cert.RefUpDxIdeal.τ).loc Cert.RefUpDxIdeal.main_arg2))
      ∧ r.2.sem = fun _ => 0)

def quiescent_DnDw [hDnDw : Cert.DnDw.Facts] : Prop :=
  ∀ (m : (ℓ : Loc Cert.DnDw.nD Cert.DnDw.τ Cert.DnDw.sig) → Buf (Elt Bits) ℓ) (g : Dev Cert.DnDw.nD → PrngReg), Pre_DnDw m →
    θ_run (Cert.DnDw.defs (F := Bits)) (onTc (τ := Cert.DnDw.τ) (Cert.DnDw.main (F := Bits))) ⟨m, fun _ => 0, g⟩ (fun r => (∀ c : Dev Cert.DnDw.nD,
      r.2.mem ((c.tc : Thread Cert.DnDw.nD Cert.DnDw.τ).loc Cert.DnDw.main_arg0) = m ((c.tc : Thread Cert.DnDw.nD Cert.DnDw.τ).loc Cert.DnDw.main_arg0)
      ∧ r.2.mem ((c.tc : Thread Cert.DnDw.nD Cert.DnDw.τ).loc Cert.DnDw.main_arg1) = m ((c.tc : Thread Cert.DnDw.nD Cert.DnDw.τ).loc Cert.DnDw.main_arg1))
      ∧ r.2.sem = fun _ => 0)

def quiescent_DnDwIdeal [hDnDwIdeal : Cert.DnDwIdeal.Facts] : Prop :=
  ∀ (m : (ℓ : Loc Cert.DnDwIdeal.nD Cert.DnDwIdeal.τ Cert.DnDwIdeal.sig) → Buf (Elt Ideal) ℓ) (g : Dev Cert.DnDwIdeal.nD → PrngReg), Pre_DnDwIdeal m →
    θ_run (Cert.DnDwIdeal.defs (F := Ideal)) (onTc (τ := Cert.DnDwIdeal.τ) (Cert.DnDwIdeal.main (F := Ideal))) ⟨m, fun _ => 0, g⟩ (fun r => (∀ c : Dev Cert.DnDwIdeal.nD,
      r.2.mem ((c.tc : Thread Cert.DnDwIdeal.nD Cert.DnDwIdeal.τ).loc Cert.DnDwIdeal.main_arg0) = m ((c.tc : Thread Cert.DnDwIdeal.nD Cert.DnDwIdeal.τ).loc Cert.DnDwIdeal.main_arg0)
      ∧ r.2.mem ((c.tc : Thread Cert.DnDwIdeal.nD Cert.DnDwIdeal.τ).loc Cert.DnDwIdeal.main_arg1) = m ((c.tc : Thread Cert.DnDwIdeal.nD Cert.DnDwIdeal.τ).loc Cert.DnDwIdeal.main_arg1))
      ∧ r.2.sem = fun _ => 0)

def quiescent_RefDnDwIdeal [hRefDnDwIdeal : Cert.RefDnDwIdeal.Facts] : Prop :=
  ∀ (m : (ℓ : Loc Cert.RefDnDwIdeal.nD Cert.RefDnDwIdeal.τ Cert.RefDnDwIdeal.sig) → Buf (Elt Ideal) ℓ) (g : Dev Cert.RefDnDwIdeal.nD → PrngReg), Pre_RefDnDwIdeal m →
    θ_run (Cert.RefDnDwIdeal.defs (F := Ideal)) (onTc (τ := Cert.RefDnDwIdeal.τ) (Cert.RefDnDwIdeal.main (F := Ideal))) ⟨m, fun _ => 0, g⟩ (fun r => (∀ c : Dev Cert.RefDnDwIdeal.nD,
      r.2.mem ((c.tc : Thread Cert.RefDnDwIdeal.nD Cert.RefDnDwIdeal.τ).loc Cert.RefDnDwIdeal.main_arg0) = m ((c.tc : Thread Cert.RefDnDwIdeal.nD Cert.RefDnDwIdeal.τ).loc Cert.RefDnDwIdeal.main_arg0)
      ∧ r.2.mem ((c.tc : Thread Cert.RefDnDwIdeal.nD Cert.RefDnDwIdeal.τ).loc Cert.RefDnDwIdeal.main_arg1) = m ((c.tc : Thread Cert.RefDnDwIdeal.nD Cert.RefDnDwIdeal.τ).loc Cert.RefDnDwIdeal.main_arg1))
      ∧ r.2.sem = fun _ => 0)

def quiescent_DnDx [hDnDx : Cert.DnDx.Facts] : Prop :=
  ∀ (m : (ℓ : Loc Cert.DnDx.nD Cert.DnDx.τ Cert.DnDx.sig) → Buf (Elt Bits) ℓ) (g : Dev Cert.DnDx.nD → PrngReg), Pre_DnDx m →
    θ_run (Cert.DnDx.defs (F := Bits)) (onTc (τ := Cert.DnDx.τ) (Cert.DnDx.main (F := Bits))) ⟨m, fun _ => 0, g⟩ (fun r => (∀ c : Dev Cert.DnDx.nD,
      r.2.mem ((c.tc : Thread Cert.DnDx.nD Cert.DnDx.τ).loc Cert.DnDx.main_arg0) = m ((c.tc : Thread Cert.DnDx.nD Cert.DnDx.τ).loc Cert.DnDx.main_arg0)
      ∧ r.2.mem ((c.tc : Thread Cert.DnDx.nD Cert.DnDx.τ).loc Cert.DnDx.main_arg1) = m ((c.tc : Thread Cert.DnDx.nD Cert.DnDx.τ).loc Cert.DnDx.main_arg1))
      ∧ r.2.sem = fun _ => 0)

def quiescent_DnDxIdeal [hDnDxIdeal : Cert.DnDxIdeal.Facts] : Prop :=
  ∀ (m : (ℓ : Loc Cert.DnDxIdeal.nD Cert.DnDxIdeal.τ Cert.DnDxIdeal.sig) → Buf (Elt Ideal) ℓ) (g : Dev Cert.DnDxIdeal.nD → PrngReg), Pre_DnDxIdeal m →
    θ_run (Cert.DnDxIdeal.defs (F := Ideal)) (onTc (τ := Cert.DnDxIdeal.τ) (Cert.DnDxIdeal.main (F := Ideal))) ⟨m, fun _ => 0, g⟩ (fun r => (∀ c : Dev Cert.DnDxIdeal.nD,
      r.2.mem ((c.tc : Thread Cert.DnDxIdeal.nD Cert.DnDxIdeal.τ).loc Cert.DnDxIdeal.main_arg0) = m ((c.tc : Thread Cert.DnDxIdeal.nD Cert.DnDxIdeal.τ).loc Cert.DnDxIdeal.main_arg0)
      ∧ r.2.mem ((c.tc : Thread Cert.DnDxIdeal.nD Cert.DnDxIdeal.τ).loc Cert.DnDxIdeal.main_arg1) = m ((c.tc : Thread Cert.DnDxIdeal.nD Cert.DnDxIdeal.τ).loc Cert.DnDxIdeal.main_arg1))
      ∧ r.2.sem = fun _ => 0)

def quiescent_RefDnDxIdeal [hRefDnDxIdeal : Cert.RefDnDxIdeal.Facts] : Prop :=
  ∀ (m : (ℓ : Loc Cert.RefDnDxIdeal.nD Cert.RefDnDxIdeal.τ Cert.RefDnDxIdeal.sig) → Buf (Elt Ideal) ℓ) (g : Dev Cert.RefDnDxIdeal.nD → PrngReg), Pre_RefDnDxIdeal m →
    θ_run (Cert.RefDnDxIdeal.defs (F := Ideal)) (onTc (τ := Cert.RefDnDxIdeal.τ) (Cert.RefDnDxIdeal.main (F := Ideal))) ⟨m, fun _ => 0, g⟩ (fun r => (∀ c : Dev Cert.RefDnDxIdeal.nD,
      r.2.mem ((c.tc : Thread Cert.RefDnDxIdeal.nD Cert.RefDnDxIdeal.τ).loc Cert.RefDnDxIdeal.main_arg0) = m ((c.tc : Thread Cert.RefDnDxIdeal.nD Cert.RefDnDxIdeal.τ).loc Cert.RefDnDxIdeal.main_arg0)
      ∧ r.2.mem ((c.tc : Thread Cert.RefDnDxIdeal.nD Cert.RefDnDxIdeal.τ).loc Cert.RefDnDxIdeal.main_arg1) = m ((c.tc : Thread Cert.RefDnDxIdeal.nD Cert.RefDnDxIdeal.τ).loc Cert.RefDnDxIdeal.main_arg1))
      ∧ r.2.sem = fun _ => 0)

def quiescent_ODw [hODw : Cert.ODw.Facts] : Prop :=
  ∀ (m : (ℓ : Loc Cert.ODw.nD Cert.ODw.τ Cert.ODw.sig) → Buf (Elt Bits) ℓ) (g : Dev Cert.ODw.nD → PrngReg), Pre_ODw m →
    θ_run (Cert.ODw.defs (F := Bits)) (onTc (τ := Cert.ODw.τ) (Cert.ODw.main (F := Bits))) ⟨m, fun _ => 0, g⟩ (fun r => (∀ c : Dev Cert.ODw.nD,
      r.2.mem ((c.tc : Thread Cert.ODw.nD Cert.ODw.τ).loc Cert.ODw.main_arg0) = m ((c.tc : Thread Cert.ODw.nD Cert.ODw.τ).loc Cert.ODw.main_arg0)
      ∧ r.2.mem ((c.tc : Thread Cert.ODw.nD Cert.ODw.τ).loc Cert.ODw.main_arg1) = m ((c.tc : Thread Cert.ODw.nD Cert.ODw.τ).loc Cert.ODw.main_arg1))
      ∧ r.2.sem = fun _ => 0)

def quiescent_ODwIdeal [hODwIdeal : Cert.ODwIdeal.Facts] : Prop :=
  ∀ (m : (ℓ : Loc Cert.ODwIdeal.nD Cert.ODwIdeal.τ Cert.ODwIdeal.sig) → Buf (Elt Ideal) ℓ) (g : Dev Cert.ODwIdeal.nD → PrngReg), Pre_ODwIdeal m →
    θ_run (Cert.ODwIdeal.defs (F := Ideal)) (onTc (τ := Cert.ODwIdeal.τ) (Cert.ODwIdeal.main (F := Ideal))) ⟨m, fun _ => 0, g⟩ (fun r => (∀ c : Dev Cert.ODwIdeal.nD,
      r.2.mem ((c.tc : Thread Cert.ODwIdeal.nD Cert.ODwIdeal.τ).loc Cert.ODwIdeal.main_arg0) = m ((c.tc : Thread Cert.ODwIdeal.nD Cert.ODwIdeal.τ).loc Cert.ODwIdeal.main_arg0)
      ∧ r.2.mem ((c.tc : Thread Cert.ODwIdeal.nD Cert.ODwIdeal.τ).loc Cert.ODwIdeal.main_arg1) = m ((c.tc : Thread Cert.ODwIdeal.nD Cert.ODwIdeal.τ).loc Cert.ODwIdeal.main_arg1))
      ∧ r.2.sem = fun _ => 0)

def quiescent_RefODwIdeal [hRefODwIdeal : Cert.RefODwIdeal.Facts] : Prop :=
  ∀ (m : (ℓ : Loc Cert.RefODwIdeal.nD Cert.RefODwIdeal.τ Cert.RefODwIdeal.sig) → Buf (Elt Ideal) ℓ) (g : Dev Cert.RefODwIdeal.nD → PrngReg), Pre_RefODwIdeal m →
    θ_run (Cert.RefODwIdeal.defs (F := Ideal)) (onTc (τ := Cert.RefODwIdeal.τ) (Cert.RefODwIdeal.main (F := Ideal))) ⟨m, fun _ => 0, g⟩ (fun r => (∀ c : Dev Cert.RefODwIdeal.nD,
      r.2.mem ((c.tc : Thread Cert.RefODwIdeal.nD Cert.RefODwIdeal.τ).loc Cert.RefODwIdeal.main_arg0) = m ((c.tc : Thread Cert.RefODwIdeal.nD Cert.RefODwIdeal.τ).loc Cert.RefODwIdeal.main_arg0)
      ∧ r.2.mem ((c.tc : Thread Cert.RefODwIdeal.nD Cert.RefODwIdeal.τ).loc Cert.RefODwIdeal.main_arg1) = m ((c.tc : Thread Cert.RefODwIdeal.nD Cert.RefODwIdeal.τ).loc Cert.RefODwIdeal.main_arg1))
      ∧ r.2.sem = fun _ => 0)

def quiescent_ODx [hODx : Cert.ODx.Facts] : Prop :=
  ∀ (m : (ℓ : Loc Cert.ODx.nD Cert.ODx.τ Cert.ODx.sig) → Buf (Elt Bits) ℓ) (g : Dev Cert.ODx.nD → PrngReg), Pre_ODx m →
    θ_run (Cert.ODx.defs (F := Bits)) (onTc (τ := Cert.ODx.τ) (Cert.ODx.main (F := Bits))) ⟨m, fun _ => 0, g⟩ (fun r => (∀ c : Dev Cert.ODx.nD,
      r.2.mem ((c.tc : Thread Cert.ODx.nD Cert.ODx.τ).loc Cert.ODx.main_arg0) = m ((c.tc : Thread Cert.ODx.nD Cert.ODx.τ).loc Cert.ODx.main_arg0)
      ∧ r.2.mem ((c.tc : Thread Cert.ODx.nD Cert.ODx.τ).loc Cert.ODx.main_arg1) = m ((c.tc : Thread Cert.ODx.nD Cert.ODx.τ).loc Cert.ODx.main_arg1))
      ∧ r.2.sem = fun _ => 0)

def quiescent_ODxIdeal [hODxIdeal : Cert.ODxIdeal.Facts] : Prop :=
  ∀ (m : (ℓ : Loc Cert.ODxIdeal.nD Cert.ODxIdeal.τ Cert.ODxIdeal.sig) → Buf (Elt Ideal) ℓ) (g : Dev Cert.ODxIdeal.nD → PrngReg), Pre_ODxIdeal m →
    θ_run (Cert.ODxIdeal.defs (F := Ideal)) (onTc (τ := Cert.ODxIdeal.τ) (Cert.ODxIdeal.main (F := Ideal))) ⟨m, fun _ => 0, g⟩ (fun r => (∀ c : Dev Cert.ODxIdeal.nD,
      r.2.mem ((c.tc : Thread Cert.ODxIdeal.nD Cert.ODxIdeal.τ).loc Cert.ODxIdeal.main_arg0) = m ((c.tc : Thread Cert.ODxIdeal.nD Cert.ODxIdeal.τ).loc Cert.ODxIdeal.main_arg0)
      ∧ r.2.mem ((c.tc : Thread Cert.ODxIdeal.nD Cert.ODxIdeal.τ).loc Cert.ODxIdeal.main_arg1) = m ((c.tc : Thread Cert.ODxIdeal.nD Cert.ODxIdeal.τ).loc Cert.ODxIdeal.main_arg1))
      ∧ r.2.sem = fun _ => 0)

def quiescent_RefODxIdeal [hRefODxIdeal : Cert.RefODxIdeal.Facts] : Prop :=
  ∀ (m : (ℓ : Loc Cert.RefODxIdeal.nD Cert.RefODxIdeal.τ Cert.RefODxIdeal.sig) → Buf (Elt Ideal) ℓ) (g : Dev Cert.RefODxIdeal.nD → PrngReg), Pre_RefODxIdeal m →
    θ_run (Cert.RefODxIdeal.defs (F := Ideal)) (onTc (τ := Cert.RefODxIdeal.τ) (Cert.RefODxIdeal.main (F := Ideal))) ⟨m, fun _ => 0, g⟩ (fun r => (∀ c : Dev Cert.RefODxIdeal.nD,
      r.2.mem ((c.tc : Thread Cert.RefODxIdeal.nD Cert.RefODxIdeal.τ).loc Cert.RefODxIdeal.main_arg0) = m ((c.tc : Thread Cert.RefODxIdeal.nD Cert.RefODxIdeal.τ).loc Cert.RefODxIdeal.main_arg0)
      ∧ r.2.mem ((c.tc : Thread Cert.RefODxIdeal.nD Cert.RefODxIdeal.τ).loc Cert.RefODxIdeal.main_arg1) = m ((c.tc : Thread Cert.RefODxIdeal.nD Cert.RefODxIdeal.τ).loc Cert.RefODxIdeal.main_arg1))
      ∧ r.2.sem = fun _ => 0)

def quiescent_OgDw [hOgDw : Cert.OgDw.Facts] : Prop :=
  ∀ (m : (ℓ : Loc Cert.OgDw.nD Cert.OgDw.τ Cert.OgDw.sig) → Buf (Elt Bits) ℓ) (g : Dev Cert.OgDw.nD → PrngReg), Pre_OgDw m →
    θ_run (Cert.OgDw.defs (F := Bits)) (onTc (τ := Cert.OgDw.τ) (Cert.OgDw.main (F := Bits))) ⟨m, fun _ => 0, g⟩ (fun r => (∀ c : Dev Cert.OgDw.nD,
      r.2.mem ((c.tc : Thread Cert.OgDw.nD Cert.OgDw.τ).loc Cert.OgDw.main_arg0) = m ((c.tc : Thread Cert.OgDw.nD Cert.OgDw.τ).loc Cert.OgDw.main_arg0)
      ∧ r.2.mem ((c.tc : Thread Cert.OgDw.nD Cert.OgDw.τ).loc Cert.OgDw.main_arg1) = m ((c.tc : Thread Cert.OgDw.nD Cert.OgDw.τ).loc Cert.OgDw.main_arg1))
      ∧ r.2.sem = fun _ => 0)

def quiescent_OgDwIdeal [hOgDwIdeal : Cert.OgDwIdeal.Facts] : Prop :=
  ∀ (m : (ℓ : Loc Cert.OgDwIdeal.nD Cert.OgDwIdeal.τ Cert.OgDwIdeal.sig) → Buf (Elt Ideal) ℓ) (g : Dev Cert.OgDwIdeal.nD → PrngReg), Pre_OgDwIdeal m →
    θ_run (Cert.OgDwIdeal.defs (F := Ideal)) (onTc (τ := Cert.OgDwIdeal.τ) (Cert.OgDwIdeal.main (F := Ideal))) ⟨m, fun _ => 0, g⟩ (fun r => (∀ c : Dev Cert.OgDwIdeal.nD,
      r.2.mem ((c.tc : Thread Cert.OgDwIdeal.nD Cert.OgDwIdeal.τ).loc Cert.OgDwIdeal.main_arg0) = m ((c.tc : Thread Cert.OgDwIdeal.nD Cert.OgDwIdeal.τ).loc Cert.OgDwIdeal.main_arg0)
      ∧ r.2.mem ((c.tc : Thread Cert.OgDwIdeal.nD Cert.OgDwIdeal.τ).loc Cert.OgDwIdeal.main_arg1) = m ((c.tc : Thread Cert.OgDwIdeal.nD Cert.OgDwIdeal.τ).loc Cert.OgDwIdeal.main_arg1))
      ∧ r.2.sem = fun _ => 0)

def quiescent_RefOgDwIdeal [hRefOgDwIdeal : Cert.RefOgDwIdeal.Facts] : Prop :=
  ∀ (m : (ℓ : Loc Cert.RefOgDwIdeal.nD Cert.RefOgDwIdeal.τ Cert.RefOgDwIdeal.sig) → Buf (Elt Ideal) ℓ) (g : Dev Cert.RefOgDwIdeal.nD → PrngReg), Pre_RefOgDwIdeal m →
    θ_run (Cert.RefOgDwIdeal.defs (F := Ideal)) (onTc (τ := Cert.RefOgDwIdeal.τ) (Cert.RefOgDwIdeal.main (F := Ideal))) ⟨m, fun _ => 0, g⟩ (fun r => (∀ c : Dev Cert.RefOgDwIdeal.nD,
      r.2.mem ((c.tc : Thread Cert.RefOgDwIdeal.nD Cert.RefOgDwIdeal.τ).loc Cert.RefOgDwIdeal.main_arg0) = m ((c.tc : Thread Cert.RefOgDwIdeal.nD Cert.RefOgDwIdeal.τ).loc Cert.RefOgDwIdeal.main_arg0)
      ∧ r.2.mem ((c.tc : Thread Cert.RefOgDwIdeal.nD Cert.RefOgDwIdeal.τ).loc Cert.RefOgDwIdeal.main_arg1) = m ((c.tc : Thread Cert.RefOgDwIdeal.nD Cert.RefOgDwIdeal.τ).loc Cert.RefOgDwIdeal.main_arg1))
      ∧ r.2.sem = fun _ => 0)

def quiescent_OgDx [hOgDx : Cert.OgDx.Facts] : Prop :=
  ∀ (m : (ℓ : Loc Cert.OgDx.nD Cert.OgDx.τ Cert.OgDx.sig) → Buf (Elt Bits) ℓ) (g : Dev Cert.OgDx.nD → PrngReg), Pre_OgDx m →
    θ_run (Cert.OgDx.defs (F := Bits)) (onTc (τ := Cert.OgDx.τ) (Cert.OgDx.main (F := Bits))) ⟨m, fun _ => 0, g⟩ (fun r => (∀ c : Dev Cert.OgDx.nD,
      r.2.mem ((c.tc : Thread Cert.OgDx.nD Cert.OgDx.τ).loc Cert.OgDx.main_arg0) = m ((c.tc : Thread Cert.OgDx.nD Cert.OgDx.τ).loc Cert.OgDx.main_arg0)
      ∧ r.2.mem ((c.tc : Thread Cert.OgDx.nD Cert.OgDx.τ).loc Cert.OgDx.main_arg1) = m ((c.tc : Thread Cert.OgDx.nD Cert.OgDx.τ).loc Cert.OgDx.main_arg1))
      ∧ r.2.sem = fun _ => 0)

def quiescent_OgDxIdeal [hOgDxIdeal : Cert.OgDxIdeal.Facts] : Prop :=
  ∀ (m : (ℓ : Loc Cert.OgDxIdeal.nD Cert.OgDxIdeal.τ Cert.OgDxIdeal.sig) → Buf (Elt Ideal) ℓ) (g : Dev Cert.OgDxIdeal.nD → PrngReg), Pre_OgDxIdeal m →
    θ_run (Cert.OgDxIdeal.defs (F := Ideal)) (onTc (τ := Cert.OgDxIdeal.τ) (Cert.OgDxIdeal.main (F := Ideal))) ⟨m, fun _ => 0, g⟩ (fun r => (∀ c : Dev Cert.OgDxIdeal.nD,
      r.2.mem ((c.tc : Thread Cert.OgDxIdeal.nD Cert.OgDxIdeal.τ).loc Cert.OgDxIdeal.main_arg0) = m ((c.tc : Thread Cert.OgDxIdeal.nD Cert.OgDxIdeal.τ).loc Cert.OgDxIdeal.main_arg0)
      ∧ r.2.mem ((c.tc : Thread Cert.OgDxIdeal.nD Cert.OgDxIdeal.τ).loc Cert.OgDxIdeal.main_arg1) = m ((c.tc : Thread Cert.OgDxIdeal.nD Cert.OgDxIdeal.τ).loc Cert.OgDxIdeal.main_arg1))
      ∧ r.2.sem = fun _ => 0)

def quiescent_RefOgDxIdeal [hRefOgDxIdeal : Cert.RefOgDxIdeal.Facts] : Prop :=
  ∀ (m : (ℓ : Loc Cert.RefOgDxIdeal.nD Cert.RefOgDxIdeal.τ Cert.RefOgDxIdeal.sig) → Buf (Elt Ideal) ℓ) (g : Dev Cert.RefOgDxIdeal.nD → PrngReg), Pre_RefOgDxIdeal m →
    θ_run (Cert.RefOgDxIdeal.defs (F := Ideal)) (onTc (τ := Cert.RefOgDxIdeal.τ) (Cert.RefOgDxIdeal.main (F := Ideal))) ⟨m, fun _ => 0, g⟩ (fun r => (∀ c : Dev Cert.RefOgDxIdeal.nD,
      r.2.mem ((c.tc : Thread Cert.RefOgDxIdeal.nD Cert.RefOgDxIdeal.τ).loc Cert.RefOgDxIdeal.main_arg0) = m ((c.tc : Thread Cert.RefOgDxIdeal.nD Cert.RefOgDxIdeal.τ).loc Cert.RefOgDxIdeal.main_arg0)
      ∧ r.2.mem ((c.tc : Thread Cert.RefOgDxIdeal.nD Cert.RefOgDxIdeal.τ).loc Cert.RefOgDxIdeal.main_arg1) = m ((c.tc : Thread Cert.RefOgDxIdeal.nD Cert.RefOgDxIdeal.τ).loc Cert.RefOgDxIdeal.main_arg1))
      ∧ r.2.sem = fun _ => 0)

def quiescent_InFw [hInFw : Cert.InFw.Facts] : Prop :=
  ∀ (m : (ℓ : Loc Cert.InFw.nD Cert.InFw.τ Cert.InFw.sig) → Buf (Elt Bits) ℓ) (g : Dev Cert.InFw.nD → PrngReg), Pre_InFw m →
    θ_run (Cert.InFw.defs (F := Bits)) (onTc (τ := Cert.InFw.τ) (Cert.InFw.main (F := Bits))) ⟨m, fun _ => 0, g⟩ (fun r => (∀ c : Dev Cert.InFw.nD,
      r.2.mem ((c.tc : Thread Cert.InFw.nD Cert.InFw.τ).loc Cert.InFw.main_arg0) = m ((c.tc : Thread Cert.InFw.nD Cert.InFw.τ).loc Cert.InFw.main_arg0)
      ∧ r.2.mem ((c.tc : Thread Cert.InFw.nD Cert.InFw.τ).loc Cert.InFw.main_arg1) = m ((c.tc : Thread Cert.InFw.nD Cert.InFw.τ).loc Cert.InFw.main_arg1))
      ∧ r.2.sem = fun _ => 0)

def quiescent_InFwIdeal [hInFwIdeal : Cert.InFwIdeal.Facts] : Prop :=
  ∀ (m : (ℓ : Loc Cert.InFwIdeal.nD Cert.InFwIdeal.τ Cert.InFwIdeal.sig) → Buf (Elt Ideal) ℓ) (g : Dev Cert.InFwIdeal.nD → PrngReg), Pre_InFwIdeal m →
    θ_run (Cert.InFwIdeal.defs (F := Ideal)) (onTc (τ := Cert.InFwIdeal.τ) (Cert.InFwIdeal.main (F := Ideal))) ⟨m, fun _ => 0, g⟩ (fun r => (∀ c : Dev Cert.InFwIdeal.nD,
      r.2.mem ((c.tc : Thread Cert.InFwIdeal.nD Cert.InFwIdeal.τ).loc Cert.InFwIdeal.main_arg0) = m ((c.tc : Thread Cert.InFwIdeal.nD Cert.InFwIdeal.τ).loc Cert.InFwIdeal.main_arg0)
      ∧ r.2.mem ((c.tc : Thread Cert.InFwIdeal.nD Cert.InFwIdeal.τ).loc Cert.InFwIdeal.main_arg1) = m ((c.tc : Thread Cert.InFwIdeal.nD Cert.InFwIdeal.τ).loc Cert.InFwIdeal.main_arg1))
      ∧ r.2.sem = fun _ => 0)

def quiescent_RefInFwIdeal [hRefInFwIdeal : Cert.RefInFwIdeal.Facts] : Prop :=
  ∀ (m : (ℓ : Loc Cert.RefInFwIdeal.nD Cert.RefInFwIdeal.τ Cert.RefInFwIdeal.sig) → Buf (Elt Ideal) ℓ) (g : Dev Cert.RefInFwIdeal.nD → PrngReg), Pre_RefInFwIdeal m →
    θ_run (Cert.RefInFwIdeal.defs (F := Ideal)) (onTc (τ := Cert.RefInFwIdeal.τ) (Cert.RefInFwIdeal.main (F := Ideal))) ⟨m, fun _ => 0, g⟩ (fun r => (∀ c : Dev Cert.RefInFwIdeal.nD,
      r.2.mem ((c.tc : Thread Cert.RefInFwIdeal.nD Cert.RefInFwIdeal.τ).loc Cert.RefInFwIdeal.main_arg0) = m ((c.tc : Thread Cert.RefInFwIdeal.nD Cert.RefInFwIdeal.τ).loc Cert.RefInFwIdeal.main_arg0)
      ∧ r.2.mem ((c.tc : Thread Cert.RefInFwIdeal.nD Cert.RefInFwIdeal.τ).loc Cert.RefInFwIdeal.main_arg1) = m ((c.tc : Thread Cert.RefInFwIdeal.nD Cert.RefInFwIdeal.τ).loc Cert.RefInFwIdeal.main_arg1))
      ∧ r.2.sem = fun _ => 0)

def quiescent_OgFw [hOgFw : Cert.OgFw.Facts] : Prop :=
  ∀ (m : (ℓ : Loc Cert.OgFw.nD Cert.OgFw.τ Cert.OgFw.sig) → Buf (Elt Bits) ℓ) (g : Dev Cert.OgFw.nD → PrngReg), Pre_OgFw m →
    θ_run (Cert.OgFw.defs (F := Bits)) (onTc (τ := Cert.OgFw.τ) (Cert.OgFw.main (F := Bits))) ⟨m, fun _ => 0, g⟩ (fun r => (∀ c : Dev Cert.OgFw.nD,
      r.2.mem ((c.tc : Thread Cert.OgFw.nD Cert.OgFw.τ).loc Cert.OgFw.main_arg0) = m ((c.tc : Thread Cert.OgFw.nD Cert.OgFw.τ).loc Cert.OgFw.main_arg0)
      ∧ r.2.mem ((c.tc : Thread Cert.OgFw.nD Cert.OgFw.τ).loc Cert.OgFw.main_arg1) = m ((c.tc : Thread Cert.OgFw.nD Cert.OgFw.τ).loc Cert.OgFw.main_arg1))
      ∧ r.2.sem = fun _ => 0)

def quiescent_OgFwIdeal [hOgFwIdeal : Cert.OgFwIdeal.Facts] : Prop :=
  ∀ (m : (ℓ : Loc Cert.OgFwIdeal.nD Cert.OgFwIdeal.τ Cert.OgFwIdeal.sig) → Buf (Elt Ideal) ℓ) (g : Dev Cert.OgFwIdeal.nD → PrngReg), Pre_OgFwIdeal m →
    θ_run (Cert.OgFwIdeal.defs (F := Ideal)) (onTc (τ := Cert.OgFwIdeal.τ) (Cert.OgFwIdeal.main (F := Ideal))) ⟨m, fun _ => 0, g⟩ (fun r => (∀ c : Dev Cert.OgFwIdeal.nD,
      r.2.mem ((c.tc : Thread Cert.OgFwIdeal.nD Cert.OgFwIdeal.τ).loc Cert.OgFwIdeal.main_arg0) = m ((c.tc : Thread Cert.OgFwIdeal.nD Cert.OgFwIdeal.τ).loc Cert.OgFwIdeal.main_arg0)
      ∧ r.2.mem ((c.tc : Thread Cert.OgFwIdeal.nD Cert.OgFwIdeal.τ).loc Cert.OgFwIdeal.main_arg1) = m ((c.tc : Thread Cert.OgFwIdeal.nD Cert.OgFwIdeal.τ).loc Cert.OgFwIdeal.main_arg1))
      ∧ r.2.sem = fun _ => 0)

def quiescent_RefOgFwIdeal [hRefOgFwIdeal : Cert.RefOgFwIdeal.Facts] : Prop :=
  ∀ (m : (ℓ : Loc Cert.RefOgFwIdeal.nD Cert.RefOgFwIdeal.τ Cert.RefOgFwIdeal.sig) → Buf (Elt Ideal) ℓ) (g : Dev Cert.RefOgFwIdeal.nD → PrngReg), Pre_RefOgFwIdeal m →
    θ_run (Cert.RefOgFwIdeal.defs (F := Ideal)) (onTc (τ := Cert.RefOgFwIdeal.τ) (Cert.RefOgFwIdeal.main (F := Ideal))) ⟨m, fun _ => 0, g⟩ (fun r => (∀ c : Dev Cert.RefOgFwIdeal.nD,
      r.2.mem ((c.tc : Thread Cert.RefOgFwIdeal.nD Cert.RefOgFwIdeal.τ).loc Cert.RefOgFwIdeal.main_arg0) = m ((c.tc : Thread Cert.RefOgFwIdeal.nD Cert.RefOgFwIdeal.τ).loc Cert.RefOgFwIdeal.main_arg0)
      ∧ r.2.mem ((c.tc : Thread Cert.RefOgFwIdeal.nD Cert.RefOgFwIdeal.τ).loc Cert.RefOgFwIdeal.main_arg1) = m ((c.tc : Thread Cert.RefOgFwIdeal.nD Cert.RefOgFwIdeal.τ).loc Cert.RefOgFwIdeal.main_arg1))
      ∧ r.2.sem = fun _ => 0)

def quiescent_OFw [hOFw : Cert.OFw.Facts] : Prop :=
  ∀ (m : (ℓ : Loc Cert.OFw.nD Cert.OFw.τ Cert.OFw.sig) → Buf (Elt Bits) ℓ) (g : Dev Cert.OFw.nD → PrngReg), Pre_OFw m →
    θ_run (Cert.OFw.defs (F := Bits)) (onTc (τ := Cert.OFw.τ) (Cert.OFw.main (F := Bits))) ⟨m, fun _ => 0, g⟩ (fun r => (∀ c : Dev Cert.OFw.nD,
      r.2.mem ((c.tc : Thread Cert.OFw.nD Cert.OFw.τ).loc Cert.OFw.main_arg0) = m ((c.tc : Thread Cert.OFw.nD Cert.OFw.τ).loc Cert.OFw.main_arg0)
      ∧ r.2.mem ((c.tc : Thread Cert.OFw.nD Cert.OFw.τ).loc Cert.OFw.main_arg1) = m ((c.tc : Thread Cert.OFw.nD Cert.OFw.τ).loc Cert.OFw.main_arg1))
      ∧ r.2.sem = fun _ => 0)

def quiescent_OFwIdeal [hOFwIdeal : Cert.OFwIdeal.Facts] : Prop :=
  ∀ (m : (ℓ : Loc Cert.OFwIdeal.nD Cert.OFwIdeal.τ Cert.OFwIdeal.sig) → Buf (Elt Ideal) ℓ) (g : Dev Cert.OFwIdeal.nD → PrngReg), Pre_OFwIdeal m →
    θ_run (Cert.OFwIdeal.defs (F := Ideal)) (onTc (τ := Cert.OFwIdeal.τ) (Cert.OFwIdeal.main (F := Ideal))) ⟨m, fun _ => 0, g⟩ (fun r => (∀ c : Dev Cert.OFwIdeal.nD,
      r.2.mem ((c.tc : Thread Cert.OFwIdeal.nD Cert.OFwIdeal.τ).loc Cert.OFwIdeal.main_arg0) = m ((c.tc : Thread Cert.OFwIdeal.nD Cert.OFwIdeal.τ).loc Cert.OFwIdeal.main_arg0)
      ∧ r.2.mem ((c.tc : Thread Cert.OFwIdeal.nD Cert.OFwIdeal.τ).loc Cert.OFwIdeal.main_arg1) = m ((c.tc : Thread Cert.OFwIdeal.nD Cert.OFwIdeal.τ).loc Cert.OFwIdeal.main_arg1))
      ∧ r.2.sem = fun _ => 0)

def quiescent_RefOFwIdeal [hRefOFwIdeal : Cert.RefOFwIdeal.Facts] : Prop :=
  ∀ (m : (ℓ : Loc Cert.RefOFwIdeal.nD Cert.RefOFwIdeal.τ Cert.RefOFwIdeal.sig) → Buf (Elt Ideal) ℓ) (g : Dev Cert.RefOFwIdeal.nD → PrngReg), Pre_RefOFwIdeal m →
    θ_run (Cert.RefOFwIdeal.defs (F := Ideal)) (onTc (τ := Cert.RefOFwIdeal.τ) (Cert.RefOFwIdeal.main (F := Ideal))) ⟨m, fun _ => 0, g⟩ (fun r => (∀ c : Dev Cert.RefOFwIdeal.nD,
      r.2.mem ((c.tc : Thread Cert.RefOFwIdeal.nD Cert.RefOFwIdeal.τ).loc Cert.RefOFwIdeal.main_arg0) = m ((c.tc : Thread Cert.RefOFwIdeal.nD Cert.RefOFwIdeal.τ).loc Cert.RefOFwIdeal.main_arg0)
      ∧ r.2.mem ((c.tc : Thread Cert.RefOFwIdeal.nD Cert.RefOFwIdeal.τ).loc Cert.RefOFwIdeal.main_arg1) = m ((c.tc : Thread Cert.RefOFwIdeal.nD Cert.RefOFwIdeal.τ).loc Cert.RefOFwIdeal.main_arg1))
      ∧ r.2.sem = fun _ => 0)

def quiescent_UpFw [hUpFw : Cert.UpFw.Facts] : Prop :=
  ∀ (m : (ℓ : Loc Cert.UpFw.nD Cert.UpFw.τ Cert.UpFw.sig) → Buf (Elt Bits) ℓ) (g : Dev Cert.UpFw.nD → PrngReg), Pre_UpFw m →
    θ_run (Cert.UpFw.defs (F := Bits)) (onTc (τ := Cert.UpFw.τ) (Cert.UpFw.main (F := Bits))) ⟨m, fun _ => 0, g⟩ (fun r => (∀ c : Dev Cert.UpFw.nD,
      r.2.mem ((c.tc : Thread Cert.UpFw.nD Cert.UpFw.τ).loc Cert.UpFw.main_arg0) = m ((c.tc : Thread Cert.UpFw.nD Cert.UpFw.τ).loc Cert.UpFw.main_arg0)
      ∧ r.2.mem ((c.tc : Thread Cert.UpFw.nD Cert.UpFw.τ).loc Cert.UpFw.main_arg1) = m ((c.tc : Thread Cert.UpFw.nD Cert.UpFw.τ).loc Cert.UpFw.main_arg1))
      ∧ r.2.sem = fun _ => 0)

def quiescent_UpFwIdeal [hUpFwIdeal : Cert.UpFwIdeal.Facts] : Prop :=
  ∀ (m : (ℓ : Loc Cert.UpFwIdeal.nD Cert.UpFwIdeal.τ Cert.UpFwIdeal.sig) → Buf (Elt Ideal) ℓ) (g : Dev Cert.UpFwIdeal.nD → PrngReg), Pre_UpFwIdeal m →
    θ_run (Cert.UpFwIdeal.defs (F := Ideal)) (onTc (τ := Cert.UpFwIdeal.τ) (Cert.UpFwIdeal.main (F := Ideal))) ⟨m, fun _ => 0, g⟩ (fun r => (∀ c : Dev Cert.UpFwIdeal.nD,
      r.2.mem ((c.tc : Thread Cert.UpFwIdeal.nD Cert.UpFwIdeal.τ).loc Cert.UpFwIdeal.main_arg0) = m ((c.tc : Thread Cert.UpFwIdeal.nD Cert.UpFwIdeal.τ).loc Cert.UpFwIdeal.main_arg0)
      ∧ r.2.mem ((c.tc : Thread Cert.UpFwIdeal.nD Cert.UpFwIdeal.τ).loc Cert.UpFwIdeal.main_arg1) = m ((c.tc : Thread Cert.UpFwIdeal.nD Cert.UpFwIdeal.τ).loc Cert.UpFwIdeal.main_arg1))
      ∧ r.2.sem = fun _ => 0)

def quiescent_RefUpFwIdeal [hRefUpFwIdeal : Cert.RefUpFwIdeal.Facts] : Prop :=
  ∀ (m : (ℓ : Loc Cert.RefUpFwIdeal.nD Cert.RefUpFwIdeal.τ Cert.RefUpFwIdeal.sig) → Buf (Elt Ideal) ℓ) (g : Dev Cert.RefUpFwIdeal.nD → PrngReg), Pre_RefUpFwIdeal m →
    θ_run (Cert.RefUpFwIdeal.defs (F := Ideal)) (onTc (τ := Cert.RefUpFwIdeal.τ) (Cert.RefUpFwIdeal.main (F := Ideal))) ⟨m, fun _ => 0, g⟩ (fun r => (∀ c : Dev Cert.RefUpFwIdeal.nD,
      r.2.mem ((c.tc : Thread Cert.RefUpFwIdeal.nD Cert.RefUpFwIdeal.τ).loc Cert.RefUpFwIdeal.main_arg0) = m ((c.tc : Thread Cert.RefUpFwIdeal.nD Cert.RefUpFwIdeal.τ).loc Cert.RefUpFwIdeal.main_arg0)
      ∧ r.2.mem ((c.tc : Thread Cert.RefUpFwIdeal.nD Cert.RefUpFwIdeal.τ).loc Cert.RefUpFwIdeal.main_arg1) = m ((c.tc : Thread Cert.RefUpFwIdeal.nD Cert.RefUpFwIdeal.τ).loc Cert.RefUpFwIdeal.main_arg1))
      ∧ r.2.sem = fun _ => 0)

def quiescent_DnFw [hDnFw : Cert.DnFw.Facts] : Prop :=
  ∀ (m : (ℓ : Loc Cert.DnFw.nD Cert.DnFw.τ Cert.DnFw.sig) → Buf (Elt Bits) ℓ) (g : Dev Cert.DnFw.nD → PrngReg), Pre_DnFw m →
    θ_run (Cert.DnFw.defs (F := Bits)) (onTc (τ := Cert.DnFw.τ) (Cert.DnFw.main (F := Bits))) ⟨m, fun _ => 0, g⟩ (fun r => (∀ c : Dev Cert.DnFw.nD,
      r.2.mem ((c.tc : Thread Cert.DnFw.nD Cert.DnFw.τ).loc Cert.DnFw.main_arg0) = m ((c.tc : Thread Cert.DnFw.nD Cert.DnFw.τ).loc Cert.DnFw.main_arg0)
      ∧ r.2.mem ((c.tc : Thread Cert.DnFw.nD Cert.DnFw.τ).loc Cert.DnFw.main_arg1) = m ((c.tc : Thread Cert.DnFw.nD Cert.DnFw.τ).loc Cert.DnFw.main_arg1))
      ∧ r.2.sem = fun _ => 0)

def quiescent_DnFwIdeal [hDnFwIdeal : Cert.DnFwIdeal.Facts] : Prop :=
  ∀ (m : (ℓ : Loc Cert.DnFwIdeal.nD Cert.DnFwIdeal.τ Cert.DnFwIdeal.sig) → Buf (Elt Ideal) ℓ) (g : Dev Cert.DnFwIdeal.nD → PrngReg), Pre_DnFwIdeal m →
    θ_run (Cert.DnFwIdeal.defs (F := Ideal)) (onTc (τ := Cert.DnFwIdeal.τ) (Cert.DnFwIdeal.main (F := Ideal))) ⟨m, fun _ => 0, g⟩ (fun r => (∀ c : Dev Cert.DnFwIdeal.nD,
      r.2.mem ((c.tc : Thread Cert.DnFwIdeal.nD Cert.DnFwIdeal.τ).loc Cert.DnFwIdeal.main_arg0) = m ((c.tc : Thread Cert.DnFwIdeal.nD Cert.DnFwIdeal.τ).loc Cert.DnFwIdeal.main_arg0)
      ∧ r.2.mem ((c.tc : Thread Cert.DnFwIdeal.nD Cert.DnFwIdeal.τ).loc Cert.DnFwIdeal.main_arg1) = m ((c.tc : Thread Cert.DnFwIdeal.nD Cert.DnFwIdeal.τ).loc Cert.DnFwIdeal.main_arg1))
      ∧ r.2.sem = fun _ => 0)

def quiescent_RefDnFwIdeal [hRefDnFwIdeal : Cert.RefDnFwIdeal.Facts] : Prop :=
  ∀ (m : (ℓ : Loc Cert.RefDnFwIdeal.nD Cert.RefDnFwIdeal.τ Cert.RefDnFwIdeal.sig) → Buf (Elt Ideal) ℓ) (g : Dev Cert.RefDnFwIdeal.nD → PrngReg), Pre_RefDnFwIdeal m →
    θ_run (Cert.RefDnFwIdeal.defs (F := Ideal)) (onTc (τ := Cert.RefDnFwIdeal.τ) (Cert.RefDnFwIdeal.main (F := Ideal))) ⟨m, fun _ => 0, g⟩ (fun r => (∀ c : Dev Cert.RefDnFwIdeal.nD,
      r.2.mem ((c.tc : Thread Cert.RefDnFwIdeal.nD Cert.RefDnFwIdeal.τ).loc Cert.RefDnFwIdeal.main_arg0) = m ((c.tc : Thread Cert.RefDnFwIdeal.nD Cert.RefDnFwIdeal.τ).loc Cert.RefDnFwIdeal.main_arg0)
      ∧ r.2.mem ((c.tc : Thread Cert.RefDnFwIdeal.nD Cert.RefDnFwIdeal.τ).loc Cert.RefDnFwIdeal.main_arg1) = m ((c.tc : Thread Cert.RefDnFwIdeal.nD Cert.RefDnFwIdeal.τ).loc Cert.RefDnFwIdeal.main_arg1))
      ∧ r.2.sem = fun _ => 0)

def quiescent_AdDn [hAdDn : Cert.AdDn.Facts] : Prop :=
  ∀ (m : (ℓ : Loc Cert.AdDn.nD Cert.AdDn.τ Cert.AdDn.sig) → Buf (Elt Bits) ℓ) (g : Dev Cert.AdDn.nD → PrngReg), Pre_AdDn m →
    θ_run (Cert.AdDn.defs (F := Bits)) (onTc (τ := Cert.AdDn.τ) (Cert.AdDn.main (F := Bits))) ⟨m, fun _ => 0, g⟩ (fun r => (∀ c : Dev Cert.AdDn.nD,
      r.2.mem ((c.tc : Thread Cert.AdDn.nD Cert.AdDn.τ).loc Cert.AdDn.main_arg0) = m ((c.tc : Thread Cert.AdDn.nD Cert.AdDn.τ).loc Cert.AdDn.main_arg0)
      ∧ r.2.mem ((c.tc : Thread Cert.AdDn.nD Cert.AdDn.τ).loc Cert.AdDn.main_arg1) = m ((c.tc : Thread Cert.AdDn.nD Cert.AdDn.τ).loc Cert.AdDn.main_arg1)
      ∧ r.2.mem ((c.tc : Thread Cert.AdDn.nD Cert.AdDn.τ).loc Cert.AdDn.main_arg2) = m ((c.tc : Thread Cert.AdDn.nD Cert.AdDn.τ).loc Cert.AdDn.main_arg2)
      ∧ r.2.mem ((c.tc : Thread Cert.AdDn.nD Cert.AdDn.τ).loc Cert.AdDn.main_arg3) = m ((c.tc : Thread Cert.AdDn.nD Cert.AdDn.τ).loc Cert.AdDn.main_arg3)
      ∧ r.2.mem ((c.tc : Thread Cert.AdDn.nD Cert.AdDn.τ).loc Cert.AdDn.main_arg4) = m ((c.tc : Thread Cert.AdDn.nD Cert.AdDn.τ).loc Cert.AdDn.main_arg4))
      ∧ r.2.sem = fun _ => 0)

def quiescent_AdDnIdeal [hAdDnIdeal : Cert.AdDnIdeal.Facts] : Prop :=
  ∀ (m : (ℓ : Loc Cert.AdDnIdeal.nD Cert.AdDnIdeal.τ Cert.AdDnIdeal.sig) → Buf (Elt Ideal) ℓ) (g : Dev Cert.AdDnIdeal.nD → PrngReg), Pre_AdDnIdeal m →
    θ_run (Cert.AdDnIdeal.defs (F := Ideal)) (onTc (τ := Cert.AdDnIdeal.τ) (Cert.AdDnIdeal.main (F := Ideal))) ⟨m, fun _ => 0, g⟩ (fun r => (∀ c : Dev Cert.AdDnIdeal.nD,
      r.2.mem ((c.tc : Thread Cert.AdDnIdeal.nD Cert.AdDnIdeal.τ).loc Cert.AdDnIdeal.main_arg0) = m ((c.tc : Thread Cert.AdDnIdeal.nD Cert.AdDnIdeal.τ).loc Cert.AdDnIdeal.main_arg0)
      ∧ r.2.mem ((c.tc : Thread Cert.AdDnIdeal.nD Cert.AdDnIdeal.τ).loc Cert.AdDnIdeal.main_arg1) = m ((c.tc : Thread Cert.AdDnIdeal.nD Cert.AdDnIdeal.τ).loc Cert.AdDnIdeal.main_arg1)
      ∧ r.2.mem ((c.tc : Thread Cert.AdDnIdeal.nD Cert.AdDnIdeal.τ).loc Cert.AdDnIdeal.main_arg2) = m ((c.tc : Thread Cert.AdDnIdeal.nD Cert.AdDnIdeal.τ).loc Cert.AdDnIdeal.main_arg2)
      ∧ r.2.mem ((c.tc : Thread Cert.AdDnIdeal.nD Cert.AdDnIdeal.τ).loc Cert.AdDnIdeal.main_arg3) = m ((c.tc : Thread Cert.AdDnIdeal.nD Cert.AdDnIdeal.τ).loc Cert.AdDnIdeal.main_arg3)
      ∧ r.2.mem ((c.tc : Thread Cert.AdDnIdeal.nD Cert.AdDnIdeal.τ).loc Cert.AdDnIdeal.main_arg4) = m ((c.tc : Thread Cert.AdDnIdeal.nD Cert.AdDnIdeal.τ).loc Cert.AdDnIdeal.main_arg4))
      ∧ r.2.sem = fun _ => 0)

def quiescent_RefAdDnIdeal [hRefAdDnIdeal : Cert.RefAdDnIdeal.Facts] : Prop :=
  ∀ (m : (ℓ : Loc Cert.RefAdDnIdeal.nD Cert.RefAdDnIdeal.τ Cert.RefAdDnIdeal.sig) → Buf (Elt Ideal) ℓ) (g : Dev Cert.RefAdDnIdeal.nD → PrngReg), Pre_RefAdDnIdeal m →
    θ_run (Cert.RefAdDnIdeal.defs (F := Ideal)) (onTc (τ := Cert.RefAdDnIdeal.τ) (Cert.RefAdDnIdeal.main (F := Ideal))) ⟨m, fun _ => 0, g⟩ (fun r => (∀ c : Dev Cert.RefAdDnIdeal.nD,
      r.2.mem ((c.tc : Thread Cert.RefAdDnIdeal.nD Cert.RefAdDnIdeal.τ).loc Cert.RefAdDnIdeal.main_arg0) = m ((c.tc : Thread Cert.RefAdDnIdeal.nD Cert.RefAdDnIdeal.τ).loc Cert.RefAdDnIdeal.main_arg0)
      ∧ r.2.mem ((c.tc : Thread Cert.RefAdDnIdeal.nD Cert.RefAdDnIdeal.τ).loc Cert.RefAdDnIdeal.main_arg1) = m ((c.tc : Thread Cert.RefAdDnIdeal.nD Cert.RefAdDnIdeal.τ).loc Cert.RefAdDnIdeal.main_arg1)
      ∧ r.2.mem ((c.tc : Thread Cert.RefAdDnIdeal.nD Cert.RefAdDnIdeal.τ).loc Cert.RefAdDnIdeal.main_arg2) = m ((c.tc : Thread Cert.RefAdDnIdeal.nD Cert.RefAdDnIdeal.τ).loc Cert.RefAdDnIdeal.main_arg2)
      ∧ r.2.mem ((c.tc : Thread Cert.RefAdDnIdeal.nD Cert.RefAdDnIdeal.τ).loc Cert.RefAdDnIdeal.main_arg3) = m ((c.tc : Thread Cert.RefAdDnIdeal.nD Cert.RefAdDnIdeal.τ).loc Cert.RefAdDnIdeal.main_arg3)
      ∧ r.2.mem ((c.tc : Thread Cert.RefAdDnIdeal.nD Cert.RefAdDnIdeal.τ).loc Cert.RefAdDnIdeal.main_arg4) = m ((c.tc : Thread Cert.RefAdDnIdeal.nD Cert.RefAdDnIdeal.τ).loc Cert.RefAdDnIdeal.main_arg4))
      ∧ r.2.sem = fun _ => 0)

def quiescent_AdUp [hAdUp : Cert.AdUp.Facts] : Prop :=
  ∀ (m : (ℓ : Loc Cert.AdUp.nD Cert.AdUp.τ Cert.AdUp.sig) → Buf (Elt Bits) ℓ) (g : Dev Cert.AdUp.nD → PrngReg), Pre_AdUp m →
    θ_run (Cert.AdUp.defs (F := Bits)) (onTc (τ := Cert.AdUp.τ) (Cert.AdUp.main (F := Bits))) ⟨m, fun _ => 0, g⟩ (fun r => (∀ c : Dev Cert.AdUp.nD,
      r.2.mem ((c.tc : Thread Cert.AdUp.nD Cert.AdUp.τ).loc Cert.AdUp.main_arg0) = m ((c.tc : Thread Cert.AdUp.nD Cert.AdUp.τ).loc Cert.AdUp.main_arg0)
      ∧ r.2.mem ((c.tc : Thread Cert.AdUp.nD Cert.AdUp.τ).loc Cert.AdUp.main_arg1) = m ((c.tc : Thread Cert.AdUp.nD Cert.AdUp.τ).loc Cert.AdUp.main_arg1)
      ∧ r.2.mem ((c.tc : Thread Cert.AdUp.nD Cert.AdUp.τ).loc Cert.AdUp.main_arg2) = m ((c.tc : Thread Cert.AdUp.nD Cert.AdUp.τ).loc Cert.AdUp.main_arg2)
      ∧ r.2.mem ((c.tc : Thread Cert.AdUp.nD Cert.AdUp.τ).loc Cert.AdUp.main_arg3) = m ((c.tc : Thread Cert.AdUp.nD Cert.AdUp.τ).loc Cert.AdUp.main_arg3)
      ∧ r.2.mem ((c.tc : Thread Cert.AdUp.nD Cert.AdUp.τ).loc Cert.AdUp.main_arg4) = m ((c.tc : Thread Cert.AdUp.nD Cert.AdUp.τ).loc Cert.AdUp.main_arg4))
      ∧ r.2.sem = fun _ => 0)

def quiescent_AdUpIdeal [hAdUpIdeal : Cert.AdUpIdeal.Facts] : Prop :=
  ∀ (m : (ℓ : Loc Cert.AdUpIdeal.nD Cert.AdUpIdeal.τ Cert.AdUpIdeal.sig) → Buf (Elt Ideal) ℓ) (g : Dev Cert.AdUpIdeal.nD → PrngReg), Pre_AdUpIdeal m →
    θ_run (Cert.AdUpIdeal.defs (F := Ideal)) (onTc (τ := Cert.AdUpIdeal.τ) (Cert.AdUpIdeal.main (F := Ideal))) ⟨m, fun _ => 0, g⟩ (fun r => (∀ c : Dev Cert.AdUpIdeal.nD,
      r.2.mem ((c.tc : Thread Cert.AdUpIdeal.nD Cert.AdUpIdeal.τ).loc Cert.AdUpIdeal.main_arg0) = m ((c.tc : Thread Cert.AdUpIdeal.nD Cert.AdUpIdeal.τ).loc Cert.AdUpIdeal.main_arg0)
      ∧ r.2.mem ((c.tc : Thread Cert.AdUpIdeal.nD Cert.AdUpIdeal.τ).loc Cert.AdUpIdeal.main_arg1) = m ((c.tc : Thread Cert.AdUpIdeal.nD Cert.AdUpIdeal.τ).loc Cert.AdUpIdeal.main_arg1)
      ∧ r.2.mem ((c.tc : Thread Cert.AdUpIdeal.nD Cert.AdUpIdeal.τ).loc Cert.AdUpIdeal.main_arg2) = m ((c.tc : Thread Cert.AdUpIdeal.nD Cert.AdUpIdeal.τ).loc Cert.AdUpIdeal.main_arg2)
      ∧ r.2.mem ((c.tc : Thread Cert.AdUpIdeal.nD Cert.AdUpIdeal.τ).loc Cert.AdUpIdeal.main_arg3) = m ((c.tc : Thread Cert.AdUpIdeal.nD Cert.AdUpIdeal.τ).loc Cert.AdUpIdeal.main_arg3)
      ∧ r.2.mem ((c.tc : Thread Cert.AdUpIdeal.nD Cert.AdUpIdeal.τ).loc Cert.AdUpIdeal.main_arg4) = m ((c.tc : Thread Cert.AdUpIdeal.nD Cert.AdUpIdeal.τ).loc Cert.AdUpIdeal.main_arg4))
      ∧ r.2.sem = fun _ => 0)

def quiescent_RefAdUpIdeal [hRefAdUpIdeal : Cert.RefAdUpIdeal.Facts] : Prop :=
  ∀ (m : (ℓ : Loc Cert.RefAdUpIdeal.nD Cert.RefAdUpIdeal.τ Cert.RefAdUpIdeal.sig) → Buf (Elt Ideal) ℓ) (g : Dev Cert.RefAdUpIdeal.nD → PrngReg), Pre_RefAdUpIdeal m →
    θ_run (Cert.RefAdUpIdeal.defs (F := Ideal)) (onTc (τ := Cert.RefAdUpIdeal.τ) (Cert.RefAdUpIdeal.main (F := Ideal))) ⟨m, fun _ => 0, g⟩ (fun r => (∀ c : Dev Cert.RefAdUpIdeal.nD,
      r.2.mem ((c.tc : Thread Cert.RefAdUpIdeal.nD Cert.RefAdUpIdeal.τ).loc Cert.RefAdUpIdeal.main_arg0) = m ((c.tc : Thread Cert.RefAdUpIdeal.nD Cert.RefAdUpIdeal.τ).loc Cert.RefAdUpIdeal.main_arg0)
      ∧ r.2.mem ((c.tc : Thread Cert.RefAdUpIdeal.nD Cert.RefAdUpIdeal.τ).loc Cert.RefAdUpIdeal.main_arg1) = m ((c.tc : Thread Cert.RefAdUpIdeal.nD Cert.RefAdUpIdeal.τ).loc Cert.RefAdUpIdeal.main_arg1)
      ∧ r.2.mem ((c.tc : Thread Cert.RefAdUpIdeal.nD Cert.RefAdUpIdeal.τ).loc Cert.RefAdUpIdeal.main_arg2) = m ((c.tc : Thread Cert.RefAdUpIdeal.nD Cert.RefAdUpIdeal.τ).loc Cert.RefAdUpIdeal.main_arg2)
      ∧ r.2.mem ((c.tc : Thread Cert.RefAdUpIdeal.nD Cert.RefAdUpIdeal.τ).loc Cert.RefAdUpIdeal.main_arg3) = m ((c.tc : Thread Cert.RefAdUpIdeal.nD Cert.RefAdUpIdeal.τ).loc Cert.RefAdUpIdeal.main_arg3)
      ∧ r.2.mem ((c.tc : Thread Cert.RefAdUpIdeal.nD Cert.RefAdUpIdeal.τ).loc Cert.RefAdUpIdeal.main_arg4) = m ((c.tc : Thread Cert.RefAdUpIdeal.nD Cert.RefAdUpIdeal.τ).loc Cert.RefAdUpIdeal.main_arg4))
      ∧ r.2.sem = fun _ => 0)

def quiescent_AdO [hAdO : Cert.AdO.Facts] : Prop :=
  ∀ (m : (ℓ : Loc Cert.AdO.nD Cert.AdO.τ Cert.AdO.sig) → Buf (Elt Bits) ℓ) (g : Dev Cert.AdO.nD → PrngReg), Pre_AdO m →
    θ_run (Cert.AdO.defs (F := Bits)) (onTc (τ := Cert.AdO.τ) (Cert.AdO.main (F := Bits))) ⟨m, fun _ => 0, g⟩ (fun r => (∀ c : Dev Cert.AdO.nD,
      r.2.mem ((c.tc : Thread Cert.AdO.nD Cert.AdO.τ).loc Cert.AdO.main_arg0) = m ((c.tc : Thread Cert.AdO.nD Cert.AdO.τ).loc Cert.AdO.main_arg0)
      ∧ r.2.mem ((c.tc : Thread Cert.AdO.nD Cert.AdO.τ).loc Cert.AdO.main_arg1) = m ((c.tc : Thread Cert.AdO.nD Cert.AdO.τ).loc Cert.AdO.main_arg1)
      ∧ r.2.mem ((c.tc : Thread Cert.AdO.nD Cert.AdO.τ).loc Cert.AdO.main_arg2) = m ((c.tc : Thread Cert.AdO.nD Cert.AdO.τ).loc Cert.AdO.main_arg2)
      ∧ r.2.mem ((c.tc : Thread Cert.AdO.nD Cert.AdO.τ).loc Cert.AdO.main_arg3) = m ((c.tc : Thread Cert.AdO.nD Cert.AdO.τ).loc Cert.AdO.main_arg3)
      ∧ r.2.mem ((c.tc : Thread Cert.AdO.nD Cert.AdO.τ).loc Cert.AdO.main_arg4) = m ((c.tc : Thread Cert.AdO.nD Cert.AdO.τ).loc Cert.AdO.main_arg4))
      ∧ r.2.sem = fun _ => 0)

def quiescent_AdOIdeal [hAdOIdeal : Cert.AdOIdeal.Facts] : Prop :=
  ∀ (m : (ℓ : Loc Cert.AdOIdeal.nD Cert.AdOIdeal.τ Cert.AdOIdeal.sig) → Buf (Elt Ideal) ℓ) (g : Dev Cert.AdOIdeal.nD → PrngReg), Pre_AdOIdeal m →
    θ_run (Cert.AdOIdeal.defs (F := Ideal)) (onTc (τ := Cert.AdOIdeal.τ) (Cert.AdOIdeal.main (F := Ideal))) ⟨m, fun _ => 0, g⟩ (fun r => (∀ c : Dev Cert.AdOIdeal.nD,
      r.2.mem ((c.tc : Thread Cert.AdOIdeal.nD Cert.AdOIdeal.τ).loc Cert.AdOIdeal.main_arg0) = m ((c.tc : Thread Cert.AdOIdeal.nD Cert.AdOIdeal.τ).loc Cert.AdOIdeal.main_arg0)
      ∧ r.2.mem ((c.tc : Thread Cert.AdOIdeal.nD Cert.AdOIdeal.τ).loc Cert.AdOIdeal.main_arg1) = m ((c.tc : Thread Cert.AdOIdeal.nD Cert.AdOIdeal.τ).loc Cert.AdOIdeal.main_arg1)
      ∧ r.2.mem ((c.tc : Thread Cert.AdOIdeal.nD Cert.AdOIdeal.τ).loc Cert.AdOIdeal.main_arg2) = m ((c.tc : Thread Cert.AdOIdeal.nD Cert.AdOIdeal.τ).loc Cert.AdOIdeal.main_arg2)
      ∧ r.2.mem ((c.tc : Thread Cert.AdOIdeal.nD Cert.AdOIdeal.τ).loc Cert.AdOIdeal.main_arg3) = m ((c.tc : Thread Cert.AdOIdeal.nD Cert.AdOIdeal.τ).loc Cert.AdOIdeal.main_arg3)
      ∧ r.2.mem ((c.tc : Thread Cert.AdOIdeal.nD Cert.AdOIdeal.τ).loc Cert.AdOIdeal.main_arg4) = m ((c.tc : Thread Cert.AdOIdeal.nD Cert.AdOIdeal.τ).loc Cert.AdOIdeal.main_arg4))
      ∧ r.2.sem = fun _ => 0)

def quiescent_RefAdOIdeal [hRefAdOIdeal : Cert.RefAdOIdeal.Facts] : Prop :=
  ∀ (m : (ℓ : Loc Cert.RefAdOIdeal.nD Cert.RefAdOIdeal.τ Cert.RefAdOIdeal.sig) → Buf (Elt Ideal) ℓ) (g : Dev Cert.RefAdOIdeal.nD → PrngReg), Pre_RefAdOIdeal m →
    θ_run (Cert.RefAdOIdeal.defs (F := Ideal)) (onTc (τ := Cert.RefAdOIdeal.τ) (Cert.RefAdOIdeal.main (F := Ideal))) ⟨m, fun _ => 0, g⟩ (fun r => (∀ c : Dev Cert.RefAdOIdeal.nD,
      r.2.mem ((c.tc : Thread Cert.RefAdOIdeal.nD Cert.RefAdOIdeal.τ).loc Cert.RefAdOIdeal.main_arg0) = m ((c.tc : Thread Cert.RefAdOIdeal.nD Cert.RefAdOIdeal.τ).loc Cert.RefAdOIdeal.main_arg0)
      ∧ r.2.mem ((c.tc : Thread Cert.RefAdOIdeal.nD Cert.RefAdOIdeal.τ).loc Cert.RefAdOIdeal.main_arg1) = m ((c.tc : Thread Cert.RefAdOIdeal.nD Cert.RefAdOIdeal.τ).loc Cert.RefAdOIdeal.main_arg1)
      ∧ r.2.mem ((c.tc : Thread Cert.RefAdOIdeal.nD Cert.RefAdOIdeal.τ).loc Cert.RefAdOIdeal.main_arg2) = m ((c.tc : Thread Cert.RefAdOIdeal.nD Cert.RefAdOIdeal.τ).loc Cert.RefAdOIdeal.main_arg2)
      ∧ r.2.mem ((c.tc : Thread Cert.RefAdOIdeal.nD Cert.RefAdOIdeal.τ).loc Cert.RefAdOIdeal.main_arg3) = m ((c.tc : Thread Cert.RefAdOIdeal.nD Cert.RefAdOIdeal.τ).loc Cert.RefAdOIdeal.main_arg3)
      ∧ r.2.mem ((c.tc : Thread Cert.RefAdOIdeal.nD Cert.RefAdOIdeal.τ).loc Cert.RefAdOIdeal.main_arg4) = m ((c.tc : Thread Cert.RefAdOIdeal.nD Cert.RefAdOIdeal.τ).loc Cert.RefAdOIdeal.main_arg4))
      ∧ r.2.sem = fun _ => 0)

def quiescent_AdOg [hAdOg : Cert.AdOg.Facts] : Prop :=
  ∀ (m : (ℓ : Loc Cert.AdOg.nD Cert.AdOg.τ Cert.AdOg.sig) → Buf (Elt Bits) ℓ) (g : Dev Cert.AdOg.nD → PrngReg), Pre_AdOg m →
    θ_run (Cert.AdOg.defs (F := Bits)) (onTc (τ := Cert.AdOg.τ) (Cert.AdOg.main (F := Bits))) ⟨m, fun _ => 0, g⟩ (fun r => (∀ c : Dev Cert.AdOg.nD,
      r.2.mem ((c.tc : Thread Cert.AdOg.nD Cert.AdOg.τ).loc Cert.AdOg.main_arg0) = m ((c.tc : Thread Cert.AdOg.nD Cert.AdOg.τ).loc Cert.AdOg.main_arg0)
      ∧ r.2.mem ((c.tc : Thread Cert.AdOg.nD Cert.AdOg.τ).loc Cert.AdOg.main_arg1) = m ((c.tc : Thread Cert.AdOg.nD Cert.AdOg.τ).loc Cert.AdOg.main_arg1)
      ∧ r.2.mem ((c.tc : Thread Cert.AdOg.nD Cert.AdOg.τ).loc Cert.AdOg.main_arg2) = m ((c.tc : Thread Cert.AdOg.nD Cert.AdOg.τ).loc Cert.AdOg.main_arg2)
      ∧ r.2.mem ((c.tc : Thread Cert.AdOg.nD Cert.AdOg.τ).loc Cert.AdOg.main_arg3) = m ((c.tc : Thread Cert.AdOg.nD Cert.AdOg.τ).loc Cert.AdOg.main_arg3)
      ∧ r.2.mem ((c.tc : Thread Cert.AdOg.nD Cert.AdOg.τ).loc Cert.AdOg.main_arg4) = m ((c.tc : Thread Cert.AdOg.nD Cert.AdOg.τ).loc Cert.AdOg.main_arg4))
      ∧ r.2.sem = fun _ => 0)

def quiescent_AdOgIdeal [hAdOgIdeal : Cert.AdOgIdeal.Facts] : Prop :=
  ∀ (m : (ℓ : Loc Cert.AdOgIdeal.nD Cert.AdOgIdeal.τ Cert.AdOgIdeal.sig) → Buf (Elt Ideal) ℓ) (g : Dev Cert.AdOgIdeal.nD → PrngReg), Pre_AdOgIdeal m →
    θ_run (Cert.AdOgIdeal.defs (F := Ideal)) (onTc (τ := Cert.AdOgIdeal.τ) (Cert.AdOgIdeal.main (F := Ideal))) ⟨m, fun _ => 0, g⟩ (fun r => (∀ c : Dev Cert.AdOgIdeal.nD,
      r.2.mem ((c.tc : Thread Cert.AdOgIdeal.nD Cert.AdOgIdeal.τ).loc Cert.AdOgIdeal.main_arg0) = m ((c.tc : Thread Cert.AdOgIdeal.nD Cert.AdOgIdeal.τ).loc Cert.AdOgIdeal.main_arg0)
      ∧ r.2.mem ((c.tc : Thread Cert.AdOgIdeal.nD Cert.AdOgIdeal.τ).loc Cert.AdOgIdeal.main_arg1) = m ((c.tc : Thread Cert.AdOgIdeal.nD Cert.AdOgIdeal.τ).loc Cert.AdOgIdeal.main_arg1)
      ∧ r.2.mem ((c.tc : Thread Cert.AdOgIdeal.nD Cert.AdOgIdeal.τ).loc Cert.AdOgIdeal.main_arg2) = m ((c.tc : Thread Cert.AdOgIdeal.nD Cert.AdOgIdeal.τ).loc Cert.AdOgIdeal.main_arg2)
      ∧ r.2.mem ((c.tc : Thread Cert.AdOgIdeal.nD Cert.AdOgIdeal.τ).loc Cert.AdOgIdeal.main_arg3) = m ((c.tc : Thread Cert.AdOgIdeal.nD Cert.AdOgIdeal.τ).loc Cert.AdOgIdeal.main_arg3)
      ∧ r.2.mem ((c.tc : Thread Cert.AdOgIdeal.nD Cert.AdOgIdeal.τ).loc Cert.AdOgIdeal.main_arg4) = m ((c.tc : Thread Cert.AdOgIdeal.nD Cert.AdOgIdeal.τ).loc Cert.AdOgIdeal.main_arg4))
      ∧ r.2.sem = fun _ => 0)

def quiescent_RefAdOgIdeal [hRefAdOgIdeal : Cert.RefAdOgIdeal.Facts] : Prop :=
  ∀ (m : (ℓ : Loc Cert.RefAdOgIdeal.nD Cert.RefAdOgIdeal.τ Cert.RefAdOgIdeal.sig) → Buf (Elt Ideal) ℓ) (g : Dev Cert.RefAdOgIdeal.nD → PrngReg), Pre_RefAdOgIdeal m →
    θ_run (Cert.RefAdOgIdeal.defs (F := Ideal)) (onTc (τ := Cert.RefAdOgIdeal.τ) (Cert.RefAdOgIdeal.main (F := Ideal))) ⟨m, fun _ => 0, g⟩ (fun r => (∀ c : Dev Cert.RefAdOgIdeal.nD,
      r.2.mem ((c.tc : Thread Cert.RefAdOgIdeal.nD Cert.RefAdOgIdeal.τ).loc Cert.RefAdOgIdeal.main_arg0) = m ((c.tc : Thread Cert.RefAdOgIdeal.nD Cert.RefAdOgIdeal.τ).loc Cert.RefAdOgIdeal.main_arg0)
      ∧ r.2.mem ((c.tc : Thread Cert.RefAdOgIdeal.nD Cert.RefAdOgIdeal.τ).loc Cert.RefAdOgIdeal.main_arg1) = m ((c.tc : Thread Cert.RefAdOgIdeal.nD Cert.RefAdOgIdeal.τ).loc Cert.RefAdOgIdeal.main_arg1)
      ∧ r.2.mem ((c.tc : Thread Cert.RefAdOgIdeal.nD Cert.RefAdOgIdeal.τ).loc Cert.RefAdOgIdeal.main_arg2) = m ((c.tc : Thread Cert.RefAdOgIdeal.nD Cert.RefAdOgIdeal.τ).loc Cert.RefAdOgIdeal.main_arg2)
      ∧ r.2.mem ((c.tc : Thread Cert.RefAdOgIdeal.nD Cert.RefAdOgIdeal.τ).loc Cert.RefAdOgIdeal.main_arg3) = m ((c.tc : Thread Cert.RefAdOgIdeal.nD Cert.RefAdOgIdeal.τ).loc Cert.RefAdOgIdeal.main_arg3)
      ∧ r.2.mem ((c.tc : Thread Cert.RefAdOgIdeal.nD Cert.RefAdOgIdeal.τ).loc Cert.RefAdOgIdeal.main_arg4) = m ((c.tc : Thread Cert.RefAdOgIdeal.nD Cert.RefAdOgIdeal.τ).loc Cert.RefAdOgIdeal.main_arg4))
      ∧ r.2.sem = fun _ => 0)

def quiescent_AdIn [hAdIn : Cert.AdIn.Facts] : Prop :=
  ∀ (m : (ℓ : Loc Cert.AdIn.nD Cert.AdIn.τ Cert.AdIn.sig) → Buf (Elt Bits) ℓ) (g : Dev Cert.AdIn.nD → PrngReg), Pre_AdIn m →
    θ_run (Cert.AdIn.defs (F := Bits)) (onTc (τ := Cert.AdIn.τ) (Cert.AdIn.main (F := Bits))) ⟨m, fun _ => 0, g⟩ (fun r => (∀ c : Dev Cert.AdIn.nD,
      r.2.mem ((c.tc : Thread Cert.AdIn.nD Cert.AdIn.τ).loc Cert.AdIn.main_arg0) = m ((c.tc : Thread Cert.AdIn.nD Cert.AdIn.τ).loc Cert.AdIn.main_arg0)
      ∧ r.2.mem ((c.tc : Thread Cert.AdIn.nD Cert.AdIn.τ).loc Cert.AdIn.main_arg1) = m ((c.tc : Thread Cert.AdIn.nD Cert.AdIn.τ).loc Cert.AdIn.main_arg1)
      ∧ r.2.mem ((c.tc : Thread Cert.AdIn.nD Cert.AdIn.τ).loc Cert.AdIn.main_arg2) = m ((c.tc : Thread Cert.AdIn.nD Cert.AdIn.τ).loc Cert.AdIn.main_arg2)
      ∧ r.2.mem ((c.tc : Thread Cert.AdIn.nD Cert.AdIn.τ).loc Cert.AdIn.main_arg3) = m ((c.tc : Thread Cert.AdIn.nD Cert.AdIn.τ).loc Cert.AdIn.main_arg3)
      ∧ r.2.mem ((c.tc : Thread Cert.AdIn.nD Cert.AdIn.τ).loc Cert.AdIn.main_arg4) = m ((c.tc : Thread Cert.AdIn.nD Cert.AdIn.τ).loc Cert.AdIn.main_arg4))
      ∧ r.2.sem = fun _ => 0)

def quiescent_AdInIdeal [hAdInIdeal : Cert.AdInIdeal.Facts] : Prop :=
  ∀ (m : (ℓ : Loc Cert.AdInIdeal.nD Cert.AdInIdeal.τ Cert.AdInIdeal.sig) → Buf (Elt Ideal) ℓ) (g : Dev Cert.AdInIdeal.nD → PrngReg), Pre_AdInIdeal m →
    θ_run (Cert.AdInIdeal.defs (F := Ideal)) (onTc (τ := Cert.AdInIdeal.τ) (Cert.AdInIdeal.main (F := Ideal))) ⟨m, fun _ => 0, g⟩ (fun r => (∀ c : Dev Cert.AdInIdeal.nD,
      r.2.mem ((c.tc : Thread Cert.AdInIdeal.nD Cert.AdInIdeal.τ).loc Cert.AdInIdeal.main_arg0) = m ((c.tc : Thread Cert.AdInIdeal.nD Cert.AdInIdeal.τ).loc Cert.AdInIdeal.main_arg0)
      ∧ r.2.mem ((c.tc : Thread Cert.AdInIdeal.nD Cert.AdInIdeal.τ).loc Cert.AdInIdeal.main_arg1) = m ((c.tc : Thread Cert.AdInIdeal.nD Cert.AdInIdeal.τ).loc Cert.AdInIdeal.main_arg1)
      ∧ r.2.mem ((c.tc : Thread Cert.AdInIdeal.nD Cert.AdInIdeal.τ).loc Cert.AdInIdeal.main_arg2) = m ((c.tc : Thread Cert.AdInIdeal.nD Cert.AdInIdeal.τ).loc Cert.AdInIdeal.main_arg2)
      ∧ r.2.mem ((c.tc : Thread Cert.AdInIdeal.nD Cert.AdInIdeal.τ).loc Cert.AdInIdeal.main_arg3) = m ((c.tc : Thread Cert.AdInIdeal.nD Cert.AdInIdeal.τ).loc Cert.AdInIdeal.main_arg3)
      ∧ r.2.mem ((c.tc : Thread Cert.AdInIdeal.nD Cert.AdInIdeal.τ).loc Cert.AdInIdeal.main_arg4) = m ((c.tc : Thread Cert.AdInIdeal.nD Cert.AdInIdeal.τ).loc Cert.AdInIdeal.main_arg4))
      ∧ r.2.sem = fun _ => 0)

def quiescent_RefAdInIdeal [hRefAdInIdeal : Cert.RefAdInIdeal.Facts] : Prop :=
  ∀ (m : (ℓ : Loc Cert.RefAdInIdeal.nD Cert.RefAdInIdeal.τ Cert.RefAdInIdeal.sig) → Buf (Elt Ideal) ℓ) (g : Dev Cert.RefAdInIdeal.nD → PrngReg), Pre_RefAdInIdeal m →
    θ_run (Cert.RefAdInIdeal.defs (F := Ideal)) (onTc (τ := Cert.RefAdInIdeal.τ) (Cert.RefAdInIdeal.main (F := Ideal))) ⟨m, fun _ => 0, g⟩ (fun r => (∀ c : Dev Cert.RefAdInIdeal.nD,
      r.2.mem ((c.tc : Thread Cert.RefAdInIdeal.nD Cert.RefAdInIdeal.τ).loc Cert.RefAdInIdeal.main_arg0) = m ((c.tc : Thread Cert.RefAdInIdeal.nD Cert.RefAdInIdeal.τ).loc Cert.RefAdInIdeal.main_arg0)
      ∧ r.2.mem ((c.tc : Thread Cert.RefAdInIdeal.nD Cert.RefAdInIdeal.τ).loc Cert.RefAdInIdeal.main_arg1) = m ((c.tc : Thread Cert.RefAdInIdeal.nD Cert.RefAdInIdeal.τ).loc Cert.RefAdInIdeal.main_arg1)
      ∧ r.2.mem ((c.tc : Thread Cert.RefAdInIdeal.nD Cert.RefAdInIdeal.τ).loc Cert.RefAdInIdeal.main_arg2) = m ((c.tc : Thread Cert.RefAdInIdeal.nD Cert.RefAdInIdeal.τ).loc Cert.RefAdInIdeal.main_arg2)
      ∧ r.2.mem ((c.tc : Thread Cert.RefAdInIdeal.nD Cert.RefAdInIdeal.τ).loc Cert.RefAdInIdeal.main_arg3) = m ((c.tc : Thread Cert.RefAdInIdeal.nD Cert.RefAdInIdeal.τ).loc Cert.RefAdInIdeal.main_arg3)
      ∧ r.2.mem ((c.tc : Thread Cert.RefAdInIdeal.nD Cert.RefAdInIdeal.τ).loc Cert.RefAdInIdeal.main_arg4) = m ((c.tc : Thread Cert.RefAdInIdeal.nD Cert.RefAdInIdeal.τ).loc Cert.RefAdInIdeal.main_arg4))
      ∧ r.2.sem = fun _ => 0)

def quiescent_AdAda [hAdAda : Cert.AdAda.Facts] : Prop :=
  ∀ (m : (ℓ : Loc Cert.AdAda.nD Cert.AdAda.τ Cert.AdAda.sig) → Buf (Elt Bits) ℓ) (g : Dev Cert.AdAda.nD → PrngReg), Pre_AdAda m →
    θ_run (Cert.AdAda.defs (F := Bits)) (onTc (τ := Cert.AdAda.τ) (Cert.AdAda.main (F := Bits))) ⟨m, fun _ => 0, g⟩ (fun r => (∀ c : Dev Cert.AdAda.nD,
      r.2.mem ((c.tc : Thread Cert.AdAda.nD Cert.AdAda.τ).loc Cert.AdAda.main_arg0) = m ((c.tc : Thread Cert.AdAda.nD Cert.AdAda.τ).loc Cert.AdAda.main_arg0)
      ∧ r.2.mem ((c.tc : Thread Cert.AdAda.nD Cert.AdAda.τ).loc Cert.AdAda.main_arg1) = m ((c.tc : Thread Cert.AdAda.nD Cert.AdAda.τ).loc Cert.AdAda.main_arg1)
      ∧ r.2.mem ((c.tc : Thread Cert.AdAda.nD Cert.AdAda.τ).loc Cert.AdAda.main_arg2) = m ((c.tc : Thread Cert.AdAda.nD Cert.AdAda.τ).loc Cert.AdAda.main_arg2)
      ∧ r.2.mem ((c.tc : Thread Cert.AdAda.nD Cert.AdAda.τ).loc Cert.AdAda.main_arg3) = m ((c.tc : Thread Cert.AdAda.nD Cert.AdAda.τ).loc Cert.AdAda.main_arg3))
      ∧ r.2.sem = fun _ => 0)

def quiescent_AdAdaIdeal [hAdAdaIdeal : Cert.AdAdaIdeal.Facts] : Prop :=
  ∀ (m : (ℓ : Loc Cert.AdAdaIdeal.nD Cert.AdAdaIdeal.τ Cert.AdAdaIdeal.sig) → Buf (Elt Ideal) ℓ) (g : Dev Cert.AdAdaIdeal.nD → PrngReg), Pre_AdAdaIdeal m →
    θ_run (Cert.AdAdaIdeal.defs (F := Ideal)) (onTc (τ := Cert.AdAdaIdeal.τ) (Cert.AdAdaIdeal.main (F := Ideal))) ⟨m, fun _ => 0, g⟩ (fun r => (∀ c : Dev Cert.AdAdaIdeal.nD,
      r.2.mem ((c.tc : Thread Cert.AdAdaIdeal.nD Cert.AdAdaIdeal.τ).loc Cert.AdAdaIdeal.main_arg0) = m ((c.tc : Thread Cert.AdAdaIdeal.nD Cert.AdAdaIdeal.τ).loc Cert.AdAdaIdeal.main_arg0)
      ∧ r.2.mem ((c.tc : Thread Cert.AdAdaIdeal.nD Cert.AdAdaIdeal.τ).loc Cert.AdAdaIdeal.main_arg1) = m ((c.tc : Thread Cert.AdAdaIdeal.nD Cert.AdAdaIdeal.τ).loc Cert.AdAdaIdeal.main_arg1)
      ∧ r.2.mem ((c.tc : Thread Cert.AdAdaIdeal.nD Cert.AdAdaIdeal.τ).loc Cert.AdAdaIdeal.main_arg2) = m ((c.tc : Thread Cert.AdAdaIdeal.nD Cert.AdAdaIdeal.τ).loc Cert.AdAdaIdeal.main_arg2)
      ∧ r.2.mem ((c.tc : Thread Cert.AdAdaIdeal.nD Cert.AdAdaIdeal.τ).loc Cert.AdAdaIdeal.main_arg3) = m ((c.tc : Thread Cert.AdAdaIdeal.nD Cert.AdAdaIdeal.τ).loc Cert.AdAdaIdeal.main_arg3))
      ∧ r.2.sem = fun _ => 0)

def quiescent_RefAdAdaIdeal [hRefAdAdaIdeal : Cert.RefAdAdaIdeal.Facts] : Prop :=
  ∀ (m : (ℓ : Loc Cert.RefAdAdaIdeal.nD Cert.RefAdAdaIdeal.τ Cert.RefAdAdaIdeal.sig) → Buf (Elt Ideal) ℓ) (g : Dev Cert.RefAdAdaIdeal.nD → PrngReg), Pre_RefAdAdaIdeal m →
    θ_run (Cert.RefAdAdaIdeal.defs (F := Ideal)) (onTc (τ := Cert.RefAdAdaIdeal.τ) (Cert.RefAdAdaIdeal.main (F := Ideal))) ⟨m, fun _ => 0, g⟩ (fun r => (∀ c : Dev Cert.RefAdAdaIdeal.nD,
      r.2.mem ((c.tc : Thread Cert.RefAdAdaIdeal.nD Cert.RefAdAdaIdeal.τ).loc Cert.RefAdAdaIdeal.main_arg0) = m ((c.tc : Thread Cert.RefAdAdaIdeal.nD Cert.RefAdAdaIdeal.τ).loc Cert.RefAdAdaIdeal.main_arg0)
      ∧ r.2.mem ((c.tc : Thread Cert.RefAdAdaIdeal.nD Cert.RefAdAdaIdeal.τ).loc Cert.RefAdAdaIdeal.main_arg1) = m ((c.tc : Thread Cert.RefAdAdaIdeal.nD Cert.RefAdAdaIdeal.τ).loc Cert.RefAdAdaIdeal.main_arg1)
      ∧ r.2.mem ((c.tc : Thread Cert.RefAdAdaIdeal.nD Cert.RefAdAdaIdeal.τ).loc Cert.RefAdAdaIdeal.main_arg2) = m ((c.tc : Thread Cert.RefAdAdaIdeal.nD Cert.RefAdAdaIdeal.τ).loc Cert.RefAdAdaIdeal.main_arg2)
      ∧ r.2.mem ((c.tc : Thread Cert.RefAdAdaIdeal.nD Cert.RefAdAdaIdeal.τ).loc Cert.RefAdAdaIdeal.main_arg3) = m ((c.tc : Thread Cert.RefAdAdaIdeal.nD Cert.RefAdAdaIdeal.τ).loc Cert.RefAdAdaIdeal.main_arg3))
      ∧ r.2.sem = fun _ => 0)

def quiescent_AdBada [hAdBada : Cert.AdBada.Facts] : Prop :=
  ∀ (m : (ℓ : Loc Cert.AdBada.nD Cert.AdBada.τ Cert.AdBada.sig) → Buf (Elt Bits) ℓ) (g : Dev Cert.AdBada.nD → PrngReg), Pre_AdBada m →
    θ_run (Cert.AdBada.defs (F := Bits)) (onTc (τ := Cert.AdBada.τ) (Cert.AdBada.main (F := Bits))) ⟨m, fun _ => 0, g⟩ (fun r => (∀ c : Dev Cert.AdBada.nD,
      r.2.mem ((c.tc : Thread Cert.AdBada.nD Cert.AdBada.τ).loc Cert.AdBada.main_arg0) = m ((c.tc : Thread Cert.AdBada.nD Cert.AdBada.τ).loc Cert.AdBada.main_arg0)
      ∧ r.2.mem ((c.tc : Thread Cert.AdBada.nD Cert.AdBada.τ).loc Cert.AdBada.main_arg1) = m ((c.tc : Thread Cert.AdBada.nD Cert.AdBada.τ).loc Cert.AdBada.main_arg1)
      ∧ r.2.mem ((c.tc : Thread Cert.AdBada.nD Cert.AdBada.τ).loc Cert.AdBada.main_arg2) = m ((c.tc : Thread Cert.AdBada.nD Cert.AdBada.τ).loc Cert.AdBada.main_arg2)
      ∧ r.2.mem ((c.tc : Thread Cert.AdBada.nD Cert.AdBada.τ).loc Cert.AdBada.main_arg3) = m ((c.tc : Thread Cert.AdBada.nD Cert.AdBada.τ).loc Cert.AdBada.main_arg3))
      ∧ r.2.sem = fun _ => 0)

def quiescent_AdBadaIdeal [hAdBadaIdeal : Cert.AdBadaIdeal.Facts] : Prop :=
  ∀ (m : (ℓ : Loc Cert.AdBadaIdeal.nD Cert.AdBadaIdeal.τ Cert.AdBadaIdeal.sig) → Buf (Elt Ideal) ℓ) (g : Dev Cert.AdBadaIdeal.nD → PrngReg), Pre_AdBadaIdeal m →
    θ_run (Cert.AdBadaIdeal.defs (F := Ideal)) (onTc (τ := Cert.AdBadaIdeal.τ) (Cert.AdBadaIdeal.main (F := Ideal))) ⟨m, fun _ => 0, g⟩ (fun r => (∀ c : Dev Cert.AdBadaIdeal.nD,
      r.2.mem ((c.tc : Thread Cert.AdBadaIdeal.nD Cert.AdBadaIdeal.τ).loc Cert.AdBadaIdeal.main_arg0) = m ((c.tc : Thread Cert.AdBadaIdeal.nD Cert.AdBadaIdeal.τ).loc Cert.AdBadaIdeal.main_arg0)
      ∧ r.2.mem ((c.tc : Thread Cert.AdBadaIdeal.nD Cert.AdBadaIdeal.τ).loc Cert.AdBadaIdeal.main_arg1) = m ((c.tc : Thread Cert.AdBadaIdeal.nD Cert.AdBadaIdeal.τ).loc Cert.AdBadaIdeal.main_arg1)
      ∧ r.2.mem ((c.tc : Thread Cert.AdBadaIdeal.nD Cert.AdBadaIdeal.τ).loc Cert.AdBadaIdeal.main_arg2) = m ((c.tc : Thread Cert.AdBadaIdeal.nD Cert.AdBadaIdeal.τ).loc Cert.AdBadaIdeal.main_arg2)
      ∧ r.2.mem ((c.tc : Thread Cert.AdBadaIdeal.nD Cert.AdBadaIdeal.τ).loc Cert.AdBadaIdeal.main_arg3) = m ((c.tc : Thread Cert.AdBadaIdeal.nD Cert.AdBadaIdeal.τ).loc Cert.AdBadaIdeal.main_arg3))
      ∧ r.2.sem = fun _ => 0)

def quiescent_RefAdBadaIdeal [hRefAdBadaIdeal : Cert.RefAdBadaIdeal.Facts] : Prop :=
  ∀ (m : (ℓ : Loc Cert.RefAdBadaIdeal.nD Cert.RefAdBadaIdeal.τ Cert.RefAdBadaIdeal.sig) → Buf (Elt Ideal) ℓ) (g : Dev Cert.RefAdBadaIdeal.nD → PrngReg), Pre_RefAdBadaIdeal m →
    θ_run (Cert.RefAdBadaIdeal.defs (F := Ideal)) (onTc (τ := Cert.RefAdBadaIdeal.τ) (Cert.RefAdBadaIdeal.main (F := Ideal))) ⟨m, fun _ => 0, g⟩ (fun r => (∀ c : Dev Cert.RefAdBadaIdeal.nD,
      r.2.mem ((c.tc : Thread Cert.RefAdBadaIdeal.nD Cert.RefAdBadaIdeal.τ).loc Cert.RefAdBadaIdeal.main_arg0) = m ((c.tc : Thread Cert.RefAdBadaIdeal.nD Cert.RefAdBadaIdeal.τ).loc Cert.RefAdBadaIdeal.main_arg0)
      ∧ r.2.mem ((c.tc : Thread Cert.RefAdBadaIdeal.nD Cert.RefAdBadaIdeal.τ).loc Cert.RefAdBadaIdeal.main_arg1) = m ((c.tc : Thread Cert.RefAdBadaIdeal.nD Cert.RefAdBadaIdeal.τ).loc Cert.RefAdBadaIdeal.main_arg1)
      ∧ r.2.mem ((c.tc : Thread Cert.RefAdBadaIdeal.nD Cert.RefAdBadaIdeal.τ).loc Cert.RefAdBadaIdeal.main_arg2) = m ((c.tc : Thread Cert.RefAdBadaIdeal.nD Cert.RefAdBadaIdeal.τ).loc Cert.RefAdBadaIdeal.main_arg2)
      ∧ r.2.mem ((c.tc : Thread Cert.RefAdBadaIdeal.nD Cert.RefAdBadaIdeal.τ).loc Cert.RefAdBadaIdeal.main_arg3) = m ((c.tc : Thread Cert.RefAdBadaIdeal.nD Cert.RefAdBadaIdeal.τ).loc Cert.RefAdBadaIdeal.main_arg3))
      ∧ r.2.sem = fun _ => 0)

def quiescent_AdNorm [hAdNorm : Cert.AdNorm.Facts] : Prop :=
  ∀ (m : (ℓ : Loc Cert.AdNorm.nD Cert.AdNorm.τ Cert.AdNorm.sig) → Buf (Elt Bits) ℓ) (g : Dev Cert.AdNorm.nD → PrngReg), Pre_AdNorm m →
    θ_run (Cert.AdNorm.defs (F := Bits)) (onTc (τ := Cert.AdNorm.τ) (Cert.AdNorm.main (F := Bits))) ⟨m, fun _ => 0, g⟩ (fun r => (∀ c : Dev Cert.AdNorm.nD,
      r.2.mem ((c.tc : Thread Cert.AdNorm.nD Cert.AdNorm.τ).loc Cert.AdNorm.main_arg0) = m ((c.tc : Thread Cert.AdNorm.nD Cert.AdNorm.τ).loc Cert.AdNorm.main_arg0)
      ∧ r.2.mem ((c.tc : Thread Cert.AdNorm.nD Cert.AdNorm.τ).loc Cert.AdNorm.main_arg1) = m ((c.tc : Thread Cert.AdNorm.nD Cert.AdNorm.τ).loc Cert.AdNorm.main_arg1)
      ∧ r.2.mem ((c.tc : Thread Cert.AdNorm.nD Cert.AdNorm.τ).loc Cert.AdNorm.main_arg2) = m ((c.tc : Thread Cert.AdNorm.nD Cert.AdNorm.τ).loc Cert.AdNorm.main_arg2)
      ∧ r.2.mem ((c.tc : Thread Cert.AdNorm.nD Cert.AdNorm.τ).loc Cert.AdNorm.main_arg3) = m ((c.tc : Thread Cert.AdNorm.nD Cert.AdNorm.τ).loc Cert.AdNorm.main_arg3))
      ∧ r.2.sem = fun _ => 0)

def quiescent_AdNormIdeal [hAdNormIdeal : Cert.AdNormIdeal.Facts] : Prop :=
  ∀ (m : (ℓ : Loc Cert.AdNormIdeal.nD Cert.AdNormIdeal.τ Cert.AdNormIdeal.sig) → Buf (Elt Ideal) ℓ) (g : Dev Cert.AdNormIdeal.nD → PrngReg), Pre_AdNormIdeal m →
    θ_run (Cert.AdNormIdeal.defs (F := Ideal)) (onTc (τ := Cert.AdNormIdeal.τ) (Cert.AdNormIdeal.main (F := Ideal))) ⟨m, fun _ => 0, g⟩ (fun r => (∀ c : Dev Cert.AdNormIdeal.nD,
      r.2.mem ((c.tc : Thread Cert.AdNormIdeal.nD Cert.AdNormIdeal.τ).loc Cert.AdNormIdeal.main_arg0) = m ((c.tc : Thread Cert.AdNormIdeal.nD Cert.AdNormIdeal.τ).loc Cert.AdNormIdeal.main_arg0)
      ∧ r.2.mem ((c.tc : Thread Cert.AdNormIdeal.nD Cert.AdNormIdeal.τ).loc Cert.AdNormIdeal.main_arg1) = m ((c.tc : Thread Cert.AdNormIdeal.nD Cert.AdNormIdeal.τ).loc Cert.AdNormIdeal.main_arg1)
      ∧ r.2.mem ((c.tc : Thread Cert.AdNormIdeal.nD Cert.AdNormIdeal.τ).loc Cert.AdNormIdeal.main_arg2) = m ((c.tc : Thread Cert.AdNormIdeal.nD Cert.AdNormIdeal.τ).loc Cert.AdNormIdeal.main_arg2)
      ∧ r.2.mem ((c.tc : Thread Cert.AdNormIdeal.nD Cert.AdNormIdeal.τ).loc Cert.AdNormIdeal.main_arg3) = m ((c.tc : Thread Cert.AdNormIdeal.nD Cert.AdNormIdeal.τ).loc Cert.AdNormIdeal.main_arg3))
      ∧ r.2.sem = fun _ => 0)

def quiescent_RefAdNormIdeal [hRefAdNormIdeal : Cert.RefAdNormIdeal.Facts] : Prop :=
  ∀ (m : (ℓ : Loc Cert.RefAdNormIdeal.nD Cert.RefAdNormIdeal.τ Cert.RefAdNormIdeal.sig) → Buf (Elt Ideal) ℓ) (g : Dev Cert.RefAdNormIdeal.nD → PrngReg), Pre_RefAdNormIdeal m →
    θ_run (Cert.RefAdNormIdeal.defs (F := Ideal)) (onTc (τ := Cert.RefAdNormIdeal.τ) (Cert.RefAdNormIdeal.main (F := Ideal))) ⟨m, fun _ => 0, g⟩ (fun r => (∀ c : Dev Cert.RefAdNormIdeal.nD,
      r.2.mem ((c.tc : Thread Cert.RefAdNormIdeal.nD Cert.RefAdNormIdeal.τ).loc Cert.RefAdNormIdeal.main_arg0) = m ((c.tc : Thread Cert.RefAdNormIdeal.nD Cert.RefAdNormIdeal.τ).loc Cert.RefAdNormIdeal.main_arg0)
      ∧ r.2.mem ((c.tc : Thread Cert.RefAdNormIdeal.nD Cert.RefAdNormIdeal.τ).loc Cert.RefAdNormIdeal.main_arg1) = m ((c.tc : Thread Cert.RefAdNormIdeal.nD Cert.RefAdNormIdeal.τ).loc Cert.RefAdNormIdeal.main_arg1)
      ∧ r.2.mem ((c.tc : Thread Cert.RefAdNormIdeal.nD Cert.RefAdNormIdeal.τ).loc Cert.RefAdNormIdeal.main_arg2) = m ((c.tc : Thread Cert.RefAdNormIdeal.nD Cert.RefAdNormIdeal.τ).loc Cert.RefAdNormIdeal.main_arg2)
      ∧ r.2.mem ((c.tc : Thread Cert.RefAdNormIdeal.nD Cert.RefAdNormIdeal.τ).loc Cert.RefAdNormIdeal.main_arg3) = m ((c.tc : Thread Cert.RefAdNormIdeal.nD Cert.RefAdNormIdeal.τ).loc Cert.RefAdNormIdeal.main_arg3))
      ∧ r.2.sem = fun _ => 0)

def quiescent_AdWa [hAdWa : Cert.AdWa.Facts] : Prop :=
  ∀ (m : (ℓ : Loc Cert.AdWa.nD Cert.AdWa.τ Cert.AdWa.sig) → Buf (Elt Bits) ℓ) (g : Dev Cert.AdWa.nD → PrngReg), Pre_AdWa m →
    θ_run (Cert.AdWa.defs (F := Bits)) (onTc (τ := Cert.AdWa.τ) (Cert.AdWa.main (F := Bits))) ⟨m, fun _ => 0, g⟩ (fun r => (∀ c : Dev Cert.AdWa.nD,
      r.2.mem ((c.tc : Thread Cert.AdWa.nD Cert.AdWa.τ).loc Cert.AdWa.main_arg0) = m ((c.tc : Thread Cert.AdWa.nD Cert.AdWa.τ).loc Cert.AdWa.main_arg0)
      ∧ r.2.mem ((c.tc : Thread Cert.AdWa.nD Cert.AdWa.τ).loc Cert.AdWa.main_arg1) = m ((c.tc : Thread Cert.AdWa.nD Cert.AdWa.τ).loc Cert.AdWa.main_arg1)
      ∧ r.2.mem ((c.tc : Thread Cert.AdWa.nD Cert.AdWa.τ).loc Cert.AdWa.main_arg2) = m ((c.tc : Thread Cert.AdWa.nD Cert.AdWa.τ).loc Cert.AdWa.main_arg2)
      ∧ r.2.mem ((c.tc : Thread Cert.AdWa.nD Cert.AdWa.τ).loc Cert.AdWa.main_arg3) = m ((c.tc : Thread Cert.AdWa.nD Cert.AdWa.τ).loc Cert.AdWa.main_arg3))
      ∧ r.2.sem = fun _ => 0)

def quiescent_AdWaIdeal [hAdWaIdeal : Cert.AdWaIdeal.Facts] : Prop :=
  ∀ (m : (ℓ : Loc Cert.AdWaIdeal.nD Cert.AdWaIdeal.τ Cert.AdWaIdeal.sig) → Buf (Elt Ideal) ℓ) (g : Dev Cert.AdWaIdeal.nD → PrngReg), Pre_AdWaIdeal m →
    θ_run (Cert.AdWaIdeal.defs (F := Ideal)) (onTc (τ := Cert.AdWaIdeal.τ) (Cert.AdWaIdeal.main (F := Ideal))) ⟨m, fun _ => 0, g⟩ (fun r => (∀ c : Dev Cert.AdWaIdeal.nD,
      r.2.mem ((c.tc : Thread Cert.AdWaIdeal.nD Cert.AdWaIdeal.τ).loc Cert.AdWaIdeal.main_arg0) = m ((c.tc : Thread Cert.AdWaIdeal.nD Cert.AdWaIdeal.τ).loc Cert.AdWaIdeal.main_arg0)
      ∧ r.2.mem ((c.tc : Thread Cert.AdWaIdeal.nD Cert.AdWaIdeal.τ).loc Cert.AdWaIdeal.main_arg1) = m ((c.tc : Thread Cert.AdWaIdeal.nD Cert.AdWaIdeal.τ).loc Cert.AdWaIdeal.main_arg1)
      ∧ r.2.mem ((c.tc : Thread Cert.AdWaIdeal.nD Cert.AdWaIdeal.τ).loc Cert.AdWaIdeal.main_arg2) = m ((c.tc : Thread Cert.AdWaIdeal.nD Cert.AdWaIdeal.τ).loc Cert.AdWaIdeal.main_arg2)
      ∧ r.2.mem ((c.tc : Thread Cert.AdWaIdeal.nD Cert.AdWaIdeal.τ).loc Cert.AdWaIdeal.main_arg3) = m ((c.tc : Thread Cert.AdWaIdeal.nD Cert.AdWaIdeal.τ).loc Cert.AdWaIdeal.main_arg3))
      ∧ r.2.sem = fun _ => 0)

def quiescent_RefAdWaIdeal [hRefAdWaIdeal : Cert.RefAdWaIdeal.Facts] : Prop :=
  ∀ (m : (ℓ : Loc Cert.RefAdWaIdeal.nD Cert.RefAdWaIdeal.τ Cert.RefAdWaIdeal.sig) → Buf (Elt Ideal) ℓ) (g : Dev Cert.RefAdWaIdeal.nD → PrngReg), Pre_RefAdWaIdeal m →
    θ_run (Cert.RefAdWaIdeal.defs (F := Ideal)) (onTc (τ := Cert.RefAdWaIdeal.τ) (Cert.RefAdWaIdeal.main (F := Ideal))) ⟨m, fun _ => 0, g⟩ (fun r => (∀ c : Dev Cert.RefAdWaIdeal.nD,
      r.2.mem ((c.tc : Thread Cert.RefAdWaIdeal.nD Cert.RefAdWaIdeal.τ).loc Cert.RefAdWaIdeal.main_arg0) = m ((c.tc : Thread Cert.RefAdWaIdeal.nD Cert.RefAdWaIdeal.τ).loc Cert.RefAdWaIdeal.main_arg0)
      ∧ r.2.mem ((c.tc : Thread Cert.RefAdWaIdeal.nD Cert.RefAdWaIdeal.τ).loc Cert.RefAdWaIdeal.main_arg1) = m ((c.tc : Thread Cert.RefAdWaIdeal.nD Cert.RefAdWaIdeal.τ).loc Cert.RefAdWaIdeal.main_arg1)
      ∧ r.2.mem ((c.tc : Thread Cert.RefAdWaIdeal.nD Cert.RefAdWaIdeal.τ).loc Cert.RefAdWaIdeal.main_arg2) = m ((c.tc : Thread Cert.RefAdWaIdeal.nD Cert.RefAdWaIdeal.τ).loc Cert.RefAdWaIdeal.main_arg2)
      ∧ r.2.mem ((c.tc : Thread Cert.RefAdWaIdeal.nD Cert.RefAdWaIdeal.τ).loc Cert.RefAdWaIdeal.main_arg3) = m ((c.tc : Thread Cert.RefAdWaIdeal.nD Cert.RefAdWaIdeal.τ).loc Cert.RefAdWaIdeal.main_arg3))
      ∧ r.2.sem = fun _ => 0)

def quiescent_AdBa [hAdBa : Cert.AdBa.Facts] : Prop :=
  ∀ (m : (ℓ : Loc Cert.AdBa.nD Cert.AdBa.τ Cert.AdBa.sig) → Buf (Elt Bits) ℓ) (g : Dev Cert.AdBa.nD → PrngReg), Pre_AdBa m →
    θ_run (Cert.AdBa.defs (F := Bits)) (onTc (τ := Cert.AdBa.τ) (Cert.AdBa.main (F := Bits))) ⟨m, fun _ => 0, g⟩ (fun r => (∀ c : Dev Cert.AdBa.nD,
      r.2.mem ((c.tc : Thread Cert.AdBa.nD Cert.AdBa.τ).loc Cert.AdBa.main_arg0) = m ((c.tc : Thread Cert.AdBa.nD Cert.AdBa.τ).loc Cert.AdBa.main_arg0)
      ∧ r.2.mem ((c.tc : Thread Cert.AdBa.nD Cert.AdBa.τ).loc Cert.AdBa.main_arg1) = m ((c.tc : Thread Cert.AdBa.nD Cert.AdBa.τ).loc Cert.AdBa.main_arg1)
      ∧ r.2.mem ((c.tc : Thread Cert.AdBa.nD Cert.AdBa.τ).loc Cert.AdBa.main_arg2) = m ((c.tc : Thread Cert.AdBa.nD Cert.AdBa.τ).loc Cert.AdBa.main_arg2)
      ∧ r.2.mem ((c.tc : Thread Cert.AdBa.nD Cert.AdBa.τ).loc Cert.AdBa.main_arg3) = m ((c.tc : Thread Cert.AdBa.nD Cert.AdBa.τ).loc Cert.AdBa.main_arg3))
      ∧ r.2.sem = fun _ => 0)

def quiescent_AdBaIdeal [hAdBaIdeal : Cert.AdBaIdeal.Facts] : Prop :=
  ∀ (m : (ℓ : Loc Cert.AdBaIdeal.nD Cert.AdBaIdeal.τ Cert.AdBaIdeal.sig) → Buf (Elt Ideal) ℓ) (g : Dev Cert.AdBaIdeal.nD → PrngReg), Pre_AdBaIdeal m →
    θ_run (Cert.AdBaIdeal.defs (F := Ideal)) (onTc (τ := Cert.AdBaIdeal.τ) (Cert.AdBaIdeal.main (F := Ideal))) ⟨m, fun _ => 0, g⟩ (fun r => (∀ c : Dev Cert.AdBaIdeal.nD,
      r.2.mem ((c.tc : Thread Cert.AdBaIdeal.nD Cert.AdBaIdeal.τ).loc Cert.AdBaIdeal.main_arg0) = m ((c.tc : Thread Cert.AdBaIdeal.nD Cert.AdBaIdeal.τ).loc Cert.AdBaIdeal.main_arg0)
      ∧ r.2.mem ((c.tc : Thread Cert.AdBaIdeal.nD Cert.AdBaIdeal.τ).loc Cert.AdBaIdeal.main_arg1) = m ((c.tc : Thread Cert.AdBaIdeal.nD Cert.AdBaIdeal.τ).loc Cert.AdBaIdeal.main_arg1)
      ∧ r.2.mem ((c.tc : Thread Cert.AdBaIdeal.nD Cert.AdBaIdeal.τ).loc Cert.AdBaIdeal.main_arg2) = m ((c.tc : Thread Cert.AdBaIdeal.nD Cert.AdBaIdeal.τ).loc Cert.AdBaIdeal.main_arg2)
      ∧ r.2.mem ((c.tc : Thread Cert.AdBaIdeal.nD Cert.AdBaIdeal.τ).loc Cert.AdBaIdeal.main_arg3) = m ((c.tc : Thread Cert.AdBaIdeal.nD Cert.AdBaIdeal.τ).loc Cert.AdBaIdeal.main_arg3))
      ∧ r.2.sem = fun _ => 0)

def quiescent_RefAdBaIdeal [hRefAdBaIdeal : Cert.RefAdBaIdeal.Facts] : Prop :=
  ∀ (m : (ℓ : Loc Cert.RefAdBaIdeal.nD Cert.RefAdBaIdeal.τ Cert.RefAdBaIdeal.sig) → Buf (Elt Ideal) ℓ) (g : Dev Cert.RefAdBaIdeal.nD → PrngReg), Pre_RefAdBaIdeal m →
    θ_run (Cert.RefAdBaIdeal.defs (F := Ideal)) (onTc (τ := Cert.RefAdBaIdeal.τ) (Cert.RefAdBaIdeal.main (F := Ideal))) ⟨m, fun _ => 0, g⟩ (fun r => (∀ c : Dev Cert.RefAdBaIdeal.nD,
      r.2.mem ((c.tc : Thread Cert.RefAdBaIdeal.nD Cert.RefAdBaIdeal.τ).loc Cert.RefAdBaIdeal.main_arg0) = m ((c.tc : Thread Cert.RefAdBaIdeal.nD Cert.RefAdBaIdeal.τ).loc Cert.RefAdBaIdeal.main_arg0)
      ∧ r.2.mem ((c.tc : Thread Cert.RefAdBaIdeal.nD Cert.RefAdBaIdeal.τ).loc Cert.RefAdBaIdeal.main_arg1) = m ((c.tc : Thread Cert.RefAdBaIdeal.nD Cert.RefAdBaIdeal.τ).loc Cert.RefAdBaIdeal.main_arg1)
      ∧ r.2.mem ((c.tc : Thread Cert.RefAdBaIdeal.nD Cert.RefAdBaIdeal.τ).loc Cert.RefAdBaIdeal.main_arg2) = m ((c.tc : Thread Cert.RefAdBaIdeal.nD Cert.RefAdBaIdeal.τ).loc Cert.RefAdBaIdeal.main_arg2)
      ∧ r.2.mem ((c.tc : Thread Cert.RefAdBaIdeal.nD Cert.RefAdBaIdeal.τ).loc Cert.RefAdBaIdeal.main_arg3) = m ((c.tc : Thread Cert.RefAdBaIdeal.nD Cert.RefAdBaIdeal.τ).loc Cert.RefAdBaIdeal.main_arg3))
      ∧ r.2.sem = fun _ => 0)

def quiescent_AdGn [hAdGn : Cert.AdGn.Facts] : Prop :=
  ∀ (m : (ℓ : Loc Cert.AdGn.nD Cert.AdGn.τ Cert.AdGn.sig) → Buf (Elt Bits) ℓ) (g : Dev Cert.AdGn.nD → PrngReg), Pre_AdGn m →
    θ_run (Cert.AdGn.defs (F := Bits)) (onTc (τ := Cert.AdGn.τ) (Cert.AdGn.main (F := Bits))) ⟨m, fun _ => 0, g⟩ (fun r => (∀ c : Dev Cert.AdGn.nD,
      r.2.mem ((c.tc : Thread Cert.AdGn.nD Cert.AdGn.τ).loc Cert.AdGn.main_arg0) = m ((c.tc : Thread Cert.AdGn.nD Cert.AdGn.τ).loc Cert.AdGn.main_arg0)
      ∧ r.2.mem ((c.tc : Thread Cert.AdGn.nD Cert.AdGn.τ).loc Cert.AdGn.main_arg1) = m ((c.tc : Thread Cert.AdGn.nD Cert.AdGn.τ).loc Cert.AdGn.main_arg1)
      ∧ r.2.mem ((c.tc : Thread Cert.AdGn.nD Cert.AdGn.τ).loc Cert.AdGn.main_arg2) = m ((c.tc : Thread Cert.AdGn.nD Cert.AdGn.τ).loc Cert.AdGn.main_arg2)
      ∧ r.2.mem ((c.tc : Thread Cert.AdGn.nD Cert.AdGn.τ).loc Cert.AdGn.main_arg3) = m ((c.tc : Thread Cert.AdGn.nD Cert.AdGn.τ).loc Cert.AdGn.main_arg3))
      ∧ r.2.sem = fun _ => 0)

def quiescent_AdGnIdeal [hAdGnIdeal : Cert.AdGnIdeal.Facts] : Prop :=
  ∀ (m : (ℓ : Loc Cert.AdGnIdeal.nD Cert.AdGnIdeal.τ Cert.AdGnIdeal.sig) → Buf (Elt Ideal) ℓ) (g : Dev Cert.AdGnIdeal.nD → PrngReg), Pre_AdGnIdeal m →
    θ_run (Cert.AdGnIdeal.defs (F := Ideal)) (onTc (τ := Cert.AdGnIdeal.τ) (Cert.AdGnIdeal.main (F := Ideal))) ⟨m, fun _ => 0, g⟩ (fun r => (∀ c : Dev Cert.AdGnIdeal.nD,
      r.2.mem ((c.tc : Thread Cert.AdGnIdeal.nD Cert.AdGnIdeal.τ).loc Cert.AdGnIdeal.main_arg0) = m ((c.tc : Thread Cert.AdGnIdeal.nD Cert.AdGnIdeal.τ).loc Cert.AdGnIdeal.main_arg0)
      ∧ r.2.mem ((c.tc : Thread Cert.AdGnIdeal.nD Cert.AdGnIdeal.τ).loc Cert.AdGnIdeal.main_arg1) = m ((c.tc : Thread Cert.AdGnIdeal.nD Cert.AdGnIdeal.τ).loc Cert.AdGnIdeal.main_arg1)
      ∧ r.2.mem ((c.tc : Thread Cert.AdGnIdeal.nD Cert.AdGnIdeal.τ).loc Cert.AdGnIdeal.main_arg2) = m ((c.tc : Thread Cert.AdGnIdeal.nD Cert.AdGnIdeal.τ).loc Cert.AdGnIdeal.main_arg2)
      ∧ r.2.mem ((c.tc : Thread Cert.AdGnIdeal.nD Cert.AdGnIdeal.τ).loc Cert.AdGnIdeal.main_arg3) = m ((c.tc : Thread Cert.AdGnIdeal.nD Cert.AdGnIdeal.τ).loc Cert.AdGnIdeal.main_arg3))
      ∧ r.2.sem = fun _ => 0)

def quiescent_RefAdGnIdeal [hRefAdGnIdeal : Cert.RefAdGnIdeal.Facts] : Prop :=
  ∀ (m : (ℓ : Loc Cert.RefAdGnIdeal.nD Cert.RefAdGnIdeal.τ Cert.RefAdGnIdeal.sig) → Buf (Elt Ideal) ℓ) (g : Dev Cert.RefAdGnIdeal.nD → PrngReg), Pre_RefAdGnIdeal m →
    θ_run (Cert.RefAdGnIdeal.defs (F := Ideal)) (onTc (τ := Cert.RefAdGnIdeal.τ) (Cert.RefAdGnIdeal.main (F := Ideal))) ⟨m, fun _ => 0, g⟩ (fun r => (∀ c : Dev Cert.RefAdGnIdeal.nD,
      r.2.mem ((c.tc : Thread Cert.RefAdGnIdeal.nD Cert.RefAdGnIdeal.τ).loc Cert.RefAdGnIdeal.main_arg0) = m ((c.tc : Thread Cert.RefAdGnIdeal.nD Cert.RefAdGnIdeal.τ).loc Cert.RefAdGnIdeal.main_arg0)
      ∧ r.2.mem ((c.tc : Thread Cert.RefAdGnIdeal.nD Cert.RefAdGnIdeal.τ).loc Cert.RefAdGnIdeal.main_arg1) = m ((c.tc : Thread Cert.RefAdGnIdeal.nD Cert.RefAdGnIdeal.τ).loc Cert.RefAdGnIdeal.main_arg1)
      ∧ r.2.mem ((c.tc : Thread Cert.RefAdGnIdeal.nD Cert.RefAdGnIdeal.τ).loc Cert.RefAdGnIdeal.main_arg2) = m ((c.tc : Thread Cert.RefAdGnIdeal.nD Cert.RefAdGnIdeal.τ).loc Cert.RefAdGnIdeal.main_arg2)
      ∧ r.2.mem ((c.tc : Thread Cert.RefAdGnIdeal.nD Cert.RefAdGnIdeal.τ).loc Cert.RefAdGnIdeal.main_arg3) = m ((c.tc : Thread Cert.RefAdGnIdeal.nD Cert.RefAdGnIdeal.τ).loc Cert.RefAdGnIdeal.main_arg3))
      ∧ r.2.sem = fun _ => 0)

def quiescent_AdCw [hAdCw : Cert.AdCw.Facts] : Prop :=
  ∀ (m : (ℓ : Loc Cert.AdCw.nD Cert.AdCw.τ Cert.AdCw.sig) → Buf (Elt Bits) ℓ) (g : Dev Cert.AdCw.nD → PrngReg), Pre_AdCw m →
    θ_run (Cert.AdCw.defs (F := Bits)) (onTc (τ := Cert.AdCw.τ) (Cert.AdCw.main (F := Bits))) ⟨m, fun _ => 0, g⟩ (fun r => (∀ c : Dev Cert.AdCw.nD,
      r.2.mem ((c.tc : Thread Cert.AdCw.nD Cert.AdCw.τ).loc Cert.AdCw.main_arg0) = m ((c.tc : Thread Cert.AdCw.nD Cert.AdCw.τ).loc Cert.AdCw.main_arg0)
      ∧ r.2.mem ((c.tc : Thread Cert.AdCw.nD Cert.AdCw.τ).loc Cert.AdCw.main_arg1) = m ((c.tc : Thread Cert.AdCw.nD Cert.AdCw.τ).loc Cert.AdCw.main_arg1)
      ∧ r.2.mem ((c.tc : Thread Cert.AdCw.nD Cert.AdCw.τ).loc Cert.AdCw.main_arg2) = m ((c.tc : Thread Cert.AdCw.nD Cert.AdCw.τ).loc Cert.AdCw.main_arg2)
      ∧ r.2.mem ((c.tc : Thread Cert.AdCw.nD Cert.AdCw.τ).loc Cert.AdCw.main_arg3) = m ((c.tc : Thread Cert.AdCw.nD Cert.AdCw.τ).loc Cert.AdCw.main_arg3))
      ∧ r.2.sem = fun _ => 0)

def quiescent_AdCwIdeal [hAdCwIdeal : Cert.AdCwIdeal.Facts] : Prop :=
  ∀ (m : (ℓ : Loc Cert.AdCwIdeal.nD Cert.AdCwIdeal.τ Cert.AdCwIdeal.sig) → Buf (Elt Ideal) ℓ) (g : Dev Cert.AdCwIdeal.nD → PrngReg), Pre_AdCwIdeal m →
    θ_run (Cert.AdCwIdeal.defs (F := Ideal)) (onTc (τ := Cert.AdCwIdeal.τ) (Cert.AdCwIdeal.main (F := Ideal))) ⟨m, fun _ => 0, g⟩ (fun r => (∀ c : Dev Cert.AdCwIdeal.nD,
      r.2.mem ((c.tc : Thread Cert.AdCwIdeal.nD Cert.AdCwIdeal.τ).loc Cert.AdCwIdeal.main_arg0) = m ((c.tc : Thread Cert.AdCwIdeal.nD Cert.AdCwIdeal.τ).loc Cert.AdCwIdeal.main_arg0)
      ∧ r.2.mem ((c.tc : Thread Cert.AdCwIdeal.nD Cert.AdCwIdeal.τ).loc Cert.AdCwIdeal.main_arg1) = m ((c.tc : Thread Cert.AdCwIdeal.nD Cert.AdCwIdeal.τ).loc Cert.AdCwIdeal.main_arg1)
      ∧ r.2.mem ((c.tc : Thread Cert.AdCwIdeal.nD Cert.AdCwIdeal.τ).loc Cert.AdCwIdeal.main_arg2) = m ((c.tc : Thread Cert.AdCwIdeal.nD Cert.AdCwIdeal.τ).loc Cert.AdCwIdeal.main_arg2)
      ∧ r.2.mem ((c.tc : Thread Cert.AdCwIdeal.nD Cert.AdCwIdeal.τ).loc Cert.AdCwIdeal.main_arg3) = m ((c.tc : Thread Cert.AdCwIdeal.nD Cert.AdCwIdeal.τ).loc Cert.AdCwIdeal.main_arg3))
      ∧ r.2.sem = fun _ => 0)

def quiescent_RefAdCwIdeal [hRefAdCwIdeal : Cert.RefAdCwIdeal.Facts] : Prop :=
  ∀ (m : (ℓ : Loc Cert.RefAdCwIdeal.nD Cert.RefAdCwIdeal.τ Cert.RefAdCwIdeal.sig) → Buf (Elt Ideal) ℓ) (g : Dev Cert.RefAdCwIdeal.nD → PrngReg), Pre_RefAdCwIdeal m →
    θ_run (Cert.RefAdCwIdeal.defs (F := Ideal)) (onTc (τ := Cert.RefAdCwIdeal.τ) (Cert.RefAdCwIdeal.main (F := Ideal))) ⟨m, fun _ => 0, g⟩ (fun r => (∀ c : Dev Cert.RefAdCwIdeal.nD,
      r.2.mem ((c.tc : Thread Cert.RefAdCwIdeal.nD Cert.RefAdCwIdeal.τ).loc Cert.RefAdCwIdeal.main_arg0) = m ((c.tc : Thread Cert.RefAdCwIdeal.nD Cert.RefAdCwIdeal.τ).loc Cert.RefAdCwIdeal.main_arg0)
      ∧ r.2.mem ((c.tc : Thread Cert.RefAdCwIdeal.nD Cert.RefAdCwIdeal.τ).loc Cert.RefAdCwIdeal.main_arg1) = m ((c.tc : Thread Cert.RefAdCwIdeal.nD Cert.RefAdCwIdeal.τ).loc Cert.RefAdCwIdeal.main_arg1)
      ∧ r.2.mem ((c.tc : Thread Cert.RefAdCwIdeal.nD Cert.RefAdCwIdeal.τ).loc Cert.RefAdCwIdeal.main_arg2) = m ((c.tc : Thread Cert.RefAdCwIdeal.nD Cert.RefAdCwIdeal.τ).loc Cert.RefAdCwIdeal.main_arg2)
      ∧ r.2.mem ((c.tc : Thread Cert.RefAdCwIdeal.nD Cert.RefAdCwIdeal.τ).loc Cert.RefAdCwIdeal.main_arg3) = m ((c.tc : Thread Cert.RefAdCwIdeal.nD Cert.RefAdCwIdeal.τ).loc Cert.RefAdCwIdeal.main_arg3))
      ∧ r.2.sem = fun _ => 0)

def quiescent_AdFw [hAdFw : Cert.AdFw.Facts] : Prop :=
  ∀ (m : (ℓ : Loc Cert.AdFw.nD Cert.AdFw.τ Cert.AdFw.sig) → Buf (Elt Bits) ℓ) (g : Dev Cert.AdFw.nD → PrngReg), Pre_AdFw m →
    θ_run (Cert.AdFw.defs (F := Bits)) (onTc (τ := Cert.AdFw.τ) (Cert.AdFw.main (F := Bits))) ⟨m, fun _ => 0, g⟩ (fun r => (∀ c : Dev Cert.AdFw.nD,
      r.2.mem ((c.tc : Thread Cert.AdFw.nD Cert.AdFw.τ).loc Cert.AdFw.main_arg0) = m ((c.tc : Thread Cert.AdFw.nD Cert.AdFw.τ).loc Cert.AdFw.main_arg0)
      ∧ r.2.mem ((c.tc : Thread Cert.AdFw.nD Cert.AdFw.τ).loc Cert.AdFw.main_arg1) = m ((c.tc : Thread Cert.AdFw.nD Cert.AdFw.τ).loc Cert.AdFw.main_arg1)
      ∧ r.2.mem ((c.tc : Thread Cert.AdFw.nD Cert.AdFw.τ).loc Cert.AdFw.main_arg2) = m ((c.tc : Thread Cert.AdFw.nD Cert.AdFw.τ).loc Cert.AdFw.main_arg2)
      ∧ r.2.mem ((c.tc : Thread Cert.AdFw.nD Cert.AdFw.τ).loc Cert.AdFw.main_arg3) = m ((c.tc : Thread Cert.AdFw.nD Cert.AdFw.τ).loc Cert.AdFw.main_arg3))
      ∧ r.2.sem = fun _ => 0)

def quiescent_AdFwIdeal [hAdFwIdeal : Cert.AdFwIdeal.Facts] : Prop :=
  ∀ (m : (ℓ : Loc Cert.AdFwIdeal.nD Cert.AdFwIdeal.τ Cert.AdFwIdeal.sig) → Buf (Elt Ideal) ℓ) (g : Dev Cert.AdFwIdeal.nD → PrngReg), Pre_AdFwIdeal m →
    θ_run (Cert.AdFwIdeal.defs (F := Ideal)) (onTc (τ := Cert.AdFwIdeal.τ) (Cert.AdFwIdeal.main (F := Ideal))) ⟨m, fun _ => 0, g⟩ (fun r => (∀ c : Dev Cert.AdFwIdeal.nD,
      r.2.mem ((c.tc : Thread Cert.AdFwIdeal.nD Cert.AdFwIdeal.τ).loc Cert.AdFwIdeal.main_arg0) = m ((c.tc : Thread Cert.AdFwIdeal.nD Cert.AdFwIdeal.τ).loc Cert.AdFwIdeal.main_arg0)
      ∧ r.2.mem ((c.tc : Thread Cert.AdFwIdeal.nD Cert.AdFwIdeal.τ).loc Cert.AdFwIdeal.main_arg1) = m ((c.tc : Thread Cert.AdFwIdeal.nD Cert.AdFwIdeal.τ).loc Cert.AdFwIdeal.main_arg1)
      ∧ r.2.mem ((c.tc : Thread Cert.AdFwIdeal.nD Cert.AdFwIdeal.τ).loc Cert.AdFwIdeal.main_arg2) = m ((c.tc : Thread Cert.AdFwIdeal.nD Cert.AdFwIdeal.τ).loc Cert.AdFwIdeal.main_arg2)
      ∧ r.2.mem ((c.tc : Thread Cert.AdFwIdeal.nD Cert.AdFwIdeal.τ).loc Cert.AdFwIdeal.main_arg3) = m ((c.tc : Thread Cert.AdFwIdeal.nD Cert.AdFwIdeal.τ).loc Cert.AdFwIdeal.main_arg3))
      ∧ r.2.sem = fun _ => 0)

def quiescent_RefAdFwIdeal [hRefAdFwIdeal : Cert.RefAdFwIdeal.Facts] : Prop :=
  ∀ (m : (ℓ : Loc Cert.RefAdFwIdeal.nD Cert.RefAdFwIdeal.τ Cert.RefAdFwIdeal.sig) → Buf (Elt Ideal) ℓ) (g : Dev Cert.RefAdFwIdeal.nD → PrngReg), Pre_RefAdFwIdeal m →
    θ_run (Cert.RefAdFwIdeal.defs (F := Ideal)) (onTc (τ := Cert.RefAdFwIdeal.τ) (Cert.RefAdFwIdeal.main (F := Ideal))) ⟨m, fun _ => 0, g⟩ (fun r => (∀ c : Dev Cert.RefAdFwIdeal.nD,
      r.2.mem ((c.tc : Thread Cert.RefAdFwIdeal.nD Cert.RefAdFwIdeal.τ).loc Cert.RefAdFwIdeal.main_arg0) = m ((c.tc : Thread Cert.RefAdFwIdeal.nD Cert.RefAdFwIdeal.τ).loc Cert.RefAdFwIdeal.main_arg0)
      ∧ r.2.mem ((c.tc : Thread Cert.RefAdFwIdeal.nD Cert.RefAdFwIdeal.τ).loc Cert.RefAdFwIdeal.main_arg1) = m ((c.tc : Thread Cert.RefAdFwIdeal.nD Cert.RefAdFwIdeal.τ).loc Cert.RefAdFwIdeal.main_arg1)
      ∧ r.2.mem ((c.tc : Thread Cert.RefAdFwIdeal.nD Cert.RefAdFwIdeal.τ).loc Cert.RefAdFwIdeal.main_arg2) = m ((c.tc : Thread Cert.RefAdFwIdeal.nD Cert.RefAdFwIdeal.τ).loc Cert.RefAdFwIdeal.main_arg2)
      ∧ r.2.mem ((c.tc : Thread Cert.RefAdFwIdeal.nD Cert.RefAdFwIdeal.τ).loc Cert.RefAdFwIdeal.main_arg3) = m ((c.tc : Thread Cert.RefAdFwIdeal.nD Cert.RefAdFwIdeal.τ).loc Cert.RefAdFwIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v3_0)) (v2 : (c : Dev Cert.KernelIdeal.nD) → Buf (Elt Ideal) ((c.tc : Thread Cert.KernelIdeal.nD Cert.KernelIdeal.τ).loc Cert.KernelIdeal.main_v4)) (v3 : (c : Dev Cert.KernelIdeal.nD) → Buf (Elt Ideal) ((c.tc : Thread Cert.KernelIdeal.nD Cert.KernelIdeal.τ).loc Cert.KernelIdeal.main_v5)) (v4 : (c : Dev Cert.KernelIdeal.nD) → Buf (Elt Ideal) ((c.tc : Thread Cert.KernelIdeal.nD Cert.KernelIdeal.τ).loc Cert.KernelIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v3_0) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_v5) = v3 c
          ∧ r.2.mem ((c.tc : Thread Cert.KernelIdeal.nD Cert.KernelIdeal.τ).loc Cert.KernelIdeal.main_v3_3) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_v73) = v2 c
          ∧ r.2.mem ((c.tc : Thread Cert.ReferenceIdeal.nD Cert.ReferenceIdeal.τ).loc Cert.ReferenceIdeal.main_v71) = v3 c
          ∧ r.2.mem ((c.tc : Thread Cert.ReferenceIdeal.nD Cert.ReferenceIdeal.τ).loc Cert.ReferenceIdeal.main_v69) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_InDw_InDwIdeal : Prop :=
  True

def algebraic_InDwIdeal_RefInDwIdeal [hInDwIdeal : Cert.InDwIdeal.Facts] [hRefInDwIdeal : Cert.RefInDwIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.RefInDwIdeal.nD Cert.RefInDwIdeal.τ Cert.RefInDwIdeal.sig) → Buf (Elt Ideal) ℓ) (g' : Dev Cert.RefInDwIdeal.nD → PrngReg), Pre_InDwIdeal m →
    (∀ c : Dev Cert.InDwIdeal.nD,
      m' ((c.tc : Thread Cert.RefInDwIdeal.nD Cert.RefInDwIdeal.τ).loc Cert.RefInDwIdeal.main_arg0) = m ((c.tc : Thread Cert.InDwIdeal.nD Cert.InDwIdeal.τ).loc Cert.InDwIdeal.main_arg0)
      ∧ m' ((c.tc : Thread Cert.RefInDwIdeal.nD Cert.RefInDwIdeal.τ).loc Cert.RefInDwIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.RefInDwIdeal.defs (F := Ideal)) (onTc (τ := Cert.RefInDwIdeal.τ) (Cert.RefInDwIdeal.main (F := Ideal))) ⟨m', fun _ => 0, g'⟩ (fun r => ∀ c : Dev Cert.RefInDwIdeal.nD,
          r.2.mem ((c.tc : Thread Cert.RefInDwIdeal.nD Cert.RefInDwIdeal.τ).loc Cert.RefInDwIdeal.main_v6) = v0 c
          ∧ r.2.mem ((c.tc : Thread Cert.RefInDwIdeal.nD Cert.RefInDwIdeal.τ).loc Cert.RefInDwIdeal.main_arg0) = m' ((c.tc : Thread Cert.RefInDwIdeal.nD Cert.RefInDwIdeal.τ).loc Cert.RefInDwIdeal.main_arg0)
          ∧ r.2.mem ((c.tc : Thread Cert.RefInDwIdeal.nD Cert.RefInDwIdeal.τ).loc Cert.RefInDwIdeal.main_arg1) = m' ((c.tc : Thread Cert.RefInDwIdeal.nD Cert.RefInDwIdeal.τ).loc Cert.RefInDwIdeal.main_arg1))

def preserves_InDx_InDxIdeal : Prop :=
  True

def algebraic_InDxIdeal_RefInDxIdeal [hInDxIdeal : Cert.InDxIdeal.Facts] [hRefInDxIdeal : Cert.RefInDxIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.RefInDxIdeal.nD Cert.RefInDxIdeal.τ Cert.RefInDxIdeal.sig) → Buf (Elt Ideal) ℓ) (g' : Dev Cert.RefInDxIdeal.nD → PrngReg), Pre_InDxIdeal m →
    (∀ c : Dev Cert.InDxIdeal.nD,
      m' ((c.tc : Thread Cert.RefInDxIdeal.nD Cert.RefInDxIdeal.τ).loc Cert.RefInDxIdeal.main_arg0) = m ((c.tc : Thread Cert.InDxIdeal.nD Cert.InDxIdeal.τ).loc Cert.InDxIdeal.main_arg0)
      ∧ m' ((c.tc : Thread Cert.RefInDxIdeal.nD Cert.RefInDxIdeal.τ).loc Cert.RefInDxIdeal.main_arg1) = m ((c.tc : Thread Cert.InDxIdeal.nD Cert.InDxIdeal.τ).loc Cert.InDxIdeal.main_arg1)) →
    ∃ (v0 : (c : Dev Cert.InDxIdeal.nD) → Buf (Elt Ideal) ((c.tc : Thread Cert.InDxIdeal.nD Cert.InDxIdeal.τ).loc Cert.InDxIdeal.main_v0)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v0) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ θ_run (Cert.RefInDxIdeal.defs (F := Ideal)) (onTc (τ := Cert.RefInDxIdeal.τ) (Cert.RefInDxIdeal.main (F := Ideal))) ⟨m', fun _ => 0, g'⟩ (fun r => ∀ c : Dev Cert.RefInDxIdeal.nD,
          r.2.mem ((c.tc : Thread Cert.RefInDxIdeal.nD Cert.RefInDxIdeal.τ).loc Cert.RefInDxIdeal.main_v4) = v0 c
          ∧ r.2.mem ((c.tc : Thread Cert.RefInDxIdeal.nD Cert.RefInDxIdeal.τ).loc Cert.RefInDxIdeal.main_arg0) = m' ((c.tc : Thread Cert.RefInDxIdeal.nD Cert.RefInDxIdeal.τ).loc Cert.RefInDxIdeal.main_arg0)
          ∧ r.2.mem ((c.tc : Thread Cert.RefInDxIdeal.nD Cert.RefInDxIdeal.τ).loc Cert.RefInDxIdeal.main_arg1) = m' ((c.tc : Thread Cert.RefInDxIdeal.nD Cert.RefInDxIdeal.τ).loc Cert.RefInDxIdeal.main_arg1))

def preserves_UpDw_UpDwIdeal : Prop :=
  True

def algebraic_UpDwIdeal_RefUpDwIdeal [hUpDwIdeal : Cert.UpDwIdeal.Facts] [hRefUpDwIdeal : Cert.RefUpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.RefUpDwIdeal.nD Cert.RefUpDwIdeal.τ Cert.RefUpDwIdeal.sig) → Buf (Elt Ideal) ℓ) (g' : Dev Cert.RefUpDwIdeal.nD → PrngReg), Pre_UpDwIdeal m →
    (∀ c : Dev Cert.UpDwIdeal.nD,
      m' ((c.tc : Thread Cert.RefUpDwIdeal.nD Cert.RefUpDwIdeal.τ).loc Cert.RefUpDwIdeal.main_arg0) = m ((c.tc : Thread Cert.UpDwIdeal.nD Cert.UpDwIdeal.τ).loc Cert.UpDwIdeal.main_arg0)
      ∧ m' ((c.tc : Thread Cert.RefUpDwIdeal.nD Cert.RefUpDwIdeal.τ).loc Cert.RefUpDwIdeal.main_arg1) = m ((c.tc : Thread Cert.UpDwIdeal.nD Cert.UpDwIdeal.τ).loc Cert.UpDwIdeal.main_arg1)
      ∧ m' ((c.tc : Thread Cert.RefUpDwIdeal.nD Cert.RefUpDwIdeal.τ).loc Cert.RefUpDwIdeal.main_arg2) = m ((c.tc : Thread Cert.UpDwIdeal.nD Cert.UpDwIdeal.τ).loc Cert.UpDwIdeal.main_arg2)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1)
          ∧ r.2.mem ((c.tc : Thread Cert.UpDwIdeal.nD Cert.UpDwIdeal.τ).loc Cert.UpDwIdeal.main_arg2) = m ((c.tc : Thread Cert.UpDwIdeal.nD Cert.UpDwIdeal.τ).loc Cert.UpDwIdeal.main_arg2))
      ∧ θ_run (Cert.RefUpDwIdeal.defs (F := Ideal)) (onTc (τ := Cert.RefUpDwIdeal.τ) (Cert.RefUpDwIdeal.main (F := Ideal))) ⟨m', fun _ => 0, g'⟩ (fun r => ∀ c : Dev Cert.RefUpDwIdeal.nD,
          r.2.mem ((c.tc : Thread Cert.RefUpDwIdeal.nD Cert.RefUpDwIdeal.τ).loc Cert.RefUpDwIdeal.main_v14) = v0 c
          ∧ r.2.mem ((c.tc : Thread Cert.RefUpDwIdeal.nD Cert.RefUpDwIdeal.τ).loc Cert.RefUpDwIdeal.main_arg0) = m' ((c.tc : Thread Cert.RefUpDwIdeal.nD Cert.RefUpDwIdeal.τ).loc Cert.RefUpDwIdeal.main_arg0)
          ∧ r.2.mem ((c.tc : Thread Cert.RefUpDwIdeal.nD Cert.RefUpDwIdeal.τ).loc Cert.RefUpDwIdeal.main_arg1) = m' ((c.tc : Thread Cert.RefUpDwIdeal.nD Cert.RefUpDwIdeal.τ).loc Cert.RefUpDwIdeal.main_arg1)
          ∧ r.2.mem ((c.tc : Thread Cert.RefUpDwIdeal.nD Cert.RefUpDwIdeal.τ).loc Cert.RefUpDwIdeal.main_arg2) = m' ((c.tc : Thread Cert.RefUpDwIdeal.nD Cert.RefUpDwIdeal.τ).loc Cert.RefUpDwIdeal.main_arg2))

def preserves_UpDx_UpDxIdeal : Prop :=
  True

def algebraic_UpDxIdeal_RefUpDxIdeal [hUpDxIdeal : Cert.UpDxIdeal.Facts] [hRefUpDxIdeal : Cert.RefUpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.RefUpDxIdeal.nD Cert.RefUpDxIdeal.τ Cert.RefUpDxIdeal.sig) → Buf (Elt Ideal) ℓ) (g' : Dev Cert.RefUpDxIdeal.nD → PrngReg), Pre_UpDxIdeal m →
    (∀ c : Dev Cert.UpDxIdeal.nD,
      m' ((c.tc : Thread Cert.RefUpDxIdeal.nD Cert.RefUpDxIdeal.τ).loc Cert.RefUpDxIdeal.main_arg0) = m ((c.tc : Thread Cert.UpDxIdeal.nD Cert.UpDxIdeal.τ).loc Cert.UpDxIdeal.main_arg0)
      ∧ m' ((c.tc : Thread Cert.RefUpDxIdeal.nD Cert.RefUpDxIdeal.τ).loc Cert.RefUpDxIdeal.main_arg1) = m ((c.tc : Thread Cert.UpDxIdeal.nD Cert.UpDxIdeal.τ).loc Cert.UpDxIdeal.main_arg1)
      ∧ m' ((c.tc : Thread Cert.RefUpDxIdeal.nD Cert.RefUpDxIdeal.τ).loc Cert.RefUpDxIdeal.main_arg2) = m ((c.tc : Thread Cert.UpDxIdeal.nD Cert.UpDxIdeal.τ).loc Cert.UpDxIdeal.main_arg2)) →
    ∃ (v0 : (c : Dev Cert.UpDxIdeal.nD) → Buf (Elt Ideal) ((c.tc : Thread Cert.UpDxIdeal.nD Cert.UpDxIdeal.τ).loc Cert.UpDxIdeal.main_v0)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v0) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
          ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2))
      ∧ θ_run (Cert.RefUpDxIdeal.defs (F := Ideal)) (onTc (τ := Cert.RefUpDxIdeal.τ) (Cert.RefUpDxIdeal.main (F := Ideal))) ⟨m', fun _ => 0, g'⟩ (fun r => ∀ c : Dev Cert.RefUpDxIdeal.nD,
          r.2.mem ((c.tc : Thread Cert.RefUpDxIdeal.nD Cert.RefUpDxIdeal.τ).loc Cert.RefUpDxIdeal.main_v10) = v0 c
          ∧ r.2.mem ((c.tc : Thread Cert.RefUpDxIdeal.nD Cert.RefUpDxIdeal.τ).loc Cert.RefUpDxIdeal.main_arg0) = m' ((c.tc : Thread Cert.RefUpDxIdeal.nD Cert.RefUpDxIdeal.τ).loc Cert.RefUpDxIdeal.main_arg0)
          ∧ r.2.mem ((c.tc : Thread Cert.RefUpDxIdeal.nD Cert.RefUpDxIdeal.τ).loc Cert.RefUpDxIdeal.main_arg1) = m' ((c.tc : Thread Cert.RefUpDxIdeal.nD Cert.RefUpDxIdeal.τ).loc Cert.RefUpDxIdeal.main_arg1)
          ∧ r.2.mem ((c.tc : Thread Cert.RefUpDxIdeal.nD Cert.RefUpDxIdeal.τ).loc Cert.RefUpDxIdeal.main_arg2) = m' ((c.tc : Thread Cert.RefUpDxIdeal.nD Cert.RefUpDxIdeal.τ).loc Cert.RefUpDxIdeal.main_arg2))

def preserves_DnDw_DnDwIdeal : Prop :=
  True

def algebraic_DnDwIdeal_RefDnDwIdeal [hDnDwIdeal : Cert.DnDwIdeal.Facts] [hRefDnDwIdeal : Cert.RefDnDwIdeal.Facts] : Prop :=
  ∀ (m : (ℓ : Loc Cert.DnDwIdeal.nD Cert.DnDwIdeal.τ Cert.DnDwIdeal.sig) → Buf (Elt Ideal) ℓ) (g : Dev Cert.DnDwIdeal.nD → PrngReg)
    (m' : (ℓ : Loc Cert.RefDnDwIdeal.nD Cert.RefDnDwIdeal.τ Cert.RefDnDwIdeal.sig) → Buf (Elt Ideal) ℓ) (g' : Dev Cert.RefDnDwIdeal.nD → PrngReg), Pre_DnDwIdeal m →
    (∀ c : Dev Cert.DnDwIdeal.nD,
      m' ((c.tc : Thread Cert.RefDnDwIdeal.nD Cert.RefDnDwIdeal.τ).loc Cert.RefDnDwIdeal.main_arg0) = m ((c.tc : Thread Cert.DnDwIdeal.nD Cert.DnDwIdeal.τ).loc Cert.DnDwIdeal.main_arg0)
      ∧ m' ((c.tc : Thread Cert.RefDnDwIdeal.nD Cert.RefDnDwIdeal.τ).loc Cert.RefDnDwIdeal.main_arg1) = m ((c.tc : Thread Cert.DnDwIdeal.nD Cert.DnDwIdeal.τ).loc Cert.DnDwIdeal.main_arg1)) →
    ∃ (v0 : (c : Dev Cert.DnDwIdeal.nD) → Buf (Elt Ideal) ((c.tc : Thread Cert.DnDwIdeal.nD Cert.DnDwIdeal.τ).loc Cert.DnDwIdeal.main_v0)),
      θ_run (Cert.DnDwIdeal.defs (F := Ideal)) (onTc (τ := Cert.DnDwIdeal.τ) (Cert.DnDwIdeal.main (F := Ideal))) ⟨m, fun _ => 0, g⟩ (fun r => ∀ c : Dev Cert.DnDwIdeal.nD,
          r.2.mem ((c.tc : Thread Cert.DnDwIdeal.nD Cert.DnDwIdeal.τ).loc Cert.DnDwIdeal.main_v0) = v0 c
          ∧ r.2.mem ((c.tc : Thread Cert.DnDwIdeal.nD Cert.DnDwIdeal.τ).loc Cert.DnDwIdeal.main_arg0) = m ((c.tc : Thread Cert.DnDwIdeal.nD Cert.DnDwIdeal.τ).loc Cert.DnDwIdeal.main_arg0)
          ∧ r.2.mem ((c.tc : Thread Cert.DnDwIdeal.nD Cert.DnDwIdeal.τ).loc Cert.DnDwIdeal.main_arg1) = m ((c.tc : Thread Cert.DnDwIdeal.nD Cert.DnDwIdeal.τ).loc Cert.DnDwIdeal.main_arg1))
      ∧ θ_run (Cert.RefDnDwIdeal.defs (F := Ideal)) (onTc (τ := Cert.RefDnDwIdeal.τ) (Cert.RefDnDwIdeal.main (F := Ideal))) ⟨m', fun _ => 0, g'⟩ (fun r => ∀ c : Dev Cert.RefDnDwIdeal.nD,
          r.2.mem ((c.tc : Thread Cert.RefDnDwIdeal.nD Cert.RefDnDwIdeal.τ).loc Cert.RefDnDwIdeal.main_v6) = v0 c
          ∧ r.2.mem ((c.tc : Thread Cert.RefDnDwIdeal.nD Cert.RefDnDwIdeal.τ).loc Cert.RefDnDwIdeal.main_arg0) = m' ((c.tc : Thread Cert.RefDnDwIdeal.nD Cert.RefDnDwIdeal.τ).loc Cert.RefDnDwIdeal.main_arg0)
          ∧ r.2.mem ((c.tc : Thread Cert.RefDnDwIdeal.nD Cert.RefDnDwIdeal.τ).loc Cert.RefDnDwIdeal.main_arg1) = m' ((c.tc : Thread Cert.RefDnDwIdeal.nD Cert.RefDnDwIdeal.τ).loc Cert.RefDnDwIdeal.main_arg1))

def preserves_DnDx_DnDxIdeal : Prop :=
  True

def algebraic_DnDxIdeal_RefDnDxIdeal [hDnDxIdeal : Cert.DnDxIdeal.Facts] [hRefDnDxIdeal : Cert.RefDnDxIdeal.Facts] : Prop :=
  ∀ (m : (ℓ : Loc Cert.DnDxIdeal.nD Cert.DnDxIdeal.τ Cert.DnDxIdeal.sig) → Buf (Elt Ideal) ℓ) (g : Dev Cert.DnDxIdeal.nD → PrngReg)
    (m' : (ℓ : Loc Cert.RefDnDxIdeal.nD Cert.RefDnDxIdeal.τ Cert.RefDnDxIdeal.sig) → Buf (Elt Ideal) ℓ) (g' : Dev Cert.RefDnDxIdeal.nD → PrngReg), Pre_DnDxIdeal m →
    (∀ c : Dev Cert.DnDxIdeal.nD,
      m' ((c.tc : Thread Cert.RefDnDxIdeal.nD Cert.RefDnDxIdeal.τ).loc Cert.RefDnDxIdeal.main_arg0) = m ((c.tc : Thread Cert.DnDxIdeal.nD Cert.DnDxIdeal.τ).loc Cert.DnDxIdeal.main_arg0)
      ∧ m' ((c.tc : Thread Cert.RefDnDxIdeal.nD Cert.RefDnDxIdeal.τ).loc Cert.RefDnDxIdeal.main_arg1) = m ((c.tc : Thread Cert.DnDxIdeal.nD Cert.DnDxIdeal.τ).loc Cert.DnDxIdeal.main_arg1)) →
    ∃ (v0 : (c : Dev Cert.DnDxIdeal.nD) → Buf (Elt Ideal) ((c.tc : Thread Cert.DnDxIdeal.nD Cert.DnDxIdeal.τ).loc Cert.DnDxIdeal.main_v0)),
      θ_run (Cert.DnDxIdeal.defs (F := Ideal)) (onTc (τ := Cert.DnDxIdeal.τ) (Cert.DnDxIdeal.main (F := Ideal))) ⟨m, fun _ => 0, g⟩ (fun r => ∀ c : Dev Cert.DnDxIdeal.nD,
          r.2.mem ((c.tc : Thread Cert.DnDxIdeal.nD Cert.DnDxIdeal.τ).loc Cert.DnDxIdeal.main_v0) = v0 c
          ∧ r.2.mem ((c.tc : Thread Cert.DnDxIdeal.nD Cert.DnDxIdeal.τ).loc Cert.DnDxIdeal.main_arg0) = m ((c.tc : Thread Cert.DnDxIdeal.nD Cert.DnDxIdeal.τ).loc Cert.DnDxIdeal.main_arg0)
          ∧ r.2.mem ((c.tc : Thread Cert.DnDxIdeal.nD Cert.DnDxIdeal.τ).loc Cert.DnDxIdeal.main_arg1) = m ((c.tc : Thread Cert.DnDxIdeal.nD Cert.DnDxIdeal.τ).loc Cert.DnDxIdeal.main_arg1))
      ∧ θ_run (Cert.RefDnDxIdeal.defs (F := Ideal)) (onTc (τ := Cert.RefDnDxIdeal.τ) (Cert.RefDnDxIdeal.main (F := Ideal))) ⟨m', fun _ => 0, g'⟩ (fun r => ∀ c : Dev Cert.RefDnDxIdeal.nD,
          r.2.mem ((c.tc : Thread Cert.RefDnDxIdeal.nD Cert.RefDnDxIdeal.τ).loc Cert.RefDnDxIdeal.main_v4) = v0 c
          ∧ r.2.mem ((c.tc : Thread Cert.RefDnDxIdeal.nD Cert.RefDnDxIdeal.τ).loc Cert.RefDnDxIdeal.main_arg0) = m' ((c.tc : Thread Cert.RefDnDxIdeal.nD Cert.RefDnDxIdeal.τ).loc Cert.RefDnDxIdeal.main_arg0)
          ∧ r.2.mem ((c.tc : Thread Cert.RefDnDxIdeal.nD Cert.RefDnDxIdeal.τ).loc Cert.RefDnDxIdeal.main_arg1) = m' ((c.tc : Thread Cert.RefDnDxIdeal.nD Cert.RefDnDxIdeal.τ).loc Cert.RefDnDxIdeal.main_arg1))

def preserves_ODw_ODwIdeal : Prop :=
  True

def algebraic_ODwIdeal_RefODwIdeal [hODwIdeal : Cert.ODwIdeal.Facts] [hRefODwIdeal : Cert.RefODwIdeal.Facts] : Prop :=
  ∀ (m : (ℓ : Loc Cert.ODwIdeal.nD Cert.ODwIdeal.τ Cert.ODwIdeal.sig) → Buf (Elt Ideal) ℓ) (g : Dev Cert.ODwIdeal.nD → PrngReg)
    (m' : (ℓ : Loc Cert.RefODwIdeal.nD Cert.RefODwIdeal.τ Cert.RefODwIdeal.sig) → Buf (Elt Ideal) ℓ) (g' : Dev Cert.RefODwIdeal.nD → PrngReg), Pre_ODwIdeal m →
    (∀ c : Dev Cert.ODwIdeal.nD,
      m' ((c.tc : Thread Cert.RefODwIdeal.nD Cert.RefODwIdeal.τ).loc Cert.RefODwIdeal.main_arg0) = m ((c.tc : Thread Cert.ODwIdeal.nD Cert.ODwIdeal.τ).loc Cert.ODwIdeal.main_arg0)
      ∧ m' ((c.tc : Thread Cert.RefODwIdeal.nD Cert.RefODwIdeal.τ).loc Cert.RefODwIdeal.main_arg1) = m ((c.tc : Thread Cert.ODwIdeal.nD Cert.ODwIdeal.τ).loc Cert.ODwIdeal.main_arg1)) →
    ∃ (v0 : (c : Dev Cert.ODwIdeal.nD) → Buf (Elt Ideal) ((c.tc : Thread Cert.ODwIdeal.nD Cert.ODwIdeal.τ).loc Cert.ODwIdeal.main_v0)),
      θ_run (Cert.ODwIdeal.defs (F := Ideal)) (onTc (τ := Cert.ODwIdeal.τ) (Cert.ODwIdeal.main (F := Ideal))) ⟨m, fun _ => 0, g⟩ (fun r => ∀ c : Dev Cert.ODwIdeal.nD,
          r.2.mem ((c.tc : Thread Cert.ODwIdeal.nD Cert.ODwIdeal.τ).loc Cert.ODwIdeal.main_v0) = v0 c
          ∧ r.2.mem ((c.tc : Thread Cert.ODwIdeal.nD Cert.ODwIdeal.τ).loc Cert.ODwIdeal.main_arg0) = m ((c.tc : Thread Cert.ODwIdeal.nD Cert.ODwIdeal.τ).loc Cert.ODwIdeal.main_arg0)
          ∧ r.2.mem ((c.tc : Thread Cert.ODwIdeal.nD Cert.ODwIdeal.τ).loc Cert.ODwIdeal.main_arg1) = m ((c.tc : Thread Cert.ODwIdeal.nD Cert.ODwIdeal.τ).loc Cert.ODwIdeal.main_arg1))
      ∧ θ_run (Cert.RefODwIdeal.defs (F := Ideal)) (onTc (τ := Cert.RefODwIdeal.τ) (Cert.RefODwIdeal.main (F := Ideal))) ⟨m', fun _ => 0, g'⟩ (fun r => ∀ c : Dev Cert.RefODwIdeal.nD,
          r.2.mem ((c.tc : Thread Cert.RefODwIdeal.nD Cert.RefODwIdeal.τ).loc Cert.RefODwIdeal.main_v6) = v0 c
          ∧ r.2.mem ((c.tc : Thread Cert.RefODwIdeal.nD Cert.RefODwIdeal.τ).loc Cert.RefODwIdeal.main_arg0) = m' ((c.tc : Thread Cert.RefODwIdeal.nD Cert.RefODwIdeal.τ).loc Cert.RefODwIdeal.main_arg0)
          ∧ r.2.mem ((c.tc : Thread Cert.RefODwIdeal.nD Cert.RefODwIdeal.τ).loc Cert.RefODwIdeal.main_arg1) = m' ((c.tc : Thread Cert.RefODwIdeal.nD Cert.RefODwIdeal.τ).loc Cert.RefODwIdeal.main_arg1))

def preserves_ODx_ODxIdeal : Prop :=
  True

def algebraic_ODxIdeal_RefODxIdeal [hODxIdeal : Cert.ODxIdeal.Facts] [hRefODxIdeal : Cert.RefODxIdeal.Facts] : Prop :=
  ∀ (m : (ℓ : Loc Cert.ODxIdeal.nD Cert.ODxIdeal.τ Cert.ODxIdeal.sig) → Buf (Elt Ideal) ℓ) (g : Dev Cert.ODxIdeal.nD → PrngReg)
    (m' : (ℓ : Loc Cert.RefODxIdeal.nD Cert.RefODxIdeal.τ Cert.RefODxIdeal.sig) → Buf (Elt Ideal) ℓ) (g' : Dev Cert.RefODxIdeal.nD → PrngReg), Pre_ODxIdeal m →
    (∀ c : Dev Cert.ODxIdeal.nD,
      m' ((c.tc : Thread Cert.RefODxIdeal.nD Cert.RefODxIdeal.τ).loc Cert.RefODxIdeal.main_arg0) = m ((c.tc : Thread Cert.ODxIdeal.nD Cert.ODxIdeal.τ).loc Cert.ODxIdeal.main_arg0)
      ∧ m' ((c.tc : Thread Cert.RefODxIdeal.nD Cert.RefODxIdeal.τ).loc Cert.RefODxIdeal.main_arg1) = m ((c.tc : Thread Cert.ODxIdeal.nD Cert.ODxIdeal.τ).loc Cert.ODxIdeal.main_arg1)) →
    ∃ (v0 : (c : Dev Cert.ODxIdeal.nD) → Buf (Elt Ideal) ((c.tc : Thread Cert.ODxIdeal.nD Cert.ODxIdeal.τ).loc Cert.ODxIdeal.main_v0)),
      θ_run (Cert.ODxIdeal.defs (F := Ideal)) (onTc (τ := Cert.ODxIdeal.τ) (Cert.ODxIdeal.main (F := Ideal))) ⟨m, fun _ => 0, g⟩ (fun r => ∀ c : Dev Cert.ODxIdeal.nD,
          r.2.mem ((c.tc : Thread Cert.ODxIdeal.nD Cert.ODxIdeal.τ).loc Cert.ODxIdeal.main_v0) = v0 c
          ∧ r.2.mem ((c.tc : Thread Cert.ODxIdeal.nD Cert.ODxIdeal.τ).loc Cert.ODxIdeal.main_arg0) = m ((c.tc : Thread Cert.ODxIdeal.nD Cert.ODxIdeal.τ).loc Cert.ODxIdeal.main_arg0)
          ∧ r.2.mem ((c.tc : Thread Cert.ODxIdeal.nD Cert.ODxIdeal.τ).loc Cert.ODxIdeal.main_arg1) = m ((c.tc : Thread Cert.ODxIdeal.nD Cert.ODxIdeal.τ).loc Cert.ODxIdeal.main_arg1))
      ∧ θ_run (Cert.RefODxIdeal.defs (F := Ideal)) (onTc (τ := Cert.RefODxIdeal.τ) (Cert.RefODxIdeal.main (F := Ideal))) ⟨m', fun _ => 0, g'⟩ (fun r => ∀ c : Dev Cert.RefODxIdeal.nD,
          r.2.mem ((c.tc : Thread Cert.RefODxIdeal.nD Cert.RefODxIdeal.τ).loc Cert.RefODxIdeal.main_v4) = v0 c
          ∧ r.2.mem ((c.tc : Thread Cert.RefODxIdeal.nD Cert.RefODxIdeal.τ).loc Cert.RefODxIdeal.main_arg0) = m' ((c.tc : Thread Cert.RefODxIdeal.nD Cert.RefODxIdeal.τ).loc Cert.RefODxIdeal.main_arg0)
          ∧ r.2.mem ((c.tc : Thread Cert.RefODxIdeal.nD Cert.RefODxIdeal.τ).loc Cert.RefODxIdeal.main_arg1) = m' ((c.tc : Thread Cert.RefODxIdeal.nD Cert.RefODxIdeal.τ).loc Cert.RefODxIdeal.main_arg1))

def preserves_OgDw_OgDwIdeal : Prop :=
  True

def algebraic_OgDwIdeal_RefOgDwIdeal [hOgDwIdeal : Cert.OgDwIdeal.Facts] [hRefOgDwIdeal : Cert.RefOgDwIdeal.Facts] : Prop :=
  ∀ (m : (ℓ : Loc Cert.OgDwIdeal.nD Cert.OgDwIdeal.τ Cert.OgDwIdeal.sig) → Buf (Elt Ideal) ℓ) (g : Dev Cert.OgDwIdeal.nD → PrngReg)
    (m' : (ℓ : Loc Cert.RefOgDwIdeal.nD Cert.RefOgDwIdeal.τ Cert.RefOgDwIdeal.sig) → Buf (Elt Ideal) ℓ) (g' : Dev Cert.RefOgDwIdeal.nD → PrngReg), Pre_OgDwIdeal m →
    (∀ c : Dev Cert.OgDwIdeal.nD,
      m' ((c.tc : Thread Cert.RefOgDwIdeal.nD Cert.RefOgDwIdeal.τ).loc Cert.RefOgDwIdeal.main_arg0) = m ((c.tc : Thread Cert.OgDwIdeal.nD Cert.OgDwIdeal.τ).loc Cert.OgDwIdeal.main_arg0)
      ∧ m' ((c.tc : Thread Cert.RefOgDwIdeal.nD Cert.RefOgDwIdeal.τ).loc Cert.RefOgDwIdeal.main_arg1) = m ((c.tc : Thread Cert.OgDwIdeal.nD Cert.OgDwIdeal.τ).loc Cert.OgDwIdeal.main_arg1)) →
    ∃ (v0 : (c : Dev Cert.OgDwIdeal.nD) → Buf (Elt Ideal) ((c.tc : Thread Cert.OgDwIdeal.nD Cert.OgDwIdeal.τ).loc Cert.OgDwIdeal.main_v0)),
      θ_run (Cert.OgDwIdeal.defs (F := Ideal)) (onTc (τ := Cert.OgDwIdeal.τ) (Cert.OgDwIdeal.main (F := Ideal))) ⟨m, fun _ => 0, g⟩ (fun r => ∀ c : Dev Cert.OgDwIdeal.nD,
          r.2.mem ((c.tc : Thread Cert.OgDwIdeal.nD Cert.OgDwIdeal.τ).loc Cert.OgDwIdeal.main_v0) = v0 c
          ∧ r.2.mem ((c.tc : Thread Cert.OgDwIdeal.nD Cert.OgDwIdeal.τ).loc Cert.OgDwIdeal.main_arg0) = m ((c.tc : Thread Cert.OgDwIdeal.nD Cert.OgDwIdeal.τ).loc Cert.OgDwIdeal.main_arg0)
          ∧ r.2.mem ((c.tc : Thread Cert.OgDwIdeal.nD Cert.OgDwIdeal.τ).loc Cert.OgDwIdeal.main_arg1) = m ((c.tc : Thread Cert.OgDwIdeal.nD Cert.OgDwIdeal.τ).loc Cert.OgDwIdeal.main_arg1))
      ∧ θ_run (Cert.RefOgDwIdeal.defs (F := Ideal)) (onTc (τ := Cert.RefOgDwIdeal.τ) (Cert.RefOgDwIdeal.main (F := Ideal))) ⟨m', fun _ => 0, g'⟩ (fun r => ∀ c : Dev Cert.RefOgDwIdeal.nD,
          r.2.mem ((c.tc : Thread Cert.RefOgDwIdeal.nD Cert.RefOgDwIdeal.τ).loc Cert.RefOgDwIdeal.main_v10) = v0 c
          ∧ r.2.mem ((c.tc : Thread Cert.RefOgDwIdeal.nD Cert.RefOgDwIdeal.τ).loc Cert.RefOgDwIdeal.main_arg0) = m' ((c.tc : Thread Cert.RefOgDwIdeal.nD Cert.RefOgDwIdeal.τ).loc Cert.RefOgDwIdeal.main_arg0)
          ∧ r.2.mem ((c.tc : Thread Cert.RefOgDwIdeal.nD Cert.RefOgDwIdeal.τ).loc Cert.RefOgDwIdeal.main_arg1) = m' ((c.tc : Thread Cert.RefOgDwIdeal.nD Cert.RefOgDwIdeal.τ).loc Cert.RefOgDwIdeal.main_arg1))

def preserves_OgDx_OgDxIdeal : Prop :=
  True

def algebraic_OgDxIdeal_RefOgDxIdeal [hOgDxIdeal : Cert.OgDxIdeal.Facts] [hRefOgDxIdeal : Cert.RefOgDxIdeal.Facts] : Prop :=
  ∀ (m : (ℓ : Loc Cert.OgDxIdeal.nD Cert.OgDxIdeal.τ Cert.OgDxIdeal.sig) → Buf (Elt Ideal) ℓ) (g : Dev Cert.OgDxIdeal.nD → PrngReg)
    (m' : (ℓ : Loc Cert.RefOgDxIdeal.nD Cert.RefOgDxIdeal.τ Cert.RefOgDxIdeal.sig) → Buf (Elt Ideal) ℓ) (g' : Dev Cert.RefOgDxIdeal.nD → PrngReg), Pre_OgDxIdeal m →
    (∀ c : Dev Cert.OgDxIdeal.nD,
      m' ((c.tc : Thread Cert.RefOgDxIdeal.nD Cert.RefOgDxIdeal.τ).loc Cert.RefOgDxIdeal.main_arg0) = m ((c.tc : Thread Cert.OgDxIdeal.nD Cert.OgDxIdeal.τ).loc Cert.OgDxIdeal.main_arg0)
      ∧ m' ((c.tc : Thread Cert.RefOgDxIdeal.nD Cert.RefOgDxIdeal.τ).loc Cert.RefOgDxIdeal.main_arg1) = m ((c.tc : Thread Cert.OgDxIdeal.nD Cert.OgDxIdeal.τ).loc Cert.OgDxIdeal.main_arg1)) →
    ∃ (v0 : (c : Dev Cert.OgDxIdeal.nD) → Buf (Elt Ideal) ((c.tc : Thread Cert.OgDxIdeal.nD Cert.OgDxIdeal.τ).loc Cert.OgDxIdeal.main_v0)),
      θ_run (Cert.OgDxIdeal.defs (F := Ideal)) (onTc (τ := Cert.OgDxIdeal.τ) (Cert.OgDxIdeal.main (F := Ideal))) ⟨m, fun _ => 0, g⟩ (fun r => ∀ c : Dev Cert.OgDxIdeal.nD,
          r.2.mem ((c.tc : Thread Cert.OgDxIdeal.nD Cert.OgDxIdeal.τ).loc Cert.OgDxIdeal.main_v0) = v0 c
          ∧ r.2.mem ((c.tc : Thread Cert.OgDxIdeal.nD Cert.OgDxIdeal.τ).loc Cert.OgDxIdeal.main_arg0) = m ((c.tc : Thread Cert.OgDxIdeal.nD Cert.OgDxIdeal.τ).loc Cert.OgDxIdeal.main_arg0)
          ∧ r.2.mem ((c.tc : Thread Cert.OgDxIdeal.nD Cert.OgDxIdeal.τ).loc Cert.OgDxIdeal.main_arg1) = m ((c.tc : Thread Cert.OgDxIdeal.nD Cert.OgDxIdeal.τ).loc Cert.OgDxIdeal.main_arg1))
      ∧ θ_run (Cert.RefOgDxIdeal.defs (F := Ideal)) (onTc (τ := Cert.RefOgDxIdeal.τ) (Cert.RefOgDxIdeal.main (F := Ideal))) ⟨m', fun _ => 0, g'⟩ (fun r => ∀ c : Dev Cert.RefOgDxIdeal.nD,
          r.2.mem ((c.tc : Thread Cert.RefOgDxIdeal.nD Cert.RefOgDxIdeal.τ).loc Cert.RefOgDxIdeal.main_v6) = v0 c
          ∧ r.2.mem ((c.tc : Thread Cert.RefOgDxIdeal.nD Cert.RefOgDxIdeal.τ).loc Cert.RefOgDxIdeal.main_arg0) = m' ((c.tc : Thread Cert.RefOgDxIdeal.nD Cert.RefOgDxIdeal.τ).loc Cert.RefOgDxIdeal.main_arg0)
          ∧ r.2.mem ((c.tc : Thread Cert.RefOgDxIdeal.nD Cert.RefOgDxIdeal.τ).loc Cert.RefOgDxIdeal.main_arg1) = m' ((c.tc : Thread Cert.RefOgDxIdeal.nD Cert.RefOgDxIdeal.τ).loc Cert.RefOgDxIdeal.main_arg1))

def preserves_InFw_InFwIdeal : Prop :=
  True

def algebraic_InFwIdeal_RefInFwIdeal [hInFwIdeal : Cert.InFwIdeal.Facts] [hRefInFwIdeal : Cert.RefInFwIdeal.Facts] : Prop :=
  ∀ (m : (ℓ : Loc Cert.InFwIdeal.nD Cert.InFwIdeal.τ Cert.InFwIdeal.sig) → Buf (Elt Ideal) ℓ) (g : Dev Cert.InFwIdeal.nD → PrngReg)
    (m' : (ℓ : Loc Cert.RefInFwIdeal.nD Cert.RefInFwIdeal.τ Cert.RefInFwIdeal.sig) → Buf (Elt Ideal) ℓ) (g' : Dev Cert.RefInFwIdeal.nD → PrngReg), Pre_InFwIdeal m →
    (∀ c : Dev Cert.InFwIdeal.nD,
      m' ((c.tc : Thread Cert.RefInFwIdeal.nD Cert.RefInFwIdeal.τ).loc Cert.RefInFwIdeal.main_arg0) = m ((c.tc : Thread Cert.InFwIdeal.nD Cert.InFwIdeal.τ).loc Cert.InFwIdeal.main_arg0)
      ∧ m' ((c.tc : Thread Cert.RefInFwIdeal.nD Cert.RefInFwIdeal.τ).loc Cert.RefInFwIdeal.main_arg1) = m ((c.tc : Thread Cert.InFwIdeal.nD Cert.InFwIdeal.τ).loc Cert.InFwIdeal.main_arg1)) →
    ∃ (v0 : (c : Dev Cert.InFwIdeal.nD) → Buf (Elt Ideal) ((c.tc : Thread Cert.InFwIdeal.nD Cert.InFwIdeal.τ).loc Cert.InFwIdeal.main_v0)),
      θ_run (Cert.InFwIdeal.defs (F := Ideal)) (onTc (τ := Cert.InFwIdeal.τ) (Cert.InFwIdeal.main (F := Ideal))) ⟨m, fun _ => 0, g⟩ (fun r => ∀ c : Dev Cert.InFwIdeal.nD,
          r.2.mem ((c.tc : Thread Cert.InFwIdeal.nD Cert.InFwIdeal.τ).loc Cert.InFwIdeal.main_v0) = v0 c
          ∧ r.2.mem ((c.tc : Thread Cert.InFwIdeal.nD Cert.InFwIdeal.τ).loc Cert.InFwIdeal.main_arg0) = m ((c.tc : Thread Cert.InFwIdeal.nD Cert.InFwIdeal.τ).loc Cert.InFwIdeal.main_arg0)
          ∧ r.2.mem ((c.tc : Thread Cert.InFwIdeal.nD Cert.InFwIdeal.τ).loc Cert.InFwIdeal.main_arg1) = m ((c.tc : Thread Cert.InFwIdeal.nD Cert.InFwIdeal.τ).loc Cert.InFwIdeal.main_arg1))
      ∧ θ_run (Cert.RefInFwIdeal.defs (F := Ideal)) (onTc (τ := Cert.RefInFwIdeal.τ) (Cert.RefInFwIdeal.main (F := Ideal))) ⟨m', fun _ => 0, g'⟩ (fun r => ∀ c : Dev Cert.RefInFwIdeal.nD,
          r.2.mem ((c.tc : Thread Cert.RefInFwIdeal.nD Cert.RefInFwIdeal.τ).loc Cert.RefInFwIdeal.main_v3) = v0 c
          ∧ r.2.mem ((c.tc : Thread Cert.RefInFwIdeal.nD Cert.RefInFwIdeal.τ).loc Cert.RefInFwIdeal.main_arg0) = m' ((c.tc : Thread Cert.RefInFwIdeal.nD Cert.RefInFwIdeal.τ).loc Cert.RefInFwIdeal.main_arg0)
          ∧ r.2.mem ((c.tc : Thread Cert.RefInFwIdeal.nD Cert.RefInFwIdeal.τ).loc Cert.RefInFwIdeal.main_arg1) = m' ((c.tc : Thread Cert.RefInFwIdeal.nD Cert.RefInFwIdeal.τ).loc Cert.RefInFwIdeal.main_arg1))

def preserves_OgFw_OgFwIdeal : Prop :=
  True

def algebraic_OgFwIdeal_RefOgFwIdeal [hOgFwIdeal : Cert.OgFwIdeal.Facts] [hRefOgFwIdeal : Cert.RefOgFwIdeal.Facts] : Prop :=
  ∀ (m : (ℓ : Loc Cert.OgFwIdeal.nD Cert.OgFwIdeal.τ Cert.OgFwIdeal.sig) → Buf (Elt Ideal) ℓ) (g : Dev Cert.OgFwIdeal.nD → PrngReg)
    (m' : (ℓ : Loc Cert.RefOgFwIdeal.nD Cert.RefOgFwIdeal.τ Cert.RefOgFwIdeal.sig) → Buf (Elt Ideal) ℓ) (g' : Dev Cert.RefOgFwIdeal.nD → PrngReg), Pre_OgFwIdeal m →
    (∀ c : Dev Cert.OgFwIdeal.nD,
      m' ((c.tc : Thread Cert.RefOgFwIdeal.nD Cert.RefOgFwIdeal.τ).loc Cert.RefOgFwIdeal.main_arg0) = m ((c.tc : Thread Cert.OgFwIdeal.nD Cert.OgFwIdeal.τ).loc Cert.OgFwIdeal.main_arg0)
      ∧ m' ((c.tc : Thread Cert.RefOgFwIdeal.nD Cert.RefOgFwIdeal.τ).loc Cert.RefOgFwIdeal.main_arg1) = m ((c.tc : Thread Cert.OgFwIdeal.nD Cert.OgFwIdeal.τ).loc Cert.OgFwIdeal.main_arg1)) →
    ∃ (v0 : (c : Dev Cert.OgFwIdeal.nD) → Buf (Elt Ideal) ((c.tc : Thread Cert.OgFwIdeal.nD Cert.OgFwIdeal.τ).loc Cert.OgFwIdeal.main_v0)),
      θ_run (Cert.OgFwIdeal.defs (F := Ideal)) (onTc (τ := Cert.OgFwIdeal.τ) (Cert.OgFwIdeal.main (F := Ideal))) ⟨m, fun _ => 0, g⟩ (fun r => ∀ c : Dev Cert.OgFwIdeal.nD,
          r.2.mem ((c.tc : Thread Cert.OgFwIdeal.nD Cert.OgFwIdeal.τ).loc Cert.OgFwIdeal.main_v0) = v0 c
          ∧ r.2.mem ((c.tc : Thread Cert.OgFwIdeal.nD Cert.OgFwIdeal.τ).loc Cert.OgFwIdeal.main_arg0) = m ((c.tc : Thread Cert.OgFwIdeal.nD Cert.OgFwIdeal.τ).loc Cert.OgFwIdeal.main_arg0)
          ∧ r.2.mem ((c.tc : Thread Cert.OgFwIdeal.nD Cert.OgFwIdeal.τ).loc Cert.OgFwIdeal.main_arg1) = m ((c.tc : Thread Cert.OgFwIdeal.nD Cert.OgFwIdeal.τ).loc Cert.OgFwIdeal.main_arg1))
      ∧ θ_run (Cert.RefOgFwIdeal.defs (F := Ideal)) (onTc (τ := Cert.RefOgFwIdeal.τ) (Cert.RefOgFwIdeal.main (F := Ideal))) ⟨m', fun _ => 0, g'⟩ (fun r => ∀ c : Dev Cert.RefOgFwIdeal.nD,
          r.2.mem ((c.tc : Thread Cert.RefOgFwIdeal.nD Cert.RefOgFwIdeal.τ).loc Cert.RefOgFwIdeal.main_v4) = v0 c
          ∧ r.2.mem ((c.tc : Thread Cert.RefOgFwIdeal.nD Cert.RefOgFwIdeal.τ).loc Cert.RefOgFwIdeal.main_arg0) = m' ((c.tc : Thread Cert.RefOgFwIdeal.nD Cert.RefOgFwIdeal.τ).loc Cert.RefOgFwIdeal.main_arg0)
          ∧ r.2.mem ((c.tc : Thread Cert.RefOgFwIdeal.nD Cert.RefOgFwIdeal.τ).loc Cert.RefOgFwIdeal.main_arg1) = m' ((c.tc : Thread Cert.RefOgFwIdeal.nD Cert.RefOgFwIdeal.τ).loc Cert.RefOgFwIdeal.main_arg1))

def preserves_OFw_OFwIdeal : Prop :=
  True

def algebraic_OFwIdeal_RefOFwIdeal [hOFwIdeal : Cert.OFwIdeal.Facts] [hRefOFwIdeal : Cert.RefOFwIdeal.Facts] : Prop :=
  ∀ (m : (ℓ : Loc Cert.OFwIdeal.nD Cert.OFwIdeal.τ Cert.OFwIdeal.sig) → Buf (Elt Ideal) ℓ) (g : Dev Cert.OFwIdeal.nD → PrngReg)
    (m' : (ℓ : Loc Cert.RefOFwIdeal.nD Cert.RefOFwIdeal.τ Cert.RefOFwIdeal.sig) → Buf (Elt Ideal) ℓ) (g' : Dev Cert.RefOFwIdeal.nD → PrngReg), Pre_OFwIdeal m →
    (∀ c : Dev Cert.OFwIdeal.nD,
      m' ((c.tc : Thread Cert.RefOFwIdeal.nD Cert.RefOFwIdeal.τ).loc Cert.RefOFwIdeal.main_arg0) = m ((c.tc : Thread Cert.OFwIdeal.nD Cert.OFwIdeal.τ).loc Cert.OFwIdeal.main_arg0)
      ∧ m' ((c.tc : Thread Cert.RefOFwIdeal.nD Cert.RefOFwIdeal.τ).loc Cert.RefOFwIdeal.main_arg1) = m ((c.tc : Thread Cert.OFwIdeal.nD Cert.OFwIdeal.τ).loc Cert.OFwIdeal.main_arg1)) →
    ∃ (v0 : (c : Dev Cert.OFwIdeal.nD) → Buf (Elt Ideal) ((c.tc : Thread Cert.OFwIdeal.nD Cert.OFwIdeal.τ).loc Cert.OFwIdeal.main_v0)),
      θ_run (Cert.OFwIdeal.defs (F := Ideal)) (onTc (τ := Cert.OFwIdeal.τ) (Cert.OFwIdeal.main (F := Ideal))) ⟨m, fun _ => 0, g⟩ (fun r => ∀ c : Dev Cert.OFwIdeal.nD,
          r.2.mem ((c.tc : Thread Cert.OFwIdeal.nD Cert.OFwIdeal.τ).loc Cert.OFwIdeal.main_v0) = v0 c
          ∧ r.2.mem ((c.tc : Thread Cert.OFwIdeal.nD Cert.OFwIdeal.τ).loc Cert.OFwIdeal.main_arg0) = m ((c.tc : Thread Cert.OFwIdeal.nD Cert.OFwIdeal.τ).loc Cert.OFwIdeal.main_arg0)
          ∧ r.2.mem ((c.tc : Thread Cert.OFwIdeal.nD Cert.OFwIdeal.τ).loc Cert.OFwIdeal.main_arg1) = m ((c.tc : Thread Cert.OFwIdeal.nD Cert.OFwIdeal.τ).loc Cert.OFwIdeal.main_arg1))
      ∧ θ_run (Cert.RefOFwIdeal.defs (F := Ideal)) (onTc (τ := Cert.RefOFwIdeal.τ) (Cert.RefOFwIdeal.main (F := Ideal))) ⟨m', fun _ => 0, g'⟩ (fun r => ∀ c : Dev Cert.RefOFwIdeal.nD,
          r.2.mem ((c.tc : Thread Cert.RefOFwIdeal.nD Cert.RefOFwIdeal.τ).loc Cert.RefOFwIdeal.main_v2) = v0 c
          ∧ r.2.mem ((c.tc : Thread Cert.RefOFwIdeal.nD Cert.RefOFwIdeal.τ).loc Cert.RefOFwIdeal.main_arg0) = m' ((c.tc : Thread Cert.RefOFwIdeal.nD Cert.RefOFwIdeal.τ).loc Cert.RefOFwIdeal.main_arg0)
          ∧ r.2.mem ((c.tc : Thread Cert.RefOFwIdeal.nD Cert.RefOFwIdeal.τ).loc Cert.RefOFwIdeal.main_arg1) = m' ((c.tc : Thread Cert.RefOFwIdeal.nD Cert.RefOFwIdeal.τ).loc Cert.RefOFwIdeal.main_arg1))

def preserves_UpFw_UpFwIdeal : Prop :=
  True

def algebraic_UpFwIdeal_RefUpFwIdeal [hUpFwIdeal : Cert.UpFwIdeal.Facts] [hRefUpFwIdeal : Cert.RefUpFwIdeal.Facts] : Prop :=
  ∀ (m : (ℓ : Loc Cert.UpFwIdeal.nD Cert.UpFwIdeal.τ Cert.UpFwIdeal.sig) → Buf (Elt Ideal) ℓ) (g : Dev Cert.UpFwIdeal.nD → PrngReg)
    (m' : (ℓ : Loc Cert.RefUpFwIdeal.nD Cert.RefUpFwIdeal.τ Cert.RefUpFwIdeal.sig) → Buf (Elt Ideal) ℓ) (g' : Dev Cert.RefUpFwIdeal.nD → PrngReg), Pre_UpFwIdeal m →
    (∀ c : Dev Cert.UpFwIdeal.nD,
      m' ((c.tc : Thread Cert.RefUpFwIdeal.nD Cert.RefUpFwIdeal.τ).loc Cert.RefUpFwIdeal.main_arg0) = m ((c.tc : Thread Cert.UpFwIdeal.nD Cert.UpFwIdeal.τ).loc Cert.UpFwIdeal.main_arg0)
      ∧ m' ((c.tc : Thread Cert.RefUpFwIdeal.nD Cert.RefUpFwIdeal.τ).loc Cert.RefUpFwIdeal.main_arg1) = m ((c.tc : Thread Cert.UpFwIdeal.nD Cert.UpFwIdeal.τ).loc Cert.UpFwIdeal.main_arg1)) →
    ∃ (v0 : (c : Dev Cert.UpFwIdeal.nD) → Buf (Elt Ideal) ((c.tc : Thread Cert.UpFwIdeal.nD Cert.UpFwIdeal.τ).loc Cert.UpFwIdeal.main_v0)),
      θ_run (Cert.UpFwIdeal.defs (F := Ideal)) (onTc (τ := Cert.UpFwIdeal.τ) (Cert.UpFwIdeal.main (F := Ideal))) ⟨m, fun _ => 0, g⟩ (fun r => ∀ c : Dev Cert.UpFwIdeal.nD,
          r.2.mem ((c.tc : Thread Cert.UpFwIdeal.nD Cert.UpFwIdeal.τ).loc Cert.UpFwIdeal.main_v0) = v0 c
          ∧ r.2.mem ((c.tc : Thread Cert.UpFwIdeal.nD Cert.UpFwIdeal.τ).loc Cert.UpFwIdeal.main_arg0) = m ((c.tc : Thread Cert.UpFwIdeal.nD Cert.UpFwIdeal.τ).loc Cert.UpFwIdeal.main_arg0)
          ∧ r.2.mem ((c.tc : Thread Cert.UpFwIdeal.nD Cert.UpFwIdeal.τ).loc Cert.UpFwIdeal.main_arg1) = m ((c.tc : Thread Cert.UpFwIdeal.nD Cert.UpFwIdeal.τ).loc Cert.UpFwIdeal.main_arg1))
      ∧ θ_run (Cert.RefUpFwIdeal.defs (F := Ideal)) (onTc (τ := Cert.RefUpFwIdeal.τ) (Cert.RefUpFwIdeal.main (F := Ideal))) ⟨m', fun _ => 0, g'⟩ (fun r => ∀ c : Dev Cert.RefUpFwIdeal.nD,
          r.2.mem ((c.tc : Thread Cert.RefUpFwIdeal.nD Cert.RefUpFwIdeal.τ).loc Cert.RefUpFwIdeal.main_v5) = v0 c
          ∧ r.2.mem ((c.tc : Thread Cert.RefUpFwIdeal.nD Cert.RefUpFwIdeal.τ).loc Cert.RefUpFwIdeal.main_arg0) = m' ((c.tc : Thread Cert.RefUpFwIdeal.nD Cert.RefUpFwIdeal.τ).loc Cert.RefUpFwIdeal.main_arg0)
          ∧ r.2.mem ((c.tc : Thread Cert.RefUpFwIdeal.nD Cert.RefUpFwIdeal.τ).loc Cert.RefUpFwIdeal.main_arg1) = m' ((c.tc : Thread Cert.RefUpFwIdeal.nD Cert.RefUpFwIdeal.τ).loc Cert.RefUpFwIdeal.main_arg1))

def preserves_DnFw_DnFwIdeal : Prop :=
  True

def algebraic_DnFwIdeal_RefDnFwIdeal [hDnFwIdeal : Cert.DnFwIdeal.Facts] [hRefDnFwIdeal : Cert.RefDnFwIdeal.Facts] : Prop :=
  ∀ (m : (ℓ : Loc Cert.DnFwIdeal.nD Cert.DnFwIdeal.τ Cert.DnFwIdeal.sig) → Buf (Elt Ideal) ℓ) (g : Dev Cert.DnFwIdeal.nD → PrngReg)
    (m' : (ℓ : Loc Cert.RefDnFwIdeal.nD Cert.RefDnFwIdeal.τ Cert.RefDnFwIdeal.sig) → Buf (Elt Ideal) ℓ) (g' : Dev Cert.RefDnFwIdeal.nD → PrngReg), Pre_DnFwIdeal m →
    (∀ c : Dev Cert.DnFwIdeal.nD,
      m' ((c.tc : Thread Cert.RefDnFwIdeal.nD Cert.RefDnFwIdeal.τ).loc Cert.RefDnFwIdeal.main_arg0) = m ((c.tc : Thread Cert.DnFwIdeal.nD Cert.DnFwIdeal.τ).loc Cert.DnFwIdeal.main_arg0)
      ∧ m' ((c.tc : Thread Cert.RefDnFwIdeal.nD Cert.RefDnFwIdeal.τ).loc Cert.RefDnFwIdeal.main_arg1) = m ((c.tc : Thread Cert.DnFwIdeal.nD Cert.DnFwIdeal.τ).loc Cert.DnFwIdeal.main_arg1)) →
    ∃ (v0 : (c : Dev Cert.DnFwIdeal.nD) → Buf (Elt Ideal) ((c.tc : Thread Cert.DnFwIdeal.nD Cert.DnFwIdeal.τ).loc Cert.DnFwIdeal.main_v0)),
      θ_run (Cert.DnFwIdeal.defs (F := Ideal)) (onTc (τ := Cert.DnFwIdeal.τ) (Cert.DnFwIdeal.main (F := Ideal))) ⟨m, fun _ => 0, g⟩ (fun r => ∀ c : Dev Cert.DnFwIdeal.nD,
          r.2.mem ((c.tc : Thread Cert.DnFwIdeal.nD Cert.DnFwIdeal.τ).loc Cert.DnFwIdeal.main_v0) = v0 c
          ∧ r.2.mem ((c.tc : Thread Cert.DnFwIdeal.nD Cert.DnFwIdeal.τ).loc Cert.DnFwIdeal.main_arg0) = m ((c.tc : Thread Cert.DnFwIdeal.nD Cert.DnFwIdeal.τ).loc Cert.DnFwIdeal.main_arg0)
          ∧ r.2.mem ((c.tc : Thread Cert.DnFwIdeal.nD Cert.DnFwIdeal.τ).loc Cert.DnFwIdeal.main_arg1) = m ((c.tc : Thread Cert.DnFwIdeal.nD Cert.DnFwIdeal.τ).loc Cert.DnFwIdeal.main_arg1))
      ∧ θ_run (Cert.RefDnFwIdeal.defs (F := Ideal)) (onTc (τ := Cert.RefDnFwIdeal.τ) (Cert.RefDnFwIdeal.main (F := Ideal))) ⟨m', fun _ => 0, g'⟩ (fun r => ∀ c : Dev Cert.RefDnFwIdeal.nD,
          r.2.mem ((c.tc : Thread Cert.RefDnFwIdeal.nD Cert.RefDnFwIdeal.τ).loc Cert.RefDnFwIdeal.main_v2) = v0 c
          ∧ r.2.mem ((c.tc : Thread Cert.RefDnFwIdeal.nD Cert.RefDnFwIdeal.τ).loc Cert.RefDnFwIdeal.main_arg0) = m' ((c.tc : Thread Cert.RefDnFwIdeal.nD Cert.RefDnFwIdeal.τ).loc Cert.RefDnFwIdeal.main_arg0)
          ∧ r.2.mem ((c.tc : Thread Cert.RefDnFwIdeal.nD Cert.RefDnFwIdeal.τ).loc Cert.RefDnFwIdeal.main_arg1) = m' ((c.tc : Thread Cert.RefDnFwIdeal.nD Cert.RefDnFwIdeal.τ).loc Cert.RefDnFwIdeal.main_arg1))

def preserves_AdDn_AdDnIdeal : Prop :=
  True

def algebraic_AdDnIdeal_RefAdDnIdeal [hAdDnIdeal : Cert.AdDnIdeal.Facts] [hRefAdDnIdeal : Cert.RefAdDnIdeal.Facts] : Prop :=
  ∀ (m : (ℓ : Loc Cert.AdDnIdeal.nD Cert.AdDnIdeal.τ Cert.AdDnIdeal.sig) → Buf (Elt Ideal) ℓ) (g : Dev Cert.AdDnIdeal.nD → PrngReg)
    (m' : (ℓ : Loc Cert.RefAdDnIdeal.nD Cert.RefAdDnIdeal.τ Cert.RefAdDnIdeal.sig) → Buf (Elt Ideal) ℓ) (g' : Dev Cert.RefAdDnIdeal.nD → PrngReg), Pre_AdDnIdeal m →
    (∀ c : Dev Cert.AdDnIdeal.nD,
      m' ((c.tc : Thread Cert.RefAdDnIdeal.nD Cert.RefAdDnIdeal.τ).loc Cert.RefAdDnIdeal.main_arg0) = m ((c.tc : Thread Cert.AdDnIdeal.nD Cert.AdDnIdeal.τ).loc Cert.AdDnIdeal.main_arg0)
      ∧ m' ((c.tc : Thread Cert.RefAdDnIdeal.nD Cert.RefAdDnIdeal.τ).loc Cert.RefAdDnIdeal.main_arg1) = m ((c.tc : Thread Cert.AdDnIdeal.nD Cert.AdDnIdeal.τ).loc Cert.AdDnIdeal.main_arg1)
      ∧ m' ((c.tc : Thread Cert.RefAdDnIdeal.nD Cert.RefAdDnIdeal.τ).loc Cert.RefAdDnIdeal.main_arg2) = m ((c.tc : Thread Cert.AdDnIdeal.nD Cert.AdDnIdeal.τ).loc Cert.AdDnIdeal.main_arg2)
      ∧ m' ((c.tc : Thread Cert.RefAdDnIdeal.nD Cert.RefAdDnIdeal.τ).loc Cert.RefAdDnIdeal.main_arg3) = m ((c.tc : Thread Cert.AdDnIdeal.nD Cert.AdDnIdeal.τ).loc Cert.AdDnIdeal.main_arg3)
      ∧ m' ((c.tc : Thread Cert.RefAdDnIdeal.nD Cert.RefAdDnIdeal.τ).loc Cert.RefAdDnIdeal.main_arg4) = m ((c.tc : Thread Cert.AdDnIdeal.nD Cert.AdDnIdeal.τ).loc Cert.AdDnIdeal.main_arg4)) →
    ∃ (v0 : (c : Dev Cert.AdDnIdeal.nD) → Buf (Elt Ideal) ((c.tc : Thread Cert.AdDnIdeal.nD Cert.AdDnIdeal.τ).loc Cert.AdDnIdeal.main_v0_0)) (v1 : (c : Dev Cert.AdDnIdeal.nD) → Buf (Elt Ideal) ((c.tc : Thread Cert.AdDnIdeal.nD Cert.AdDnIdeal.τ).loc Cert.AdDnIdeal.main_v0_1)) (v2 : (c : Dev Cert.AdDnIdeal.nD) → Buf (Elt Ideal) ((c.tc : Thread Cert.AdDnIdeal.nD Cert.AdDnIdeal.τ).loc Cert.AdDnIdeal.main_v0_2)) (v3 : (c : Dev Cert.AdDnIdeal.nD) → Buf (Elt Ideal) ((c.tc : Thread Cert.AdDnIdeal.nD Cert.AdDnIdeal.τ).loc Cert.AdDnIdeal.main_v0_3)),
      θ_run (Cert.AdDnIdeal.defs (F := Ideal)) (onTc (τ := Cert.AdDnIdeal.τ) (Cert.AdDnIdeal.main (F := Ideal))) ⟨m, fun _ => 0, g⟩ (fun r => ∀ c : Dev Cert.AdDnIdeal.nD,
          r.2.mem ((c.tc : Thread Cert.AdDnIdeal.nD Cert.AdDnIdeal.τ).loc Cert.AdDnIdeal.main_v0_0) = v0 c
          ∧ r.2.mem ((c.tc : Thread Cert.AdDnIdeal.nD Cert.AdDnIdeal.τ).loc Cert.AdDnIdeal.main_v0_1) = v1 c
          ∧ r.2.mem ((c.tc : Thread Cert.AdDnIdeal.nD Cert.AdDnIdeal.τ).loc Cert.AdDnIdeal.main_v0_2) = v2 c
          ∧ r.2.mem ((c.tc : Thread Cert.AdDnIdeal.nD Cert.AdDnIdeal.τ).loc Cert.AdDnIdeal.main_v0_3) = v3 c
          ∧ r.2.mem ((c.tc : Thread Cert.AdDnIdeal.nD Cert.AdDnIdeal.τ).loc Cert.AdDnIdeal.main_arg0) = m ((c.tc : Thread Cert.AdDnIdeal.nD Cert.AdDnIdeal.τ).loc Cert.AdDnIdeal.main_arg0)
          ∧ r.2.mem ((c.tc : Thread Cert.AdDnIdeal.nD Cert.AdDnIdeal.τ).loc Cert.AdDnIdeal.main_arg1) = m ((c.tc : Thread Cert.AdDnIdeal.nD Cert.AdDnIdeal.τ).loc Cert.AdDnIdeal.main_arg1)
          ∧ r.2.mem ((c.tc : Thread Cert.AdDnIdeal.nD Cert.AdDnIdeal.τ).loc Cert.AdDnIdeal.main_arg2) = m ((c.tc : Thread Cert.AdDnIdeal.nD Cert.AdDnIdeal.τ).loc Cert.AdDnIdeal.main_arg2)
          ∧ r.2.mem ((c.tc : Thread Cert.AdDnIdeal.nD Cert.AdDnIdeal.τ).loc Cert.AdDnIdeal.main_arg3) = m ((c.tc : Thread Cert.AdDnIdeal.nD Cert.AdDnIdeal.τ).loc Cert.AdDnIdeal.main_arg3)
          ∧ r.2.mem ((c.tc : Thread Cert.AdDnIdeal.nD Cert.AdDnIdeal.τ).loc Cert.AdDnIdeal.main_arg4) = m ((c.tc : Thread Cert.AdDnIdeal.nD Cert.AdDnIdeal.τ).loc Cert.AdDnIdeal.main_arg4))
      ∧ θ_run (Cert.RefAdDnIdeal.defs (F := Ideal)) (onTc (τ := Cert.RefAdDnIdeal.τ) (Cert.RefAdDnIdeal.main (F := Ideal))) ⟨m', fun _ => 0, g'⟩ (fun r => ∀ c : Dev Cert.RefAdDnIdeal.nD,
          r.2.mem ((c.tc : Thread Cert.RefAdDnIdeal.nD Cert.RefAdDnIdeal.τ).loc Cert.RefAdDnIdeal.main_v0) = v0 c
          ∧ r.2.mem ((c.tc : Thread Cert.RefAdDnIdeal.nD Cert.RefAdDnIdeal.τ).loc Cert.RefAdDnIdeal.main_v24) = v1 c
          ∧ r.2.mem ((c.tc : Thread Cert.RefAdDnIdeal.nD Cert.RefAdDnIdeal.τ).loc Cert.RefAdDnIdeal.main_v5) = v2 c
          ∧ r.2.mem ((c.tc : Thread Cert.RefAdDnIdeal.nD Cert.RefAdDnIdeal.τ).loc Cert.RefAdDnIdeal.main_v11) = v3 c
          ∧ r.2.mem ((c.tc : Thread Cert.RefAdDnIdeal.nD Cert.RefAdDnIdeal.τ).loc Cert.RefAdDnIdeal.main_arg0) = m' ((c.tc : Thread Cert.RefAdDnIdeal.nD Cert.RefAdDnIdeal.τ).loc Cert.RefAdDnIdeal.main_arg0)
          ∧ r.2.mem ((c.tc : Thread Cert.RefAdDnIdeal.nD Cert.RefAdDnIdeal.τ).loc Cert.RefAdDnIdeal.main_arg1) = m' ((c.tc : Thread Cert.RefAdDnIdeal.nD Cert.RefAdDnIdeal.τ).loc Cert.RefAdDnIdeal.main_arg1)
          ∧ r.2.mem ((c.tc : Thread Cert.RefAdDnIdeal.nD Cert.RefAdDnIdeal.τ).loc Cert.RefAdDnIdeal.main_arg2) = m' ((c.tc : Thread Cert.RefAdDnIdeal.nD Cert.RefAdDnIdeal.τ).loc Cert.RefAdDnIdeal.main_arg2)
          ∧ r.2.mem ((c.tc : Thread Cert.RefAdDnIdeal.nD Cert.RefAdDnIdeal.τ).loc Cert.RefAdDnIdeal.main_arg3) = m' ((c.tc : Thread Cert.RefAdDnIdeal.nD Cert.RefAdDnIdeal.τ).loc Cert.RefAdDnIdeal.main_arg3)
          ∧ r.2.mem ((c.tc : Thread Cert.RefAdDnIdeal.nD Cert.RefAdDnIdeal.τ).loc Cert.RefAdDnIdeal.main_arg4) = m' ((c.tc : Thread Cert.RefAdDnIdeal.nD Cert.RefAdDnIdeal.τ).loc Cert.RefAdDnIdeal.main_arg4))

def preserves_AdUp_AdUpIdeal : Prop :=
  True

def algebraic_AdUpIdeal_RefAdUpIdeal [hAdUpIdeal : Cert.AdUpIdeal.Facts] [hRefAdUpIdeal : Cert.RefAdUpIdeal.Facts] : Prop :=
  ∀ (m : (ℓ : Loc Cert.AdUpIdeal.nD Cert.AdUpIdeal.τ Cert.AdUpIdeal.sig) → Buf (Elt Ideal) ℓ) (g : Dev Cert.AdUpIdeal.nD → PrngReg)
    (m' : (ℓ : Loc Cert.RefAdUpIdeal.nD Cert.RefAdUpIdeal.τ Cert.RefAdUpIdeal.sig) → Buf (Elt Ideal) ℓ) (g' : Dev Cert.RefAdUpIdeal.nD → PrngReg), Pre_AdUpIdeal m →
    (∀ c : Dev Cert.AdUpIdeal.nD,
      m' ((c.tc : Thread Cert.RefAdUpIdeal.nD Cert.RefAdUpIdeal.τ).loc Cert.RefAdUpIdeal.main_arg0) = m ((c.tc : Thread Cert.AdUpIdeal.nD Cert.AdUpIdeal.τ).loc Cert.AdUpIdeal.main_arg0)
      ∧ m' ((c.tc : Thread Cert.RefAdUpIdeal.nD Cert.RefAdUpIdeal.τ).loc Cert.RefAdUpIdeal.main_arg1) = m ((c.tc : Thread Cert.AdUpIdeal.nD Cert.AdUpIdeal.τ).loc Cert.AdUpIdeal.main_arg1)
      ∧ m' ((c.tc : Thread Cert.RefAdUpIdeal.nD Cert.RefAdUpIdeal.τ).loc Cert.RefAdUpIdeal.main_arg2) = m ((c.tc : Thread Cert.AdUpIdeal.nD Cert.AdUpIdeal.τ).loc Cert.AdUpIdeal.main_arg2)
      ∧ m' ((c.tc : Thread Cert.RefAdUpIdeal.nD Cert.RefAdUpIdeal.τ).loc Cert.RefAdUpIdeal.main_arg3) = m ((c.tc : Thread Cert.AdUpIdeal.nD Cert.AdUpIdeal.τ).loc Cert.AdUpIdeal.main_arg3)
      ∧ m' ((c.tc : Thread Cert.RefAdUpIdeal.nD Cert.RefAdUpIdeal.τ).loc Cert.RefAdUpIdeal.main_arg4) = m ((c.tc : Thread Cert.AdUpIdeal.nD Cert.AdUpIdeal.τ).loc Cert.AdUpIdeal.main_arg4)) →
    ∃ (v0 : (c : Dev Cert.AdUpIdeal.nD) → Buf (Elt Ideal) ((c.tc : Thread Cert.AdUpIdeal.nD Cert.AdUpIdeal.τ).loc Cert.AdUpIdeal.main_v0_0)) (v1 : (c : Dev Cert.AdUpIdeal.nD) → Buf (Elt Ideal) ((c.tc : Thread Cert.AdUpIdeal.nD Cert.AdUpIdeal.τ).loc Cert.AdUpIdeal.main_v0_1)) (v2 : (c : Dev Cert.AdUpIdeal.nD) → Buf (Elt Ideal) ((c.tc : Thread Cert.AdUpIdeal.nD Cert.AdUpIdeal.τ).loc Cert.AdUpIdeal.main_v0_2)) (v3 : (c : Dev Cert.AdUpIdeal.nD) → Buf (Elt Ideal) ((c.tc : Thread Cert.AdUpIdeal.nD Cert.AdUpIdeal.τ).loc Cert.AdUpIdeal.main_v0_3)),
      θ_run (Cert.AdUpIdeal.defs (F := Ideal)) (onTc (τ := Cert.AdUpIdeal.τ) (Cert.AdUpIdeal.main (F := Ideal))) ⟨m, fun _ => 0, g⟩ (fun r => ∀ c : Dev Cert.AdUpIdeal.nD,
          r.2.mem ((c.tc : Thread Cert.AdUpIdeal.nD Cert.AdUpIdeal.τ).loc Cert.AdUpIdeal.main_v0_0) = v0 c
          ∧ r.2.mem ((c.tc : Thread Cert.AdUpIdeal.nD Cert.AdUpIdeal.τ).loc Cert.AdUpIdeal.main_v0_1) = v1 c
          ∧ r.2.mem ((c.tc : Thread Cert.AdUpIdeal.nD Cert.AdUpIdeal.τ).loc Cert.AdUpIdeal.main_v0_2) = v2 c
          ∧ r.2.mem ((c.tc : Thread Cert.AdUpIdeal.nD Cert.AdUpIdeal.τ).loc Cert.AdUpIdeal.main_v0_3) = v3 c
          ∧ r.2.mem ((c.tc : Thread Cert.AdUpIdeal.nD Cert.AdUpIdeal.τ).loc Cert.AdUpIdeal.main_arg0) = m ((c.tc : Thread Cert.AdUpIdeal.nD Cert.AdUpIdeal.τ).loc Cert.AdUpIdeal.main_arg0)
          ∧ r.2.mem ((c.tc : Thread Cert.AdUpIdeal.nD Cert.AdUpIdeal.τ).loc Cert.AdUpIdeal.main_arg1) = m ((c.tc : Thread Cert.AdUpIdeal.nD Cert.AdUpIdeal.τ).loc Cert.AdUpIdeal.main_arg1)
          ∧ r.2.mem ((c.tc : Thread Cert.AdUpIdeal.nD Cert.AdUpIdeal.τ).loc Cert.AdUpIdeal.main_arg2) = m ((c.tc : Thread Cert.AdUpIdeal.nD Cert.AdUpIdeal.τ).loc Cert.AdUpIdeal.main_arg2)
          ∧ r.2.mem ((c.tc : Thread Cert.AdUpIdeal.nD Cert.AdUpIdeal.τ).loc Cert.AdUpIdeal.main_arg3) = m ((c.tc : Thread Cert.AdUpIdeal.nD Cert.AdUpIdeal.τ).loc Cert.AdUpIdeal.main_arg3)
          ∧ r.2.mem ((c.tc : Thread Cert.AdUpIdeal.nD Cert.AdUpIdeal.τ).loc Cert.AdUpIdeal.main_arg4) = m ((c.tc : Thread Cert.AdUpIdeal.nD Cert.AdUpIdeal.τ).loc Cert.AdUpIdeal.main_arg4))
      ∧ θ_run (Cert.RefAdUpIdeal.defs (F := Ideal)) (onTc (τ := Cert.RefAdUpIdeal.τ) (Cert.RefAdUpIdeal.main (F := Ideal))) ⟨m', fun _ => 0, g'⟩ (fun r => ∀ c : Dev Cert.RefAdUpIdeal.nD,
          r.2.mem ((c.tc : Thread Cert.RefAdUpIdeal.nD Cert.RefAdUpIdeal.τ).loc Cert.RefAdUpIdeal.main_v0) = v0 c
          ∧ r.2.mem ((c.tc : Thread Cert.RefAdUpIdeal.nD Cert.RefAdUpIdeal.τ).loc Cert.RefAdUpIdeal.main_v24) = v1 c
          ∧ r.2.mem ((c.tc : Thread Cert.RefAdUpIdeal.nD Cert.RefAdUpIdeal.τ).loc Cert.RefAdUpIdeal.main_v5) = v2 c
          ∧ r.2.mem ((c.tc : Thread Cert.RefAdUpIdeal.nD Cert.RefAdUpIdeal.τ).loc Cert.RefAdUpIdeal.main_v11) = v3 c
          ∧ r.2.mem ((c.tc : Thread Cert.RefAdUpIdeal.nD Cert.RefAdUpIdeal.τ).loc Cert.RefAdUpIdeal.main_arg0) = m' ((c.tc : Thread Cert.RefAdUpIdeal.nD Cert.RefAdUpIdeal.τ).loc Cert.RefAdUpIdeal.main_arg0)
          ∧ r.2.mem ((c.tc : Thread Cert.RefAdUpIdeal.nD Cert.RefAdUpIdeal.τ).loc Cert.RefAdUpIdeal.main_arg1) = m' ((c.tc : Thread Cert.RefAdUpIdeal.nD Cert.RefAdUpIdeal.τ).loc Cert.RefAdUpIdeal.main_arg1)
          ∧ r.2.mem ((c.tc : Thread Cert.RefAdUpIdeal.nD Cert.RefAdUpIdeal.τ).loc Cert.RefAdUpIdeal.main_arg2) = m' ((c.tc : Thread Cert.RefAdUpIdeal.nD Cert.RefAdUpIdeal.τ).loc Cert.RefAdUpIdeal.main_arg2)
          ∧ r.2.mem ((c.tc : Thread Cert.RefAdUpIdeal.nD Cert.RefAdUpIdeal.τ).loc Cert.RefAdUpIdeal.main_arg3) = m' ((c.tc : Thread Cert.RefAdUpIdeal.nD Cert.RefAdUpIdeal.τ).loc Cert.RefAdUpIdeal.main_arg3)
          ∧ r.2.mem ((c.tc : Thread Cert.RefAdUpIdeal.nD Cert.RefAdUpIdeal.τ).loc Cert.RefAdUpIdeal.main_arg4) = m' ((c.tc : Thread Cert.RefAdUpIdeal.nD Cert.RefAdUpIdeal.τ).loc Cert.RefAdUpIdeal.main_arg4))

def preserves_AdO_AdOIdeal : Prop :=
  True

def algebraic_AdOIdeal_RefAdOIdeal [hAdOIdeal : Cert.AdOIdeal.Facts] [hRefAdOIdeal : Cert.RefAdOIdeal.Facts] : Prop :=
  ∀ (m : (ℓ : Loc Cert.AdOIdeal.nD Cert.AdOIdeal.τ Cert.AdOIdeal.sig) → Buf (Elt Ideal) ℓ) (g : Dev Cert.AdOIdeal.nD → PrngReg)
    (m' : (ℓ : Loc Cert.RefAdOIdeal.nD Cert.RefAdOIdeal.τ Cert.RefAdOIdeal.sig) → Buf (Elt Ideal) ℓ) (g' : Dev Cert.RefAdOIdeal.nD → PrngReg), Pre_AdOIdeal m →
    (∀ c : Dev Cert.AdOIdeal.nD,
      m' ((c.tc : Thread Cert.RefAdOIdeal.nD Cert.RefAdOIdeal.τ).loc Cert.RefAdOIdeal.main_arg0) = m ((c.tc : Thread Cert.AdOIdeal.nD Cert.AdOIdeal.τ).loc Cert.AdOIdeal.main_arg0)
      ∧ m' ((c.tc : Thread Cert.RefAdOIdeal.nD Cert.RefAdOIdeal.τ).loc Cert.RefAdOIdeal.main_arg1) = m ((c.tc : Thread Cert.AdOIdeal.nD Cert.AdOIdeal.τ).loc Cert.AdOIdeal.main_arg1)
      ∧ m' ((c.tc : Thread Cert.RefAdOIdeal.nD Cert.RefAdOIdeal.τ).loc Cert.RefAdOIdeal.main_arg2) = m ((c.tc : Thread Cert.AdOIdeal.nD Cert.AdOIdeal.τ).loc Cert.AdOIdeal.main_arg2)
      ∧ m' ((c.tc : Thread Cert.RefAdOIdeal.nD Cert.RefAdOIdeal.τ).loc Cert.RefAdOIdeal.main_arg3) = m ((c.tc : Thread Cert.AdOIdeal.nD Cert.AdOIdeal.τ).loc Cert.AdOIdeal.main_arg3)
      ∧ m' ((c.tc : Thread Cert.RefAdOIdeal.nD Cert.RefAdOIdeal.τ).loc Cert.RefAdOIdeal.main_arg4) = m ((c.tc : Thread Cert.AdOIdeal.nD Cert.AdOIdeal.τ).loc Cert.AdOIdeal.main_arg4)) →
    ∃ (v0 : (c : Dev Cert.AdOIdeal.nD) → Buf (Elt Ideal) ((c.tc : Thread Cert.AdOIdeal.nD Cert.AdOIdeal.τ).loc Cert.AdOIdeal.main_v0_0)) (v1 : (c : Dev Cert.AdOIdeal.nD) → Buf (Elt Ideal) ((c.tc : Thread Cert.AdOIdeal.nD Cert.AdOIdeal.τ).loc Cert.AdOIdeal.main_v0_1)) (v2 : (c : Dev Cert.AdOIdeal.nD) → Buf (Elt Ideal) ((c.tc : Thread Cert.AdOIdeal.nD Cert.AdOIdeal.τ).loc Cert.AdOIdeal.main_v0_2)) (v3 : (c : Dev Cert.AdOIdeal.nD) → Buf (Elt Ideal) ((c.tc : Thread Cert.AdOIdeal.nD Cert.AdOIdeal.τ).loc Cert.AdOIdeal.main_v0_3)),
      θ_run (Cert.AdOIdeal.defs (F := Ideal)) (onTc (τ := Cert.AdOIdeal.τ) (Cert.AdOIdeal.main (F := Ideal))) ⟨m, fun _ => 0, g⟩ (fun r => ∀ c : Dev Cert.AdOIdeal.nD,
          r.2.mem ((c.tc : Thread Cert.AdOIdeal.nD Cert.AdOIdeal.τ).loc Cert.AdOIdeal.main_v0_0) = v0 c
          ∧ r.2.mem ((c.tc : Thread Cert.AdOIdeal.nD Cert.AdOIdeal.τ).loc Cert.AdOIdeal.main_v0_1) = v1 c
          ∧ r.2.mem ((c.tc : Thread Cert.AdOIdeal.nD Cert.AdOIdeal.τ).loc Cert.AdOIdeal.main_v0_2) = v2 c
          ∧ r.2.mem ((c.tc : Thread Cert.AdOIdeal.nD Cert.AdOIdeal.τ).loc Cert.AdOIdeal.main_v0_3) = v3 c
          ∧ r.2.mem ((c.tc : Thread Cert.AdOIdeal.nD Cert.AdOIdeal.τ).loc Cert.AdOIdeal.main_arg0) = m ((c.tc : Thread Cert.AdOIdeal.nD Cert.AdOIdeal.τ).loc Cert.AdOIdeal.main_arg0)
          ∧ r.2.mem ((c.tc : Thread Cert.AdOIdeal.nD Cert.AdOIdeal.τ).loc Cert.AdOIdeal.main_arg1) = m ((c.tc : Thread Cert.AdOIdeal.nD Cert.AdOIdeal.τ).loc Cert.AdOIdeal.main_arg1)
          ∧ r.2.mem ((c.tc : Thread Cert.AdOIdeal.nD Cert.AdOIdeal.τ).loc Cert.AdOIdeal.main_arg2) = m ((c.tc : Thread Cert.AdOIdeal.nD Cert.AdOIdeal.τ).loc Cert.AdOIdeal.main_arg2)
          ∧ r.2.mem ((c.tc : Thread Cert.AdOIdeal.nD Cert.AdOIdeal.τ).loc Cert.AdOIdeal.main_arg3) = m ((c.tc : Thread Cert.AdOIdeal.nD Cert.AdOIdeal.τ).loc Cert.AdOIdeal.main_arg3)
          ∧ r.2.mem ((c.tc : Thread Cert.AdOIdeal.nD Cert.AdOIdeal.τ).loc Cert.AdOIdeal.main_arg4) = m ((c.tc : Thread Cert.AdOIdeal.nD Cert.AdOIdeal.τ).loc Cert.AdOIdeal.main_arg4))
      ∧ θ_run (Cert.RefAdOIdeal.defs (F := Ideal)) (onTc (τ := Cert.RefAdOIdeal.τ) (Cert.RefAdOIdeal.main (F := Ideal))) ⟨m', fun _ => 0, g'⟩ (fun r => ∀ c : Dev Cert.RefAdOIdeal.nD,
          r.2.mem ((c.tc : Thread Cert.RefAdOIdeal.nD Cert.RefAdOIdeal.τ).loc Cert.RefAdOIdeal.main_v0) = v0 c
          ∧ r.2.mem ((c.tc : Thread Cert.RefAdOIdeal.nD Cert.RefAdOIdeal.τ).loc Cert.RefAdOIdeal.main_v24) = v1 c
          ∧ r.2.mem ((c.tc : Thread Cert.RefAdOIdeal.nD Cert.RefAdOIdeal.τ).loc Cert.RefAdOIdeal.main_v5) = v2 c
          ∧ r.2.mem ((c.tc : Thread Cert.RefAdOIdeal.nD Cert.RefAdOIdeal.τ).loc Cert.RefAdOIdeal.main_v11) = v3 c
          ∧ r.2.mem ((c.tc : Thread Cert.RefAdOIdeal.nD Cert.RefAdOIdeal.τ).loc Cert.RefAdOIdeal.main_arg0) = m' ((c.tc : Thread Cert.RefAdOIdeal.nD Cert.RefAdOIdeal.τ).loc Cert.RefAdOIdeal.main_arg0)
          ∧ r.2.mem ((c.tc : Thread Cert.RefAdOIdeal.nD Cert.RefAdOIdeal.τ).loc Cert.RefAdOIdeal.main_arg1) = m' ((c.tc : Thread Cert.RefAdOIdeal.nD Cert.RefAdOIdeal.τ).loc Cert.RefAdOIdeal.main_arg1)
          ∧ r.2.mem ((c.tc : Thread Cert.RefAdOIdeal.nD Cert.RefAdOIdeal.τ).loc Cert.RefAdOIdeal.main_arg2) = m' ((c.tc : Thread Cert.RefAdOIdeal.nD Cert.RefAdOIdeal.τ).loc Cert.RefAdOIdeal.main_arg2)
          ∧ r.2.mem ((c.tc : Thread Cert.RefAdOIdeal.nD Cert.RefAdOIdeal.τ).loc Cert.RefAdOIdeal.main_arg3) = m' ((c.tc : Thread Cert.RefAdOIdeal.nD Cert.RefAdOIdeal.τ).loc Cert.RefAdOIdeal.main_arg3)
          ∧ r.2.mem ((c.tc : Thread Cert.RefAdOIdeal.nD Cert.RefAdOIdeal.τ).loc Cert.RefAdOIdeal.main_arg4) = m' ((c.tc : Thread Cert.RefAdOIdeal.nD Cert.RefAdOIdeal.τ).loc Cert.RefAdOIdeal.main_arg4))

def preserves_AdOg_AdOgIdeal : Prop :=
  True

def algebraic_AdOgIdeal_RefAdOgIdeal [hAdOgIdeal : Cert.AdOgIdeal.Facts] [hRefAdOgIdeal : Cert.RefAdOgIdeal.Facts] : Prop :=
  ∀ (m : (ℓ : Loc Cert.AdOgIdeal.nD Cert.AdOgIdeal.τ Cert.AdOgIdeal.sig) → Buf (Elt Ideal) ℓ) (g : Dev Cert.AdOgIdeal.nD → PrngReg)
    (m' : (ℓ : Loc Cert.RefAdOgIdeal.nD Cert.RefAdOgIdeal.τ Cert.RefAdOgIdeal.sig) → Buf (Elt Ideal) ℓ) (g' : Dev Cert.RefAdOgIdeal.nD → PrngReg), Pre_AdOgIdeal m →
    (∀ c : Dev Cert.AdOgIdeal.nD,
      m' ((c.tc : Thread Cert.RefAdOgIdeal.nD Cert.RefAdOgIdeal.τ).loc Cert.RefAdOgIdeal.main_arg0) = m ((c.tc : Thread Cert.AdOgIdeal.nD Cert.AdOgIdeal.τ).loc Cert.AdOgIdeal.main_arg0)
      ∧ m' ((c.tc : Thread Cert.RefAdOgIdeal.nD Cert.RefAdOgIdeal.τ).loc Cert.RefAdOgIdeal.main_arg1) = m ((c.tc : Thread Cert.AdOgIdeal.nD Cert.AdOgIdeal.τ).loc Cert.AdOgIdeal.main_arg1)
      ∧ m' ((c.tc : Thread Cert.RefAdOgIdeal.nD Cert.RefAdOgIdeal.τ).loc Cert.RefAdOgIdeal.main_arg2) = m ((c.tc : Thread Cert.AdOgIdeal.nD Cert.AdOgIdeal.τ).loc Cert.AdOgIdeal.main_arg2)
      ∧ m' ((c.tc : Thread Cert.RefAdOgIdeal.nD Cert.RefAdOgIdeal.τ).loc Cert.RefAdOgIdeal.main_arg3) = m ((c.tc : Thread Cert.AdOgIdeal.nD Cert.AdOgIdeal.τ).loc Cert.AdOgIdeal.main_arg3)
      ∧ m' ((c.tc : Thread Cert.RefAdOgIdeal.nD Cert.RefAdOgIdeal.τ).loc Cert.RefAdOgIdeal.main_arg4) = m ((c.tc : Thread Cert.AdOgIdeal.nD Cert.AdOgIdeal.τ).loc Cert.AdOgIdeal.main_arg4)) →
    ∃ (v0 : (c : Dev Cert.AdOgIdeal.nD) → Buf (Elt Ideal) ((c.tc : Thread Cert.AdOgIdeal.nD Cert.AdOgIdeal.τ).loc Cert.AdOgIdeal.main_v0_0)) (v1 : (c : Dev Cert.AdOgIdeal.nD) → Buf (Elt Ideal) ((c.tc : Thread Cert.AdOgIdeal.nD Cert.AdOgIdeal.τ).loc Cert.AdOgIdeal.main_v0_1)) (v2 : (c : Dev Cert.AdOgIdeal.nD) → Buf (Elt Ideal) ((c.tc : Thread Cert.AdOgIdeal.nD Cert.AdOgIdeal.τ).loc Cert.AdOgIdeal.main_v0_2)) (v3 : (c : Dev Cert.AdOgIdeal.nD) → Buf (Elt Ideal) ((c.tc : Thread Cert.AdOgIdeal.nD Cert.AdOgIdeal.τ).loc Cert.AdOgIdeal.main_v0_3)),
      θ_run (Cert.AdOgIdeal.defs (F := Ideal)) (onTc (τ := Cert.AdOgIdeal.τ) (Cert.AdOgIdeal.main (F := Ideal))) ⟨m, fun _ => 0, g⟩ (fun r => ∀ c : Dev Cert.AdOgIdeal.nD,
          r.2.mem ((c.tc : Thread Cert.AdOgIdeal.nD Cert.AdOgIdeal.τ).loc Cert.AdOgIdeal.main_v0_0) = v0 c
          ∧ r.2.mem ((c.tc : Thread Cert.AdOgIdeal.nD Cert.AdOgIdeal.τ).loc Cert.AdOgIdeal.main_v0_1) = v1 c
          ∧ r.2.mem ((c.tc : Thread Cert.AdOgIdeal.nD Cert.AdOgIdeal.τ).loc Cert.AdOgIdeal.main_v0_2) = v2 c
          ∧ r.2.mem ((c.tc : Thread Cert.AdOgIdeal.nD Cert.AdOgIdeal.τ).loc Cert.AdOgIdeal.main_v0_3) = v3 c
          ∧ r.2.mem ((c.tc : Thread Cert.AdOgIdeal.nD Cert.AdOgIdeal.τ).loc Cert.AdOgIdeal.main_arg0) = m ((c.tc : Thread Cert.AdOgIdeal.nD Cert.AdOgIdeal.τ).loc Cert.AdOgIdeal.main_arg0)
          ∧ r.2.mem ((c.tc : Thread Cert.AdOgIdeal.nD Cert.AdOgIdeal.τ).loc Cert.AdOgIdeal.main_arg1) = m ((c.tc : Thread Cert.AdOgIdeal.nD Cert.AdOgIdeal.τ).loc Cert.AdOgIdeal.main_arg1)
          ∧ r.2.mem ((c.tc : Thread Cert.AdOgIdeal.nD Cert.AdOgIdeal.τ).loc Cert.AdOgIdeal.main_arg2) = m ((c.tc : Thread Cert.AdOgIdeal.nD Cert.AdOgIdeal.τ).loc Cert.AdOgIdeal.main_arg2)
          ∧ r.2.mem ((c.tc : Thread Cert.AdOgIdeal.nD Cert.AdOgIdeal.τ).loc Cert.AdOgIdeal.main_arg3) = m ((c.tc : Thread Cert.AdOgIdeal.nD Cert.AdOgIdeal.τ).loc Cert.AdOgIdeal.main_arg3)
          ∧ r.2.mem ((c.tc : Thread Cert.AdOgIdeal.nD Cert.AdOgIdeal.τ).loc Cert.AdOgIdeal.main_arg4) = m ((c.tc : Thread Cert.AdOgIdeal.nD Cert.AdOgIdeal.τ).loc Cert.AdOgIdeal.main_arg4))
      ∧ θ_run (Cert.RefAdOgIdeal.defs (F := Ideal)) (onTc (τ := Cert.RefAdOgIdeal.τ) (Cert.RefAdOgIdeal.main (F := Ideal))) ⟨m', fun _ => 0, g'⟩ (fun r => ∀ c : Dev Cert.RefAdOgIdeal.nD,
          r.2.mem ((c.tc : Thread Cert.RefAdOgIdeal.nD Cert.RefAdOgIdeal.τ).loc Cert.RefAdOgIdeal.main_v0) = v0 c
          ∧ r.2.mem ((c.tc : Thread Cert.RefAdOgIdeal.nD Cert.RefAdOgIdeal.τ).loc Cert.RefAdOgIdeal.main_v24) = v1 c
          ∧ r.2.mem ((c.tc : Thread Cert.RefAdOgIdeal.nD Cert.RefAdOgIdeal.τ).loc Cert.RefAdOgIdeal.main_v5) = v2 c
          ∧ r.2.mem ((c.tc : Thread Cert.RefAdOgIdeal.nD Cert.RefAdOgIdeal.τ).loc Cert.RefAdOgIdeal.main_v11) = v3 c
          ∧ r.2.mem ((c.tc : Thread Cert.RefAdOgIdeal.nD Cert.RefAdOgIdeal.τ).loc Cert.RefAdOgIdeal.main_arg0) = m' ((c.tc : Thread Cert.RefAdOgIdeal.nD Cert.RefAdOgIdeal.τ).loc Cert.RefAdOgIdeal.main_arg0)
          ∧ r.2.mem ((c.tc : Thread Cert.RefAdOgIdeal.nD Cert.RefAdOgIdeal.τ).loc Cert.RefAdOgIdeal.main_arg1) = m' ((c.tc : Thread Cert.RefAdOgIdeal.nD Cert.RefAdOgIdeal.τ).loc Cert.RefAdOgIdeal.main_arg1)
          ∧ r.2.mem ((c.tc : Thread Cert.RefAdOgIdeal.nD Cert.RefAdOgIdeal.τ).loc Cert.RefAdOgIdeal.main_arg2) = m' ((c.tc : Thread Cert.RefAdOgIdeal.nD Cert.RefAdOgIdeal.τ).loc Cert.RefAdOgIdeal.main_arg2)
          ∧ r.2.mem ((c.tc : Thread Cert.RefAdOgIdeal.nD Cert.RefAdOgIdeal.τ).loc Cert.RefAdOgIdeal.main_arg3) = m' ((c.tc : Thread Cert.RefAdOgIdeal.nD Cert.RefAdOgIdeal.τ).loc Cert.RefAdOgIdeal.main_arg3)
          ∧ r.2.mem ((c.tc : Thread Cert.RefAdOgIdeal.nD Cert.RefAdOgIdeal.τ).loc Cert.RefAdOgIdeal.main_arg4) = m' ((c.tc : Thread Cert.RefAdOgIdeal.nD Cert.RefAdOgIdeal.τ).loc Cert.RefAdOgIdeal.main_arg4))

def preserves_AdIn_AdInIdeal : Prop :=
  True

def algebraic_AdInIdeal_RefAdInIdeal [hAdInIdeal : Cert.AdInIdeal.Facts] [hRefAdInIdeal : Cert.RefAdInIdeal.Facts] : Prop :=
  ∀ (m : (ℓ : Loc Cert.AdInIdeal.nD Cert.AdInIdeal.τ Cert.AdInIdeal.sig) → Buf (Elt Ideal) ℓ) (g : Dev Cert.AdInIdeal.nD → PrngReg)
    (m' : (ℓ : Loc Cert.RefAdInIdeal.nD Cert.RefAdInIdeal.τ Cert.RefAdInIdeal.sig) → Buf (Elt Ideal) ℓ) (g' : Dev Cert.RefAdInIdeal.nD → PrngReg), Pre_AdInIdeal m →
    (∀ c : Dev Cert.AdInIdeal.nD,
      m' ((c.tc : Thread Cert.RefAdInIdeal.nD Cert.RefAdInIdeal.τ).loc Cert.RefAdInIdeal.main_arg0) = m ((c.tc : Thread Cert.AdInIdeal.nD Cert.AdInIdeal.τ).loc Cert.AdInIdeal.main_arg0)
      ∧ m' ((c.tc : Thread Cert.RefAdInIdeal.nD Cert.RefAdInIdeal.τ).loc Cert.RefAdInIdeal.main_arg1) = m ((c.tc : Thread Cert.AdInIdeal.nD Cert.AdInIdeal.τ).loc Cert.AdInIdeal.main_arg1)
      ∧ m' ((c.tc : Thread Cert.RefAdInIdeal.nD Cert.RefAdInIdeal.τ).loc Cert.RefAdInIdeal.main_arg2) = m ((c.tc : Thread Cert.AdInIdeal.nD Cert.AdInIdeal.τ).loc Cert.AdInIdeal.main_arg2)
      ∧ m' ((c.tc : Thread Cert.RefAdInIdeal.nD Cert.RefAdInIdeal.τ).loc Cert.RefAdInIdeal.main_arg3) = m ((c.tc : Thread Cert.AdInIdeal.nD Cert.AdInIdeal.τ).loc Cert.AdInIdeal.main_arg3)
      ∧ m' ((c.tc : Thread Cert.RefAdInIdeal.nD Cert.RefAdInIdeal.τ).loc Cert.RefAdInIdeal.main_arg4) = m ((c.tc : Thread Cert.AdInIdeal.nD Cert.AdInIdeal.τ).loc Cert.AdInIdeal.main_arg4)) →
    ∃ (v0 : (c : Dev Cert.AdInIdeal.nD) → Buf (Elt Ideal) ((c.tc : Thread Cert.AdInIdeal.nD Cert.AdInIdeal.τ).loc Cert.AdInIdeal.main_v0_0)) (v1 : (c : Dev Cert.AdInIdeal.nD) → Buf (Elt Ideal) ((c.tc : Thread Cert.AdInIdeal.nD Cert.AdInIdeal.τ).loc Cert.AdInIdeal.main_v0_1)) (v2 : (c : Dev Cert.AdInIdeal.nD) → Buf (Elt Ideal) ((c.tc : Thread Cert.AdInIdeal.nD Cert.AdInIdeal.τ).loc Cert.AdInIdeal.main_v0_2)) (v3 : (c : Dev Cert.AdInIdeal.nD) → Buf (Elt Ideal) ((c.tc : Thread Cert.AdInIdeal.nD Cert.AdInIdeal.τ).loc Cert.AdInIdeal.main_v0_3)),
      θ_run (Cert.AdInIdeal.defs (F := Ideal)) (onTc (τ := Cert.AdInIdeal.τ) (Cert.AdInIdeal.main (F := Ideal))) ⟨m, fun _ => 0, g⟩ (fun r => ∀ c : Dev Cert.AdInIdeal.nD,
          r.2.mem ((c.tc : Thread Cert.AdInIdeal.nD Cert.AdInIdeal.τ).loc Cert.AdInIdeal.main_v0_0) = v0 c
          ∧ r.2.mem ((c.tc : Thread Cert.AdInIdeal.nD Cert.AdInIdeal.τ).loc Cert.AdInIdeal.main_v0_1) = v1 c
          ∧ r.2.mem ((c.tc : Thread Cert.AdInIdeal.nD Cert.AdInIdeal.τ).loc Cert.AdInIdeal.main_v0_2) = v2 c
          ∧ r.2.mem ((c.tc : Thread Cert.AdInIdeal.nD Cert.AdInIdeal.τ).loc Cert.AdInIdeal.main_v0_3) = v3 c
          ∧ r.2.mem ((c.tc : Thread Cert.AdInIdeal.nD Cert.AdInIdeal.τ).loc Cert.AdInIdeal.main_arg0) = m ((c.tc : Thread Cert.AdInIdeal.nD Cert.AdInIdeal.τ).loc Cert.AdInIdeal.main_arg0)
          ∧ r.2.mem ((c.tc : Thread Cert.AdInIdeal.nD Cert.AdInIdeal.τ).loc Cert.AdInIdeal.main_arg1) = m ((c.tc : Thread Cert.AdInIdeal.nD Cert.AdInIdeal.τ).loc Cert.AdInIdeal.main_arg1)
          ∧ r.2.mem ((c.tc : Thread Cert.AdInIdeal.nD Cert.AdInIdeal.τ).loc Cert.AdInIdeal.main_arg2) = m ((c.tc : Thread Cert.AdInIdeal.nD Cert.AdInIdeal.τ).loc Cert.AdInIdeal.main_arg2)
          ∧ r.2.mem ((c.tc : Thread Cert.AdInIdeal.nD Cert.AdInIdeal.τ).loc Cert.AdInIdeal.main_arg3) = m ((c.tc : Thread Cert.AdInIdeal.nD Cert.AdInIdeal.τ).loc Cert.AdInIdeal.main_arg3)
          ∧ r.2.mem ((c.tc : Thread Cert.AdInIdeal.nD Cert.AdInIdeal.τ).loc Cert.AdInIdeal.main_arg4) = m ((c.tc : Thread Cert.AdInIdeal.nD Cert.AdInIdeal.τ).loc Cert.AdInIdeal.main_arg4))
      ∧ θ_run (Cert.RefAdInIdeal.defs (F := Ideal)) (onTc (τ := Cert.RefAdInIdeal.τ) (Cert.RefAdInIdeal.main (F := Ideal))) ⟨m', fun _ => 0, g'⟩ (fun r => ∀ c : Dev Cert.RefAdInIdeal.nD,
          r.2.mem ((c.tc : Thread Cert.RefAdInIdeal.nD Cert.RefAdInIdeal.τ).loc Cert.RefAdInIdeal.main_v0) = v0 c
          ∧ r.2.mem ((c.tc : Thread Cert.RefAdInIdeal.nD Cert.RefAdInIdeal.τ).loc Cert.RefAdInIdeal.main_v24) = v1 c
          ∧ r.2.mem ((c.tc : Thread Cert.RefAdInIdeal.nD Cert.RefAdInIdeal.τ).loc Cert.RefAdInIdeal.main_v5) = v2 c
          ∧ r.2.mem ((c.tc : Thread Cert.RefAdInIdeal.nD Cert.RefAdInIdeal.τ).loc Cert.RefAdInIdeal.main_v11) = v3 c
          ∧ r.2.mem ((c.tc : Thread Cert.RefAdInIdeal.nD Cert.RefAdInIdeal.τ).loc Cert.RefAdInIdeal.main_arg0) = m' ((c.tc : Thread Cert.RefAdInIdeal.nD Cert.RefAdInIdeal.τ).loc Cert.RefAdInIdeal.main_arg0)
          ∧ r.2.mem ((c.tc : Thread Cert.RefAdInIdeal.nD Cert.RefAdInIdeal.τ).loc Cert.RefAdInIdeal.main_arg1) = m' ((c.tc : Thread Cert.RefAdInIdeal.nD Cert.RefAdInIdeal.τ).loc Cert.RefAdInIdeal.main_arg1)
          ∧ r.2.mem ((c.tc : Thread Cert.RefAdInIdeal.nD Cert.RefAdInIdeal.τ).loc Cert.RefAdInIdeal.main_arg2) = m' ((c.tc : Thread Cert.RefAdInIdeal.nD Cert.RefAdInIdeal.τ).loc Cert.RefAdInIdeal.main_arg2)
          ∧ r.2.mem ((c.tc : Thread Cert.RefAdInIdeal.nD Cert.RefAdInIdeal.τ).loc Cert.RefAdInIdeal.main_arg3) = m' ((c.tc : Thread Cert.RefAdInIdeal.nD Cert.RefAdInIdeal.τ).loc Cert.RefAdInIdeal.main_arg3)
          ∧ r.2.mem ((c.tc : Thread Cert.RefAdInIdeal.nD Cert.RefAdInIdeal.τ).loc Cert.RefAdInIdeal.main_arg4) = m' ((c.tc : Thread Cert.RefAdInIdeal.nD Cert.RefAdInIdeal.τ).loc Cert.RefAdInIdeal.main_arg4))

def preserves_AdAda_AdAdaIdeal : Prop :=
  True

def algebraic_AdAdaIdeal_RefAdAdaIdeal [hAdAdaIdeal : Cert.AdAdaIdeal.Facts] [hRefAdAdaIdeal : Cert.RefAdAdaIdeal.Facts] : Prop :=
  ∀ (m : (ℓ : Loc Cert.AdAdaIdeal.nD Cert.AdAdaIdeal.τ Cert.AdAdaIdeal.sig) → Buf (Elt Ideal) ℓ) (g : Dev Cert.AdAdaIdeal.nD → PrngReg)
    (m' : (ℓ : Loc Cert.RefAdAdaIdeal.nD Cert.RefAdAdaIdeal.τ Cert.RefAdAdaIdeal.sig) → Buf (Elt Ideal) ℓ) (g' : Dev Cert.RefAdAdaIdeal.nD → PrngReg), Pre_AdAdaIdeal m →
    (∀ c : Dev Cert.AdAdaIdeal.nD,
      m' ((c.tc : Thread Cert.RefAdAdaIdeal.nD Cert.RefAdAdaIdeal.τ).loc Cert.RefAdAdaIdeal.main_arg0) = m ((c.tc : Thread Cert.AdAdaIdeal.nD Cert.AdAdaIdeal.τ).loc Cert.AdAdaIdeal.main_arg0)
      ∧ m' ((c.tc : Thread Cert.RefAdAdaIdeal.nD Cert.RefAdAdaIdeal.τ).loc Cert.RefAdAdaIdeal.main_arg1) = m ((c.tc : Thread Cert.AdAdaIdeal.nD Cert.AdAdaIdeal.τ).loc Cert.AdAdaIdeal.main_arg1)
      ∧ m' ((c.tc : Thread Cert.RefAdAdaIdeal.nD Cert.RefAdAdaIdeal.τ).loc Cert.RefAdAdaIdeal.main_arg2) = m ((c.tc : Thread Cert.AdAdaIdeal.nD Cert.AdAdaIdeal.τ).loc Cert.AdAdaIdeal.main_arg2)
      ∧ m' ((c.tc : Thread Cert.RefAdAdaIdeal.nD Cert.RefAdAdaIdeal.τ).loc Cert.RefAdAdaIdeal.main_arg3) = m ((c.tc : Thread Cert.AdAdaIdeal.nD Cert.AdAdaIdeal.τ).loc Cert.AdAdaIdeal.main_arg3)) →
    ∃ (v0 : (c : Dev Cert.AdAdaIdeal.nD) → Buf (Elt Ideal) ((c.tc : Thread Cert.AdAdaIdeal.nD Cert.AdAdaIdeal.τ).loc Cert.AdAdaIdeal.main_v0_0)) (v1 : (c : Dev Cert.AdAdaIdeal.nD) → Buf (Elt Ideal) ((c.tc : Thread Cert.AdAdaIdeal.nD Cert.AdAdaIdeal.τ).loc Cert.AdAdaIdeal.main_v0_1)) (v2 : (c : Dev Cert.AdAdaIdeal.nD) → Buf (Elt Ideal) ((c.tc : Thread Cert.AdAdaIdeal.nD Cert.AdAdaIdeal.τ).loc Cert.AdAdaIdeal.main_v0_2)) (v3 : (c : Dev Cert.AdAdaIdeal.nD) → Buf (Elt Ideal) ((c.tc : Thread Cert.AdAdaIdeal.nD Cert.AdAdaIdeal.τ).loc Cert.AdAdaIdeal.main_v0_3)),
      θ_run (Cert.AdAdaIdeal.defs (F := Ideal)) (onTc (τ := Cert.AdAdaIdeal.τ) (Cert.AdAdaIdeal.main (F := Ideal))) ⟨m, fun _ => 0, g⟩ (fun r => ∀ c : Dev Cert.AdAdaIdeal.nD,
          r.2.mem ((c.tc : Thread Cert.AdAdaIdeal.nD Cert.AdAdaIdeal.τ).loc Cert.AdAdaIdeal.main_v0_0) = v0 c
          ∧ r.2.mem ((c.tc : Thread Cert.AdAdaIdeal.nD Cert.AdAdaIdeal.τ).loc Cert.AdAdaIdeal.main_v0_1) = v1 c
          ∧ r.2.mem ((c.tc : Thread Cert.AdAdaIdeal.nD Cert.AdAdaIdeal.τ).loc Cert.AdAdaIdeal.main_v0_2) = v2 c
          ∧ r.2.mem ((c.tc : Thread Cert.AdAdaIdeal.nD Cert.AdAdaIdeal.τ).loc Cert.AdAdaIdeal.main_v0_3) = v3 c
          ∧ r.2.mem ((c.tc : Thread Cert.AdAdaIdeal.nD Cert.AdAdaIdeal.τ).loc Cert.AdAdaIdeal.main_arg0) = m ((c.tc : Thread Cert.AdAdaIdeal.nD Cert.AdAdaIdeal.τ).loc Cert.AdAdaIdeal.main_arg0)
          ∧ r.2.mem ((c.tc : Thread Cert.AdAdaIdeal.nD Cert.AdAdaIdeal.τ).loc Cert.AdAdaIdeal.main_arg1) = m ((c.tc : Thread Cert.AdAdaIdeal.nD Cert.AdAdaIdeal.τ).loc Cert.AdAdaIdeal.main_arg1)
          ∧ r.2.mem ((c.tc : Thread Cert.AdAdaIdeal.nD Cert.AdAdaIdeal.τ).loc Cert.AdAdaIdeal.main_arg2) = m ((c.tc : Thread Cert.AdAdaIdeal.nD Cert.AdAdaIdeal.τ).loc Cert.AdAdaIdeal.main_arg2)
          ∧ r.2.mem ((c.tc : Thread Cert.AdAdaIdeal.nD Cert.AdAdaIdeal.τ).loc Cert.AdAdaIdeal.main_arg3) = m ((c.tc : Thread Cert.AdAdaIdeal.nD Cert.AdAdaIdeal.τ).loc Cert.AdAdaIdeal.main_arg3))
      ∧ θ_run (Cert.RefAdAdaIdeal.defs (F := Ideal)) (onTc (τ := Cert.RefAdAdaIdeal.τ) (Cert.RefAdAdaIdeal.main (F := Ideal))) ⟨m', fun _ => 0, g'⟩ (fun r => ∀ c : Dev Cert.RefAdAdaIdeal.nD,
          r.2.mem ((c.tc : Thread Cert.RefAdAdaIdeal.nD Cert.RefAdAdaIdeal.τ).loc Cert.RefAdAdaIdeal.main_arg3) = v0 c
          ∧ r.2.mem ((c.tc : Thread Cert.RefAdAdaIdeal.nD Cert.RefAdAdaIdeal.τ).loc Cert.RefAdAdaIdeal.main_v23) = v1 c
          ∧ r.2.mem ((c.tc : Thread Cert.RefAdAdaIdeal.nD Cert.RefAdAdaIdeal.τ).loc Cert.RefAdAdaIdeal.main_v4) = v2 c
          ∧ r.2.mem ((c.tc : Thread Cert.RefAdAdaIdeal.nD Cert.RefAdAdaIdeal.τ).loc Cert.RefAdAdaIdeal.main_v10) = v3 c
          ∧ r.2.mem ((c.tc : Thread Cert.RefAdAdaIdeal.nD Cert.RefAdAdaIdeal.τ).loc Cert.RefAdAdaIdeal.main_arg0) = m' ((c.tc : Thread Cert.RefAdAdaIdeal.nD Cert.RefAdAdaIdeal.τ).loc Cert.RefAdAdaIdeal.main_arg0)
          ∧ r.2.mem ((c.tc : Thread Cert.RefAdAdaIdeal.nD Cert.RefAdAdaIdeal.τ).loc Cert.RefAdAdaIdeal.main_arg1) = m' ((c.tc : Thread Cert.RefAdAdaIdeal.nD Cert.RefAdAdaIdeal.τ).loc Cert.RefAdAdaIdeal.main_arg1)
          ∧ r.2.mem ((c.tc : Thread Cert.RefAdAdaIdeal.nD Cert.RefAdAdaIdeal.τ).loc Cert.RefAdAdaIdeal.main_arg2) = m' ((c.tc : Thread Cert.RefAdAdaIdeal.nD Cert.RefAdAdaIdeal.τ).loc Cert.RefAdAdaIdeal.main_arg2)
          ∧ r.2.mem ((c.tc : Thread Cert.RefAdAdaIdeal.nD Cert.RefAdAdaIdeal.τ).loc Cert.RefAdAdaIdeal.main_arg3) = m' ((c.tc : Thread Cert.RefAdAdaIdeal.nD Cert.RefAdAdaIdeal.τ).loc Cert.RefAdAdaIdeal.main_arg3))

def preserves_AdBada_AdBadaIdeal : Prop :=
  True

def algebraic_AdBadaIdeal_RefAdBadaIdeal [hAdBadaIdeal : Cert.AdBadaIdeal.Facts] [hRefAdBadaIdeal : Cert.RefAdBadaIdeal.Facts] : Prop :=
  ∀ (m : (ℓ : Loc Cert.AdBadaIdeal.nD Cert.AdBadaIdeal.τ Cert.AdBadaIdeal.sig) → Buf (Elt Ideal) ℓ) (g : Dev Cert.AdBadaIdeal.nD → PrngReg)
    (m' : (ℓ : Loc Cert.RefAdBadaIdeal.nD Cert.RefAdBadaIdeal.τ Cert.RefAdBadaIdeal.sig) → Buf (Elt Ideal) ℓ) (g' : Dev Cert.RefAdBadaIdeal.nD → PrngReg), Pre_AdBadaIdeal m →
    (∀ c : Dev Cert.AdBadaIdeal.nD,
      m' ((c.tc : Thread Cert.RefAdBadaIdeal.nD Cert.RefAdBadaIdeal.τ).loc Cert.RefAdBadaIdeal.main_arg0) = m ((c.tc : Thread Cert.AdBadaIdeal.nD Cert.AdBadaIdeal.τ).loc Cert.AdBadaIdeal.main_arg0)
      ∧ m' ((c.tc : Thread Cert.RefAdBadaIdeal.nD Cert.RefAdBadaIdeal.τ).loc Cert.RefAdBadaIdeal.main_arg1) = m ((c.tc : Thread Cert.AdBadaIdeal.nD Cert.AdBadaIdeal.τ).loc Cert.AdBadaIdeal.main_arg1)
      ∧ m' ((c.tc : Thread Cert.RefAdBadaIdeal.nD Cert.RefAdBadaIdeal.τ).loc Cert.RefAdBadaIdeal.main_arg2) = m ((c.tc : Thread Cert.AdBadaIdeal.nD Cert.AdBadaIdeal.τ).loc Cert.AdBadaIdeal.main_arg2)
      ∧ m' ((c.tc : Thread Cert.RefAdBadaIdeal.nD Cert.RefAdBadaIdeal.τ).loc Cert.RefAdBadaIdeal.main_arg3) = m ((c.tc : Thread Cert.AdBadaIdeal.nD Cert.AdBadaIdeal.τ).loc Cert.AdBadaIdeal.main_arg3)) →
    ∃ (v0 : (c : Dev Cert.AdBadaIdeal.nD) → Buf (Elt Ideal) ((c.tc : Thread Cert.AdBadaIdeal.nD Cert.AdBadaIdeal.τ).loc Cert.AdBadaIdeal.main_v0_0)) (v1 : (c : Dev Cert.AdBadaIdeal.nD) → Buf (Elt Ideal) ((c.tc : Thread Cert.AdBadaIdeal.nD Cert.AdBadaIdeal.τ).loc Cert.AdBadaIdeal.main_v0_1)) (v2 : (c : Dev Cert.AdBadaIdeal.nD) → Buf (Elt Ideal) ((c.tc : Thread Cert.AdBadaIdeal.nD Cert.AdBadaIdeal.τ).loc Cert.AdBadaIdeal.main_v0_2)) (v3 : (c : Dev Cert.AdBadaIdeal.nD) → Buf (Elt Ideal) ((c.tc : Thread Cert.AdBadaIdeal.nD Cert.AdBadaIdeal.τ).loc Cert.AdBadaIdeal.main_v0_3)),
      θ_run (Cert.AdBadaIdeal.defs (F := Ideal)) (onTc (τ := Cert.AdBadaIdeal.τ) (Cert.AdBadaIdeal.main (F := Ideal))) ⟨m, fun _ => 0, g⟩ (fun r => ∀ c : Dev Cert.AdBadaIdeal.nD,
          r.2.mem ((c.tc : Thread Cert.AdBadaIdeal.nD Cert.AdBadaIdeal.τ).loc Cert.AdBadaIdeal.main_v0_0) = v0 c
          ∧ r.2.mem ((c.tc : Thread Cert.AdBadaIdeal.nD Cert.AdBadaIdeal.τ).loc Cert.AdBadaIdeal.main_v0_1) = v1 c
          ∧ r.2.mem ((c.tc : Thread Cert.AdBadaIdeal.nD Cert.AdBadaIdeal.τ).loc Cert.AdBadaIdeal.main_v0_2) = v2 c
          ∧ r.2.mem ((c.tc : Thread Cert.AdBadaIdeal.nD Cert.AdBadaIdeal.τ).loc Cert.AdBadaIdeal.main_v0_3) = v3 c
          ∧ r.2.mem ((c.tc : Thread Cert.AdBadaIdeal.nD Cert.AdBadaIdeal.τ).loc Cert.AdBadaIdeal.main_arg0) = m ((c.tc : Thread Cert.AdBadaIdeal.nD Cert.AdBadaIdeal.τ).loc Cert.AdBadaIdeal.main_arg0)
          ∧ r.2.mem ((c.tc : Thread Cert.AdBadaIdeal.nD Cert.AdBadaIdeal.τ).loc Cert.AdBadaIdeal.main_arg1) = m ((c.tc : Thread Cert.AdBadaIdeal.nD Cert.AdBadaIdeal.τ).loc Cert.AdBadaIdeal.main_arg1)
          ∧ r.2.mem ((c.tc : Thread Cert.AdBadaIdeal.nD Cert.AdBadaIdeal.τ).loc Cert.AdBadaIdeal.main_arg2) = m ((c.tc : Thread Cert.AdBadaIdeal.nD Cert.AdBadaIdeal.τ).loc Cert.AdBadaIdeal.main_arg2)
          ∧ r.2.mem ((c.tc : Thread Cert.AdBadaIdeal.nD Cert.AdBadaIdeal.τ).loc Cert.AdBadaIdeal.main_arg3) = m ((c.tc : Thread Cert.AdBadaIdeal.nD Cert.AdBadaIdeal.τ).loc Cert.AdBadaIdeal.main_arg3))
      ∧ θ_run (Cert.RefAdBadaIdeal.defs (F := Ideal)) (onTc (τ := Cert.RefAdBadaIdeal.τ) (Cert.RefAdBadaIdeal.main (F := Ideal))) ⟨m', fun _ => 0, g'⟩ (fun r => ∀ c : Dev Cert.RefAdBadaIdeal.nD,
          r.2.mem ((c.tc : Thread Cert.RefAdBadaIdeal.nD Cert.RefAdBadaIdeal.τ).loc Cert.RefAdBadaIdeal.main_arg3) = v0 c
          ∧ r.2.mem ((c.tc : Thread Cert.RefAdBadaIdeal.nD Cert.RefAdBadaIdeal.τ).loc Cert.RefAdBadaIdeal.main_v23) = v1 c
          ∧ r.2.mem ((c.tc : Thread Cert.RefAdBadaIdeal.nD Cert.RefAdBadaIdeal.τ).loc Cert.RefAdBadaIdeal.main_v4) = v2 c
          ∧ r.2.mem ((c.tc : Thread Cert.RefAdBadaIdeal.nD Cert.RefAdBadaIdeal.τ).loc Cert.RefAdBadaIdeal.main_v10) = v3 c
          ∧ r.2.mem ((c.tc : Thread Cert.RefAdBadaIdeal.nD Cert.RefAdBadaIdeal.τ).loc Cert.RefAdBadaIdeal.main_arg0) = m' ((c.tc : Thread Cert.RefAdBadaIdeal.nD Cert.RefAdBadaIdeal.τ).loc Cert.RefAdBadaIdeal.main_arg0)
          ∧ r.2.mem ((c.tc : Thread Cert.RefAdBadaIdeal.nD Cert.RefAdBadaIdeal.τ).loc Cert.RefAdBadaIdeal.main_arg1) = m' ((c.tc : Thread Cert.RefAdBadaIdeal.nD Cert.RefAdBadaIdeal.τ).loc Cert.RefAdBadaIdeal.main_arg1)
          ∧ r.2.mem ((c.tc : Thread Cert.RefAdBadaIdeal.nD Cert.RefAdBadaIdeal.τ).loc Cert.RefAdBadaIdeal.main_arg2) = m' ((c.tc : Thread Cert.RefAdBadaIdeal.nD Cert.RefAdBadaIdeal.τ).loc Cert.RefAdBadaIdeal.main_arg2)
          ∧ r.2.mem ((c.tc : Thread Cert.RefAdBadaIdeal.nD Cert.RefAdBadaIdeal.τ).loc Cert.RefAdBadaIdeal.main_arg3) = m' ((c.tc : Thread Cert.RefAdBadaIdeal.nD Cert.RefAdBadaIdeal.τ).loc Cert.RefAdBadaIdeal.main_arg3))

def preserves_AdNorm_AdNormIdeal : Prop :=
  True

def algebraic_AdNormIdeal_RefAdNormIdeal [hAdNormIdeal : Cert.AdNormIdeal.Facts] [hRefAdNormIdeal : Cert.RefAdNormIdeal.Facts] : Prop :=
  ∀ (m : (ℓ : Loc Cert.AdNormIdeal.nD Cert.AdNormIdeal.τ Cert.AdNormIdeal.sig) → Buf (Elt Ideal) ℓ) (g : Dev Cert.AdNormIdeal.nD → PrngReg)
    (m' : (ℓ : Loc Cert.RefAdNormIdeal.nD Cert.RefAdNormIdeal.τ Cert.RefAdNormIdeal.sig) → Buf (Elt Ideal) ℓ) (g' : Dev Cert.RefAdNormIdeal.nD → PrngReg), Pre_AdNormIdeal m →
    (∀ c : Dev Cert.AdNormIdeal.nD,
      m' ((c.tc : Thread Cert.RefAdNormIdeal.nD Cert.RefAdNormIdeal.τ).loc Cert.RefAdNormIdeal.main_arg0) = m ((c.tc : Thread Cert.AdNormIdeal.nD Cert.AdNormIdeal.τ).loc Cert.AdNormIdeal.main_arg0)
      ∧ m' ((c.tc : Thread Cert.RefAdNormIdeal.nD Cert.RefAdNormIdeal.τ).loc Cert.RefAdNormIdeal.main_arg1) = m ((c.tc : Thread Cert.AdNormIdeal.nD Cert.AdNormIdeal.τ).loc Cert.AdNormIdeal.main_arg1)
      ∧ m' ((c.tc : Thread Cert.RefAdNormIdeal.nD Cert.RefAdNormIdeal.τ).loc Cert.RefAdNormIdeal.main_arg2) = m ((c.tc : Thread Cert.AdNormIdeal.nD Cert.AdNormIdeal.τ).loc Cert.AdNormIdeal.main_arg2)
      ∧ m' ((c.tc : Thread Cert.RefAdNormIdeal.nD Cert.RefAdNormIdeal.τ).loc Cert.RefAdNormIdeal.main_arg3) = m ((c.tc : Thread Cert.AdNormIdeal.nD Cert.AdNormIdeal.τ).loc Cert.AdNormIdeal.main_arg3)) →
    ∃ (v0 : (c : Dev Cert.AdNormIdeal.nD) → Buf (Elt Ideal) ((c.tc : Thread Cert.AdNormIdeal.nD Cert.AdNormIdeal.τ).loc Cert.AdNormIdeal.main_v0_0)) (v1 : (c : Dev Cert.AdNormIdeal.nD) → Buf (Elt Ideal) ((c.tc : Thread Cert.AdNormIdeal.nD Cert.AdNormIdeal.τ).loc Cert.AdNormIdeal.main_v0_1)) (v2 : (c : Dev Cert.AdNormIdeal.nD) → Buf (Elt Ideal) ((c.tc : Thread Cert.AdNormIdeal.nD Cert.AdNormIdeal.τ).loc Cert.AdNormIdeal.main_v0_2)) (v3 : (c : Dev Cert.AdNormIdeal.nD) → Buf (Elt Ideal) ((c.tc : Thread Cert.AdNormIdeal.nD Cert.AdNormIdeal.τ).loc Cert.AdNormIdeal.main_v0_3)),
      θ_run (Cert.AdNormIdeal.defs (F := Ideal)) (onTc (τ := Cert.AdNormIdeal.τ) (Cert.AdNormIdeal.main (F := Ideal))) ⟨m, fun _ => 0, g⟩ (fun r => ∀ c : Dev Cert.AdNormIdeal.nD,
          r.2.mem ((c.tc : Thread Cert.AdNormIdeal.nD Cert.AdNormIdeal.τ).loc Cert.AdNormIdeal.main_v0_0) = v0 c
          ∧ r.2.mem ((c.tc : Thread Cert.AdNormIdeal.nD Cert.AdNormIdeal.τ).loc Cert.AdNormIdeal.main_v0_1) = v1 c
          ∧ r.2.mem ((c.tc : Thread Cert.AdNormIdeal.nD Cert.AdNormIdeal.τ).loc Cert.AdNormIdeal.main_v0_2) = v2 c
          ∧ r.2.mem ((c.tc : Thread Cert.AdNormIdeal.nD Cert.AdNormIdeal.τ).loc Cert.AdNormIdeal.main_v0_3) = v3 c
          ∧ r.2.mem ((c.tc : Thread Cert.AdNormIdeal.nD Cert.AdNormIdeal.τ).loc Cert.AdNormIdeal.main_arg0) = m ((c.tc : Thread Cert.AdNormIdeal.nD Cert.AdNormIdeal.τ).loc Cert.AdNormIdeal.main_arg0)
          ∧ r.2.mem ((c.tc : Thread Cert.AdNormIdeal.nD Cert.AdNormIdeal.τ).loc Cert.AdNormIdeal.main_arg1) = m ((c.tc : Thread Cert.AdNormIdeal.nD Cert.AdNormIdeal.τ).loc Cert.AdNormIdeal.main_arg1)
          ∧ r.2.mem ((c.tc : Thread Cert.AdNormIdeal.nD Cert.AdNormIdeal.τ).loc Cert.AdNormIdeal.main_arg2) = m ((c.tc : Thread Cert.AdNormIdeal.nD Cert.AdNormIdeal.τ).loc Cert.AdNormIdeal.main_arg2)
          ∧ r.2.mem ((c.tc : Thread Cert.AdNormIdeal.nD Cert.AdNormIdeal.τ).loc Cert.AdNormIdeal.main_arg3) = m ((c.tc : Thread Cert.AdNormIdeal.nD Cert.AdNormIdeal.τ).loc Cert.AdNormIdeal.main_arg3))
      ∧ θ_run (Cert.RefAdNormIdeal.defs (F := Ideal)) (onTc (τ := Cert.RefAdNormIdeal.τ) (Cert.RefAdNormIdeal.main (F := Ideal))) ⟨m', fun _ => 0, g'⟩ (fun r => ∀ c : Dev Cert.RefAdNormIdeal.nD,
          r.2.mem ((c.tc : Thread Cert.RefAdNormIdeal.nD Cert.RefAdNormIdeal.τ).loc Cert.RefAdNormIdeal.main_arg3) = v0 c
          ∧ r.2.mem ((c.tc : Thread Cert.RefAdNormIdeal.nD Cert.RefAdNormIdeal.τ).loc Cert.RefAdNormIdeal.main_v23) = v1 c
          ∧ r.2.mem ((c.tc : Thread Cert.RefAdNormIdeal.nD Cert.RefAdNormIdeal.τ).loc Cert.RefAdNormIdeal.main_v4) = v2 c
          ∧ r.2.mem ((c.tc : Thread Cert.RefAdNormIdeal.nD Cert.RefAdNormIdeal.τ).loc Cert.RefAdNormIdeal.main_v10) = v3 c
          ∧ r.2.mem ((c.tc : Thread Cert.RefAdNormIdeal.nD Cert.RefAdNormIdeal.τ).loc Cert.RefAdNormIdeal.main_arg0) = m' ((c.tc : Thread Cert.RefAdNormIdeal.nD Cert.RefAdNormIdeal.τ).loc Cert.RefAdNormIdeal.main_arg0)
          ∧ r.2.mem ((c.tc : Thread Cert.RefAdNormIdeal.nD Cert.RefAdNormIdeal.τ).loc Cert.RefAdNormIdeal.main_arg1) = m' ((c.tc : Thread Cert.RefAdNormIdeal.nD Cert.RefAdNormIdeal.τ).loc Cert.RefAdNormIdeal.main_arg1)
          ∧ r.2.mem ((c.tc : Thread Cert.RefAdNormIdeal.nD Cert.RefAdNormIdeal.τ).loc Cert.RefAdNormIdeal.main_arg2) = m' ((c.tc : Thread Cert.RefAdNormIdeal.nD Cert.RefAdNormIdeal.τ).loc Cert.RefAdNormIdeal.main_arg2)
          ∧ r.2.mem ((c.tc : Thread Cert.RefAdNormIdeal.nD Cert.RefAdNormIdeal.τ).loc Cert.RefAdNormIdeal.main_arg3) = m' ((c.tc : Thread Cert.RefAdNormIdeal.nD Cert.RefAdNormIdeal.τ).loc Cert.RefAdNormIdeal.main_arg3))

def preserves_AdWa_AdWaIdeal : Prop :=
  True

def algebraic_AdWaIdeal_RefAdWaIdeal [hAdWaIdeal : Cert.AdWaIdeal.Facts] [hRefAdWaIdeal : Cert.RefAdWaIdeal.Facts] : Prop :=
  ∀ (m : (ℓ : Loc Cert.AdWaIdeal.nD Cert.AdWaIdeal.τ Cert.AdWaIdeal.sig) → Buf (Elt Ideal) ℓ) (g : Dev Cert.AdWaIdeal.nD → PrngReg)
    (m' : (ℓ : Loc Cert.RefAdWaIdeal.nD Cert.RefAdWaIdeal.τ Cert.RefAdWaIdeal.sig) → Buf (Elt Ideal) ℓ) (g' : Dev Cert.RefAdWaIdeal.nD → PrngReg), Pre_AdWaIdeal m →
    (∀ c : Dev Cert.AdWaIdeal.nD,
      m' ((c.tc : Thread Cert.RefAdWaIdeal.nD Cert.RefAdWaIdeal.τ).loc Cert.RefAdWaIdeal.main_arg0) = m ((c.tc : Thread Cert.AdWaIdeal.nD Cert.AdWaIdeal.τ).loc Cert.AdWaIdeal.main_arg0)
      ∧ m' ((c.tc : Thread Cert.RefAdWaIdeal.nD Cert.RefAdWaIdeal.τ).loc Cert.RefAdWaIdeal.main_arg1) = m ((c.tc : Thread Cert.AdWaIdeal.nD Cert.AdWaIdeal.τ).loc Cert.AdWaIdeal.main_arg1)
      ∧ m' ((c.tc : Thread Cert.RefAdWaIdeal.nD Cert.RefAdWaIdeal.τ).loc Cert.RefAdWaIdeal.main_arg2) = m ((c.tc : Thread Cert.AdWaIdeal.nD Cert.AdWaIdeal.τ).loc Cert.AdWaIdeal.main_arg2)
      ∧ m' ((c.tc : Thread Cert.RefAdWaIdeal.nD Cert.RefAdWaIdeal.τ).loc Cert.RefAdWaIdeal.main_arg3) = m ((c.tc : Thread Cert.AdWaIdeal.nD Cert.AdWaIdeal.τ).loc Cert.AdWaIdeal.main_arg3)) →
    ∃ (v0 : (c : Dev Cert.AdWaIdeal.nD) → Buf (Elt Ideal) ((c.tc : Thread Cert.AdWaIdeal.nD Cert.AdWaIdeal.τ).loc Cert.AdWaIdeal.main_v0_0)) (v1 : (c : Dev Cert.AdWaIdeal.nD) → Buf (Elt Ideal) ((c.tc : Thread Cert.AdWaIdeal.nD Cert.AdWaIdeal.τ).loc Cert.AdWaIdeal.main_v0_1)) (v2 : (c : Dev Cert.AdWaIdeal.nD) → Buf (Elt Ideal) ((c.tc : Thread Cert.AdWaIdeal.nD Cert.AdWaIdeal.τ).loc Cert.AdWaIdeal.main_v0_2)) (v3 : (c : Dev Cert.AdWaIdeal.nD) → Buf (Elt Ideal) ((c.tc : Thread Cert.AdWaIdeal.nD Cert.AdWaIdeal.τ).loc Cert.AdWaIdeal.main_v0_3)),
      θ_run (Cert.AdWaIdeal.defs (F := Ideal)) (onTc (τ := Cert.AdWaIdeal.τ) (Cert.AdWaIdeal.main (F := Ideal))) ⟨m, fun _ => 0, g⟩ (fun r => ∀ c : Dev Cert.AdWaIdeal.nD,
          r.2.mem ((c.tc : Thread Cert.AdWaIdeal.nD Cert.AdWaIdeal.τ).loc Cert.AdWaIdeal.main_v0_0) = v0 c
          ∧ r.2.mem ((c.tc : Thread Cert.AdWaIdeal.nD Cert.AdWaIdeal.τ).loc Cert.AdWaIdeal.main_v0_1) = v1 c
          ∧ r.2.mem ((c.tc : Thread Cert.AdWaIdeal.nD Cert.AdWaIdeal.τ).loc Cert.AdWaIdeal.main_v0_2) = v2 c
          ∧ r.2.mem ((c.tc : Thread Cert.AdWaIdeal.nD Cert.AdWaIdeal.τ).loc Cert.AdWaIdeal.main_v0_3) = v3 c
          ∧ r.2.mem ((c.tc : Thread Cert.AdWaIdeal.nD Cert.AdWaIdeal.τ).loc Cert.AdWaIdeal.main_arg0) = m ((c.tc : Thread Cert.AdWaIdeal.nD Cert.AdWaIdeal.τ).loc Cert.AdWaIdeal.main_arg0)
          ∧ r.2.mem ((c.tc : Thread Cert.AdWaIdeal.nD Cert.AdWaIdeal.τ).loc Cert.AdWaIdeal.main_arg1) = m ((c.tc : Thread Cert.AdWaIdeal.nD Cert.AdWaIdeal.τ).loc Cert.AdWaIdeal.main_arg1)
          ∧ r.2.mem ((c.tc : Thread Cert.AdWaIdeal.nD Cert.AdWaIdeal.τ).loc Cert.AdWaIdeal.main_arg2) = m ((c.tc : Thread Cert.AdWaIdeal.nD Cert.AdWaIdeal.τ).loc Cert.AdWaIdeal.main_arg2)
          ∧ r.2.mem ((c.tc : Thread Cert.AdWaIdeal.nD Cert.AdWaIdeal.τ).loc Cert.AdWaIdeal.main_arg3) = m ((c.tc : Thread Cert.AdWaIdeal.nD Cert.AdWaIdeal.τ).loc Cert.AdWaIdeal.main_arg3))
      ∧ θ_run (Cert.RefAdWaIdeal.defs (F := Ideal)) (onTc (τ := Cert.RefAdWaIdeal.τ) (Cert.RefAdWaIdeal.main (F := Ideal))) ⟨m', fun _ => 0, g'⟩ (fun r => ∀ c : Dev Cert.RefAdWaIdeal.nD,
          r.2.mem ((c.tc : Thread Cert.RefAdWaIdeal.nD Cert.RefAdWaIdeal.τ).loc Cert.RefAdWaIdeal.main_arg3) = v0 c
          ∧ r.2.mem ((c.tc : Thread Cert.RefAdWaIdeal.nD Cert.RefAdWaIdeal.τ).loc Cert.RefAdWaIdeal.main_v23) = v1 c
          ∧ r.2.mem ((c.tc : Thread Cert.RefAdWaIdeal.nD Cert.RefAdWaIdeal.τ).loc Cert.RefAdWaIdeal.main_v4) = v2 c
          ∧ r.2.mem ((c.tc : Thread Cert.RefAdWaIdeal.nD Cert.RefAdWaIdeal.τ).loc Cert.RefAdWaIdeal.main_v10) = v3 c
          ∧ r.2.mem ((c.tc : Thread Cert.RefAdWaIdeal.nD Cert.RefAdWaIdeal.τ).loc Cert.RefAdWaIdeal.main_arg0) = m' ((c.tc : Thread Cert.RefAdWaIdeal.nD Cert.RefAdWaIdeal.τ).loc Cert.RefAdWaIdeal.main_arg0)
          ∧ r.2.mem ((c.tc : Thread Cert.RefAdWaIdeal.nD Cert.RefAdWaIdeal.τ).loc Cert.RefAdWaIdeal.main_arg1) = m' ((c.tc : Thread Cert.RefAdWaIdeal.nD Cert.RefAdWaIdeal.τ).loc Cert.RefAdWaIdeal.main_arg1)
          ∧ r.2.mem ((c.tc : Thread Cert.RefAdWaIdeal.nD Cert.RefAdWaIdeal.τ).loc Cert.RefAdWaIdeal.main_arg2) = m' ((c.tc : Thread Cert.RefAdWaIdeal.nD Cert.RefAdWaIdeal.τ).loc Cert.RefAdWaIdeal.main_arg2)
          ∧ r.2.mem ((c.tc : Thread Cert.RefAdWaIdeal.nD Cert.RefAdWaIdeal.τ).loc Cert.RefAdWaIdeal.main_arg3) = m' ((c.tc : Thread Cert.RefAdWaIdeal.nD Cert.RefAdWaIdeal.τ).loc Cert.RefAdWaIdeal.main_arg3))

def preserves_AdBa_AdBaIdeal : Prop :=
  True

def algebraic_AdBaIdeal_RefAdBaIdeal [hAdBaIdeal : Cert.AdBaIdeal.Facts] [hRefAdBaIdeal : Cert.RefAdBaIdeal.Facts] : Prop :=
  ∀ (m : (ℓ : Loc Cert.AdBaIdeal.nD Cert.AdBaIdeal.τ Cert.AdBaIdeal.sig) → Buf (Elt Ideal) ℓ) (g : Dev Cert.AdBaIdeal.nD → PrngReg)
    (m' : (ℓ : Loc Cert.RefAdBaIdeal.nD Cert.RefAdBaIdeal.τ Cert.RefAdBaIdeal.sig) → Buf (Elt Ideal) ℓ) (g' : Dev Cert.RefAdBaIdeal.nD → PrngReg), Pre_AdBaIdeal m →
    (∀ c : Dev Cert.AdBaIdeal.nD,
      m' ((c.tc : Thread Cert.RefAdBaIdeal.nD Cert.RefAdBaIdeal.τ).loc Cert.RefAdBaIdeal.main_arg0) = m ((c.tc : Thread Cert.AdBaIdeal.nD Cert.AdBaIdeal.τ).loc Cert.AdBaIdeal.main_arg0)
      ∧ m' ((c.tc : Thread Cert.RefAdBaIdeal.nD Cert.RefAdBaIdeal.τ).loc Cert.RefAdBaIdeal.main_arg1) = m ((c.tc : Thread Cert.AdBaIdeal.nD Cert.AdBaIdeal.τ).loc Cert.AdBaIdeal.main_arg1)
      ∧ m' ((c.tc : Thread Cert.RefAdBaIdeal.nD Cert.RefAdBaIdeal.τ).loc Cert.RefAdBaIdeal.main_arg2) = m ((c.tc : Thread Cert.AdBaIdeal.nD Cert.AdBaIdeal.τ).loc Cert.AdBaIdeal.main_arg2)
      ∧ m' ((c.tc : Thread Cert.RefAdBaIdeal.nD Cert.RefAdBaIdeal.τ).loc Cert.RefAdBaIdeal.main_arg3) = m ((c.tc : Thread Cert.AdBaIdeal.nD Cert.AdBaIdeal.τ).loc Cert.AdBaIdeal.main_arg3)) →
    ∃ (v0 : (c : Dev Cert.AdBaIdeal.nD) → Buf (Elt Ideal) ((c.tc : Thread Cert.AdBaIdeal.nD Cert.AdBaIdeal.τ).loc Cert.AdBaIdeal.main_v0_0)) (v1 : (c : Dev Cert.AdBaIdeal.nD) → Buf (Elt Ideal) ((c.tc : Thread Cert.AdBaIdeal.nD Cert.AdBaIdeal.τ).loc Cert.AdBaIdeal.main_v0_1)) (v2 : (c : Dev Cert.AdBaIdeal.nD) → Buf (Elt Ideal) ((c.tc : Thread Cert.AdBaIdeal.nD Cert.AdBaIdeal.τ).loc Cert.AdBaIdeal.main_v0_2)) (v3 : (c : Dev Cert.AdBaIdeal.nD) → Buf (Elt Ideal) ((c.tc : Thread Cert.AdBaIdeal.nD Cert.AdBaIdeal.τ).loc Cert.AdBaIdeal.main_v0_3)),
      θ_run (Cert.AdBaIdeal.defs (F := Ideal)) (onTc (τ := Cert.AdBaIdeal.τ) (Cert.AdBaIdeal.main (F := Ideal))) ⟨m, fun _ => 0, g⟩ (fun r => ∀ c : Dev Cert.AdBaIdeal.nD,
          r.2.mem ((c.tc : Thread Cert.AdBaIdeal.nD Cert.AdBaIdeal.τ).loc Cert.AdBaIdeal.main_v0_0) = v0 c
          ∧ r.2.mem ((c.tc : Thread Cert.AdBaIdeal.nD Cert.AdBaIdeal.τ).loc Cert.AdBaIdeal.main_v0_1) = v1 c
          ∧ r.2.mem ((c.tc : Thread Cert.AdBaIdeal.nD Cert.AdBaIdeal.τ).loc Cert.AdBaIdeal.main_v0_2) = v2 c
          ∧ r.2.mem ((c.tc : Thread Cert.AdBaIdeal.nD Cert.AdBaIdeal.τ).loc Cert.AdBaIdeal.main_v0_3) = v3 c
          ∧ r.2.mem ((c.tc : Thread Cert.AdBaIdeal.nD Cert.AdBaIdeal.τ).loc Cert.AdBaIdeal.main_arg0) = m ((c.tc : Thread Cert.AdBaIdeal.nD Cert.AdBaIdeal.τ).loc Cert.AdBaIdeal.main_arg0)
          ∧ r.2.mem ((c.tc : Thread Cert.AdBaIdeal.nD Cert.AdBaIdeal.τ).loc Cert.AdBaIdeal.main_arg1) = m ((c.tc : Thread Cert.AdBaIdeal.nD Cert.AdBaIdeal.τ).loc Cert.AdBaIdeal.main_arg1)
          ∧ r.2.mem ((c.tc : Thread Cert.AdBaIdeal.nD Cert.AdBaIdeal.τ).loc Cert.AdBaIdeal.main_arg2) = m ((c.tc : Thread Cert.AdBaIdeal.nD Cert.AdBaIdeal.τ).loc Cert.AdBaIdeal.main_arg2)
          ∧ r.2.mem ((c.tc : Thread Cert.AdBaIdeal.nD Cert.AdBaIdeal.τ).loc Cert.AdBaIdeal.main_arg3) = m ((c.tc : Thread Cert.AdBaIdeal.nD Cert.AdBaIdeal.τ).loc Cert.AdBaIdeal.main_arg3))
      ∧ θ_run (Cert.RefAdBaIdeal.defs (F := Ideal)) (onTc (τ := Cert.RefAdBaIdeal.τ) (Cert.RefAdBaIdeal.main (F := Ideal))) ⟨m', fun _ => 0, g'⟩ (fun r => ∀ c : Dev Cert.RefAdBaIdeal.nD,
          r.2.mem ((c.tc : Thread Cert.RefAdBaIdeal.nD Cert.RefAdBaIdeal.τ).loc Cert.RefAdBaIdeal.main_arg3) = v0 c
          ∧ r.2.mem ((c.tc : Thread Cert.RefAdBaIdeal.nD Cert.RefAdBaIdeal.τ).loc Cert.RefAdBaIdeal.main_v23) = v1 c
          ∧ r.2.mem ((c.tc : Thread Cert.RefAdBaIdeal.nD Cert.RefAdBaIdeal.τ).loc Cert.RefAdBaIdeal.main_v4) = v2 c
          ∧ r.2.mem ((c.tc : Thread Cert.RefAdBaIdeal.nD Cert.RefAdBaIdeal.τ).loc Cert.RefAdBaIdeal.main_v10) = v3 c
          ∧ r.2.mem ((c.tc : Thread Cert.RefAdBaIdeal.nD Cert.RefAdBaIdeal.τ).loc Cert.RefAdBaIdeal.main_arg0) = m' ((c.tc : Thread Cert.RefAdBaIdeal.nD Cert.RefAdBaIdeal.τ).loc Cert.RefAdBaIdeal.main_arg0)
          ∧ r.2.mem ((c.tc : Thread Cert.RefAdBaIdeal.nD Cert.RefAdBaIdeal.τ).loc Cert.RefAdBaIdeal.main_arg1) = m' ((c.tc : Thread Cert.RefAdBaIdeal.nD Cert.RefAdBaIdeal.τ).loc Cert.RefAdBaIdeal.main_arg1)
          ∧ r.2.mem ((c.tc : Thread Cert.RefAdBaIdeal.nD Cert.RefAdBaIdeal.τ).loc Cert.RefAdBaIdeal.main_arg2) = m' ((c.tc : Thread Cert.RefAdBaIdeal.nD Cert.RefAdBaIdeal.τ).loc Cert.RefAdBaIdeal.main_arg2)
          ∧ r.2.mem ((c.tc : Thread Cert.RefAdBaIdeal.nD Cert.RefAdBaIdeal.τ).loc Cert.RefAdBaIdeal.main_arg3) = m' ((c.tc : Thread Cert.RefAdBaIdeal.nD Cert.RefAdBaIdeal.τ).loc Cert.RefAdBaIdeal.main_arg3))

def preserves_AdGn_AdGnIdeal : Prop :=
  True

def algebraic_AdGnIdeal_RefAdGnIdeal [hAdGnIdeal : Cert.AdGnIdeal.Facts] [hRefAdGnIdeal : Cert.RefAdGnIdeal.Facts] : Prop :=
  ∀ (m : (ℓ : Loc Cert.AdGnIdeal.nD Cert.AdGnIdeal.τ Cert.AdGnIdeal.sig) → Buf (Elt Ideal) ℓ) (g : Dev Cert.AdGnIdeal.nD → PrngReg)
    (m' : (ℓ : Loc Cert.RefAdGnIdeal.nD Cert.RefAdGnIdeal.τ Cert.RefAdGnIdeal.sig) → Buf (Elt Ideal) ℓ) (g' : Dev Cert.RefAdGnIdeal.nD → PrngReg), Pre_AdGnIdeal m →
    (∀ c : Dev Cert.AdGnIdeal.nD,
      m' ((c.tc : Thread Cert.RefAdGnIdeal.nD Cert.RefAdGnIdeal.τ).loc Cert.RefAdGnIdeal.main_arg0) = m ((c.tc : Thread Cert.AdGnIdeal.nD Cert.AdGnIdeal.τ).loc Cert.AdGnIdeal.main_arg0)
      ∧ m' ((c.tc : Thread Cert.RefAdGnIdeal.nD Cert.RefAdGnIdeal.τ).loc Cert.RefAdGnIdeal.main_arg1) = m ((c.tc : Thread Cert.AdGnIdeal.nD Cert.AdGnIdeal.τ).loc Cert.AdGnIdeal.main_arg1)
      ∧ m' ((c.tc : Thread Cert.RefAdGnIdeal.nD Cert.RefAdGnIdeal.τ).loc Cert.RefAdGnIdeal.main_arg2) = m ((c.tc : Thread Cert.AdGnIdeal.nD Cert.AdGnIdeal.τ).loc Cert.AdGnIdeal.main_arg2)
      ∧ m' ((c.tc : Thread Cert.RefAdGnIdeal.nD Cert.RefAdGnIdeal.τ).loc Cert.RefAdGnIdeal.main_arg3) = m ((c.tc : Thread Cert.AdGnIdeal.nD Cert.AdGnIdeal.τ).loc Cert.AdGnIdeal.main_arg3)) →
    ∃ (v0 : (c : Dev Cert.AdGnIdeal.nD) → Buf (Elt Ideal) ((c.tc : Thread Cert.AdGnIdeal.nD Cert.AdGnIdeal.τ).loc Cert.AdGnIdeal.main_v0_0)) (v1 : (c : Dev Cert.AdGnIdeal.nD) → Buf (Elt Ideal) ((c.tc : Thread Cert.AdGnIdeal.nD Cert.AdGnIdeal.τ).loc Cert.AdGnIdeal.main_v0_1)) (v2 : (c : Dev Cert.AdGnIdeal.nD) → Buf (Elt Ideal) ((c.tc : Thread Cert.AdGnIdeal.nD Cert.AdGnIdeal.τ).loc Cert.AdGnIdeal.main_v0_2)) (v3 : (c : Dev Cert.AdGnIdeal.nD) → Buf (Elt Ideal) ((c.tc : Thread Cert.AdGnIdeal.nD Cert.AdGnIdeal.τ).loc Cert.AdGnIdeal.main_v0_3)),
      θ_run (Cert.AdGnIdeal.defs (F := Ideal)) (onTc (τ := Cert.AdGnIdeal.τ) (Cert.AdGnIdeal.main (F := Ideal))) ⟨m, fun _ => 0, g⟩ (fun r => ∀ c : Dev Cert.AdGnIdeal.nD,
          r.2.mem ((c.tc : Thread Cert.AdGnIdeal.nD Cert.AdGnIdeal.τ).loc Cert.AdGnIdeal.main_v0_0) = v0 c
          ∧ r.2.mem ((c.tc : Thread Cert.AdGnIdeal.nD Cert.AdGnIdeal.τ).loc Cert.AdGnIdeal.main_v0_1) = v1 c
          ∧ r.2.mem ((c.tc : Thread Cert.AdGnIdeal.nD Cert.AdGnIdeal.τ).loc Cert.AdGnIdeal.main_v0_2) = v2 c
          ∧ r.2.mem ((c.tc : Thread Cert.AdGnIdeal.nD Cert.AdGnIdeal.τ).loc Cert.AdGnIdeal.main_v0_3) = v3 c
          ∧ r.2.mem ((c.tc : Thread Cert.AdGnIdeal.nD Cert.AdGnIdeal.τ).loc Cert.AdGnIdeal.main_arg0) = m ((c.tc : Thread Cert.AdGnIdeal.nD Cert.AdGnIdeal.τ).loc Cert.AdGnIdeal.main_arg0)
          ∧ r.2.mem ((c.tc : Thread Cert.AdGnIdeal.nD Cert.AdGnIdeal.τ).loc Cert.AdGnIdeal.main_arg1) = m ((c.tc : Thread Cert.AdGnIdeal.nD Cert.AdGnIdeal.τ).loc Cert.AdGnIdeal.main_arg1)
          ∧ r.2.mem ((c.tc : Thread Cert.AdGnIdeal.nD Cert.AdGnIdeal.τ).loc Cert.AdGnIdeal.main_arg2) = m ((c.tc : Thread Cert.AdGnIdeal.nD Cert.AdGnIdeal.τ).loc Cert.AdGnIdeal.main_arg2)
          ∧ r.2.mem ((c.tc : Thread Cert.AdGnIdeal.nD Cert.AdGnIdeal.τ).loc Cert.AdGnIdeal.main_arg3) = m ((c.tc : Thread Cert.AdGnIdeal.nD Cert.AdGnIdeal.τ).loc Cert.AdGnIdeal.main_arg3))
      ∧ θ_run (Cert.RefAdGnIdeal.defs (F := Ideal)) (onTc (τ := Cert.RefAdGnIdeal.τ) (Cert.RefAdGnIdeal.main (F := Ideal))) ⟨m', fun _ => 0, g'⟩ (fun r => ∀ c : Dev Cert.RefAdGnIdeal.nD,
          r.2.mem ((c.tc : Thread Cert.RefAdGnIdeal.nD Cert.RefAdGnIdeal.τ).loc Cert.RefAdGnIdeal.main_arg3) = v0 c
          ∧ r.2.mem ((c.tc : Thread Cert.RefAdGnIdeal.nD Cert.RefAdGnIdeal.τ).loc Cert.RefAdGnIdeal.main_v23) = v1 c
          ∧ r.2.mem ((c.tc : Thread Cert.RefAdGnIdeal.nD Cert.RefAdGnIdeal.τ).loc Cert.RefAdGnIdeal.main_v4) = v2 c
          ∧ r.2.mem ((c.tc : Thread Cert.RefAdGnIdeal.nD Cert.RefAdGnIdeal.τ).loc Cert.RefAdGnIdeal.main_v10) = v3 c
          ∧ r.2.mem ((c.tc : Thread Cert.RefAdGnIdeal.nD Cert.RefAdGnIdeal.τ).loc Cert.RefAdGnIdeal.main_arg0) = m' ((c.tc : Thread Cert.RefAdGnIdeal.nD Cert.RefAdGnIdeal.τ).loc Cert.RefAdGnIdeal.main_arg0)
          ∧ r.2.mem ((c.tc : Thread Cert.RefAdGnIdeal.nD Cert.RefAdGnIdeal.τ).loc Cert.RefAdGnIdeal.main_arg1) = m' ((c.tc : Thread Cert.RefAdGnIdeal.nD Cert.RefAdGnIdeal.τ).loc Cert.RefAdGnIdeal.main_arg1)
          ∧ r.2.mem ((c.tc : Thread Cert.RefAdGnIdeal.nD Cert.RefAdGnIdeal.τ).loc Cert.RefAdGnIdeal.main_arg2) = m' ((c.tc : Thread Cert.RefAdGnIdeal.nD Cert.RefAdGnIdeal.τ).loc Cert.RefAdGnIdeal.main_arg2)
          ∧ r.2.mem ((c.tc : Thread Cert.RefAdGnIdeal.nD Cert.RefAdGnIdeal.τ).loc Cert.RefAdGnIdeal.main_arg3) = m' ((c.tc : Thread Cert.RefAdGnIdeal.nD Cert.RefAdGnIdeal.τ).loc Cert.RefAdGnIdeal.main_arg3))

def preserves_AdCw_AdCwIdeal : Prop :=
  True

def algebraic_AdCwIdeal_RefAdCwIdeal [hAdCwIdeal : Cert.AdCwIdeal.Facts] [hRefAdCwIdeal : Cert.RefAdCwIdeal.Facts] : Prop :=
  ∀ (m : (ℓ : Loc Cert.AdCwIdeal.nD Cert.AdCwIdeal.τ Cert.AdCwIdeal.sig) → Buf (Elt Ideal) ℓ) (g : Dev Cert.AdCwIdeal.nD → PrngReg)
    (m' : (ℓ : Loc Cert.RefAdCwIdeal.nD Cert.RefAdCwIdeal.τ Cert.RefAdCwIdeal.sig) → Buf (Elt Ideal) ℓ) (g' : Dev Cert.RefAdCwIdeal.nD → PrngReg), Pre_AdCwIdeal m →
    (∀ c : Dev Cert.AdCwIdeal.nD,
      m' ((c.tc : Thread Cert.RefAdCwIdeal.nD Cert.RefAdCwIdeal.τ).loc Cert.RefAdCwIdeal.main_arg0) = m ((c.tc : Thread Cert.AdCwIdeal.nD Cert.AdCwIdeal.τ).loc Cert.AdCwIdeal.main_arg0)
      ∧ m' ((c.tc : Thread Cert.RefAdCwIdeal.nD Cert.RefAdCwIdeal.τ).loc Cert.RefAdCwIdeal.main_arg1) = m ((c.tc : Thread Cert.AdCwIdeal.nD Cert.AdCwIdeal.τ).loc Cert.AdCwIdeal.main_arg1)
      ∧ m' ((c.tc : Thread Cert.RefAdCwIdeal.nD Cert.RefAdCwIdeal.τ).loc Cert.RefAdCwIdeal.main_arg2) = m ((c.tc : Thread Cert.AdCwIdeal.nD Cert.AdCwIdeal.τ).loc Cert.AdCwIdeal.main_arg2)
      ∧ m' ((c.tc : Thread Cert.RefAdCwIdeal.nD Cert.RefAdCwIdeal.τ).loc Cert.RefAdCwIdeal.main_arg3) = m ((c.tc : Thread Cert.AdCwIdeal.nD Cert.AdCwIdeal.τ).loc Cert.AdCwIdeal.main_arg3)) →
    ∃ (v0 : (c : Dev Cert.AdCwIdeal.nD) → Buf (Elt Ideal) ((c.tc : Thread Cert.AdCwIdeal.nD Cert.AdCwIdeal.τ).loc Cert.AdCwIdeal.main_v0_0)) (v1 : (c : Dev Cert.AdCwIdeal.nD) → Buf (Elt Ideal) ((c.tc : Thread Cert.AdCwIdeal.nD Cert.AdCwIdeal.τ).loc Cert.AdCwIdeal.main_v0_1)) (v2 : (c : Dev Cert.AdCwIdeal.nD) → Buf (Elt Ideal) ((c.tc : Thread Cert.AdCwIdeal.nD Cert.AdCwIdeal.τ).loc Cert.AdCwIdeal.main_v0_2)) (v3 : (c : Dev Cert.AdCwIdeal.nD) → Buf (Elt Ideal) ((c.tc : Thread Cert.AdCwIdeal.nD Cert.AdCwIdeal.τ).loc Cert.AdCwIdeal.main_v0_3)),
      θ_run (Cert.AdCwIdeal.defs (F := Ideal)) (onTc (τ := Cert.AdCwIdeal.τ) (Cert.AdCwIdeal.main (F := Ideal))) ⟨m, fun _ => 0, g⟩ (fun r => ∀ c : Dev Cert.AdCwIdeal.nD,
          r.2.mem ((c.tc : Thread Cert.AdCwIdeal.nD Cert.AdCwIdeal.τ).loc Cert.AdCwIdeal.main_v0_0) = v0 c
          ∧ r.2.mem ((c.tc : Thread Cert.AdCwIdeal.nD Cert.AdCwIdeal.τ).loc Cert.AdCwIdeal.main_v0_1) = v1 c
          ∧ r.2.mem ((c.tc : Thread Cert.AdCwIdeal.nD Cert.AdCwIdeal.τ).loc Cert.AdCwIdeal.main_v0_2) = v2 c
          ∧ r.2.mem ((c.tc : Thread Cert.AdCwIdeal.nD Cert.AdCwIdeal.τ).loc Cert.AdCwIdeal.main_v0_3) = v3 c
          ∧ r.2.mem ((c.tc : Thread Cert.AdCwIdeal.nD Cert.AdCwIdeal.τ).loc Cert.AdCwIdeal.main_arg0) = m ((c.tc : Thread Cert.AdCwIdeal.nD Cert.AdCwIdeal.τ).loc Cert.AdCwIdeal.main_arg0)
          ∧ r.2.mem ((c.tc : Thread Cert.AdCwIdeal.nD Cert.AdCwIdeal.τ).loc Cert.AdCwIdeal.main_arg1) = m ((c.tc : Thread Cert.AdCwIdeal.nD Cert.AdCwIdeal.τ).loc Cert.AdCwIdeal.main_arg1)
          ∧ r.2.mem ((c.tc : Thread Cert.AdCwIdeal.nD Cert.AdCwIdeal.τ).loc Cert.AdCwIdeal.main_arg2) = m ((c.tc : Thread Cert.AdCwIdeal.nD Cert.AdCwIdeal.τ).loc Cert.AdCwIdeal.main_arg2)
          ∧ r.2.mem ((c.tc : Thread Cert.AdCwIdeal.nD Cert.AdCwIdeal.τ).loc Cert.AdCwIdeal.main_arg3) = m ((c.tc : Thread Cert.AdCwIdeal.nD Cert.AdCwIdeal.τ).loc Cert.AdCwIdeal.main_arg3))
      ∧ θ_run (Cert.RefAdCwIdeal.defs (F := Ideal)) (onTc (τ := Cert.RefAdCwIdeal.τ) (Cert.RefAdCwIdeal.main (F := Ideal))) ⟨m', fun _ => 0, g'⟩ (fun r => ∀ c : Dev Cert.RefAdCwIdeal.nD,
          r.2.mem ((c.tc : Thread Cert.RefAdCwIdeal.nD Cert.RefAdCwIdeal.τ).loc Cert.RefAdCwIdeal.main_arg3) = v0 c
          ∧ r.2.mem ((c.tc : Thread Cert.RefAdCwIdeal.nD Cert.RefAdCwIdeal.τ).loc Cert.RefAdCwIdeal.main_v23) = v1 c
          ∧ r.2.mem ((c.tc : Thread Cert.RefAdCwIdeal.nD Cert.RefAdCwIdeal.τ).loc Cert.RefAdCwIdeal.main_v4) = v2 c
          ∧ r.2.mem ((c.tc : Thread Cert.RefAdCwIdeal.nD Cert.RefAdCwIdeal.τ).loc Cert.RefAdCwIdeal.main_v10) = v3 c
          ∧ r.2.mem ((c.tc : Thread Cert.RefAdCwIdeal.nD Cert.RefAdCwIdeal.τ).loc Cert.RefAdCwIdeal.main_arg0) = m' ((c.tc : Thread Cert.RefAdCwIdeal.nD Cert.RefAdCwIdeal.τ).loc Cert.RefAdCwIdeal.main_arg0)
          ∧ r.2.mem ((c.tc : Thread Cert.RefAdCwIdeal.nD Cert.RefAdCwIdeal.τ).loc Cert.RefAdCwIdeal.main_arg1) = m' ((c.tc : Thread Cert.RefAdCwIdeal.nD Cert.RefAdCwIdeal.τ).loc Cert.RefAdCwIdeal.main_arg1)
          ∧ r.2.mem ((c.tc : Thread Cert.RefAdCwIdeal.nD Cert.RefAdCwIdeal.τ).loc Cert.RefAdCwIdeal.main_arg2) = m' ((c.tc : Thread Cert.RefAdCwIdeal.nD Cert.RefAdCwIdeal.τ).loc Cert.RefAdCwIdeal.main_arg2)
          ∧ r.2.mem ((c.tc : Thread Cert.RefAdCwIdeal.nD Cert.RefAdCwIdeal.τ).loc Cert.RefAdCwIdeal.main_arg3) = m' ((c.tc : Thread Cert.RefAdCwIdeal.nD Cert.RefAdCwIdeal.τ).loc Cert.RefAdCwIdeal.main_arg3))

def preserves_AdFw_AdFwIdeal : Prop :=
  True

def algebraic_AdFwIdeal_RefAdFwIdeal [hAdFwIdeal : Cert.AdFwIdeal.Facts] [hRefAdFwIdeal : Cert.RefAdFwIdeal.Facts] : Prop :=
  ∀ (m : (ℓ : Loc Cert.AdFwIdeal.nD Cert.AdFwIdeal.τ Cert.AdFwIdeal.sig) → Buf (Elt Ideal) ℓ) (g : Dev Cert.AdFwIdeal.nD → PrngReg)
    (m' : (ℓ : Loc Cert.RefAdFwIdeal.nD Cert.RefAdFwIdeal.τ Cert.RefAdFwIdeal.sig) → Buf (Elt Ideal) ℓ) (g' : Dev Cert.RefAdFwIdeal.nD → PrngReg), Pre_AdFwIdeal m →
    (∀ c : Dev Cert.AdFwIdeal.nD,
      m' ((c.tc : Thread Cert.RefAdFwIdeal.nD Cert.RefAdFwIdeal.τ).loc Cert.RefAdFwIdeal.main_arg0) = m ((c.tc : Thread Cert.AdFwIdeal.nD Cert.AdFwIdeal.τ).loc Cert.AdFwIdeal.main_arg0)
      ∧ m' ((c.tc : Thread Cert.RefAdFwIdeal.nD Cert.RefAdFwIdeal.τ).loc Cert.RefAdFwIdeal.main_arg1) = m ((c.tc : Thread Cert.AdFwIdeal.nD Cert.AdFwIdeal.τ).loc Cert.AdFwIdeal.main_arg1)
      ∧ m' ((c.tc : Thread Cert.RefAdFwIdeal.nD Cert.RefAdFwIdeal.τ).loc Cert.RefAdFwIdeal.main_arg2) = m ((c.tc : Thread Cert.AdFwIdeal.nD Cert.AdFwIdeal.τ).loc Cert.AdFwIdeal.main_arg2)
      ∧ m' ((c.tc : Thread Cert.RefAdFwIdeal.nD Cert.RefAdFwIdeal.τ).loc Cert.RefAdFwIdeal.main_arg3) = m ((c.tc : Thread Cert.AdFwIdeal.nD Cert.AdFwIdeal.τ).loc Cert.AdFwIdeal.main_arg3)) →
    ∃ (v0 : (c : Dev Cert.AdFwIdeal.nD) → Buf (Elt Ideal) ((c.tc : Thread Cert.AdFwIdeal.nD Cert.AdFwIdeal.τ).loc Cert.AdFwIdeal.main_v0_0)) (v1 : (c : Dev Cert.AdFwIdeal.nD) → Buf (Elt Ideal) ((c.tc : Thread Cert.AdFwIdeal.nD Cert.AdFwIdeal.τ).loc Cert.AdFwIdeal.main_v0_1)) (v2 : (c : Dev Cert.AdFwIdeal.nD) → Buf (Elt Ideal) ((c.tc : Thread Cert.AdFwIdeal.nD Cert.AdFwIdeal.τ).loc Cert.AdFwIdeal.main_v0_2)) (v3 : (c : Dev Cert.AdFwIdeal.nD) → Buf (Elt Ideal) ((c.tc : Thread Cert.AdFwIdeal.nD Cert.AdFwIdeal.τ).loc Cert.AdFwIdeal.main_v0_3)),
      θ_run (Cert.AdFwIdeal.defs (F := Ideal)) (onTc (τ := Cert.AdFwIdeal.τ) (Cert.AdFwIdeal.main (F := Ideal))) ⟨m, fun _ => 0, g⟩ (fun r => ∀ c : Dev Cert.AdFwIdeal.nD,
          r.2.mem ((c.tc : Thread Cert.AdFwIdeal.nD Cert.AdFwIdeal.τ).loc Cert.AdFwIdeal.main_v0_0) = v0 c
          ∧ r.2.mem ((c.tc : Thread Cert.AdFwIdeal.nD Cert.AdFwIdeal.τ).loc Cert.AdFwIdeal.main_v0_1) = v1 c
          ∧ r.2.mem ((c.tc : Thread Cert.AdFwIdeal.nD Cert.AdFwIdeal.τ).loc Cert.AdFwIdeal.main_v0_2) = v2 c
          ∧ r.2.mem ((c.tc : Thread Cert.AdFwIdeal.nD Cert.AdFwIdeal.τ).loc Cert.AdFwIdeal.main_v0_3) = v3 c
          ∧ r.2.mem ((c.tc : Thread Cert.AdFwIdeal.nD Cert.AdFwIdeal.τ).loc Cert.AdFwIdeal.main_arg0) = m ((c.tc : Thread Cert.AdFwIdeal.nD Cert.AdFwIdeal.τ).loc Cert.AdFwIdeal.main_arg0)
          ∧ r.2.mem ((c.tc : Thread Cert.AdFwIdeal.nD Cert.AdFwIdeal.τ).loc Cert.AdFwIdeal.main_arg1) = m ((c.tc : Thread Cert.AdFwIdeal.nD Cert.AdFwIdeal.τ).loc Cert.AdFwIdeal.main_arg1)
          ∧ r.2.mem ((c.tc : Thread Cert.AdFwIdeal.nD Cert.AdFwIdeal.τ).loc Cert.AdFwIdeal.main_arg2) = m ((c.tc : Thread Cert.AdFwIdeal.nD Cert.AdFwIdeal.τ).loc Cert.AdFwIdeal.main_arg2)
          ∧ r.2.mem ((c.tc : Thread Cert.AdFwIdeal.nD Cert.AdFwIdeal.τ).loc Cert.AdFwIdeal.main_arg3) = m ((c.tc : Thread Cert.AdFwIdeal.nD Cert.AdFwIdeal.τ).loc Cert.AdFwIdeal.main_arg3))
      ∧ θ_run (Cert.RefAdFwIdeal.defs (F := Ideal)) (onTc (τ := Cert.RefAdFwIdeal.τ) (Cert.RefAdFwIdeal.main (F := Ideal))) ⟨m', fun _ => 0, g'⟩ (fun r => ∀ c : Dev Cert.RefAdFwIdeal.nD,
          r.2.mem ((c.tc : Thread Cert.RefAdFwIdeal.nD Cert.RefAdFwIdeal.τ).loc Cert.RefAdFwIdeal.main_arg3) = v0 c
          ∧ r.2.mem ((c.tc : Thread Cert.RefAdFwIdeal.nD Cert.RefAdFwIdeal.τ).loc Cert.RefAdFwIdeal.main_v23) = v1 c
          ∧ r.2.mem ((c.tc : Thread Cert.RefAdFwIdeal.nD Cert.RefAdFwIdeal.τ).loc Cert.RefAdFwIdeal.main_v4) = v2 c
          ∧ r.2.mem ((c.tc : Thread Cert.RefAdFwIdeal.nD Cert.RefAdFwIdeal.τ).loc Cert.RefAdFwIdeal.main_v10) = v3 c
          ∧ r.2.mem ((c.tc : Thread Cert.RefAdFwIdeal.nD Cert.RefAdFwIdeal.τ).loc Cert.RefAdFwIdeal.main_arg0) = m' ((c.tc : Thread Cert.RefAdFwIdeal.nD Cert.RefAdFwIdeal.τ).loc Cert.RefAdFwIdeal.main_arg0)
          ∧ r.2.mem ((c.tc : Thread Cert.RefAdFwIdeal.nD Cert.RefAdFwIdeal.τ).loc Cert.RefAdFwIdeal.main_arg1) = m' ((c.tc : Thread Cert.RefAdFwIdeal.nD Cert.RefAdFwIdeal.τ).loc Cert.RefAdFwIdeal.main_arg1)
          ∧ r.2.mem ((c.tc : Thread Cert.RefAdFwIdeal.nD Cert.RefAdFwIdeal.τ).loc Cert.RefAdFwIdeal.main_arg2) = m' ((c.tc : Thread Cert.RefAdFwIdeal.nD Cert.RefAdFwIdeal.τ).loc Cert.RefAdFwIdeal.main_arg2)
          ∧ r.2.mem ((c.tc : Thread Cert.RefAdFwIdeal.nD Cert.RefAdFwIdeal.τ).loc Cert.RefAdFwIdeal.main_arg3) = m' ((c.tc : Thread Cert.RefAdFwIdeal.nD Cert.RefAdFwIdeal.τ).loc Cert.RefAdFwIdeal.main_arg3))

def Claim : Prop :=
  ∃ (hKernel : Cert.Kernel.Facts) (hKernelIdeal : Cert.KernelIdeal.Facts) (hReferenceIdeal : Cert.ReferenceIdeal.Facts) (hInDw : Cert.InDw.Facts) (hInDwIdeal : Cert.InDwIdeal.Facts) (hRefInDwIdeal : Cert.RefInDwIdeal.Facts) (hInDx : Cert.InDx.Facts) (hInDxIdeal : Cert.InDxIdeal.Facts) (hRefInDxIdeal : Cert.RefInDxIdeal.Facts) (hUpDw : Cert.UpDw.Facts) (hUpDwIdeal : Cert.UpDwIdeal.Facts) (hRefUpDwIdeal : Cert.RefUpDwIdeal.Facts) (hUpDx : Cert.UpDx.Facts) (hUpDxIdeal : Cert.UpDxIdeal.Facts) (hRefUpDxIdeal : Cert.RefUpDxIdeal.Facts) (hDnDw : Cert.DnDw.Facts) (hDnDwIdeal : Cert.DnDwIdeal.Facts) (hRefDnDwIdeal : Cert.RefDnDwIdeal.Facts) (hDnDx : Cert.DnDx.Facts) (hDnDxIdeal : Cert.DnDxIdeal.Facts) (hRefDnDxIdeal : Cert.RefDnDxIdeal.Facts) (hODw : Cert.ODw.Facts) (hODwIdeal : Cert.ODwIdeal.Facts) (hRefODwIdeal : Cert.RefODwIdeal.Facts) (hODx : Cert.ODx.Facts) (hODxIdeal : Cert.ODxIdeal.Facts) (hRefODxIdeal : Cert.RefODxIdeal.Facts) (hOgDw : Cert.OgDw.Facts) (hOgDwIdeal : Cert.OgDwIdeal.Facts) (hRefOgDwIdeal : Cert.RefOgDwIdeal.Facts) (hOgDx : Cert.OgDx.Facts) (hOgDxIdeal : Cert.OgDxIdeal.Facts) (hRefOgDxIdeal : Cert.RefOgDxIdeal.Facts) (hInFw : Cert.InFw.Facts) (hInFwIdeal : Cert.InFwIdeal.Facts) (hRefInFwIdeal : Cert.RefInFwIdeal.Facts) (hOgFw : Cert.OgFw.Facts) (hOgFwIdeal : Cert.OgFwIdeal.Facts) (hRefOgFwIdeal : Cert.RefOgFwIdeal.Facts) (hOFw : Cert.OFw.Facts) (hOFwIdeal : Cert.OFwIdeal.Facts) (hRefOFwIdeal : Cert.RefOFwIdeal.Facts) (hUpFw : Cert.UpFw.Facts) (hUpFwIdeal : Cert.UpFwIdeal.Facts) (hRefUpFwIdeal : Cert.RefUpFwIdeal.Facts) (hDnFw : Cert.DnFw.Facts) (hDnFwIdeal : Cert.DnFwIdeal.Facts) (hRefDnFwIdeal : Cert.RefDnFwIdeal.Facts) (hAdDn : Cert.AdDn.Facts) (hAdDnIdeal : Cert.AdDnIdeal.Facts) (hRefAdDnIdeal : Cert.RefAdDnIdeal.Facts) (hAdUp : Cert.AdUp.Facts) (hAdUpIdeal : Cert.AdUpIdeal.Facts) (hRefAdUpIdeal : Cert.RefAdUpIdeal.Facts) (hAdO : Cert.AdO.Facts) (hAdOIdeal : Cert.AdOIdeal.Facts) (hRefAdOIdeal : Cert.RefAdOIdeal.Facts) (hAdOg : Cert.AdOg.Facts) (hAdOgIdeal : Cert.AdOgIdeal.Facts) (hRefAdOgIdeal : Cert.RefAdOgIdeal.Facts) (hAdIn : Cert.AdIn.Facts) (hAdInIdeal : Cert.AdInIdeal.Facts) (hRefAdInIdeal : Cert.RefAdInIdeal.Facts) (hAdAda : Cert.AdAda.Facts) (hAdAdaIdeal : Cert.AdAdaIdeal.Facts) (hRefAdAdaIdeal : Cert.RefAdAdaIdeal.Facts) (hAdBada : Cert.AdBada.Facts) (hAdBadaIdeal : Cert.AdBadaIdeal.Facts) (hRefAdBadaIdeal : Cert.RefAdBadaIdeal.Facts) (hAdNorm : Cert.AdNorm.Facts) (hAdNormIdeal : Cert.AdNormIdeal.Facts) (hRefAdNormIdeal : Cert.RefAdNormIdeal.Facts) (hAdWa : Cert.AdWa.Facts) (hAdWaIdeal : Cert.AdWaIdeal.Facts) (hRefAdWaIdeal : Cert.RefAdWaIdeal.Facts) (hAdBa : Cert.AdBa.Facts) (hAdBaIdeal : Cert.AdBaIdeal.Facts) (hRefAdBaIdeal : Cert.RefAdBaIdeal.Facts) (hAdGn : Cert.AdGn.Facts) (hAdGnIdeal : Cert.AdGnIdeal.Facts) (hRefAdGnIdeal : Cert.RefAdGnIdeal.Facts) (hAdCw : Cert.AdCw.Facts) (hAdCwIdeal : Cert.AdCwIdeal.Facts) (hRefAdCwIdeal : Cert.RefAdCwIdeal.Facts) (hAdFw : Cert.AdFw.Facts) (hAdFwIdeal : Cert.AdFwIdeal.Facts) (hRefAdFwIdeal : Cert.RefAdFwIdeal.Facts),
    quiescent_Kernel (hKernel := hKernel)
    ∧ quiescent_KernelIdeal (hKernelIdeal := hKernelIdeal)
    ∧ quiescent_ReferenceIdeal (hReferenceIdeal := hReferenceIdeal)
    ∧ quiescent_InDw (hInDw := hInDw)
    ∧ quiescent_InDwIdeal (hInDwIdeal := hInDwIdeal)
    ∧ quiescent_RefInDwIdeal (hRefInDwIdeal := hRefInDwIdeal)
    ∧ quiescent_InDx (hInDx := hInDx)
    ∧ quiescent_InDxIdeal (hInDxIdeal := hInDxIdeal)
    ∧ quiescent_RefInDxIdeal (hRefInDxIdeal := hRefInDxIdeal)
    ∧ quiescent_UpDw (hUpDw := hUpDw)
    ∧ quiescent_UpDwIdeal (hUpDwIdeal := hUpDwIdeal)
    ∧ quiescent_RefUpDwIdeal (hRefUpDwIdeal := hRefUpDwIdeal)
    ∧ quiescent_UpDx (hUpDx := hUpDx)
    ∧ quiescent_UpDxIdeal (hUpDxIdeal := hUpDxIdeal)
    ∧ quiescent_RefUpDxIdeal (hRefUpDxIdeal := hRefUpDxIdeal)
    ∧ quiescent_DnDw (hDnDw := hDnDw)
    ∧ quiescent_DnDwIdeal (hDnDwIdeal := hDnDwIdeal)
    ∧ quiescent_RefDnDwIdeal (hRefDnDwIdeal := hRefDnDwIdeal)
    ∧ quiescent_DnDx (hDnDx := hDnDx)
    ∧ quiescent_DnDxIdeal (hDnDxIdeal := hDnDxIdeal)
    ∧ quiescent_RefDnDxIdeal (hRefDnDxIdeal := hRefDnDxIdeal)
    ∧ quiescent_ODw (hODw := hODw)
    ∧ quiescent_ODwIdeal (hODwIdeal := hODwIdeal)
    ∧ quiescent_RefODwIdeal (hRefODwIdeal := hRefODwIdeal)
    ∧ quiescent_ODx (hODx := hODx)
    ∧ quiescent_ODxIdeal (hODxIdeal := hODxIdeal)
    ∧ quiescent_RefODxIdeal (hRefODxIdeal := hRefODxIdeal)
    ∧ quiescent_OgDw (hOgDw := hOgDw)
    ∧ quiescent_OgDwIdeal (hOgDwIdeal := hOgDwIdeal)
    ∧ quiescent_RefOgDwIdeal (hRefOgDwIdeal := hRefOgDwIdeal)
    ∧ quiescent_OgDx (hOgDx := hOgDx)
    ∧ quiescent_OgDxIdeal (hOgDxIdeal := hOgDxIdeal)
    ∧ quiescent_RefOgDxIdeal (hRefOgDxIdeal := hRefOgDxIdeal)
    ∧ quiescent_InFw (hInFw := hInFw)
    ∧ quiescent_InFwIdeal (hInFwIdeal := hInFwIdeal)
    ∧ quiescent_RefInFwIdeal (hRefInFwIdeal := hRefInFwIdeal)
    ∧ quiescent_OgFw (hOgFw := hOgFw)
    ∧ quiescent_OgFwIdeal (hOgFwIdeal := hOgFwIdeal)
    ∧ quiescent_RefOgFwIdeal (hRefOgFwIdeal := hRefOgFwIdeal)
    ∧ quiescent_OFw (hOFw := hOFw)
    ∧ quiescent_OFwIdeal (hOFwIdeal := hOFwIdeal)
    ∧ quiescent_RefOFwIdeal (hRefOFwIdeal := hRefOFwIdeal)
    ∧ quiescent_UpFw (hUpFw := hUpFw)
    ∧ quiescent_UpFwIdeal (hUpFwIdeal := hUpFwIdeal)
    ∧ quiescent_RefUpFwIdeal (hRefUpFwIdeal := hRefUpFwIdeal)
    ∧ quiescent_DnFw (hDnFw := hDnFw)
    ∧ quiescent_DnFwIdeal (hDnFwIdeal := hDnFwIdeal)
    ∧ quiescent_RefDnFwIdeal (hRefDnFwIdeal := hRefDnFwIdeal)
    ∧ quiescent_AdDn (hAdDn := hAdDn)
    ∧ quiescent_AdDnIdeal (hAdDnIdeal := hAdDnIdeal)
    ∧ quiescent_RefAdDnIdeal (hRefAdDnIdeal := hRefAdDnIdeal)
    ∧ quiescent_AdUp (hAdUp := hAdUp)
    ∧ quiescent_AdUpIdeal (hAdUpIdeal := hAdUpIdeal)
    ∧ quiescent_RefAdUpIdeal (hRefAdUpIdeal := hRefAdUpIdeal)
    ∧ quiescent_AdO (hAdO := hAdO)
    ∧ quiescent_AdOIdeal (hAdOIdeal := hAdOIdeal)
    ∧ quiescent_RefAdOIdeal (hRefAdOIdeal := hRefAdOIdeal)
    ∧ quiescent_AdOg (hAdOg := hAdOg)
    ∧ quiescent_AdOgIdeal (hAdOgIdeal := hAdOgIdeal)
    ∧ quiescent_RefAdOgIdeal (hRefAdOgIdeal := hRefAdOgIdeal)
    ∧ quiescent_AdIn (hAdIn := hAdIn)
    ∧ quiescent_AdInIdeal (hAdInIdeal := hAdInIdeal)
    ∧ quiescent_RefAdInIdeal (hRefAdInIdeal := hRefAdInIdeal)
    ∧ quiescent_AdAda (hAdAda := hAdAda)
    ∧ quiescent_AdAdaIdeal (hAdAdaIdeal := hAdAdaIdeal)
    ∧ quiescent_RefAdAdaIdeal (hRefAdAdaIdeal := hRefAdAdaIdeal)
    ∧ quiescent_AdBada (hAdBada := hAdBada)
    ∧ quiescent_AdBadaIdeal (hAdBadaIdeal := hAdBadaIdeal)
    ∧ quiescent_RefAdBadaIdeal (hRefAdBadaIdeal := hRefAdBadaIdeal)
    ∧ quiescent_AdNorm (hAdNorm := hAdNorm)
    ∧ quiescent_AdNormIdeal (hAdNormIdeal := hAdNormIdeal)
    ∧ quiescent_RefAdNormIdeal (hRefAdNormIdeal := hRefAdNormIdeal)
    ∧ quiescent_AdWa (hAdWa := hAdWa)
    ∧ quiescent_AdWaIdeal (hAdWaIdeal := hAdWaIdeal)
    ∧ quiescent_RefAdWaIdeal (hRefAdWaIdeal := hRefAdWaIdeal)
    ∧ quiescent_AdBa (hAdBa := hAdBa)
    ∧ quiescent_AdBaIdeal (hAdBaIdeal := hAdBaIdeal)
    ∧ quiescent_RefAdBaIdeal (hRefAdBaIdeal := hRefAdBaIdeal)
    ∧ quiescent_AdGn (hAdGn := hAdGn)
    ∧ quiescent_AdGnIdeal (hAdGnIdeal := hAdGnIdeal)
    ∧ quiescent_RefAdGnIdeal (hRefAdGnIdeal := hRefAdGnIdeal)
    ∧ quiescent_AdCw (hAdCw := hAdCw)
    ∧ quiescent_AdCwIdeal (hAdCwIdeal := hAdCwIdeal)
    ∧ quiescent_RefAdCwIdeal (hRefAdCwIdeal := hRefAdCwIdeal)
    ∧ quiescent_AdFw (hAdFw := hAdFw)
    ∧ quiescent_AdFwIdeal (hAdFwIdeal := hAdFwIdeal)
    ∧ quiescent_RefAdFwIdeal (hRefAdFwIdeal := hRefAdFwIdeal)
    ∧ preserves_Kernel_KernelIdeal
    ∧ algebraic_KernelIdeal_ReferenceIdeal (hKernelIdeal := hKernelIdeal) (hReferenceIdeal := hReferenceIdeal)
    ∧ preserves_InDw_InDwIdeal
    ∧ algebraic_InDwIdeal_RefInDwIdeal (hInDwIdeal := hInDwIdeal) (hRefInDwIdeal := hRefInDwIdeal)
    ∧ preserves_InDx_InDxIdeal
    ∧ algebraic_InDxIdeal_RefInDxIdeal (hInDxIdeal := hInDxIdeal) (hRefInDxIdeal := hRefInDxIdeal)
    ∧ preserves_UpDw_UpDwIdeal
    ∧ algebraic_UpDwIdeal_RefUpDwIdeal (hUpDwIdeal := hUpDwIdeal) (hRefUpDwIdeal := hRefUpDwIdeal)
    ∧ preserves_UpDx_UpDxIdeal
    ∧ algebraic_UpDxIdeal_RefUpDxIdeal (hUpDxIdeal := hUpDxIdeal) (hRefUpDxIdeal := hRefUpDxIdeal)
    ∧ preserves_DnDw_DnDwIdeal
    ∧ algebraic_DnDwIdeal_RefDnDwIdeal (hDnDwIdeal := hDnDwIdeal) (hRefDnDwIdeal := hRefDnDwIdeal)
    ∧ preserves_DnDx_DnDxIdeal
    ∧ algebraic_DnDxIdeal_RefDnDxIdeal (hDnDxIdeal := hDnDxIdeal) (hRefDnDxIdeal := hRefDnDxIdeal)
    ∧ preserves_ODw_ODwIdeal
    ∧ algebraic_ODwIdeal_RefODwIdeal (hODwIdeal := hODwIdeal) (hRefODwIdeal := hRefODwIdeal)
    ∧ preserves_ODx_ODxIdeal
    ∧ algebraic_ODxIdeal_RefODxIdeal (hODxIdeal := hODxIdeal) (hRefODxIdeal := hRefODxIdeal)
    ∧ preserves_OgDw_OgDwIdeal
    ∧ algebraic_OgDwIdeal_RefOgDwIdeal (hOgDwIdeal := hOgDwIdeal) (hRefOgDwIdeal := hRefOgDwIdeal)
    ∧ preserves_OgDx_OgDxIdeal
    ∧ algebraic_OgDxIdeal_RefOgDxIdeal (hOgDxIdeal := hOgDxIdeal) (hRefOgDxIdeal := hRefOgDxIdeal)
    ∧ preserves_InFw_InFwIdeal
    ∧ algebraic_InFwIdeal_RefInFwIdeal (hInFwIdeal := hInFwIdeal) (hRefInFwIdeal := hRefInFwIdeal)
    ∧ preserves_OgFw_OgFwIdeal
    ∧ algebraic_OgFwIdeal_RefOgFwIdeal (hOgFwIdeal := hOgFwIdeal) (hRefOgFwIdeal := hRefOgFwIdeal)
    ∧ preserves_OFw_OFwIdeal
    ∧ algebraic_OFwIdeal_RefOFwIdeal (hOFwIdeal := hOFwIdeal) (hRefOFwIdeal := hRefOFwIdeal)
    ∧ preserves_UpFw_UpFwIdeal
    ∧ algebraic_UpFwIdeal_RefUpFwIdeal (hUpFwIdeal := hUpFwIdeal) (hRefUpFwIdeal := hRefUpFwIdeal)
    ∧ preserves_DnFw_DnFwIdeal
    ∧ algebraic_DnFwIdeal_RefDnFwIdeal (hDnFwIdeal := hDnFwIdeal) (hRefDnFwIdeal := hRefDnFwIdeal)
    ∧ preserves_AdDn_AdDnIdeal
    ∧ algebraic_AdDnIdeal_RefAdDnIdeal (hAdDnIdeal := hAdDnIdeal) (hRefAdDnIdeal := hRefAdDnIdeal)
    ∧ preserves_AdUp_AdUpIdeal
    ∧ algebraic_AdUpIdeal_RefAdUpIdeal (hAdUpIdeal := hAdUpIdeal) (hRefAdUpIdeal := hRefAdUpIdeal)
    ∧ preserves_AdO_AdOIdeal
    ∧ algebraic_AdOIdeal_RefAdOIdeal (hAdOIdeal := hAdOIdeal) (hRefAdOIdeal := hRefAdOIdeal)
    ∧ preserves_AdOg_AdOgIdeal
    ∧ algebraic_AdOgIdeal_RefAdOgIdeal (hAdOgIdeal := hAdOgIdeal) (hRefAdOgIdeal := hRefAdOgIdeal)
    ∧ preserves_AdIn_AdInIdeal
    ∧ algebraic_AdInIdeal_RefAdInIdeal (hAdInIdeal := hAdInIdeal) (hRefAdInIdeal := hRefAdInIdeal)
    ∧ preserves_AdAda_AdAdaIdeal
    ∧ algebraic_AdAdaIdeal_RefAdAdaIdeal (hAdAdaIdeal := hAdAdaIdeal) (hRefAdAdaIdeal := hRefAdAdaIdeal)
    ∧ preserves_AdBada_AdBadaIdeal
    ∧ algebraic_AdBadaIdeal_RefAdBadaIdeal (hAdBadaIdeal := hAdBadaIdeal) (hRefAdBadaIdeal := hRefAdBadaIdeal)
    ∧ preserves_AdNorm_AdNormIdeal
    ∧ algebraic_AdNormIdeal_RefAdNormIdeal (hAdNormIdeal := hAdNormIdeal) (hRefAdNormIdeal := hRefAdNormIdeal)
    ∧ preserves_AdWa_AdWaIdeal
    ∧ algebraic_AdWaIdeal_RefAdWaIdeal (hAdWaIdeal := hAdWaIdeal) (hRefAdWaIdeal := hRefAdWaIdeal)
    ∧ preserves_AdBa_AdBaIdeal
    ∧ algebraic_AdBaIdeal_RefAdBaIdeal (hAdBaIdeal := hAdBaIdeal) (hRefAdBaIdeal := hRefAdBaIdeal)
    ∧ preserves_AdGn_AdGnIdeal
    ∧ algebraic_AdGnIdeal_RefAdGnIdeal (hAdGnIdeal := hAdGnIdeal) (hRefAdGnIdeal := hRefAdGnIdeal)
    ∧ preserves_AdCw_AdCwIdeal
    ∧ algebraic_AdCwIdeal_RefAdCwIdeal (hAdCwIdeal := hAdCwIdeal) (hRefAdCwIdeal := hRefAdCwIdeal)
    ∧ preserves_AdFw_AdFwIdeal
    ∧ algebraic_AdFwIdeal_RefAdFwIdeal (hAdFwIdeal := hAdFwIdeal) (hRefAdFwIdeal := hRefAdFwIdeal)
-- ==== Kernel.lean ====
abbrev S4096x10368 : Shape := ⟨2, ![4096, 10368]⟩
abbrev S16x512 : Shape := ⟨2, ![16, 512]⟩
abbrev S1x512 : Shape := ⟨2, ![1, 512]⟩
abbrev S4096x1024 : Shape := ⟨2, ![4096, 1024]⟩
abbrev S_ : Shape := ⟨0, ![]⟩
abbrev S112x512 : Shape := ⟨2, ![112, 512]⟩
abbrev S128x512 : Shape := ⟨2, ![128, 512]⟩
abbrev S64x512x256 : Shape := ⟨3, ![64, 512, 256]⟩
abbrev S256x512 : Shape := ⟨2, ![256, 512]⟩
abbrev S256x1024 : Shape := ⟨2, ![256, 1024]⟩
abbrev S256x128 : Shape := ⟨2, ![256, 128]⟩
abbrev S4x512x256 : Shape := ⟨3, ![4, 512, 256]⟩
abbrev S512x256 : Shape := ⟨2, ![512, 256]⟩
abbrev S64x64 : Shape := ⟨2, ![64, 64]⟩
abbrev S64x128 : Shape := ⟨2, ![64, 128]⟩
abbrev S1x128 : Shape := ⟨2, ![1, 128]⟩
abbrev S128x128 : Shape := ⟨2, ![128, 128]⟩
abbrev S128 : Shape := ⟨1, ![128]⟩
abbrev S128x1 : Shape := ⟨2, ![128, 1]⟩
abbrev S128x256 : Shape := ⟨2, ![128, 256]⟩
abbrev S64x256 : Shape := ⟨2, ![64, 256]⟩
abbrev S1x128x256 : Shape := ⟨3, ![1, 128, 256]⟩
abbrev S4096x128 : Shape := ⟨2, ![4096, 128]⟩
abbrev S1x512x256 : Shape := ⟨3, ![1, 512, 256]⟩
abbrev S256x2048 : Shape := ⟨2, ![256, 2048]⟩
abbrev S512 : Shape := ⟨1, ![512]⟩
abbrev S4096x16 : Shape := ⟨2, ![4096, 16]⟩

abbrev nBuf : Space → Nat
  | .hbm => 16
  | .vmem => 39
  | .smem => 0
  | _ => 0

abbrev bufTy : (tb : Table) → Fin (tcTables nBuf tb) → BufTy
  | .hbm, ⟨0, _⟩ => ⟨S4096x10368, .bf16⟩
  | .hbm, ⟨1, _⟩ => ⟨S16x512, .f32⟩
  | .hbm, ⟨2, _⟩ => ⟨S1x512, .f32⟩
  | .hbm, ⟨3, _⟩ => ⟨S4096x1024, .f32⟩
  | .hbm, ⟨4, _⟩ => ⟨S4096x10368, .bf16⟩
  | .hbm, ⟨5, _⟩ => ⟨S_, .f32⟩
  | .hbm, ⟨6, _⟩ => ⟨S112x512, .f32⟩
  | .hbm, ⟨7, _⟩ => ⟨S128x512, .f32⟩
  | .hbm, ⟨8, _⟩ => ⟨S4096x1024, .f32⟩
  | .hbm, ⟨9, _⟩ => ⟨S64x512x256, .f32⟩
  | .hbm, ⟨10, _⟩ => ⟨S4096x10368, .bf16⟩
  | .hbm, ⟨11, _⟩ => ⟨S4096x128, .bf16⟩
  | .hbm, ⟨12, _⟩ => ⟨S128x512, .f32⟩
  | .hbm, ⟨13, _⟩ => ⟨S1x512, .f32⟩
  | .hbm, ⟨14, _⟩ => ⟨S4096x16, .bf16⟩
  | .hbm, ⟨15, _⟩ => ⟨S16x512, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x1024, .bf16⟩
  | .local _ .vmem, ⟨5, _⟩ => ⟨S256x1024, .bf16⟩
  | .local _ .vmem, ⟨6, _⟩ => ⟨S256x128, .bf16⟩
  | .local _ .vmem, ⟨7, _⟩ => ⟨S256x128, .bf16⟩
  | .local _ .vmem, ⟨8, _⟩ => ⟨S128x512, .f32⟩
  | .local _ .vmem, ⟨9, _⟩ => ⟨S1x512, .f32⟩
  | .local _ .vmem, ⟨10, _⟩ => ⟨S256x1024, .f32⟩
  | .local _ .vmem, ⟨11, _⟩ => ⟨S256x1024, .f32⟩
  | .local _ .vmem, ⟨12, _⟩ => ⟨S4x512x256, .f32⟩
  | .local _ .vmem, ⟨13, _⟩ => ⟨S4x512x256, .f32⟩
  | .local _ .vmem, ⟨14, _⟩ => ⟨S512x256, .f32⟩
  | .local _ .vmem, ⟨15, _⟩ => ⟨S256x1024, .f32⟩
  | .local _ .vmem, ⟨16, _⟩ => ⟨S256x1024, .f32⟩
  | .local _ .vmem, ⟨17, _⟩ => ⟨S256x512, .bf16⟩
  | .local _ .vmem, ⟨18, _⟩ => ⟨S256x512, .bf16⟩
  | .local _ .vmem, ⟨19, _⟩ => ⟨S256x512, .bf16⟩
  | .local _ .vmem, ⟨20, _⟩ => ⟨S256x512, .bf16⟩
  | .local _ .vmem, ⟨21, _⟩ => ⟨S256x1024, .bf16⟩
  | .local _ .vmem, ⟨22, _⟩ => ⟨S256x1024, .bf16⟩
  | .local _ .vmem, ⟨23, _⟩ => ⟨S256x128, .bf16⟩
  | .local _ .vmem, ⟨24, _⟩ => ⟨S256x128, .bf16⟩
  | .local _ .vmem, ⟨25, _⟩ => ⟨S4x512x256, .f32⟩
  | .local _ .vmem, ⟨26, _⟩ => ⟨S4x512x256, .f32⟩
  | .local _ .vmem, ⟨27, _⟩ => ⟨S1x512x256, .f32⟩
  | .local _ .vmem, ⟨28, _⟩ => ⟨S1x512x256, .f32⟩
  | .local _ .vmem, ⟨29, _⟩ => ⟨S128x512, .f32⟩
  | .local _ .vmem, ⟨30, _⟩ => ⟨S1x512, .f32⟩
  | .local _ .vmem, ⟨31, _⟩ => ⟨S256x2048, .bf16⟩
  | .local _ .vmem, ⟨32, _⟩ => ⟨S256x2048, .bf16⟩
  | .local _ .vmem, ⟨33, _⟩ => ⟨S256x128, .bf16⟩
  | .local _ .vmem, ⟨34, _⟩ => ⟨S256x128, .bf16⟩
  | .local _ .vmem, ⟨35, _⟩ => ⟨S128x512, .f32⟩
  | .local _ .vmem, ⟨36, _⟩ => ⟨S1x512, .f32⟩
  | .local _ .vmem, ⟨37, _⟩ => ⟨S512x256, .f32⟩
  | .local _ .vmem, ⟨38, _⟩ => ⟨S256x512, .f32⟩
  | _, _ => ⟨S4096x10368, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg4_1 : Ref sig .tc := ⟨.vmem, 24, rfl⟩
abbrev cc1_stg5_0 : Ref sig .tc := ⟨.vmem, 25, rfl⟩
abbrev cc1_stg5_1 : Ref sig .tc := ⟨.vmem, 26, rfl⟩
abbrev cc1_stg6_0 : Ref sig .tc := ⟨.vmem, 27, rfl⟩
abbrev cc1_stg6_1 : Ref sig .tc := ⟨.vmem, 28, rfl⟩
abbrev cc1_stg7_0 : Ref sig .tc := ⟨.vmem, 29, rfl⟩
abbrev cc1_stg8_0 : Ref sig .tc := ⟨.vmem, 30, rfl⟩
abbrev cc1_stg9_0 : Ref sig .tc := ⟨.vmem, 31, rfl⟩
abbrev cc1_stg9_1 : Ref sig .tc := ⟨.vmem, 32, rfl⟩
abbrev cc1_stg10_0 : Ref sig .tc := ⟨.vmem, 33, rfl⟩
abbrev cc1_stg10_1 : Ref sig .tc := ⟨.vmem, 34, rfl⟩
abbrev cc1_stg11_0 : Ref sig .tc := ⟨.vmem, 35, rfl⟩
abbrev cc1_stg12_0 : Ref sig .tc := ⟨.vmem, 36, rfl⟩
abbrev cc1_scratch0 : Ref sig .tc := ⟨.vmem, 37, rfl⟩
abbrev cc1_scratch1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc1_sem7_0 : DmaSem sig := 28
abbrev cc1_sem8_0 : DmaSem sig := 29
abbrev cc1_sem9_0 : DmaSem sig := 30
abbrev cc1_sem9_1 : DmaSem sig := 31
abbrev cc1_sem10_0 : DmaSem sig := 32
abbrev cc1_sem10_1 : DmaSem sig := 33
abbrev cc1_sem11_0 : DmaSem sig := 34
abbrev cc1_sem12_0 : DmaSem sig := 35

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c80_i32 : BitVec 32 := 80#32
  let c0_i32 : BitVec 32 := 0#32
  ![arg0.toNat, c80_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c15_i32 : BitVec 32 := 15#32
  let v0 : BitVec 32 := Scalar.subi c15_i32 arg0
  let c1_i32 : BitVec 32 := 1#32
  let c0_i32 : BitVec 32 := 0#32
  ![v0.toNat, c1_i32.toNat]

def cc1_transform_3 (i : grid1.Coords) : Fin 2 → Nat :=
  let arg0 : BitVec 32 := BitVec.ofNat 32 (i 0).val
  let c15_i32 : BitVec 32 := 15#32
  let v0 : BitVec 32 := Scalar.subi c15_i32 arg0
  let c1_i32 : BitVec 32 := 1#32
  let c0_i32 : BitVec 32 := 0#32
  ![v0.toNat, c1_i32.toNat]

def cc1_transform_4 (i : grid1.Coords) : Fin 2 → Nat :=
  let arg0 : BitVec 32 := BitVec.ofNat 32 (i 0).val
  let c15_i32 : BitVec 32 := 15#32
  let v0 : BitVec 32 := Scalar.subi c15_i32 arg0
  let c80_i32 : BitVec 32 := 80#32
  let c0_i32 : BitVec 32 := 0#32
  ![v0.toNat, c80_i32.toNat]

def cc1_transform_5 (i : grid1.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![v0.toNat, c0_i32.toNat, c0_i32_0.toNat]

def cc1_transform_6 (i : grid1.Coords) : Fin 3 → Nat :=
  let arg0 : BitVec 32 := BitVec.ofNat 32 (i 0).val
  let c15_i32 : BitVec 32 := 15#32
  let v0 : BitVec 32 := Scalar.subi c15_i32 arg0
  let c4_i32 : BitVec 32 := 4#32
  let v1 : BitVec 32 := Scalar.muli v0 c4_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  let c0_i32_2 : BitVec 32 := 0#32
  ![v3.toNat, c0_i32_0.toNat, c0_i32_1.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc1_transform_11 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S4x512x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x512x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S128x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S256x2048 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S256x128 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 1 → Memref sig .tc .vmem S128x512 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x512 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]
-- ==== ReferenceIdeal.lean ====
abbrev S4096x10368 : Shape := ⟨2, ![4096, 10368]⟩
abbrev S16x512 : Shape := ⟨2, ![16, 512]⟩
abbrev S1x512 : Shape := ⟨2, ![1, 512]⟩
abbrev S4096x1024 : Shape := ⟨2, ![4096, 1024]⟩
abbrev S4096x512 : Shape := ⟨2, ![4096, 512]⟩
abbrev S4096x16 : Shape := ⟨2, ![4096, 16]⟩
abbrev S_ : Shape := ⟨0, ![]⟩
abbrev S1x4096x4x128 : Shape := ⟨4, ![1, 4096, 4, 128]⟩
abbrev S1x4096x4x256 : Shape := ⟨4, ![1, 4096, 4, 256]⟩
abbrev S1x4x128x256 : Shape := ⟨4, ![1, 4, 128, 256]⟩
abbrev S1x64x64x4x128 : Shape := ⟨5, ![1, 64, 64, 4, 128]⟩
abbrev S64x1x4x64x128 : Shape := ⟨5, ![64, 1, 4, 64, 128]⟩
abbrev S1x64x64x4x256 : Shape := ⟨5, ![1, 64, 64, 4, 256]⟩
abbrev S64x1x4x64x256 : Shape := ⟨5, ![64, 1, 4, 64, 256]⟩
abbrev S64x1x4x128 : Shape := ⟨4, ![64, 1, 4, 128]⟩
abbrev S64x1x4x128x256 : Shape := ⟨5, ![64, 1, 4, 128, 256]⟩
abbrev S64x1x4x128x1 : Shape := ⟨5, ![64, 1, 4, 128, 1]⟩
abbrev S1x1x4x64x128 : Shape := ⟨5, ![1, 1, 4, 64, 128]⟩
abbrev S1x4x64x128 : Shape := ⟨4, ![1, 4, 64, 128]⟩
abbrev S1x1x4x64x256 : Shape := ⟨5, ![1, 1, 4, 64, 256]⟩
abbrev S1x4x64x256 : Shape := ⟨4, ![1, 4, 64, 256]⟩
abbrev S1x4x1x128 : Shape := ⟨4, ![1, 4, 1, 128]⟩
abbrev S1x4x128 : Shape := ⟨3, ![1, 4, 128]⟩
abbrev S1x4x128x1 : Shape := ⟨4, ![1, 4, 128, 1]⟩
abbrev S1x1x4x128 : Shape := ⟨4, ![1, 1, 4, 128]⟩
abbrev S1x1x4x128x256 : Shape := ⟨5, ![1, 1, 4, 128, 256]⟩
abbrev S1x1x4x128x1 : Shape := ⟨5, ![1, 1, 4, 128, 1]⟩
abbrev S1x4x256x128 : Shape := ⟨4, ![1, 4, 256, 128]⟩
abbrev S1x4x256x64 : Shape := ⟨4, ![1, 4, 256, 64]⟩
abbrev S1x4x128x64 : Shape := ⟨4, ![1, 4, 128, 64]⟩
abbrev S4x128 : Shape := ⟨2, ![4, 128]⟩
abbrev S512 : Shape := ⟨1, ![512]⟩
abbrev S512x16 : Shape := ⟨2, ![512, 16]⟩
abbrev S4096x8320 : Shape := ⟨2, ![4096, 8320]⟩

abbrev nBuf : Space → Nat
  | .hbm => 387
  | .vmem => 0
  | .smem => 0
  | _ => 0

abbrev hbmTy0_0 (i : Nat) : BufTy := match i % 128 with
  | 0 => ⟨S4096x10368, .bf16⟩
  | 1 => ⟨S16x512, .f32⟩
  | 2 => ⟨S1x512, .f32⟩
  | 3 => ⟨S4096x1024, .f32⟩
  | 4 => ⟨S4096x10368, .bf16⟩
  | 5 => ⟨S4096x512, .bf16⟩
  | 6 => ⟨S4096x512, .bf16⟩
  | 7 => ⟨S4096x1024, .bf16⟩
  | 8 => ⟨S4096x16, .bf16⟩
  | 9 => ⟨S4096x16, .f32⟩
  | 10 => ⟨S4096x512, .f32⟩
  | 11 => ⟨S4096x512, .f32⟩
  | 12 => ⟨S4096x512, .f32⟩
  | 13 => ⟨S4096x512, .f32⟩
  | 14 => ⟨S_, .f32⟩
  | 15 => ⟨S4096x512, .f32⟩
  | 16 => ⟨S4096x512, .f32⟩
  | 17 => ⟨S4096x512, .f32⟩
  | 18 => ⟨S4096x512, .f32⟩
  | 19 => ⟨S4096x512, .i1⟩
  | 20 => ⟨S4096x512, .f32⟩
  | 21 => ⟨S4096x512, .f32⟩
  | 22 => ⟨S4096x512, .f32⟩
  | 23 => ⟨S4096x512, .f32⟩
  | 24 => ⟨S4096x512, .f32⟩
  | 25 => ⟨S4096x512, .f32⟩
  | 26 => ⟨S4096x512, .f32⟩
  | 27 => ⟨S4096x512, .f32⟩
  | 28 => ⟨S_, .f32⟩
  | 29 => ⟨S4096x512, .f32⟩
  | 30 => ⟨S4096x512, .i1⟩
  | 31 => ⟨S_, .f32⟩
  | 32 => ⟨S4096x512, .f32⟩
  | 33 => ⟨S4096x512, .f32⟩
  | 34 => ⟨S_, .f32⟩
  | 35 => ⟨S4096x512, .f32⟩
  | 36 => ⟨S4096x512, .i1⟩
  | 37 => ⟨S_, .f32⟩
  | 38 => ⟨S4096x512, .f32⟩
  | 39 => ⟨S4096x512, .f32⟩
  | 40 => ⟨S4096x512, .f32⟩
  | 41 => ⟨S4096x512, .f32⟩
  | 42 => ⟨S_, .f32⟩
  | 43 => ⟨S_, .f32⟩
  | 44 => ⟨S_, .i1⟩
  | 45 => ⟨S_, .f32⟩
  | 46 => ⟨S_, .f32⟩
  | 47 => ⟨S_, .f32⟩
  | 48 => ⟨S_, .f32⟩
  | 49 => ⟨S4096x512, .f32⟩
  | 50 => ⟨S4096x512, .i1⟩
  | 51 => ⟨S_, .f32⟩
  | 52 => ⟨S4096x512, .f32⟩
  | 53 => ⟨S4096x512, .f32⟩
  | 54 => ⟨S4096x512, .f32⟩
  | 55 => ⟨S4096x512, .f32⟩
  | 56 => ⟨S4096x512, .f32⟩
  | 57 => ⟨S_, .f32⟩
  | 58 => ⟨S4096x512, .f32⟩
  | 59 => ⟨S4096x512, .f32⟩
  | 60 => ⟨S4096x512, .f32⟩
  | 61 => ⟨S_, .f32⟩
  | 62 => ⟨S4096x512, .f32⟩
  | 63 => ⟨S4096x512, .f32⟩
  | 64 => ⟨S4096x512, .f32⟩
  | 65 => ⟨S1x4096x4x128, .f32⟩
  | 66 => ⟨S_, .f32⟩
  | 67 => ⟨S1x4096x4x128, .f32⟩
  | 68 => ⟨S1x4096x4x128, .f32⟩
  | 69 => ⟨S4096x512, .f32⟩
  | 70 => ⟨S1x4096x4x128, .f32⟩
  | 71 => ⟨S4096x1024, .f32⟩
  | 72 => ⟨S1x4096x4x256, .f32⟩
  | 73 => ⟨S1x4096x4x128, .f32⟩
  | 74 => ⟨S_, .f32⟩
  | 75 => ⟨S1x4x128x256, .f32⟩
  | 76 => ⟨S1x64x64x4x128, .f32⟩
  | 77 => ⟨S64x1x4x64x128, .f32⟩
  | 78 => ⟨S1x64x64x4x128, .f32⟩
  | 79 => ⟨S64x1x4x64x128, .f32⟩
  | 80 => ⟨S1x64x64x4x256, .f32⟩
  | 81 => ⟨S64x1x4x64x256, .f32⟩
  | 82 => ⟨S1x64x64x4x128, .f32⟩
  | 83 => ⟨S64x1x4x64x128, .f32⟩
  | 84 => ⟨S_, .f32⟩
  | 85 => ⟨S64x1x4x64x256, .f32⟩
  | 86 => ⟨S_, .f32⟩
  | 87 => ⟨S64x1x4x64x128, .f32⟩
  | 88 => ⟨S_, .f32⟩
  | 89 => ⟨S64x1x4x128, .f32⟩
  | 90 => ⟨S_, .f32⟩
  | 91 => ⟨S64x1x4x128x256, .f32⟩
  | 92 => ⟨S_, .f32⟩
  | 93 => ⟨S64x1x4x128x1, .f32⟩
  | 94 => ⟨S_, .f32⟩
  | 95 => ⟨S64x1x4x64x128, .f32⟩
  | 96 => ⟨S_, .f32⟩
  | 97 => ⟨S64x1x4x128x256, .f32⟩
  | 98 => ⟨S_, .i32⟩
  | 99 => ⟨S64x1x4x64x128, .f32⟩
  | 100 => ⟨S64x1x4x64x128, .f32⟩
  | 101 => ⟨S64x1x4x64x256, .f32⟩
  | 102 => ⟨S64x1x4x64x128, .f32⟩
  | 103 => ⟨S_, .i32⟩
  | 104 => ⟨S1x4x128x256, .f32⟩
  | 105 => ⟨S64x1x4x64x256, .f32⟩
  | 106 => ⟨S64x1x4x64x128, .f32⟩
  | 107 => ⟨S64x1x4x128, .f32⟩
  | 108 => ⟨S64x1x4x128x256, .f32⟩
  | 109 => ⟨S64x1x4x128x1, .f32⟩
  | 110 => ⟨S64x1x4x64x128, .f32⟩
  | 111 => ⟨S64x1x4x128x256, .f32⟩
  | 112 => ⟨S_, .i32⟩
  | 113 => ⟨S_, .i1⟩
  | 114 => ⟨S_, .i32⟩
  | 115 => ⟨S_, .i32⟩
  | 116 => ⟨S_, .i32⟩
  | 117 => ⟨S_, .i32⟩
  | 118 => ⟨S1x1x4x64x128, .f32⟩
  | 119 => ⟨S1x4x64x128, .f32⟩
  | 120 => ⟨S_, .i32⟩
  | 121 => ⟨S_, .i32⟩
  | 122 => ⟨S_, .i32⟩
  | 123 => ⟨S_, .i32⟩
  | 124 => ⟨S1x1x4x64x128, .f32⟩
  | 125 => ⟨S1x4x64x128, .f32⟩
  | 126 => ⟨S_, .i32⟩
  | 127 => ⟨S_, .i32⟩
  | _ => ⟨S4096x10368, .bf16⟩

abbrev hbmTy0_1 (i : Nat) : BufTy := match i % 128 with
  | 0 => ⟨S_, .i32⟩
  | 1 => ⟨S_, .i32⟩
  | 2 => ⟨S1x1x4x64x256, .f32⟩
  | 3 => ⟨S1x4x64x256, .f32⟩
  | 4 => ⟨S_, .i32⟩
  | 5 => ⟨S_, .i32⟩
  | 6 => ⟨S_, .i32⟩
  | 7 => ⟨S_, .i32⟩
  | 8 => ⟨S1x1x4x64x128, .f32⟩
  | 9 => ⟨S1x4x64x128, .f32⟩
  | 10 => ⟨S_, .f32⟩
  | 11 => ⟨S_, .f32⟩
  | 12 => ⟨S1x4x64x128, .f32⟩
  | 13 => ⟨S1x4x1x128, .f32⟩
  | 14 => ⟨S1x4x64x128, .f32⟩
  | 15 => ⟨S1x4x64x128, .f32⟩
  | 16 => ⟨S1x4x64x128, .f32⟩
  | 17 => ⟨S1x4x64x128, .f32⟩
  | 18 => ⟨S1x4x128, .f32⟩
  | 19 => ⟨S1x4x128, .f32⟩
  | 20 => ⟨S1x4x128x1, .f32⟩
  | 21 => ⟨S1x4x128x256, .f32⟩
  | 22 => ⟨S1x4x128x256, .f32⟩
  | 23 => ⟨S1x4x128x256, .f32⟩
  | 24 => ⟨S1x4x128x256, .f32⟩
  | 25 => ⟨S1x4x64x256, .f32⟩
  | 26 => ⟨S1x1x4x64x256, .f32⟩
  | 27 => ⟨S_, .i32⟩
  | 28 => ⟨S_, .i32⟩
  | 29 => ⟨S_, .i32⟩
  | 30 => ⟨S_, .i32⟩
  | 31 => ⟨S64x1x4x64x256, .f32⟩
  | 32 => ⟨S1x1x4x64x128, .f32⟩
  | 33 => ⟨S_, .i32⟩
  | 34 => ⟨S_, .i32⟩
  | 35 => ⟨S_, .i32⟩
  | 36 => ⟨S_, .i32⟩
  | 37 => ⟨S64x1x4x64x128, .f32⟩
  | 38 => ⟨S1x1x4x128, .f32⟩
  | 39 => ⟨S_, .i32⟩
  | 40 => ⟨S_, .i32⟩
  | 41 => ⟨S_, .i32⟩
  | 42 => ⟨S64x1x4x128, .f32⟩
  | 43 => ⟨S1x1x4x128x256, .f32⟩
  | 44 => ⟨S_, .i32⟩
  | 45 => ⟨S_, .i32⟩
  | 46 => ⟨S_, .i32⟩
  | 47 => ⟨S_, .i32⟩
  | 48 => ⟨S64x1x4x128x256, .f32⟩
  | 49 => ⟨S1x1x4x128x1, .f32⟩
  | 50 => ⟨S_, .i32⟩
  | 51 => ⟨S_, .i32⟩
  | 52 => ⟨S_, .i32⟩
  | 53 => ⟨S_, .i32⟩
  | 54 => ⟨S64x1x4x128x1, .f32⟩
  | 55 => ⟨S1x1x4x64x128, .f32⟩
  | 56 => ⟨S_, .i32⟩
  | 57 => ⟨S_, .i32⟩
  | 58 => ⟨S_, .i32⟩
  | 59 => ⟨S_, .i32⟩
  | 60 => ⟨S64x1x4x64x128, .f32⟩
  | 61 => ⟨S1x1x4x128x256, .f32⟩
  | 62 => ⟨S_, .i32⟩
  | 63 => ⟨S_, .i32⟩
  | 64 => ⟨S_, .i32⟩
  | 65 => ⟨S_, .i32⟩
  | 66 => ⟨S64x1x4x128x256, .f32⟩
  | 67 => ⟨S_, .i32⟩
  | 68 => ⟨S_, .i32⟩
  | 69 => ⟨S1x64x64x4x256, .f32⟩
  | 70 => ⟨S4096x1024, .f32⟩
  | 71 => ⟨S_, .f32⟩
  | 72 => ⟨S1x4x128x256, .f32⟩
  | 73 => ⟨S1x64x64x4x256, .f32⟩
  | 74 => ⟨S64x1x4x64x256, .f32⟩
  | 75 => ⟨S_, .f32⟩
  | 76 => ⟨S1x4x128x256, .f32⟩
  | 77 => ⟨S_, .f32⟩
  | 78 => ⟨S64x1x4x64x128, .f32⟩
  | 79 => ⟨S_, .f32⟩
  | 80 => ⟨S64x1x4x64x128, .f32⟩
  | 81 => ⟨S_, .f32⟩
  | 82 => ⟨S64x1x4x64x256, .f32⟩
  | 83 => ⟨S_, .f32⟩
  | 84 => ⟨S64x1x4x64x128, .f32⟩
  | 85 => ⟨S_, .i32⟩
  | 86 => ⟨S64x1x4x64x256, .f32⟩
  | 87 => ⟨S64x1x4x64x128, .f32⟩
  | 88 => ⟨S64x1x4x64x128, .f32⟩
  | 89 => ⟨S64x1x4x128, .f32⟩
  | 90 => ⟨S64x1x4x128x256, .f32⟩
  | 91 => ⟨S64x1x4x128x1, .f32⟩
  | 92 => ⟨S64x1x4x64x256, .f32⟩
  | 93 => ⟨S64x1x4x64x128, .f32⟩
  | 94 => ⟨S64x1x4x128x256, .f32⟩
  | 95 => ⟨S64x1x4x64x128, .f32⟩
  | 96 => ⟨S_, .i32⟩
  | 97 => ⟨S1x4x128x256, .f32⟩
  | 98 => ⟨S64x1x4x64x128, .f32⟩
  | 99 => ⟨S64x1x4x64x128, .f32⟩
  | 100 => ⟨S64x1x4x64x256, .f32⟩
  | 101 => ⟨S64x1x4x64x128, .f32⟩
  | 102 => ⟨S_, .i32⟩
  | 103 => ⟨S_, .i1⟩
  | 104 => ⟨S_, .i32⟩
  | 105 => ⟨S_, .i32⟩
  | 106 => ⟨S_, .i32⟩
  | 107 => ⟨S_, .i32⟩
  | 108 => ⟨S_, .i32⟩
  | 109 => ⟨S_, .i32⟩
  | 110 => ⟨S_, .i32⟩
  | 111 => ⟨S_, .i32⟩
  | 112 => ⟨S1x1x4x64x256, .f32⟩
  | 113 => ⟨S1x4x64x256, .f32⟩
  | 114 => ⟨S_, .i32⟩
  | 115 => ⟨S_, .i32⟩
  | 116 => ⟨S_, .i32⟩
  | 117 => ⟨S_, .i32⟩
  | 118 => ⟨S1x1x4x64x128, .f32⟩
  | 119 => ⟨S1x4x64x128, .f32⟩
  | 120 => ⟨S_, .i32⟩
  | 121 => ⟨S_, .i32⟩
  | 122 => ⟨S_, .i32⟩
  | 123 => ⟨S_, .i32⟩
  | 124 => ⟨S1x1x4x64x128, .f32⟩
  | 125 => ⟨S1x4x64x128, .f32⟩
  | 126 => ⟨S_, .i32⟩
  | 127 => ⟨S_, .i32⟩
  | _ => ⟨S4096x10368, .bf16⟩

abbrev hbmTy0_2 (i : Nat) : BufTy := match i % 128 with
  | 0 => ⟨S_, .i32⟩
  | 1 => ⟨S1x1x4x128, .f32⟩
  | 2 => ⟨S1x4x128, .f32⟩
  | 3 => ⟨S_, .i32⟩
  | 4 => ⟨S_, .i32⟩
  | 5 => ⟨S_, .i32⟩
  | 6 => ⟨S_, .i32⟩
  | 7 => ⟨S1x1x4x128x256, .f32⟩
  | 8 => ⟨S1x4x128x256, .f32⟩
  | 9 => ⟨S_, .i32⟩
  | 10 => ⟨S_, .i32⟩
  | 11 => ⟨S_, .i32⟩
  | 12 => ⟨S_, .i32⟩
  | 13 => ⟨S1x1x4x128x1, .f32⟩
  | 14 => ⟨S1x4x128x1, .f32⟩
  | 15 => ⟨S_, .i32⟩
  | 16 => ⟨S_, .i32⟩
  | 17 => ⟨S_, .i32⟩
  | 18 => ⟨S_, .i32⟩
  | 19 => ⟨S1x1x4x64x256, .f32⟩
  | 20 => ⟨S1x4x64x256, .f32⟩
  | 21 => ⟨S_, .i32⟩
  | 22 => ⟨S_, .i32⟩
  | 23 => ⟨S_, .i32⟩
  | 24 => ⟨S_, .i32⟩
  | 25 => ⟨S1x1x4x64x128, .f32⟩
  | 26 => ⟨S1x4x64x128, .f32⟩
  | 27 => ⟨S_, .i32⟩
  | 28 => ⟨S_, .i32⟩
  | 29 => ⟨S_, .i32⟩
  | 30 => ⟨S_, .i32⟩
  | 31 => ⟨S1x1x4x128x256, .f32⟩
  | 32 => ⟨S1x4x128x256, .f32⟩
  | 33 => ⟨S_, .i32⟩
  | 34 => ⟨S_, .i32⟩
  | 35 => ⟨S_, .i32⟩
  | 36 => ⟨S_, .i32⟩
  | 37 => ⟨S1x1x4x64x128, .f32⟩
  | 38 => ⟨S1x4x64x128, .f32⟩
  | 39 => ⟨S1x4x256x128, .f32⟩
  | 40 => ⟨S1x4x128x256, .f32⟩
  | 41 => ⟨S1x4x128x256, .f32⟩
  | 42 => ⟨S1x4x64x128, .f32⟩
  | 43 => ⟨S1x4x256x64, .f32⟩
  | 44 => ⟨S1x4x64x256, .f32⟩
  | 45 => ⟨S1x4x128x64, .f32⟩
  | 46 => ⟨S1x4x64x128, .f32⟩
  | 47 => ⟨S1x4x128x256, .f32⟩
  | 48 => ⟨S1x4x128x256, .f32⟩
  | 49 => ⟨S1x4x128x256, .f32⟩
  | 50 => ⟨S_, .f32⟩
  | 51 => ⟨S1x4x128, .f32⟩
  | 52 => ⟨S1x4x128x1, .f32⟩
  | 53 => ⟨S_, .f32⟩
  | 54 => ⟨S4x128, .f32⟩
  | 55 => ⟨S1x4x128, .f32⟩
  | 56 => ⟨S1x4x128, .f32⟩
  | 57 => ⟨S1x4x1x128, .f32⟩
  | 58 => ⟨S1x4x64x128, .f32⟩
  | 59 => ⟨S1x4x64x128, .f32⟩
  | 60 => ⟨S1x4x64x128, .f32⟩
  | 61 => ⟨S_, .f32⟩
  | 62 => ⟨S1x4x128, .f32⟩
  | 63 => ⟨S1x4x1x128, .f32⟩
  | 64 => ⟨S1x4x64x128, .f32⟩
  | 65 => ⟨S1x4x1x128, .f32⟩
  | 66 => ⟨S_, .f32⟩
  | 67 => ⟨S1x4x64x128, .f32⟩
  | 68 => ⟨S1x4x64x128, .f32⟩
  | 69 => ⟨S_, .f32⟩
  | 70 => ⟨S_, .f32⟩
  | 71 => ⟨S1x4x64x128, .f32⟩
  | 72 => ⟨S1x1x4x64x128, .f32⟩
  | 73 => ⟨S_, .i32⟩
  | 74 => ⟨S_, .i32⟩
  | 75 => ⟨S_, .i32⟩
  | 76 => ⟨S_, .i32⟩
  | 77 => ⟨S64x1x4x64x128, .f32⟩
  | 78 => ⟨S1x1x4x64x128, .f32⟩
  | 79 => ⟨S_, .i32⟩
  | 80 => ⟨S_, .i32⟩
  | 81 => ⟨S_, .i32⟩
  | 82 => ⟨S_, .i32⟩
  | 83 => ⟨S64x1x4x64x128, .f32⟩
  | 84 => ⟨S1x1x4x64x256, .f32⟩
  | 85 => ⟨S_, .i32⟩
  | 86 => ⟨S_, .i32⟩
  | 87 => ⟨S_, .i32⟩
  | 88 => ⟨S_, .i32⟩
  | 89 => ⟨S64x1x4x64x256, .f32⟩
  | 90 => ⟨S1x1x4x64x128, .f32⟩
  | 91 => ⟨S_, .i32⟩
  | 92 => ⟨S_, .i32⟩
  | 93 => ⟨S_, .i32⟩
  | 94 => ⟨S_, .i32⟩
  | 95 => ⟨S64x1x4x64x128, .f32⟩
  | 96 => ⟨S_, .i32⟩
  | 97 => ⟨S_, .i32⟩
  | 98 => ⟨S1x64x64x4x128, .f32⟩
  | 99 => ⟨S1x4096x4x128, .f32⟩
  | 100 => ⟨S1x64x64x4x256, .f32⟩
  | 101 => ⟨S1x4096x4x256, .f32⟩
  | 102 => ⟨S1x64x64x4x128, .f32⟩
  | 103 => ⟨S1x4096x4x128, .f32⟩
  | 104 => ⟨S1x64x64x4x128, .f32⟩
  | 105 => ⟨S1x4096x4x128, .f32⟩
  | 106 => ⟨S4096x512, .f32⟩
  | 107 => ⟨S4096x1024, .f32⟩
  | 108 => ⟨S4096x1024, .bf16⟩
  | 109 => ⟨S4096x512, .f32⟩
  | 110 => ⟨S4096x512, .bf16⟩
  | 111 => ⟨S_, .f32⟩
  | 112 => ⟨S1x4096x4x128, .f32⟩
  | 113 => ⟨S1x4096x4x128, .f32⟩
  | 114 => ⟨S4096x512, .f32⟩
  | 115 => ⟨S4096x512, .bf16⟩
  | 116 => ⟨S_, .f32⟩
  | 117 => ⟨S4096x512, .f32⟩
  | 118 => ⟨S4096x512, .f32⟩
  | 119 => ⟨S4096x512, .f32⟩
  | 120 => ⟨S4096x512, .f32⟩
  | 121 => ⟨S4096x512, .f32⟩
  | 122 => ⟨S_, .f32⟩
  | 123 => ⟨S512, .f32⟩
  | 124 => ⟨S1x512, .f32⟩
  | 125 => ⟨S512x16, .f32⟩
  | 126 => ⟨S16x512, .f32⟩
  | 127 => ⟨S4096x16, .f32⟩
  | _ => ⟨S4096x10368, .bf16⟩

abbrev hbmTy0_3 (i : Nat) : BufTy := match i % 128 with
  | 0 => ⟨S4096x16, .bf16⟩
  | 1 => ⟨S4096x8320, .bf16⟩
  | 2 => ⟨S4096x10368, .bf16⟩
  | _ => ⟨S4096x10368, .bf16⟩

abbrev hbmTy (i : Nat) : BufTy := match i / 128 with
  | 0 => hbmTy0_0 i
  | 1 => hbmTy0_1 i
  | 2 => hbmTy0_2 i
  | 3 => hbmTy0_3 i
  | _ => ⟨S4096x10368, .bf16⟩

abbrev bufTy : (tb : Table) → Fin (tcTables nBuf tb) → BufTy
  | .hbm, ⟨i, _⟩ => hbmTy i
  | _, _ => ⟨S4096x10368, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_v0 : Ref sig .tc := ⟨.hbm, 13, rfl⟩
abbrev main_call0_call0_cst : Ref sig .tc := ⟨.hbm, 14, rfl⟩
abbrev main_call0_call0_v0 : Ref sig .tc := ⟨.hbm, 15, rfl⟩
abbrev main_call0_call0_v1 : Ref sig .tc := ⟨.hbm, 16, rfl⟩
abbrev main_call0_call0_v2 : Ref sig .tc := ⟨.hbm, 17, rfl⟩
abbrev main_call0_call0_v3 : Ref sig .tc := ⟨.hbm, 18, rfl⟩
abbrev main_call0_call0_v4 : Ref sig .tc := ⟨.hbm, 19, rfl⟩
abbrev main_call0_call0_v5 : Ref sig .tc := ⟨.hbm, 20, rfl⟩
abbrev main_call0_call0_v6 : Ref sig .tc := ⟨.hbm, 21, rfl⟩
abbrev main_call0_call0_v7 : Ref sig .tc := ⟨.hbm, 22, rfl⟩
abbrev main_call0_call0_v8 : Ref sig .tc := ⟨.hbm, 23, rfl⟩
abbrev main_call0_call0_v9 : Ref sig .tc := ⟨.hbm, 24, rfl⟩
abbrev main_call0_call0_v10 : Ref sig .tc := ⟨.hbm, 25, rfl⟩
abbrev main_call0_call0_v11 : Ref sig .tc := ⟨.hbm, 26, rfl⟩
abbrev main_call0_v1_0 : Ref sig .tc := ⟨.hbm, 27, rfl⟩
abbrev main_call0_call0_cst_0 : Ref sig .tc := ⟨.hbm, 28, rfl⟩
abbrev main_call0_call0_v13 : Ref sig .tc := ⟨.hbm, 29, rfl⟩
abbrev main_call0_call0_v14 : Ref sig .tc := ⟨.hbm, 30, rfl⟩
abbrev main_call0_call0_cst_1 : Ref sig .tc := ⟨.hbm, 31, rfl⟩
abbrev main_call0_call0_v15 : Ref sig .tc := ⟨.hbm, 32, rfl⟩
abbrev main_call0_call0_v16 : Ref sig .tc := ⟨.hbm, 33, rfl⟩
abbrev main_call0_call0_cst_2 : Ref sig .tc := ⟨.hbm, 34, rfl⟩
abbrev main_call0_call0_v17 : Ref sig .tc := ⟨.hbm, 35, rfl⟩
abbrev main_call0_call0_v18 : Ref sig .tc := ⟨.hbm, 36, rfl⟩
abbrev main_call0_call0_cst_3 : Ref sig .tc := ⟨.hbm, 37, rfl⟩
abbrev main_call0_call0_v19 : Ref sig .tc := ⟨.hbm, 38, rfl⟩
abbrev main_call0_call0_v20 : Ref sig .tc := ⟨.hbm, 39, rfl⟩
abbrev main_call0_call0_v21 : Ref sig .tc := ⟨.hbm, 40, rfl⟩
abbrev main_v8_1 : Ref sig .tc := ⟨.hbm, 41, rfl⟩
abbrev main_call0_call0_cst_4 : Ref sig .tc := ⟨.hbm, 42, rfl⟩
abbrev main_call0_call0_cst_5 : Ref sig .tc := ⟨.hbm, 43, rfl⟩
abbrev main_call0_call0_v23 : Ref sig .tc := ⟨.hbm, 44, rfl⟩
abbrev main_call0_call0_cst_6 : Ref sig .tc := ⟨.hbm, 45, rfl⟩
abbrev main_call0_call0_cst_7 : Ref sig .tc := ⟨.hbm, 46, rfl⟩
abbrev main_call0_call0_v24 : Ref sig .tc := ⟨.hbm, 47, rfl⟩
abbrev main_call0_call0_cst_8 : Ref sig .tc := ⟨.hbm, 48, rfl⟩
abbrev main_call0_call0_v25 : Ref sig .tc := ⟨.hbm, 49, rfl⟩
abbrev main_call0_call0_v26 : Ref sig .tc := ⟨.hbm, 50, rfl⟩
abbrev main_call0_call0_cst_9 : Ref sig .tc := ⟨.hbm, 51, rfl⟩
abbrev main_call0_call0_v27 : Ref sig .tc := ⟨.hbm, 52, rfl⟩
abbrev main_call0_call0_v28 : Ref sig .tc := ⟨.hbm, 53, rfl⟩
abbrev main_call0_call0_v29 : Ref sig .tc := ⟨.hbm, 54, rfl⟩
abbrev main_call0_call0_v30 : Ref sig .tc := ⟨.hbm, 55, rfl⟩
abbrev main_call0_call0_v31 : Ref sig .tc := ⟨.hbm, 56, rfl⟩
abbrev main_call0_call0_cst_10 : Ref sig .tc := ⟨.hbm, 57, rfl⟩
abbrev main_call0_call0_v32 : Ref sig .tc := ⟨.hbm, 58, rfl⟩
abbrev main_v8_2 : Ref sig .tc := ⟨.hbm, 59, rfl⟩
abbrev main_v8_0 : Ref sig .tc := ⟨.hbm, 60, rfl⟩
abbrev main_cst : Ref sig .tc := ⟨.hbm, 61, rfl⟩
abbrev main_v9 : Ref sig .tc := ⟨.hbm, 62, rfl⟩
abbrev main_v10 : Ref sig .tc := ⟨.hbm, 63, rfl⟩
abbrev main_v11 : Ref sig .tc := ⟨.hbm, 64, rfl⟩
abbrev main_v12 : Ref sig .tc := ⟨.hbm, 65, rfl⟩
abbrev main_cst_0 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_cst_1 : Ref sig .tc := ⟨.hbm, 74, rfl⟩
abbrev main_v20 : Ref sig .tc := ⟨.hbm, 75, rfl⟩
abbrev main_v21 : Ref sig .tc := ⟨.hbm, 76, rfl⟩
abbrev main_v22 : Ref sig .tc := ⟨.hbm, 77, rfl⟩
abbrev main_v23 : Ref sig .tc := ⟨.hbm, 78, rfl⟩
abbrev main_v24 : Ref sig .tc := ⟨.hbm, 79, rfl⟩
abbrev main_v25 : Ref sig .tc := ⟨.hbm, 80, rfl⟩
abbrev main_v26 : Ref sig .tc := ⟨.hbm, 81, rfl⟩
abbrev main_v27 : Ref sig .tc := ⟨.hbm, 82, rfl⟩
abbrev main_v28 : Ref sig .tc := ⟨.hbm, 83, rfl⟩
abbrev main_cst_2 : Ref sig .tc := ⟨.hbm, 84, rfl⟩
abbrev main_v29 : Ref sig .tc := ⟨.hbm, 85, rfl⟩
abbrev main_cst_3 : Ref sig .tc := ⟨.hbm, 86, rfl⟩
abbrev main_v30 : Ref sig .tc := ⟨.hbm, 87, rfl⟩
abbrev main_cst_4 : Ref sig .tc := ⟨.hbm, 88, rfl⟩
abbrev main_v31 : Ref sig .tc := ⟨.hbm, 89, rfl⟩
abbrev main_cst_5 : Ref sig .tc := ⟨.hbm, 90, rfl⟩
abbrev main_v32 : Ref sig .tc := ⟨.hbm, 91, rfl⟩
abbrev main_cst_6 : Ref sig .tc := ⟨.hbm, 92, rfl⟩
abbrev main_v33 : Ref sig .tc := ⟨.hbm, 93, rfl⟩
abbrev main_cst_7 : Ref sig .tc := ⟨.hbm, 94, rfl⟩
abbrev main_v34 : Ref sig .tc := ⟨.hbm, 95, rfl⟩
abbrev main_cst_8 : Ref sig .tc := ⟨.hbm, 96, rfl⟩
abbrev main_v35 : Ref sig .tc := ⟨.hbm, 97, rfl⟩
abbrev main_c : Ref sig .tc := ⟨.hbm, 98, rfl⟩
abbrev main_v36_0 : Ref sig .tc := ⟨.hbm, 99, rfl⟩
abbrev main_v36_1 : Ref sig .tc := ⟨.hbm, 100, rfl⟩
abbrev main_v36_2 : Ref sig .tc := ⟨.hbm, 101, rfl⟩
abbrev main_v36_3 : Ref sig .tc := ⟨.hbm, 102, rfl⟩
abbrev main_v36_4 : Ref sig .tc := ⟨.hbm, 103, rfl⟩
abbrev main_v36_5 : Ref sig .tc := ⟨.hbm, 104, rfl⟩
abbrev main_v36_6 : Ref sig .tc := ⟨.hbm, 105, rfl⟩
abbrev main_v36_7 : Ref sig .tc := ⟨.hbm, 106, rfl⟩
abbrev main_v36_8 : Ref sig .tc := ⟨.hbm, 107, rfl⟩
abbrev main_v36_9 : Ref sig .tc := ⟨.hbm, 108, rfl⟩
abbrev main_v36_10 : Ref sig .tc := ⟨.hbm, 109, rfl⟩
abbrev main_v36_11 : Ref sig .tc := ⟨.hbm, 110, rfl⟩
abbrev main_v36_12 : Ref sig .tc := ⟨.hbm, 111, rfl⟩
abbrev main_while0c_c_31 : Ref sig .tc := ⟨.hbm, 112, rfl⟩
abbrev main_while0c_v76 : Ref sig .tc := ⟨.hbm, 113, rfl⟩
abbrev main_while0b_call2_c : Ref sig .tc := ⟨.hbm, 114, rfl⟩
abbrev main_while0b_call2_c_0 : Ref sig .tc := ⟨.hbm, 115, rfl⟩
abbrev main_while0b_call2_c_1 : Ref sig .tc := ⟨.hbm, 116, rfl⟩
abbrev main_while0b_call2_c_2 : Ref sig .tc := ⟨.hbm, 117, rfl⟩
abbrev main_while0b_call2_v0 : Ref sig .tc := ⟨.hbm, 118, rfl⟩
abbrev main_while0b_v76 : Ref sig .tc := ⟨.hbm, 119, rfl⟩
abbrev main_while0b_call3_c : Ref sig .tc := ⟨.hbm, 120, rfl⟩
abbrev main_while0b_call3_c_0 : Ref sig .tc := ⟨.hbm, 121, rfl⟩
abbrev main_while0b_call3_c_1 : Ref sig .tc := ⟨.hbm, 122, rfl⟩
abbrev main_while0b_call3_c_2 : Ref sig .tc := ⟨.hbm, 123, rfl⟩
abbrev main_while0b_call3_v0 : Ref sig .tc := ⟨.hbm, 124, rfl⟩
abbrev main_while0b_v77 : Ref sig .tc := ⟨.hbm, 125, rfl⟩
abbrev main_while0b_call4_c : Ref sig .tc := ⟨.hbm, 126, rfl⟩
abbrev main_while0b_call4_c_0 : Ref sig .tc := ⟨.hbm, 127, rfl⟩
abbrev main_while0b_call4_c_1 : Ref sig .tc := ⟨.hbm, 128, rfl⟩
abbrev main_while0b_call4_c_2 : Ref sig .tc := ⟨.hbm, 129, rfl⟩
abbrev main_while0b_call4_v0 : Ref sig .tc := ⟨.hbm, 130, rfl⟩
abbrev main_while0b_v78 : Ref sig .tc := ⟨.hbm, 131, rfl⟩
abbrev main_while0b_call5_c : Ref sig .tc := ⟨.hbm, 132, rfl⟩
abbrev main_while0b_call5_c_0 : Ref sig .tc := ⟨.hbm, 133, rfl⟩
abbrev main_while0b_call5_c_1 : Ref sig .tc := ⟨.hbm, 134, rfl⟩
abbrev main_while0b_call5_c_2 : Ref sig .tc := ⟨.hbm, 135, rfl⟩
abbrev main_while0b_call5_v0 : Ref sig .tc := ⟨.hbm, 136, rfl⟩
abbrev main_while0b_v79 : Ref sig .tc := ⟨.hbm, 137, rfl⟩
abbrev main_while0b_call6_call0_cst : Ref sig .tc := ⟨.hbm, 138, rfl⟩
abbrev main_while0b_call6_call0_v0 : Ref sig .tc := ⟨.hbm, 139, rfl⟩
abbrev main_while0b_v80 : Ref sig .tc := ⟨.hbm, 140, rfl⟩
abbrev main_while0b_v81 : Ref sig .tc := ⟨.hbm, 141, rfl⟩
abbrev main_while0b_v82 : Ref sig .tc := ⟨.hbm, 142, rfl⟩
abbrev main_while0b_v83 : Ref sig .tc := ⟨.hbm, 143, rfl⟩
abbrev main_while0b_v84 : Ref sig .tc := ⟨.hbm, 144, rfl⟩
abbrev main_while0b_v85 : Ref sig .tc := ⟨.hbm, 145, rfl⟩
abbrev main_while0b_v86 : Ref sig .tc := ⟨.hbm, 146, rfl⟩
abbrev main_while0b_v87 : Ref sig .tc := ⟨.hbm, 147, rfl⟩
abbrev main_while0b_v88 : Ref sig .tc := ⟨.hbm, 148, rfl⟩
abbrev main_while0b_v89 : Ref sig .tc := ⟨.hbm, 149, rfl⟩
abbrev main_while0b_v90 : Ref sig .tc := ⟨.hbm, 150, rfl⟩
abbrev main_while0b_v91 : Ref sig .tc := ⟨.hbm, 151, rfl⟩
abbrev main_while0b_v92 : Ref sig .tc := ⟨.hbm, 152, rfl⟩
abbrev main_while0b_v93 : Ref sig .tc := ⟨.hbm, 153, rfl⟩
abbrev main_while0b_call7_v0 : Ref sig .tc := ⟨.hbm, 154, rfl⟩
abbrev main_while0b_call7_c : Ref sig .tc := ⟨.hbm, 155, rfl⟩
abbrev main_while0b_call7_c_0 : Ref sig .tc := ⟨.hbm, 156, rfl⟩
abbrev main_while0b_call7_c_1 : Ref sig .tc := ⟨.hbm, 157, rfl⟩
abbrev main_while0b_call7_c_2 : Ref sig .tc := ⟨.hbm, 158, rfl⟩
abbrev main_while0b_v94 : Ref sig .tc := ⟨.hbm, 159, rfl⟩
abbrev main_while0b_call8_v0 : Ref sig .tc := ⟨.hbm, 160, rfl⟩
abbrev main_while0b_call8_c : Ref sig .tc := ⟨.hbm, 161, rfl⟩
abbrev main_while0b_call8_c_0 : Ref sig .tc := ⟨.hbm, 162, rfl⟩
abbrev main_while0b_call8_c_1 : Ref sig .tc := ⟨.hbm, 163, rfl⟩
abbrev main_while0b_call8_c_2 : Ref sig .tc := ⟨.hbm, 164, rfl⟩
abbrev main_while0b_v95 : Ref sig .tc := ⟨.hbm, 165, rfl⟩
abbrev main_while0b_call9_v0 : Ref sig .tc := ⟨.hbm, 166, rfl⟩
abbrev main_while0b_call9_c : Ref sig .tc := ⟨.hbm, 167, rfl⟩
abbrev main_while0b_call9_c_0 : Ref sig .tc := ⟨.hbm, 168, rfl⟩
abbrev main_while0b_call9_c_1 : Ref sig .tc := ⟨.hbm, 169, rfl⟩
abbrev main_while0b_v96 : Ref sig .tc := ⟨.hbm, 170, rfl⟩
abbrev main_while0b_call10_v0 : Ref sig .tc := ⟨.hbm, 171, rfl⟩
abbrev main_while0b_call10_c : Ref sig .tc := ⟨.hbm, 172, rfl⟩
abbrev main_while0b_call10_c_0 : Ref sig .tc := ⟨.hbm, 173, rfl⟩
abbrev main_while0b_call10_c_1 : Ref sig .tc := ⟨.hbm, 174, rfl⟩
abbrev main_while0b_call10_c_2 : Ref sig .tc := ⟨.hbm, 175, rfl⟩
abbrev main_while0b_v97 : Ref sig .tc := ⟨.hbm, 176, rfl⟩
abbrev main_while0b_call11_v0 : Ref sig .tc := ⟨.hbm, 177, rfl⟩
abbrev main_while0b_call11_c : Ref sig .tc := ⟨.hbm, 178, rfl⟩
abbrev main_while0b_call11_c_0 : Ref sig .tc := ⟨.hbm, 179, rfl⟩
abbrev main_while0b_call11_c_1 : Ref sig .tc := ⟨.hbm, 180, rfl⟩
abbrev main_while0b_call11_c_2 : Ref sig .tc := ⟨.hbm, 181, rfl⟩
abbrev main_while0b_v98 : Ref sig .tc := ⟨.hbm, 182, rfl⟩
abbrev main_while0b_call12_v0 : Ref sig .tc := ⟨.hbm, 183, rfl⟩
abbrev main_while0b_call12_c : Ref sig .tc := ⟨.hbm, 184, rfl⟩
abbrev main_while0b_call12_c_0 : Ref sig .tc := ⟨.hbm, 185, rfl⟩
abbrev main_while0b_call12_c_1 : Ref sig .tc := ⟨.hbm, 186, rfl⟩
abbrev main_while0b_call12_c_2 : Ref sig .tc := ⟨.hbm, 187, rfl⟩
abbrev main_while0b_v99 : Ref sig .tc := ⟨.hbm, 188, rfl⟩
abbrev main_while0b_call13_v0 : Ref sig .tc := ⟨.hbm, 189, rfl⟩
abbrev main_while0b_call13_c : Ref sig .tc := ⟨.hbm, 190, rfl⟩
abbrev main_while0b_call13_c_0 : Ref sig .tc := ⟨.hbm, 191, rfl⟩
abbrev main_while0b_call13_c_1 : Ref sig .tc := ⟨.hbm, 192, rfl⟩
abbrev main_while0b_call13_c_2 : Ref sig .tc := ⟨.hbm, 193, rfl⟩
abbrev main_while0b_v100 : Ref sig .tc := ⟨.hbm, 194, rfl⟩
abbrev main_while0b_c_31 : Ref sig .tc := ⟨.hbm, 195, rfl⟩
abbrev main_while0b_v101 : Ref sig .tc := ⟨.hbm, 196, rfl⟩
abbrev main_v37 : Ref sig .tc := ⟨.hbm, 197, rfl⟩
abbrev main_v38 : Ref sig .tc := ⟨.hbm, 198, rfl⟩
abbrev main_cst_9 : Ref sig .tc := ⟨.hbm, 199, rfl⟩
abbrev main_v39 : Ref sig .tc := ⟨.hbm, 200, rfl⟩
abbrev main_v40 : Ref sig .tc := ⟨.hbm, 201, rfl⟩
abbrev main_v41 : Ref sig .tc := ⟨.hbm, 202, rfl⟩
abbrev main_cst_10 : Ref sig .tc := ⟨.hbm, 203, rfl⟩
abbrev main_v42 : Ref sig .tc := ⟨.hbm, 204, rfl⟩
abbrev main_cst_11 : Ref sig .tc := ⟨.hbm, 205, rfl⟩
abbrev main_v43 : Ref sig .tc := ⟨.hbm, 206, rfl⟩
abbrev main_cst_12 : Ref sig .tc := ⟨.hbm, 207, rfl⟩
abbrev main_v44 : Ref sig .tc := ⟨.hbm, 208, rfl⟩
abbrev main_cst_13 : Ref sig .tc := ⟨.hbm, 209, rfl⟩
abbrev main_v45 : Ref sig .tc := ⟨.hbm, 210, rfl⟩
abbrev main_cst_14 : Ref sig .tc := ⟨.hbm, 211, rfl⟩
abbrev main_v46 : Ref sig .tc := ⟨.hbm, 212, rfl⟩
abbrev main_c_15 : Ref sig .tc := ⟨.hbm, 213, rfl⟩
abbrev main_v47_0 : Ref sig .tc := ⟨.hbm, 214, rfl⟩
abbrev main_v47_1 : Ref sig .tc := ⟨.hbm, 215, rfl⟩
abbrev main_v47_2 : Ref sig .tc := ⟨.hbm, 216, rfl⟩
abbrev main_v47_3 : Ref sig .tc := ⟨.hbm, 217, rfl⟩
abbrev main_v47_4 : Ref sig .tc := ⟨.hbm, 218, rfl⟩
abbrev main_v47_5 : Ref sig .tc := ⟨.hbm, 219, rfl⟩
abbrev main_v47_6 : Ref sig .tc := ⟨.hbm, 220, rfl⟩
abbrev main_v47_7 : Ref sig .tc := ⟨.hbm, 221, rfl⟩
abbrev main_v47_8 : Ref sig .tc := ⟨.hbm, 222, rfl⟩
abbrev main_v47_9 : Ref sig .tc := ⟨.hbm, 223, rfl⟩
abbrev main_v47_10 : Ref sig .tc := ⟨.hbm, 224, rfl⟩
abbrev main_v47_11 : Ref sig .tc := ⟨.hbm, 225, rfl⟩
abbrev main_v47_12 : Ref sig .tc := ⟨.hbm, 226, rfl⟩
abbrev main_v47_13 : Ref sig .tc := ⟨.hbm, 227, rfl⟩
abbrev main_v47_14 : Ref sig .tc := ⟨.hbm, 228, rfl⟩
abbrev main_v47_15 : Ref sig .tc := ⟨.hbm, 229, rfl⟩
abbrev main_while1c_c_34 : Ref sig .tc := ⟨.hbm, 230, rfl⟩
abbrev main_while1c_v76 : Ref sig .tc := ⟨.hbm, 231, rfl⟩
abbrev main_while1b_c_34 : Ref sig .tc := ⟨.hbm, 232, rfl⟩
abbrev main_while1b_v76 : Ref sig .tc := ⟨.hbm, 233, rfl⟩
abbrev main_while1b_c_35 : Ref sig .tc := ⟨.hbm, 234, rfl⟩
abbrev main_while1b_v77 : Ref sig .tc := ⟨.hbm, 235, rfl⟩
abbrev main_while1b_call14_c : Ref sig .tc := ⟨.hbm, 236, rfl⟩
abbrev main_while1b_call14_c_0 : Ref sig .tc := ⟨.hbm, 237, rfl⟩
abbrev main_while1b_call14_c_1 : Ref sig .tc := ⟨.hbm, 238, rfl⟩
abbrev main_while1b_call14_c_2 : Ref sig .tc := ⟨.hbm, 239, rfl⟩
abbrev main_while1b_call14_v0 : Ref sig .tc := ⟨.hbm, 240, rfl⟩
abbrev main_while1b_v78 : Ref sig .tc := ⟨.hbm, 241, rfl⟩
abbrev main_while1b_call15_c : Ref sig .tc := ⟨.hbm, 242, rfl⟩
abbrev main_while1b_call15_c_0 : Ref sig .tc := ⟨.hbm, 243, rfl⟩
abbrev main_while1b_call15_c_1 : Ref sig .tc := ⟨.hbm, 244, rfl⟩
abbrev main_while1b_call15_c_2 : Ref sig .tc := ⟨.hbm, 245, rfl⟩
abbrev main_while1b_call15_v0 : Ref sig .tc := ⟨.hbm, 246, rfl⟩
abbrev main_while1b_v79 : Ref sig .tc := ⟨.hbm, 247, rfl⟩
abbrev main_while1b_call16_c : Ref sig .tc := ⟨.hbm, 248, rfl⟩
abbrev main_while1b_call16_c_0 : Ref sig .tc := ⟨.hbm, 249, rfl⟩
abbrev main_while1b_call16_c_1 : Ref sig .tc := ⟨.hbm, 250, rfl⟩
abbrev main_while1b_call16_c_2 : Ref sig .tc := ⟨.hbm, 251, rfl⟩
abbrev main_while1b_call16_v0 : Ref sig .tc := ⟨.hbm, 252, rfl⟩
abbrev main_while1b_v80 : Ref sig .tc := ⟨.hbm, 253, rfl⟩
abbrev main_while1b_call17_c : Ref sig .tc := ⟨.hbm, 254, rfl⟩
abbrev main_while1b_call17_c_0 : Ref sig .tc := ⟨.hbm, 255, rfl⟩
abbrev main_while1b_call17_c_1 : Ref sig .tc := ⟨.hbm, 256, rfl⟩
abbrev main_while1b_call17_v0 : Ref sig .tc := ⟨.hbm, 257, rfl⟩
abbrev main_while1b_v81 : Ref sig .tc := ⟨.hbm, 258, rfl⟩
abbrev main_while1b_call18_c : Ref sig .tc := ⟨.hbm, 259, rfl⟩
abbrev main_while1b_call18_c_0 : Ref sig .tc := ⟨.hbm, 260, rfl⟩
abbrev main_while1b_call18_c_1 : Ref sig .tc := ⟨.hbm, 261, rfl⟩
abbrev main_while1b_call18_c_2 : Ref sig .tc := ⟨.hbm, 262, rfl⟩
abbrev main_while1b_call18_v0 : Ref sig .tc := ⟨.hbm, 263, rfl⟩
abbrev main_while1b_v82 : Ref sig .tc := ⟨.hbm, 264, rfl⟩
abbrev main_while1b_call19_c : Ref sig .tc := ⟨.hbm, 265, rfl⟩
abbrev main_while1b_call19_c_0 : Ref sig .tc := ⟨.hbm, 266, rfl⟩
abbrev main_while1b_call19_c_1 : Ref sig .tc := ⟨.hbm, 267, rfl⟩
abbrev main_while1b_call19_c_2 : Ref sig .tc := ⟨.hbm, 268, rfl⟩
abbrev main_while1b_call19_v0 : Ref sig .tc := ⟨.hbm, 269, rfl⟩
abbrev main_while1b_v83 : Ref sig .tc := ⟨.hbm, 270, rfl⟩
abbrev main_while1b_call20_c : Ref sig .tc := ⟨.hbm, 271, rfl⟩
abbrev main_while1b_call20_c_0 : Ref sig .tc := ⟨.hbm, 272, rfl⟩
abbrev main_while1b_call20_c_1 : Ref sig .tc := ⟨.hbm, 273, rfl⟩
abbrev main_while1b_call20_c_2 : Ref sig .tc := ⟨.hbm, 274, rfl⟩
abbrev main_while1b_call20_v0 : Ref sig .tc := ⟨.hbm, 275, rfl⟩
abbrev main_while1b_v84 : Ref sig .tc := ⟨.hbm, 276, rfl⟩
abbrev main_while1b_call21_c : Ref sig .tc := ⟨.hbm, 277, rfl⟩
abbrev main_while1b_call21_c_0 : Ref sig .tc := ⟨.hbm, 278, rfl⟩
abbrev main_while1b_call21_c_1 : Ref sig .tc := ⟨.hbm, 279, rfl⟩
abbrev main_while1b_call21_c_2 : Ref sig .tc := ⟨.hbm, 280, rfl⟩
abbrev main_while1b_call21_v0 : Ref sig .tc := ⟨.hbm, 281, rfl⟩
abbrev main_while1b_v85 : Ref sig .tc := ⟨.hbm, 282, rfl⟩
abbrev main_while1b_call22_c : Ref sig .tc := ⟨.hbm, 283, rfl⟩
abbrev main_while1b_call22_c_0 : Ref sig .tc := ⟨.hbm, 284, rfl⟩
abbrev main_while1b_call22_c_1 : Ref sig .tc := ⟨.hbm, 285, rfl⟩
abbrev main_while1b_call22_c_2 : Ref sig .tc := ⟨.hbm, 286, rfl⟩
abbrev main_while1b_call22_v0 : Ref sig .tc := ⟨.hbm, 287, rfl⟩
abbrev main_while1b_v86 : Ref sig .tc := ⟨.hbm, 288, rfl⟩
abbrev main_while1b_call23_c : Ref sig .tc := ⟨.hbm, 289, rfl⟩
abbrev main_while1b_call23_c_0 : Ref sig .tc := ⟨.hbm, 290, rfl⟩
abbrev main_while1b_call23_c_1 : Ref sig .tc := ⟨.hbm, 291, rfl⟩
abbrev main_while1b_call23_c_2 : Ref sig .tc := ⟨.hbm, 292, rfl⟩
abbrev main_while1b_call23_v0 : Ref sig .tc := ⟨.hbm, 293, rfl⟩
abbrev main_while1b_v87 : Ref sig .tc := ⟨.hbm, 294, rfl⟩
abbrev main_while1b_v88 : Ref sig .tc := ⟨.hbm, 295, rfl⟩
abbrev main_while1b_v89 : Ref sig .tc := ⟨.hbm, 296, rfl⟩
abbrev main_while1b_v90 : Ref sig .tc := ⟨.hbm, 297, rfl⟩
abbrev main_while1b_v91 : Ref sig .tc := ⟨.hbm, 298, rfl⟩
abbrev main_while1b_v92 : Ref sig .tc := ⟨.hbm, 299, rfl⟩
abbrev main_while1b_v93 : Ref sig .tc := ⟨.hbm, 300, rfl⟩
abbrev main_while1b_v94 : Ref sig .tc := ⟨.hbm, 301, rfl⟩
abbrev main_while1b_v95 : Ref sig .tc := ⟨.hbm, 302, rfl⟩
abbrev main_while1b_v96 : Ref sig .tc := ⟨.hbm, 303, rfl⟩
abbrev main_while1b_v97 : Ref sig .tc := ⟨.hbm, 304, rfl⟩
abbrev main_while1b_v98 : Ref sig .tc := ⟨.hbm, 305, rfl⟩
abbrev main_while1b_cst_36 : Ref sig .tc := ⟨.hbm, 306, rfl⟩
abbrev main_while1b_v99 : Ref sig .tc := ⟨.hbm, 307, rfl⟩
abbrev main_while1b_v100 : Ref sig .tc := ⟨.hbm, 308, rfl⟩
abbrev main_while1b_cst_37 : Ref sig .tc := ⟨.hbm, 309, rfl⟩
abbrev main_while1b_v101 : Ref sig .tc := ⟨.hbm, 310, rfl⟩
abbrev main_while1b_v102 : Ref sig .tc := ⟨.hbm, 311, rfl⟩
abbrev main_while1b_v103 : Ref sig .tc := ⟨.hbm, 312, rfl⟩
abbrev main_while1b_v104 : Ref sig .tc := ⟨.hbm, 313, rfl⟩
abbrev main_while1b_v105 : Ref sig .tc := ⟨.hbm, 314, rfl⟩
abbrev main_while1b_v106 : Ref sig .tc := ⟨.hbm, 315, rfl⟩
abbrev main_while1b_v107 : Ref sig .tc := ⟨.hbm, 316, rfl⟩
abbrev main_while1b_cst_38 : Ref sig .tc := ⟨.hbm, 317, rfl⟩
abbrev main_while1b_v108 : Ref sig .tc := ⟨.hbm, 318, rfl⟩
abbrev main_while1b_v109 : Ref sig .tc := ⟨.hbm, 319, rfl⟩
abbrev main_while1b_v110 : Ref sig .tc := ⟨.hbm, 320, rfl⟩
abbrev main_while1b_v111 : Ref sig .tc := ⟨.hbm, 321, rfl⟩
abbrev main_while1b_cst_39 : Ref sig .tc := ⟨.hbm, 322, rfl⟩
abbrev main_while1b_v112 : Ref sig .tc := ⟨.hbm, 323, rfl⟩
abbrev main_while1b_v113 : Ref sig .tc := ⟨.hbm, 324, rfl⟩
abbrev main_while1b_call24_call0_cst : Ref sig .tc := ⟨.hbm, 325, rfl⟩
abbrev main_while1b_call24_call0_v0 : Ref sig .tc := ⟨.hbm, 326, rfl⟩
abbrev main_while1b_v114 : Ref sig .tc := ⟨.hbm, 327, rfl⟩
abbrev main_while1b_call25_v0 : Ref sig .tc := ⟨.hbm, 328, rfl⟩
abbrev main_while1b_call25_c : Ref sig .tc := ⟨.hbm, 329, rfl⟩
abbrev main_while1b_call25_c_0 : Ref sig .tc := ⟨.hbm, 330, rfl⟩
abbrev main_while1b_call25_c_1 : Ref sig .tc := ⟨.hbm, 331, rfl⟩
abbrev main_while1b_call25_c_2 : Ref sig .tc := ⟨.hbm, 332, rfl⟩
abbrev main_while1b_v115 : Ref sig .tc := ⟨.hbm, 333, rfl⟩
abbrev main_while1b_call26_v0 : Ref sig .tc := ⟨.hbm, 334, rfl⟩
abbrev main_while1b_call26_c : Ref sig .tc := ⟨.hbm, 335, rfl⟩
abbrev main_while1b_call26_c_0 : Ref sig .tc := ⟨.hbm, 336, rfl⟩
abbrev main_while1b_call26_c_1 : Ref sig .tc := ⟨.hbm, 337, rfl⟩
abbrev main_while1b_call26_c_2 : Ref sig .tc := ⟨.hbm, 338, rfl⟩
abbrev main_while1b_v116 : Ref sig .tc := ⟨.hbm, 339, rfl⟩
abbrev main_while1b_call27_v0 : Ref sig .tc := ⟨.hbm, 340, rfl⟩
abbrev main_while1b_call27_c : Ref sig .tc := ⟨.hbm, 341, rfl⟩
abbrev main_while1b_call27_c_0 : Ref sig .tc := ⟨.hbm, 342, rfl⟩
abbrev main_while1b_call27_c_1 : Ref sig .tc := ⟨.hbm, 343, rfl⟩
abbrev main_while1b_call27_c_2 : Ref sig .tc := ⟨.hbm, 344, rfl⟩
abbrev main_while1b_v117 : Ref sig .tc := ⟨.hbm, 345, rfl⟩
abbrev main_while1b_call28_v0 : Ref sig .tc := ⟨.hbm, 346, rfl⟩
abbrev main_while1b_call28_c : Ref sig .tc := ⟨.hbm, 347, rfl⟩
abbrev main_while1b_call28_c_0 : Ref sig .tc := ⟨.hbm, 348, rfl⟩
abbrev main_while1b_call28_c_1 : Ref sig .tc := ⟨.hbm, 349, rfl⟩
abbrev main_while1b_call28_c_2 : Ref sig .tc := ⟨.hbm, 350, rfl⟩
abbrev main_while1b_v118 : Ref sig .tc := ⟨.hbm, 351, rfl⟩
abbrev main_while1b_c_40 : Ref sig .tc := ⟨.hbm, 352, rfl⟩
abbrev main_while1b_v119 : Ref sig .tc := ⟨.hbm, 353, rfl⟩
abbrev main_v48 : Ref sig .tc := ⟨.hbm, 354, rfl⟩
abbrev main_v49 : Ref sig .tc := ⟨.hbm, 355, rfl⟩
abbrev main_v50 : Ref sig .tc := ⟨.hbm, 356, rfl⟩
abbrev main_v51 : Ref sig .tc := ⟨.hbm, 357, rfl⟩
abbrev main_v52 : Ref sig .tc := ⟨.hbm, 358, rfl⟩
abbrev main_v53 : Ref sig .tc := ⟨.hbm, 359, rfl⟩
abbrev main_v54 : Ref sig .tc := ⟨.hbm, 360, rfl⟩
abbrev main_v55 : Ref sig .tc := ⟨.hbm, 361, rfl⟩
abbrev main_v56 : Ref sig .tc := ⟨.hbm, 362, rfl⟩
abbrev main_v57 : Ref sig .tc := ⟨.hbm, 363, rfl⟩
abbrev main_v58 : Ref sig .tc := ⟨.hbm, 364, rfl⟩
abbrev main_v59 : Ref sig .tc := ⟨.hbm, 365, rfl⟩
abbrev main_v60 : Ref sig .tc := ⟨.hbm, 366, rfl⟩
abbrev main_cst_16 : Ref sig .tc := ⟨.hbm, 367, rfl⟩
abbrev main_v61 : Ref sig .tc := ⟨.hbm, 368, rfl⟩
abbrev main_v62 : Ref sig .tc := ⟨.hbm, 369, rfl⟩
abbrev main_v63 : Ref sig .tc := ⟨.hbm, 370, rfl⟩
abbrev main_v64 : Ref sig .tc := ⟨.hbm, 371, rfl⟩
abbrev main_cst_17 : Ref sig .tc := ⟨.hbm, 372, rfl⟩
abbrev main_v65 : Ref sig .tc := ⟨.hbm, 373, rfl⟩
abbrev main_v66 : Ref sig .tc := ⟨.hbm, 374, rfl⟩
abbrev main_call29_v0 : Ref sig .tc := ⟨.hbm, 375, rfl⟩
abbrev main_call29_v1 : Ref sig .tc := ⟨.hbm, 376, rfl⟩
abbrev main_v67 : Ref sig .tc := ⟨.hbm, 377, rfl⟩
abbrev main_cst_18 : Ref sig .tc := ⟨.hbm, 378, rfl⟩
abbrev main_v68 : Ref sig .tc := ⟨.hbm, 379, rfl⟩
abbrev main_v69 : Ref sig .tc := ⟨.hbm, 380, rfl⟩
abbrev main_v70 : Ref sig .tc := ⟨.hbm, 381, rfl⟩
abbrev main_v71 : Ref sig .tc := ⟨.hbm, 382, rfl⟩
abbrev main_v72 : Ref sig .tc := ⟨.hbm, 383, rfl⟩
abbrev main_v73 : Ref sig .tc := ⟨.hbm, 384, rfl⟩
abbrev main_v74 : Ref sig .tc := ⟨.hbm, 385, rfl⟩
abbrev main_v75 : Ref sig .tc := ⟨.hbm, 386, rfl⟩

abbrev nD : Nat := 1
abbrev τ : Topo := Topo.v7x

variable {F : FTy → Type} [FloatOps F]

abbrev main_while0_count : Scf.Loop 32 := ⟨0#32, 64#32, 1#32⟩

abbrev main_while1_count : Scf.Loop 32 := ⟨0#32, 64#32, 1#32⟩
-- ==== InDw.lean ====
abbrev S4096x2048 : Shape := ⟨2, ![4096, 2048]⟩
abbrev S4096x10368 : Shape := ⟨2, ![4096, 10368]⟩
abbrev S2048x10368 : Shape := ⟨2, ![2048, 10368]⟩
abbrev S4096x512 : Shape := ⟨2, ![4096, 512]⟩
abbrev S4096x1152 : Shape := ⟨2, ![4096, 1152]⟩
abbrev S512x1152 : Shape := ⟨2, ![512, 1152]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x10368, .bf16⟩
  | .hbm, ⟨2, _⟩ => ⟨S2048x10368, .bf16⟩
  | .local _ .vmem, ⟨0, _⟩ => ⟨S4096x512, .bf16⟩
  | .local _ .vmem, ⟨1, _⟩ => ⟨S4096x512, .bf16⟩
  | .local _ .vmem, ⟨2, _⟩ => ⟨S4096x1152, .bf16⟩
  | .local _ .vmem, ⟨3, _⟩ => ⟨S4096x1152, .bf16⟩
  | .local _ .vmem, ⟨4, _⟩ => ⟨S512x1152, .bf16⟩
  | .local _ .vmem, ⟨5, _⟩ => ⟨S512x1152, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![9, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  ![arg2.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefInDwIdeal.lean ====
abbrev S4096x2048 : Shape := ⟨2, ![4096, 2048]⟩
abbrev S4096x10368 : Shape := ⟨2, ![4096, 10368]⟩
abbrev S_ : Shape := ⟨0, ![]⟩
abbrev S2048x10368 : Shape := ⟨2, ![2048, 10368]⟩
abbrev S10368x2048 : Shape := ⟨2, ![10368, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x10368, .bf16⟩
  | .hbm, ⟨2, _⟩ => ⟨S_, .f32⟩
  | .hbm, ⟨3, _⟩ => ⟨S2048x10368, .f32⟩
  | .hbm, ⟨4, _⟩ => ⟨S4096x10368, .f32⟩
  | .hbm, ⟨5, _⟩ => ⟨S4096x2048, .f32⟩
  | .hbm, ⟨6, _⟩ => ⟨S4096x10368, .f32⟩
  | .hbm, ⟨7, _⟩ => ⟨S10368x2048, .f32⟩
  | .hbm, ⟨8, _⟩ => ⟨S2048x10368, .f32⟩
  | .hbm, ⟨9, _⟩ => ⟨S2048x10368, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InDx.lean ====
abbrev S4096x10368 : Shape := ⟨2, ![4096, 10368]⟩
abbrev S2048x10368 : Shape := ⟨2, ![2048, 10368]⟩
abbrev S4096x2048 : Shape := ⟨2, ![4096, 2048]⟩
abbrev S1024x1152 : Shape := ⟨2, ![1024, 1152]⟩
abbrev S2048x1152 : Shape := ⟨2, ![2048, 1152]⟩
abbrev S1024x2048 : Shape := ⟨2, ![1024, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4096x10368, .bf16⟩
  | .hbm, ⟨1, _⟩ => ⟨S2048x10368, .bf16⟩
  | .hbm, ⟨2, _⟩ => ⟨S4096x2048, .f32⟩
  | .local _ .vmem, ⟨0, _⟩ => ⟨S1024x1152, .bf16⟩
  | .local _ .vmem, ⟨1, _⟩ => ⟨S1024x1152, .bf16⟩
  | .local _ .vmem, ⟨2, _⟩ => ⟨S2048x1152, .bf16⟩
  | .local _ .vmem, ⟨3, _⟩ => ⟨S2048x1152, .bf16⟩
  | .local _ .vmem, ⟨4, _⟩ => ⟨S1024x2048, .f32⟩
  | .local _ .vmem, ⟨5, _⟩ => ⟨S1024x2048, .f32⟩
  | _, _ => ⟨S4096x10368, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 9], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  ![arg1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefInDxIdeal.lean ====
abbrev S4096x10368 : Shape := ⟨2, ![4096, 10368]⟩
abbrev S2048x10368 : Shape := ⟨2, ![2048, 10368]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x10368, .bf16⟩
  | .hbm, ⟨1, _⟩ => ⟨S2048x10368, .bf16⟩
  | .hbm, ⟨2, _⟩ => ⟨S_, .f32⟩
  | .hbm, ⟨3, _⟩ => ⟨S4096x2048, .f32⟩
  | .hbm, ⟨4, _⟩ => ⟨S4096x10368, .f32⟩
  | .hbm, ⟨5, _⟩ => ⟨S2048x10368, .f32⟩
  | .hbm, ⟨6, _⟩ => ⟨S4096x10368, .f32⟩
  | .hbm, ⟨7, _⟩ => ⟨S4096x2048, .f32⟩
  | _, _ => ⟨S4096x10368, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== UpDw.lean ====
abbrev S4096x2048 : Shape := ⟨2, ![4096, 2048]⟩
abbrev S4096x5632 : Shape := ⟨2, ![4096, 5632]⟩
abbrev S4x2048x2816 : Shape := ⟨3, ![4, 2048, 2816]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 4
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S4096x5632, .bf16⟩
  | .hbm, ⟨3, _⟩ => ⟨S4x2048x2816, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S2048x1408, .bf16⟩
  | .local _ .vmem, ⟨5, _⟩ => ⟨S2048x1408, .bf16⟩
  | .local _ .vmem, ⟨6, _⟩ => ⟨S1x1024x1408, .bf16⟩
  | .local _ .vmem, ⟨7, _⟩ => ⟨S1x1024x1408, .bf16⟩
  | .local _ .vmem, ⟨8, _⟩ => ⟨S1024x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 2], ![false, false, false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c4_i32 : BitVec 32 := 4#32
  let v1 : BitVec 1 := Scalar.cmpi .slt arg0 c4_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond4 (i : grid0.Coords) : BitVec 1 :=
  let arg2 : BitVec 32 := BitVec.ofNat 32 (i 2).val
  let c1_i32 : BitVec 32 := 1#32
  let v19 : BitVec 1 := Scalar.cmpi .eq arg2 c1_i32
  let v20 : BitVec 32 := Scalar.extui v19
  let c0_i32_10 : BitVec 32 := 0#32
  let v21 : BitVec 1 := Scalar.cmpi .ne v20 c0_i32_10
  v21

def k0_cond5 (i : grid0.Coords) : BitVec 1 :=
  let arg0 : BitVec 32 := BitVec.ofNat 32 (i 0).val
  let c4_i32_1 : BitVec 32 := 4#32
  let v5 : BitVec 1 := Scalar.cmpi .sge arg0 c4_i32_1
  let c8_i32 : BitVec 32 := 8#32
  let v6 : BitVec 1 := Scalar.cmpi .slt arg0 c8_i32
  let v7 : BitVec 1 := Scalar.andi v5 v6
  let v8 : BitVec 32 := Scalar.extui v7
  let c0_i32_2 : BitVec 32 := 0#32
  let v9 : BitVec 1 := Scalar.cmpi .ne v8 c0_i32_2
  v9

def k0_cond8 (i : grid0.Coords) : BitVec 1 :=
  let arg2 : BitVec 32 := BitVec.ofNat 32 (i 2).val
  let c1_i32 : BitVec 32 := 1#32
  let v19 : BitVec 1 := Scalar.cmpi .eq arg2 c1_i32
  let v20 : BitVec 32 := Scalar.extui v19
  let c0_i32_10 : BitVec 32 := 0#32
  let v21 : BitVec 1 := Scalar.cmpi .ne v20 c0_i32_10
  v21

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg0 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![arg2.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg0 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg2.toNat, v2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RefUpDwIdeal.lean ====
abbrev S4096x2048 : Shape := ⟨2, ![4096, 2048]⟩
abbrev S4096x5632 : Shape := ⟨2, ![4096, 5632]⟩
abbrev S_ : Shape := ⟨0, ![]⟩
abbrev S4x2048x2816 : Shape := ⟨3, ![4, 2048, 2816]⟩
abbrev S2048x4x2816 : Shape := ⟨3, ![2048, 4, 2816]⟩
abbrev S2048x11264 : Shape := ⟨2, ![2048, 11264]⟩
abbrev S4096x11264 : Shape := ⟨2, ![4096, 11264]⟩
abbrev S11264x2048 : Shape := ⟨2, ![11264, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S4096x5632, .bf16⟩
  | .hbm, ⟨3, _⟩ => ⟨S_, .f32⟩
  | .hbm, ⟨4, _⟩ => ⟨S4x2048x2816, .f32⟩
  | .hbm, ⟨5, _⟩ => ⟨S4096x5632, .f32⟩
  | .hbm, ⟨6, _⟩ => ⟨S4096x5632, .f32⟩
  | .hbm, ⟨7, _⟩ => ⟨S2048x4x2816, .f32⟩
  | .hbm, ⟨8, _⟩ => ⟨S2048x11264, .f32⟩
  | .hbm, ⟨9, _⟩ => ⟨S4096x2048, .f32⟩
  | .hbm, ⟨10, _⟩ => ⟨S4096x11264, .f32⟩
  | .hbm, ⟨11, _⟩ => ⟨S4096x5632, .f32⟩
  | .hbm, ⟨12, _⟩ => ⟨S4096x5632, .f32⟩
  | .hbm, ⟨13, _⟩ => ⟨S4096x11264, .f32⟩
  | .hbm, ⟨14, _⟩ => ⟨S11264x2048, .f32⟩
  | .hbm, ⟨15, _⟩ => ⟨S2048x11264, .f32⟩
  | .hbm, ⟨16, _⟩ => ⟨S2048x4x2816, .f32⟩
  | .hbm, ⟨17, _⟩ => ⟨S4x2048x2816, .f32⟩
  | .hbm, ⟨18, _⟩ => ⟨S4x2048x2816, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== UpDx.lean ====
abbrev S4096x5632 : Shape := ⟨2, ![4096, 5632]⟩
abbrev S4x2048x2816 : Shape := ⟨3, ![4, 2048, 2816]⟩
abbrev S4096x2048 : Shape := ⟨2, ![4096, 2048]⟩
abbrev S1024x1408 : Shape := ⟨2, ![1024, 1408]⟩
abbrev S1x2048x1408 : Shape := ⟨3, ![1, 2048, 1408]⟩
abbrev S1024x2048 : Shape := ⟨2, ![1024, 2048]⟩
abbrev S2048x1408 : Shape := ⟨2, ![2048, 1408]⟩

abbrev nBuf : Space → Nat
  | .hbm => 4
  | .vmem => 8
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S4x2048x2816, .bf16⟩
  | .hbm, ⟨3, _⟩ => ⟨S4096x2048, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S1024x2048, .f32⟩
  | .local _ .vmem, ⟨7, _⟩ => ⟨S1024x2048, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 4, 8], ![false, false, false]⟩

def k0_cond1 (i : grid0.Coords) : BitVec 1 :=
  let arg2 : BitVec 32 := BitVec.ofNat 32 (i 2).val
  let c0_i32 : BitVec 32 := 0#32
  let v0 : BitVec 1 := Scalar.cmpi .sge arg2 c0_i32
  let c4_i32 : BitVec 32 := 4#32
  let v1 : BitVec 1 := Scalar.cmpi .slt arg2 c4_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg2 : BitVec 32 := BitVec.ofNat 32 (i 2).val
  let c0_i32_7 : BitVec 32 := 0#32
  let v14 : BitVec 1 := Scalar.cmpi .eq arg2 c0_i32_7
  let v15 : BitVec 32 := Scalar.extui v14
  let c0_i32_8 : BitVec 32 := 0#32
  let v16 : BitVec 1 := Scalar.cmpi .ne v15 c0_i32_8
  v16

def k0_cond3 (i : grid0.Coords) : BitVec 1 :=
  let arg2 : BitVec 32 := BitVec.ofNat 32 (i 2).val
  let c0_i32_9 : BitVec 32 := 0#32
  let v17 : BitVec 1 := Scalar.cmpi .sgt arg2 c0_i32_9
  let v18 : BitVec 32 := Scalar.extui v17
  let c0_i32_10 : BitVec 32 := 0#32
  let v19 : BitVec 1 := Scalar.cmpi .ne v18 c0_i32_10
  v19

def k0_cond4 (i : grid0.Coords) : BitVec 1 :=
  let arg2 : BitVec 32 := BitVec.ofNat 32 (i 2).val
  let c4_i32_1 : BitVec 32 := 4#32
  let v5 : BitVec 1 := Scalar.cmpi .sge arg2 c4_i32_1
  let c8_i32 : BitVec 32 := 8#32
  let v6 : BitVec 1 := Scalar.cmpi .slt arg2 c8_i32
  let v7 : BitVec 1 := Scalar.andi v5 v6
  let v8 : BitVec 32 := Scalar.extui v7
  let c0_i32_2 : BitVec 32 := 0#32
  let v9 : BitVec 1 := Scalar.cmpi .ne v8 c0_i32_2
  v9

def k0_cond5 (i : grid0.Coords) : BitVec 1 :=
  let arg2 : BitVec 32 := BitVec.ofNat 32 (i 2).val
  let c0_i32_7 : BitVec 32 := 0#32
  let v14 : BitVec 1 := Scalar.cmpi .eq arg2 c0_i32_7
  let v15 : BitVec 32 := Scalar.extui v14
  let c0_i32_8 : BitVec 32 := 0#32
  let v16 : BitVec 1 := Scalar.cmpi .ne v15 c0_i32_8
  v16

def k0_cond6 (i : grid0.Coords) : BitVec 1 :=
  let arg2 : BitVec 32 := BitVec.ofNat 32 (i 2).val
  let c0_i32_9 : BitVec 32 := 0#32
  let v17 : BitVec 1 := Scalar.cmpi .sgt arg2 c0_i32_9
  let v18 : BitVec 32 := Scalar.extui v17
  let c0_i32_10 : BitVec 32 := 0#32
  let v19 : BitVec 1 := Scalar.cmpi .ne v18 c0_i32_10
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![arg1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg2 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg1.toNat, v2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RefUpDxIdeal.lean ====
abbrev S4096x5632 : Shape := ⟨2, ![4096, 5632]⟩
abbrev S4x2048x2816 : Shape := ⟨3, ![4, 2048, 2816]⟩
abbrev S_ : Shape := ⟨0, ![]⟩
abbrev S4096x2048 : Shape := ⟨2, ![4096, 2048]⟩
abbrev S2048x4x2816 : Shape := ⟨3, ![2048, 4, 2816]⟩
abbrev S2048x11264 : Shape := ⟨2, ![2048, 11264]⟩
abbrev S4096x11264 : Shape := ⟨2, ![4096, 11264]⟩

abbrev nBuf : Space → Nat
  | .hbm => 15
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S4x2048x2816, .bf16⟩
  | .hbm, ⟨3, _⟩ => ⟨S_, .f32⟩
  | .hbm, ⟨4, _⟩ => ⟨S4096x2048, .f32⟩
  | .hbm, ⟨5, _⟩ => ⟨S4096x5632, .f32⟩
  | .hbm, ⟨6, _⟩ => ⟨S4096x5632, .f32⟩
  | .hbm, ⟨7, _⟩ => ⟨S2048x4x2816, .bf16⟩
  | .hbm, ⟨8, _⟩ => ⟨S2048x11264, .bf16⟩
  | .hbm, ⟨9, _⟩ => ⟨S2048x11264, .f32⟩
  | .hbm, ⟨10, _⟩ => ⟨S4096x11264, .f32⟩
  | .hbm, ⟨11, _⟩ => ⟨S4096x5632, .f32⟩
  | .hbm, ⟨12, _⟩ => ⟨S4096x5632, .f32⟩
  | .hbm, ⟨13, _⟩ => ⟨S4096x11264, .f32⟩
  | .hbm, ⟨14, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== DnDw.lean ====
abbrev S4096x5632 : Shape := ⟨2, ![4096, 5632]⟩
abbrev S4096x2048 : Shape := ⟨2, ![4096, 2048]⟩
abbrev S5632x2048 : Shape := ⟨2, ![5632, 2048]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S5632x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg2.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDnDwIdeal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S_, .f32⟩
  | .hbm, ⟨3, _⟩ => ⟨S5632x2048, .f32⟩
  | .hbm, ⟨4, _⟩ => ⟨S4096x2048, .f32⟩
  | .hbm, ⟨5, _⟩ => ⟨S4096x5632, .f32⟩
  | .hbm, ⟨6, _⟩ => ⟨S4096x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DnDx.lean ====
abbrev S4096x2048 : Shape := ⟨2, ![4096, 2048]⟩
abbrev S5632x2048 : Shape := ⟨2, ![5632, 2048]⟩
abbrev S4096x5632 : Shape := ⟨2, ![4096, 5632]⟩
abbrev S512x2048 : Shape := ⟨2, ![512, 2048]⟩
abbrev S1408x2048 : Shape := ⟨2, ![1408, 2048]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x5632, .f32⟩
  | .local _ .vmem, ⟨0, _⟩ => ⟨S512x2048, .bf16⟩
  | .local _ .vmem, ⟨1, _⟩ => ⟨S512x2048, .bf16⟩
  | .local _ .vmem, ⟨2, _⟩ => ⟨S1408x2048, .bf16⟩
  | .local _ .vmem, ⟨3, _⟩ => ⟨S1408x2048, .bf16⟩
  | .local _ .vmem, ⟨4, _⟩ => ⟨S512x1408, .f32⟩
  | .local _ .vmem, ⟨5, _⟩ => ⟨S512x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDnDxIdeal.lean ====
abbrev S4096x2048 : Shape := ⟨2, ![4096, 2048]⟩
abbrev S5632x2048 : Shape := ⟨2, ![5632, 2048]⟩
abbrev S_ : Shape := ⟨0, ![]⟩
abbrev S4096x5632 : Shape := ⟨2, ![4096, 5632]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S_, .f32⟩
  | .hbm, ⟨3, _⟩ => ⟨S4096x5632, .f32⟩
  | .hbm, ⟨4, _⟩ => ⟨S4096x2048, .f32⟩
  | .hbm, ⟨5, _⟩ => ⟨S5632x2048, .f32⟩
  | .hbm, ⟨6, _⟩ => ⟨S4096x2048, .f32⟩
  | .hbm, ⟨7, _⟩ => ⟨S4096x5632, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== ODw.lean ====
abbrev S4096x2048 : Shape := ⟨2, ![4096, 2048]⟩
abbrev S2048x2048 : Shape := ⟨2, ![2048, 2048]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg2.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefODwIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ODx.lean ====
abbrev S4096x2048 : Shape := ⟨2, ![4096, 2048]⟩
abbrev S2048x2048 : Shape := ⟨2, ![2048, 2048]⟩
abbrev S512x2048 : Shape := ⟨2, ![512, 2048]⟩
abbrev S1024x2048 : Shape := ⟨2, ![1024, 2048]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S512x1024, .f32⟩
  | .local _ .vmem, ⟨5, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefODxIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S4096x2048, .f32⟩
  | .hbm, ⟨5, _⟩ => ⟨S2048x2048, .f32⟩
  | .hbm, ⟨6, _⟩ => ⟨S4096x2048, .f32⟩
  | .hbm, ⟨7, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OgDw.lean ====
abbrev S4096x1024 : Shape := ⟨2, ![4096, 1024]⟩
abbrev S4096x2048 : Shape := ⟨2, ![4096, 2048]⟩
abbrev S4x1024x512 : Shape := ⟨3, ![4, 1024, 512]⟩
abbrev S4096x512 : Shape := ⟨2, ![4096, 512]⟩
abbrev S1x512x512 : Shape := ⟨3, ![1, 512, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S4x1024x512, .bf16⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S1x512x512, .bf16⟩
  | .local _ .vmem, ⟨5, _⟩ => ⟨S1x512x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg0 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![arg2.toNat, v2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefOgDwIdeal.lean ====
abbrev S4096x1024 : Shape := ⟨2, ![4096, 1024]⟩
abbrev S4096x2048 : Shape := ⟨2, ![4096, 2048]⟩
abbrev S_ : Shape := ⟨0, ![]⟩
abbrev S4x1024x512 : Shape := ⟨3, ![4, 1024, 512]⟩
abbrev S1024x4x512 : Shape := ⟨3, ![1024, 4, 512]⟩
abbrev S1024x2048 : Shape := ⟨2, ![1024, 2048]⟩
abbrev S2048x1024 : Shape := ⟨2, ![2048, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S_, .f32⟩
  | .hbm, ⟨3, _⟩ => ⟨S4x1024x512, .f32⟩
  | .hbm, ⟨4, _⟩ => ⟨S4096x2048, .f32⟩
  | .hbm, ⟨5, _⟩ => ⟨S1024x4x512, .f32⟩
  | .hbm, ⟨6, _⟩ => ⟨S1024x2048, .f32⟩
  | .hbm, ⟨7, _⟩ => ⟨S4096x1024, .f32⟩
  | .hbm, ⟨8, _⟩ => ⟨S4096x2048, .f32⟩
  | .hbm, ⟨9, _⟩ => ⟨S2048x1024, .f32⟩
  | .hbm, ⟨10, _⟩ => ⟨S1024x2048, .f32⟩
  | .hbm, ⟨11, _⟩ => ⟨S1024x4x512, .f32⟩
  | .hbm, ⟨12, _⟩ => ⟨S4x1024x512, .f32⟩
  | .hbm, ⟨13, _⟩ => ⟨S4x1024x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== OgDx.lean ====
abbrev S4096x2048 : Shape := ⟨2, ![4096, 2048]⟩
abbrev S4x1024x512 : Shape := ⟨3, ![4, 1024, 512]⟩
abbrev S4096x1024 : Shape := ⟨2, ![4096, 1024]⟩
abbrev S2048x512 : Shape := ⟨2, ![2048, 512]⟩
abbrev S1x1024x512 : Shape := ⟨3, ![1, 1024, 512]⟩
abbrev S2048x1024 : Shape := ⟨2, ![2048, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4x1024x512, .bf16⟩
  | .hbm, ⟨2, _⟩ => ⟨S4096x1024, .f32⟩
  | .local _ .vmem, ⟨0, _⟩ => ⟨S2048x512, .bf16⟩
  | .local _ .vmem, ⟨1, _⟩ => ⟨S2048x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S2048x1024, .f32⟩
  | .local _ .vmem, ⟨5, _⟩ => ⟨S2048x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg2 : BitVec 32 := BitVec.ofNat 32 (i 2).val
  let c0_i32_5 : BitVec 32 := 0#32
  let v7 : BitVec 1 := Scalar.cmpi .sgt arg2 c0_i32_5
  let v8 : BitVec 32 := Scalar.extui v7
  let c0_i32_6 : BitVec 32 := 0#32
  let v9 : BitVec 1 := Scalar.cmpi .ne v8 c0_i32_6
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![arg1.toNat, v2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefOgDxIdeal.lean ====
abbrev S4096x2048 : Shape := ⟨2, ![4096, 2048]⟩
abbrev S4x1024x512 : Shape := ⟨3, ![4, 1024, 512]⟩
abbrev S_ : Shape := ⟨0, ![]⟩
abbrev S4096x1024 : Shape := ⟨2, ![4096, 1024]⟩
abbrev S1024x4x512 : Shape := ⟨3, ![1024, 4, 512]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x1024x512, .bf16⟩
  | .hbm, ⟨2, _⟩ => ⟨S_, .f32⟩
  | .hbm, ⟨3, _⟩ => ⟨S4096x1024, .f32⟩
  | .hbm, ⟨4, _⟩ => ⟨S4096x2048, .f32⟩
  | .hbm, ⟨5, _⟩ => ⟨S1024x4x512, .bf16⟩
  | .hbm, ⟨6, _⟩ => ⟨S1024x2048, .bf16⟩
  | .hbm, ⟨7, _⟩ => ⟨S1024x2048, .f32⟩
  | .hbm, ⟨8, _⟩ => ⟨S4096x2048, .f32⟩
  | .hbm, ⟨9, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InFw.lean ====
abbrev S4096x2048 : Shape := ⟨2, ![4096, 2048]⟩
abbrev S2048x10368 : Shape := ⟨2, ![2048, 10368]⟩
abbrev S4096x10368 : Shape := ⟨2, ![4096, 10368]⟩
abbrev S512x2048 : Shape := ⟨2, ![512, 2048]⟩
abbrev S2048x1152 : Shape := ⟨2, ![2048, 1152]⟩
abbrev S512x1152 : Shape := ⟨2, ![512, 1152]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x10368, .bf16⟩
  | .hbm, ⟨2, _⟩ => ⟨S4096x10368, .bf16⟩
  | .local _ .vmem, ⟨0, _⟩ => ⟨S512x2048, .bf16⟩
  | .local _ .vmem, ⟨1, _⟩ => ⟨S512x2048, .bf16⟩
  | .local _ .vmem, ⟨2, _⟩ => ⟨S2048x1152, .bf16⟩
  | .local _ .vmem, ⟨3, _⟩ => ⟨S2048x1152, .bf16⟩
  | .local _ .vmem, ⟨4, _⟩ => ⟨S512x1152, .bf16⟩
  | .local _ .vmem, ⟨5, _⟩ => ⟨S512x1152, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![9, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefInFwIdeal.lean ====
abbrev S4096x2048 : Shape := ⟨2, ![4096, 2048]⟩
abbrev S2048x10368 : Shape := ⟨2, ![2048, 10368]⟩
abbrev S4096x10368 : Shape := ⟨2, ![4096, 10368]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x10368, .bf16⟩
  | .hbm, ⟨2, _⟩ => ⟨S4096x2048, .f32⟩
  | .hbm, ⟨3, _⟩ => ⟨S2048x10368, .f32⟩
  | .hbm, ⟨4, _⟩ => ⟨S4096x10368, .f32⟩
  | .hbm, ⟨5, _⟩ => ⟨S4096x10368, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OgFw.lean ====
abbrev S4096x1024 : Shape := ⟨2, ![4096, 1024]⟩
abbrev S4x1024x512 : Shape := ⟨3, ![4, 1024, 512]⟩
abbrev S4096x2048 : Shape := ⟨2, ![4096, 2048]⟩
abbrev S2048x1024 : Shape := ⟨2, ![2048, 1024]⟩
abbrev S1x1024x512 : Shape := ⟨3, ![1, 1024, 512]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4x1024x512, .bf16⟩
  | .hbm, ⟨2, _⟩ => ⟨S4096x2048, .f32⟩
  | .local _ .vmem, ⟨0, _⟩ => ⟨S2048x1024, .bf16⟩
  | .local _ .vmem, ⟨1, _⟩ => ⟨S2048x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S2048x512, .f32⟩
  | .local _ .vmem, ⟨5, _⟩ => ⟨S2048x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefOgFwIdeal.lean ====
abbrev S4096x1024 : Shape := ⟨2, ![4096, 1024]⟩
abbrev S4x1024x512 : Shape := ⟨3, ![4, 1024, 512]⟩
abbrev S1024x4x512 : Shape := ⟨3, ![1024, 4, 512]⟩
abbrev S1024x2048 : Shape := ⟨2, ![1024, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x512, .bf16⟩
  | .hbm, ⟨2, _⟩ => ⟨S1024x4x512, .bf16⟩
  | .hbm, ⟨3, _⟩ => ⟨S1024x2048, .bf16⟩
  | .hbm, ⟨4, _⟩ => ⟨S4096x1024, .f32⟩
  | .hbm, ⟨5, _⟩ => ⟨S1024x2048, .f32⟩
  | .hbm, ⟨6, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== OFw.lean ====
abbrev S4096x2048 : Shape := ⟨2, ![4096, 2048]⟩
abbrev S2048x2048 : Shape := ⟨2, ![2048, 2048]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefOFwIdeal.lean ====
abbrev S4096x2048 : Shape := ⟨2, ![4096, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== UpFw.lean ====
abbrev S4096x2048 : Shape := ⟨2, ![4096, 2048]⟩
abbrev S4x2048x2816 : Shape := ⟨3, ![4, 2048, 2816]⟩
abbrev S4096x11264 : Shape := ⟨2, ![4096, 11264]⟩
abbrev S512x2048 : Shape := ⟨2, ![512, 2048]⟩
abbrev S1x2048x1408 : Shape := ⟨3, ![1, 2048, 1408]⟩
abbrev S512x1408 : Shape := ⟨2, ![512, 1408]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4x2048x2816, .bf16⟩
  | .hbm, ⟨2, _⟩ => ⟨S4096x11264, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S512x1408, .bf16⟩
  | .local _ .vmem, ⟨5, _⟩ => ⟨S512x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefUpFwIdeal.lean ====
abbrev S4096x2048 : Shape := ⟨2, ![4096, 2048]⟩
abbrev S4x2048x2816 : Shape := ⟨3, ![4, 2048, 2816]⟩
abbrev S2048x4x2816 : Shape := ⟨3, ![2048, 4, 2816]⟩
abbrev S2048x11264 : Shape := ⟨2, ![2048, 11264]⟩
abbrev S4096x11264 : Shape := ⟨2, ![4096, 11264]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x2816, .bf16⟩
  | .hbm, ⟨2, _⟩ => ⟨S2048x4x2816, .bf16⟩
  | .hbm, ⟨3, _⟩ => ⟨S2048x11264, .bf16⟩
  | .hbm, ⟨4, _⟩ => ⟨S4096x2048, .f32⟩
  | .hbm, ⟨5, _⟩ => ⟨S2048x11264, .f32⟩
  | .hbm, ⟨6, _⟩ => ⟨S4096x11264, .f32⟩
  | .hbm, ⟨7, _⟩ => ⟨S4096x11264, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== DnFw.lean ====
abbrev S4096x5632 : Shape := ⟨2, ![4096, 5632]⟩
abbrev S5632x2048 : Shape := ⟨2, ![5632, 2048]⟩
abbrev S4096x2048 : Shape := ⟨2, ![4096, 2048]⟩
abbrev S1024x1408 : Shape := ⟨2, ![1024, 1408]⟩
abbrev S1408x2048 : Shape := ⟨2, ![1408, 2048]⟩
abbrev S1024x2048 : Shape := ⟨2, ![1024, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .local _ .vmem, ⟨0, _⟩ => ⟨S1024x1408, .bf16⟩
  | .local _ .vmem, ⟨1, _⟩ => ⟨S1024x1408, .bf16⟩
  | .local _ .vmem, ⟨2, _⟩ => ⟨S1408x2048, .bf16⟩
  | .local _ .vmem, ⟨3, _⟩ => ⟨S1408x2048, .bf16⟩
  | .local _ .vmem, ⟨4, _⟩ => ⟨S1024x2048, .f32⟩
  | .local _ .vmem, ⟨5, _⟩ => ⟨S1024x2048, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDnFwIdeal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x5632, .f32⟩
  | .hbm, ⟨3, _⟩ => ⟨S5632x2048, .f32⟩
  | .hbm, ⟨4, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== AdDn.lean ====
abbrev S2x1408x2048 : Shape := ⟨3, ![2, 1408, 2048]⟩
abbrev S1x128x2048 : Shape := ⟨3, ![1, 128, 2048]⟩
abbrev S128x2048 : Shape := ⟨2, ![128, 2048]⟩

abbrev nBuf : Space → Nat
  | .hbm => 9
  | .vmem => 18
  | .smem => 0
  | _ => 0

abbrev bufTy : (tb : Table) → Fin (tcTables nBuf tb) → BufTy
  | .hbm, ⟨0, _⟩ => ⟨S2x1408x2048, .f32⟩
  | .hbm, ⟨1, _⟩ => ⟨S2x1408x2048, .f32⟩
  | .hbm, ⟨2, _⟩ => ⟨S2x1408x2048, .f32⟩
  | .hbm, ⟨3, _⟩ => ⟨S2x1408x2048, .f32⟩
  | .hbm, ⟨4, _⟩ => ⟨S2x1408x2048, .f32⟩
  | .hbm, ⟨5, _⟩ => ⟨S2x1408x2048, .f32⟩
  | .hbm, ⟨6, _⟩ => ⟨S2x1408x2048, .f32⟩
  | .hbm, ⟨7, _⟩ => ⟨S2x1408x2048, .f32⟩
  | .hbm, ⟨8, _⟩ => ⟨S2x1408x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | _, _ => ⟨S2x1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 11], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdDnIdeal.lean ====
abbrev S2x1408x2048 : Shape := ⟨3, ![2, 1408, 2048]⟩
abbrev S1x128x2048 : Shape := ⟨3, ![1, 128, 2048]⟩
abbrev S128x2048 : Shape := ⟨2, ![128, 2048]⟩

abbrev nBuf : Space → Nat
  | .hbm => 9
  | .vmem => 18
  | .smem => 0
  | _ => 0

abbrev bufTy : (tb : Table) → Fin (tcTables nBuf tb) → BufTy
  | .hbm, ⟨0, _⟩ => ⟨S2x1408x2048, .f32⟩
  | .hbm, ⟨1, _⟩ => ⟨S2x1408x2048, .f32⟩
  | .hbm, ⟨2, _⟩ => ⟨S2x1408x2048, .f32⟩
  | .hbm, ⟨3, _⟩ => ⟨S2x1408x2048, .f32⟩
  | .hbm, ⟨4, _⟩ => ⟨S2x1408x2048, .f32⟩
  | .hbm, ⟨5, _⟩ => ⟨S2x1408x2048, .f32⟩
  | .hbm, ⟨6, _⟩ => ⟨S2x1408x2048, .f32⟩
  | .hbm, ⟨7, _⟩ => ⟨S2x1408x2048, .f32⟩
  | .hbm, ⟨8, _⟩ => ⟨S2x1408x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | _, _ => ⟨S2x1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 11], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== RefAdDnIdeal.lean ====
abbrev S2x1408x2048 : Shape := ⟨3, ![2, 1408, 2048]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2x1408x2048, .f32⟩
  | .hbm, ⟨1, _⟩ => ⟨S2x1408x2048, .f32⟩
  | .hbm, ⟨2, _⟩ => ⟨S2x1408x2048, .f32⟩
  | .hbm, ⟨3, _⟩ => ⟨S2x1408x2048, .f32⟩
  | .hbm, ⟨4, _⟩ => ⟨S2x1408x2048, .f32⟩
  | .hbm, ⟨5, _⟩ => ⟨S2x1408x2048, .f32⟩
  | .hbm, ⟨6, _⟩ => ⟨S_, .f32⟩
  | .hbm, ⟨7, _⟩ => ⟨S2x1408x2048, .f32⟩
  | .hbm, ⟨8, _⟩ => ⟨S2x1408x2048, .f32⟩
  | .hbm, ⟨9, _⟩ => ⟨S_, .f32⟩
  | .hbm, ⟨10, _⟩ => ⟨S2x1408x2048, .f32⟩
  | .hbm, ⟨11, _⟩ => ⟨S2x1408x2048, .f32⟩
  | .hbm, ⟨12, _⟩ => ⟨S2x1408x2048, .f32⟩
  | .hbm, ⟨13, _⟩ => ⟨S_, .f32⟩
  | .hbm, ⟨14, _⟩ => ⟨S2x1408x2048, .f32⟩
  | .hbm, ⟨15, _⟩ => ⟨S2x1408x2048, .f32⟩
  | .hbm, ⟨16, _⟩ => ⟨S2x1408x2048, .f32⟩
  | .hbm, ⟨17, _⟩ => ⟨S_, .f32⟩
  | .hbm, ⟨18, _⟩ => ⟨S2x1408x2048, .f32⟩
  | .hbm, ⟨19, _⟩ => ⟨S2x1408x2048, .f32⟩
  | .hbm, ⟨20, _⟩ => ⟨S2x1408x2048, .f32⟩
  | .hbm, ⟨21, _⟩ => ⟨S_, .f32⟩
  | .hbm, ⟨22, _⟩ => ⟨S2x1408x2048, .f32⟩
  | .hbm, ⟨23, _⟩ => ⟨S2x1408x2048, .f32⟩
  | .hbm, ⟨24, _⟩ => ⟨S_, .f32⟩
  | .hbm, ⟨25, _⟩ => ⟨S2x1408x2048, .f32⟩
  | .hbm, ⟨26, _⟩ => ⟨S2x1408x2048, .f32⟩
  | .hbm, ⟨27, _⟩ => ⟨S2x1408x2048, .f32⟩
  | .hbm, ⟨28, _⟩ => ⟨S_, .f32⟩
  | .hbm, ⟨29, _⟩ => ⟨S2x1408x2048, .f32⟩
  | .hbm, ⟨30, _⟩ => ⟨S2x1408x2048, .f32⟩
  | .hbm, ⟨31, _⟩ => ⟨S2x1408x2048, .f32⟩
  | .hbm, ⟨32, _⟩ => ⟨S_, .f32⟩
  | .hbm, ⟨33, _⟩ => ⟨S2x1408x2048, .f32⟩
  | .hbm, ⟨34, _⟩ => ⟨S2x1408x2048, .f32⟩
  | .hbm, ⟨35, _⟩ => ⟨S2x1408x2048, .f32⟩
  | .hbm, ⟨36, _⟩ => ⟨S_, .f32⟩
  | .hbm, ⟨37, _⟩ => ⟨S2x1408x2048, .f32⟩
  | .hbm, ⟨38, _⟩ => ⟨S2x1408x2048, .f32⟩
  | _, _ => ⟨S2x1408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdUp.lean ====
abbrev S2x2048x2816 : Shape := ⟨3, ![2, 2048, 2816]⟩
abbrev S1x64x2816 : Shape := ⟨3, ![1, 64, 2816]⟩
abbrev S64x2816 : Shape := ⟨2, ![64, 2816]⟩

abbrev nBuf : Space → Nat
  | .hbm => 9
  | .vmem => 18
  | .smem => 0
  | _ => 0

abbrev bufTy : (tb : Table) → Fin (tcTables nBuf tb) → BufTy
  | .hbm, ⟨0, _⟩ => ⟨S2x2048x2816, .f32⟩
  | .hbm, ⟨1, _⟩ => ⟨S2x2048x2816, .f32⟩
  | .hbm, ⟨2, _⟩ => ⟨S2x2048x2816, .f32⟩
  | .hbm, ⟨3, _⟩ => ⟨S2x2048x2816, .f32⟩
  | .hbm, ⟨4, _⟩ => ⟨S2x2048x2816, .f32⟩
  | .hbm, ⟨5, _⟩ => ⟨S2x2048x2816, .f32⟩
  | .hbm, ⟨6, _⟩ => ⟨S2x2048x2816, .f32⟩
  | .hbm, ⟨7, _⟩ => ⟨S2x2048x2816, .f32⟩
  | .hbm, ⟨8, _⟩ => ⟨S2x2048x2816, .f32⟩
  | .local _ .vmem, ⟨0, _⟩ => ⟨S1x64x2816, .f32⟩
  | .local _ .vmem, ⟨1, _⟩ => ⟨S1x64x2816, .f32⟩
  | .local _ .vmem, ⟨2, _⟩ => ⟨S1x64x2816, .f32⟩
  | .local _ .vmem, ⟨3, _⟩ => ⟨S1x64x2816, .f32⟩
  | .local _ .vmem, ⟨4, _⟩ => ⟨S1x64x2816, .f32⟩
  | .local _ .vmem, ⟨5, _⟩ => ⟨S1x64x2816, .f32⟩
  | .local _ .vmem, ⟨6, _⟩ => ⟨S1x64x2816, .f32⟩
  | .local _ .vmem, ⟨7, _⟩ => ⟨S1x64x2816, .f32⟩
  | .local _ .vmem, ⟨8, _⟩ => ⟨S1x64x2816, .f32⟩
  | .local _ .vmem, ⟨9, _⟩ => ⟨S1x64x2816, .f32⟩
  | .local _ .vmem, ⟨10, _⟩ => ⟨S1x64x2816, .f32⟩
  | .local _ .vmem, ⟨11, _⟩ => ⟨S1x64x2816, .f32⟩
  | .local _ .vmem, ⟨12, _⟩ => ⟨S1x64x2816, .f32⟩
  | .local _ .vmem, ⟨13, _⟩ => ⟨S1x64x2816, .f32⟩
  | .local _ .vmem, ⟨14, _⟩ => ⟨S1x64x2816, .f32⟩
  | .local _ .vmem, ⟨15, _⟩ => ⟨S1x64x2816, .f32⟩
  | .local _ .vmem, ⟨16, _⟩ => ⟨S1x64x2816, .f32⟩
  | .local _ .vmem, ⟨17, _⟩ => ⟨S1x64x2816, .f32⟩
  | _, _ => ⟨S2x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x2816 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdUpIdeal.lean ====
abbrev S2x2048x2816 : Shape := ⟨3, ![2, 2048, 2816]⟩
abbrev S1x64x2816 : Shape := ⟨3, ![1, 64, 2816]⟩
abbrev S64x2816 : Shape := ⟨2, ![64, 2816]⟩

abbrev nBuf : Space → Nat
  | .hbm => 9
  | .vmem => 18
  | .smem => 0
  | _ => 0

abbrev bufTy : (tb : Table) → Fin (tcTables nBuf tb) → BufTy
  | .hbm, ⟨0, _⟩ => ⟨S2x2048x2816, .f32⟩
  | .hbm, ⟨1, _⟩ => ⟨S2x2048x2816, .f32⟩
  | .hbm, ⟨2, _⟩ => ⟨S2x2048x2816, .f32⟩
  | .hbm, ⟨3, _⟩ => ⟨S2x2048x2816, .f32⟩
  | .hbm, ⟨4, _⟩ => ⟨S2x2048x2816, .f32⟩
  | .hbm, ⟨5, _⟩ => ⟨S2x2048x2816, .f32⟩
  | .hbm, ⟨6, _⟩ => ⟨S2x2048x2816, .f32⟩
  | .hbm, ⟨7, _⟩ => ⟨S2x2048x2816, .f32⟩
  | .hbm, ⟨8, _⟩ => ⟨S2x2048x2816, .f32⟩
  | .local _ .vmem, ⟨0, _⟩ => ⟨S1x64x2816, .f32⟩
  | .local _ .vmem, ⟨1, _⟩ => ⟨S1x64x2816, .f32⟩
  | .local _ .vmem, ⟨2, _⟩ => ⟨S1x64x2816, .f32⟩
  | .local _ .vmem, ⟨3, _⟩ => ⟨S1x64x2816, .f32⟩
  | .local _ .vmem, ⟨4, _⟩ => ⟨S1x64x2816, .f32⟩
  | .local _ .vmem, ⟨5, _⟩ => ⟨S1x64x2816, .f32⟩
  | .local _ .vmem, ⟨6, _⟩ => ⟨S1x64x2816, .f32⟩
  | .local _ .vmem, ⟨7, _⟩ => ⟨S1x64x2816, .f32⟩
  | .local _ .vmem, ⟨8, _⟩ => ⟨S1x64x2816, .f32⟩
  | .local _ .vmem, ⟨9, _⟩ => ⟨S1x64x2816, .f32⟩
  | .local _ .vmem, ⟨10, _⟩ => ⟨S1x64x2816, .f32⟩
  | .local _ .vmem, ⟨11, _⟩ => ⟨S1x64x2816, .f32⟩
  | .local _ .vmem, ⟨12, _⟩ => ⟨S1x64x2816, .f32⟩
  | .local _ .vmem, ⟨13, _⟩ => ⟨S1x64x2816, .f32⟩
  | .local _ .vmem, ⟨14, _⟩ => ⟨S1x64x2816, .f32⟩
  | .local _ .vmem, ⟨15, _⟩ => ⟨S1x64x2816, .f32⟩
  | .local _ .vmem, ⟨16, _⟩ => ⟨S1x64x2816, .f32⟩
  | .local _ .vmem, ⟨17, _⟩ => ⟨S1x64x2816, .f32⟩
  | _, _ => ⟨S2x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x2816 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== RefAdUpIdeal.lean ====
abbrev S2x2048x2816 : Shape := ⟨3, ![2, 2048, 2816]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2x2048x2816, .f32⟩
  | .hbm, ⟨1, _⟩ => ⟨S2x2048x2816, .f32⟩
  | .hbm, ⟨2, _⟩ => ⟨S2x2048x2816, .f32⟩
  | .hbm, ⟨3, _⟩ => ⟨S2x2048x2816, .f32⟩
  | .hbm, ⟨4, _⟩ => ⟨S2x2048x2816, .f32⟩
  | .hbm, ⟨5, _⟩ => ⟨S2x2048x2816, .f32⟩
  | .hbm, ⟨6, _⟩ => ⟨S_, .f32⟩
  | .hbm, ⟨7, _⟩ => ⟨S2x2048x2816, .f32⟩
  | .hbm, ⟨8, _⟩ => ⟨S2x2048x2816, .f32⟩
  | .hbm, ⟨9, _⟩ => ⟨S_, .f32⟩
  | .hbm, ⟨10, _⟩ => ⟨S2x2048x2816, .f32⟩
  | .hbm, ⟨11, _⟩ => ⟨S2x2048x2816, .f32⟩
  | .hbm, ⟨12, _⟩ => ⟨S2x2048x2816, .f32⟩
  | .hbm, ⟨13, _⟩ => ⟨S_, .f32⟩
  | .hbm, ⟨14, _⟩ => ⟨S2x2048x2816, .f32⟩
  | .hbm, ⟨15, _⟩ => ⟨S2x2048x2816, .f32⟩
  | .hbm, ⟨16, _⟩ => ⟨S2x2048x2816, .f32⟩
  | .hbm, ⟨17, _⟩ => ⟨S_, .f32⟩
  | .hbm, ⟨18, _⟩ => ⟨S2x2048x2816, .f32⟩
  | .hbm, ⟨19, _⟩ => ⟨S2x2048x2816, .f32⟩
  | .hbm, ⟨20, _⟩ => ⟨S2x2048x2816, .f32⟩
  | .hbm, ⟨21, _⟩ => ⟨S_, .f32⟩
  | .hbm, ⟨22, _⟩ => ⟨S2x2048x2816, .f32⟩
  | .hbm, ⟨23, _⟩ => ⟨S2x2048x2816, .f32⟩
  | .hbm, ⟨24, _⟩ => ⟨S_, .f32⟩
  | .hbm, ⟨25, _⟩ => ⟨S2x2048x2816, .f32⟩
  | .hbm, ⟨26, _⟩ => ⟨S2x2048x2816, .f32⟩
  | .hbm, ⟨27, _⟩ => ⟨S2x2048x2816, .f32⟩
  | .hbm, ⟨28, _⟩ => ⟨S_, .f32⟩
  | .hbm, ⟨29, _⟩ => ⟨S2x2048x2816, .f32⟩
  | .hbm, ⟨30, _⟩ => ⟨S2x2048x2816, .f32⟩
  | .hbm, ⟨31, _⟩ => ⟨S2x2048x2816, .f32⟩
  | .hbm, ⟨32, _⟩ => ⟨S_, .f32⟩
  | .hbm, ⟨33, _⟩ => ⟨S2x2048x2816, .f32⟩
  | .hbm, ⟨34, _⟩ => ⟨S2x2048x2816, .f32⟩
  | .hbm, ⟨35, _⟩ => ⟨S2x2048x2816, .f32⟩
  | .hbm, ⟨36, _⟩ => ⟨S_, .f32⟩
  | .hbm, ⟨37, _⟩ => ⟨S2x2048x2816, .f32⟩
  | .hbm, ⟨38, _⟩ => ⟨S2x2048x2816, .f32⟩
  | _, _ => ⟨S2x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdO.lean ====
abbrev S2x512x2048 : Shape := ⟨3, ![2, 512, 2048]⟩
abbrev S1x128x2048 : Shape := ⟨3, ![1, 128, 2048]⟩
abbrev S128x2048 : Shape := ⟨2, ![128, 2048]⟩

abbrev nBuf : Space → Nat
  | .hbm => 9
  | .vmem => 18
  | .smem => 0
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S2x512x2048, .f32⟩
  | .hbm, ⟨4, _⟩ => ⟨S2x512x2048, .f32⟩
  | .hbm, ⟨5, _⟩ => ⟨S2x512x2048, .f32⟩
  | .hbm, ⟨6, _⟩ => ⟨S2x512x2048, .f32⟩
  | .hbm, ⟨7, _⟩ => ⟨S2x512x2048, .f32⟩
  | .hbm, ⟨8, _⟩ => ⟨S2x512x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | _, _ => ⟨S2x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdOIdeal.lean ====
abbrev S2x512x2048 : Shape := ⟨3, ![2, 512, 2048]⟩
abbrev S1x128x2048 : Shape := ⟨3, ![1, 128, 2048]⟩
abbrev S128x2048 : Shape := ⟨2, ![128, 2048]⟩

abbrev nBuf : Space → Nat
  | .hbm => 9
  | .vmem => 18
  | .smem => 0
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S2x512x2048, .f32⟩
  | .hbm, ⟨4, _⟩ => ⟨S2x512x2048, .f32⟩
  | .hbm, ⟨5, _⟩ => ⟨S2x512x2048, .f32⟩
  | .hbm, ⟨6, _⟩ => ⟨S2x512x2048, .f32⟩
  | .hbm, ⟨7, _⟩ => ⟨S2x512x2048, .f32⟩
  | .hbm, ⟨8, _⟩ => ⟨S2x512x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | _, _ => ⟨S2x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== RefAdOIdeal.lean ====
abbrev S2x512x2048 : Shape := ⟨3, ![2, 512, 2048]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S2x512x2048, .f32⟩
  | .hbm, ⟨4, _⟩ => ⟨S2x512x2048, .f32⟩
  | .hbm, ⟨5, _⟩ => ⟨S2x512x2048, .f32⟩
  | .hbm, ⟨6, _⟩ => ⟨S_, .f32⟩
  | .hbm, ⟨7, _⟩ => ⟨S2x512x2048, .f32⟩
  | .hbm, ⟨8, _⟩ => ⟨S2x512x2048, .f32⟩
  | .hbm, ⟨9, _⟩ => ⟨S_, .f32⟩
  | .hbm, ⟨10, _⟩ => ⟨S2x512x2048, .f32⟩
  | .hbm, ⟨11, _⟩ => ⟨S2x512x2048, .f32⟩
  | .hbm, ⟨12, _⟩ => ⟨S2x512x2048, .f32⟩
  | .hbm, ⟨13, _⟩ => ⟨S_, .f32⟩
  | .hbm, ⟨14, _⟩ => ⟨S2x512x2048, .f32⟩
  | .hbm, ⟨15, _⟩ => ⟨S2x512x2048, .f32⟩
  | .hbm, ⟨16, _⟩ => ⟨S2x512x2048, .f32⟩
  | .hbm, ⟨17, _⟩ => ⟨S_, .f32⟩
  | .hbm, ⟨18, _⟩ => ⟨S2x512x2048, .f32⟩
  | .hbm, ⟨19, _⟩ => ⟨S2x512x2048, .f32⟩
  | .hbm, ⟨20, _⟩ => ⟨S2x512x2048, .f32⟩
  | .hbm, ⟨21, _⟩ => ⟨S_, .f32⟩
  | .hbm, ⟨22, _⟩ => ⟨S2x512x2048, .f32⟩
  | .hbm, ⟨23, _⟩ => ⟨S2x512x2048, .f32⟩
  | .hbm, ⟨24, _⟩ => ⟨S_, .f32⟩
  | .hbm, ⟨25, _⟩ => ⟨S2x512x2048, .f32⟩
  | .hbm, ⟨26, _⟩ => ⟨S2x512x2048, .f32⟩
  | .hbm, ⟨27, _⟩ => ⟨S2x512x2048, .f32⟩
  | .hbm, ⟨28, _⟩ => ⟨S_, .f32⟩
  | .hbm, ⟨29, _⟩ => ⟨S2x512x2048, .f32⟩
  | .hbm, ⟨30, _⟩ => ⟨S2x512x2048, .f32⟩
  | .hbm, ⟨31, _⟩ => ⟨S2x512x2048, .f32⟩
  | .hbm, ⟨32, _⟩ => ⟨S_, .f32⟩
  | .hbm, ⟨33, _⟩ => ⟨S2x512x2048, .f32⟩
  | .hbm, ⟨34, _⟩ => ⟨S2x512x2048, .f32⟩
  | .hbm, ⟨35, _⟩ => ⟨S2x512x2048, .f32⟩
  | .hbm, ⟨36, _⟩ => ⟨S_, .f32⟩
  | .hbm, ⟨37, _⟩ => ⟨S2x512x2048, .f32⟩
  | .hbm, ⟨38, _⟩ => ⟨S2x512x2048, .f32⟩
  | _, _ => ⟨S2x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdOg.lean ====
abbrev S2x1024x512 : Shape := ⟨3, ![2, 1024, 512]⟩
abbrev S1x512x512 : Shape := ⟨3, ![1, 512, 512]⟩
abbrev S512x512 : Shape := ⟨2, ![512, 512]⟩

abbrev nBuf : Space → Nat
  | .hbm => 9
  | .vmem => 18
  | .smem => 0
  | _ => 0

abbrev bufTy : (tb : Table) → Fin (tcTables nBuf tb) → BufTy
  | .hbm, ⟨0, _⟩ => ⟨S2x1024x512, .f32⟩
  | .hbm, ⟨1, _⟩ => ⟨S2x1024x512, .f32⟩
  | .hbm, ⟨2, _⟩ => ⟨S2x1024x512, .f32⟩
  | .hbm, ⟨3, _⟩ => ⟨S2x1024x512, .f32⟩
  | .hbm, ⟨4, _⟩ => ⟨S2x1024x512, .f32⟩
  | .hbm, ⟨5, _⟩ => ⟨S2x1024x512, .f32⟩
  | .hbm, ⟨6, _⟩ => ⟨S2x1024x512, .f32⟩
  | .hbm, ⟨7, _⟩ => ⟨S2x1024x512, .f32⟩
  | .hbm, ⟨8, _⟩ => ⟨S2x1024x512, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | .local _ .vmem, ⟨16, _⟩ => ⟨S1x512x512, .f32⟩
  | .local _ .vmem, ⟨17, _⟩ => ⟨S1x512x512, .f32⟩
  | _, _ => ⟨S2x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== RefAdOgIdeal.lean ====
abbrev S2x1024x512 : Shape := ⟨3, ![2, 1024, 512]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2x1024x512, .f32⟩
  | .hbm, ⟨1, _⟩ => ⟨S2x1024x512, .f32⟩
  | .hbm, ⟨2, _⟩ => ⟨S2x1024x512, .f32⟩
  | .hbm, ⟨3, _⟩ => ⟨S2x1024x512, .f32⟩
  | .hbm, ⟨4, _⟩ => ⟨S2x1024x512, .f32⟩
  | .hbm, ⟨5, _⟩ => ⟨S2x1024x512, .f32⟩
  | .hbm, ⟨6, _⟩ => ⟨S_, .f32⟩
  | .hbm, ⟨7, _⟩ => ⟨S2x1024x512, .f32⟩
  | .hbm, ⟨8, _⟩ => ⟨S2x1024x512, .f32⟩
  | .hbm, ⟨9, _⟩ => ⟨S_, .f32⟩
  | .hbm, ⟨10, _⟩ => ⟨S2x1024x512, .f32⟩
  | .hbm, ⟨11, _⟩ => ⟨S2x1024x512, .f32⟩
  | .hbm, ⟨12, _⟩ => ⟨S2x1024x512, .f32⟩
  | .hbm, ⟨13, _⟩ => ⟨S_, .f32⟩
  | .hbm, ⟨14, _⟩ => ⟨S2x1024x512, .f32⟩
  | .hbm, ⟨15, _⟩ => ⟨S2x1024x512, .f32⟩
  | .hbm, ⟨16, _⟩ => ⟨S2x1024x512, .f32⟩
  | .hbm, ⟨17, _⟩ => ⟨S_, .f32⟩
  | .hbm, ⟨18, _⟩ => ⟨S2x1024x512, .f32⟩
  | .hbm, ⟨19, _⟩ => ⟨S2x1024x512, .f32⟩
  | .hbm, ⟨20, _⟩ => ⟨S2x1024x512, .f32⟩
  | .hbm, ⟨21, _⟩ => ⟨S_, .f32⟩
  | .hbm, ⟨22, _⟩ => ⟨S2x1024x512, .f32⟩
  | .hbm, ⟨23, _⟩ => ⟨S2x1024x512, .f32⟩
  | .hbm, ⟨24, _⟩ => ⟨S_, .f32⟩
  | .hbm, ⟨25, _⟩ => ⟨S2x1024x512, .f32⟩
  | .hbm, ⟨26, _⟩ => ⟨S2x1024x512, .f32⟩
  | .hbm, ⟨27, _⟩ => ⟨S2x1024x512, .f32⟩
  | .hbm, ⟨28, _⟩ => ⟨S_, .f32⟩
  | .hbm, ⟨29, _⟩ => ⟨S2x1024x512, .f32⟩
  | .hbm, ⟨30, _⟩ => ⟨S2x1024x512, .f32⟩
  | .hbm, ⟨31, _⟩ => ⟨S2x1024x512, .f32⟩
  | .hbm, ⟨32, _⟩ => ⟨S_, .f32⟩
  | .hbm, ⟨33, _⟩ => ⟨S2x1024x512, .f32⟩
  | .hbm, ⟨34, _⟩ => ⟨S2x1024x512, .f32⟩
  | .hbm, ⟨35, _⟩ => ⟨S2x1024x512, .f32⟩
  | .hbm, ⟨36, _⟩ => ⟨S_, .f32⟩
  | .hbm, ⟨37, _⟩ => ⟨S2x1024x512, .f32⟩
  | .hbm, ⟨38, _⟩ => ⟨S2x1024x512, .f32⟩
  | _, _ => ⟨S2x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdIn.lean ====
abbrev S2564x2x2048 : Shape := ⟨3, ![2564, 2, 2048]⟩
abbrev S641x2x256 : Shape := ⟨3, ![641, 2, 256]⟩

abbrev nBuf : Space → Nat
  | .hbm => 9
  | .vmem => 18
  | .smem => 0
  | _ => 0

abbrev bufTy : (tb : Table) → Fin (tcTables nBuf tb) → BufTy
  | .hbm, ⟨0, _⟩ => ⟨S2564x2x2048, .f32⟩
  | .hbm, ⟨1, _⟩ => ⟨S2564x2x2048, .f32⟩
  | .hbm, ⟨2, _⟩ => ⟨S2564x2x2048, .f32⟩
  | .hbm, ⟨3, _⟩ => ⟨S2564x2x2048, .f32⟩
  | .hbm, ⟨4, _⟩ => ⟨S2564x2x2048, .f32⟩
  | .hbm, ⟨5, _⟩ => ⟨S2564x2x2048, .f32⟩
  | .hbm, ⟨6, _⟩ => ⟨S2564x2x2048, .f32⟩
  | .hbm, ⟨7, _⟩ => ⟨S2564x2x2048, .f32⟩
  | .hbm, ⟨8, _⟩ => ⟨S2564x2x2048, .f32⟩
  | .local _ .vmem, ⟨0, _⟩ => ⟨S641x2x256, .f32⟩
  | .local _ .vmem, ⟨1, _⟩ => ⟨S641x2x256, .f32⟩
  | .local _ .vmem, ⟨2, _⟩ => ⟨S641x2x256, .f32⟩
  | .local _ .vmem, ⟨3, _⟩ => ⟨S641x2x256, .f32⟩
  | .local _ .vmem, ⟨4, _⟩ => ⟨S641x2x256, .f32⟩
  | .local _ .vmem, ⟨5, _⟩ => ⟨S641x2x256, .f32⟩
  | .local _ .vmem, ⟨6, _⟩ => ⟨S641x2x256, .f32⟩
  | .local _ .vmem, ⟨7, _⟩ => ⟨S641x2x256, .f32⟩
  | .local _ .vmem, ⟨8, _⟩ => ⟨S641x2x256, .f32⟩
  | .local _ .vmem, ⟨9, _⟩ => ⟨S641x2x256, .f32⟩
  | .local _ .vmem, ⟨10, _⟩ => ⟨S641x2x256, .f32⟩
  | .local _ .vmem, ⟨11, _⟩ => ⟨S641x2x256, .f32⟩
  | .local _ .vmem, ⟨12, _⟩ => ⟨S641x2x256, .f32⟩
  | .local _ .vmem, ⟨13, _⟩ => ⟨S641x2x256, .f32⟩
  | .local _ .vmem, ⟨14, _⟩ => ⟨S641x2x256, .f32⟩
  | .local _ .vmem, ⟨15, _⟩ => ⟨S641x2x256, .f32⟩
  | .local _ .vmem, ⟨16, _⟩ => ⟨S641x2x256, .f32⟩
  | .local _ .vmem, ⟨17, _⟩ => ⟨S641x2x256, .f32⟩
  | _, _ => ⟨S2564x2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S641x2x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S641x2x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S641x2x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S641x2x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S641x2x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S641x2x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S641x2x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S641x2x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S641x2x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== RefAdInIdeal.lean ====
abbrev S2564x2x2048 : Shape := ⟨3, ![2564, 2, 2048]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2564x2x2048, .f32⟩
  | .hbm, ⟨1, _⟩ => ⟨S2564x2x2048, .f32⟩
  | .hbm, ⟨2, _⟩ => ⟨S2564x2x2048, .f32⟩
  | .hbm, ⟨3, _⟩ => ⟨S2564x2x2048, .f32⟩
  | .hbm, ⟨4, _⟩ => ⟨S2564x2x2048, .f32⟩
  | .hbm, ⟨5, _⟩ => ⟨S2564x2x2048, .f32⟩
  | .hbm, ⟨6, _⟩ => ⟨S_, .f32⟩
  | .hbm, ⟨7, _⟩ => ⟨S2564x2x2048, .f32⟩
  | .hbm, ⟨8, _⟩ => ⟨S2564x2x2048, .f32⟩
  | .hbm, ⟨9, _⟩ => ⟨S_, .f32⟩
  | .hbm, ⟨10, _⟩ => ⟨S2564x2x2048, .f32⟩
  | .hbm, ⟨11, _⟩ => ⟨S2564x2x2048, .f32⟩
  | .hbm, ⟨12, _⟩ => ⟨S2564x2x2048, .f32⟩
  | .hbm, ⟨13, _⟩ => ⟨S_, .f32⟩
  | .hbm, ⟨14, _⟩ => ⟨S2564x2x2048, .f32⟩
  | .hbm, ⟨15, _⟩ => ⟨S2564x2x2048, .f32⟩
  | .hbm, ⟨16, _⟩ => ⟨S2564x2x2048, .f32⟩
  | .hbm, ⟨17, _⟩ => ⟨S_, .f32⟩
  | .hbm, ⟨18, _⟩ => ⟨S2564x2x2048, .f32⟩
  | .hbm, ⟨19, _⟩ => ⟨S2564x2x2048, .f32⟩
  | .hbm, ⟨20, _⟩ => ⟨S2564x2x2048, .f32⟩
  | .hbm, ⟨21, _⟩ => ⟨S_, .f32⟩
  | .hbm, ⟨22, _⟩ => ⟨S2564x2x2048, .f32⟩
  | .hbm, ⟨23, _⟩ => ⟨S2564x2x2048, .f32⟩
  | .hbm, ⟨24, _⟩ => ⟨S_, .f32⟩
  | .hbm, ⟨25, _⟩ => ⟨S2564x2x2048, .f32⟩
  | .hbm, ⟨26, _⟩ => ⟨S2564x2x2048, .f32⟩
  | .hbm, ⟨27, _⟩ => ⟨S2564x2x2048, .f32⟩
  | .hbm, ⟨28, _⟩ => ⟨S_, .f32⟩
  | .hbm, ⟨29, _⟩ => ⟨S2564x2x2048, .f32⟩
  | .hbm, ⟨30, _⟩ => ⟨S2564x2x2048, .f32⟩
  | .hbm, ⟨31, _⟩ => ⟨S2564x2x2048, .f32⟩
  | .hbm, ⟨32, _⟩ => ⟨S_, .f32⟩
  | .hbm, ⟨33, _⟩ => ⟨S2564x2x2048, .f32⟩
  | .hbm, ⟨34, _⟩ => ⟨S2564x2x2048, .f32⟩
  | .hbm, ⟨35, _⟩ => ⟨S2564x2x2048, .f32⟩
  | .hbm, ⟨36, _⟩ => ⟨S_, .f32⟩
  | .hbm, ⟨37, _⟩ => ⟨S2564x2x2048, .f32⟩
  | .hbm, ⟨38, _⟩ => ⟨S2564x2x2048, .f32⟩
  | _, _ => ⟨S2564x2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdAda.lean ====
abbrev S2x2048x3072 : Shape := ⟨3, ![2, 2048, 3072]⟩
abbrev S1x64x3072 : Shape := ⟨3, ![1, 64, 3072]⟩
abbrev S64x3072 : Shape := ⟨2, ![64, 3072]⟩

abbrev nBuf : Space → Nat
  | .hbm => 8
  | .vmem => 16
  | .smem => 0
  | _ => 0

abbrev bufTy : (tb : Table) → Fin (tcTables nBuf tb) → BufTy
  | .hbm, ⟨0, _⟩ => ⟨S2x2048x3072, .f32⟩
  | .hbm, ⟨1, _⟩ => ⟨S2x2048x3072, .f32⟩
  | .hbm, ⟨2, _⟩ => ⟨S2x2048x3072, .f32⟩
  | .hbm, ⟨3, _⟩ => ⟨S2x2048x3072, .f32⟩
  | .hbm, ⟨4, _⟩ => ⟨S2x2048x3072, .f32⟩
  | .hbm, ⟨5, _⟩ => ⟨S2x2048x3072, .f32⟩
  | .hbm, ⟨6, _⟩ => ⟨S2x2048x3072, .f32⟩
  | .hbm, ⟨7, _⟩ => ⟨S2x2048x3072, .f32⟩
  | .local _ .vmem, ⟨0, _⟩ => ⟨S1x64x3072, .f32⟩
  | .local _ .vmem, ⟨1, _⟩ => ⟨S1x64x3072, .f32⟩
  | .local _ .vmem, ⟨2, _⟩ => ⟨S1x64x3072, .f32⟩
  | .local _ .vmem, ⟨3, _⟩ => ⟨S1x64x3072, .f32⟩
  | .local _ .vmem, ⟨4, _⟩ => ⟨S1x64x3072, .f32⟩
  | .local _ .vmem, ⟨5, _⟩ => ⟨S1x64x3072, .f32⟩
  | .local _ .vmem, ⟨6, _⟩ => ⟨S1x64x3072, .f32⟩
  | .local _ .vmem, ⟨7, _⟩ => ⟨S1x64x3072, .f32⟩
  | .local _ .vmem, ⟨8, _⟩ => ⟨S1x64x3072, .f32⟩
  | .local _ .vmem, ⟨9, _⟩ => ⟨S1x64x3072, .f32⟩
  | .local _ .vmem, ⟨10, _⟩ => ⟨S1x64x3072, .f32⟩
  | .local _ .vmem, ⟨11, _⟩ => ⟨S1x64x3072, .f32⟩
  | .local _ .vmem, ⟨12, _⟩ => ⟨S1x64x3072, .f32⟩
  | .local _ .vmem, ⟨13, _⟩ => ⟨S1x64x3072, .f32⟩
  | .local _ .vmem, ⟨14, _⟩ => ⟨S1x64x3072, .f32⟩
  | .local _ .vmem, ⟨15, _⟩ => ⟨S1x64x3072, .f32⟩
  | _, _ => ⟨S2x2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x3072 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdAdaIdeal.lean ====
abbrev S2x2048x3072 : Shape := ⟨3, ![2, 2048, 3072]⟩
abbrev S1x64x3072 : Shape := ⟨3, ![1, 64, 3072]⟩
abbrev S64x3072 : Shape := ⟨2, ![64, 3072]⟩

abbrev nBuf : Space → Nat
  | .hbm => 8
  | .vmem => 16
  | .smem => 0
  | _ => 0

abbrev bufTy : (tb : Table) → Fin (tcTables nBuf tb) → BufTy
  | .hbm, ⟨0, _⟩ => ⟨S2x2048x3072, .f32⟩
  | .hbm, ⟨1, _⟩ => ⟨S2x2048x3072, .f32⟩
  | .hbm, ⟨2, _⟩ => ⟨S2x2048x3072, .f32⟩
  | .hbm, ⟨3, _⟩ => ⟨S2x2048x3072, .f32⟩
  | .hbm, ⟨4, _⟩ => ⟨S2x2048x3072, .f32⟩
  | .hbm, ⟨5, _⟩ => ⟨S2x2048x3072, .f32⟩
  | .hbm, ⟨6, _⟩ => ⟨S2x2048x3072, .f32⟩
  | .hbm, ⟨7, _⟩ => ⟨S2x2048x3072, .f32⟩
  | .local _ .vmem, ⟨0, _⟩ => ⟨S1x64x3072, .f32⟩
  | .local _ .vmem, ⟨1, _⟩ => ⟨S1x64x3072, .f32⟩
  | .local _ .vmem, ⟨2, _⟩ => ⟨S1x64x3072, .f32⟩
  | .local _ .vmem, ⟨3, _⟩ => ⟨S1x64x3072, .f32⟩
  | .local _ .vmem, ⟨4, _⟩ => ⟨S1x64x3072, .f32⟩
  | .local _ .vmem, ⟨5, _⟩ => ⟨S1x64x3072, .f32⟩
  | .local _ .vmem, ⟨6, _⟩ => ⟨S1x64x3072, .f32⟩
  | .local _ .vmem, ⟨7, _⟩ => ⟨S1x64x3072, .f32⟩
  | .local _ .vmem, ⟨8, _⟩ => ⟨S1x64x3072, .f32⟩
  | .local _ .vmem, ⟨9, _⟩ => ⟨S1x64x3072, .f32⟩
  | .local _ .vmem, ⟨10, _⟩ => ⟨S1x64x3072, .f32⟩
  | .local _ .vmem, ⟨11, _⟩ => ⟨S1x64x3072, .f32⟩
  | .local _ .vmem, ⟨12, _⟩ => ⟨S1x64x3072, .f32⟩
  | .local _ .vmem, ⟨13, _⟩ => ⟨S1x64x3072, .f32⟩
  | .local _ .vmem, ⟨14, _⟩ => ⟨S1x64x3072, .f32⟩
  | .local _ .vmem, ⟨15, _⟩ => ⟨S1x64x3072, .f32⟩
  | _, _ => ⟨S2x2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x3072 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== RefAdAdaIdeal.lean ====
abbrev S2x2048x3072 : Shape := ⟨3, ![2, 2048, 3072]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x2048x3072, .f32⟩
  | .hbm, ⟨1, _⟩ => ⟨S2x2048x3072, .f32⟩
  | .hbm, ⟨2, _⟩ => ⟨S2x2048x3072, .f32⟩
  | .hbm, ⟨3, _⟩ => ⟨S2x2048x3072, .f32⟩
  | .hbm, ⟨4, _⟩ => ⟨S_, .f32⟩
  | .hbm, ⟨5, _⟩ => ⟨S2x2048x3072, .f32⟩
  | .hbm, ⟨6, _⟩ => ⟨S2x2048x3072, .f32⟩
  | .hbm, ⟨7, _⟩ => ⟨S_, .f32⟩
  | .hbm, ⟨8, _⟩ => ⟨S2x2048x3072, .f32⟩
  | .hbm, ⟨9, _⟩ => ⟨S2x2048x3072, .f32⟩
  | .hbm, ⟨10, _⟩ => ⟨S2x2048x3072, .f32⟩
  | .hbm, ⟨11, _⟩ => ⟨S_, .f32⟩
  | .hbm, ⟨12, _⟩ => ⟨S2x2048x3072, .f32⟩
  | .hbm, ⟨13, _⟩ => ⟨S2x2048x3072, .f32⟩
  | .hbm, ⟨14, _⟩ => ⟨S2x2048x3072, .f32⟩
  | .hbm, ⟨15, _⟩ => ⟨S_, .f32⟩
  | .hbm, ⟨16, _⟩ => ⟨S2x2048x3072, .f32⟩
  | .hbm, ⟨17, _⟩ => ⟨S2x2048x3072, .f32⟩
  | .hbm, ⟨18, _⟩ => ⟨S2x2048x3072, .f32⟩
  | .hbm, ⟨19, _⟩ => ⟨S_, .f32⟩
  | .hbm, ⟨20, _⟩ => ⟨S2x2048x3072, .f32⟩
  | .hbm, ⟨21, _⟩ => ⟨S2x2048x3072, .f32⟩
  | .hbm, ⟨22, _⟩ => ⟨S_, .f32⟩
  | .hbm, ⟨23, _⟩ => ⟨S2x2048x3072, .f32⟩
  | .hbm, ⟨24, _⟩ => ⟨S2x2048x3072, .f32⟩
  | .hbm, ⟨25, _⟩ => ⟨S2x2048x3072, .f32⟩
  | .hbm, ⟨26, _⟩ => ⟨S_, .f32⟩
  | .hbm, ⟨27, _⟩ => ⟨S2x2048x3072, .f32⟩
  | .hbm, ⟨28, _⟩ => ⟨S2x2048x3072, .f32⟩
  | .hbm, ⟨29, _⟩ => ⟨S2x2048x3072, .f32⟩
  | .hbm, ⟨30, _⟩ => ⟨S_, .f32⟩
  | .hbm, ⟨31, _⟩ => ⟨S2x2048x3072, .f32⟩
  | .hbm, ⟨32, _⟩ => ⟨S2x2048x3072, .f32⟩
  | .hbm, ⟨33, _⟩ => ⟨S2x2048x3072, .f32⟩
  | .hbm, ⟨34, _⟩ => ⟨S_, .f32⟩
  | .hbm, ⟨35, _⟩ => ⟨S2x2048x3072, .f32⟩
  | .hbm, ⟨36, _⟩ => ⟨S2x2048x3072, .f32⟩
  | _, _ => ⟨S2x2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdBada.lean ====
abbrev S1x2x12288 : Shape := ⟨3, ![1, 2, 12288]⟩
abbrev S2x12288 : Shape := ⟨2, ![2, 12288]⟩

abbrev nBuf : Space → Nat
  | .hbm => 8
  | .vmem => 8
  | .smem => 0
  | _ => 0

abbrev bufTy : (tb : Table) → Fin (tcTables nBuf tb) → BufTy
  | .hbm, ⟨0, _⟩ => ⟨S1x2x12288, .f32⟩
  | .hbm, ⟨1, _⟩ => ⟨S1x2x12288, .f32⟩
  | .hbm, ⟨2, _⟩ => ⟨S1x2x12288, .f32⟩
  | .hbm, ⟨3, _⟩ => ⟨S1x2x12288, .f32⟩
  | .hbm, ⟨4, _⟩ => ⟨S1x2x12288, .f32⟩
  | .hbm, ⟨5, _⟩ => ⟨S1x2x12288, .f32⟩
  | .hbm, ⟨6, _⟩ => ⟨S1x2x12288, .f32⟩
  | .hbm, ⟨7, _⟩ => ⟨S1x2x12288, .f32⟩
  | .local _ .vmem, ⟨0, _⟩ => ⟨S1x2x12288, .f32⟩
  | .local _ .vmem, ⟨1, _⟩ => ⟨S1x2x12288, .f32⟩
  | .local _ .vmem, ⟨2, _⟩ => ⟨S1x2x12288, .f32⟩
  | .local _ .vmem, ⟨3, _⟩ => ⟨S1x2x12288, .f32⟩
  | .local _ .vmem, ⟨4, _⟩ => ⟨S1x2x12288, .f32⟩
  | .local _ .vmem, ⟨5, _⟩ => ⟨S1x2x12288, .f32⟩
  | .local _ .vmem, ⟨6, _⟩ => ⟨S1x2x12288, .f32⟩
  | .local _ .vmem, ⟨7, _⟩ => ⟨S1x2x12288, .f32⟩
  | _, _ => ⟨S1x2x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x2x12288 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x2x12288 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x2x12288 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x2x12288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x2x12288 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x2x12288 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x2x12288 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x2x12288 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdBadaIdeal.lean ====
abbrev S1x2x12288 : Shape := ⟨3, ![1, 2, 12288]⟩
abbrev S2x12288 : Shape := ⟨2, ![2, 12288]⟩

abbrev nBuf : Space → Nat
  | .hbm => 8
  | .vmem => 8
  | .smem => 0
  | _ => 0

abbrev bufTy : (tb : Table) → Fin (tcTables nBuf tb) → BufTy
  | .hbm, ⟨0, _⟩ => ⟨S1x2x12288, .f32⟩
  | .hbm, ⟨1, _⟩ => ⟨S1x2x12288, .f32⟩
  | .hbm, ⟨2, _⟩ => ⟨S1x2x12288, .f32⟩
  | .hbm, ⟨3, _⟩ => ⟨S1x2x12288, .f32⟩
  | .hbm, ⟨4, _⟩ => ⟨S1x2x12288, .f32⟩
  | .hbm, ⟨5, _⟩ => ⟨S1x2x12288, .f32⟩
  | .hbm, ⟨6, _⟩ => ⟨S1x2x12288, .f32⟩
  | .hbm, ⟨7, _⟩ => ⟨S1x2x12288, .f32⟩
  | .local _ .vmem, ⟨0, _⟩ => ⟨S1x2x12288, .f32⟩
  | .local _ .vmem, ⟨1, _⟩ => ⟨S1x2x12288, .f32⟩
  | .local _ .vmem, ⟨2, _⟩ => ⟨S1x2x12288, .f32⟩
  | .local _ .vmem, ⟨3, _⟩ => ⟨S1x2x12288, .f32⟩
  | .local _ .vmem, ⟨4, _⟩ => ⟨S1x2x12288, .f32⟩
  | .local _ .vmem, ⟨5, _⟩ => ⟨S1x2x12288, .f32⟩
  | .local _ .vmem, ⟨6, _⟩ => ⟨S1x2x12288, .f32⟩
  | .local _ .vmem, ⟨7, _⟩ => ⟨S1x2x12288, .f32⟩
  | _, _ => ⟨S1x2x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x2x12288 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x2x12288 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x2x12288 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x2x12288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x2x12288 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x2x12288 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x2x12288 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x2x12288 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== RefAdBadaIdeal.lean ====
abbrev S1x2x12288 : Shape := ⟨3, ![1, 2, 12288]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x2x12288, .f32⟩
  | .hbm, ⟨1, _⟩ => ⟨S1x2x12288, .f32⟩
  | .hbm, ⟨2, _⟩ => ⟨S1x2x12288, .f32⟩
  | .hbm, ⟨3, _⟩ => ⟨S1x2x12288, .f32⟩
  | .hbm, ⟨4, _⟩ => ⟨S_, .f32⟩
  | .hbm, ⟨5, _⟩ => ⟨S1x2x12288, .f32⟩
  | .hbm, ⟨6, _⟩ => ⟨S1x2x12288, .f32⟩
  | .hbm, ⟨7, _⟩ => ⟨S_, .f32⟩
  | .hbm, ⟨8, _⟩ => ⟨S1x2x12288, .f32⟩
  | .hbm, ⟨9, _⟩ => ⟨S1x2x12288, .f32⟩
  | .hbm, ⟨10, _⟩ => ⟨S1x2x12288, .f32⟩
  | .hbm, ⟨11, _⟩ => ⟨S_, .f32⟩
  | .hbm, ⟨12, _⟩ => ⟨S1x2x12288, .f32⟩
  | .hbm, ⟨13, _⟩ => ⟨S1x2x12288, .f32⟩
  | .hbm, ⟨14, _⟩ => ⟨S1x2x12288, .f32⟩
  | .hbm, ⟨15, _⟩ => ⟨S_, .f32⟩
  | .hbm, ⟨16, _⟩ => ⟨S1x2x12288, .f32⟩
  | .hbm, ⟨17, _⟩ => ⟨S1x2x12288, .f32⟩
  | .hbm, ⟨18, _⟩ => ⟨S1x2x12288, .f32⟩
  | .hbm, ⟨19, _⟩ => ⟨S_, .f32⟩
  | .hbm, ⟨20, _⟩ => ⟨S1x2x12288, .f32⟩
  | .hbm, ⟨21, _⟩ => ⟨S1x2x12288, .f32⟩
  | .hbm, ⟨22, _⟩ => ⟨S_, .f32⟩
  | .hbm, ⟨23, _⟩ => ⟨S1x2x12288, .f32⟩
  | .hbm, ⟨24, _⟩ => ⟨S1x2x12288, .f32⟩
  | .hbm, ⟨25, _⟩ => ⟨S1x2x12288, .f32⟩
  | .hbm, ⟨26, _⟩ => ⟨S_, .f32⟩
  | .hbm, ⟨27, _⟩ => ⟨S1x2x12288, .f32⟩
  | .hbm, ⟨28, _⟩ => ⟨S1x2x12288, .f32⟩
  | .hbm, ⟨29, _⟩ => ⟨S1x2x12288, .f32⟩
  | .hbm, ⟨30, _⟩ => ⟨S_, .f32⟩
  | .hbm, ⟨31, _⟩ => ⟨S1x2x12288, .f32⟩
  | .hbm, ⟨32, _⟩ => ⟨S1x2x12288, .f32⟩
  | .hbm, ⟨33, _⟩ => ⟨S1x2x12288, .f32⟩
  | .hbm, ⟨34, _⟩ => ⟨S_, .f32⟩
  | .hbm, ⟨35, _⟩ => ⟨S1x2x12288, .f32⟩
  | .hbm, ⟨36, _⟩ => ⟨S1x2x12288, .f32⟩
  | _, _ => ⟨S1x2x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdNorm.lean ====
abbrev S2x4x512 : Shape := ⟨3, ![2, 4, 512]⟩
abbrev S1x4x512 : Shape := ⟨3, ![1, 4, 512]⟩
abbrev S4x512 : Shape := ⟨2, ![4, 512]⟩

abbrev nBuf : Space → Nat
  | .hbm => 8
  | .vmem => 16
  | .smem => 0
  | _ => 0

abbrev bufTy : (tb : Table) → Fin (tcTables nBuf tb) → BufTy
  | .hbm, ⟨0, _⟩ => ⟨S2x4x512, .f32⟩
  | .hbm, ⟨1, _⟩ => ⟨S2x4x512, .f32⟩
  | .hbm, ⟨2, _⟩ => ⟨S2x4x512, .f32⟩
  | .hbm, ⟨3, _⟩ => ⟨S2x4x512, .f32⟩
  | .hbm, ⟨4, _⟩ => ⟨S2x4x512, .f32⟩
  | .hbm, ⟨5, _⟩ => ⟨S2x4x512, .f32⟩
  | .hbm, ⟨6, _⟩ => ⟨S2x4x512, .f32⟩
  | .hbm, ⟨7, _⟩ => ⟨S2x4x512, .f32⟩
  | .local _ .vmem, ⟨0, _⟩ => ⟨S1x4x512, .f32⟩
  | .local _ .vmem, ⟨1, _⟩ => ⟨S1x4x512, .f32⟩
  | .local _ .vmem, ⟨2, _⟩ => ⟨S1x4x512, .f32⟩
  | .local _ .vmem, ⟨3, _⟩ => ⟨S1x4x512, .f32⟩
  | .local _ .vmem, ⟨4, _⟩ => ⟨S1x4x512, .f32⟩
  | .local _ .vmem, ⟨5, _⟩ => ⟨S1x4x512, .f32⟩
  | .local _ .vmem, ⟨6, _⟩ => ⟨S1x4x512, .f32⟩
  | .local _ .vmem, ⟨7, _⟩ => ⟨S1x4x512, .f32⟩
  | .local _ .vmem, ⟨8, _⟩ => ⟨S1x4x512, .f32⟩
  | .local _ .vmem, ⟨9, _⟩ => ⟨S1x4x512, .f32⟩
  | .local _ .vmem, ⟨10, _⟩ => ⟨S1x4x512, .f32⟩
  | .local _ .vmem, ⟨11, _⟩ => ⟨S1x4x512, .f32⟩
  | .local _ .vmem, ⟨12, _⟩ => ⟨S1x4x512, .f32⟩
  | .local _ .vmem, ⟨13, _⟩ => ⟨S1x4x512, .f32⟩
  | .local _ .vmem, ⟨14, _⟩ => ⟨S1x4x512, .f32⟩
  | .local _ .vmem, ⟨15, _⟩ => ⟨S1x4x512, .f32⟩
  | _, _ => ⟨S2x4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdNormIdeal.lean ====
abbrev S2x4x512 : Shape := ⟨3, ![2, 4, 512]⟩
abbrev S1x4x512 : Shape := ⟨3, ![1, 4, 512]⟩
abbrev S4x512 : Shape := ⟨2, ![4, 512]⟩

abbrev nBuf : Space → Nat
  | .hbm => 8
  | .vmem => 16
  | .smem => 0
  | _ => 0

abbrev bufTy : (tb : Table) → Fin (tcTables nBuf tb) → BufTy
  | .hbm, ⟨0, _⟩ => ⟨S2x4x512, .f32⟩
  | .hbm, ⟨1, _⟩ => ⟨S2x4x512, .f32⟩
  | .hbm, ⟨2, _⟩ => ⟨S2x4x512, .f32⟩
  | .hbm, ⟨3, _⟩ => ⟨S2x4x512, .f32⟩
  | .hbm, ⟨4, _⟩ => ⟨S2x4x512, .f32⟩
  | .hbm, ⟨5, _⟩ => ⟨S2x4x512, .f32⟩
  | .hbm, ⟨6, _⟩ => ⟨S2x4x512, .f32⟩
  | .hbm, ⟨7, _⟩ => ⟨S2x4x512, .f32⟩
  | .local _ .vmem, ⟨0, _⟩ => ⟨S1x4x512, .f32⟩
  | .local _ .vmem, ⟨1, _⟩ => ⟨S1x4x512, .f32⟩
  | .local _ .vmem, ⟨2, _⟩ => ⟨S1x4x512, .f32⟩
  | .local _ .vmem, ⟨3, _⟩ => ⟨S1x4x512, .f32⟩
  | .local _ .vmem, ⟨4, _⟩ => ⟨S1x4x512, .f32⟩
  | .local _ .vmem, ⟨5, _⟩ => ⟨S1x4x512, .f32⟩
  | .local _ .vmem, ⟨6, _⟩ => ⟨S1x4x512, .f32⟩
  | .local _ .vmem, ⟨7, _⟩ => ⟨S1x4x512, .f32⟩
  | .local _ .vmem, ⟨8, _⟩ => ⟨S1x4x512, .f32⟩
  | .local _ .vmem, ⟨9, _⟩ => ⟨S1x4x512, .f32⟩
  | .local _ .vmem, ⟨10, _⟩ => ⟨S1x4x512, .f32⟩
  | .local _ .vmem, ⟨11, _⟩ => ⟨S1x4x512, .f32⟩
  | .local _ .vmem, ⟨12, _⟩ => ⟨S1x4x512, .f32⟩
  | .local _ .vmem, ⟨13, _⟩ => ⟨S1x4x512, .f32⟩
  | .local _ .vmem, ⟨14, _⟩ => ⟨S1x4x512, .f32⟩
  | .local _ .vmem, ⟨15, _⟩ => ⟨S1x4x512, .f32⟩
  | _, _ => ⟨S2x4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== RefAdNormIdeal.lean ====
abbrev S2x4x512 : Shape := ⟨3, ![2, 4, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x4x512, .f32⟩
  | .hbm, ⟨1, _⟩ => ⟨S2x4x512, .f32⟩
  | .hbm, ⟨2, _⟩ => ⟨S2x4x512, .f32⟩
  | .hbm, ⟨3, _⟩ => ⟨S2x4x512, .f32⟩
  | .hbm, ⟨4, _⟩ => ⟨S_, .f32⟩
  | .hbm, ⟨5, _⟩ => ⟨S2x4x512, .f32⟩
  | .hbm, ⟨6, _⟩ => ⟨S2x4x512, .f32⟩
  | .hbm, ⟨7, _⟩ => ⟨S_, .f32⟩
  | .hbm, ⟨8, _⟩ => ⟨S2x4x512, .f32⟩
  | .hbm, ⟨9, _⟩ => ⟨S2x4x512, .f32⟩
  | .hbm, ⟨10, _⟩ => ⟨S2x4x512, .f32⟩
  | .hbm, ⟨11, _⟩ => ⟨S_, .f32⟩
  | .hbm, ⟨12, _⟩ => ⟨S2x4x512, .f32⟩
  | .hbm, ⟨13, _⟩ => ⟨S2x4x512, .f32⟩
  | .hbm, ⟨14, _⟩ => ⟨S2x4x512, .f32⟩
  | .hbm, ⟨15, _⟩ => ⟨S_, .f32⟩
  | .hbm, ⟨16, _⟩ => ⟨S2x4x512, .f32⟩
  | .hbm, ⟨17, _⟩ => ⟨S2x4x512, .f32⟩
  | .hbm, ⟨18, _⟩ => ⟨S2x4x512, .f32⟩
  | .hbm, ⟨19, _⟩ => ⟨S_, .f32⟩
  | .hbm, ⟨20, _⟩ => ⟨S2x4x512, .f32⟩
  | .hbm, ⟨21, _⟩ => ⟨S2x4x512, .f32⟩
  | .hbm, ⟨22, _⟩ => ⟨S_, .f32⟩
  | .hbm, ⟨23, _⟩ => ⟨S2x4x512, .f32⟩
  | .hbm, ⟨24, _⟩ => ⟨S2x4x512, .f32⟩
  | .hbm, ⟨25, _⟩ => ⟨S2x4x512, .f32⟩
  | .hbm, ⟨26, _⟩ => ⟨S_, .f32⟩
  | .hbm, ⟨27, _⟩ => ⟨S2x4x512, .f32⟩
  | .hbm, ⟨28, _⟩ => ⟨S2x4x512, .f32⟩
  | .hbm, ⟨29, _⟩ => ⟨S2x4x512, .f32⟩
  | .hbm, ⟨30, _⟩ => ⟨S_, .f32⟩
  | .hbm, ⟨31, _⟩ => ⟨S2x4x512, .f32⟩
  | .hbm, ⟨32, _⟩ => ⟨S2x4x512, .f32⟩
  | .hbm, ⟨33, _⟩ => ⟨S2x4x512, .f32⟩
  | .hbm, ⟨34, _⟩ => ⟨S_, .f32⟩
  | .hbm, ⟨35, _⟩ => ⟨S2x4x512, .f32⟩
  | .hbm, ⟨36, _⟩ => ⟨S2x4x512, .f32⟩
  | _, _ => ⟨S2x4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdWa.lean ====
abbrev S2x16x128 : Shape := ⟨3, ![2, 16, 128]⟩
abbrev S1x16x128 : Shape := ⟨3, ![1, 16, 128]⟩
abbrev S16x128 : Shape := ⟨2, ![16, 128]⟩

abbrev nBuf : Space → Nat
  | .hbm => 8
  | .vmem => 16
  | .smem => 0
  | _ => 0

abbrev bufTy : (tb : Table) → Fin (tcTables nBuf tb) → BufTy
  | .hbm, ⟨0, _⟩ => ⟨S2x16x128, .f32⟩
  | .hbm, ⟨1, _⟩ => ⟨S2x16x128, .f32⟩
  | .hbm, ⟨2, _⟩ => ⟨S2x16x128, .f32⟩
  | .hbm, ⟨3, _⟩ => ⟨S2x16x128, .f32⟩
  | .hbm, ⟨4, _⟩ => ⟨S2x16x128, .f32⟩
  | .hbm, ⟨5, _⟩ => ⟨S2x16x128, .f32⟩
  | .hbm, ⟨6, _⟩ => ⟨S2x16x128, .f32⟩
  | .hbm, ⟨7, _⟩ => ⟨S2x16x128, .f32⟩
  | .local _ .vmem, ⟨0, _⟩ => ⟨S1x16x128, .f32⟩
  | .local _ .vmem, ⟨1, _⟩ => ⟨S1x16x128, .f32⟩
  | .local _ .vmem, ⟨2, _⟩ => ⟨S1x16x128, .f32⟩
  | .local _ .vmem, ⟨3, _⟩ => ⟨S1x16x128, .f32⟩
  | .local _ .vmem, ⟨4, _⟩ => ⟨S1x16x128, .f32⟩
  | .local _ .vmem, ⟨5, _⟩ => ⟨S1x16x128, .f32⟩
  | .local _ .vmem, ⟨6, _⟩ => ⟨S1x16x128, .f32⟩
  | .local _ .vmem, ⟨7, _⟩ => ⟨S1x16x128, .f32⟩
  | .local _ .vmem, ⟨8, _⟩ => ⟨S1x16x128, .f32⟩
  | .local _ .vmem, ⟨9, _⟩ => ⟨S1x16x128, .f32⟩
  | .local _ .vmem, ⟨10, _⟩ => ⟨S1x16x128, .f32⟩
  | .local _ .vmem, ⟨11, _⟩ => ⟨S1x16x128, .f32⟩
  | .local _ .vmem, ⟨12, _⟩ => ⟨S1x16x128, .f32⟩
  | .local _ .vmem, ⟨13, _⟩ => ⟨S1x16x128, .f32⟩
  | .local _ .vmem, ⟨14, _⟩ => ⟨S1x16x128, .f32⟩
  | .local _ .vmem, ⟨15, _⟩ => ⟨S1x16x128, .f32⟩
  | _, _ => ⟨S2x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdWaIdeal.lean ====
abbrev S2x16x128 : Shape := ⟨3, ![2, 16, 128]⟩
abbrev S1x16x128 : Shape := ⟨3, ![1, 16, 128]⟩
abbrev S16x128 : Shape := ⟨2, ![16, 128]⟩

abbrev nBuf : Space → Nat
  | .hbm => 8
  | .vmem => 16
  | .smem => 0
  | _ => 0

abbrev bufTy : (tb : Table) → Fin (tcTables nBuf tb) → BufTy
  | .hbm, ⟨0, _⟩ => ⟨S2x16x128, .f32⟩
  | .hbm, ⟨1, _⟩ => ⟨S2x16x128, .f32⟩
  | .hbm, ⟨2, _⟩ => ⟨S2x16x128, .f32⟩
  | .hbm, ⟨3, _⟩ => ⟨S2x16x128, .f32⟩
  | .hbm, ⟨4, _⟩ => ⟨S2x16x128, .f32⟩
  | .hbm, ⟨5, _⟩ => ⟨S2x16x128, .f32⟩
  | .hbm, ⟨6, _⟩ => ⟨S2x16x128, .f32⟩
  | .hbm, ⟨7, _⟩ => ⟨S2x16x128, .f32⟩
  | .local _ .vmem, ⟨0, _⟩ => ⟨S1x16x128, .f32⟩
  | .local _ .vmem, ⟨1, _⟩ => ⟨S1x16x128, .f32⟩
  | .local _ .vmem, ⟨2, _⟩ => ⟨S1x16x128, .f32⟩
  | .local _ .vmem, ⟨3, _⟩ => ⟨S1x16x128, .f32⟩
  | .local _ .vmem, ⟨4, _⟩ => ⟨S1x16x128, .f32⟩
  | .local _ .vmem, ⟨5, _⟩ => ⟨S1x16x128, .f32⟩
  | .local _ .vmem, ⟨6, _⟩ => ⟨S1x16x128, .f32⟩
  | .local _ .vmem, ⟨7, _⟩ => ⟨S1x16x128, .f32⟩
  | .local _ .vmem, ⟨8, _⟩ => ⟨S1x16x128, .f32⟩
  | .local _ .vmem, ⟨9, _⟩ => ⟨S1x16x128, .f32⟩
  | .local _ .vmem, ⟨10, _⟩ => ⟨S1x16x128, .f32⟩
  | .local _ .vmem, ⟨11, _⟩ => ⟨S1x16x128, .f32⟩
  | .local _ .vmem, ⟨12, _⟩ => ⟨S1x16x128, .f32⟩
  | .local _ .vmem, ⟨13, _⟩ => ⟨S1x16x128, .f32⟩
  | .local _ .vmem, ⟨14, _⟩ => ⟨S1x16x128, .f32⟩
  | .local _ .vmem, ⟨15, _⟩ => ⟨S1x16x128, .f32⟩
  | _, _ => ⟨S2x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== RefAdWaIdeal.lean ====
abbrev S2x16x128 : Shape := ⟨3, ![2, 16, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x16x128, .f32⟩
  | .hbm, ⟨1, _⟩ => ⟨S2x16x128, .f32⟩
  | .hbm, ⟨2, _⟩ => ⟨S2x16x128, .f32⟩
  | .hbm, ⟨3, _⟩ => ⟨S2x16x128, .f32⟩
  | .hbm, ⟨4, _⟩ => ⟨S_, .f32⟩
  | .hbm, ⟨5, _⟩ => ⟨S2x16x128, .f32⟩
  | .hbm, ⟨6, _⟩ => ⟨S2x16x128, .f32⟩
  | .hbm, ⟨7, _⟩ => ⟨S_, .f32⟩
  | .hbm, ⟨8, _⟩ => ⟨S2x16x128, .f32⟩
  | .hbm, ⟨9, _⟩ => ⟨S2x16x128, .f32⟩
  | .hbm, ⟨10, _⟩ => ⟨S2x16x128, .f32⟩
  | .hbm, ⟨11, _⟩ => ⟨S_, .f32⟩
  | .hbm, ⟨12, _⟩ => ⟨S2x16x128, .f32⟩
  | .hbm, ⟨13, _⟩ => ⟨S2x16x128, .f32⟩
  | .hbm, ⟨14, _⟩ => ⟨S2x16x128, .f32⟩
  | .hbm, ⟨15, _⟩ => ⟨S_, .f32⟩
  | .hbm, ⟨16, _⟩ => ⟨S2x16x128, .f32⟩
  | .hbm, ⟨17, _⟩ => ⟨S2x16x128, .f32⟩
  | .hbm, ⟨18, _⟩ => ⟨S2x16x128, .f32⟩
  | .hbm, ⟨19, _⟩ => ⟨S_, .f32⟩
  | .hbm, ⟨20, _⟩ => ⟨S2x16x128, .f32⟩
  | .hbm, ⟨21, _⟩ => ⟨S2x16x128, .f32⟩
  | .hbm, ⟨22, _⟩ => ⟨S_, .f32⟩
  | .hbm, ⟨23, _⟩ => ⟨S2x16x128, .f32⟩
  | .hbm, ⟨24, _⟩ => ⟨S2x16x128, .f32⟩
  | .hbm, ⟨25, _⟩ => ⟨S2x16x128, .f32⟩
  | .hbm, ⟨26, _⟩ => ⟨S_, .f32⟩
  | .hbm, ⟨27, _⟩ => ⟨S2x16x128, .f32⟩
  | .hbm, ⟨28, _⟩ => ⟨S2x16x128, .f32⟩
  | .hbm, ⟨29, _⟩ => ⟨S2x16x128, .f32⟩
  | .hbm, ⟨30, _⟩ => ⟨S_, .f32⟩
  | .hbm, ⟨31, _⟩ => ⟨S2x16x128, .f32⟩
  | .hbm, ⟨32, _⟩ => ⟨S2x16x128, .f32⟩
  | .hbm, ⟨33, _⟩ => ⟨S2x16x128, .f32⟩
  | .hbm, ⟨34, _⟩ => ⟨S_, .f32⟩
  | .hbm, ⟨35, _⟩ => ⟨S2x16x128, .f32⟩
  | .hbm, ⟨36, _⟩ => ⟨S2x16x128, .f32⟩
  | _, _ => ⟨S2x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdBa.lean ====
abbrev S1x2x512 : Shape := ⟨3, ![1, 2, 512]⟩
abbrev S2x512 : Shape := ⟨2, ![2, 512]⟩

abbrev nBuf : Space → Nat
  | .hbm => 8
  | .vmem => 8
  | .smem => 0
  | _ => 0

abbrev bufTy : (tb : Table) → Fin (tcTables nBuf tb) → BufTy
  | .hbm, ⟨0, _⟩ => ⟨S1x2x512, .f32⟩
  | .hbm, ⟨1, _⟩ => ⟨S1x2x512, .f32⟩
  | .hbm, ⟨2, _⟩ => ⟨S1x2x512, .f32⟩
  | .hbm, ⟨3, _⟩ => ⟨S1x2x512, .f32⟩
  | .hbm, ⟨4, _⟩ => ⟨S1x2x512, .f32⟩
  | .hbm, ⟨5, _⟩ => ⟨S1x2x512, .f32⟩
  | .hbm, ⟨6, _⟩ => ⟨S1x2x512, .f32⟩
  | .hbm, ⟨7, _⟩ => ⟨S1x2x512, .f32⟩
  | .local _ .vmem, ⟨0, _⟩ => ⟨S1x2x512, .f32⟩
  | .local _ .vmem, ⟨1, _⟩ => ⟨S1x2x512, .f32⟩
  | .local _ .vmem, ⟨2, _⟩ => ⟨S1x2x512, .f32⟩
  | .local _ .vmem, ⟨3, _⟩ => ⟨S1x2x512, .f32⟩
  | .local _ .vmem, ⟨4, _⟩ => ⟨S1x2x512, .f32⟩
  | .local _ .vmem, ⟨5, _⟩ => ⟨S1x2x512, .f32⟩
  | .local _ .vmem, ⟨6, _⟩ => ⟨S1x2x512, .f32⟩
  | .local _ .vmem, ⟨7, _⟩ => ⟨S1x2x512, .f32⟩
  | _, _ => ⟨S1x2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x2x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdBaIdeal.lean ====
abbrev S1x2x512 : Shape := ⟨3, ![1, 2, 512]⟩
abbrev S2x512 : Shape := ⟨2, ![2, 512]⟩

abbrev nBuf : Space → Nat
  | .hbm => 8
  | .vmem => 8
  | .smem => 0
  | _ => 0

abbrev bufTy : (tb : Table) → Fin (tcTables nBuf tb) → BufTy
  | .hbm, ⟨0, _⟩ => ⟨S1x2x512, .f32⟩
  | .hbm, ⟨1, _⟩ => ⟨S1x2x512, .f32⟩
  | .hbm, ⟨2, _⟩ => ⟨S1x2x512, .f32⟩
  | .hbm, ⟨3, _⟩ => ⟨S1x2x512, .f32⟩
  | .hbm, ⟨4, _⟩ => ⟨S1x2x512, .f32⟩
  | .hbm, ⟨5, _⟩ => ⟨S1x2x512, .f32⟩
  | .hbm, ⟨6, _⟩ => ⟨S1x2x512, .f32⟩
  | .hbm, ⟨7, _⟩ => ⟨S1x2x512, .f32⟩
  | .local _ .vmem, ⟨0, _⟩ => ⟨S1x2x512, .f32⟩
  | .local _ .vmem, ⟨1, _⟩ => ⟨S1x2x512, .f32⟩
  | .local _ .vmem, ⟨2, _⟩ => ⟨S1x2x512, .f32⟩
  | .local _ .vmem, ⟨3, _⟩ => ⟨S1x2x512, .f32⟩
  | .local _ .vmem, ⟨4, _⟩ => ⟨S1x2x512, .f32⟩
  | .local _ .vmem, ⟨5, _⟩ => ⟨S1x2x512, .f32⟩
  | .local _ .vmem, ⟨6, _⟩ => ⟨S1x2x512, .f32⟩
  | .local _ .vmem, ⟨7, _⟩ => ⟨S1x2x512, .f32⟩
  | _, _ => ⟨S1x2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x2x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== RefAdBaIdeal.lean ====
abbrev S1x2x512 : Shape := ⟨3, ![1, 2, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x2x512, .f32⟩
  | .hbm, ⟨1, _⟩ => ⟨S1x2x512, .f32⟩
  | .hbm, ⟨2, _⟩ => ⟨S1x2x512, .f32⟩
  | .hbm, ⟨3, _⟩ => ⟨S1x2x512, .f32⟩
  | .hbm, ⟨4, _⟩ => ⟨S_, .f32⟩
  | .hbm, ⟨5, _⟩ => ⟨S1x2x512, .f32⟩
  | .hbm, ⟨6, _⟩ => ⟨S1x2x512, .f32⟩
  | .hbm, ⟨7, _⟩ => ⟨S_, .f32⟩
  | .hbm, ⟨8, _⟩ => ⟨S1x2x512, .f32⟩
  | .hbm, ⟨9, _⟩ => ⟨S1x2x512, .f32⟩
  | .hbm, ⟨10, _⟩ => ⟨S1x2x512, .f32⟩
  | .hbm, ⟨11, _⟩ => ⟨S_, .f32⟩
  | .hbm, ⟨12, _⟩ => ⟨S1x2x512, .f32⟩
  | .hbm, ⟨13, _⟩ => ⟨S1x2x512, .f32⟩
  | .hbm, ⟨14, _⟩ => ⟨S1x2x512, .f32⟩
  | .hbm, ⟨15, _⟩ => ⟨S_, .f32⟩
  | .hbm, ⟨16, _⟩ => ⟨S1x2x512, .f32⟩
  | .hbm, ⟨17, _⟩ => ⟨S1x2x512, .f32⟩
  | .hbm, ⟨18, _⟩ => ⟨S1x2x512, .f32⟩
  | .hbm, ⟨19, _⟩ => ⟨S_, .f32⟩
  | .hbm, ⟨20, _⟩ => ⟨S1x2x512, .f32⟩
  | .hbm, ⟨21, _⟩ => ⟨S1x2x512, .f32⟩
  | .hbm, ⟨22, _⟩ => ⟨S_, .f32⟩
  | .hbm, ⟨23, _⟩ => ⟨S1x2x512, .f32⟩
  | .hbm, ⟨24, _⟩ => ⟨S1x2x512, .f32⟩
  | .hbm, ⟨25, _⟩ => ⟨S1x2x512, .f32⟩
  | .hbm, ⟨26, _⟩ => ⟨S_, .f32⟩
  | .hbm, ⟨27, _⟩ => ⟨S1x2x512, .f32⟩
  | .hbm, ⟨28, _⟩ => ⟨S1x2x512, .f32⟩
  | .hbm, ⟨29, _⟩ => ⟨S1x2x512, .f32⟩
  | .hbm, ⟨30, _⟩ => ⟨S_, .f32⟩
  | .hbm, ⟨31, _⟩ => ⟨S1x2x512, .f32⟩
  | .hbm, ⟨32, _⟩ => ⟨S1x2x512, .f32⟩
  | .hbm, ⟨33, _⟩ => ⟨S1x2x512, .f32⟩
  | .hbm, ⟨34, _⟩ => ⟨S_, .f32⟩
  | .hbm, ⟨35, _⟩ => ⟨S1x2x512, .f32⟩
  | .hbm, ⟨36, _⟩ => ⟨S1x2x512, .f32⟩
  | _, _ => ⟨S1x2x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdGn.lean ====
abbrev S1x2x256 : Shape := ⟨3, ![1, 2, 256]⟩
abbrev S2x256 : Shape := ⟨2, ![2, 256]⟩

abbrev nBuf : Space → Nat
  | .hbm => 8
  | .vmem => 8
  | .smem => 0
  | _ => 0

abbrev bufTy : (tb : Table) → Fin (tcTables nBuf tb) → BufTy
  | .hbm, ⟨0, _⟩ => ⟨S1x2x256, .f32⟩
  | .hbm, ⟨1, _⟩ => ⟨S1x2x256, .f32⟩
  | .hbm, ⟨2, _⟩ => ⟨S1x2x256, .f32⟩
  | .hbm, ⟨3, _⟩ => ⟨S1x2x256, .f32⟩
  | .hbm, ⟨4, _⟩ => ⟨S1x2x256, .f32⟩
  | .hbm, ⟨5, _⟩ => ⟨S1x2x256, .f32⟩
  | .hbm, ⟨6, _⟩ => ⟨S1x2x256, .f32⟩
  | .hbm, ⟨7, _⟩ => ⟨S1x2x256, .f32⟩
  | .local _ .vmem, ⟨0, _⟩ => ⟨S1x2x256, .f32⟩
  | .local _ .vmem, ⟨1, _⟩ => ⟨S1x2x256, .f32⟩
  | .local _ .vmem, ⟨2, _⟩ => ⟨S1x2x256, .f32⟩
  | .local _ .vmem, ⟨3, _⟩ => ⟨S1x2x256, .f32⟩
  | .local _ .vmem, ⟨4, _⟩ => ⟨S1x2x256, .f32⟩
  | .local _ .vmem, ⟨5, _⟩ => ⟨S1x2x256, .f32⟩
  | .local _ .vmem, ⟨6, _⟩ => ⟨S1x2x256, .f32⟩
  | .local _ .vmem, ⟨7, _⟩ => ⟨S1x2x256, .f32⟩
  | _, _ => ⟨S1x2x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x2x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x2x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x2x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x2x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x2x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x2x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x2x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x2x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdGnIdeal.lean ====
abbrev S1x2x256 : Shape := ⟨3, ![1, 2, 256]⟩
abbrev S2x256 : Shape := ⟨2, ![2, 256]⟩

abbrev nBuf : Space → Nat
  | .hbm => 8
  | .vmem => 8
  | .smem => 0
  | _ => 0

abbrev bufTy : (tb : Table) → Fin (tcTables nBuf tb) → BufTy
  | .hbm, ⟨0, _⟩ => ⟨S1x2x256, .f32⟩
  | .hbm, ⟨1, _⟩ => ⟨S1x2x256, .f32⟩
  | .hbm, ⟨2, _⟩ => ⟨S1x2x256, .f32⟩
  | .hbm, ⟨3, _⟩ => ⟨S1x2x256, .f32⟩
  | .hbm, ⟨4, _⟩ => ⟨S1x2x256, .f32⟩
  | .hbm, ⟨5, _⟩ => ⟨S1x2x256, .f32⟩
  | .hbm, ⟨6, _⟩ => ⟨S1x2x256, .f32⟩
  | .hbm, ⟨7, _⟩ => ⟨S1x2x256, .f32⟩
  | .local _ .vmem, ⟨0, _⟩ => ⟨S1x2x256, .f32⟩
  | .local _ .vmem, ⟨1, _⟩ => ⟨S1x2x256, .f32⟩
  | .local _ .vmem, ⟨2, _⟩ => ⟨S1x2x256, .f32⟩
  | .local _ .vmem, ⟨3, _⟩ => ⟨S1x2x256, .f32⟩
  | .local _ .vmem, ⟨4, _⟩ => ⟨S1x2x256, .f32⟩
  | .local _ .vmem, ⟨5, _⟩ => ⟨S1x2x256, .f32⟩
  | .local _ .vmem, ⟨6, _⟩ => ⟨S1x2x256, .f32⟩
  | .local _ .vmem, ⟨7, _⟩ => ⟨S1x2x256, .f32⟩
  | _, _ => ⟨S1x2x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x2x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x2x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x2x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x2x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x2x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x2x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x2x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x2x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== RefAdGnIdeal.lean ====
abbrev S1x2x256 : Shape := ⟨3, ![1, 2, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x2x256, .f32⟩
  | .hbm, ⟨1, _⟩ => ⟨S1x2x256, .f32⟩
  | .hbm, ⟨2, _⟩ => ⟨S1x2x256, .f32⟩
  | .hbm, ⟨3, _⟩ => ⟨S1x2x256, .f32⟩
  | .hbm, ⟨4, _⟩ => ⟨S_, .f32⟩
  | .hbm, ⟨5, _⟩ => ⟨S1x2x256, .f32⟩
  | .hbm, ⟨6, _⟩ => ⟨S1x2x256, .f32⟩
  | .hbm, ⟨7, _⟩ => ⟨S_, .f32⟩
  | .hbm, ⟨8, _⟩ => ⟨S1x2x256, .f32⟩
  | .hbm, ⟨9, _⟩ => ⟨S1x2x256, .f32⟩
  | .hbm, ⟨10, _⟩ => ⟨S1x2x256, .f32⟩
  | .hbm, ⟨11, _⟩ => ⟨S_, .f32⟩
  | .hbm, ⟨12, _⟩ => ⟨S1x2x256, .f32⟩
  | .hbm, ⟨13, _⟩ => ⟨S1x2x256, .f32⟩
  | .hbm, ⟨14, _⟩ => ⟨S1x2x256, .f32⟩
  | .hbm, ⟨15, _⟩ => ⟨S_, .f32⟩
  | .hbm, ⟨16, _⟩ => ⟨S1x2x256, .f32⟩
  | .hbm, ⟨17, _⟩ => ⟨S1x2x256, .f32⟩
  | .hbm, ⟨18, _⟩ => ⟨S1x2x256, .f32⟩
  | .hbm, ⟨19, _⟩ => ⟨S_, .f32⟩
  | .hbm, ⟨20, _⟩ => ⟨S1x2x256, .f32⟩
  | .hbm, ⟨21, _⟩ => ⟨S1x2x256, .f32⟩
  | .hbm, ⟨22, _⟩ => ⟨S_, .f32⟩
  | .hbm, ⟨23, _⟩ => ⟨S1x2x256, .f32⟩
  | .hbm, ⟨24, _⟩ => ⟨S1x2x256, .f32⟩
  | .hbm, ⟨25, _⟩ => ⟨S1x2x256, .f32⟩
  | .hbm, ⟨26, _⟩ => ⟨S_, .f32⟩
  | .hbm, ⟨27, _⟩ => ⟨S1x2x256, .f32⟩
  | .hbm, ⟨28, _⟩ => ⟨S1x2x256, .f32⟩
  | .hbm, ⟨29, _⟩ => ⟨S1x2x256, .f32⟩
  | .hbm, ⟨30, _⟩ => ⟨S_, .f32⟩
  | .hbm, ⟨31, _⟩ => ⟨S1x2x256, .f32⟩
  | .hbm, ⟨32, _⟩ => ⟨S1x2x256, .f32⟩
  | .hbm, ⟨33, _⟩ => ⟨S1x2x256, .f32⟩
  | .hbm, ⟨34, _⟩ => ⟨S_, .f32⟩
  | .hbm, ⟨35, _⟩ => ⟨S1x2x256, .f32⟩
  | .hbm, ⟨36, _⟩ => ⟨S1x2x256, .f32⟩
  | _, _ => ⟨S1x2x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdCw.lean ====
abbrev S2x3x256 : Shape := ⟨3, ![2, 3, 256]⟩
abbrev S1x3x256 : Shape := ⟨3, ![1, 3, 256]⟩
abbrev S3x256 : Shape := ⟨2, ![3, 256]⟩

abbrev nBuf : Space → Nat
  | .hbm => 8
  | .vmem => 16
  | .smem => 0
  | _ => 0

abbrev bufTy : (tb : Table) → Fin (tcTables nBuf tb) → BufTy
  | .hbm, ⟨0, _⟩ => ⟨S2x3x256, .f32⟩
  | .hbm, ⟨1, _⟩ => ⟨S2x3x256, .f32⟩
  | .hbm, ⟨2, _⟩ => ⟨S2x3x256, .f32⟩
  | .hbm, ⟨3, _⟩ => ⟨S2x3x256, .f32⟩
  | .hbm, ⟨4, _⟩ => ⟨S2x3x256, .f32⟩
  | .hbm, ⟨5, _⟩ => ⟨S2x3x256, .f32⟩
  | .hbm, ⟨6, _⟩ => ⟨S2x3x256, .f32⟩
  | .hbm, ⟨7, _⟩ => ⟨S2x3x256, .f32⟩
  | .local _ .vmem, ⟨0, _⟩ => ⟨S1x3x256, .f32⟩
  | .local _ .vmem, ⟨1, _⟩ => ⟨S1x3x256, .f32⟩
  | .local _ .vmem, ⟨2, _⟩ => ⟨S1x3x256, .f32⟩
  | .local _ .vmem, ⟨3, _⟩ => ⟨S1x3x256, .f32⟩
  | .local _ .vmem, ⟨4, _⟩ => ⟨S1x3x256, .f32⟩
  | .local _ .vmem, ⟨5, _⟩ => ⟨S1x3x256, .f32⟩
  | .local _ .vmem, ⟨6, _⟩ => ⟨S1x3x256, .f32⟩
  | .local _ .vmem, ⟨7, _⟩ => ⟨S1x3x256, .f32⟩
  | .local _ .vmem, ⟨8, _⟩ => ⟨S1x3x256, .f32⟩
  | .local _ .vmem, ⟨9, _⟩ => ⟨S1x3x256, .f32⟩
  | .local _ .vmem, ⟨10, _⟩ => ⟨S1x3x256, .f32⟩
  | .local _ .vmem, ⟨11, _⟩ => ⟨S1x3x256, .f32⟩
  | .local _ .vmem, ⟨12, _⟩ => ⟨S1x3x256, .f32⟩
  | .local _ .vmem, ⟨13, _⟩ => ⟨S1x3x256, .f32⟩
  | .local _ .vmem, ⟨14, _⟩ => ⟨S1x3x256, .f32⟩
  | .local _ .vmem, ⟨15, _⟩ => ⟨S1x3x256, .f32⟩
  | _, _ => ⟨S2x3x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x3x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x3x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x3x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdCwIdeal.lean ====
abbrev S2x3x256 : Shape := ⟨3, ![2, 3, 256]⟩
abbrev S1x3x256 : Shape := ⟨3, ![1, 3, 256]⟩
abbrev S3x256 : Shape := ⟨2, ![3, 256]⟩

abbrev nBuf : Space → Nat
  | .hbm => 8
  | .vmem => 16
  | .smem => 0
  | _ => 0

abbrev bufTy : (tb : Table) → Fin (tcTables nBuf tb) → BufTy
  | .hbm, ⟨0, _⟩ => ⟨S2x3x256, .f32⟩
  | .hbm, ⟨1, _⟩ => ⟨S2x3x256, .f32⟩
  | .hbm, ⟨2, _⟩ => ⟨S2x3x256, .f32⟩
  | .hbm, ⟨3, _⟩ => ⟨S2x3x256, .f32⟩
  | .hbm, ⟨4, _⟩ => ⟨S2x3x256, .f32⟩
  | .hbm, ⟨5, _⟩ => ⟨S2x3x256, .f32⟩
  | .hbm, ⟨6, _⟩ => ⟨S2x3x256, .f32⟩
  | .hbm, ⟨7, _⟩ => ⟨S2x3x256, .f32⟩
  | .local _ .vmem, ⟨0, _⟩ => ⟨S1x3x256, .f32⟩
  | .local _ .vmem, ⟨1, _⟩ => ⟨S1x3x256, .f32⟩
  | .local _ .vmem, ⟨2, _⟩ => ⟨S1x3x256, .f32⟩
  | .local _ .vmem, ⟨3, _⟩ => ⟨S1x3x256, .f32⟩
  | .local _ .vmem, ⟨4, _⟩ => ⟨S1x3x256, .f32⟩
  | .local _ .vmem, ⟨5, _⟩ => ⟨S1x3x256, .f32⟩
  | .local _ .vmem, ⟨6, _⟩ => ⟨S1x3x256, .f32⟩
  | .local _ .vmem, ⟨7, _⟩ => ⟨S1x3x256, .f32⟩
  | .local _ .vmem, ⟨8, _⟩ => ⟨S1x3x256, .f32⟩
  | .local _ .vmem, ⟨9, _⟩ => ⟨S1x3x256, .f32⟩
  | .local _ .vmem, ⟨10, _⟩ => ⟨S1x3x256, .f32⟩
  | .local _ .vmem, ⟨11, _⟩ => ⟨S1x3x256, .f32⟩
  | .local _ .vmem, ⟨12, _⟩ => ⟨S1x3x256, .f32⟩
  | .local _ .vmem, ⟨13, _⟩ => ⟨S1x3x256, .f32⟩
  | .local _ .vmem, ⟨14, _⟩ => ⟨S1x3x256, .f32⟩
  | .local _ .vmem, ⟨15, _⟩ => ⟨S1x3x256, .f32⟩
  | _, _ => ⟨S2x3x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x3x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x3x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x3x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== RefAdCwIdeal.lean ====
abbrev S2x3x256 : Shape := ⟨3, ![2, 3, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x3x256, .f32⟩
  | .hbm, ⟨1, _⟩ => ⟨S2x3x256, .f32⟩
  | .hbm, ⟨2, _⟩ => ⟨S2x3x256, .f32⟩
  | .hbm, ⟨3, _⟩ => ⟨S2x3x256, .f32⟩
  | .hbm, ⟨4, _⟩ => ⟨S_, .f32⟩
  | .hbm, ⟨5, _⟩ => ⟨S2x3x256, .f32⟩
  | .hbm, ⟨6, _⟩ => ⟨S2x3x256, .f32⟩
  | .hbm, ⟨7, _⟩ => ⟨S_, .f32⟩
  | .hbm, ⟨8, _⟩ => ⟨S2x3x256, .f32⟩
  | .hbm, ⟨9, _⟩ => ⟨S2x3x256, .f32⟩
  | .hbm, ⟨10, _⟩ => ⟨S2x3x256, .f32⟩
  | .hbm, ⟨11, _⟩ => ⟨S_, .f32⟩
  | .hbm, ⟨12, _⟩ => ⟨S2x3x256, .f32⟩
  | .hbm, ⟨13, _⟩ => ⟨S2x3x256, .f32⟩
  | .hbm, ⟨14, _⟩ => ⟨S2x3x256, .f32⟩
  | .hbm, ⟨15, _⟩ => ⟨S_, .f32⟩
  | .hbm, ⟨16, _⟩ => ⟨S2x3x256, .f32⟩
  | .hbm, ⟨17, _⟩ => ⟨S2x3x256, .f32⟩
  | .hbm, ⟨18, _⟩ => ⟨S2x3x256, .f32⟩
  | .hbm, ⟨19, _⟩ => ⟨S_, .f32⟩
  | .hbm, ⟨20, _⟩ => ⟨S2x3x256, .f32⟩
  | .hbm, ⟨21, _⟩ => ⟨S2x3x256, .f32⟩
  | .hbm, ⟨22, _⟩ => ⟨S_, .f32⟩
  | .hbm, ⟨23, _⟩ => ⟨S2x3x256, .f32⟩
  | .hbm, ⟨24, _⟩ => ⟨S2x3x256, .f32⟩
  | .hbm, ⟨25, _⟩ => ⟨S2x3x256, .f32⟩
  | .hbm, ⟨26, _⟩ => ⟨S_, .f32⟩
  | .hbm, ⟨27, _⟩ => ⟨S2x3x256, .f32⟩
  | .hbm, ⟨28, _⟩ => ⟨S2x3x256, .f32⟩
  | .hbm, ⟨29, _⟩ => ⟨S2x3x256, .f32⟩
  | .hbm, ⟨30, _⟩ => ⟨S_, .f32⟩
  | .hbm, ⟨31, _⟩ => ⟨S2x3x256, .f32⟩
  | .hbm, ⟨32, _⟩ => ⟨S2x3x256, .f32⟩
  | .hbm, ⟨33, _⟩ => ⟨S2x3x256, .f32⟩
  | .hbm, ⟨34, _⟩ => ⟨S_, .f32⟩
  | .hbm, ⟨35, _⟩ => ⟨S2x3x256, .f32⟩
  | .hbm, ⟨36, _⟩ => ⟨S2x3x256, .f32⟩
  | _, _ => ⟨S2x3x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdFw.lean ====
abbrev S2x3x1408 : Shape := ⟨3, ![2, 3, 1408]⟩
abbrev S1x3x1408 : Shape := ⟨3, ![1, 3, 1408]⟩
abbrev S3x1408 : Shape := ⟨2, ![3, 1408]⟩

abbrev nBuf : Space → Nat
  | .hbm => 8
  | .vmem => 16
  | .smem => 0
  | _ => 0

abbrev bufTy : (tb : Table) → Fin (tcTables nBuf tb) → BufTy
  | .hbm, ⟨0, _⟩ => ⟨S2x3x1408, .f32⟩
  | .hbm, ⟨1, _⟩ => ⟨S2x3x1408, .f32⟩
  | .hbm, ⟨2, _⟩ => ⟨S2x3x1408, .f32⟩
  | .hbm, ⟨3, _⟩ => ⟨S2x3x1408, .f32⟩
  | .hbm, ⟨4, _⟩ => ⟨S2x3x1408, .f32⟩
  | .hbm, ⟨5, _⟩ => ⟨S2x3x1408, .f32⟩
  | .hbm, ⟨6, _⟩ => ⟨S2x3x1408, .f32⟩
  | .hbm, ⟨7, _⟩ => ⟨S2x3x1408, .f32⟩
  | .local _ .vmem, ⟨0, _⟩ => ⟨S1x3x1408, .f32⟩
  | .local _ .vmem, ⟨1, _⟩ => ⟨S1x3x1408, .f32⟩
  | .local _ .vmem, ⟨2, _⟩ => ⟨S1x3x1408, .f32⟩
  | .local _ .vmem, ⟨3, _⟩ => ⟨S1x3x1408, .f32⟩
  | .local _ .vmem, ⟨4, _⟩ => ⟨S1x3x1408, .f32⟩
  | .local _ .vmem, ⟨5, _⟩ => ⟨S1x3x1408, .f32⟩
  | .local _ .vmem, ⟨6, _⟩ => ⟨S1x3x1408, .f32⟩
  | .local _ .vmem, ⟨7, _⟩ => ⟨S1x3x1408, .f32⟩
  | .local _ .vmem, ⟨8, _⟩ => ⟨S1x3x1408, .f32⟩
  | .local _ .vmem, ⟨9, _⟩ => ⟨S1x3x1408, .f32⟩
  | .local _ .vmem, ⟨10, _⟩ => ⟨S1x3x1408, .f32⟩
  | .local _ .vmem, ⟨11, _⟩ => ⟨S1x3x1408, .f32⟩
  | .local _ .vmem, ⟨12, _⟩ => ⟨S1x3x1408, .f32⟩
  | .local _ .vmem, ⟨13, _⟩ => ⟨S1x3x1408, .f32⟩
  | .local _ .vmem, ⟨14, _⟩ => ⟨S1x3x1408, .f32⟩
  | .local _ .vmem, ⟨15, _⟩ => ⟨S1x3x1408, .f32⟩
  | _, _ => ⟨S2x3x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x3x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x3x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x3x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x3x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x3x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== RefAdFwIdeal.lean ====
abbrev S2x3x1408 : Shape := ⟨3, ![2, 3, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x3x1408, .f32⟩
  | .hbm, ⟨1, _⟩ => ⟨S2x3x1408, .f32⟩
  | .hbm, ⟨2, _⟩ => ⟨S2x3x1408, .f32⟩
  | .hbm, ⟨3, _⟩ => ⟨S2x3x1408, .f32⟩
  | .hbm, ⟨4, _⟩ => ⟨S_, .f32⟩
  | .hbm, ⟨5, _⟩ => ⟨S2x3x1408, .f32⟩
  | .hbm, ⟨6, _⟩ => ⟨S2x3x1408, .f32⟩
  | .hbm, ⟨7, _⟩ => ⟨S_, .f32⟩
  | .hbm, ⟨8, _⟩ => ⟨S2x3x1408, .f32⟩
  | .hbm, ⟨9, _⟩ => ⟨S2x3x1408, .f32⟩
  | .hbm, ⟨10, _⟩ => ⟨S2x3x1408, .f32⟩
  | .hbm, ⟨11, _⟩ => ⟨S_, .f32⟩
  | .hbm, ⟨12, _⟩ => ⟨S2x3x1408, .f32⟩
  | .hbm, ⟨13, _⟩ => ⟨S2x3x1408, .f32⟩
  | .hbm, ⟨14, _⟩ => ⟨S2x3x1408, .f32⟩
  | .hbm, ⟨15, _⟩ => ⟨S_, .f32⟩
  | .hbm, ⟨16, _⟩ => ⟨S2x3x1408, .f32⟩
  | .hbm, ⟨17, _⟩ => ⟨S2x3x1408, .f32⟩
  | .hbm, ⟨18, _⟩ => ⟨S2x3x1408, .f32⟩
  | .hbm, ⟨19, _⟩ => ⟨S_, .f32⟩
  | .hbm, ⟨20, _⟩ => ⟨S2x3x1408, .f32⟩
  | .hbm, ⟨21, _⟩ => ⟨S2x3x1408, .f32⟩
  | .hbm, ⟨22, _⟩ => ⟨S_, .f32⟩
  | .hbm, ⟨23, _⟩ => ⟨S2x3x1408, .f32⟩
  | .hbm, ⟨24, _⟩ => ⟨S2x3x1408, .f32⟩
  | .hbm, ⟨25, _⟩ => ⟨S2x3x1408, .f32⟩
  | .hbm, ⟨26, _⟩ => ⟨S_, .f32⟩
  | .hbm, ⟨27, _⟩ => ⟨S2x3x1408, .f32⟩
  | .hbm, ⟨28, _⟩ => ⟨S2x3x1408, .f32⟩
  | .hbm, ⟨29, _⟩ => ⟨S2x3x1408, .f32⟩
  | .hbm, ⟨30, _⟩ => ⟨S_, .f32⟩
  | .hbm, ⟨31, _⟩ => ⟨S2x3x1408, .f32⟩
  | .hbm, ⟨32, _⟩ => ⟨S2x3x1408, .f32⟩
  | .hbm, ⟨33, _⟩ => ⟨S2x3x1408, .f32⟩
  | .hbm, ⟨34, _⟩ => ⟨S_, .f32⟩
  | .hbm, ⟨35, _⟩ => ⟨S2x3x1408, .f32⟩
  | .hbm, ⟨36, _⟩ => ⟨S2x3x1408, .f32⟩
  | _, _ => ⟨S2x3x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Ideal.Region0.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The core's scoped buffers that are no staging buffer of custom_call 0, each whole at some contents. -/
theorem scopedRest0_eq {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec0 c : sProp (MT nD τ sig Ix Val Name U Lvl))
      = iprop((∃ f : Buf Val ((c : Thread nD τ).loc cc0_scratch0), ((c : Thread nD τ).loc cc0_scratch0) ↦{fullShare} f) ∗ (∃ f : Buf Val ((c : Thread nD τ).loc cc1_stg0_0), ((c : Thread nD τ).loc cc1_stg0_0) ↦{fullShare} f) ∗ (∃ f : Buf Val ((c : Thread nD τ).loc cc1_stg0_1), ((c : Thread nD τ).loc cc1_stg0_1) ↦{fullShare} f) ∗ (∃ f : Buf Val ((c : Thread nD τ).loc cc1_stg1_0), ((c : Thread nD τ).loc cc1_stg1_0) ↦{fullShare} f) ∗ (∃ f : Buf Val ((c : Thread nD τ).loc cc1_stg1_1), ((c : Thread nD τ).loc cc1_stg1_1) ↦{fullShare} f) ∗ (∃ f : Buf Val ((c : Thread nD τ).loc cc1_stg2_0), ((c : Thread nD τ).loc cc1_stg2_0) ↦{fullShare} f) ∗ (∃ f : Buf Val ((c : Thread nD τ).loc cc1_stg2_1), ((c : Thread nD τ).loc cc1_stg2_1) ↦{fullShare} f) ∗ (∃ f : Buf Val ((c : Thread nD τ).loc cc1_stg3_0), ((c : Thread nD τ).loc cc1_stg3_0) ↦{fullShare} f) ∗ (∃ f : Buf Val ((c : Thread nD τ).loc cc1_stg3_1), ((c : Thread nD τ).loc cc1_stg3_1) ↦{fullShare} f) ∗ (∃ f : Buf Val ((c : Thread nD τ).loc cc1_stg4_0), ((c : Thread nD τ).loc cc1_stg4_0) ↦{fullShare} f) ∗ (∃ f : Buf Val ((c : Thread nD τ).loc cc1_stg4_1), ((c : Thread nD τ).loc cc1_stg4_1) ↦{fullShare} f) ∗ (∃ f : Buf Val ((c : Thread nD τ).loc cc1_stg5_0), ((c : Thread nD τ).loc cc1_stg5_0) ↦{fullShare} f) ∗ (∃ f : Buf Val ((c : Thread nD τ).loc cc1_stg5_1), ((c : Thread nD τ).loc cc1_stg5_1) ↦{fullShare} f) ∗ (∃ f : Buf Val ((c : Thread nD τ).loc cc1_stg6_0), ((c : Thread nD τ).loc cc1_stg6_0) ↦{fullShare} f) ∗ (∃ f : Buf Val ((c : Thread nD τ).loc cc1_stg6_1), ((c : Thread nD τ).loc cc1_stg6_1) ↦{fullShare} f) ∗ (∃ f : Buf Val ((c : Thread nD τ).loc cc1_stg7_0), ((c : Thread nD τ).loc cc1_stg7_0) ↦{fullShare} f) ∗ (∃ f : Buf Val ((c : Thread nD τ).loc cc1_stg8_0), ((c : Thread nD τ).loc cc1_stg8_0) ↦{fullShare} f) ∗ (∃ f : Buf Val ((c : Thread nD τ).loc cc1_stg9_0), ((c : Thread nD τ).loc cc1_stg9_0) ↦{fullShare} f) ∗ (∃ f : Buf Val ((c : Thread nD τ).loc cc1_stg9_1), ((c : Thread nD τ).loc cc1_stg9_1) ↦{fullShare} f) ∗ (∃ f : Buf Val ((c : Thread nD τ).loc cc1_stg10_0), ((c : Thread nD τ).loc cc1_stg10_0) ↦{fullShare} f) ∗ (∃ f : Buf Val ((c : Thread nD τ).loc cc1_stg10_1), ((c : Thread nD τ).loc cc1_stg10_1) ↦{fullShare} f) ∗ (∃ f : Buf Val ((c : Thread nD τ).loc cc1_stg11_0), ((c : Thread nD τ).loc cc1_stg11_0) ↦{fullShare} f) ∗ (∃ f : Buf Val ((c : Thread nD τ).loc cc1_stg12_0), ((c : Thread nD τ).loc cc1_stg12_0) ↦{fullShare} f) ∗ (∃ f : Buf Val ((c : Thread nD τ).loc cc1_scratch0), ((c : Thread nD τ).loc cc1_scratch0) ↦{fullShare} f) ∗ (∃ f : Buf Val ((c : Thread nD τ).loc cc1_scratch1), ((c : Thread nD τ).loc cc1_scratch1) ↦{fullShare} f)) :=
  Pipeline.scopedRest_eq_of_list spec0 c [cc0_scratch0, cc1_stg0_0, cc1_stg0_1, cc1_stg1_0, cc1_stg1_1, cc1_stg2_0, cc1_stg2_1, cc1_stg3_0, cc1_stg3_1, cc1_stg4_0, cc1_stg4_1, cc1_stg5_0, cc1_stg5_1, cc1_stg6_0, cc1_stg6_1, cc1_stg7_0, cc1_stg8_0, cc1_stg9_0, cc1_stg9_1, cc1_stg10_0, cc1_stg10_1, cc1_stg11_0, cc1_stg12_0, cc1_scratch0, cc1_scratch1] (by decide) (by decide)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_gla_fwd` (pipeline 0), at the entry contents `V` — class R -/

/-! ## The windows' blocks -/

/-- Window `w`'s block at point `t`, read off its array as the region finds it (`V`). -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- No block of input window 0 that the grid reaches is cut. -/
def dflt0_0 : (cfg0.win 0).block.Idx → Elt F (cfg0.win 0).elt := fun _ => Classical.choice inferInstance
/-- What input window 0's staging buffer holds when the body runs at `t`: its block read off the array. -/
def X0_0 (c : Dev nD) (t : Fin cfg0.N) : (cfg0.win 0).block.Idx → Elt F (cfg0.win 0).elt :=
  (cfg0.win 0).fill (cfg0.grid.coords t) dflt0_0 (iblk0 V c 0 t)
/-- At every point the cut's extent is the block's, decided over the grid: no transfer of input window 0 is cut. -/
theorem xsize0_0 : ∀ t : Fin cfg0.N, ∀ a, (cfg0.win 0).xsize (cfg0.grid.coords t) a = (cfg0.win 0).size a := by decide +kernel
/-- Every index of input window 0's block is moved at every point. -/
theorem moved0_0 (t : Fin cfg0.N) (j : (cfg0.win 0).block.Idx) : (cfg0.win 0).moved (cfg0.grid.coords t) j = true :=
  ((cfg0.win 0).moved_iff _ j).mpr fun a => by rw [xsize0_0 t a]; exact (j a).isLt
/-- A fill of input window 0's block covers the whole buffer, whatever it held. -/
theorem fill0_0 (t : Fin cfg0.N) (d d' : (cfg0.win 0).block.Idx → Elt F (cfg0.win 0).elt) (g) :
    (cfg0.win 0).fill (cfg0.grid.coords t) d g = (cfg0.win 0).fill (cfg0.grid.coords t) d' g := by
  funext j; unfold Pipeline.Window.fill; rw [dif_pos (moved0_0 t j), dif_pos (moved0_0 t j)]
/-- Input window 0's staging buffer holds `X0_0` at every point, whether or not that point fetched it. -/
theorem before0_0_of {c : Dev nD} (dat : Dat τ (Elt F) Unit ℕ (UR sig nD τ) ℕ cfg0 c) (hA : dat.A 0 = V c (Pipeline.arrRef spec0 0))
    (hafter : ∀ t, dat.after 0 t = X0_0 V c t) (t : Fin cfg0.N) (d) : dat.before 0 t d = X0_0 V c t :=
  (dat.before_in_eq_fetched 0 rfl (fun _ => rfl)
      (fun t t' h => funext fun a => congrArg (fun n => Pipeline.Clip.of n ((cfg0.win 0).size a) (S4096x10368.size a)) (congrFun h a))
      (fun t => by rw [hafter]; unfold X0_0; rw [Pipeline.Window.cut_fill]; unfold Dat.blockOf iblk0; rw [hA]; try rfl) t d).trans
    (by unfold Dat.fetched X0_0; rw [fill0_0 t d dflt0_0]; unfold Dat.blockOf iblk0; rw [hA]; try rfl)
/-- No block of input window 1 that the grid reaches is cut. -/
def dflt0_1 : (cfg0.win 1).block.Idx → Elt F (cfg0.win 1).elt := fun _ => Classical.choice inferInstance
/-- What input window 1's staging buffer holds when the body runs at `t`: its block read off the array. -/
def X0_1 (c : Dev nD) (t : Fin cfg0.N) : (cfg0.win 1).block.Idx → Elt F (cfg0.win 1).elt :=
  (cfg0.win 1).fill (cfg0.grid.coords t) dflt0_1 (iblk0 V c 1 t)
/-- At every point the cut's extent is the block's, decided over the grid: no transfer of input window 1 is cut. -/
theorem xsize0_1 : ∀ t : Fin cfg0.N, ∀ a, (cfg0.win 1).xsize (cfg0.grid.coords t) a = (cfg0.win 1).size a := by decide +kernel
/-- Every index of input window 1's block is moved at every point. -/
theorem moved0_1 (t : Fin cfg0.N) (j : (cfg0.win 1).block.Idx) : (cfg0.win 1).moved (cfg0.grid.coords t) j = true :=
  ((cfg0.win 1).moved_iff _ j).mpr fun a => by rw [xsize0_1 t a]; exact (j a).isLt
/-- A fill of input window 1's block covers the whole buffer, whatever it held. -/
theorem fill0_1 (t : Fin cfg0.N) (d d' : (cfg0.win 1).block.Idx → Elt F (cfg0.win 1).elt) (g) :
    (cfg0.win 1).fill (cfg0.grid.coords t) d g = (cfg0.win 1).fill (cfg0.grid.coords t) d' g := by
  funext j; unfold Pipeline.Window.fill; rw [dif_pos (moved0_1 t j), dif_pos (moved0_1 t j)]
/-- Input window 1's staging buffer holds `X0_1` at every point, whether or not that point fetched it. -/
theorem before0_1_of {c : Dev nD} (dat : Dat τ (Elt F) Unit ℕ (UR sig nD τ) ℕ cfg0 c) (hA : dat.A 1 = V c (Pipeline.arrRef spec0 1))
    (hafter : ∀ t, dat.after 1 t = X0_1 V c t) (t : Fin cfg0.N) (d) : dat.before 1 t d = X0_1 V c t :=
  (dat.before_in_eq_fetched 1 rfl (fun _ => rfl)
      (fun t t' h => funext fun a => congrArg (fun n => Pipeline.Clip.of n ((cfg0.win 1).size a) (S4096x10368.size a)) (congrFun h a))
      (fun t => by rw [hafter]; unfold X0_1; rw [Pipeline.Window.cut_fill]; unfold Dat.blockOf iblk0; rw [hA]; try rfl) t d).trans
    (by unfold Dat.fetched X0_1; rw [fill0_1 t d dflt0_1]; unfold Dat.blockOf iblk0; rw [hA]; try rfl)
/-- No block of input window 2 that the grid reaches is cut. -/
def dflt0_2 : (cfg0.win 2).block.Idx → Elt F (cfg0.win 2).elt := fun _ => Classical.choice inferInstance
/-- What input window 2's staging buffer holds when the body runs at `t`: its block read off the array. -/
def X0_2 (c : Dev nD) (t : Fin cfg0.N) : (cfg0.win 2).block.Idx → Elt F (cfg0.win 2).elt :=
  (cfg0.win 2).fill (cfg0.grid.coords t) dflt0_2 (iblk0 V c 2 t)
/-- At every point the cut's extent is the block's, decided over the grid: no transfer of input window 2 is cut. -/
theorem xsize0_2 : ∀ t : Fin cfg0.N, ∀ a, (cfg0.win 2).xsize (cfg0.grid.coords t) a = (cfg0.win 2).size a := by decide +kernel
/-- Every index of input window 2's block is moved at every point. -/
theorem moved0_2 (t : Fin cfg0.N) (j : (cfg0.win 2).block.Idx) : (cfg0.win 2).moved (cfg0.grid.coords t) j = true :=
  ((cfg0.win 2).moved_iff _ j).mpr fun a => by rw [xsize0_2 t a]; exact (j a).isLt
/-- A fill of input window 2's block covers the whole buffer, whatever it held. -/
theorem fill0_2 (t : Fin cfg0.N) (d d' : (cfg0.win 2).block.Idx → Elt F (cfg0.win 2).elt) (g) :
    (cfg0.win 2).fill (cfg0.grid.coords t) d g = (cfg0.win 2).fill (cfg0.grid.coords t) d' g := by
  funext j; unfold Pipeline.Window.fill; rw [dif_pos (moved0_2 t j), dif_pos (moved0_2 t j)]
/-- Input window 2's staging buffer holds `X0_2` at every point, whether or not that point fetched it. -/
theorem before0_2_of {c : Dev nD} (dat : Dat τ (Elt F) Unit ℕ (UR sig nD τ) ℕ cfg0 c) (hA : dat.A 2 = V c (Pipeline.arrRef spec0 2))
    (hafter : ∀ t, dat.after 2 t = X0_2 V c t) (t : Fin cfg0.N) (d) : dat.before 2 t d = X0_2 V c t :=
  (dat.before_in_eq_fetched 2 rfl (fun _ => rfl)
      (fun t t' h => funext fun a => congrArg (fun n => Pipeline.Clip.of n ((cfg0.win 2).size a) (S4096x10368.size a)) (congrFun h a))
      (fun t => by rw [hafter]; unfold X0_2; rw [Pipeline.Window.cut_fill]; unfold Dat.blockOf iblk0; rw [hA]; try rfl) t d).trans
    (by unfold Dat.fetched X0_2; rw [fill0_2 t d dflt0_2]; unfold Dat.blockOf iblk0; rw [hA]; try rfl)
/-- Input window 3's staging buffer holds its block at every point, whether or not that point fetched it. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's staging buffer holds its block at every point, whether or not that point fetched it. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's staging buffer holds its block at every point, whether or not that point fetched it. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

/-! ## The kernel body on any staging memrefs: a subtype the run finds -/

/-- One staging buffer of output window 6, through which its contents are stated (`View.read_writes_of_cover`: the
    choice does not matter). -/
abbrev VO0_6 : View sig .tc .vmem S256x1024 .f32 := (Memref.whole cc0_stg6_0 : Memref sig .tc .vmem S256x1024 .f32).view
/-- One staging buffer of output window 7, through which its contents are stated (`View.read_writes_of_cover`: the
    choice does not matter). -/
abbrev VO0_7 : View sig .tc .vmem S4x512x256 .f32 := (Memref.whole cc0_stg7_0 : Memref sig .tc .vmem S4x512x256 .f32).view
/-- Each window's current staging memref at point `t`, spelled as the pipeline passes it (`bodyAt0`), and its wholeness. -/
abbrev ms0_0 (t : Fin cfg0.N) : Memref sig .tc .vmem S256x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S4x512x256 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S512x256 .f32 := Memref.whole cc0_scratch0
/-- The scratch `arg9` the kernel carries between points, as a view: what it holds is stated through it. -/
abbrev VS0_0 : View sig .tc .vmem S512x256 .f32 := scM0_0.view

/-- Buffer `b` of the core, whole at some contents. -/
abbrev held0 (c : Dev nD) (b : Ref sig .tc) : sProp 𝕄 :=
  iprop(∃ f : Buf (Elt F) ((c : Thread nD τ).loc b), ((c : Thread nD τ).loc b) ↦{fullShare} f)

/-- The scoped buffers the region leaves alone. -/
def rest0 (c : Dev nD) : sProp 𝕄 :=
  iprop(held0 (F := F) c cc1_stg0_0 ∗ held0 (F := F) c cc1_stg0_1 ∗ held0 (F := F) c cc1_stg1_0 ∗ held0 (F := F) c cc1_stg1_1 ∗ held0 (F := F) c cc1_stg2_0 ∗ held0 (F := F) c cc1_stg2_1 ∗ held0 (F := F) c cc1_stg3_0 ∗ held0 (F := F) c cc1_stg3_1 ∗ held0 (F := F) c cc1_stg4_0 ∗ held0 (F := F) c cc1_stg4_1 ∗ held0 (F := F) c cc1_stg5_0 ∗ held0 (F := F) c cc1_stg5_1 ∗ held0 (F := F) c cc1_stg6_0 ∗ held0 (F := F) c cc1_stg6_1 ∗ held0 (F := F) c cc1_stg7_0 ∗ held0 (F := F) c cc1_stg8_0 ∗ held0 (F := F) c cc1_stg9_0 ∗ held0 (F := F) c cc1_stg9_1 ∗ held0 (F := F) c cc1_stg10_0 ∗ held0 (F := F) c cc1_stg10_1 ∗ held0 (F := F) c cc1_stg11_0 ∗ held0 (F := F) c cc1_stg12_0 ∗ held0 (F := F) c cc1_scratch0 ∗ held0 (F := F) c cc1_scratch1)

/-- The invariant with the scratch operands owned at some contents. -/
theorem PhiA0_eq (c : Dev nD) :
    (Pipeline.ΦA spec0 c : sProp 𝕄)
      = iprop(iprop((∃ d, owns (c : Thread nD τ) scM0_0 fullShare d) ∗ rest0 (F := F) c) ∗ (∃ r, prngReg c r)) := by
  unfold Pipeline.ΦA; rw [scopedRest0_eq]; simp only [scM0_0, owns_whole]; try rfl

section CaseA

variable (c : Dev nD) (i : grid0.Coords) (arg1 : Memref sig .tc .vmem S256x512 .bf16) (harg1 : arg1.IsWhole) (arg2 : Memref sig .tc .vmem S256x512 .bf16) (harg2 : arg2.IsWhole) (arg3 : Memref sig .tc .vmem S256x1024 .bf16) (harg3 : arg3.IsWhole) (arg4 : Memref sig .tc .vmem S256x128 .bf16) (harg4 : arg4.IsWhole) (arg5 : Memref sig .tc .vmem S128x512 .f32) (harg5 : arg5.IsWhole) (arg6 : Memref sig .tc .vmem S1x512 .f32) (harg6 : arg6.IsWhole) (arg7 : Memref sig .tc .vmem S256x1024 .f32) (harg7 : arg7.IsWhole) (arg8 : Memref sig .tc .vmem S4x512x256 .f32) (harg8 : arg8.IsWhole) (arg9 : Memref sig .tc .vmem S512x256 .f32) (harg9 : arg9.IsWhole) (hc0 : cond0_0 i)
  (x0 : Vec F S256x512 .bf16) (x1 : Vec F S256x512 .bf16) (x2 : Vec F S256x1024 .bf16) (x3 : Vec F S256x128 .bf16) (x4 : Vec F S128x512 .f32) (x5 : Vec F S1x512 .f32)

set_option maxHeartbeats 1028000 in
/-- Case A (the first point): what the body stores in each output and in the carried scratch, as pieces, with the proof
    that the body runs from the inputs' contents to those pieces written. -/
noncomputable def kernelRun0_A :
    Σ' (L6 : List (View.Piece (Elt F) S256x1024 .f32)), Σ' (L7 : List (View.Piece (Elt F) S4x512x256 .f32)), { LS0 : List (View.Piece (Elt F) S512x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0)) -∗ K ⟨⟩))
          ⊢ wp frame (wpE (defs₀ (F := F)) Variants.none c none) E (cc0_gla_fwd i arg1 harg1 arg2 harg2 arg3 harg3 arg4 harg4 arg5 harg5 arg6 harg6 arg7 harg7 arg8 harg8 arg9 harg9) K } := by
  refine ⟨?_, ?_, ?_, fun E K => ?run⟩
  case run =>
    simp only [cc0_gla_fwd_eq_skeleton]; unfold cc0_gla_fwd_skel
    simp only [k0_part18_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact HS0

/-- Case A's pieces for output 6 cover its block. -/
theorem cover0_A_6 (y : S256x1024.Idx) :
    ∃ pc ∈ (kernelRun0_A c i arg1 harg1 arg2 harg2 arg3 harg3 arg4 harg4 arg5 harg5 arg6 harg6 arg7 harg7 arg8 harg8 arg9 harg9 hc0 x0 x1 x2 x3 x4 x5).1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3 x4 x5).1 S64x256.size (by sl_kernel_rfl) y

/-- What case A leaves in output 6's staging buffer: its pieces read back over junk. -/
def out0_A_6 : Vec F S256x1024 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 hc0 x0 x1 x2 x3 x4 x5).1)

/-- Case A's pieces for output 7 cover its block. -/
theorem cover0_A_7 (y : S4x512x256.Idx) :
    ∃ pc ∈ (kernelRun0_A c i arg1 harg1 arg2 harg2 arg3 harg3 arg4 harg4 arg5 harg5 arg6 harg6 arg7 harg7 arg8 harg8 arg9 harg9 hc0 x0 x1 x2 x3 x4 x5).2.1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3 x4 x5).2.1 S1x128x256.size (by sl_kernel_rfl) y

/-- What case A leaves in output 7's staging buffer: its pieces read back over junk. -/
def out0_A_7 : Vec F S4x512x256 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 hc0 x0 x1 x2 x3 x4 x5).2.1)

/-- Case A's pieces for scratch `arg9`, which the kernel carries between points, cover it: one of them a store of the WHOLE buffer (Lib/Ring.lean `sl_whole_mem`). -/
theorem scover0_A_0 (y : S512x256.Idx) :
    ∃ pc ∈ (kernelRun0_A c i arg1 harg1 arg2 harg2 arg3 harg3 arg4 harg4 arg5 harg5 arg6 harg6 arg7 harg7 arg8 harg8 arg9 harg9 hc0 x0 x1 x2 x3 x4 x5).2.2.1, y ∈ pc.1.set :=
  View.cover_of_wholeMem (kernelRun0_A c i arg1 harg1 arg2 harg2 arg3 harg3 arg4 harg4 arg5 harg5 arg6 harg6 arg7 harg7 arg8 harg8 arg9 harg9 hc0 x0 x1 x2 x3 x4 x5).2.2.1 (by sl_whole_mem) y

/-- What case A leaves in scratch `arg9`: its pieces read back over junk. -/
def sout0_A_0 : Vec F S512x256 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 hc0 x0 x1 x2 x3 x4 x5).2.2.1)

end CaseA

section CaseB

variable (c : Dev nD) (i : grid0.Coords) (arg1 : Memref sig .tc .vmem S256x512 .bf16) (harg1 : arg1.IsWhole) (arg2 : Memref sig .tc .vmem S256x512 .bf16) (harg2 : arg2.IsWhole) (arg3 : Memref sig .tc .vmem S256x1024 .bf16) (harg3 : arg3.IsWhole) (arg4 : Memref sig .tc .vmem S256x128 .bf16) (harg4 : arg4.IsWhole) (arg5 : Memref sig .tc .vmem S128x512 .f32) (harg5 : arg5.IsWhole) (arg6 : Memref sig .tc .vmem S1x512 .f32) (harg6 : arg6.IsWhole) (arg7 : Memref sig .tc .vmem S256x1024 .f32) (harg7 : arg7.IsWhole) (arg8 : Memref sig .tc .vmem S4x512x256 .f32) (harg8 : arg8.IsWhole) (arg9 : Memref sig .tc .vmem S512x256 .f32) (harg9 : arg9.IsWhole) (hc0 : ¬cond0_0 i)
  (x0 : Vec F S256x512 .bf16) (x1 : Vec F S256x512 .bf16) (x2 : Vec F S256x1024 .bf16) (x3 : Vec F S256x128 .bf16) (x4 : Vec F S128x512 .f32) (x5 : Vec F S1x512 .f32) (xs0 : Vec F S512x256 .f32)

set_option maxHeartbeats 1016000 in
/-- Case B (the later points): what the body stores in each output and in the carried scratch, as pieces, with the proof
    that the body runs from the inputs' contents to those pieces written. -/
noncomputable def kernelRun0_B :
    Σ' (L6 : List (View.Piece (Elt F) S256x1024 .f32)), Σ' (L7 : List (View.Piece (Elt F) S4x512x256 .f32)), { LS0 : List (View.Piece (Elt F) S512x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0)) -∗ K ⟨⟩))
          ⊢ wp frame (wpE (defs₀ (F := F)) Variants.none c none) E (cc0_gla_fwd i arg1 harg1 arg2 harg2 arg3 harg3 arg4 harg4 arg5 harg5 arg6 harg6 arg7 harg7 arg8 harg8 arg9 harg9) K } := by
  refine ⟨?_, ?_, ?_, fun E K => ?run⟩
  case run =>
    simp only [cc0_gla_fwd_eq_skeleton]; unfold cc0_gla_fwd_skel
    simp only [k0_part18_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact HS0

/-- Case B's pieces for output 6 cover its block. -/
theorem cover0_B_6 (y : S256x1024.Idx) :
    ∃ pc ∈ (kernelRun0_B c i arg1 harg1 arg2 harg2 arg3 harg3 arg4 harg4 arg5 harg5 arg6 harg6 arg7 harg7 arg8 harg8 arg9 harg9 hc0 x0 x1 x2 x3 x4 x5 xs0).1, y ∈ pc.1.set :=
  View.cover_of_tiledL (kernelRun0_B c i arg1 harg1 arg2 harg2 arg3 harg3 arg4 harg4 arg5 harg5 arg6 harg6 arg7 harg7 arg8 harg8 arg9 harg9 hc0 x0 x1 x2 x3 x4 x5 xs0).1 S64x256.size (by sl_kernel_rfl) y

/-- What case B leaves in output 6's staging buffer: its pieces read back over junk. -/
def out0_B_6 : Vec F S256x1024 .f32 :=
  VO0_6.read (Elt F) (VO0_6.writes (Elt F) VO0_6.junk (kernelRun0_B c i arg1 harg1 arg2 harg2 arg3 harg3 arg4 harg4 arg5 harg5 arg6 harg6 arg7 harg7 arg8 harg8 arg9 harg9 hc0 x0 x1 x2 x3 x4 x5 xs0).1)

/-- Case B's pieces for output 7 cover its block. -/
theorem cover0_B_7 (y : S4x512x256.Idx) :
    ∃ pc ∈ (kernelRun0_B c i arg1 harg1 arg2 harg2 arg3 harg3 arg4 harg4 arg5 harg5 arg6 harg6 arg7 harg7 arg8 harg8 arg9 harg9 hc0 x0 x1 x2 x3 x4 x5 xs0).2.1, y ∈ pc.1.set :=
  View.cover_of_tiledL (kernelRun0_B c i arg1 harg1 arg2 harg2 arg3 harg3 arg4 harg4 arg5 harg5 arg6 harg6 arg7 harg7 arg8 harg8 arg9 harg9 hc0 x0 x1 x2 x3 x4 x5 xs0).2.1 S1x128x256.size (by sl_kernel_rfl) y

/-- What case B leaves in output 7's staging buffer: its pieces read back over junk. -/
def out0_B_7 : Vec F S4x512x256 .f32 :=
  VO0_7.read (Elt F) (VO0_7.writes (Elt F) VO0_7.junk (kernelRun0_B c i arg1 harg1 arg2 harg2 arg3 harg3 arg4 harg4 arg5 harg5 arg6 harg6 arg7 harg7 arg8 harg8 arg9 harg9 hc0 x0 x1 x2 x3 x4 x5 xs0).2.1)

/-- Case B's pieces for scratch `arg9`, which the kernel carries between points, cover it: 16 pieces of `S128x256` tiling it (Lib/Ring.lean `Piece.tiledL`). -/
theorem scover0_B_0 (y : S512x256.Idx) :
    ∃ pc ∈ (kernelRun0_B c i arg1 harg1 arg2 harg2 arg3 harg3 arg4 harg4 arg5 harg5 arg6 harg6 arg7 harg7 arg8 harg8 arg9 harg9 hc0 x0 x1 x2 x3 x4 x5 xs0).2.2.1, y ∈ pc.1.set :=
  View.cover_of_tiledL (kernelRun0_B c i arg1 harg1 arg2 harg2 arg3 harg3 arg4 harg4 arg5 harg5 arg6 harg6 arg7 harg7 arg8 harg8 arg9 harg9 hc0 x0 x1 x2 x3 x4 x5 xs0).2.2.1 S128x256.size (by sl_kernel_rfl) y

/-- What case B leaves in scratch `arg9`: its pieces read back over junk. -/
def sout0_B_0 : Vec F S512x256 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 hc0 x0 x1 x2 x3 x4 x5 xs0).2.2.1)

end CaseB

/-! ## What the outputs hold after each point -/

/-- What case A leaves in the outputs and the carried scratch at point `t`. -/
abbrev atA0 (c : Dev nD) (t : Fin cfg0.N) (h0 : t.val % 16 = 0) : Vec F S256x1024 .f32 × Vec F S4x512x256 .f32 × Vec F S512x256 .f32 :=
  (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (X0_0 V c t) (X0_1 V c t) (X0_2 V c t) (iblk0 V c 3 t) (iblk0 V c 4 t) (iblk0 V c 5 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (X0_0 V c t) (X0_1 V c t) (X0_2 V c t) (iblk0 V c 3 t) (iblk0 V c 4 t) (iblk0 V c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (X0_0 V c t) (X0_1 V c t) (X0_2 V c t) (iblk0 V c 3 t) (iblk0 V c 4 t) (iblk0 V c 5 t))

/-- What case B leaves there over `p`, what the point before left. -/
abbrev atB0 (c : Dev nD) (t : Fin cfg0.N) (h0 : ¬t.val % 16 = 0) (p : Vec F S256x1024 .f32 × Vec F S4x512x256 .f32 × Vec F S512x256 .f32) : Vec F S256x1024 .f32 × Vec F S4x512x256 .f32 × Vec F S512x256 .f32 :=
  (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (X0_0 V c t) (X0_1 V c t) (X0_2 V c t) (iblk0 V c 3 t) (iblk0 V c 4 t) (iblk0 V c 5 t) p.2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (X0_0 V c t) (X0_1 V c t) (X0_2 V c t) (iblk0 V c 3 t) (iblk0 V c 4 t) (iblk0 V c 5 t) p.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (X0_0 V c t) (X0_1 V c t) (X0_2 V c t) (iblk0 V c 3 t) (iblk0 V c 4 t) (iblk0 V c 5 t) p.2.2)

/-- What the outputs' staging buffers and the carried scratch hold after the body at position `n`. -/
def outsAt0 (c : Dev nD) : (n : ℕ) → n < cfg0.N → Vec F S256x1024 .f32 × Vec F S4x512x256 .f32 × Vec F S512x256 .f32
  | 0, hn => atA0 V c ⟨0, hn⟩ (Nat.zero_mod _)
  | n + 1, hn =>
    if h0 : (n + 1) % 16 = 0 then atA0 V c ⟨n + 1, hn⟩ h0
    else atB0 V c ⟨n + 1, hn⟩ h0 (outsAt0 c n (Nat.lt_of_succ_lt hn))

/-- `outsAt0` at a point of case A: that case's contents. -/
theorem outsAt0_A (c : Dev nD) (t : Fin cfg0.N) (h0 : t.val % 16 = 0) :
    outsAt0 V c t.val t.isLt = atA0 V c t h0 := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 16 = 0) :
    outsAt0 V c t.val t.isLt = atB0 V c t h0 (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The region invariant before position `n`: after the first point the carried scratch holds what the point before left. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the carried scratch at that point's contents. -/
theorem PhiS0_succ (c : Dev nD) (n : ℕ) (hn : n < cfg0.N) :
    PhiS0 V c (n + 1) hn = iprop(iprop(owns (c : Thread nD τ) scM0_0 fullShare ((outsAt0 V c n hn).2.2) ∗ rest0 (F := F) c) ∗ (∃ r, prngReg c r)) := rfl

/-- Before a point that is not the first: the carried scratch at what the point before left. -/
theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2) ∗ rest0 (F := F) c) ∗ (∃ r, prngReg c r)) := by
  cases n with
  | zero => exact absurd rfl hz
  | succ n => rfl

/-! ## The pipeline's proof data -/

/-- The proof data of pipeline 0: arrays as the region finds them, inputs' buffers at their blocks, outputs at `outsAt0`. -/
def dat0 (c : Dev nD) : Dat τ (Elt F) Unit ℕ (UR sig nD τ) ℕ cfg0 c where
  A w := V c (Pipeline.arrRef spec0 w)
  after w t := match w with
    | ⟨0, _⟩ => X0_0 V c t
    | ⟨1, _⟩ => X0_1 V c t
    | ⟨2, _⟩ => X0_2 V c t
    | ⟨3, _⟩ => iblk0 V c 3 t
    | ⟨4, _⟩ => iblk0 V c 4 t
    | ⟨5, _⟩ => iblk0 V c 5 t
    | ⟨6, _⟩ => (outsAt0 V c t.val t.isLt).1
    | ⟨7, _⟩ => (outsAt0 V c t.val t.isLt).2.1
  Φ t := PhiS0 V c t.val (Nat.le_of_lt_succ t.isLt)
  q w := Pipeline.shareOf spec0 w
  owed _ := 0

/-- The proof data's arrays are the contents at the region's entry. -/
theorem A_eq0 (c : Dev nD) (w : Fin cfg0.W) : (dat0 V c).A w = V c (Pipeline.arrRef spec0 w) := by
  dsimp only [dat0]

/-- The invariant at a point's start (the proof data at `t.castSucc`), restated at `t.val`. -/
theorem PhiS0_castSucc (c : Dev nD) (t : Fin cfg0.N) :
    (dat0 V c).Φ t.castSucc = PhiS0 V c t.val (Nat.le_of_lt t.isLt) := by
  dsimp only [dat0]; exact Pipeline.Dat.Φ_castSucc (PhiS0 V c) t

/-- What the body leaves, window by window (the proof data's `match` reduced by `dsimp`). -/
theorem after0_0 (c : Dev nD) (t : Fin cfg0.N) : (dat0 V c).after 0 t = X0_0 V c t := by dsimp only [dat0]
theorem after0_1 (c : Dev nD) (t : Fin cfg0.N) : (dat0 V c).after 1 t = X0_1 V c t := by dsimp only [dat0]
theorem after0_2 (c : Dev nD) (t : Fin cfg0.N) : (dat0 V c).after 2 t = X0_2 V c t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]
theorem after0_7 (c : Dev nD) (t : Fin cfg0.N) : (dat0 V c).after 7 t = (outsAt0 V c t.val t.isLt).2.1 := by dsimp only [dat0]

/-- Each input's current staging buffer holds its block at every point, fetched there or not (`beforeK_W_of`). -/
theorem before0_0 (c : Dev nD) (t : Fin cfg0.N) (d) : (dat0 V c).before 0 t d = X0_0 V c t :=
  before0_0_of V (dat0 V c) (A_eq0 V c 0) (after0_0 V c) t d
theorem before0_1 (c : Dev nD) (t : Fin cfg0.N) (d) : (dat0 V c).before 1 t d = X0_1 V c t :=
  before0_1_of V (dat0 V c) (A_eq0 V c 1) (after0_1 V c) t d
theorem before0_2 (c : Dev nD) (t : Fin cfg0.N) (d) : (dat0 V c).before 2 t d = X0_2 V c t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t))

set_option maxHeartbeats 6400000 in
/-- The body at any point: the case is decided by the point, and that case's run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl,
    after0_0, after0_1, after0_2, after0_3, after0_4, after0_5, after0_6, after0_7]
  rw [show (dat0 V c).Φ t.succ = PhiS0 V c (t.val + 1) t.isLt from rfl, PhiS0_succ]
  have hN : t.val < 16 := lt_of_lt_of_eq t.isLt (show cfg0.N = 16 from N_0)
  by_cases h0 : t.val % 16 = 0
  · by_cases hz : t.val = 0
    · rw [PhiS0_castSucc V c t, PhiS0_zero V c _ _ hz, PhiA0_eq]
      rw [outsAt0_A V c t h0]
      unfold atA0 out0_A_6 out0_A_7 sout0_A_0; (try dsimp only)
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ ((hcond0_0 t).mpr h0) (X0_0 V c t) (X0_1 V c t) (X0_2 V c t) (iblk0 V c 3 t) (iblk0 V c 4 t) (iblk0 V c 5 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      iintro ⟨H0, H1, H2, H3, H4, H5, ⟨%e6, H6⟩, ⟨%e7, H7⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _)
      unfold owns; iexists _; isplitr
      swap; · iexact H7
      ipureintro; exact View.read_writes_of_cover _ _ _ _ _ (cover0_A_7 c _ _ _ _ _ _ _ _ _ _ _ _ _ _ _ _ _ _ _ _ _ _ _ _ _ _)
    · exfalso; have hN : t.val < 16 := lt_of_lt_of_eq t.isLt (show cfg0.N = 16 from N_0); omega
  · by_cases hz : t.val = 0
    · exfalso; have hN : t.val < 16 := lt_of_lt_of_eq t.isLt (show cfg0.N = 16 from N_0); omega
    · rw [PhiS0_castSucc V c t, PhiS0_pos V c _ _ hz]
      rw [outsAt0_B V c t h0]
      unfold atB0 out0_B_6 out0_B_7 sout0_B_0; (try dsimp only)
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ (fun h => h0 ((hcond0_0 t).mp h)) (X0_0 V c t) (X0_1 V c t) (X0_2 V c t) (iblk0 V c 3 t) (iblk0 V c 4 t) (iblk0 V c 5 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      iintro ⟨H0, H1, H2, H3, H4, H5, ⟨%e6, H6⟩, ⟨%e7, H7⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _)
      unfold owns; iexists _; isplitr
      swap; · iexact H7
      ipureintro; exact View.read_writes_of_cover _ _ _ _ _ (cover0_B_7 c _ _ _ _ _ _ _ _ _ _ _ _ _ _ _ _ _ _ _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- What the launch hands the region (`ΦA`) is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives `ΦA` back: the carried scratch's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 16 := N_0; omega)

end Regions

end Cert.KernelIdeal.Gen

end
-- ==== Proof.Ideal.Region1.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1_gla_bwd` (pipeline 1), at the entry contents `V` — class R -/

/-! ## The windows' blocks -/

/-- Window `w`'s block at point `t`, read off its array as the region finds it (`V`). -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether or not that point fetched it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- No block of input window 1 that the grid reaches is cut. -/
def dflt1_1 : (cfg1.win 1).block.Idx → Elt F (cfg1.win 1).elt := fun _ => Classical.choice inferInstance
/-- What input window 1's staging buffer holds when the body runs at `t`: its block read off the array. -/
def X1_1 (c : Dev nD) (t : Fin cfg1.N) : (cfg1.win 1).block.Idx → Elt F (cfg1.win 1).elt :=
  (cfg1.win 1).fill (cfg1.grid.coords t) dflt1_1 (iblk1 V c 1 t)
/-- At every point the cut's extent is the block's, decided over the grid: no transfer of input window 1 is cut. -/
theorem xsize1_1 : ∀ t : Fin cfg1.N, ∀ a, (cfg1.win 1).xsize (cfg1.grid.coords t) a = (cfg1.win 1).size a := by decide +kernel
/-- Every index of input window 1's block is moved at every point. -/
theorem moved1_1 (t : Fin cfg1.N) (j : (cfg1.win 1).block.Idx) : (cfg1.win 1).moved (cfg1.grid.coords t) j = true :=
  ((cfg1.win 1).moved_iff _ j).mpr fun a => by rw [xsize1_1 t a]; exact (j a).isLt
/-- A fill of input window 1's block covers the whole buffer, whatever it held. -/
theorem fill1_1 (t : Fin cfg1.N) (d d' : (cfg1.win 1).block.Idx → Elt F (cfg1.win 1).elt) (g) :
    (cfg1.win 1).fill (cfg1.grid.coords t) d g = (cfg1.win 1).fill (cfg1.grid.coords t) d' g := by
  funext j; unfold Pipeline.Window.fill; rw [dif_pos (moved1_1 t j), dif_pos (moved1_1 t j)]
/-- Input window 1's staging buffer holds `X1_1` at every point, whether or not that point fetched it. -/
theorem before1_1_of {c : Dev nD} (dat : Dat τ (Elt F) Unit ℕ (UR sig nD τ) ℕ cfg1 c) (hA : dat.A 1 = V c (Pipeline.arrRef spec1 1))
    (hafter : ∀ t, dat.after 1 t = X1_1 V c t) (t : Fin cfg1.N) (d) : dat.before 1 t d = X1_1 V c t :=
  (dat.before_in_eq_fetched 1 rfl (fun _ => rfl)
      (fun t t' h => funext fun a => congrArg (fun n => Pipeline.Clip.of n ((cfg1.win 1).size a) (S4096x10368.size a)) (congrFun h a))
      (fun t => by rw [hafter]; unfold X1_1; rw [Pipeline.Window.cut_fill]; unfold Dat.blockOf iblk1; rw [hA]; try rfl) t d).trans
    (by unfold Dat.fetched X1_1; rw [fill1_1 t d dflt1_1]; unfold Dat.blockOf iblk1; rw [hA]; try rfl)
/-- No block of input window 2 that the grid reaches is cut. -/
def dflt1_2 : (cfg1.win 2).block.Idx → Elt F (cfg1.win 2).elt := fun _ => Classical.choice inferInstance
/-- What input window 2's staging buffer holds when the body runs at `t`: its block read off the array. -/
def X1_2 (c : Dev nD) (t : Fin cfg1.N) : (cfg1.win 2).block.Idx → Elt F (cfg1.win 2).elt :=
  (cfg1.win 2).fill (cfg1.grid.coords t) dflt1_2 (iblk1 V c 2 t)
/-- At every point the cut's extent is the block's, decided over the grid: no transfer of input window 2 is cut. -/
theorem xsize1_2 : ∀ t : Fin cfg1.N, ∀ a, (cfg1.win 2).xsize (cfg1.grid.coords t) a = (cfg1.win 2).size a := by decide +kernel
/-- Every index of input window 2's block is moved at every point. -/
theorem moved1_2 (t : Fin cfg1.N) (j : (cfg1.win 2).block.Idx) : (cfg1.win 2).moved (cfg1.grid.coords t) j = true :=
  ((cfg1.win 2).moved_iff _ j).mpr fun a => by rw [xsize1_2 t a]; exact (j a).isLt
/-- A fill of input window 2's block covers the whole buffer, whatever it held. -/
theorem fill1_2 (t : Fin cfg1.N) (d d' : (cfg1.win 2).block.Idx → Elt F (cfg1.win 2).elt) (g) :
    (cfg1.win 2).fill (cfg1.grid.coords t) d g = (cfg1.win 2).fill (cfg1.grid.coords t) d' g := by
  funext j; unfold Pipeline.Window.fill; rw [dif_pos (moved1_2 t j), dif_pos (moved1_2 t j)]
/-- Input window 2's staging buffer holds `X1_2` at every point, whether or not that point fetched it. -/
theorem before1_2_of {c : Dev nD} (dat : Dat τ (Elt F) Unit ℕ (UR sig nD τ) ℕ cfg1 c) (hA : dat.A 2 = V c (Pipeline.arrRef spec1 2))
    (hafter : ∀ t, dat.after 2 t = X1_2 V c t) (t : Fin cfg1.N) (d) : dat.before 2 t d = X1_2 V c t :=
  (dat.before_in_eq_fetched 2 rfl (fun _ => rfl)
      (fun t t' h => funext fun a => congrArg (fun n => Pipeline.Clip.of n ((cfg1.win 2).size a) (S4096x10368.size a)) (congrFun h a))
      (fun t => by rw [hafter]; unfold X1_2; rw [Pipeline.Window.cut_fill]; unfold Dat.blockOf iblk1; rw [hA]; try rfl) t d).trans
    (by unfold Dat.fetched X1_2; rw [fill1_2 t d dflt1_2]; unfold Dat.blockOf iblk1; rw [hA]; try rfl)
/-- No block of input window 3 that the grid reaches is cut. -/
def dflt1_3 : (cfg1.win 3).block.Idx → Elt F (cfg1.win 3).elt := fun _ => Classical.choice inferInstance
/-- What input window 3's staging buffer holds when the body runs at `t`: its block read off the array. -/
def X1_3 (c : Dev nD) (t : Fin cfg1.N) : (cfg1.win 3).block.Idx → Elt F (cfg1.win 3).elt :=
  (cfg1.win 3).fill (cfg1.grid.coords t) dflt1_3 (iblk1 V c 3 t)
/-- At every point the cut's extent is the block's, decided over the grid: no transfer of input window 3 is cut. -/
theorem xsize1_3 : ∀ t : Fin cfg1.N, ∀ a, (cfg1.win 3).xsize (cfg1.grid.coords t) a = (cfg1.win 3).size a := by decide +kernel
/-- Every index of input window 3's block is moved at every point. -/
theorem moved1_3 (t : Fin cfg1.N) (j : (cfg1.win 3).block.Idx) : (cfg1.win 3).moved (cfg1.grid.coords t) j = true :=
  ((cfg1.win 3).moved_iff _ j).mpr fun a => by rw [xsize1_3 t a]; exact (j a).isLt
/-- A fill of input window 3's block covers the whole buffer, whatever it held. -/
theorem fill1_3 (t : Fin cfg1.N) (d d' : (cfg1.win 3).block.Idx → Elt F (cfg1.win 3).elt) (g) :
    (cfg1.win 3).fill (cfg1.grid.coords t) d g = (cfg1.win 3).fill (cfg1.grid.coords t) d' g := by
  funext j; unfold Pipeline.Window.fill; rw [dif_pos (moved1_3 t j), dif_pos (moved1_3 t j)]
/-- Input window 3's staging buffer holds `X1_3` at every point, whether or not that point fetched it. -/
theorem before1_3_of {c : Dev nD} (dat : Dat τ (Elt F) Unit ℕ (UR sig nD τ) ℕ cfg1 c) (hA : dat.A 3 = V c (Pipeline.arrRef spec1 3))
    (hafter : ∀ t, dat.after 3 t = X1_3 V c t) (t : Fin cfg1.N) (d) : dat.before 3 t d = X1_3 V c t :=
  (dat.before_in_eq_fetched 3 rfl (fun _ => rfl)
      (fun t t' h => funext fun a => congrArg (fun n => Pipeline.Clip.of n ((cfg1.win 3).size a) (S4096x10368.size a)) (congrFun h a))
      (fun t => by rw [hafter]; unfold X1_3; rw [Pipeline.Window.cut_fill]; unfold Dat.blockOf iblk1; rw [hA]; try rfl) t d).trans
    (by unfold Dat.fetched X1_3; rw [fill1_3 t d dflt1_3]; unfold Dat.blockOf iblk1; rw [hA]; try rfl)
/-- Input window 4's staging buffer holds its block at every point, whether or not that point fetched it. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's staging buffer holds its block at every point, whether or not that point fetched it. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's staging buffer holds its block at every point, whether or not that point fetched it. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's staging buffer holds its block at every point, whether or not that point fetched it. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- Input window 8's staging buffer holds its block at every point, whether or not that point fetched it. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 0).val) 0#32)) 0#32) = 1#1
/-- It holds at the first point only — by arithmetic of the point. -/
theorem hcond1_0 : ∀ t : Fin cfg1.N, cond1_0 (grid1.coords t) ↔ t.val % 16 = 0 :=
  (fun t => by
    have ht : t.val < 16 := Nat.lt_of_lt_of_eq t.isLt N_1
    have e0 : (grid1.coords t 0).val = t.val / 1 % 16 := Pipeline.Grid.coords_val t 0 (by decide) rfl
    simp only [cond1_0, e0]
    word_cmp
   : ∀ t : Fin grid1.N, cond1_0 (grid1.coords t) ↔ t.val % 16 = 0)

/-! ## The kernel body on any staging memrefs: a subtype the run finds -/

/-- One staging buffer of output window 9, through which its contents are stated (`View.read_writes_of_cover`: the
    choice does not matter). -/
abbrev VO1_9 : View sig .tc .vmem S256x2048 .bf16 := (Memref.whole cc1_stg9_0 : Memref sig .tc .vmem S256x2048 .bf16).view
/-- One staging buffer of output window 10, through which its contents are stated (`View.read_writes_of_cover`: the
    choice does not matter). -/
abbrev VO1_10 : View sig .tc .vmem S256x128 .bf16 := (Memref.whole cc1_stg10_0 : Memref sig .tc .vmem S256x128 .bf16).view
/-- One staging buffer of output window 11, through which its contents are stated (`View.read_writes_of_cover`: the
    choice does not matter). -/
abbrev VO1_11 : View sig .tc .vmem S128x512 .f32 := (Memref.whole cc1_stg11_0 : Memref sig .tc .vmem S128x512 .f32).view
/-- One staging buffer of output window 12, through which its contents are stated (`View.read_writes_of_cover`: the
    choice does not matter). -/
abbrev VO1_12 : View sig .tc .vmem S1x512 .f32 := (Memref.whole cc1_stg12_0 : Memref sig .tc .vmem S1x512 .f32).view
/-- Each window's current staging memref at point `t`, spelled as the pipeline passes it (`bodyAt1`), and its wholeness. -/
abbrev ms1_0 (t : Fin cfg1.N) : Memref sig .tc .vmem S256x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x512 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256x128 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S4x512x256 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x512x256 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S128x512 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x512 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S256x2048 .bf16 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S256x128 .bf16 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S128x512 .f32 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S1x512 .f32 := win1_12.stage (cfg1.slots t 12)
abbrev hs1_12 (t : Fin cfg1.N) : (ms1_12 t).IsWhole := hstage1_12 ((cfg1.slots t 12).cast nbuf1_12)
/-- The scratch operands: whole scoped buffers of the kernel's own, passed beside the windows. -/
abbrev scM1_0 : Memref sig .tc .vmem S512x256 .f32 := Memref.whole cc1_scratch0
abbrev scM1_1 : Memref sig .tc .vmem S256x512 .f32 := Memref.whole cc1_scratch1
/-- The scratch `arg15` the kernel carries between points, as a view: what it holds is stated through it. -/
abbrev VS1_0 : View sig .tc .vmem S512x256 .f32 := scM1_0.view

/-- Buffer `b` of the core, whole at some contents. -/
abbrev held1 (c : Dev nD) (b : Ref sig .tc) : sProp 𝕄 :=
  iprop(∃ f : Buf (Elt F) ((c : Thread nD τ).loc b), ((c : Thread nD τ).loc b) ↦{fullShare} f)

/-- `X` beside the scoped buffers the region leaves alone. -/
def withRest1 (c : Dev nD) (X : sProp 𝕄) : sProp 𝕄 :=
  iprop(held1 (F := F) c cc0_stg0_0 ∗ held1 (F := F) c cc0_stg0_1 ∗ held1 (F := F) c cc0_stg1_0 ∗ held1 (F := F) c cc0_stg1_1 ∗ held1 (F := F) c cc0_stg2_0 ∗ held1 (F := F) c cc0_stg2_1 ∗ held1 (F := F) c cc0_stg3_0 ∗ held1 (F := F) c cc0_stg3_1 ∗ held1 (F := F) c cc0_stg4_0 ∗ held1 (F := F) c cc0_stg5_0 ∗ held1 (F := F) c cc0_stg6_0 ∗ held1 (F := F) c cc0_stg6_1 ∗ held1 (F := F) c cc0_stg7_0 ∗ held1 (F := F) c cc0_stg7_1 ∗ held1 (F := F) c cc0_scratch0 ∗ X)

/-- The invariant with the scratch operands owned at some contents. -/
theorem PhiA1_eq (c : Dev nD) :
    (Pipeline.ΦA spec1 c : sProp 𝕄)
      = iprop(withRest1 c iprop((∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

section CaseA

variable (c : Dev nD) (i : grid1.Coords) (arg1 : Memref sig .tc .vmem S256x1024 .f32) (harg1 : arg1.IsWhole) (arg2 : Memref sig .tc .vmem S256x512 .bf16) (harg2 : arg2.IsWhole) (arg3 : Memref sig .tc .vmem S256x512 .bf16) (harg3 : arg3.IsWhole) (arg4 : Memref sig .tc .vmem S256x1024 .bf16) (harg4 : arg4.IsWhole) (arg5 : Memref sig .tc .vmem S256x128 .bf16) (harg5 : arg5.IsWhole) (arg6 : Memref sig .tc .vmem S4x512x256 .f32) (harg6 : arg6.IsWhole) (arg7 : Memref sig .tc .vmem S1x512x256 .f32) (harg7 : arg7.IsWhole) (arg8 : Memref sig .tc .vmem S128x512 .f32) (harg8 : arg8.IsWhole) (arg9 : Memref sig .tc .vmem S1x512 .f32) (harg9 : arg9.IsWhole) (arg11 : Memref sig .tc .vmem S256x2048 .bf16) (harg11 : arg11.IsWhole) (arg12 : Memref sig .tc .vmem S256x128 .bf16) (harg12 : arg12.IsWhole) (arg13 : Memref sig .tc .vmem S128x512 .f32) (harg13 : arg13.IsWhole) (arg14 : Memref sig .tc .vmem S1x512 .f32) (harg14 : arg14.IsWhole) (arg15 : Memref sig .tc .vmem S512x256 .f32) (harg15 : arg15.IsWhole) (arg16 : Memref sig .tc .vmem S256x512 .f32) (harg16 : arg16.IsWhole) (hc0 : cond1_0 i)
  (x0 : Vec F S256x1024 .f32) (x1 : Vec F S256x512 .bf16) (x2 : Vec F S256x512 .bf16) (x3 : Vec F S256x1024 .bf16) (x4 : Vec F S256x128 .bf16) (x5 : Vec F S4x512x256 .f32) (x6 : Vec F S1x512x256 .f32) (x7 : Vec F S128x512 .f32) (x8 : Vec F S1x512 .f32)

set_option maxHeartbeats 2164000 in
/-- Case A (the first point): what the body stores in each output and in the carried scratch, as pieces, with the proof
    that the body runs from the inputs' contents to those pieces written. -/
noncomputable def kernelRun1_A :
    Σ' (L9 : List (View.Piece (Elt F) S256x2048 .bf16)), Σ' (L10 : List (View.Piece (Elt F) S256x128 .bf16)), Σ' (L11 : List (View.Piece (Elt F) S128x512 .f32)), Σ' (L12 : List (View.Piece (Elt F) S1x512 .f32)), Σ' (LS0 : List (View.Piece (Elt F) S512x256 .f32)), { LT1 : List (View.Piece (Elt F) S256x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LT1)) -∗ K ⟨⟩))
          ⊢ wp frame (wpE (defs₀ (F := F)) Variants.none c none) E (cc1_gla_bwd i arg1 harg1 arg2 harg2 arg3 harg3 arg4 harg4 arg5 harg5 arg6 harg6 arg7 harg7 arg8 harg8 arg9 harg9 (Memref.whole main_arg4) (Memref.isWhole_whole _) arg11 harg11 arg12 harg12 arg13 harg13 arg14 harg14 arg15 harg15 arg16 harg16) K } := by
  refine ⟨?_, ?_, ?_, ?_, ?_, ?_, fun E K => ?run⟩
  case run =>
    simp only [cc1_gla_bwd_eq_skeleton]; unfold cc1_gla_bwd_skel
    simp only [k1_part44_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    isplitl [H11]; · iexists _; iexact H11
    isplitl [H12]; · iexists _; iexact H12
    isplitl [HS0]; · iexists _; iexact HS0
    iexists _; iexact HS1

/-- Case A's pieces for output 9 cover its block: cut into blocks of one size they tile it. -/
theorem cover1_A_9 (y : S256x2048.Idx) :
    ∃ pc ∈ (kernelRun1_A c i arg1 harg1 arg2 harg2 arg3 harg3 arg4 harg4 arg5 harg5 arg6 harg6 arg7 harg7 arg8 harg8 arg9 harg9 arg11 harg11 arg12 harg12 arg13 harg13 arg14 harg14 arg15 harg15 arg16 harg16 hc0 x0 x1 x2 x3 x4 x5 x6 x7 x8).1, y ∈ pc.1.set :=
  View.cover_of_tiledBy (kernelRun1_A c i arg1 harg1 arg2 harg2 arg3 harg3 arg4 harg4 arg5 harg5 arg6 harg6 arg7 harg7 arg8 harg8 arg9 harg9 arg11 harg11 arg12 harg12 arg13 harg13 arg14 harg14 arg15 harg15 arg16 harg16 hc0 x0 x1 x2 x3 x4 x5 x6 x7 x8).1 ![64, 128] (by sl_kernel_rfl) y

/-- What case A leaves in output 9's staging buffer: its pieces read back over junk. -/
def out1_A_9 : Vec F S256x2048 .bf16 :=
  VO1_9.read (Elt F) (VO1_9.writes (Elt F) VO1_9.junk (kernelRun1_A c i arg1 harg1 arg2 harg2 arg3 harg3 arg4 harg4 arg5 harg5 arg6 harg6 arg7 harg7 arg8 harg8 arg9 harg9 arg11 harg11 arg12 harg12 arg13 harg13 arg14 harg14 arg15 harg15 arg16 harg16 hc0 x0 x1 x2 x3 x4 x5 x6 x7 x8).1)

/-- Case A's pieces for output 10 cover its block. -/
theorem cover1_A_10 (y : S256x128.Idx) :
    ∃ pc ∈ (kernelRun1_A c i arg1 harg1 arg2 harg2 arg3 harg3 arg4 harg4 arg5 harg5 arg6 harg6 arg7 harg7 arg8 harg8 arg9 harg9 arg11 harg11 arg12 harg12 arg13 harg13 arg14 harg14 arg15 harg15 arg16 harg16 hc0 x0 x1 x2 x3 x4 x5 x6 x7 x8).2.1, y ∈ pc.1.set :=
  View.cover_of_tiledL (kernelRun1_A c i arg1 harg1 arg2 harg2 arg3 harg3 arg4 harg4 arg5 harg5 arg6 harg6 arg7 harg7 arg8 harg8 arg9 harg9 arg11 harg11 arg12 harg12 arg13 harg13 arg14 harg14 arg15 harg15 arg16 harg16 hc0 x0 x1 x2 x3 x4 x5 x6 x7 x8).2.1 S256x128.size (by sl_kernel_rfl) y

/-- What case A leaves in output 10's staging buffer: its pieces read back over junk. -/
def out1_A_10 : Vec F S256x128 .bf16 :=
  VO1_10.read (Elt F) (VO1_10.writes (Elt F) VO1_10.junk (kernelRun1_A c i arg1 harg1 arg2 harg2 arg3 harg3 arg4 harg4 arg5 harg5 arg6 harg6 arg7 harg7 arg8 harg8 arg9 harg9 arg11 harg11 arg12 harg12 arg13 harg13 arg14 harg14 arg15 harg15 arg16 harg16 hc0 x0 x1 x2 x3 x4 x5 x6 x7 x8).2.1)

/-- Case A's pieces for output 11 cover its block. -/
theorem cover1_A_11 (y : S128x512.Idx) :
    ∃ pc ∈ (kernelRun1_A c i arg1 harg1 arg2 harg2 arg3 harg3 arg4 harg4 arg5 harg5 arg6 harg6 arg7 harg7 arg8 harg8 arg9 harg9 arg11 harg11 arg12 harg12 arg13 harg13 arg14 harg14 arg15 harg15 arg16 harg16 hc0 x0 x1 x2 x3 x4 x5 x6 x7 x8).2.2.1, y ∈ pc.1.set :=
  View.cover_of_tiledL (kernelRun1_A c i arg1 harg1 arg2 harg2 arg3 harg3 arg4 harg4 arg5 harg5 arg6 harg6 arg7 harg7 arg8 harg8 arg9 harg9 arg11 harg11 arg12 harg12 arg13 harg13 arg14 harg14 arg15 harg15 arg16 harg16 hc0 x0 x1 x2 x3 x4 x5 x6 x7 x8).2.2.1 S128x512.size (by sl_kernel_rfl) y

/-- What case A leaves in output 11's staging buffer: its pieces read back over junk. -/
def out1_A_11 : Vec F S128x512 .f32 :=
  VO1_11.read (Elt F) (VO1_11.writes (Elt F) VO1_11.junk (kernelRun1_A c i arg1 harg1 arg2 harg2 arg3 harg3 arg4 harg4 arg5 harg5 arg6 harg6 arg7 harg7 arg8 harg8 arg9 harg9 arg11 harg11 arg12 harg12 arg13 harg13 arg14 harg14 arg15 harg15 arg16 harg16 hc0 x0 x1 x2 x3 x4 x5 x6 x7 x8).2.2.1)

/-- Case A's pieces for output 12 cover its block. -/
theorem cover1_A_12 (y : S1x512.Idx) :
    ∃ pc ∈ (kernelRun1_A c i arg1 harg1 arg2 harg2 arg3 harg3 arg4 harg4 arg5 harg5 arg6 harg6 arg7 harg7 arg8 harg8 arg9 harg9 arg11 harg11 arg12 harg12 arg13 harg13 arg14 harg14 arg15 harg15 arg16 harg16 hc0 x0 x1 x2 x3 x4 x5 x6 x7 x8).2.2.2.1, y ∈ pc.1.set :=
  View.cover_of_tiledL (kernelRun1_A c i arg1 harg1 arg2 harg2 arg3 harg3 arg4 harg4 arg5 harg5 arg6 harg6 arg7 harg7 arg8 harg8 arg9 harg9 arg11 harg11 arg12 harg12 arg13 harg13 arg14 harg14 arg15 harg15 arg16 harg16 hc0 x0 x1 x2 x3 x4 x5 x6 x7 x8).2.2.2.1 S1x512.size (by sl_kernel_rfl) y

/-- What case A leaves in output 12's staging buffer: its pieces read back over junk. -/
def out1_A_12 : Vec F S1x512 .f32 :=
  VO1_12.read (Elt F) (VO1_12.writes (Elt F) VO1_12.junk (kernelRun1_A c i arg1 harg1 arg2 harg2 arg3 harg3 arg4 harg4 arg5 harg5 arg6 harg6 arg7 harg7 arg8 harg8 arg9 harg9 arg11 harg11 arg12 harg12 arg13 harg13 arg14 harg14 arg15 harg15 arg16 harg16 hc0 x0 x1 x2 x3 x4 x5 x6 x7 x8).2.2.2.1)

/-- Case A's pieces for scratch `arg15`, which the kernel carries between points, cover it: one of them a store of the WHOLE buffer (Lib/Ring.lean `sl_whole_mem`). -/
theorem scover1_A_0 (y : S512x256.Idx) :
    ∃ pc ∈ (kernelRun1_A c i arg1 harg1 arg2 harg2 arg3 harg3 arg4 harg4 arg5 harg5 arg6 harg6 arg7 harg7 arg8 harg8 arg9 harg9 arg11 harg11 arg12 harg12 arg13 harg13 arg14 harg14 arg15 harg15 arg16 harg16 hc0 x0 x1 x2 x3 x4 x5 x6 x7 x8).2.2.2.2.1, y ∈ pc.1.set :=
  View.cover_of_wholeMem (kernelRun1_A c i arg1 harg1 arg2 harg2 arg3 harg3 arg4 harg4 arg5 harg5 arg6 harg6 arg7 harg7 arg8 harg8 arg9 harg9 arg11 harg11 arg12 harg12 arg13 harg13 arg14 harg14 arg15 harg15 arg16 harg16 hc0 x0 x1 x2 x3 x4 x5 x6 x7 x8).2.2.2.2.1 (by sl_whole_mem) y

/-- What case A leaves in scratch `arg15`: its pieces read back over junk. -/
def sout1_A_0 : Vec F S512x256 .f32 :=
  VS1_0.read (Elt F) (VS1_0.writes (Elt F) VS1_0.junk (kernelRun1_A c i arg1 harg1 arg2 harg2 arg3 harg3 arg4 harg4 arg5 harg5 arg6 harg6 arg7 harg7 arg8 harg8 arg9 harg9 arg11 harg11 arg12 harg12 arg13 harg13 arg14 harg14 arg15 harg15 arg16 harg16 hc0 x0 x1 x2 x3 x4 x5 x6 x7 x8).2.2.2.2.1)

end CaseA

section CaseB

variable (c : Dev nD) (i : grid1.Coords) (arg1 : Memref sig .tc .vmem S256x1024 .f32) (harg1 : arg1.IsWhole) (arg2 : Memref sig .tc .vmem S256x512 .bf16) (harg2 : arg2.IsWhole) (arg3 : Memref sig .tc .vmem S256x512 .bf16) (harg3 : arg3.IsWhole) (arg4 : Memref sig .tc .vmem S256x1024 .bf16) (harg4 : arg4.IsWhole) (arg5 : Memref sig .tc .vmem S256x128 .bf16) (harg5 : arg5.IsWhole) (arg6 : Memref sig .tc .vmem S4x512x256 .f32) (harg6 : arg6.IsWhole) (arg7 : Memref sig .tc .vmem S1x512x256 .f32) (harg7 : arg7.IsWhole) (arg8 : Memref sig .tc .vmem S128x512 .f32) (harg8 : arg8.IsWhole) (arg9 : Memref sig .tc .vmem S1x512 .f32) (harg9 : arg9.IsWhole) (arg11 : Memref sig .tc .vmem S256x2048 .bf16) (harg11 : arg11.IsWhole) (arg12 : Memref sig .tc .vmem S256x128 .bf16) (harg12 : arg12.IsWhole) (arg13 : Memref sig .tc .vmem S128x512 .f32) (harg13 : arg13.IsWhole) (arg14 : Memref sig .tc .vmem S1x512 .f32) (harg14 : arg14.IsWhole) (arg15 : Memref sig .tc .vmem S512x256 .f32) (harg15 : arg15.IsWhole) (arg16 : Memref sig .tc .vmem S256x512 .f32) (harg16 : arg16.IsWhole) (hc0 : ¬cond1_0 i)
  (x0 : Vec F S256x1024 .f32) (x1 : Vec F S256x512 .bf16) (x2 : Vec F S256x512 .bf16) (x3 : Vec F S256x1024 .bf16) (x4 : Vec F S256x128 .bf16) (x5 : Vec F S4x512x256 .f32) (x6 : Vec F S1x512x256 .f32) (x7 : Vec F S128x512 .f32) (x8 : Vec F S1x512 .f32) (xo11 : Vec F S128x512 .f32) (xo12 : Vec F S1x512 .f32) (xs0 : Vec F S512x256 .f32)

set_option maxHeartbeats 2136000 in
/-- Case B (the later points): what the body stores in each output and in the carried scratch, as pieces, with the proof
    that the body runs from the inputs' contents to those pieces written. -/
noncomputable def kernelRun1_B :
    Σ' (L9 : List (View.Piece (Elt F) S256x2048 .bf16)), Σ' (L10 : List (View.Piece (Elt F) S256x128 .bf16)), Σ' (L11 : List (View.Piece (Elt F) S128x512 .f32)), Σ' (L12 : List (View.Piece (Elt F) S1x512 .f32)), Σ' (LS0 : List (View.Piece (Elt F) S512x256 .f32)), { LT1 : List (View.Piece (Elt F) S256x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg11 fullShare d) ∗ (∃ d, owns (c : Thread nD τ) arg12 fullShare d) ∗ owns (c : Thread nD τ) arg13 fullShare xo11 ∗ owns (c : Thread nD τ) arg14 fullShare xo12 ∗ owns (c : Thread nD τ) arg15 fullShare xs0 ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LT1)) -∗ K ⟨⟩))
          ⊢ wp frame (wpE (defs₀ (F := F)) Variants.none c none) E (cc1_gla_bwd i arg1 harg1 arg2 harg2 arg3 harg3 arg4 harg4 arg5 harg5 arg6 harg6 arg7 harg7 arg8 harg8 arg9 harg9 (Memref.whole main_arg4) (Memref.isWhole_whole _) arg11 harg11 arg12 harg12 arg13 harg13 arg14 harg14 arg15 harg15 arg16 harg16) K } := by
  refine ⟨?_, ?_, ?_, ?_, ?_, ?_, fun E K => ?run⟩
  case run =>
    simp only [cc1_gla_bwd_eq_skeleton]; unfold cc1_gla_bwd_skel
    simp only [k1_part44_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%f11, %hf11, H11⟩, ⟨%f12, %hf12, H12⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg13.eq_unread hf11; obtain rfl := harg14.eq_unread hf12; obtain rfl := harg15.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    isplitl [H11]; · iexists _; iexact H11
    isplitl [H12]; · iexists _; iexact H12
    isplitl [HS0]; · iexists _; iexact HS0
    iexists _; iexact HS1

/-- Case B's pieces for output 9 cover its block: cut into blocks of one size they tile it. -/
theorem cover1_B_9 (y : S256x2048.Idx) :
    ∃ pc ∈ (kernelRun1_B c i arg1 harg1 arg2 harg2 arg3 harg3 arg4 harg4 arg5 harg5 arg6 harg6 arg7 harg7 arg8 harg8 arg9 harg9 arg11 harg11 arg12 harg12 arg13 harg13 arg14 harg14 arg15 harg15 arg16 harg16 hc0 x0 x1 x2 x3 x4 x5 x6 x7 x8 xo11 xo12 xs0).1, y ∈ pc.1.set :=
  View.cover_of_tiledBy (kernelRun1_B c i arg1 harg1 arg2 harg2 arg3 harg3 arg4 harg4 arg5 harg5 arg6 harg6 arg7 harg7 arg8 harg8 arg9 harg9 arg11 harg11 arg12 harg12 arg13 harg13 arg14 harg14 arg15 harg15 arg16 harg16 hc0 x0 x1 x2 x3 x4 x5 x6 x7 x8 xo11 xo12 xs0).1 ![64, 128] (by sl_kernel_rfl) y

/-- What case B leaves in output 9's staging buffer: its pieces read back over junk. -/
def out1_B_9 : Vec F S256x2048 .bf16 :=
  VO1_9.read (Elt F) (VO1_9.writes (Elt F) VO1_9.junk (kernelRun1_B c i arg1 harg1 arg2 harg2 arg3 harg3 arg4 harg4 arg5 harg5 arg6 harg6 arg7 harg7 arg8 harg8 arg9 harg9 arg11 harg11 arg12 harg12 arg13 harg13 arg14 harg14 arg15 harg15 arg16 harg16 hc0 x0 x1 x2 x3 x4 x5 x6 x7 x8 xo11 xo12 xs0).1)

/-- Case B's pieces for output 10 cover its block. -/
theorem cover1_B_10 (y : S256x128.Idx) :
    ∃ pc ∈ (kernelRun1_B c i arg1 harg1 arg2 harg2 arg3 harg3 arg4 harg4 arg5 harg5 arg6 harg6 arg7 harg7 arg8 harg8 arg9 harg9 arg11 harg11 arg12 harg12 arg13 harg13 arg14 harg14 arg15 harg15 arg16 harg16 hc0 x0 x1 x2 x3 x4 x5 x6 x7 x8 xo11 xo12 xs0).2.1, y ∈ pc.1.set :=
  View.cover_of_tiledL (kernelRun1_B c i arg1 harg1 arg2 harg2 arg3 harg3 arg4 harg4 arg5 harg5 arg6 harg6 arg7 harg7 arg8 harg8 arg9 harg9 arg11 harg11 arg12 harg12 arg13 harg13 arg14 harg14 arg15 harg15 arg16 harg16 hc0 x0 x1 x2 x3 x4 x5 x6 x7 x8 xo11 xo12 xs0).2.1 S256x128.size (by sl_kernel_rfl) y

/-- What case B leaves in output 10's staging buffer: its pieces read back over junk. -/
def out1_B_10 : Vec F S256x128 .bf16 :=
  VO1_10.read (Elt F) (VO1_10.writes (Elt F) VO1_10.junk (kernelRun1_B c i arg1 harg1 arg2 harg2 arg3 harg3 arg4 harg4 arg5 harg5 arg6 harg6 arg7 harg7 arg8 harg8 arg9 harg9 arg11 harg11 arg12 harg12 arg13 harg13 arg14 harg14 arg15 harg15 arg16 harg16 hc0 x0 x1 x2 x3 x4 x5 x6 x7 x8 xo11 xo12 xs0).2.1)

/-- Case B's pieces for output 11 cover its block. -/
theorem cover1_B_11 (y : S128x512.Idx) :
    ∃ pc ∈ (kernelRun1_B c i arg1 harg1 arg2 harg2 arg3 harg3 arg4 harg4 arg5 harg5 arg6 harg6 arg7 harg7 arg8 harg8 arg9 harg9 arg11 harg11 arg12 harg12 arg13 harg13 arg14 harg14 arg15 harg15 arg16 harg16 hc0 x0 x1 x2 x3 x4 x5 x6 x7 x8 xo11 xo12 xs0).2.2.1, y ∈ pc.1.set :=
  View.cover_of_tiledL (kernelRun1_B c i arg1 harg1 arg2 harg2 arg3 harg3 arg4 harg4 arg5 harg5 arg6 harg6 arg7 harg7 arg8 harg8 arg9 harg9 arg11 harg11 arg12 harg12 arg13 harg13 arg14 harg14 arg15 harg15 arg16 harg16 hc0 x0 x1 x2 x3 x4 x5 x6 x7 x8 xo11 xo12 xs0).2.2.1 S128x512.size (by sl_kernel_rfl) y

/-- What case B leaves in output 11's staging buffer: its pieces read back over junk. -/
def out1_B_11 : Vec F S128x512 .f32 :=
  VO1_11.read (Elt F) (VO1_11.writes (Elt F) VO1_11.junk (kernelRun1_B c i arg1 harg1 arg2 harg2 arg3 harg3 arg4 harg4 arg5 harg5 arg6 harg6 arg7 harg7 arg8 harg8 arg9 harg9 arg11 harg11 arg12 harg12 arg13 harg13 arg14 harg14 arg15 harg15 arg16 harg16 hc0 x0 x1 x2 x3 x4 x5 x6 x7 x8 xo11 xo12 xs0).2.2.1)

/-- Case B's pieces for output 12 cover its block. -/
theorem cover1_B_12 (y : S1x512.Idx) :
    ∃ pc ∈ (kernelRun1_B c i arg1 harg1 arg2 harg2 arg3 harg3 arg4 harg4 arg5 harg5 arg6 harg6 arg7 harg7 arg8 harg8 arg9 harg9 arg11 harg11 arg12 harg12 arg13 harg13 arg14 harg14 arg15 harg15 arg16 harg16 hc0 x0 x1 x2 x3 x4 x5 x6 x7 x8 xo11 xo12 xs0).2.2.2.1, y ∈ pc.1.set :=
  View.cover_of_tiledL (kernelRun1_B c i arg1 harg1 arg2 harg2 arg3 harg3 arg4 harg4 arg5 harg5 arg6 harg6 arg7 harg7 arg8 harg8 arg9 harg9 arg11 harg11 arg12 harg12 arg13 harg13 arg14 harg14 arg15 harg15 arg16 harg16 hc0 x0 x1 x2 x3 x4 x5 x6 x7 x8 xo11 xo12 xs0).2.2.2.1 S1x512.size (by sl_kernel_rfl) y

/-- What case B leaves in output 12's staging buffer: its pieces read back over junk. -/
def out1_B_12 : Vec F S1x512 .f32 :=
  VO1_12.read (Elt F) (VO1_12.writes (Elt F) VO1_12.junk (kernelRun1_B c i arg1 harg1 arg2 harg2 arg3 harg3 arg4 harg4 arg5 harg5 arg6 harg6 arg7 harg7 arg8 harg8 arg9 harg9 arg11 harg11 arg12 harg12 arg13 harg13 arg14 harg14 arg15 harg15 arg16 harg16 hc0 x0 x1 x2 x3 x4 x5 x6 x7 x8 xo11 xo12 xs0).2.2.2.1)

/-- Case B's pieces for scratch `arg15`, which the kernel carries between points, cover it: 16 pieces of `S128x256` tiling it (Lib/Ring.lean `Piece.tiledL`). -/
theorem scover1_B_0 (y : S512x256.Idx) :
    ∃ pc ∈ (kernelRun1_B c i arg1 harg1 arg2 harg2 arg3 harg3 arg4 harg4 arg5 harg5 arg6 harg6 arg7 harg7 arg8 harg8 arg9 harg9 arg11 harg11 arg12 harg12 arg13 harg13 arg14 harg14 arg15 harg15 arg16 harg16 hc0 x0 x1 x2 x3 x4 x5 x6 x7 x8 xo11 xo12 xs0).2.2.2.2.1, y ∈ pc.1.set :=
  View.cover_of_tiledL (kernelRun1_B c i arg1 harg1 arg2 harg2 arg3 harg3 arg4 harg4 arg5 harg5 arg6 harg6 arg7 harg7 arg8 harg8 arg9 harg9 arg11 harg11 arg12 harg12 arg13 harg13 arg14 harg14 arg15 harg15 arg16 harg16 hc0 x0 x1 x2 x3 x4 x5 x6 x7 x8 xo11 xo12 xs0).2.2.2.2.1 S128x256.size (by sl_kernel_rfl) y

/-- What case B leaves in scratch `arg15`: its pieces read back over junk. -/
def sout1_B_0 : Vec F S512x256 .f32 :=
  VS1_0.read (Elt F) (VS1_0.writes (Elt F) VS1_0.junk (kernelRun1_B c i arg1 harg1 arg2 harg2 arg3 harg3 arg4 harg4 arg5 harg5 arg6 harg6 arg7 harg7 arg8 harg8 arg9 harg9 arg11 harg11 arg12 harg12 arg13 harg13 arg14 harg14 arg15 harg15 arg16 harg16 hc0 x0 x1 x2 x3 x4 x5 x6 x7 x8 xo11 xo12 xs0).2.2.2.2.1)

end CaseB

/-! ## What the outputs hold after each point -/

/-- What case A leaves in the outputs and the carried scratch at point `t`. -/
abbrev atA1 (c : Dev nD) (t : Fin cfg1.N) (h0 : t.val % 16 = 0) : Vec F S256x2048 .bf16 × Vec F S256x128 .bf16 × Vec F S128x512 .f32 × Vec F S1x512 .f32 × Vec F S512x256 .f32 :=
  (out1_A_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) scM1_0 (Memref.isWhole_whole _) scM1_1 (Memref.isWhole_whole _) ((hcond1_0 t).mpr h0) (iblk1 V c 0 t) (X1_1 V c t) (X1_2 V c t) (X1_3 V c t) (iblk1 V c 4 t) (iblk1 V c 5 t) (iblk1 V c 6 t) (iblk1 V c 7 t) (iblk1 V c 8 t), out1_A_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) scM1_0 (Memref.isWhole_whole _) scM1_1 (Memref.isWhole_whole _) ((hcond1_0 t).mpr h0) (iblk1 V c 0 t) (X1_1 V c t) (X1_2 V c t) (X1_3 V c t) (iblk1 V c 4 t) (iblk1 V c 5 t) (iblk1 V c 6 t) (iblk1 V c 7 t) (iblk1 V c 8 t), out1_A_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) scM1_0 (Memref.isWhole_whole _) scM1_1 (Memref.isWhole_whole _) ((hcond1_0 t).mpr h0) (iblk1 V c 0 t) (X1_1 V c t) (X1_2 V c t) (X1_3 V c t) (iblk1 V c 4 t) (iblk1 V c 5 t) (iblk1 V c 6 t) (iblk1 V c 7 t) (iblk1 V c 8 t), out1_A_12 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) scM1_0 (Memref.isWhole_whole _) scM1_1 (Memref.isWhole_whole _) ((hcond1_0 t).mpr h0) (iblk1 V c 0 t) (X1_1 V c t) (X1_2 V c t) (X1_3 V c t) (iblk1 V c 4 t) (iblk1 V c 5 t) (iblk1 V c 6 t) (iblk1 V c 7 t) (iblk1 V c 8 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) scM1_0 (Memref.isWhole_whole _) scM1_1 (Memref.isWhole_whole _) ((hcond1_0 t).mpr h0) (iblk1 V c 0 t) (X1_1 V c t) (X1_2 V c t) (X1_3 V c t) (iblk1 V c 4 t) (iblk1 V c 5 t) (iblk1 V c 6 t) (iblk1 V c 7 t) (iblk1 V c 8 t))

/-- What case B leaves there over `p`, what the point before left. -/
abbrev atB1 (c : Dev nD) (t : Fin cfg1.N) (h0 : ¬t.val % 16 = 0) (p : Vec F S256x2048 .bf16 × Vec F S256x128 .bf16 × Vec F S128x512 .f32 × Vec F S1x512 .f32 × Vec F S512x256 .f32) : Vec F S256x2048 .bf16 × Vec F S256x128 .bf16 × Vec F S128x512 .f32 × Vec F S1x512 .f32 × Vec F S512x256 .f32 :=
  (out1_B_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) scM1_0 (Memref.isWhole_whole _) scM1_1 (Memref.isWhole_whole _) (fun h => h0 ((hcond1_0 t).mp h)) (iblk1 V c 0 t) (X1_1 V c t) (X1_2 V c t) (X1_3 V c t) (iblk1 V c 4 t) (iblk1 V c 5 t) (iblk1 V c 6 t) (iblk1 V c 7 t) (iblk1 V c 8 t) p.2.2.1 p.2.2.2.1 p.2.2.2.2, out1_B_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) scM1_0 (Memref.isWhole_whole _) scM1_1 (Memref.isWhole_whole _) (fun h => h0 ((hcond1_0 t).mp h)) (iblk1 V c 0 t) (X1_1 V c t) (X1_2 V c t) (X1_3 V c t) (iblk1 V c 4 t) (iblk1 V c 5 t) (iblk1 V c 6 t) (iblk1 V c 7 t) (iblk1 V c 8 t) p.2.2.1 p.2.2.2.1 p.2.2.2.2, out1_B_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) scM1_0 (Memref.isWhole_whole _) scM1_1 (Memref.isWhole_whole _) (fun h => h0 ((hcond1_0 t).mp h)) (iblk1 V c 0 t) (X1_1 V c t) (X1_2 V c t) (X1_3 V c t) (iblk1 V c 4 t) (iblk1 V c 5 t) (iblk1 V c 6 t) (iblk1 V c 7 t) (iblk1 V c 8 t) p.2.2.1 p.2.2.2.1 p.2.2.2.2, out1_B_12 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) scM1_0 (Memref.isWhole_whole _) scM1_1 (Memref.isWhole_whole _) (fun h => h0 ((hcond1_0 t).mp h)) (iblk1 V c 0 t) (X1_1 V c t) (X1_2 V c t) (X1_3 V c t) (iblk1 V c 4 t) (iblk1 V c 5 t) (iblk1 V c 6 t) (iblk1 V c 7 t) (iblk1 V c 8 t) p.2.2.1 p.2.2.2.1 p.2.2.2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) scM1_0 (Memref.isWhole_whole _) scM1_1 (Memref.isWhole_whole _) (fun h => h0 ((hcond1_0 t).mp h)) (iblk1 V c 0 t) (X1_1 V c t) (X1_2 V c t) (X1_3 V c t) (iblk1 V c 4 t) (iblk1 V c 5 t) (iblk1 V c 6 t) (iblk1 V c 7 t) (iblk1 V c 8 t) p.2.2.1 p.2.2.2.1 p.2.2.2.2)

/-- What the outputs' staging buffers and the carried scratch hold after the body at position `n`. -/
def outsAt1 (c : Dev nD) : (n : ℕ) → n < cfg1.N → Vec F S256x2048 .bf16 × Vec F S256x128 .bf16 × Vec F S128x512 .f32 × Vec F S1x512 .f32 × Vec F S512x256 .f32
  | 0, hn => atA1 V c ⟨0, hn⟩ (Nat.zero_mod _)
  | n + 1, hn =>
    if h0 : (n + 1) % 16 = 0 then atA1 V c ⟨n + 1, hn⟩ h0
    else atB1 V c ⟨n + 1, hn⟩ h0 (outsAt1 c n (Nat.lt_of_succ_lt hn))

/-- `outsAt1` at a point of case A: that case's contents. -/
theorem outsAt1_A (c : Dev nD) (t : Fin cfg1.N) (h0 : t.val % 16 = 0) :
    outsAt1 V c t.val t.isLt = atA1 V c t h0 := by
  obtain ⟨n, hn⟩ := t
  cases n with
  | zero => exact rfl
  | succ n => exact (dif_pos h0).trans rfl

/-- `outsAt1` at a point of case B: that case's contents, over what the point before left. -/
theorem outsAt1_B (c : Dev nD) (t : Fin cfg1.N) (h0 : ¬t.val % 16 = 0) :
    outsAt1 V c t.val t.isLt = atB1 V c t h0 (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The region invariant before position `n`: after the first point the carried scratch holds what the point before left. -/
def PhiS1 (c : Dev nD) : (n : ℕ) → n ≤ cfg1.N → sProp 𝕄
  | 0, _ => Pipeline.ΦA spec1 c
  | n + 1, hn => iprop(withRest1 c iprop(owns (c : Thread nD τ) scM1_0 fullShare ((outsAt1 V c n hn).2.2.2.2) ∗ (∃ d, owns (c : Thread nD τ) scM1_1 fullShare d)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the carried scratch at that point's contents. -/
theorem PhiS1_succ (c : Dev nD) (n : ℕ) (hn : n < cfg1.N) :
    PhiS1 V c (n + 1) hn = iprop(withRest1 c iprop(owns (c : Thread nD τ) scM1_0 fullShare ((outsAt1 V c n hn).2.2.2.2) ∗ (∃ d, owns (c : Thread nD τ) scM1_1 fullShare d)) ∗ (∃ r, prngReg c r)) := rfl

/-- Before a point that is not the first: the carried scratch at what the point before left. -/
theorem PhiS1_pos (c : Dev nD) (n : ℕ) (h : n ≤ cfg1.N) (hz : n ≠ 0) :
    PhiS1 V c n h = iprop(withRest1 c iprop(owns (c : Thread nD τ) scM1_0 fullShare ((outsAt1 V c (n - 1) (by omega)).2.2.2.2) ∗ (∃ d, owns (c : Thread nD τ) scM1_1 fullShare d)) ∗ (∃ r, prngReg c r)) := by
  cases n with
  | zero => exact absurd rfl hz
  | succ n => rfl

/-! ## The pipeline's proof data -/

/-- The proof data of pipeline 1: arrays as the region finds them, inputs' buffers at their blocks, outputs at `outsAt1`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => X1_1 V c t
    | ⟨2, _⟩ => X1_2 V c t
    | ⟨3, _⟩ => X1_3 V c t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => (outsAt1 V c t.val t.isLt).1
    | ⟨10, _⟩ => (outsAt1 V c t.val t.isLt).2.1
    | ⟨11, _⟩ => (outsAt1 V c t.val t.isLt).2.2.1
    | ⟨12, _⟩ => (outsAt1 V c t.val t.isLt).2.2.2.1
  Φ t := PhiS1 V c t.val (Nat.le_of_lt_succ t.isLt)
  q w := Pipeline.shareOf spec1 w
  owed _ := 0

/-- The proof data's arrays are the contents at the region's entry. -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS1_castSucc (c : Dev nD) (t : Fin cfg1.N) :
    (dat1 V c).Φ t.castSucc = PhiS1 V c t.val (Nat.le_of_lt t.isLt) := by
  dsimp only [dat1]; exact Pipeline.Dat.Φ_castSucc (PhiS1 V c) t

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = X1_1 V c t := by dsimp only [dat1]
theorem after1_2 (c : Dev nD) (t : Fin cfg1.N) : (dat1 V c).after 2 t = X1_2 V c t := by dsimp only [dat1]
theorem after1_3 (c : Dev nD) (t : Fin cfg1.N) : (dat1 V c).after 3 t = X1_3 V c t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = (outsAt1 V c t.val t.isLt).1 := by dsimp only [dat1]
theorem after1_10 (c : Dev nD) (t : Fin cfg1.N) : (dat1 V c).after 10 t = (outsAt1 V c t.val t.isLt).2.1 := by dsimp only [dat1]
theorem after1_11 (c : Dev nD) (t : Fin cfg1.N) : (dat1 V c).after 11 t = (outsAt1 V c t.val t.isLt).2.2.1 := by dsimp only [dat1]
theorem after1_12 (c : Dev nD) (t : Fin cfg1.N) : (dat1 V c).after 12 t = (outsAt1 V c t.val t.isLt).2.2.2.1 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = X1_1 V c t :=
  before1_1_of V (dat1 V c) (A_eq1 V c 1) (after1_1 V c) t d
theorem before1_2 (c : Dev nD) (t : Fin cfg1.N) (d) : (dat1 V c).before 2 t d = X1_2 V c t :=
  before1_2_of V (dat1 V c) (A_eq1 V c 2) (after1_2 V c) t d
theorem before1_3 (c : Dev nD) (t : Fin cfg1.N) (d) : (dat1 V c).before 3 t d = X1_3 V c t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
/-- At a point of case B output 11's staging buffer holds what the point before left. -/
theorem before1_11_B (c : Dev nD) (t : Fin cfg1.N) (h0 : ¬t.val % 16 = 0) (d) :
    (dat1 V c).before 11 t d = (outsAt1 V c (t.val - 1) (Nat.lt_of_le_of_lt (Nat.sub_le _ _) t.isLt)).2.2.1 := by
  have hN : t.val < 16 := lt_of_lt_of_eq t.isLt (show cfg1.N = 16 from N_1)
  rw [Dat.before_out_kept _ 11 rfl t (by omega) (Bool.eq_false_iff.mpr fun h => by have := (flush1_11 _).mp h; dsimp only at this; omega)
    (fun _ => rfl) (fun _ _ => rfl)]
  dsimp only [dat1]
/-- At a point of case B output 12's staging buffer holds what the point before left. -/
theorem before1_12_B (c : Dev nD) (t : Fin cfg1.N) (h0 : ¬t.val % 16 = 0) (d) :
    (dat1 V c).before 12 t d = (outsAt1 V c (t.val - 1) (Nat.lt_of_le_of_lt (Nat.sub_le _ _) t.isLt)).2.2.2.1 := by
  have hN : t.val < 16 := lt_of_lt_of_eq t.isLt (show cfg1.N = 16 from N_1)
  rw [Dat.before_out_kept _ 12 rfl t (by omega) (Bool.eq_false_iff.mpr fun h => by have := (flush1_12 _).mp h; dsimp only at this; omega)
    (fun _ => rfl) (fun _ _ => rfl)]
  dsimp only [dat1]

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t)
    ∗ owns (c : Thread nD τ) (ms1_10 t) fullShare ((dat1 V c).after 10 t)
    ∗ owns (c : Thread nD τ) (ms1_11 t) fullShare ((dat1 V c).after 11 t)
    ∗ owns (c : Thread nD τ) (ms1_12 t) fullShare ((dat1 V c).after 12 t))

set_option maxHeartbeats 9600000 in
/-- The body at any point: the case is decided by the point, and that case's run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).owesAt () t.succ = (dat1 V c).owesAt () t.castSucc from rfl,
    after1_0, after1_1, after1_2, after1_3, after1_4, after1_5, after1_6, after1_7, after1_8, after1_9, after1_10, after1_11, after1_12]
  rw [show (dat1 V c).Φ t.succ = PhiS1 V c (t.val + 1) t.isLt from rfl, PhiS1_succ]
  have hN : t.val < 16 := lt_of_lt_of_eq t.isLt (show cfg1.N = 16 from N_1)
  by_cases h0 : t.val % 16 = 0
  · by_cases hz : t.val = 0
    · rw [PhiS1_castSucc V c t, PhiS1_zero V c _ _ hz, PhiA1_eq]
      rw [outsAt1_A V c t h0]
      unfold atA1 withRest1 out1_A_9 out1_A_10 out1_A_11 out1_A_12 sout1_A_0; (try dsimp only)
      iintro ⟨⟨⟨HR0, HR1, HR2, HR3, HR4, HR5, HR6, HR7, HR8, HR9, HR10, HR11, HR12, HR13, HR14, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun1_A c (grid1.coords t) _ _ _ _ _ _ _ _ _ _ _ _ _ _ _ _ _ _ _ _ _ _ _ _ _ _ _ _ _ _ ((hcond1_0 t).mpr h0) (iblk1 V c 0 t) (X1_1 V c t) (X1_2 V c t) (X1_3 V c t) (iblk1 V c 4 t) (iblk1 V c 5 t) (iblk1 V c 6 t) (iblk1 V c 7 t) (iblk1 V c 8 t)).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [H12]; · iexists _; iexact H12
      isplitl [HS0]; · iexact HS0
      isplitl [HS1]; · iexact HS1
      iintro ⟨H0, H1, H2, H3, H4, H5, H6, H7, H8, ⟨%e9, H9⟩, ⟨%e10, H10⟩, ⟨%e11, H11⟩, ⟨%e12, H12⟩, ⟨%es0, HS0⟩, ⟨%fT1, HS1⟩⟩
      isplitl [HR0 HR1 HR2 HR3 HR4 HR5 HR6 HR7 HR8 HR9 HR10 HR11 HR12 HR13 HR14 HS0 HS1 Hg]
      · isplitl [HR0 HR1 HR2 HR3 HR4 HR5 HR6 HR7 HR8 HR9 HR10 HR11 HR12 HR13 HR14 HS0 HS1]
        · isplitl [HR0]
          · iexact HR0
          isplitl [HR1]
          · iexact HR1
          isplitl [HR2]
          · iexact HR2
          isplitl [HR3]
          · iexact HR3
          isplitl [HR4]
          · iexact HR4
          isplitl [HR5]
          · iexact HR5
          isplitl [HR6]
          · iexact HR6
          isplitl [HR7]
          · iexact HR7
          isplitl [HR8]
          · iexact HR8
          isplitl [HR9]
          · iexact HR9
          isplitl [HR10]
          · iexact HR10
          isplitl [HR11]
          · iexact HR11
          isplitl [HR12]
          · iexact HR12
          isplitl [HR13]
          · iexact HR13
          isplitl [HR14]
          · iexact HR14
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _ _ _ _ _ _ _ _ _ _ _ _ _ _ _)
          iexists _; unfold owns; iexists _; isplitr
          swap; · iexact HS1
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover1_A_9 c _ _ _ _ _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover1_A_10 c _ _ _ _ _ _ _ _ _ _ _ _ _ _ _ _ _ _ _ _ _ _ _ _ _ _ _ _ _ _ _ _ _ _ _ _ _ _ _ _ _)
      isplitl [H11]
      · unfold owns; iexists _; isplitr
        swap; · iexact H11
        ipureintro; exact View.read_writes_of_cover _ _ _ _ _ (cover1_A_11 c _ _ _ _ _ _ _ _ _ _ _ _ _ _ _ _ _ _ _ _ _ _ _ _ _ _ _ _ _ _ _ _ _ _ _ _ _ _ _ _ _)
      unfold owns; iexists _; isplitr
      swap; · iexact H12
      ipureintro; exact View.read_writes_of_cover _ _ _ _ _ (cover1_A_12 c _ _ _ _ _ _ _ _ _ _ _ _ _ _ _ _ _ _ _ _ _ _ _ _ _ _ _ _ _ _ _ _ _ _ _ _ _ _ _ _ _)
    · exfalso; have hN : t.val < 16 := lt_of_lt_of_eq t.isLt (show cfg1.N = 16 from N_1); omega
  · by_cases hz : t.val = 0
    · exfalso; have hN : t.val < 16 := lt_of_lt_of_eq t.isLt (show cfg1.N = 16 from N_1); omega
    · rw [PhiS1_castSucc V c t, PhiS1_pos V c _ _ hz]
      rw [outsAt1_B V c t h0]
      simp only [before1_11_B V c t h0, before1_12_B V c t h0]
      unfold withRest1 out1_B_9 out1_B_10 out1_B_11 out1_B_12 sout1_B_0; (try dsimp only)
      iintro ⟨⟨⟨HR0, HR1, HR2, HR3, HR4, HR5, HR6, HR7, HR8, HR9, HR10, HR11, HR12, HR13, HR14, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun1_B c (grid1.coords t) _ _ _ _ _ _ _ _ _ _ _ _ _ _ _ _ _ _ _ _ _ _ _ _ _ _ _ _ _ _ (fun h => h0 ((hcond1_0 t).mp h)) (iblk1 V c 0 t) (X1_1 V c t) (X1_2 V c t) (X1_3 V c t) (iblk1 V c 4 t) (iblk1 V c 5 t) (iblk1 V c 6 t) (iblk1 V c 7 t) (iblk1 V c 8 t) _ _ _).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexact H11
      isplitl [H12]; · iexact H12
      isplitl [HS0]; · iexact HS0
      isplitl [HS1]; · iexact HS1
      iintro ⟨H0, H1, H2, H3, H4, H5, H6, H7, H8, ⟨%e9, H9⟩, ⟨%e10, H10⟩, ⟨%e11, H11⟩, ⟨%e12, H12⟩, ⟨%es0, HS0⟩, ⟨%fT1, HS1⟩⟩
      isplitl [HR0 HR1 HR2 HR3 HR4 HR5 HR6 HR7 HR8 HR9 HR10 HR11 HR12 HR13 HR14 HS0 HS1 Hg]
      · isplitl [HR0 HR1 HR2 HR3 HR4 HR5 HR6 HR7 HR8 HR9 HR10 HR11 HR12 HR13 HR14 HS0 HS1]
        · isplitl [HR0]
          · iexact HR0
          isplitl [HR1]
          · iexact HR1
          isplitl [HR2]
          · iexact HR2
          isplitl [HR3]
          · iexact HR3
          isplitl [HR4]
          · iexact HR4
          isplitl [HR5]
          · iexact HR5
          isplitl [HR6]
          · iexact HR6
          isplitl [HR7]
          · iexact HR7
          isplitl [HR8]
          · iexact HR8
          isplitl [HR9]
          · iexact HR9
          isplitl [HR10]
          · iexact HR10
          isplitl [HR11]
          · iexact HR11
          isplitl [HR12]
          · iexact HR12
          isplitl [HR13]
          · iexact HR13
          isplitl [HR14]
          · iexact HR14
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _ _ _ _ _ _ _ _ _ _ _ _ _ _ _ _ _ _ _ _)
          iexists _; unfold owns; iexists _; isplitr
          swap; · iexact HS1
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover1_B_9 c _ _ _ _ _ _ _ _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover1_B_10 c _ _ _ _ _ _ _ _ _ _ _ _ _ _ _ _ _ _ _ _ _ _ _ _ _ _ _ _ _ _ _ _ _ _ _ _ _ _ _ _ _ _ _ _)
      isplitl [H11]
      · unfold owns; iexists _; isplitr
        swap; · iexact H11
        ipureintro; exact View.read_writes_of_cover _ _ _ _ _ (cover1_B_11 c _ _ _ _ _ _ _ _ _ _ _ _ _ _ _ _ _ _ _ _ _ _ _ _ _ _ _ _ _ _ _ _ _ _ _ _ _ _ _ _ _ _ _ _)
      unfold owns; iexists _; isplitr
      swap; · iexact H12
      ipureintro; exact View.read_writes_of_cover _ _ _ _ _ (cover1_B_12 c _ _ _ _ _ _ _ _ _ _ _ _ _ _ _ _ _ _ _ _ _ _ _ _ _ _ _ _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the launch hands the region (`ΦA`) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives `ΦA` back: the carried scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  unfold withRest1
  iintro ⟨⟨HR0, HR1, HR2, HR3, HR4, HR5, HR6, HR7, HR8, HR9, HR10, HR11, HR12, HR13, HR14, HS0, HS1⟩, Hg⟩
  isplitl [HR0 HR1 HR2 HR3 HR4 HR5 HR6 HR7 HR8 HR9 HR10 HR11 HR12 HR13 HR14 HS0 HS1]
  · isplitl [HR0]
    · iexact HR0
    isplitl [HR1]
    · iexact HR1
    isplitl [HR2]
    · iexact HR2
    isplitl [HR3]
    · iexact HR3
    isplitl [HR4]
    · iexact HR4
    isplitl [HR5]
    · iexact HR5
    isplitl [HR6]
    · iexact HR6
    isplitl [HR7]
    · iexact HR7
    isplitl [HR8]
    · iexact HR8
    isplitl [HR9]
    · iexact HR9
    isplitl [HR10]
    · iexact HR10
    isplitl [HR11]
    · iexact HR11
    isplitl [HR12]
    · iexact HR12
    isplitl [HR13]
    · iexact HR13
    isplitl [HR14]
    · iexact HR14
    isplitl [HS0]
    · iexists _; iexact HS0
    iexact HS1
  iexact Hg

/-- The same after the last point. -/
theorem hout1 (c : Dev nD) : (dat1 V c).Φ (Fin.last cfg1.N) ⊢ Pipeline.ΦA spec1 c :=
  Phi_out1 V c _ (by rw [Fin.val_last]; have : cfg1.N = 16 := N_1; omega)

end Regions

end Cert.KernelIdeal.Gen

end
-- ==== Proof.Ideal.Hosts0.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_cst, main_v0, main_v1]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v3_0]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v4, main_v5]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

end Cert.KernelIdeal.Gen

end
-- ==== Proof.Ideal.Fold0.lean ====
module

public import proofs.«01_k».proof.Proof.Ideal.Region0
public import proofs.«01_k».proof.Proof.Ideal.Region1
public import proofs.«01_k».proof.Proof.Ideal.Hosts0

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact (dat0 (V1 m ρ) c).withArrays_arrAt launch₀0.sharedIn _ (A_eq0 (V1 m ρ) c) w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's output arrays keeps its entry contents across it. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact (dat1 (V3 m ρ) c).withArrays_arrAt launch₀1.sharedIn _ (A_eq1 (V3 m ρ) c) w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's output arrays keeps its entry contents across it. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves and every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)
theorem W5_main_arg3 (c : Dev nD) : W5 m ρ c (Proc.devRef .tc main_arg3) = m ((c : Thread nD τ).loc main_arg3) :=
  W5_args m ρ c main_arg3 (by decide)
theorem W5_main_arg4 (c : Dev nD) : W5 m ρ c (Proc.devRef .tc main_arg4) = m ((c : Thread nD τ).loc main_arg4) :=
  W5_args m ρ c main_arg4 (by decide)
end Cert.KernelIdeal.Gen

end
-- ==== Proof.Ideal.State.lean ====
module

public import proofs.«01_k».proof.Proof.Ideal.Fold0

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

end Cert.KernelIdeal.Gen

end
-- ==== Proof.Ideal.Record0.lean ====
module

public import proofs.«01_k».proof.Proof.Ideal.State

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs_shared`) and put back at the exit contents (`unscopedBufs_of_arrays_shared`; its input windows on one array (`launch₀0.sharedIn`) each dealt their share of it, `Pipeline.shareOf`, by the proof data); the generator register into the
    class invariant `ΦA` and out; nothing owed; no semaphore of the kernel's own. -/
def reg0 : Pipeline.RegionSeg (pcfgs (F := F)) adm (pdats m ρ) () defs₀ 𝒱₀ L lv 0 where
  win := launch₀0.win
  block_pos := launch₀0.block_pos
  stage_whole := launch₀0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs_shared (p := 0) (pcfgs (F := F)) adm (pdats m ρ) launch₀0.win launch₀0.sharedIn launch₀0.arr_whole c
      (fun _ _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    have h := hout0 (V1 m ρ) c
    unfold Pipeline.ΦA at h
    refine (show (pdats m ρ 0 c).Φ (Fin.last _) ⊢ _ from h).trans ?_
    iintro ⟨Hr, Hp⟩
    isplitl [Hp]; · iexact Hp
    isplitr; · iempintro
    iexact Hr
  hexit c := by
    have hjoin := Pipeline.unscopedBufs_of_arrays_shared (p := 0) (pcfgs (F := F)) adm (Ix := Unit) (Name := ℕ) (U := UR sig nD τ) (Lvl := ℕ)
      launch₀0.win launch₀0.sharedIn launch₀0.arr_whole c (pdats m ρ) (fun _ _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Ideal.Record1.lean ====
module

public import proofs.«01_k».proof.Proof.Ideal.State

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs_shared`) and put back at the exit contents (`unscopedBufs_of_arrays_shared`; its input windows on one array (`launch₀1.sharedIn`) each dealt their share of it, `Pipeline.shareOf`, by the proof data); the generator register into the
    class invariant `ΦA` and out; nothing owed; no semaphore of the kernel's own. -/
def reg1 : Pipeline.RegionSeg (pcfgs (F := F)) adm (pdats m ρ) () defs₀ 𝒱₀ L lv 1 where
  win := launch₀1.win
  block_pos := launch₀1.block_pos
  stage_whole := launch₀1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs_shared (p := 1) (pcfgs (F := F)) adm (pdats m ρ) launch₀1.win launch₀1.sharedIn launch₀1.arr_whole c
      (fun _ _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    have h := hout1 (V3 m ρ) c
    unfold Pipeline.ΦA at h
    refine (show (pdats m ρ 1 c).Φ (Fin.last _) ⊢ _ from h).trans ?_
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m ρ) (fun _ _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Ideal.Run.lean ====
module

public import proofs.«01_k».proof.Proof.Ideal.Record0
public import proofs.«01_k».proof.Proof.Ideal.Record1

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- From any memory with zero counters every weakly fair execution of @main terminates without a fault, every buffer at the
    last boundary's contents and every counter at zero. -/
theorem run_all : θ_run defs (onTc (τ := τ) (main (F := F))) ⟨m, fun _ => 0, ρ⟩ (fun r =>
    (∀ c : Dev nD, ∀ b ∈ Pipeline.ucRefs τ sig, r.2.mem (((c : Thread nD τ)).1, b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- THE FRAME: `Cert.quiescent_KernelIdeal`'s statement at any `F`: the arguments end as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
      ⟨(h.1 c _ (mem_uc main_arg0 (by decide))).trans (W5_main_arg0 m ρ c),
       (h.1 c _ (mem_uc main_arg1 (by decide))).trans (W5_main_arg1 m ρ c),
       (h.1 c _ (mem_uc main_arg2 (by decide))).trans (W5_main_arg2 m ρ c),
       (h.1 c _ (mem_uc main_arg3 (by decide))).trans (W5_main_arg3 m ρ c),
       (h.1 c _ (mem_uc main_arg4 (by decide))).trans (W5_main_arg4 m ρ c)⟩, h.2⟩) (run_all m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h => h.1) (frame m ρ)

end Cert.KernelIdeal.Gen

end
-- ==== Proof.Ref.Lines.lean ====
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

noncomputable section

/-! The reference program's @main as stretches of host operations around its two loops. -/

namespace Cert.ReferenceIdeal.Gen

open Idealize.ShloMosaic Idealize.ShloMosaic.TcCoe
open Idealize.ShloMosaic.StableHlo
open Idealize.ShloMosaic.StableHlo renaming unary_bufs_sub → sub1, binary_bufs_sub → sub2, nullary_bufs_sub → sub0, ternary_bufs_sub → sub3, reshape_bufs_sub → subR, nary_bufs_sub → subN, unaryIndexed_bufs_sub → sub1I, binaryIndexed_bufs_sub → sub2I
open Idealize.SL Idealize.SL.RA Idealize.SL.BI
open scoped Idealize.SL.BI
open Idealize.SL.BI.BIBase Idealize.SL.Sem

variable {F : FTy → Type} [FloatOps F]

/-- What a buffer of shape `s` and element type `e` holds. -/
abbrev Cont (F : FTy → Type) [FloatOps F] (s : Shape) (e : EltTy) : Type := (⟨s, e⟩ : BufTy).Contents (Elt F)

/-- The operations stay within the core's references. -/
abbrev Within (l : List (HloOp τ sig (Elt F))) : Prop := l.Forall fun op => op.bufs ⊆ tcRefs τ sig

/-- Such operations, none of which makes a buffer, before plain ones. -/
theorem plain_cons {l : List (HloOp τ sig (Elt F))} {I : List (List (HloOp τ sig (Elt F)))} (hs : Within l)
    (hf : l.map HloOp.fresh = l.map fun _ => (∅ : Finset (DevRef τ sig))) (h : Plain I) : Plain (l :: I) :=
  .cons hs h (List.forall_iff_forall_mem.mp (forall_fresh_of_map hf))

/-- The operations of one call of `fn_log_sigmoid`, over its arguments and its buffers. -/
abbrev fn_log_sigmoid_ops (arg0 : TRef sig ⟨S4096x512, .f32⟩) (φ : fn_log_sigmoid.Bufs) : List (HloOp τ sig (Elt F)) :=
  [ TRef.unary arg0 φ.v0 Host.negf,
    TRef.nullary φ.call0.cst (constant S_ .f32 0x00000000#32),
    TRef.unary φ.call0.cst φ.call0.v0 (broadcastInDim S4096x512 ![] bcast_S_S4096x512),
    TRef.binary φ.v0 φ.call0.v0 φ.call0.v1 maximumf,
    TRef.unary φ.call0.cst φ.call0.v2 (broadcastInDim S4096x512 ![] bcast_S_S4096x512),
    TRef.binary φ.v0 φ.call0.v2 φ.call0.v3 subf,
    TRef.binary φ.call0.v3 φ.call0.v3 φ.call0.v4 (cmpf .une),
    TRef.unary φ.call0.cst φ.call0.v5 (broadcastInDim S4096x512 ![] bcast_S_S4096x512),
    TRef.binary φ.v0 φ.call0.v5 φ.call0.v6 addf,
    TRef.unary φ.call0.v3 φ.call0.v7 Host.absf,
    TRef.unary φ.call0.v7 φ.call0.v8 Host.negf,
    TRef.unary φ.call0.v8 φ.call0.v9 Host.exp,
    TRef.unary φ.call0.v9 φ.call0.v10 Host.log1p,
    TRef.binary φ.call0.v1 φ.call0.v10 φ.call0.v11 addf,
    TRef.ternary φ.call0.v4 φ.call0.v6 φ.call0.v11 φ.call0.v12 select,
    TRef.nullary φ.call0.cst_0 (constant S_ .f32 0x7F800000#32),
    TRef.unary φ.call0.cst_0 φ.call0.v13 (broadcastInDim S4096x512 ![] bcast_S_S4096x512),
    TRef.binary φ.v0 φ.call0.v13 φ.call0.v14 (cmpf .oeq),
    TRef.nullary φ.call0.cst_1 (constant S_ .f32 0x00000000#32),
    TRef.unary φ.call0.cst_1 φ.call0.v15 (broadcastInDim S4096x512 ![] bcast_S_S4096x512),
    TRef.ternary φ.call0.v14 φ.call0.v15 φ.v0 φ.call0.v16 select,
    TRef.nullary φ.call0.cst_2 (constant S_ .f32 0x7F800000#32),
    TRef.unary φ.call0.cst_2 φ.call0.v17 (broadcastInDim S4096x512 ![] bcast_S_S4096x512),
    TRef.binary φ.call0.v12 φ.call0.v17 φ.call0.v18 (cmpf .oeq),
    TRef.nullary φ.call0.cst_3 (constant S_ .f32 0x00000000#32),
    TRef.unary φ.call0.cst_3 φ.call0.v19 (broadcastInDim S4096x512 ![] bcast_S_S4096x512),
    TRef.ternary φ.call0.v18 φ.call0.v19 φ.call0.v12 φ.call0.v20 select,
    TRef.binary φ.call0.v16 φ.call0.v20 φ.call0.v21 subf,
    TRef.unary φ.call0.v21 φ.call0.v22 Host.exp,
    TRef.nullary φ.call0.cst_4 (constant S_ .f32 0x00000000#32),
    TRef.nullary φ.call0.cst_5 (constant S_ .f32 0x7F800000#32),
    TRef.binary φ.call0.cst_4 φ.call0.cst_5 φ.call0.v23 (cmpf .oeq),
    TRef.nullary φ.call0.cst_6 (constant S_ .f32 0x00000000#32),
    TRef.nullary φ.call0.cst_7 (constant S_ .f32 0x00000000#32),
    TRef.ternary φ.call0.v23 φ.call0.cst_7 φ.call0.cst_6 φ.call0.v24 select,
    TRef.nullary φ.call0.cst_8 (constant S_ .f32 0x7F800000#32),
    TRef.unary φ.call0.cst_8 φ.call0.v25 (broadcastInDim S4096x512 ![] bcast_S_S4096x512),
    TRef.binary φ.call0.v12 φ.call0.v25 φ.call0.v26 (cmpf .oeq),
    TRef.nullary φ.call0.cst_9 (constant S_ .f32 0x00000000#32),
    TRef.unary φ.call0.cst_9 φ.call0.v27 (broadcastInDim S4096x512 ![] bcast_S_S4096x512),
    TRef.ternary φ.call0.v26 φ.call0.v27 φ.call0.v12 φ.call0.v28 select,
    TRef.unary φ.call0.v24 φ.call0.v29 (broadcastInDim S4096x512 ![] bcast_S_S4096x512),
    TRef.binary φ.call0.v29 φ.call0.v28 φ.call0.v30 subf,
    TRef.unary φ.call0.v30 φ.call0.v31 Host.exp,
    TRef.nullary φ.call0.cst_10 (constant S_ .f32 0x00000000#32),
    TRef.unary φ.call0.cst_10 φ.call0.v32 (broadcastInDim S4096x512 ![] bcast_S_S4096x512),
    TRef.binary φ.call0.v32 φ.call0.v31 φ.call0.v33 mulf,
    TRef.unary φ.call0.v12 φ.v2 Host.negf ]
theorem fn_log_sigmoid_ops_sub (arg0 : TRef sig ⟨S4096x512, .f32⟩) (φ : fn_log_sigmoid.Bufs) : Within (F := F) (fn_log_sigmoid_ops arg0 φ) :=
  ⟨sub1 .., sub0 .., sub1 .., sub2 .., sub1 .., sub2 .., sub2 .., sub1 .., sub2 .., sub1 .., sub1 .., sub1 .., sub1 .., sub2 .., sub3 .., sub0 .., sub1 .., sub2 .., sub0 .., sub1 .., sub3 .., sub0 .., sub1 .., sub2 .., sub0 .., sub1 .., sub3 .., sub2 .., sub1 .., sub0 .., sub0 .., sub2 .., sub0 .., sub0 .., sub3 .., sub0 .., sub1 .., sub2 .., sub0 .., sub1 .., sub3 .., sub1 .., sub2 .., sub1 .., sub0 .., sub1 .., sub2 .., sub1 ..⟩
/-- The operations of one call of `fn_cumsum`, over its arguments and its buffers. -/
abbrev fn_cumsum_ops (φ : fn_cumsum.Bufs) : List (HloOp τ sig (Elt F)) := []
theorem fn_cumsum_ops_sub (φ : fn_cumsum.Bufs) : Within (F := F) (fn_cumsum_ops φ) :=
  trivial
/-- The operations of one call of `fn_dynamic_index_in_dim`, over its arguments and its buffers. -/
abbrev fn_dynamic_index_in_dim_ops (arg0 : TRef sig ⟨S64x1x4x64x128, .f32⟩) (arg1 : TRef sig ⟨S_, .i32⟩) (φ : fn_dynamic_index_in_dim.Bufs) : List (HloOp τ sig (Elt F)) :=
  [ TRef.nullary φ.c (constantI S_ 32 0#32),
    TRef.nullary φ.c_0 (constantI S_ 32 0#32),
    TRef.nullary φ.c_1 (constantI S_ 32 0#32),
    TRef.nullary φ.c_2 (constantI S_ 32 0#32),
    TRef.unaryIndexed arg0 ![arg1, φ.c, φ.c_0, φ.c_1, φ.c_2] φ.v0 (fun x i => Host.dynamicSlice S1x1x4x64x128 x (fun k => (i k (Shape.Idx.first h_S_)).toInt) sliceFits_S64x1x4x64x128_S1x1x4x64x128),
    TRef.reshape φ.v0 φ.v1 rfl shapeCasts_S1x1x4x64x128_S1x4x64x128 ]
theorem fn_dynamic_index_in_dim_ops_sub (arg0 : TRef sig ⟨S64x1x4x64x128, .f32⟩) (arg1 : TRef sig ⟨S_, .i32⟩) (φ : fn_dynamic_index_in_dim.Bufs) : Within (F := F) (fn_dynamic_index_in_dim_ops arg0 arg1 φ) :=
  ⟨sub0 .., sub0 .., sub0 .., sub0 .., sub1I .., subR ..⟩
/-- The operations of one call of `fn_dynamic_index_in_dim_0`, over its arguments and its buffers. -/
abbrev fn_dynamic_index_in_dim_0_ops (arg0 : TRef sig ⟨S64x1x4x64x256, .f32⟩) (arg1 : TRef sig ⟨S_, .i32⟩) (φ : fn_dynamic_index_in_dim_0.Bufs) : List (HloOp τ sig (Elt F)) :=
  [ TRef.nullary φ.c (constantI S_ 32 0#32),
    TRef.nullary φ.c_0 (constantI S_ 32 0#32),
    TRef.nullary φ.c_1 (constantI S_ 32 0#32),
    TRef.nullary φ.c_2 (constantI S_ 32 0#32),
    TRef.unaryIndexed arg0 ![arg1, φ.c, φ.c_0, φ.c_1, φ.c_2] φ.v0 (fun x i => Host.dynamicSlice S1x1x4x64x256 x (fun k => (i k (Shape.Idx.first h_S_)).toInt) sliceFits_S64x1x4x64x256_S1x1x4x64x256),
    TRef.reshape φ.v0 φ.v1 rfl shapeCasts_S1x1x4x64x256_S1x4x64x256 ]
theorem fn_dynamic_index_in_dim_0_ops_sub (arg0 : TRef sig ⟨S64x1x4x64x256, .f32⟩) (arg1 : TRef sig ⟨S_, .i32⟩) (φ : fn_dynamic_index_in_dim_0.Bufs) : Within (F := F) (fn_dynamic_index_in_dim_0_ops arg0 arg1 φ) :=
  ⟨sub0 .., sub0 .., sub0 .., sub0 .., sub1I .., subR ..⟩
/-- The operations of one call of `fn_cumsum_1`, over its arguments and its buffers. -/
abbrev fn_cumsum_1_ops (arg0 : TRef sig ⟨S1x4x64x128, .f32⟩) (φ : fn_cumsum_1.Bufs) : List (HloOp τ sig (Elt F)) :=
  [ TRef.nullary φ.call0.cst (constant S_ .f32 0x00000000#32),
    TRef.unary φ.call0.cst φ.call0.v0 (broadcastInDim S_ ![] bcast_S_S_),
    TRef.binary arg0 φ.call0.v0 φ.call0.v1 (fun x v => Host.reduceWindowAdd ![1, 1, 64, 1] ![1, 1, 1, 1] ![0, 0, 63, 0] ![0, 0, 0, 0] x v reduceWindows_S1x4x64x128_S1x4x64x128_w1s1p0_0_w1s1p0_0_w64s1p63_0_w1s1p0_0 h_S_) ]
theorem fn_cumsum_1_ops_sub (arg0 : TRef sig ⟨S1x4x64x128, .f32⟩) (φ : fn_cumsum_1.Bufs) : Within (F := F) (fn_cumsum_1_ops arg0 φ) :=
  ⟨sub0 .., sub1 .., sub2 ..⟩
/-- The operations of one call of `fn_dynamic_update_index_in_dim`, over its arguments and its buffers. -/
abbrev fn_dynamic_update_index_in_dim_ops (arg0 : TRef sig ⟨S64x1x4x64x256, .f32⟩) (arg1 : TRef sig ⟨S1x4x64x256, .f32⟩) (arg2 : TRef sig ⟨S_, .i32⟩) (φ : fn_dynamic_update_index_in_dim.Bufs) : List (HloOp τ sig (Elt F)) :=
  [ TRef.unary arg1 φ.v0 (broadcastInDim S1x1x4x64x256 ![1, 2, 3, 4] bcast_S1x4x64x256_S1x1x4x64x256_1_2_3_4),
    TRef.nullary φ.c (constantI S_ 32 0#32),
    TRef.nullary φ.c_0 (constantI S_ 32 0#32),
    TRef.nullary φ.c_1 (constantI S_ 32 0#32),
    TRef.nullary φ.c_2 (constantI S_ 32 0#32),
    TRef.binaryIndexed arg0 φ.v0 ![arg2, φ.c, φ.c_0, φ.c_1, φ.c_2] φ.v1 (fun x u i => Host.dynamicUpdateSlice x u (fun k => (i k (Shape.Idx.first h_S_)).toInt) updateFits_S64x1x4x64x256_S1x1x4x64x256) ]
theorem fn_dynamic_update_index_in_dim_ops_sub (arg0 : TRef sig ⟨S64x1x4x64x256, .f32⟩) (arg1 : TRef sig ⟨S1x4x64x256, .f32⟩) (arg2 : TRef sig ⟨S_, .i32⟩) (φ : fn_dynamic_update_index_in_dim.Bufs) : Within (F := F) (fn_dynamic_update_index_in_dim_ops arg0 arg1 arg2 φ) :=
  ⟨sub1 .., sub0 .., sub0 .., sub0 .., sub0 .., sub2I ..⟩
/-- The operations of one call of `fn_dynamic_update_index_in_dim_3`, over its arguments and its buffers. -/
abbrev fn_dynamic_update_index_in_dim_3_ops (arg0 : TRef sig ⟨S64x1x4x64x128, .f32⟩) (arg1 : TRef sig ⟨S1x4x64x128, .f32⟩) (arg2 : TRef sig ⟨S_, .i32⟩) (φ : fn_dynamic_update_index_in_dim_3.Bufs) : List (HloOp τ sig (Elt F)) :=
  [ TRef.unary arg1 φ.v0 (broadcastInDim S1x1x4x64x128 ![1, 2, 3, 4] bcast_S1x4x64x128_S1x1x4x64x128_1_2_3_4),
    TRef.nullary φ.c (constantI S_ 32 0#32),
    TRef.nullary φ.c_0 (constantI S_ 32 0#32),
    TRef.nullary φ.c_1 (constantI S_ 32 0#32),
    TRef.nullary φ.c_2 (constantI S_ 32 0#32),
    TRef.binaryIndexed arg0 φ.v0 ![arg2, φ.c, φ.c_0, φ.c_1, φ.c_2] φ.v1 (fun x u i => Host.dynamicUpdateSlice x u (fun k => (i k (Shape.Idx.first h_S_)).toInt) updateFits_S64x1x4x64x128_S1x1x4x64x128) ]
theorem fn_dynamic_update_index_in_dim_3_ops_sub (arg0 : TRef sig ⟨S64x1x4x64x128, .f32⟩) (arg1 : TRef sig ⟨S1x4x64x128, .f32⟩) (arg2 : TRef sig ⟨S_, .i32⟩) (φ : fn_dynamic_update_index_in_dim_3.Bufs) : Within (F := F) (fn_dynamic_update_index_in_dim_3_ops arg0 arg1 arg2 φ) :=
  ⟨sub1 .., sub0 .., sub0 .., sub0 .., sub0 .., sub2I ..⟩
/-- The operations of one call of `fn_dynamic_update_index_in_dim_4`, over its arguments and its buffers. -/
abbrev fn_dynamic_update_index_in_dim_4_ops (arg0 : TRef sig ⟨S64x1x4x128, .f32⟩) (arg1 : TRef sig ⟨S1x4x128, .f32⟩) (arg2 : TRef sig ⟨S_, .i32⟩) (φ : fn_dynamic_update_index_in_dim_4.Bufs) : List (HloOp τ sig (Elt F)) :=
  [ TRef.unary arg1 φ.v0 (broadcastInDim S1x1x4x128 ![1, 2, 3] bcast_S1x4x128_S1x1x4x128_1_2_3),
    TRef.nullary φ.c (constantI S_ 32 0#32),
    TRef.nullary φ.c_0 (constantI S_ 32 0#32),
    TRef.nullary φ.c_1 (constantI S_ 32 0#32),
    TRef.binaryIndexed arg0 φ.v0 ![arg2, φ.c, φ.c_0, φ.c_1] φ.v1 (fun x u i => Host.dynamicUpdateSlice x u (fun k => (i k (Shape.Idx.first h_S_)).toInt) updateFits_S64x1x4x128_S1x1x4x128) ]
theorem fn_dynamic_update_index_in_dim_4_ops_sub (arg0 : TRef sig ⟨S64x1x4x128, .f32⟩) (arg1 : TRef sig ⟨S1x4x128, .f32⟩) (arg2 : TRef sig ⟨S_, .i32⟩) (φ : fn_dynamic_update_index_in_dim_4.Bufs) : Within (F := F) (fn_dynamic_update_index_in_dim_4_ops arg0 arg1 arg2 φ) :=
  ⟨sub1 .., sub0 .., sub0 .., sub0 .., sub2I ..⟩
/-- The operations of one call of `fn_dynamic_update_index_in_dim_5`, over its arguments and its buffers. -/
abbrev fn_dynamic_update_index_in_dim_5_ops (arg0 : TRef sig ⟨S64x1x4x128x256, .f32⟩) (arg1 : TRef sig ⟨S1x4x128x256, .f32⟩) (arg2 : TRef sig ⟨S_, .i32⟩) (φ : fn_dynamic_update_index_in_dim_5.Bufs) : List (HloOp τ sig (Elt F)) :=
  [ TRef.unary arg1 φ.v0 (broadcastInDim S1x1x4x128x256 ![1, 2, 3, 4] bcast_S1x4x128x256_S1x1x4x128x256_1_2_3_4),
    TRef.nullary φ.c (constantI S_ 32 0#32),
    TRef.nullary φ.c_0 (constantI S_ 32 0#32),
    TRef.nullary φ.c_1 (constantI S_ 32 0#32),
    TRef.nullary φ.c_2 (constantI S_ 32 0#32),
    TRef.binaryIndexed arg0 φ.v0 ![arg2, φ.c, φ.c_0, φ.c_1, φ.c_2] φ.v1 (fun x u i => Host.dynamicUpdateSlice x u (fun k => (i k (Shape.Idx.first h_S_)).toInt) updateFits_S64x1x4x128x256_S1x1x4x128x256) ]
theorem fn_dynamic_update_index_in_dim_5_ops_sub (arg0 : TRef sig ⟨S64x1x4x128x256, .f32⟩) (arg1 : TRef sig ⟨S1x4x128x256, .f32⟩) (arg2 : TRef sig ⟨S_, .i32⟩) (φ : fn_dynamic_update_index_in_dim_5.Bufs) : Within (F := F) (fn_dynamic_update_index_in_dim_5_ops arg0 arg1 arg2 φ) :=
  ⟨sub1 .., sub0 .., sub0 .., sub0 .., sub0 .., sub2I ..⟩
/-- The operations of one call of `fn_dynamic_update_index_in_dim_6`, over its arguments and its buffers. -/
abbrev fn_dynamic_update_index_in_dim_6_ops (arg0 : TRef sig ⟨S64x1x4x128x1, .f32⟩) (arg1 : TRef sig ⟨S1x4x128x1, .f32⟩) (arg2 : TRef sig ⟨S_, .i32⟩) (φ : fn_dynamic_update_index_in_dim_6.Bufs) : List (HloOp τ sig (Elt F)) :=
  [ TRef.unary arg1 φ.v0 (broadcastInDim S1x1x4x128x1 ![1, 2, 3, 4] bcast_S1x4x128x1_S1x1x4x128x1_1_2_3_4),
    TRef.nullary φ.c (constantI S_ 32 0#32),
    TRef.nullary φ.c_0 (constantI S_ 32 0#32),
    TRef.nullary φ.c_1 (constantI S_ 32 0#32),
    TRef.nullary φ.c_2 (constantI S_ 32 0#32),
    TRef.binaryIndexed arg0 φ.v0 ![arg2, φ.c, φ.c_0, φ.c_1, φ.c_2] φ.v1 (fun x u i => Host.dynamicUpdateSlice x u (fun k => (i k (Shape.Idx.first h_S_)).toInt) updateFits_S64x1x4x128x1_S1x1x4x128x1) ]
theorem fn_dynamic_update_index_in_dim_6_ops_sub (arg0 : TRef sig ⟨S64x1x4x128x1, .f32⟩) (arg1 : TRef sig ⟨S1x4x128x1, .f32⟩) (arg2 : TRef sig ⟨S_, .i32⟩) (φ : fn_dynamic_update_index_in_dim_6.Bufs) : Within (F := F) (fn_dynamic_update_index_in_dim_6_ops arg0 arg1 arg2 φ) :=
  ⟨sub1 .., sub0 .., sub0 .., sub0 .., sub0 .., sub2I ..⟩
/-- The operations of one call of `fn_dynamic_index_in_dim_7`, over its arguments and its buffers. -/
abbrev fn_dynamic_index_in_dim_7_ops (arg0 : TRef sig ⟨S64x1x4x128, .f32⟩) (arg1 : TRef sig ⟨S_, .i32⟩) (φ : fn_dynamic_index_in_dim_7.Bufs) : List (HloOp τ sig (Elt F)) :=
  [ TRef.nullary φ.c (constantI S_ 32 0#32),
    TRef.nullary φ.c_0 (constantI S_ 32 0#32),
    TRef.nullary φ.c_1 (constantI S_ 32 0#32),
    TRef.unaryIndexed arg0 ![arg1, φ.c, φ.c_0, φ.c_1] φ.v0 (fun x i => Host.dynamicSlice S1x1x4x128 x (fun k => (i k (Shape.Idx.first h_S_)).toInt) sliceFits_S64x1x4x128_S1x1x4x128),
    TRef.reshape φ.v0 φ.v1 rfl shapeCasts_S1x1x4x128_S1x4x128 ]
theorem fn_dynamic_index_in_dim_7_ops_sub (arg0 : TRef sig ⟨S64x1x4x128, .f32⟩) (arg1 : TRef sig ⟨S_, .i32⟩) (φ : fn_dynamic_index_in_dim_7.Bufs) : Within (F := F) (fn_dynamic_index_in_dim_7_ops arg0 arg1 φ) :=
  ⟨sub0 .., sub0 .., sub0 .., sub1I .., subR ..⟩
/-- The operations of one call of `fn_dynamic_index_in_dim_8`, over its arguments and its buffers. -/
abbrev fn_dynamic_index_in_dim_8_ops (arg0 : TRef sig ⟨S64x1x4x128x256, .f32⟩) (arg1 : TRef sig ⟨S_, .i32⟩) (φ : fn_dynamic_index_in_dim_8.Bufs) : List (HloOp τ sig (Elt F)) :=
  [ TRef.nullary φ.c (constantI S_ 32 0#32),
    TRef.nullary φ.c_0 (constantI S_ 32 0#32),
    TRef.nullary φ.c_1 (constantI S_ 32 0#32),
    TRef.nullary φ.c_2 (constantI S_ 32 0#32),
    TRef.unaryIndexed arg0 ![arg1, φ.c, φ.c_0, φ.c_1, φ.c_2] φ.v0 (fun x i => Host.dynamicSlice S1x1x4x128x256 x (fun k => (i k (Shape.Idx.first h_S_)).toInt) sliceFits_S64x1x4x128x256_S1x1x4x128x256),
    TRef.reshape φ.v0 φ.v1 rfl shapeCasts_S1x1x4x128x256_S1x4x128x256 ]
theorem fn_dynamic_index_in_dim_8_ops_sub (arg0 : TRef sig ⟨S64x1x4x128x256, .f32⟩) (arg1 : TRef sig ⟨S_, .i32⟩) (φ : fn_dynamic_index_in_dim_8.Bufs) : Within (F := F) (fn_dynamic_index_in_dim_8_ops arg0 arg1 φ) :=
  ⟨sub0 .., sub0 .., sub0 .., sub0 .., sub1I .., subR ..⟩
/-- The operations of one call of `fn_dynamic_index_in_dim_9`, over its arguments and its buffers. -/
abbrev fn_dynamic_index_in_dim_9_ops (arg0 : TRef sig ⟨S64x1x4x128x1, .f32⟩) (arg1 : TRef sig ⟨S_, .i32⟩) (φ : fn_dynamic_index_in_dim_9.Bufs) : List (HloOp τ sig (Elt F)) :=
  [ TRef.nullary φ.c (constantI S_ 32 0#32),
    TRef.nullary φ.c_0 (constantI S_ 32 0#32),
    TRef.nullary φ.c_1 (constantI S_ 32 0#32),
    TRef.nullary φ.c_2 (constantI S_ 32 0#32),
    TRef.unaryIndexed arg0 ![arg1, φ.c, φ.c_0, φ.c_1, φ.c_2] φ.v0 (fun x i => Host.dynamicSlice S1x1x4x128x1 x (fun k => (i k (Shape.Idx.first h_S_)).toInt) sliceFits_S64x1x4x128x1_S1x1x4x128x1),
    TRef.reshape φ.v0 φ.v1 rfl shapeCasts_S1x1x4x128x1_S1x4x128x1 ]
theorem fn_dynamic_index_in_dim_9_ops_sub (arg0 : TRef sig ⟨S64x1x4x128x1, .f32⟩) (arg1 : TRef sig ⟨S_, .i32⟩) (φ : fn_dynamic_index_in_dim_9.Bufs) : Within (F := F) (fn_dynamic_index_in_dim_9_ops arg0 arg1 φ) :=
  ⟨sub0 .., sub0 .., sub0 .., sub0 .., sub1I .., subR ..⟩
/-- The operations of one call of `fn_cumsum_10`, over its arguments and its buffers. -/
abbrev fn_cumsum_10_ops (arg0 : TRef sig ⟨S1x4x64x128, .f32⟩) (φ : fn_cumsum_10.Bufs) : List (HloOp τ sig (Elt F)) :=
  [ TRef.nullary φ.call0.cst (constant S_ .f32 0x00000000#32),
    TRef.unary φ.call0.cst φ.call0.v0 (broadcastInDim S_ ![] bcast_S_S_),
    TRef.binary arg0 φ.call0.v0 φ.call0.v1 (fun x v => Host.reduceWindowAdd ![1, 1, 64, 1] ![1, 1, 1, 1] ![0, 0, 0, 0] ![0, 0, 63, 0] x v reduceWindows_S1x4x64x128_S1x4x64x128_w1s1p0_0_w1s1p0_0_w64s1p0_63_w1s1p0_0 h_S_) ]
theorem fn_cumsum_10_ops_sub (arg0 : TRef sig ⟨S1x4x64x128, .f32⟩) (φ : fn_cumsum_10.Bufs) : Within (F := F) (fn_cumsum_10_ops arg0 φ) :=
  ⟨sub0 .., sub1 .., sub2 ..⟩
/-- The operations of one call of `fn_log_sigmoid_12`, over its arguments and its buffers. -/
abbrev fn_log_sigmoid_12_ops (arg0 : TRef sig ⟨S4096x512, .f32⟩) (arg1 : TRef sig ⟨S4096x512, .f32⟩) (arg2 : TRef sig ⟨S4096x512, .f32⟩) (φ : fn_log_sigmoid_12.Bufs) : List (HloOp τ sig (Elt F)) :=
  [ TRef.unary arg2 φ.v0 Host.negf,
    TRef.binary φ.v0 arg0 φ.call0.v0 mulf,
    TRef.unary φ.call0.v0 φ.v2 Host.negf ]
theorem fn_log_sigmoid_12_ops_sub (arg0 : TRef sig ⟨S4096x512, .f32⟩) (arg1 : TRef sig ⟨S4096x512, .f32⟩) (arg2 : TRef sig ⟨S4096x512, .f32⟩) (φ : fn_log_sigmoid_12.Bufs) : Within (F := F) (fn_log_sigmoid_12_ops arg0 arg1 arg2 φ) :=
  ⟨sub1 .., sub2 .., sub1 ..⟩
/-- 8 operations of @main, before the first loop. -/
abbrev pre0 : List (HloOp τ sig (Elt F)) :=
  [ unary main_arg0 main_v0 ((extractStridedSlice S4096x512 ![0, 0] · slices_S4096x10368_S4096x512_0_0)),
    unary main_arg0 main_v1 ((extractStridedSlice S4096x512 ![0, 512] · slices_S4096x10368_S4096x512_0_512)),
    unary main_arg0 main_v2 ((extractStridedSlice S4096x1024 ![0, 1024] · slices_S4096x10368_S4096x1024_0_1024)),
    unary main_arg0 main_v3 ((extractStridedSlice S4096x16 ![0, 10240] · slices_S4096x10368_S4096x16_0_10240)),
    unary main_v3 main_v4 ((extf .f32 · bitsLt_bf16_f32)),
    binary main_v4 main_arg1 main_v5 ((fun l r => Host.dotGeneral dot_S4096x16_S16x512_S4096x512_1_0_0_1_n_n none l r)),
    unary main_arg2 main_v6 (broadcastInDim S4096x512 ![0, 1] bcast_S1x512_S4096x512_0_1),
    binary main_v5 main_v6 main_v7 (addf) ]
theorem pre0_sub : Within (F := F) pre0 :=
  ⟨sub1 .., sub1 .., sub1 .., sub1 .., sub1 .., sub2 .., sub1 .., sub2 ..⟩
/-- 23 operations of @main, before the first loop. -/
abbrev pre1 : List (HloOp τ sig (Elt F)) :=
  [ nullary main_cst (constant S_ .f32 0x41800000#32),
    unary main_cst main_v9 (broadcastInDim S4096x512 ![] bcast_S_S4096x512),
    binary main_v8_0 main_v9 main_v10 (Host.divf),
    unary main_v0 main_v11 ((extf .f32 · bitsLt_bf16_f32)),
    reshape main_v11 main_v12 rfl shapeCasts_S4096x512_S1x4096x4x128,
    nullary main_cst_0 (constant S_ .f32 0x3DB504F3#32),
    unary main_cst_0 main_v13 (broadcastInDim S1x4096x4x128 ![] bcast_S_S1x4096x4x128),
    binary main_v12 main_v13 main_v14 (mulf),
    unary main_v1 main_v15 ((extf .f32 · bitsLt_bf16_f32)),
    reshape main_v15 main_v16 rfl shapeCasts_S4096x512_S1x4096x4x128,
    unary main_v2 main_v17 ((extf .f32 · bitsLt_bf16_f32)),
    reshape main_v17 main_v18 rfl shapeCasts_S4096x1024_S1x4096x4x256,
    reshape main_v10 main_v19 rfl shapeCasts_S4096x512_S1x4096x4x128,
    nullary main_cst_1 (constant S_ .f32 0x00000000#32),
    unary main_cst_1 main_v20 (broadcastInDim S1x4x128x256 ![] bcast_S_S1x4x128x256),
    reshape main_v14 main_v21 rfl shapeCasts_S1x4096x4x128_S1x64x64x4x128,
    unary main_v21 main_v22 ((transpose S64x1x4x64x128 [1, 0, 3, 2, 4] · transposes_S1x64x64x4x128_S64x1x4x64x128_1_0_3_2_4)),
    reshape main_v16 main_v23 rfl shapeCasts_S1x4096x4x128_S1x64x64x4x128,
    unary main_v23 main_v24 ((transpose S64x1x4x64x128 [1, 0, 3, 2, 4] · transposes_S1x64x64x4x128_S64x1x4x64x128_1_0_3_2_4)),
    reshape main_v18 main_v25 rfl shapeCasts_S1x4096x4x256_S1x64x64x4x256,
    unary main_v25 main_v26 ((transpose S64x1x4x64x256 [1, 0, 3, 2, 4] · transposes_S1x64x64x4x256_S64x1x4x64x256_1_0_3_2_4)),
    reshape main_v19 main_v27 rfl shapeCasts_S1x4096x4x128_S1x64x64x4x128,
    unary main_v27 main_v28 ((transpose S64x1x4x64x128 [1, 0, 3, 2, 4] · transposes_S1x64x64x4x128_S64x1x4x64x128_1_0_3_2_4)) ]
theorem pre1_sub : Within (F := F) pre1 :=
  ⟨sub0 .., sub1 .., sub2 .., sub1 .., subR .., sub0 .., sub1 .., sub2 .., sub1 .., subR .., sub1 .., subR .., subR .., sub0 .., sub1 .., subR .., sub1 .., subR .., sub1 .., subR .., sub1 .., subR .., sub1 ..⟩
/-- 27 operations of @main, before the first loop. -/
abbrev pre2 : List (HloOp τ sig (Elt F)) :=
  [ nullary main_cst_2 (constant S_ .f32 0x00000000#32),
    unary main_cst_2 main_v29 (broadcastInDim S64x1x4x64x256 ![] bcast_S_S64x1x4x64x256),
    nullary main_cst_3 (constant S_ .f32 0x00000000#32),
    unary main_cst_3 main_v30 (broadcastInDim S64x1x4x64x128 ![] bcast_S_S64x1x4x64x128),
    nullary main_cst_4 (constant S_ .f32 0x00000000#32),
    unary main_cst_4 main_v31 (broadcastInDim S64x1x4x128 ![] bcast_S_S64x1x4x128),
    nullary main_cst_5 (constant S_ .f32 0x00000000#32),
    unary main_cst_5 main_v32 (broadcastInDim S64x1x4x128x256 ![] bcast_S_S64x1x4x128x256),
    nullary main_cst_6 (constant S_ .f32 0x00000000#32),
    unary main_cst_6 main_v33 (broadcastInDim S64x1x4x128x1 ![] bcast_S_S64x1x4x128x1),
    nullary main_cst_7 (constant S_ .f32 0x00000000#32),
    unary main_cst_7 main_v34 (broadcastInDim S64x1x4x64x128 ![] bcast_S_S64x1x4x64x128),
    nullary main_cst_8 (constant S_ .f32 0x00000000#32),
    unary main_cst_8 main_v35 (broadcastInDim S64x1x4x128x256 ![] bcast_S_S64x1x4x128x256),
    nullary main_c (constantI S_ 32 0#32),
    unary main_v22 main_v36_0 id,
    unary main_v24 main_v36_1 id,
    unary main_v26 main_v36_2 id,
    unary main_v28 main_v36_3 id,
    unary main_c main_v36_4 id,
    unary main_v20 main_v36_5 id,
    unary main_v29 main_v36_6 id,
    unary main_v30 main_v36_7 id,
    unary main_v31 main_v36_8 id,
    unary main_v32 main_v36_9 id,
    unary main_v33 main_v36_10 id,
    unary main_v34 main_v36_11 id ]
theorem pre2_sub : Within (F := F) pre2 :=
  ⟨sub0 .., sub1 .., sub0 .., sub1 .., sub0 .., sub1 .., sub0 .., sub1 .., sub0 .., sub1 .., sub0 .., sub1 .., sub0 .., sub1 .., sub0 .., sub1 .., sub1 .., sub1 .., sub1 .., sub1 .., sub1 .., sub1 .., sub1 .., sub1 .., sub1 .., sub1 .., sub1 ..⟩
/-- 1 operations of @main, around the loops. -/
abbrev mid0 : List (HloOp τ sig (Elt F)) :=
  [ unary main_v35 main_v36_12 id ]
theorem mid0_sub : Within (F := F) mid0 :=
  sub1 ..
/-- 33 operations of @main, around the loops. -/
abbrev mid1 : List (HloOp τ sig (Elt F)) :=
  [ unary main_v36_6 main_v37 ((transpose S1x64x64x4x256 [1, 0, 3, 2, 4] · transposes_S64x1x4x64x256_S1x64x64x4x256_1_0_3_2_4)),
    reshape main_v37 main_v38 rfl shapeCasts_S1x64x64x4x256_S4096x1024,
    nullary main_cst_9 (constant S_ .f32 0x00000000#32),
    unary main_cst_9 main_v39 (broadcastInDim S1x4x128x256 ![] bcast_S_S1x4x128x256),
    reshape main_arg3 main_v40 rfl shapeCasts_S4096x1024_S1x64x64x4x256,
    unary main_v40 main_v41 ((transpose S64x1x4x64x256 [1, 0, 3, 2, 4] · transposes_S1x64x64x4x256_S64x1x4x64x256_1_0_3_2_4)),
    nullary main_cst_10 (constant S_ .f32 0x00000000#32),
    unary main_cst_10 main_v42 (broadcastInDim S1x4x128x256 ![] bcast_S_S1x4x128x256),
    nullary main_cst_11 (constant S_ .f32 0x00000000#32),
    unary main_cst_11 main_v43 (broadcastInDim S64x1x4x64x128 ![] bcast_S_S64x1x4x64x128),
    nullary main_cst_12 (constant S_ .f32 0x00000000#32),
    unary main_cst_12 main_v44 (broadcastInDim S64x1x4x64x128 ![] bcast_S_S64x1x4x64x128),
    nullary main_cst_13 (constant S_ .f32 0x00000000#32),
    unary main_cst_13 main_v45 (broadcastInDim S64x1x4x64x256 ![] bcast_S_S64x1x4x64x256),
    nullary main_cst_14 (constant S_ .f32 0x00000000#32),
    unary main_cst_14 main_v46 (broadcastInDim S64x1x4x64x128 ![] bcast_S_S64x1x4x64x128),
    nullary main_c_15 (constantI S_ 32 0#32),
    unary main_v41 main_v47_0 id,
    unary main_v36_7 main_v47_1 id,
    unary main_v24 main_v47_2 id,
    unary main_v36_8 main_v47_3 id,
    unary main_v36_9 main_v47_4 id,
    unary main_v36_10 main_v47_5 id,
    unary main_v26 main_v47_6 id,
    unary main_v36_11 main_v47_7 id,
    unary main_v36_12 main_v47_8 id,
    unary main_v22 main_v47_9 id,
    unary main_c_15 main_v47_10 id,
    unary main_v42 main_v47_11 id,
    unary main_v43 main_v47_12 id,
    unary main_v44 main_v47_13 id,
    unary main_v45 main_v47_14 id,
    unary main_v46 main_v47_15 id ]
theorem mid1_sub : Within (F := F) mid1 :=
  ⟨sub1 .., subR .., sub0 .., sub1 .., subR .., sub1 .., sub0 .., sub1 .., sub0 .., sub1 .., sub0 .., sub1 .., sub0 .., sub1 .., sub0 .., sub1 .., sub0 .., sub1 .., sub1 .., sub1 .., sub1 .., sub1 .., sub1 .., sub1 .., sub1 .., sub1 .., sub1 .., sub1 .., sub1 .., sub1 .., sub1 .., sub1 .., sub1 ..⟩
/-- 21 operations of @main, around the loops. -/
abbrev mid2 : List (HloOp τ sig (Elt F)) :=
  [ unary main_v47_15 main_v48 ((transpose S1x64x64x4x128 [1, 0, 3, 2, 4] · transposes_S64x1x4x64x128_S1x64x64x4x128_1_0_3_2_4)),
    reshape main_v48 main_v49 rfl shapeCasts_S1x64x64x4x128_S1x4096x4x128,
    unary main_v47_14 main_v50 ((transpose S1x64x64x4x256 [1, 0, 3, 2, 4] · transposes_S64x1x4x64x256_S1x64x64x4x256_1_0_3_2_4)),
    reshape main_v50 main_v51 rfl shapeCasts_S1x64x64x4x256_S1x4096x4x256,
    unary main_v47_13 main_v52 ((transpose S1x64x64x4x128 [1, 0, 3, 2, 4] · transposes_S64x1x4x64x128_S1x64x64x4x128_1_0_3_2_4)),
    reshape main_v52 main_v53 rfl shapeCasts_S1x64x64x4x128_S1x4096x4x128,
    unary main_v47_12 main_v54 ((transpose S1x64x64x4x128 [1, 0, 3, 2, 4] · transposes_S64x1x4x64x128_S1x64x64x4x128_1_0_3_2_4)),
    reshape main_v54 main_v55 rfl shapeCasts_S1x64x64x4x128_S1x4096x4x128,
    reshape main_v49 main_v56 rfl shapeCasts_S1x4096x4x128_S4096x512,
    reshape main_v51 main_v57 rfl shapeCasts_S1x4096x4x256_S4096x1024,
    unary main_v57 main_v58 ((truncf .bf16 · bitsLt_bf16_f32)),
    reshape main_v53 main_v59 rfl shapeCasts_S1x4096x4x128_S4096x512,
    unary main_v59 main_v60 ((truncf .bf16 · bitsLt_bf16_f32)),
    nullary main_cst_16 (constant S_ .f32 0x3DB504F3#32),
    unary main_cst_16 main_v61 (broadcastInDim S1x4096x4x128 ![] bcast_S_S1x4096x4x128),
    binary main_v55 main_v61 main_v62 (mulf),
    reshape main_v62 main_v63 rfl shapeCasts_S1x4096x4x128_S4096x512,
    unary main_v63 main_v64 ((truncf .bf16 · bitsLt_bf16_f32)),
    nullary main_cst_17 (constant S_ .f32 0x41800000#32),
    unary main_cst_17 main_v65 (broadcastInDim S4096x512 ![] bcast_S_S4096x512),
    binary main_v56 main_v65 main_v66 (Host.divf) ]
theorem mid2_sub : Within (F := F) mid2 :=
  ⟨sub1 .., subR .., sub1 .., subR .., sub1 .., subR .., sub1 .., subR .., subR .., subR .., sub1 .., subR .., sub1 .., sub0 .., sub1 .., sub2 .., subR .., sub1 .., sub0 .., sub1 .., sub2 ..⟩
/-- 2 operations of @main, around the loops. -/
abbrev mid3 : List (HloOp τ sig (Elt F)) :=
  [ nullary main_cst_18 (constant S_ .f32 0x00000000#32),
    binary main_v67 main_cst_18 main_v68 ((fun x v => Host.reduceAdd x v reducesTo_S4096x512_S512_d0 h_S_)) ]
theorem mid3_sub : Within (F := F) mid3 :=
  ⟨sub0 .., sub2 ..⟩
/-- 7 operations of @main, at its end. -/
abbrev fin0 : List (HloOp τ sig (Elt F)) :=
  [ reshape main_v68 main_v69 rfl shapeCasts_S512_S1x512,
    binary main_v67 main_v4 main_v70 ((fun l r => Host.dotGeneral dot_S4096x512_S4096x16_S512x16_0_0_1_1_n_n none l r)),
    unary main_v70 main_v71 ((transpose S16x512 [1, 0] · transposes_S512x16_S16x512_1_0)),
    binary main_v67 main_arg1 main_v72 ((fun l r => Host.dotGeneral dot_S4096x512_S16x512_S4096x16_1_1_0_0_n_n none l r)),
    unary main_v72 main_v73 ((truncf .bf16 · bitsLt_bf16_f32)),
    unary main_arg4 main_v74 ((extractStridedSlice S4096x8320 ![0, 2048] · slices_S4096x10368_S4096x8320_0_2048)),
    nary ![main_v64, main_v60, main_v58, main_v74] main_v75 (fun u => (concatenate S4096x10368 1 [⟨S4096x512, (u 0 : Cont F S4096x512 .bf16)⟩, ⟨S4096x512, (u 1 : Cont F S4096x512 .bf16)⟩, ⟨S4096x1024, (u 2 : Cont F S4096x1024 .bf16)⟩, ⟨S4096x8320, (u 3 : Cont F S4096x8320 .bf16)⟩] concatenates_S4096x512_S4096x512_S4096x1024_S4096x8320_S4096x10368_d1 : Cont F S4096x10368 .bf16)) ]
theorem fin0_sub : Within (F := F) fin0 :=
  ⟨subR .., sub2 .., sub1 .., sub2 .., sub1 .., sub1 .., subN ..⟩
/-- 13 operations of the first loop's trip. -/
abbrev trip0_0 : List (HloOp τ sig (Elt F)) :=
  [ unary main_while0b_v80 main_while0b_v81 ((extractStridedSlice S1x4x1x128 ![0, 0, 63, 0] · slices_S1x4x64x128_S1x4x1x128_0_0_63_0)),
    unary main_while0b_v81 main_while0b_v82 (broadcastInDim S1x4x64x128 ![0, 1, 2, 3] bcast_S1x4x1x128_S1x4x64x128_0_1_2_3),
    binary main_while0b_v82 main_while0b_v80 main_while0b_v83 (subf),
    unary main_while0b_v83 main_while0b_v84 (Host.exp),
    binary main_while0b_v77 main_while0b_v84 main_while0b_v85 (mulf),
    reshape main_while0b_v81 main_while0b_v86 rfl shapeCasts_S1x4x1x128_S1x4x128,
    unary main_while0b_v86 main_while0b_v87 (Host.exp),
    unary main_while0b_v87 main_while0b_v88 (broadcastInDim S1x4x128x1 ![0, 1, 2] bcast_S1x4x128_S1x4x128x1_0_1_2),
    unary main_while0b_v88 main_while0b_v89 (broadcastInDim S1x4x128x256 ![0, 1, 2, 3] bcast_S1x4x128x1_S1x4x128x256_0_1_2_3),
    binary main_while0b_v89 main_v36_5 main_while0b_v90 (mulf),
    binary main_while0b_v85 main_while0b_v78 main_while0b_v91 ((fun l r => Host.dotGeneral dot_S1x4x64x128_S1x4x64x256_S1x4x128x256_2_2_3_3_01_01 none l r)),
    binary main_while0b_v90 main_while0b_v91 main_while0b_v92 (addf),
    binary main_while0b_v76 main_while0b_v92 main_while0b_v93 ((fun l r => Host.dotGeneral dot_S1x4x64x128_S1x4x128x256_S1x4x64x256_3_2_2_3_01_01 none l r)) ]
theorem trip0_0_sub : Within (F := F) trip0_0 :=
  ⟨sub1 .., sub1 .., sub2 .., sub1 .., sub2 .., subR .., sub1 .., sub1 .., sub1 .., sub2 .., sub2 .., sub2 .., sub2 ..⟩
/-- 2 operations of the first loop's trip. -/
abbrev trip0_1 : List (HloOp τ sig (Elt F)) :=
  [ nullary main_while0b_c_31 (constantI S_ 32 1#32),
    binary main_v36_4 main_while0b_c_31 main_while0b_v101 (addi) ]
theorem trip0_1_sub : Within (F := F) trip0_1 :=
  ⟨sub0 .., sub2 ..⟩
/-- 9 operations of the first loop's trip. -/
abbrev trip0_2 : List (HloOp τ sig (Elt F)) :=
  [ unary main_while0b_v101 main_v36_4 id,
    unary main_while0b_v92 main_v36_5 id,
    unary main_while0b_v94 main_v36_6 id,
    unary main_while0b_v95 main_v36_7 id,
    unary main_while0b_v96 main_v36_8 id,
    unary main_while0b_v97 main_v36_9 id,
    unary main_while0b_v98 main_v36_10 id,
    unary main_while0b_v99 main_v36_11 id,
    unary main_while0b_v100 main_v36_12 id ]
theorem trip0_2_sub : Within (F := F) trip0_2 :=
  ⟨sub1 .., sub1 .., sub1 .., sub1 .., sub1 .., sub1 .., sub1 .., sub1 .., sub1 ..⟩
/-- 4 operations of the second loop's trip. -/
abbrev trip1_0 : List (HloOp τ sig (Elt F)) :=
  [ nullary main_while1b_c_34 (constantI S_ 32 64#32),
    binary main_while1b_c_34 main_v47_10 main_while1b_v76 (subi),
    nullary main_while1b_c_35 (constantI S_ 32 1#32),
    binary main_while1b_v76 main_while1b_c_35 main_while1b_v77 (subi) ]
theorem trip1_0_sub : Within (F := F) trip1_0 :=
  ⟨sub0 .., sub2 .., sub0 .., sub2 ..⟩
/-- 30 operations of the second loop's trip. -/
abbrev trip1_1 : List (HloOp τ sig (Elt F)) :=
  [ binary main_while1b_v78 main_while1b_v87 main_while1b_v88 ((fun l r => Host.dotGeneral dot_S1x4x64x256_S1x4x64x128_S1x4x256x128_2_2_3_3_01_01 none l r)),
    unary main_while1b_v88 main_while1b_v89 ((transpose S1x4x128x256 [0, 1, 3, 2] · transposes_S1x4x256x128_S1x4x128x256_0_1_3_2)),
    binary main_v47_11 main_while1b_v89 main_while1b_v90 (addf),
    binary main_while1b_v78 main_while1b_v86 main_while1b_v91 ((fun l r => Host.dotGeneral dot_S1x4x64x256_S1x4x128x256_S1x4x64x128_3_3_2_2_01_01 none l r)),
    binary main_while1b_v90 main_while1b_v85 main_while1b_v92 ((fun l r => Host.dotGeneral dot_S1x4x128x256_S1x4x64x128_S1x4x256x64_2_3_3_2_01_01 none l r)),
    unary main_while1b_v92 main_while1b_v93 ((transpose S1x4x64x256 [0, 1, 3, 2] · transposes_S1x4x256x64_S1x4x64x256_0_1_3_2)),
    binary main_while1b_v90 main_while1b_v84 main_while1b_v94 ((fun l r => Host.dotGeneral dot_S1x4x128x256_S1x4x64x256_S1x4x128x64_3_3_2_2_01_01 none l r)),
    unary main_while1b_v94 main_while1b_v95 ((transpose S1x4x64x128 [0, 1, 3, 2] · transposes_S1x4x128x64_S1x4x64x128_0_1_3_2)),
    unary main_while1b_v83 main_while1b_v96 (broadcastInDim S1x4x128x256 ![0, 1, 2, 3] bcast_S1x4x128x1_S1x4x128x256_0_1_2_3),
    binary main_while1b_v96 main_while1b_v90 main_while1b_v97 (mulf),
    binary main_while1b_v90 main_while1b_v82 main_while1b_v98 (mulf),
    nullary main_while1b_cst_36 (constant S_ .f32 0x00000000#32),
    binary main_while1b_v98 main_while1b_cst_36 main_while1b_v99 ((fun x v => Host.reduceAdd x v reducesTo_S1x4x128x256_S1x4x128_d3 h_S_)),
    reshape main_while1b_v99 main_while1b_v100 rfl shapeCasts_S1x4x128_S1x4x128x1,
    nullary main_while1b_cst_37 (constant S_ .f32 0x00000000#32),
    binary main_while1b_v100 main_while1b_cst_37 main_while1b_v101 ((fun x v => Host.reduceAdd x v reducesTo_S1x4x128x1_S4x128_d0_3 h_S_)),
    unary main_while1b_v101 main_while1b_v102 (broadcastInDim S1x4x128 ![1, 2] bcast_S4x128_S1x4x128_1_2),
    binary main_while1b_v102 main_while1b_v81 main_while1b_v103 (mulf),
    unary main_while1b_v103 main_while1b_v104 (broadcastInDim S1x4x1x128 ![0, 1, 3] bcast_S1x4x128_S1x4x1x128_0_1_3),
    binary main_while1b_v80 main_while1b_v95 main_while1b_v105 (mulf),
    binary main_while1b_v95 main_while1b_v79 main_while1b_v106 (mulf),
    binary main_while1b_v105 main_while1b_v79 main_while1b_v107 (mulf),
    nullary main_while1b_cst_38 (constant S_ .f32 0x00000000#32),
    binary main_while1b_v107 main_while1b_cst_38 main_while1b_v108 ((fun x v => Host.reduceAdd x v reducesTo_S1x4x64x128_S1x4x128_d2 h_S_)),
    reshape main_while1b_v108 main_while1b_v109 rfl shapeCasts_S1x4x128_S1x4x1x128,
    unary main_while1b_v107 main_while1b_v110 (Host.negf),
    binary main_while1b_v104 main_while1b_v109 main_while1b_v111 (addf),
    nullary main_while1b_cst_39 (constant S_ .f32 0x00000000#32),
    binary main_while1b_v111 main_while1b_cst_39 main_while1b_v112 ((fun x v => pad S1x4x64x128 ![0, 0, 63, 0] ![0, 0, 0, 0] ![0, 0, 0, 0] x v pads_S1x4x1x128_S1x4x64x128_000_000_6300_000 h_S_)),
    binary main_while1b_v110 main_while1b_v112 main_while1b_v113 (addf) ]
theorem trip1_1_sub : Within (F := F) trip1_1 :=
  ⟨sub2 .., sub1 .., sub2 .., sub2 .., sub2 .., sub1 .., sub2 .., sub1 .., sub1 .., sub2 .., sub2 .., sub0 .., sub2 .., subR .., sub0 .., sub2 .., sub1 .., sub2 .., sub1 .., sub2 .., sub2 .., sub2 .., sub0 .., sub2 .., subR .., sub1 .., sub2 .., sub0 .., sub2 .., sub2 ..⟩
/-- 2 operations of the second loop's trip. -/
abbrev trip1_2 : List (HloOp τ sig (Elt F)) :=
  [ nullary main_while1b_c_40 (constantI S_ 32 1#32),
    binary main_v47_10 main_while1b_c_40 main_while1b_v119 (addi) ]
theorem trip1_2_sub : Within (F := F) trip1_2 :=
  ⟨sub0 .., sub2 ..⟩
/-- 6 operations of the second loop's trip. -/
abbrev trip1b_0 : List (HloOp τ sig (Elt F)) :=
  [ unary main_while1b_v119 main_v47_10 id,
    unary main_while1b_v97 main_v47_11 id,
    unary main_while1b_v115 main_v47_12 id,
    unary main_while1b_v116 main_v47_13 id,
    unary main_while1b_v117 main_v47_14 id,
    unary main_while1b_v118 main_v47_15 id ]
theorem trip1b_0_sub : Within (F := F) trip1b_0 :=
  ⟨sub1 .., sub1 .., sub1 .., sub1 .., sub1 .., sub1 ..⟩
theorem main_part0_chain (c : Dev nD) : main_part0 (F := F) c = (Pipeline.chainK
  [ seq pre0,
    seq (fn_log_sigmoid_ops (.of main_v7) main_call0),
    seq pre1,
    seq (fn_cumsum_ops main_call1) ] (seq pre2) : (Prog (TpuEff nD τ sig (Elt F) (HostLoop.Sig (Pipeline.Sig Λ₀ (Fin 0) fun p => (pcfgs (F := F) p).Adm) 2) .tc) PUnit)) := by
  rewrite [chainK_seq_cons, Pipeline.chainK_cons, chainK_seq_cons, Pipeline.chainK_cons]
  chain_rfl
theorem main_part1_chain (c : Dev nD) : main_part1 (F := F) c = (Pipeline.chainK
  [ seq mid0,
    HostLoop.enter 0,
    seq mid1,
    HostLoop.enter 1,
    seq mid2,
    seq (fn_log_sigmoid_12_ops (.of main_v8_1) (.of main_v8_2) (.of main_v66) main_call29) ] (seq mid3) : (Prog (TpuEff nD τ sig (Elt F) (HostLoop.Sig (Pipeline.Sig Λ₀ (Fin 0) fun p => (pcfgs (F := F) p).Adm) 2) .tc) PUnit)) := by
  rewrite [chainK_seq_cons, Pipeline.chainK_cons, chainK_seq_cons, Pipeline.chainK_cons, chainK_seq_cons, Pipeline.chainK_cons]
  chain_rfl
theorem main_part2_chain (c : Dev nD) : main_part2 (F := F) c = (Pipeline.chain
  [ seq fin0 ] : (Prog (TpuEff nD τ sig (Elt F) (HostLoop.Sig (Pipeline.Sig Λ₀ (Fin 0) fun p => (pcfgs (F := F) p).Adm) 2) .tc) PUnit)) := by
  rewrite [chain_seq_cons]
  chain_rfl
theorem trip0_chain : main_while0_body (F := F) = (Pipeline.chain
  [ seq (fn_dynamic_index_in_dim_ops (.of main_v36_0) (.of main_v36_4) main_while0b_call2),
    seq (fn_dynamic_index_in_dim_ops (.of main_v36_1) (.of main_v36_4) main_while0b_call3),
    seq (fn_dynamic_index_in_dim_0_ops (.of main_v36_2) (.of main_v36_4) main_while0b_call4),
    seq (fn_dynamic_index_in_dim_ops (.of main_v36_3) (.of main_v36_4) main_while0b_call5),
    seq (fn_cumsum_1_ops (.of main_while0b_v79) main_while0b_call6),
    seq trip0_0,
    seq (fn_dynamic_update_index_in_dim_ops (.of main_v36_6) (.of main_while0b_v93) (.of main_v36_4) main_while0b_call7),
    seq (fn_dynamic_update_index_in_dim_3_ops (.of main_v36_7) (.of main_while0b_v84) (.of main_v36_4) main_while0b_call8),
    seq (fn_dynamic_update_index_in_dim_4_ops (.of main_v36_8) (.of main_while0b_v87) (.of main_v36_4) main_while0b_call9),
    seq (fn_dynamic_update_index_in_dim_5_ops (.of main_v36_9) (.of main_v36_5) (.of main_v36_4) main_while0b_call10),
    seq (fn_dynamic_update_index_in_dim_6_ops (.of main_v36_10) (.of main_while0b_v88) (.of main_v36_4) main_while0b_call11),
    seq (fn_dynamic_update_index_in_dim_3_ops (.of main_v36_11) (.of main_while0b_v85) (.of main_v36_4) main_while0b_call12),
    seq (fn_dynamic_update_index_in_dim_5_ops (.of main_v36_12) (.of main_while0b_v92) (.of main_v36_4) main_while0b_call13),
    seq trip0_1,
    seq trip0_2 ] : (Prog (TpuEff nD τ sig (Elt F) (HostLoop.Sig (Pipeline.Sig Λ₀ (Fin 0) fun p => (pcfgs (F := F) p).Adm) 2) .tc) PUnit)) := by
  rewrite [Pipeline.chain_cons, Pipeline.chain_cons, Pipeline.chain_cons, Pipeline.chain_cons, Pipeline.chain_cons, chain_seq_cons, Pipeline.chain_cons, Pipeline.chain_cons, Pipeline.chain_cons, Pipeline.chain_cons, Pipeline.chain_cons, Pipeline.chain_cons, Pipeline.chain_cons, chain_seq_cons, chain_seq_cons]
  chain_rfl
theorem trip1_chain_part0 : main_while1_body_part0 (F := F) = (Pipeline.chainK
  [ seq trip1_0,
    seq (fn_dynamic_index_in_dim_0_ops (.of main_v47_0) (.of main_while1b_v77) main_while1b_call14),
    seq (fn_dynamic_index_in_dim_ops (.of main_v47_1) (.of main_while1b_v77) main_while1b_call15),
    seq (fn_dynamic_index_in_dim_ops (.of main_v47_2) (.of main_while1b_v77) main_while1b_call16),
    seq (fn_dynamic_index_in_dim_7_ops (.of main_v47_3) (.of main_while1b_v77) main_while1b_call17),
    seq (fn_dynamic_index_in_dim_8_ops (.of main_v47_4) (.of main_while1b_v77) main_while1b_call18),
    seq (fn_dynamic_index_in_dim_9_ops (.of main_v47_5) (.of main_while1b_v77) main_while1b_call19),
    seq (fn_dynamic_index_in_dim_0_ops (.of main_v47_6) (.of main_while1b_v77) main_while1b_call20),
    seq (fn_dynamic_index_in_dim_ops (.of main_v47_7) (.of main_while1b_v77) main_while1b_call21),
    seq (fn_dynamic_index_in_dim_8_ops (.of main_v47_8) (.of main_while1b_v77) main_while1b_call22),
    seq (fn_dynamic_index_in_dim_ops (.of main_v47_9) (.of main_while1b_v77) main_while1b_call23),
    seq trip1_1,
    seq (fn_cumsum_10_ops (.of main_while1b_v113) main_while1b_call24),
    seq (fn_dynamic_update_index_in_dim_3_ops (.of main_v47_12) (.of main_while1b_v91) (.of main_while1b_v77) main_while1b_call25),
    seq (fn_dynamic_update_index_in_dim_3_ops (.of main_v47_13) (.of main_while1b_v106) (.of main_while1b_v77) main_while1b_call26),
    seq (fn_dynamic_update_index_in_dim_ops (.of main_v47_14) (.of main_while1b_v93) (.of main_while1b_v77) main_while1b_call27),
    seq (fn_dynamic_update_index_in_dim_3_ops (.of main_v47_15) (.of main_while1b_v114) (.of main_while1b_v77) main_while1b_call28) ] (seq trip1_2) : (Prog (TpuEff nD τ sig (Elt F) (HostLoop.Sig (Pipeline.Sig Λ₀ (Fin 0) fun p => (pcfgs (F := F) p).Adm) 2) .tc) PUnit)) := by
  rewrite [chainK_seq_cons, Pipeline.chainK_cons, Pipeline.chainK_cons, Pipeline.chainK_cons, Pipeline.chainK_cons, Pipeline.chainK_cons, Pipeline.chainK_cons, Pipeline.chainK_cons, Pipeline.chainK_cons, Pipeline.chainK_cons, Pipeline.chainK_cons, chainK_seq_cons, Pipeline.chainK_cons, Pipeline.chainK_cons, Pipeline.chainK_cons, Pipeline.chainK_cons, Pipeline.chainK_cons]
  chain_rfl
theorem trip1_chain_part1 : main_while1_body_part1 (F := F) = (Pipeline.chain
  [ seq trip1b_0 ] : (Prog (TpuEff nD τ sig (Elt F) (HostLoop.Sig (Pipeline.Sig Λ₀ (Fin 0) fun p => (pcfgs (F := F) p).Adm) 2) .tc) PUnit)) := by
  rewrite [chain_seq_cons]
  chain_rfl
/-- The stretches of `preI`, in order. -/
abbrev preI : List (List (HloOp τ sig (Elt F))) := [pre0, fn_log_sigmoid_ops (.of main_v7) main_call0, pre1, fn_cumsum_ops main_call1, pre2, mid0]
theorem preI_plain : Plain (preI (F := F)) := plain_cons pre0_sub rfl (plain_cons (fn_log_sigmoid_ops_sub _ _) rfl (plain_cons pre1_sub rfl (plain_cons (fn_cumsum_ops_sub _) rfl (plain_cons pre2_sub rfl (plain_cons mid0_sub rfl (.nil))))))
/-- The stretches of `midI`, in order. -/
abbrev midI : List (List (HloOp τ sig (Elt F))) := [mid1]
theorem midI_plain : Plain (midI (F := F)) := plain_cons mid1_sub rfl (.nil)
/-- The stretches of `finI`, in order. -/
abbrev finI : List (List (HloOp τ sig (Elt F))) := [mid2, fn_log_sigmoid_12_ops (.of main_v8_1) (.of main_v8_2) (.of main_v66) main_call29, mid3, fin0]
theorem finI_plain : Plain (finI (F := F)) := plain_cons mid2_sub rfl (plain_cons (fn_log_sigmoid_12_ops_sub _ _ _ _) rfl (plain_cons mid3_sub rfl (plain_cons fin0_sub rfl (.nil))))
/-- The stretches of `trip0I`, in order. -/
abbrev trip0I : List (List (HloOp τ sig (Elt F))) := [fn_dynamic_index_in_dim_ops (.of main_v36_0) (.of main_v36_4) main_while0b_call2, fn_dynamic_index_in_dim_ops (.of main_v36_1) (.of main_v36_4) main_while0b_call3, fn_dynamic_index_in_dim_0_ops (.of main_v36_2) (.of main_v36_4) main_while0b_call4, fn_dynamic_index_in_dim_ops (.of main_v36_3) (.of main_v36_4) main_while0b_call5, fn_cumsum_1_ops (.of main_while0b_v79) main_while0b_call6, trip0_0, fn_dynamic_update_index_in_dim_ops (.of main_v36_6) (.of main_while0b_v93) (.of main_v36_4) main_while0b_call7, fn_dynamic_update_index_in_dim_3_ops (.of main_v36_7) (.of main_while0b_v84) (.of main_v36_4) main_while0b_call8, fn_dynamic_update_index_in_dim_4_ops (.of main_v36_8) (.of main_while0b_v87) (.of main_v36_4) main_while0b_call9, fn_dynamic_update_index_in_dim_5_ops (.of main_v36_9) (.of main_v36_5) (.of main_v36_4) main_while0b_call10, fn_dynamic_update_index_in_dim_6_ops (.of main_v36_10) (.of main_while0b_v88) (.of main_v36_4) main_while0b_call11, fn_dynamic_update_index_in_dim_3_ops (.of main_v36_11) (.of main_while0b_v85) (.of main_v36_4) main_while0b_call12, fn_dynamic_update_index_in_dim_5_ops (.of main_v36_12) (.of main_while0b_v92) (.of main_v36_4) main_while0b_call13, trip0_1, trip0_2]
theorem trip0I_plain : Plain (trip0I (F := F)) := plain_cons (fn_dynamic_index_in_dim_ops_sub _ _ _) rfl (plain_cons (fn_dynamic_index_in_dim_ops_sub _ _ _) rfl (plain_cons (fn_dynamic_index_in_dim_0_ops_sub _ _ _) rfl (plain_cons (fn_dynamic_index_in_dim_ops_sub _ _ _) rfl (plain_cons (fn_cumsum_1_ops_sub _ _) rfl (plain_cons trip0_0_sub rfl (plain_cons (fn_dynamic_update_index_in_dim_ops_sub _ _ _ _) rfl (plain_cons (fn_dynamic_update_index_in_dim_3_ops_sub _ _ _ _) rfl (plain_cons (fn_dynamic_update_index_in_dim_4_ops_sub _ _ _ _) rfl (plain_cons (fn_dynamic_update_index_in_dim_5_ops_sub _ _ _ _) rfl (plain_cons (fn_dynamic_update_index_in_dim_6_ops_sub _ _ _ _) rfl (plain_cons (fn_dynamic_update_index_in_dim_3_ops_sub _ _ _ _) rfl (plain_cons (fn_dynamic_update_index_in_dim_5_ops_sub _ _ _ _) rfl (plain_cons trip0_1_sub rfl (plain_cons trip0_2_sub rfl (.nil)))))))))))))))
/-- The stretches of `trip1I`, in order. -/
abbrev trip1I : List (List (HloOp τ sig (Elt F))) := [trip1_0, fn_dynamic_index_in_dim_0_ops (.of main_v47_0) (.of main_while1b_v77) main_while1b_call14, fn_dynamic_index_in_dim_ops (.of main_v47_1) (.of main_while1b_v77) main_while1b_call15, fn_dynamic_index_in_dim_ops (.of main_v47_2) (.of main_while1b_v77) main_while1b_call16, fn_dynamic_index_in_dim_7_ops (.of main_v47_3) (.of main_while1b_v77) main_while1b_call17, fn_dynamic_index_in_dim_8_ops (.of main_v47_4) (.of main_while1b_v77) main_while1b_call18, fn_dynamic_index_in_dim_9_ops (.of main_v47_5) (.of main_while1b_v77) main_while1b_call19, fn_dynamic_index_in_dim_0_ops (.of main_v47_6) (.of main_while1b_v77) main_while1b_call20, fn_dynamic_index_in_dim_ops (.of main_v47_7) (.of main_while1b_v77) main_while1b_call21, fn_dynamic_index_in_dim_8_ops (.of main_v47_8) (.of main_while1b_v77) main_while1b_call22, fn_dynamic_index_in_dim_ops (.of main_v47_9) (.of main_while1b_v77) main_while1b_call23, trip1_1, fn_cumsum_10_ops (.of main_while1b_v113) main_while1b_call24, fn_dynamic_update_index_in_dim_3_ops (.of main_v47_12) (.of main_while1b_v91) (.of main_while1b_v77) main_while1b_call25, fn_dynamic_update_index_in_dim_3_ops (.of main_v47_13) (.of main_while1b_v106) (.of main_while1b_v77) main_while1b_call26, fn_dynamic_update_index_in_dim_ops (.of main_v47_14) (.of main_while1b_v93) (.of main_while1b_v77) main_while1b_call27, fn_dynamic_update_index_in_dim_3_ops (.of main_v47_15) (.of main_while1b_v114) (.of main_while1b_v77) main_while1b_call28, trip1_2, trip1b_0]
theorem trip1I_plain : Plain (trip1I (F := F)) := plain_cons trip1_0_sub rfl (plain_cons (fn_dynamic_index_in_dim_0_ops_sub _ _ _) rfl (plain_cons (fn_dynamic_index_in_dim_ops_sub _ _ _) rfl (plain_cons (fn_dynamic_index_in_dim_ops_sub _ _ _) rfl (plain_cons (fn_dynamic_index_in_dim_7_ops_sub _ _ _) rfl (plain_cons (fn_dynamic_index_in_dim_8_ops_sub _ _ _) rfl (plain_cons (fn_dynamic_index_in_dim_9_ops_sub _ _ _) rfl (plain_cons (fn_dynamic_index_in_dim_0_ops_sub _ _ _) rfl (plain_cons (fn_dynamic_index_in_dim_ops_sub _ _ _) rfl (plain_cons (fn_dynamic_index_in_dim_8_ops_sub _ _ _) rfl (plain_cons (fn_dynamic_index_in_dim_ops_sub _ _ _) rfl (plain_cons trip1_1_sub rfl (plain_cons (fn_cumsum_10_ops_sub _ _) rfl (plain_cons (fn_dynamic_update_index_in_dim_3_ops_sub _ _ _ _) rfl (plain_cons (fn_dynamic_update_index_in_dim_3_ops_sub _ _ _ _) rfl (plain_cons (fn_dynamic_update_index_in_dim_ops_sub _ _ _ _) rfl (plain_cons (fn_dynamic_update_index_in_dim_3_ops_sub _ _ _ _) rfl (plain_cons trip1_2_sub rfl (plain_cons trip1b_0_sub rfl (.nil)))))))))))))))))))
theorem trip1_chain : main_while1_body (F := F) = Pipeline.chain ((trip1I (F := F)).map fun ops => (seq ops : (Prog (TpuEff nD τ sig (Elt F) (HostLoop.Sig (Pipeline.Sig Λ₀ (Fin 0) fun p => (pcfgs (F := F) p).Adm) 2) .tc) PUnit))) :=
  (Pipeline.chain_of_window (trip1_chain_part0 (F := F)) (trip1_chain_part1 (F := F))).trans rfl
/-- @main: the stretches before the first loop, the loop, those between, the second loop, those at the end. -/
theorem main_chain (c : Dev nD) : main (F := F) c = Pipeline.chain
    (((preI (F := F)).map fun ops => (seq ops : (Prog (TpuEff nD τ sig (Elt F) (HostLoop.Sig (Pipeline.Sig Λ₀ (Fin 0) fun p => (pcfgs (F := F) p).Adm) 2) .tc) PUnit))) ++ HostLoop.enter 0 :: (((midI (F := F)).map fun ops => (seq ops : (Prog (TpuEff nD τ sig (Elt F) (HostLoop.Sig (Pipeline.Sig Λ₀ (Fin 0) fun p => (pcfgs (F := F) p).Adm) 2) .tc) PUnit)))
      ++ HostLoop.enter 1 :: (finI (F := F)).map fun ops => (seq ops : (Prog (TpuEff nD τ sig (Elt F) (HostLoop.Sig (Pipeline.Sig Λ₀ (Fin 0) fun p => (pcfgs (F := F) p).Adm) 2) .tc) PUnit)))) :=
  (Pipeline.chain_of_window (main_part0_chain (F := F) c)
    (Pipeline.chain_of_window (main_part1_chain (F := F) c) (main_part2_chain (F := F) c))).trans rfl
/-- The operations of `preI`, in order, and the reference each writes. -/
abbrev pre : List (HloOp τ sig (Elt F)) := (preI (F := F)).flatten
abbrev preW : List (Ref sig .tc) := [main_v0, main_v1, main_v2, main_v3, main_v4, main_v5, main_v6, main_v7, main_call0_v0, main_call0_call0_cst, main_call0_call0_v0, main_call0_call0_v1, main_call0_call0_v2, main_call0_call0_v3, main_call0_call0_v4, main_call0_call0_v5, main_call0_call0_v6, main_call0_call0_v7, main_call0_call0_v8, main_call0_call0_v9, main_call0_call0_v10, main_call0_call0_v11, main_call0_v1_0, main_call0_call0_cst_0, main_call0_call0_v13, main_call0_call0_v14, main_call0_call0_cst_1, main_call0_call0_v15, main_call0_call0_v16, main_call0_call0_cst_2, main_call0_call0_v17, main_call0_call0_v18, main_call0_call0_cst_3, main_call0_call0_v19, main_call0_call0_v20, main_call0_call0_v21, main_v8_1, main_call0_call0_cst_4, main_call0_call0_cst_5, main_call0_call0_v23, main_call0_call0_cst_6, main_call0_call0_cst_7, main_call0_call0_v24, main_call0_call0_cst_8, main_call0_call0_v25, main_call0_call0_v26, main_call0_call0_cst_9, main_call0_call0_v27, main_call0_call0_v28, main_call0_call0_v29, main_call0_call0_v30, main_call0_call0_v31, main_call0_call0_cst_10, main_call0_call0_v32, main_v8_2, main_v8_0, main_cst, main_v9, main_v10, main_v11, main_v12, main_cst_0, main_v13, main_v14, main_v15, main_v16, main_v17, main_v18, main_v19, main_cst_1, main_v20, main_v21, main_v22, main_v23, main_v24, main_v25, main_v26, main_v27, main_v28, main_cst_2, main_v29, main_cst_3, main_v30, main_cst_4, main_v31, main_cst_5, main_v32, main_cst_6, main_v33, main_cst_7, main_v34, main_cst_8, main_v35, main_c, main_v36_0, main_v36_1, main_v36_2, main_v36_3, main_v36_4, main_v36_5, main_v36_6, main_v36_7, main_v36_8, main_v36_9, main_v36_10, main_v36_11, main_v36_12]
theorem pre_writes : (pre : List (HloOp τ sig (Elt F))).map HloOp.writes = preW.map fun r => {Proc.devRef (τ := τ) .tc r} := rfl
/-- The operations of `midI`, in order, and the reference each writes. -/
abbrev mid : List (HloOp τ sig (Elt F)) := (midI (F := F)).flatten
abbrev midW : List (Ref sig .tc) := [main_v37, main_v38, main_cst_9, main_v39, main_v40, main_v41, main_cst_10, main_v42, main_cst_11, main_v43, main_cst_12, main_v44, main_cst_13, main_v45, main_cst_14, main_v46, main_c_15, main_v47_0, main_v47_1, main_v47_2, main_v47_3, main_v47_4, main_v47_5, main_v47_6, main_v47_7, main_v47_8, main_v47_9, main_v47_10, main_v47_11, main_v47_12, main_v47_13, main_v47_14, main_v47_15]
theorem mid_writes : (mid : List (HloOp τ sig (Elt F))).map HloOp.writes = midW.map fun r => {Proc.devRef (τ := τ) .tc r} := rfl
/-- The operations of `finI`, in order, and the reference each writes. -/
abbrev fin : List (HloOp τ sig (Elt F)) := (finI (F := F)).flatten
abbrev finW : List (Ref sig .tc) := [main_v48, main_v49, main_v50, main_v51, main_v52, main_v53, main_v54, main_v55, main_v56, main_v57, main_v58, main_v59, main_v60, main_cst_16, main_v61, main_v62, main_v63, main_v64, main_cst_17, main_v65, main_v66, main_call29_v0, main_call29_v1, main_v67, main_cst_18, main_v68, main_v69, main_v70, main_v71, main_v72, main_v73, main_v74, main_v75]
theorem fin_writes : (fin : List (HloOp τ sig (Elt F))).map HloOp.writes = finW.map fun r => {Proc.devRef (τ := τ) .tc r} := rfl
/-- The operations of `trip0I`, in order, and the reference each writes. -/
abbrev trip0 : List (HloOp τ sig (Elt F)) := (trip0I (F := F)).flatten
abbrev trip0W : List (Ref sig .tc) := [main_while0b_call2_c, main_while0b_call2_c_0, main_while0b_call2_c_1, main_while0b_call2_c_2, main_while0b_call2_v0, main_while0b_v76, main_while0b_call3_c, main_while0b_call3_c_0, main_while0b_call3_c_1, main_while0b_call3_c_2, main_while0b_call3_v0, main_while0b_v77, main_while0b_call4_c, main_while0b_call4_c_0, main_while0b_call4_c_1, main_while0b_call4_c_2, main_while0b_call4_v0, main_while0b_v78, main_while0b_call5_c, main_while0b_call5_c_0, main_while0b_call5_c_1, main_while0b_call5_c_2, main_while0b_call5_v0, main_while0b_v79, main_while0b_call6_call0_cst, main_while0b_call6_call0_v0, main_while0b_v80, main_while0b_v81, main_while0b_v82, main_while0b_v83, main_while0b_v84, main_while0b_v85, main_while0b_v86, main_while0b_v87, main_while0b_v88, main_while0b_v89, main_while0b_v90, main_while0b_v91, main_while0b_v92, main_while0b_v93, main_while0b_call7_v0, main_while0b_call7_c, main_while0b_call7_c_0, main_while0b_call7_c_1, main_while0b_call7_c_2, main_while0b_v94, main_while0b_call8_v0, main_while0b_call8_c, main_while0b_call8_c_0, main_while0b_call8_c_1, main_while0b_call8_c_2, main_while0b_v95, main_while0b_call9_v0, main_while0b_call9_c, main_while0b_call9_c_0, main_while0b_call9_c_1, main_while0b_v96, main_while0b_call10_v0, main_while0b_call10_c, main_while0b_call10_c_0, main_while0b_call10_c_1, main_while0b_call10_c_2, main_while0b_v97, main_while0b_call11_v0, main_while0b_call11_c, main_while0b_call11_c_0, main_while0b_call11_c_1, main_while0b_call11_c_2, main_while0b_v98, main_while0b_call12_v0, main_while0b_call12_c, main_while0b_call12_c_0, main_while0b_call12_c_1, main_while0b_call12_c_2, main_while0b_v99, main_while0b_call13_v0, main_while0b_call13_c, main_while0b_call13_c_0, main_while0b_call13_c_1, main_while0b_call13_c_2, main_while0b_v100, main_while0b_c_31, main_while0b_v101, main_v36_4, main_v36_5, main_v36_6, main_v36_7, main_v36_8, main_v36_9, main_v36_10, main_v36_11, main_v36_12]
theorem trip0_writes : (trip0 : List (HloOp τ sig (Elt F))).map HloOp.writes = trip0W.map fun r => {Proc.devRef (τ := τ) .tc r} := rfl
/-- The operations of `trip1I`, in order, and the reference each writes. -/
abbrev trip1 : List (HloOp τ sig (Elt F)) := (trip1I (F := F)).flatten
abbrev trip1W : List (Ref sig .tc) := [main_while1b_c_34, main_while1b_v76, main_while1b_c_35, main_while1b_v77, main_while1b_call14_c, main_while1b_call14_c_0, main_while1b_call14_c_1, main_while1b_call14_c_2, main_while1b_call14_v0, main_while1b_v78, main_while1b_call15_c, main_while1b_call15_c_0, main_while1b_call15_c_1, main_while1b_call15_c_2, main_while1b_call15_v0, main_while1b_v79, main_while1b_call16_c, main_while1b_call16_c_0, main_while1b_call16_c_1, main_while1b_call16_c_2, main_while1b_call16_v0, main_while1b_v80, main_while1b_call17_c, main_while1b_call17_c_0, main_while1b_call17_c_1, main_while1b_call17_v0, main_while1b_v81, main_while1b_call18_c, main_while1b_call18_c_0, main_while1b_call18_c_1, main_while1b_call18_c_2, main_while1b_call18_v0, main_while1b_v82, main_while1b_call19_c, main_while1b_call19_c_0, main_while1b_call19_c_1, main_while1b_call19_c_2, main_while1b_call19_v0, main_while1b_v83, main_while1b_call20_c, main_while1b_call20_c_0, main_while1b_call20_c_1, main_while1b_call20_c_2, main_while1b_call20_v0, main_while1b_v84, main_while1b_call21_c, main_while1b_call21_c_0, main_while1b_call21_c_1, main_while1b_call21_c_2, main_while1b_call21_v0, main_while1b_v85, main_while1b_call22_c, main_while1b_call22_c_0, main_while1b_call22_c_1, main_while1b_call22_c_2, main_while1b_call22_v0, main_while1b_v86, main_while1b_call23_c, main_while1b_call23_c_0, main_while1b_call23_c_1, main_while1b_call23_c_2, main_while1b_call23_v0, main_while1b_v87, main_while1b_v88, main_while1b_v89, main_while1b_v90, main_while1b_v91, main_while1b_v92, main_while1b_v93, main_while1b_v94, main_while1b_v95, main_while1b_v96, main_while1b_v97, main_while1b_v98, main_while1b_cst_36, main_while1b_v99, main_while1b_v100, main_while1b_cst_37, main_while1b_v101, main_while1b_v102, main_while1b_v103, main_while1b_v104, main_while1b_v105, main_while1b_v106, main_while1b_v107, main_while1b_cst_38, main_while1b_v108, main_while1b_v109, main_while1b_v110, main_while1b_v111, main_while1b_cst_39, main_while1b_v112, main_while1b_v113, main_while1b_call24_call0_cst, main_while1b_call24_call0_v0, main_while1b_v114, main_while1b_call25_v0, main_while1b_call25_c, main_while1b_call25_c_0, main_while1b_call25_c_1, main_while1b_call25_c_2, main_while1b_v115, main_while1b_call26_v0, main_while1b_call26_c, main_while1b_call26_c_0, main_while1b_call26_c_1, main_while1b_call26_c_2, main_while1b_v116, main_while1b_call27_v0, main_while1b_call27_c, main_while1b_call27_c_0, main_while1b_call27_c_1, main_while1b_call27_c_2, main_while1b_v117, main_while1b_call28_v0, main_while1b_call28_c, main_while1b_call28_c_0, main_while1b_call28_c_1, main_while1b_call28_c_2, main_while1b_v118, main_while1b_c_40, main_while1b_v119, main_v47_10, main_v47_11, main_v47_12, main_v47_13, main_v47_14, main_v47_15]
theorem trip1_writes : (trip1 : List (HloOp τ sig (Elt F))).map HloOp.writes = trip1W.map fun r => {Proc.devRef (τ := τ) .tc r} := rfl

end Cert.ReferenceIdeal.Gen

end
-- ==== Proof.Ref.Run.lean ====
module

public import proofs.«01_k».proof.Proof.Ref.Lines
public import Idealize.ShloMosaic.Lib.Pipeline.Regions
public import Idealize.ShloMosaic.Lib.Pipeline.RegionsLoop
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

noncomputable section

/-! The run of the reference program: every buffer's final contents, and its frame. -/

namespace Cert.ReferenceIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (CSeg Ticket ucRefs sub_ucRefs)

variable {F : FTy → Type} [FloatOps F]

/-- Loop 0's test: the number of trips, and the counter compared with it. -/
abbrev test0 : List (HloOp τ sig (Elt F)) :=
  [ StableHlo.nullary main_while0c_c_31 (constantI S_ 32 64#32), StableHlo.binary main_v36_4 main_while0c_c_31 main_while0c_v76 (cmpi .slt) ]
abbrev test0W : List (Ref sig .tc) := [main_while0c_c_31, main_while0c_v76]
theorem test0_writes : (test0 : List (HloOp τ sig (Elt F))).map HloOp.writes = test0W.map fun r => {Proc.devRef (τ := τ) .tc r} := rfl
/-- The test leaves every other buffer. -/
theorem after_test0 (V : Valuation τ sig (Elt F)) {r : Ref sig .tc} (hr : r ∉ test0W) : after test0 V (Proc.devRef .tc r) = V (Proc.devRef .tc r) :=
  after_unwritten test0W test0_writes hr V

/-- Loop 1's test: the number of trips, and the counter compared with it. -/
abbrev test1 : List (HloOp τ sig (Elt F)) :=
  [ StableHlo.nullary main_while1c_c_34 (constantI S_ 32 64#32), StableHlo.binary main_v47_10 main_while1c_c_34 main_while1c_v76 (cmpi .slt) ]
abbrev test1W : List (Ref sig .tc) := [main_while1c_c_34, main_while1c_v76]
theorem test1_writes : (test1 : List (HloOp τ sig (Elt F))).map HloOp.writes = test1W.map fun r => {Proc.devRef (τ := τ) .tc r} := rfl
/-- The test leaves every other buffer. -/
theorem after_test1 (V : Valuation τ sig (Elt F)) {r : Ref sig .tc} (hr : r ∉ test1W) : after test1 V (Proc.devRef .tc r) = V (Proc.devRef .tc r) :=
  after_unwritten test1W test1_writes hr V

theorem afterL_flatten (I : List (List (HloOp τ sig (Elt F)))) (V : Valuation τ sig (Elt F)) : afterL I V = after I.flatten V := by
  induction I generalizing V with
  | nil => rfl
  | cons a I ih => rw [afterL_cons, ih, List.flatten_cons, after_append]

variable (m : (ℓ : Loc nD τ sig) → Buf (Elt F) ℓ) (ρ : Dev nD → PrngReg)

/-- Device `c`'s buffers on entering the first loop. -/
def entry0 (c : Dev nD) : Valuation τ sig (Elt F) := afterL preI (launchContents m c)
/-- … before the `k`-th test of the first loop. -/
abbrev at0 (k : ℕ) (c : Dev nD) : Valuation τ sig (Elt F) := atTrip test0 trip0I (entry0 m) k c
/-- … on entering the second loop. -/
def entry1 (c : Dev nD) : Valuation τ sig (Elt F) := afterL midI (after test0 (at0 m 64 c))
/-- … before the `k`-th test of the second loop. -/
abbrev at1 (k : ℕ) (c : Dev nD) : Valuation τ sig (Elt F) := atTrip test1 trip1I (entry1 m) k c
/-- … at the end. -/
def final (c : Dev nD) : Valuation τ sig (Elt F) := afterL finI (after test1 (at1 m 64 c))

set_option maxRecDepth 100000 in
theorem ctr0_entry (c : Dev nD) : entry0 m c (Proc.devRef .tc main_v36_4) = fun _ => (0#32 : BitVec 32) := by
  simp only [entry0, afterL_cons, afterL_nil]
  after_reads_simp
  rfl
set_option maxRecDepth 100000 in
theorem ctr0_step (V : Valuation τ sig (Elt F)) :
    afterL trip0I V (Proc.devRef .tc main_v36_4) = addi (V (Proc.devRef .tc main_v36_4)) (constantI S_ 32 1#32) := by
  simp only [afterL_cons, afterL_nil]
  after_reads_simp
  rfl
/-- Before the `k`-th test of loop 0 its counter is `k`. -/
theorem ctr0 (c : Dev nD) : ∀ k, at0 m k c (Proc.devRef .tc main_v36_4) = fun _ => Scf.iv 0#32 1#32 k
  | 0 => by rw [show at0 m 0 c = entry0 m c from rfl, ctr0_entry, Scf.iv_zero]
  | k + 1 => by
    rw [show at0 m (k + 1) c = afterL trip0I (after test0 (at0 m k c)) from rfl, ctr0_step,
      after_test0 _ (by decide +kernel), ctr0 c k, Scf.iv_succ]
    rfl

set_option maxRecDepth 100000 in
theorem ctr1_entry (c : Dev nD) : entry1 m c (Proc.devRef .tc main_v47_10) = fun _ => (0#32 : BitVec 32) := by
  simp only [entry1, afterL_cons, afterL_nil]
  after_reads_simp
  rfl
set_option maxRecDepth 100000 in
theorem ctr1_step (V : Valuation τ sig (Elt F)) :
    afterL trip1I V (Proc.devRef .tc main_v47_10) = addi (V (Proc.devRef .tc main_v47_10)) (constantI S_ 32 1#32) := by
  simp only [afterL_cons, afterL_nil]
  after_reads_simp
  rfl
/-- Before the `k`-th test of loop 1 its counter is `k`. -/
theorem ctr1 (c : Dev nD) : ∀ k, at1 m k c (Proc.devRef .tc main_v47_10) = fun _ => Scf.iv 0#32 1#32 k
  | 0 => by rw [show at1 m 0 c = entry1 m c from rfl, ctr1_entry, Scf.iv_zero]
  | k + 1 => by
    rw [show at1 m (k + 1) c = afterL trip1I (after test1 (at1 m k c)) from rfl, ctr1_step,
      after_test1 _ (by decide +kernel), ctr1 c k, Scf.iv_succ]
    rfl

set_option backward.isDefEq.respectTransparency.types false in
/-- Loop 0 runs its body exactly on the first 64 tests, which change only their own two buffers. -/
theorem test0_spec : CondSpec (pcfgs (F := F)) defs₀ loops (main_while0_cond (F := F)) test0 trip0I (entry0 m) 64 := by
  intro k hk c bd
  have hctr := ctr0 m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (at0 m k c) main_v36_4 HostLoop.idx0)
        (HloOp.result _ (at0 m k c) main_while0c_c_31 HostLoop.idx0) = 1#1) (k < 64)
    rw [nullary_result_ne _ _ _ _ (by decide), nullary_result, hctr]
    exact Scf.cmpi_slt_iv_ub_iff (lb := 0#32) (ub := 64#32) (st := 1#32) (by decide) (show k ≤ Scf.trips 0#32 64#32 1#32 from hk)
  isplitl [Hb]; · iexact Hb
  rw [after_cons, after_cons, after_nil]; iexact Hh

set_option backward.isDefEq.respectTransparency.types false in
/-- Loop 1 runs its body exactly on the first 64 tests, which change only their own two buffers. -/
theorem test1_spec : CondSpec (pcfgs (F := F)) defs₀ loops (main_while1_cond (F := F)) test1 trip1I (entry1 m) 64 := by
  intro k hk c bd
  have hctr := ctr1 m c k
  unfold main_while1_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (at1 m k c) main_v47_10 HostLoop.idx0)
        (HloOp.result _ (at1 m k c) main_while1c_c_34 HostLoop.idx0) = 1#1) (k < 64)
    rw [nullary_result_ne _ _ _ _ (by decide), nullary_result, hctr]
    exact Scf.cmpi_slt_iv_ub_iff (lb := 0#32) (ub := 64#32) (st := 1#32) (by decide) (show k ≤ Scf.trips 0#32 64#32 1#32 from hk)
  isplitl [Hb]; · iexact Hb
  rw [after_cons, after_cons, after_nil]; iexact Hh

section Run

local notation "𝕄" => MT nD τ sig Unit (Elt F) ℕ (Option PUnit) ℕ

/-- No region, so nothing is admitted, no ticket is taken and no counter has a level. -/
abbrev noAdm : (p : Fin 0) → (pcfgs (F := F) p).Adm := fun p => p.elim0
abbrev noTk : Fin 0 → Ticket (Ix := Unit) (Name := ℕ) (U := Option PUnit) (Lvl := ℕ) (nD := nD) (τ := τ) (pcfgs (F := F)) noAdm := fun j => j.elim0
abbrev noL : GSem nD τ sig → Finset Unit := fun _ => ∅
abbrev noLv : GSem nD τ sig → Unit → ℕ := fun _ _ => 0

theorem noCell_injective : Function.Injective (Pipeline.cellOf (nD := nD) (τ := τ) (Pipeline.pin (pcfgs (F := F)) noAdm)) :=
  fun k => k.1.elim0

/-- What a device keeps beside its buffers: it owes nothing. -/
abbrev Idle (c : Dev nD) : sProp 𝕄 := iprop(∃ W, owes (c : Thread nD τ) (0 : CellTallies nD τ sig Unit) W)

/-- A test's specification with the idle share carried along. -/
theorem loopCond_of_spec {cond : Prog (TpuEff nD τ sig (Elt F) (HostLoop.Sig (Pipeline.Sig Λ₀ (Fin 0) fun p => (pcfgs (F := F) p).Adm) 2) .tc) (Elt F .i1)}
    {t : List (HloOp τ sig (Elt F))} {bodyI : List (List (HloOp τ sig (Elt F)))} {W₀ : Dev nD → Valuation τ sig (Elt F)} {n : ℕ}
    (h : CondSpec (pcfgs (F := F)) defs₀ loops cond t bodyI W₀ n) :
    LoopCond (pcfgs (F := F)) defs₀ Variants.none loops Idle cond t bodyI W₀ n := by
  intro k hk c bd
  refine BIBase.Entails.trans ?_ (((sep_mono_left (Q := Idle c) (h k hk c bd)).trans (wp_frame_r _ _ _)).trans (wp_mono _ _ _ fun v => ?_))
  · iintro ⟨Hb, Hh, HR⟩
    isplitl [Hb Hh]; · isplitl [Hb] <;> iassumption
    iexact HR
  · iintro ⟨⟨%hv, Hb, Hh⟩, HR⟩
    isplitr; · ipureintro; exact hv
    isplitl [Hb]; · iexact Hb
    isplitl [Hh] <;> iassumption

/-- The run's segments: three lists of stretches and the two loops between them. -/
def pieces : List (CSeg (pcfgs (F := F)) noAdm defs₀ Variants.none noL noLv loops noTk) :=
  segsOf _ _ _ _ _ _ _ _ Idle preI preI_plain (launchContents m)
    ++ loopSeg _ _ _ _ _ _ _ _ 0 main_while0_cond main_while0_body rfl test0 trip0I trip0I_plain (by rw [trip0_chain]; rfl) 64 (entry0 m) Idle (loopCond_of_spec (test0_spec m))
      :: (segsOf _ _ _ _ _ _ _ _ Idle midI midI_plain (fun c => after test0 (at0 m 64 c))
    ++ loopSeg _ _ _ _ _ _ _ _ 1 main_while1_cond main_while1_body rfl test1 trip1I trip1I_plain (by rw [trip1_chain]) 64 (entry1 m) Idle (loopCond_of_spec (test1_spec m))
      :: segsOf _ _ _ _ _ _ _ _ Idle finI finI_plain (fun c => after test1 (at1 m 64 c)))

theorem pieces_prog : (pieces m).map CSeg.prog =
    ((preI (F := F)).map fun ops => (StableHlo.seq ops : (Prog (TpuEff nD τ sig (Elt F) (HostLoop.Sig (Pipeline.Sig Λ₀ (Fin 0) fun p => (pcfgs (F := F) p).Adm) 2) .tc) PUnit))) ++ HostLoop.enter 0 :: (((midI (F := F)).map fun ops => (StableHlo.seq ops : (Prog (TpuEff nD τ sig (Elt F) (HostLoop.Sig (Pipeline.Sig Λ₀ (Fin 0) fun p => (pcfgs (F := F) p).Adm) 2) .tc) PUnit)))
      ++ HostLoop.enter 1 :: (finI (F := F)).map fun ops => (StableHlo.seq ops : (Prog (TpuEff nD τ sig (Elt F) (HostLoop.Sig (Pipeline.Sig Λ₀ (Fin 0) fun p => (pcfgs (F := F) p).Adm) 2) .tc) PUnit))) := by
  unfold pieces
  rw [List.map_append, List.map_cons, List.map_append, List.map_cons, segsOf_prog, segsOf_prog, segsOf_prog]
  rfl

theorem pieces_chains :
    CSeg.Chains (fun c => iprop(held (c : Thread nD τ) (ucRefs τ sig) (launchContents m c) ∗ Idle c)) (pieces m)
      (fun c => iprop(iprop(held (c : Thread nD τ) (ucRefs τ sig) (final m c)) ∗ ∃ W, owes (c : Thread nD τ) (0 : CellTallies nD τ sig Unit) W)) := by
  unfold pieces
  exact CSeg.Chains.append (segsOf_chains _ _ _ _ _ _ _ _ Idle preI preI_plain _)
    ⟨fun _ => .rfl, CSeg.Chains.append (segsOf_chains _ _ _ _ _ _ _ _ Idle midI midI_plain _)
      ⟨fun _ => .rfl, segsOf_chains _ _ _ _ _ _ _ _ Idle finI finI_plain _⟩⟩

/-- No counter of the program is unscoped. -/
theorem every_sem_scoped : ∀ sm : SemLoc sig, sm.isScoped .tc = true := by decide

/-- THE RUN: from any memory with zero counters every weakly fair execution terminates, every unscoped buffer at `final`, every
    counter at zero. -/
theorem run_final [∀ e, Nonempty (Elt F e)] : θ_run (defs (F := F)) (onTc (τ := τ) (main (F := F))) ⟨m, fun _ => 0, ρ⟩
    (fun r => (∀ (c : Dev nD) (b : Ref sig .tc), (Proc.devRef .tc b : DevRef τ sig).isScoped = false →
      r.2.mem ((c.tc : Thread nD τ).loc b) = final m c (Proc.devRef .tc b)) ∧ r.2.sem = fun _ => 0) :=
  Pipeline.θ_run_regions_loop_kit_sems (Ix := Unit) (Name := ℕ) (U := Option PUnit) (Lvl := ℕ) (J := Fin 0) (P := Fin 0) (Val := Elt F)
    (pcfgs (F := F)) noAdm noCell_injective defs₀ Variants.none noL noLv loops noTk m ρ main (pieces m)
    (fun c Q => by
      rw [main_chain c, ← pieces_prog m]
      exact .rfl)
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Idle c))
    (Tₙ := fun c => iprop(held (c : Thread nD τ) (ucRefs τ sig) (final m c)))
    (hch := pieces_chains m)
    (hinit := by
      refine Pipeline.initEach noL noLv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = final m c b)
    (hfin := fun c s' => by
      unfold held
      iintro ⟨Hh, HSI⟩
      ihave Hr := (pointsTo_read_all (ucRefs τ sig) (fun b => ((c : Dev nD), b)) (fun b => final m c b) s') $$ [Hh HSI]
      · isplitl [Hh] <;> iassumption
      icases Hr with ⟨%h, HSI⟩
      imodintro
      isplitr; · ipureintro; exact h
      iexact HSI)
    (hQ := fun s h hz => ⟨fun c b hb => h c _ (devRef_mem_ucRefs b hb), funext fun g => hz g (.inr (every_sem_scoped g.2))⟩)

end Run

/-! ### The arguments are never written -/

/-- A reference no stretch, trip or test writes keeps its launch contents. -/
theorem final_unwritten (c : Dev nD) {r : Ref sig .tc} (h : r ∉ preW ++ (trip0W ++ (test0W ++ (midW ++ (trip1W ++ (test1W ++ finW)))))) :
    final m c (Proc.devRef .tc r) = m ((c.tc : Thread nD τ).loc r) := by
  simp only [List.mem_append, not_or] at h
  obtain ⟨h1, h2, h3, h4, h5, h6, h7⟩ := h
  have e0 : ∀ k, at0 m k c (Proc.devRef .tc r) = m ((c.tc : Thread nD τ).loc r) := by
    intro k
    induction k with
    | zero =>
      show entry0 m c _ = _
      rw [entry0, afterL_flatten]
      exact after_unwritten preW pre_writes h1 _
    | succ k ih =>
      rw [show at0 m (k + 1) c = afterL trip0I (after test0 (at0 m k c)) from rfl, afterL_flatten, after_unwritten trip0W trip0_writes h2 _, after_test0 _ h3, ih]
  have e1 : ∀ k, at1 m k c (Proc.devRef .tc r) = m ((c.tc : Thread nD τ).loc r) := by
    intro k
    induction k with
    | zero =>
      show entry1 m c _ = _
      rw [entry1, afterL_flatten, after_unwritten midW mid_writes h4 _, after_test0 _ h3, e0]
    | succ k ih =>
      rw [show at1 m (k + 1) c = afterL trip1I (after test1 (at1 m k c)) from rfl, afterL_flatten, after_unwritten trip1W trip1_writes h5 _, after_test1 _ h6, ih]
  rw [final, afterL_flatten, after_unwritten finW fin_writes h7 _, after_test1 _ h6, e1]

theorem final_main_arg0 (c : Dev nD) : final m c (Proc.devRef .tc main_arg0) = m ((c.tc : Thread nD τ).loc main_arg0) := final_unwritten m c (by decide +kernel)
theorem final_main_arg1 (c : Dev nD) : final m c (Proc.devRef .tc main_arg1) = m ((c.tc : Thread nD τ).loc main_arg1) := final_unwritten m c (by decide +kernel)
theorem final_main_arg2 (c : Dev nD) : final m c (Proc.devRef .tc main_arg2) = m ((c.tc : Thread nD τ).loc main_arg2) := final_unwritten m c (by decide +kernel)
theorem final_main_arg3 (c : Dev nD) : final m c (Proc.devRef .tc main_arg3) = m ((c.tc : Thread nD τ).loc main_arg3) := final_unwritten m c (by decide +kernel)
theorem final_main_arg4 (c : Dev nD) : final m c (Proc.devRef .tc main_arg4) = m ((c.tc : Thread nD τ).loc main_arg4) := final_unwritten m c (by decide +kernel)

/-- The frame: the run terminates, the arguments keep their contents, every counter is zero. -/
theorem frame [∀ e, Nonempty (Elt F e)] : θ_run (defs (F := F)) (onTc (τ := τ) (main (F := F))) ⟨m, fun _ => 0, ρ⟩
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (run_final m ρ).mono fun r h => ⟨fun c => ⟨(h.1 c main_arg0 (by decide)).trans (final_main_arg0 m c), (h.1 c main_arg1 (by decide)).trans (final_main_arg1 m c), (h.1 c main_arg2 (by decide)).trans (final_main_arg2 m c), (h.1 c main_arg3 (by decide)).trans (final_main_arg3 m c), (h.1 c main_arg4 (by decide)).trans (final_main_arg4 m c)⟩, h.2⟩

end Cert.ReferenceIdeal.Gen

end
-- ==== Proof.Frames.lean ====
module

public import proofs.«01_k».proof.Defs
public import proofs.«01_k».proof.Proof.Gen.Kernel
public import proofs.«01_k».proof.Proof.Ideal.Run
public import proofs.«01_k».proof.Proof.Ref.Run

@[expose] public section

set_option maxRecDepth 16384

noncomputable section

namespace Cert.Proof

open Idealize.ShloMosaic Idealize.SL.Sem

attribute [local instance] Kernel.Gen.facts KernelIdeal.Gen.facts ReferenceIdeal.Gen.facts

/-- The idealized kernel's frame. -/
theorem frame_ideal : quiescent_KernelIdeal := fun m ρ _ => KernelIdeal.Gen.frame m ρ

/-- The idealized kernel's frame read at machine bits. -/
def FrameAtBits : Prop :=
  ∀ (m : (ℓ : Loc KernelIdeal.nD KernelIdeal.τ KernelIdeal.sig) → Buf (Elt Bits) ℓ) (g : Dev KernelIdeal.nD → PrngReg), True →
    θ_run (KernelIdeal.defs (F := Bits)) (onTc (τ := KernelIdeal.τ) (KernelIdeal.main (F := Bits))) ⟨m, fun _ => 0, g⟩ (fun r => (∀ c : Dev KernelIdeal.nD,
      r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1)
      ∧ r.2.mem ((c.tc : Thread KernelIdeal.nD KernelIdeal.τ).loc KernelIdeal.main_arg2) = m ((c.tc : Thread KernelIdeal.nD KernelIdeal.τ).loc KernelIdeal.main_arg2)
      ∧ r.2.mem ((c.tc : Thread KernelIdeal.nD KernelIdeal.τ).loc KernelIdeal.main_arg3) = m ((c.tc : Thread KernelIdeal.nD KernelIdeal.τ).loc KernelIdeal.main_arg3)
      ∧ r.2.mem ((c.tc : Thread KernelIdeal.nD KernelIdeal.τ).loc KernelIdeal.main_arg4) = m ((c.tc : Thread KernelIdeal.nD KernelIdeal.τ).loc KernelIdeal.main_arg4))
      ∧ r.2.sem = fun _ => 0)

/-- No rewrite was made, so the two programs are the same one: so are their frames' statements at machine bits. -/
theorem same_frame : FrameAtBits = quiescent_Kernel := by chain_rfl

/-- The kernel's frame. -/
theorem frame_kernel : quiescent_Kernel :=
  same_frame.mp fun m ρ _ => KernelIdeal.Gen.frame (F := Bits) m ρ

/-- The reference's frame. -/
theorem frame_reference : quiescent_ReferenceIdeal := fun m ρ _ => ReferenceIdeal.Gen.frame m ρ

end Cert.Proof

end
-- ==== Proof.Kern.FwdRun.lean ====
module

public import proofs.«01_k».proof.Proof.Ideal.Region0

@[expose] public section

set_option maxRecDepth 16384

noncomputable section

/-! # What one grid step of the forward call stores, as one recursion over its sixteen (chunk, head) pairs -/

namespace Cert.KernelIdeal.Gen

open Idealize.ShloMosaic Idealize.ShloMosaic.TcCoe Idealize.ShloMosaic.Tactic

variable {F : FTy → Type} [FloatOps F]

/-- The chunk of the `n`th pair. -/
abbrev chOf (n : ℕ) : Fin 4 := ⟨n / 4 % 4, Nat.mod_lt _ (by decide)⟩
/-- The head of the `n`th pair. -/
abbrev hdOf (n : ℕ) : Fin 4 := ⟨n % 4, Nat.mod_lt _ (by decide)⟩

theorem inbK (c h : Fin 4) : ∀ a, (![64 * c.val, 128 * h.val] : Fin 2 → ℕ) a + S64x128.size a ≤ S256x512.size a := by
  revert c h; decide
theorem inbV (c h : Fin 4) : ∀ a, (![64 * c.val, 256 * h.val] : Fin 2 → ℕ) a + S64x256.size a ≤ S256x1024.size a := by
  revert c h; decide
theorem inbS (h : Fin 4) : ∀ a, (![128 * h.val, 0] : Fin 2 → ℕ) a + S128x256.size a ≤ S512x256.size a := by
  revert h; decide
theorem inbT (c h : Fin 4) : ∀ a, (![c.val, 128 * h.val, 0] : Fin 3 → ℕ) a + S1x128x256.size a ≤ S4x512x256.size a := by
  revert c h; decide
theorem slK (c h : Fin 4) : S256x512.Slices ![64 * c.val, 128 * h.val] S64x128 := by
  revert c h; decide

/-- The box of chunk `c`, head `h` in a block of keys, -/
abbrev boxK (c h : Fin 4) : Rect S256x512 := Rect.unit ![64 * c.val, 128 * h.val] S64x128.size (inbK c h)
/-- in a block of values, -/
abbrev boxV (c h : Fin 4) : Rect S256x1024 := Rect.unit ![64 * c.val, 256 * h.val] S64x256.size (inbV c h)
/-- in the carried state, -/
abbrev boxS (h : Fin 4) : Rect S512x256 := Rect.unit ![128 * h.val, 0] S128x256.size (inbS h)
/-- and in the states written after each chunk. -/
abbrev boxT (c h : Fin 4) : Rect S4x512x256 := Rect.unit ![c.val, 128 * h.val, 0] S1x128x256.size (inbT c h)

/-- The running sum of a chunk's decays. -/
def cumV (la : FVec F S256x512 .f32) (c h : Fin 4) : FVec F S64x128 .f32 :=
  matmul dot_S64x64_S64x128_S64x128_1_0_0_1_n_n (some .fp32) (k0_pay3 (F := F))
    (extractStridedSlice S64x128 ![64 * c.val, 128 * h.val] la (slK c h)) (constant S64x128 .f32 0x00000000#32)

/-- Its last row. -/
def endV (la : FVec F S256x512 .f32) (c h : Fin 4) : FVec F S1x128 .f32 :=
  extractStridedSlice S1x128 ![63, 0] (cumV la c h) slices_S64x128_o63_0_S1x128

/-- The decay from a row to the chunk's end. -/
def wV (la : FVec F S256x512 .f32) (c h : Fin 4) : FVec F S64x128 .f32 :=
  exp (subf (broadcastTo S64x128 (endV la c h) broadcasts_S1x128_S64x128) (cumV la c h))

/-- The decayed keys. -/
def kdV (la : FVec F S256x512 .f32) (c h : Fin 4) (k : Vec F S64x128 .bf16) : FVec F S64x128 .f32 :=
  mulf (extf .f32 k bitsLt_bf16_f32) (wV la c h)

/-- A row of 128 stood up as a column, by masking the diagonal and summing along the rows. -/
def colV (x : FVec F S1x128 .f32) : FVec F S128x1 .f32 :=
  shapeCast S128x1 (multiReduction .add [1] S128
    (select (cmpi .eq (iota .tc S128x128 32 [0] iota_S128x128_d0_w32) (iota .tc S128x128 32 [1] iota_S128x128_d1_w32))
      (broadcastTo S128x128 (shapeCast S1x128 x shapeCasts_S1x128_S1x128) broadcasts_S1x128_S128x128)
      (broadcast S128x128 (Scalar.ofBits .f32 0x00000000#32))) 0x00000000#32 reduces_S128x128_S128 (.inl rfl) rfl)
    shapeCasts_S128_S128x1

/-- The state after a chunk. -/
def stepV (la : FVec F S256x512 .f32) (c h : Fin 4) (k : Vec F S64x128 .bf16) (v : Vec F S64x256 .bf16)
    (s : Vec F S128x256 .f32) : FVec F S128x256 .f32 :=
  addf (mulf (broadcastTo S128x256 (colV (exp (endV la c h))) broadcasts_S128x1_S128x256) s)
    (matmul dot_S64x128_S64x256_S128x256_0_0_1_1_n_n none (truncf .bf16 (kdV la c h k) bitsLt_bf16_f32) v
      (constant S128x256 .f32 0x00000000#32))

/-- The mixer's output of a chunk from the state after it. -/
def readV (q : Vec F S64x128 .bf16) (s : Vec F S128x256 .f32) : FVec F S64x256 .f32 :=
  matmul dot_S64x128_S128x256_S64x256_1_0_0_1_n_n none
    (truncf .bf16 (mulf (extf .f32 q bitsLt_bf16_f32) (broadcast S64x128 (Scalar.ofBits .f32 0x3DB504F3#32))) bitsLt_bf16_f32)
    (truncf .bf16 s bitsLt_bf16_f32) (constant S64x256 .f32 0x00000000#32)

section
variable (la : FVec F S256x512 .f32) (q k : ℕ → Vec F S64x128 .bf16) (v : ℕ → Vec F S64x256 .bf16)
  (ld : ℕ → List (View.Piece (Elt F) S512x256 .f32) → Vec F S128x256 .f32) (base : List (View.Piece (Elt F) S512x256 .f32))

/-- The carried state's stores of the first `n` pairs. -/
def scrL : ℕ → List (View.Piece (Elt F) S512x256 .f32)
  | 0 => base
  | n + 1 => ⟨boxS (hdOf n), shapeCast S128x256 (stepV la (chOf n) (hdOf n) (k n) (v n) (ld n (scrL n))) shapeCasts_S128x256_S128x256⟩ :: scrL n

/-- The state after pair `n`. -/
def stN (n : ℕ) : FVec F S128x256 .f32 := stepV la (chOf n) (hdOf n) (k n) (v n) (ld n (scrL la k v ld base n))

/-- The output's stores. -/
def outL : ℕ → List (View.Piece (Elt F) S256x1024 .f32)
  | 0 => []
  | n + 1 => ⟨boxV (chOf n) (hdOf n), readV (q n) (stN la k v ld base n)⟩ :: outL n

/-- The stores of the states after each chunk. -/
def stL : ℕ → List (View.Piece (Elt F) S4x512x256 .f32)
  | 0 => []
  | n + 1 => ⟨boxT (chOf n) (hdOf n), shapeCast S1x128x256 (stN la k v ld base n) shapeCasts_S128x256_S1x128x256⟩ :: stL n

end

section
variable (c : Dev nD) (i : grid0.Coords) (arg1 : Memref sig .tc .vmem S256x512 .bf16) (harg1 : arg1.IsWhole) (arg2 : Memref sig .tc .vmem S256x512 .bf16) (harg2 : arg2.IsWhole) (arg3 : Memref sig .tc .vmem S256x1024 .bf16) (harg3 : arg3.IsWhole) (arg4 : Memref sig .tc .vmem S256x128 .bf16) (harg4 : arg4.IsWhole) (arg5 : Memref sig .tc .vmem S128x512 .f32) (harg5 : arg5.IsWhole) (arg6 : Memref sig .tc .vmem S1x512 .f32) (harg6 : arg6.IsWhole) (arg7 : Memref sig .tc .vmem S256x1024 .f32) (harg7 : arg7.IsWhole) (arg8 : Memref sig .tc .vmem S4x512x256 .f32) (harg8 : arg8.IsWhole) (arg9 : Memref sig .tc .vmem S512x256 .f32) (harg9 : arg9.IsWhole)
    (x0 : Vec F S256x512 .bf16) (x1 : Vec F S256x512 .bf16) (x2 : Vec F S256x1024 .bf16) (x3 : Vec F S256x128 .bf16) (x4 : Vec F S128x512 .f32) (x5 : Vec F S1x512 .f32) (xs0 : Vec F S512x256 .f32)

/-- What the runs load of a block of keys, -/
abbrev ldK (A : Memref sig .tc .vmem S256x512 .bf16) (hA : A.IsWhole) (x : Vec F S256x512 .bf16) (n : ℕ) : Vec F S64x128 .bf16 :=
  View.readAt (Elt F) A.view (boxK (chOf n) (hdOf n)).toLoadRect (hA.unread x)
/-- of values, -/
abbrev ldV (A : Memref sig .tc .vmem S256x1024 .bf16) (hA : A.IsWhole) (x : Vec F S256x1024 .bf16) (n : ℕ) : Vec F S64x256 .bf16 :=
  View.readAt (Elt F) A.view (boxV (chOf n) (hdOf n)).toLoadRect (hA.unread x)
/-- and the decays they compute. -/
abbrev laRun : FVec F S256x512 .f32 :=
  k0_pay2
    (View.readAt (Elt F) arg4.view (Rect.unit ![0, 0] S256x128.size inb_S256x128_S256x128_0_0).toLoadRect (harg4.unread x3))
    (View.readAt (Elt F) arg5.view (Rect.unit ![0, 0] S128x512.size inb_S128x512_S128x512_0_0).toLoadRect (harg5.unread x4))
    (View.readAt (Elt F) arg6.view (Rect.unit ![0, 0] S1x512.size inb_S1x512_S1x512_0_0).toLoadRect (harg6.unread x5))
/-- The state's loads: the first chunk's from what the step found, the later ones from its own stores. -/
abbrev ldB (n : ℕ) (L : List (View.Piece (Elt F) S512x256 .f32)) : Vec F S128x256 .f32 :=
  bif Nat.blt n 4 then View.readAt (Elt F) arg9.view (boxS (hdOf n)).toLoadRect (harg9.unread xs0)
  else arg9.view.readCov L (boxS (hdOf n)).toLoadRect
/-- The first grid step's are all from its own stores. -/
abbrev ldA (n : ℕ) (L : List (View.Piece (Elt F) S512x256 .f32)) : Vec F S128x256 .f32 :=
  arg9.view.readCov L (boxS (hdOf n)).toLoadRect
/-- The zeros it stores first. -/
abbrev baseA : List (View.Piece (Elt F) S512x256 .f32) :=
  [⟨Rect.unit ![0, 0] S512x256.size inb_S512x256_S512x256_0_0, k0_pay1⟩]

theorem out0_A (hc0 : cond0_0 i) :
    (kernelRun0_A c i arg1 harg1 arg2 harg2 arg3 harg3 arg4 harg4 arg5 harg5 arg6 harg6 arg7 harg7 arg8 harg8 arg9 harg9 hc0 x0 x1 x2 x3 x4 x5).1
      = outL (laRun arg4 harg4 arg5 harg5 arg6 harg6 x3 x4 x5) (ldK arg1 harg1 x0) (ldK arg2 harg2 x1) (ldV arg3 harg3 x2) (ldA arg9) baseA 16 := by
  chain_rfl

theorem st0_A (hc0 : cond0_0 i) :
    (kernelRun0_A c i arg1 harg1 arg2 harg2 arg3 harg3 arg4 harg4 arg5 harg5 arg6 harg6 arg7 harg7 arg8 harg8 arg9 harg9 hc0 x0 x1 x2 x3 x4 x5).2.1
      = stL (laRun arg4 harg4 arg5 harg5 arg6 harg6 x3 x4 x5) (ldK arg2 harg2 x1) (ldV arg3 harg3 x2) (ldA arg9) baseA 16 := by
  chain_rfl

theorem scr0_A (hc0 : cond0_0 i) :
    (kernelRun0_A c i arg1 harg1 arg2 harg2 arg3 harg3 arg4 harg4 arg5 harg5 arg6 harg6 arg7 harg7 arg8 harg8 arg9 harg9 hc0 x0 x1 x2 x3 x4 x5).2.2.1
      = scrL (laRun arg4 harg4 arg5 harg5 arg6 harg6 x3 x4 x5) (ldK arg2 harg2 x1) (ldV arg3 harg3 x2) (ldA arg9) baseA 16 := by
  chain_rfl

theorem out0_B (hc0 : ¬cond0_0 i) :
    (kernelRun0_B c i arg1 harg1 arg2 harg2 arg3 harg3 arg4 harg4 arg5 harg5 arg6 harg6 arg7 harg7 arg8 harg8 arg9 harg9 hc0 x0 x1 x2 x3 x4 x5 xs0).1
      = outL (laRun arg4 harg4 arg5 harg5 arg6 harg6 x3 x4 x5) (ldK arg1 harg1 x0) (ldK arg2 harg2 x1) (ldV arg3 harg3 x2) (ldB arg9 harg9 xs0) [] 16 := by
  chain_rfl

theorem st0_B (hc0 : ¬cond0_0 i) :
    (kernelRun0_B c i arg1 harg1 arg2 harg2 arg3 harg3 arg4 harg4 arg5 harg5 arg6 harg6 arg7 harg7 arg8 harg8 arg9 harg9 hc0 x0 x1 x2 x3 x4 x5 xs0).2.1
      = stL (laRun arg4 harg4 arg5 harg5 arg6 harg6 x3 x4 x5) (ldK arg2 harg2 x1) (ldV arg3 harg3 x2) (ldB arg9 harg9 xs0) [] 16 := by
  chain_rfl

theorem scr0_B (hc0 : ¬cond0_0 i) :
    (kernelRun0_B c i arg1 harg1 arg2 harg2 arg3 harg3 arg4 harg4 arg5 harg5 arg6 harg6 arg7 harg7 arg8 harg8 arg9 harg9 hc0 x0 x1 x2 x3 x4 x5 xs0).2.2.1
      = scrL (laRun arg4 harg4 arg5 harg5 arg6 harg6 x3 x4 x5) (ldK arg2 harg2 x1) (ldV arg3 harg3 x2) (ldB arg9 harg9 xs0) [] 16 := by
  chain_rfl

end

end Cert.KernelIdeal.Gen

end
-- ==== Proof.Kern.BwdRun.lean ====
module

public import proofs.«01_k».proof.Proof.Ideal.Region1
public import proofs.«01_k».proof.Proof.Kern.FwdRun

@[expose] public section

set_option maxRecDepth 16384

noncomputable section

/-! # What one grid step of the backward call stores, as one recursion over its sixteen (chunk, head) pairs -/

namespace Cert.KernelIdeal.Gen

open Idealize.ShloMosaic Idealize.ShloMosaic.TcCoe Idealize.ShloMosaic.Tactic

variable {F : FTy → Type} [FloatOps F]

/-- The chunk of the `n`th pair: the last chunk first. -/
abbrev rhOf (n : ℕ) : Fin 4 := ⟨3 - n / 4 % 4, by omega⟩

theorem inbDq (c h : Fin 4) : ∀ a, (![64 * c.val, 128 * h.val] : Fin 2 → ℕ) a + S64x128.size a ≤ S256x2048.size a := by
  revert c h; decide
theorem inbDk (c h : Fin 4) : ∀ a, (![64 * c.val, 512 + 128 * h.val] : Fin 2 → ℕ) a + S64x128.size a ≤ S256x2048.size a := by
  revert c h; decide
theorem inbDv (c h : Fin 4) : ∀ a, (![64 * c.val, 1024 + 256 * h.val] : Fin 2 → ℕ) a + S64x256.size a ≤ S256x2048.size a := by
  revert c h; decide
theorem inbP (h : Fin 4) : ∀ a, (![0, 128 * h.val, 0] : Fin 3 → ℕ) a + S1x128x256.size a ≤ S1x512x256.size a := by
  revert h; decide

/-- The box of chunk `c`, head `h` in the block of gradients: of the queries, -/
abbrev boxDq (c h : Fin 4) : Rect S256x2048 := Rect.unit ![64 * c.val, 128 * h.val] S64x128.size (inbDq c h)
/-- of the keys, -/
abbrev boxDk (c h : Fin 4) : Rect S256x2048 := Rect.unit ![64 * c.val, 512 + 128 * h.val] S64x128.size (inbDk c h)
/-- of the values; -/
abbrev boxDv (c h : Fin 4) : Rect S256x2048 := Rect.unit ![64 * c.val, 1024 + 256 * h.val] S64x256.size (inbDv c h)
/-- and of head `h` in the state left by the block before. -/
abbrev boxP (h : Fin 4) : Rect S1x512x256 := Rect.unit ![0, 128 * h.val, 0] S1x128x256.size (inbP h)

/-- The gradient of the state after a chunk: what the later chunks left, and the chunk's own outputs'. -/
def totV (q : Vec F S64x128 .bf16) (g : Vec F S64x256 .f32) (ds : Vec F S128x256 .f32) : FVec F S128x256 .f32 :=
  addf ds (matmul dot_S64x128_S64x256_S128x256_0_0_1_1_n_n none
    (truncf .bf16 (mulf (extf .f32 q bitsLt_bf16_f32) (broadcast S64x128 (Scalar.ofBits .f32 0x3DB504F3#32))) bitsLt_bf16_f32)
    (truncf .bf16 g bitsLt_bf16_f32) (constant S128x256 .f32 0x00000000#32))

/-- The gradient of the state before a chunk. -/
def passV (la : FVec F S256x512 .f32) (c h : Fin 4) (dt : FVec F S128x256 .f32) : FVec F S128x256 .f32 :=
  mulf (broadcastTo S128x256 (colV (exp (endV la c h))) broadcasts_S128x1_S128x256) dt

/-- The gradient of the queries. -/
def dqV (g : Vec F S64x256 .f32) (s : FVec F S128x256 .f32) : FVec F S64x128 .bf16 :=
  truncf .bf16 (mulf (matmul dot_S64x256_S128x256_S64x128_1_1_0_0_n_n none (truncf .bf16 g bitsLt_bf16_f32)
    (truncf .bf16 s bitsLt_bf16_f32) (constant S64x128 .f32 0x00000000#32)) (broadcast S64x128 (Scalar.ofBits .f32 0x3DB504F3#32))) bitsLt_bf16_f32

/-- The gradient of the decayed keys. -/
def dkdV (v : Vec F S64x256 .bf16) (dt : FVec F S128x256 .f32) : FVec F S64x128 .f32 :=
  matmul dot_S64x256_S128x256_S64x128_1_1_0_0_n_n none v (truncf .bf16 dt bitsLt_bf16_f32) (constant S64x128 .f32 0x00000000#32)

/-- The gradient of the values. -/
def dvV (kd : FVec F S64x128 .f32) (dt : FVec F S128x256 .f32) : FVec F S64x256 .bf16 :=
  truncf .bf16 (matmul dot_S64x128_S128x256_S64x256_1_0_0_1_n_n none (truncf .bf16 kd bitsLt_bf16_f32)
    (truncf .bf16 dt bitsLt_bf16_f32) (constant S64x256 .f32 0x00000000#32)) bitsLt_bf16_f32

/-- The rows' sums of the state's gradient times the state before the chunk, laid as a row. -/
def dexpV (dt sp : FVec F S128x256 .f32) : FVec F S1x128 .f32 :=
  shapeCast S1x128 (multiReduction .add [0] S128
    (select (cmpi .eq (iota .tc S128x128 32 [0] iota_S128x128_d0_w32) (iota .tc S128x128 32 [1] iota_S128x128_d1_w32))
      (broadcastTo S128x128 (shapeCast S128x1 (shapeCast S128x1 (multiReduction .add [1] S128 (mulf dt sp) 0x00000000#32 reduces_S128x256_S128 (.inl rfl) rfl) shapeCasts_S128_S128x1) shapeCasts_S128x1_S128x1) broadcasts_S128x1_S128x128)
      (broadcast S128x128 (Scalar.ofBits .f32 0x00000000#32))) 0x00000000#32 reduces_S128x128_S128_2 (.inl rfl) rfl)
    shapeCasts_S128_S1x128

/-- The gradient of a chunk's decays from that of its weights. -/
def daV (la : FVec F S256x512 .f32) (c h : Fin 4) (dwt : FVec F S64x128 .f32) (dexp : FVec F S1x128 .f32) : FVec F S64x128 .f32 :=
  matmul dot_S64x64_S64x128_S64x128_1_0_0_1_n_n (some .fp32) (k1_pay10 (F := F))
    (select k1_pay11
      (subf (broadcastTo S64x128
        (addf (shapeCast S1x128 (multiReduction .add [0] S128 dwt 0x00000000#32 reduces_S64x128_S128 (.inl rfl) rfl) shapeCasts_S128_S1x128)
          (mulf dexp (exp (endV la c h)))) broadcasts_S1x128_S64x128) dwt)
      (subf (broadcast S64x128 (Scalar.ofBits .f32 0x00000000#32)) dwt))
    (constant S64x128 .f32 0x00000000#32)

/-- The gradient before the decays' activation. -/
def dzV (z : FVec F S256x512 .f32) (c h : Fin 4) (da : FVec F S64x128 .f32) : FVec F S64x128 .f32 :=
  shapeCast S64x128 (mulf (mulf da (broadcast S64x128 (Scalar.ofBits .f32 0x3D800000#32)))
    (divf (broadcast S64x128 (Scalar.ofBits .f32 0x3F800000#32))
      (addf (broadcast S64x128 (Scalar.ofBits .f32 0x3F800000#32))
        (exp (subf (broadcast S64x128 (Scalar.ofBits .f32 0x00000000#32))
          (subf (broadcast S64x128 (Scalar.ofBits .f32 0x00000000#32)) (extractStridedSlice S64x128 ![64 * c.val, 128 * h.val] z (slK c h)))))))) shapeCasts_S64x128_S64x128

section
variable (z la : FVec F S256x512 .f32) (g : ℕ → Vec F S64x256 .f32) (q k : ℕ → Vec F S64x128 .bf16) (v : ℕ → Vec F S64x256 .bf16)
  (s sp : ℕ → FVec F S128x256 .f32)
  (ld : ℕ → List (View.Piece (Elt F) S512x256 .f32) → Vec F S128x256 .f32) (base : List (View.Piece (Elt F) S512x256 .f32))

/-- The carried gradient's stores of the first `n` pairs. -/
def dsL : ℕ → List (View.Piece (Elt F) S512x256 .f32)
  | 0 => base
  | n + 1 => ⟨boxS (hdOf n), shapeCast S128x256 (passV la (rhOf n) (hdOf n) (totV (q n) (g n) (ld n (dsL n)))) shapeCasts_S128x256_S128x256⟩ :: dsL n

/-- The gradient of the state after pair `n`'s chunk. -/
def dtN (n : ℕ) : FVec F S128x256 .f32 := totV (q n) (g n) (ld n (dsL la g q ld base n))

/-- The stores of the gradients of queries, keys and values. -/
def dpL : ℕ → List (View.Piece (Elt F) S256x2048 .bf16)
  | 0 => []
  | n + 1 =>
    ⟨boxDk (rhOf n) (hdOf n), truncf .bf16 (mulf (dkdV (v n) (dtN la g q ld base n)) (wV la (rhOf n) (hdOf n))) bitsLt_bf16_f32⟩
      :: ⟨boxDv (rhOf n) (hdOf n), dvV (kdV la (rhOf n) (hdOf n) (k n)) (dtN la g q ld base n)⟩
      :: ⟨boxDq (rhOf n) (hdOf n), dqV (g n) (s n)⟩ :: dpL n

/-- The stores of the gradient before the decays' activation. -/
def dzL : ℕ → List (View.Piece (Elt F) S256x512 .f32)
  | 0 => []
  | n + 1 =>
    ⟨boxK (rhOf n) (hdOf n), dzV z (rhOf n) (hdOf n) (daV la (rhOf n) (hdOf n)
      (mulf (dkdV (v n) (dtN la g q ld base n)) (kdV la (rhOf n) (hdOf n) (k n))) (dexpV (dtN la g q ld base n) (sp n)))⟩ :: dzL n

end

section
variable (c : Dev nD) (i : grid1.Coords) (arg1 : Memref sig .tc .vmem S256x1024 .f32) (harg1 : arg1.IsWhole) (arg2 : Memref sig .tc .vmem S256x512 .bf16) (harg2 : arg2.IsWhole) (arg3 : Memref sig .tc .vmem S256x512 .bf16) (harg3 : arg3.IsWhole) (arg4 : Memref sig .tc .vmem S256x1024 .bf16) (harg4 : arg4.IsWhole) (arg5 : Memref sig .tc .vmem S256x128 .bf16) (harg5 : arg5.IsWhole) (arg6 : Memref sig .tc .vmem S4x512x256 .f32) (harg6 : arg6.IsWhole) (arg7 : Memref sig .tc .vmem S1x512x256 .f32) (harg7 : arg7.IsWhole) (arg8 : Memref sig .tc .vmem S128x512 .f32) (harg8 : arg8.IsWhole) (arg9 : Memref sig .tc .vmem S1x512 .f32) (harg9 : arg9.IsWhole) (arg11 : Memref sig .tc .vmem S256x2048 .bf16) (harg11 : arg11.IsWhole) (arg12 : Memref sig .tc .vmem S256x128 .bf16) (harg12 : arg12.IsWhole) (arg13 : Memref sig .tc .vmem S128x512 .f32) (harg13 : arg13.IsWhole) (arg14 : Memref sig .tc .vmem S1x512 .f32) (harg14 : arg14.IsWhole) (arg15 : Memref sig .tc .vmem S512x256 .f32) (harg15 : arg15.IsWhole) (arg16 : Memref sig .tc .vmem S256x512 .f32) (harg16 : arg16.IsWhole)
    (x0 : Vec F S256x1024 .f32) (x1 : Vec F S256x512 .bf16) (x2 : Vec F S256x512 .bf16) (x3 : Vec F S256x1024 .bf16) (x4 : Vec F S256x128 .bf16) (x5 : Vec F S4x512x256 .f32) (x6 : Vec F S1x512x256 .f32) (x7 : Vec F S128x512 .f32) (x8 : Vec F S1x512 .f32) (xo11 : Vec F S128x512 .f32) (xo12 : Vec F S1x512 .f32) (xs0 : Vec F S512x256 .f32)

/-- What the run loads of a block of queries or keys, -/
abbrev rdK (A : Memref sig .tc .vmem S256x512 .bf16) (hA : A.IsWhole) (x : Vec F S256x512 .bf16) (n : ℕ) : Vec F S64x128 .bf16 :=
  View.readAt (Elt F) A.view (boxK (rhOf n) (hdOf n)).toLoadRect (hA.unread x)
/-- of values or of the outputs' gradient, -/
abbrev rdV {ty : EltTy} (A : Memref sig .tc .vmem S256x1024 ty) (hA : A.IsWhole) (x : Vec F S256x1024 ty) (n : ℕ) : Vec F S64x256 ty :=
  View.readAt (Elt F) A.view (boxV (rhOf n) (hdOf n)).toLoadRect (hA.unread x)
/-- of the states after the chunk, -/
abbrev rdS (n : ℕ) : FVec F S128x256 .f32 :=
  shapeCast S128x256 (View.readAt (Elt F) arg6.view (boxT (rhOf n) (hdOf n)).toLoadRect (harg6.unread x5)) shapeCasts_S1x128x256_S128x256
/-- and of the states before it: the first chunk's from the block before, zeroed when there is none. -/
abbrev rdP (n : ℕ) : FVec F S128x256 .f32 :=
  bif Nat.blt n 12 then
    shapeCast S128x256 (View.readAt (Elt F) arg6.view (boxT ⟨2 - n / 4 % 4, by omega⟩ (hdOf n)).toLoadRect (harg6.unread x5)) shapeCasts_S1x128x256_S128x256
  else
    mulf (shapeCast S128x256 (View.readAt (Elt F) arg7.view (boxP (hdOf n)).toLoadRect (harg7.unread x6)) shapeCasts_S1x128x256_S128x256)
      (broadcast S128x256 (k1_pay12 i))
/-- The gates before their activation. -/
abbrev zRun : FVec F S256x512 .f32 :=
  k1_pay7
    (View.readAt (Elt F) arg5.view (Rect.unit ![0, 0] S256x128.size inb_S256x128_S256x128_0_0).toLoadRect (harg5.unread x4))
    (View.readAt (Elt F) arg8.view (Rect.unit ![0, 0] S128x512.size inb_S128x512_S128x512_0_0).toLoadRect (harg8.unread x7))
    (View.readAt (Elt F) arg9.view (Rect.unit ![0, 0] S1x512.size inb_S1x512_S1x512_0_0).toLoadRect (harg9.unread x8))
/-- All of the gradient before the decays' activation, as the run reads it back. -/
abbrev dzAll (L : List (View.Piece (Elt F) S256x512 .f32)) : Vec F S256x512 .f32 :=
  arg16.view.readCov L (Rect.unit ![0, 0] S256x512.size inb_S256x512_S256x512_0_0).toLoadRect
/-- The rectangle of a whole row of gates, -/
abbrev wholeWa : Rect S128x512 := Rect.unit ![0, 0] S128x512.size inb_S128x512_S128x512_0_0
/-- of a bias. -/
abbrev wholeBa : Rect S1x512 := Rect.unit ![0, 0] S1x512.size inb_S1x512_S1x512_0_0
/-- The zeros the first step stores. -/
abbrev baseD : List (View.Piece (Elt F) S512x256 .f32) :=
  [⟨Rect.unit ![0, 0] S512x256.size inb_S512x256_S512x256_0_0, k1_pay4⟩]

theorem dp1_A (hc0 : cond1_0 i) :
    (kernelRun1_A c i arg1 harg1 arg2 harg2 arg3 harg3 arg4 harg4 arg5 harg5 arg6 harg6 arg7 harg7 arg8 harg8 arg9 harg9 arg11 harg11 arg12 harg12 arg13 harg13 arg14 harg14 arg15 harg15 arg16 harg16 hc0 x0 x1 x2 x3 x4 x5 x6 x7 x8).1
      = dpL (laRun arg5 harg5 arg8 harg8 arg9 harg9 x4 x7 x8) (rdV arg1 harg1 x0) (rdK arg2 harg2 x1) (rdK arg3 harg3 x2) (rdV arg4 harg4 x3) (rdS arg6 harg6 x5) (ldA arg15) baseD 16 := by
  chain_rfl

theorem dlr1_A (hc0 : cond1_0 i) :
    (kernelRun1_A c i arg1 harg1 arg2 harg2 arg3 harg3 arg4 harg4 arg5 harg5 arg6 harg6 arg7 harg7 arg8 harg8 arg9 harg9 arg11 harg11 arg12 harg12 arg13 harg13 arg14 harg14 arg15 harg15 arg16 harg16 hc0 x0 x1 x2 x3 x4 x5 x6 x7 x8).2.1
      = [⟨Rect.unit ![0, 0] S256x128.size inb_S256x128_S256x128_0_0, k1_pay1 (dzAll arg16 (dzL (zRun arg5 harg5 arg8 harg8 arg9 harg9 x4 x7 x8) (laRun arg5 harg5 arg8 harg8 arg9 harg9 x4 x7 x8) (rdV arg1 harg1 x0) (rdK arg2 harg2 x1) (rdK arg3 harg3 x2) (rdV arg4 harg4 x3) (rdP i arg6 harg6 arg7 harg7 x5 x6) (ldA arg15) baseD 16)) (View.readAt (Elt F) arg8.view wholeWa.toLoadRect (harg8.unread x7))⟩] := by
  chain_rfl

theorem dwa1_A (hc0 : cond1_0 i) :
    (kernelRun1_A c i arg1 harg1 arg2 harg2 arg3 harg3 arg4 harg4 arg5 harg5 arg6 harg6 arg7 harg7 arg8 harg8 arg9 harg9 arg11 harg11 arg12 harg12 arg13 harg13 arg14 harg14 arg15 harg15 arg16 harg16 hc0 x0 x1 x2 x3 x4 x5 x6 x7 x8).2.2.1
      = [⟨wholeWa, k1_pay2 (dzAll arg16 (dzL (zRun arg5 harg5 arg8 harg8 arg9 harg9 x4 x7 x8) (laRun arg5 harg5 arg8 harg8 arg9 harg9 x4 x7 x8) (rdV arg1 harg1 x0) (rdK arg2 harg2 x1) (rdK arg3 harg3 x2) (rdV arg4 harg4 x3) (rdP i arg6 harg6 arg7 harg7 x5 x6) (ldA arg15) baseD 16)) (arg13.view.readCov [⟨wholeWa, k1_pay5 (F := F)⟩] wholeWa.toLoadRect) (View.readAt (Elt F) arg5.view (Rect.unit ![0, 0] S256x128.size inb_S256x128_S256x128_0_0).toLoadRect (harg5.unread x4))⟩, ⟨wholeWa, k1_pay5⟩] := by
  chain_rfl

theorem dba1_A (hc0 : cond1_0 i) :
    (kernelRun1_A c i arg1 harg1 arg2 harg2 arg3 harg3 arg4 harg4 arg5 harg5 arg6 harg6 arg7 harg7 arg8 harg8 arg9 harg9 arg11 harg11 arg12 harg12 arg13 harg13 arg14 harg14 arg15 harg15 arg16 harg16 hc0 x0 x1 x2 x3 x4 x5 x6 x7 x8).2.2.2.1
      = [⟨wholeBa, k1_pay3 (dzAll arg16 (dzL (zRun arg5 harg5 arg8 harg8 arg9 harg9 x4 x7 x8) (laRun arg5 harg5 arg8 harg8 arg9 harg9 x4 x7 x8) (rdV arg1 harg1 x0) (rdK arg2 harg2 x1) (rdK arg3 harg3 x2) (rdV arg4 harg4 x3) (rdP i arg6 harg6 arg7 harg7 x5 x6) (ldA arg15) baseD 16)) (arg14.view.readCov [⟨wholeBa, k1_pay6 (F := F)⟩] wholeBa.toLoadRect)⟩, ⟨wholeBa, k1_pay6⟩] := by
  chain_rfl

theorem ds1_A (hc0 : cond1_0 i) :
    (kernelRun1_A c i arg1 harg1 arg2 harg2 arg3 harg3 arg4 harg4 arg5 harg5 arg6 harg6 arg7 harg7 arg8 harg8 arg9 harg9 arg11 harg11 arg12 harg12 arg13 harg13 arg14 harg14 arg15 harg15 arg16 harg16 hc0 x0 x1 x2 x3 x4 x5 x6 x7 x8).2.2.2.2.1
      = dsL (laRun arg5 harg5 arg8 harg8 arg9 harg9 x4 x7 x8) (rdV arg1 harg1 x0) (rdK arg2 harg2 x1) (ldA arg15) baseD 16 := by
  chain_rfl

theorem dp1_B (hc0 : ¬cond1_0 i) :
    (kernelRun1_B c i arg1 harg1 arg2 harg2 arg3 harg3 arg4 harg4 arg5 harg5 arg6 harg6 arg7 harg7 arg8 harg8 arg9 harg9 arg11 harg11 arg12 harg12 arg13 harg13 arg14 harg14 arg15 harg15 arg16 harg16 hc0 x0 x1 x2 x3 x4 x5 x6 x7 x8 xo11 xo12 xs0).1
      = dpL (laRun arg5 harg5 arg8 harg8 arg9 harg9 x4 x7 x8) (rdV arg1 harg1 x0) (rdK arg2 harg2 x1) (rdK arg3 harg3 x2) (rdV arg4 harg4 x3) (rdS arg6 harg6 x5) (ldB arg15 harg15 xs0) [] 16 := by
  chain_rfl

theorem dlr1_B (hc0 : ¬cond1_0 i) :
    (kernelRun1_B c i arg1 harg1 arg2 harg2 arg3 harg3 arg4 harg4 arg5 harg5 arg6 harg6 arg7 harg7 arg8 harg8 arg9 harg9 arg11 harg11 arg12 harg12 arg13 harg13 arg14 harg14 arg15 harg15 arg16 harg16 hc0 x0 x1 x2 x3 x4 x5 x6 x7 x8 xo11 xo12 xs0).2.1
      = [⟨Rect.unit ![0, 0] S256x128.size inb_S256x128_S256x128_0_0, k1_pay1 (dzAll arg16 (dzL (zRun arg5 harg5 arg8 harg8 arg9 harg9 x4 x7 x8) (laRun arg5 harg5 arg8 harg8 arg9 harg9 x4 x7 x8) (rdV arg1 harg1 x0) (rdK arg2 harg2 x1) (rdK arg3 harg3 x2) (rdV arg4 harg4 x3) (rdP i arg6 harg6 arg7 harg7 x5 x6) (ldB arg15 harg15 xs0) [] 16)) (View.readAt (Elt F) arg8.view wholeWa.toLoadRect (harg8.unread x7))⟩] := by
  chain_rfl

theorem dwa1_B (hc0 : ¬cond1_0 i) :
    (kernelRun1_B c i arg1 harg1 arg2 harg2 arg3 harg3 arg4 harg4 arg5 harg5 arg6 harg6 arg7 harg7 arg8 harg8 arg9 harg9 arg11 harg11 arg12 harg12 arg13 harg13 arg14 harg14 arg15 harg15 arg16 harg16 hc0 x0 x1 x2 x3 x4 x5 x6 x7 x8 xo11 xo12 xs0).2.2.1
      = [⟨wholeWa, k1_pay2 (dzAll arg16 (dzL (zRun arg5 harg5 arg8 harg8 arg9 harg9 x4 x7 x8) (laRun arg5 harg5 arg8 harg8 arg9 harg9 x4 x7 x8) (rdV arg1 harg1 x0) (rdK arg2 harg2 x1) (rdK arg3 harg3 x2) (rdV arg4 harg4 x3) (rdP i arg6 harg6 arg7 harg7 x5 x6) (ldB arg15 harg15 xs0) [] 16)) (View.readAt (Elt F) arg13.view wholeWa.toLoadRect (harg13.unread xo11)) (View.readAt (Elt F) arg5.view (Rect.unit ![0, 0] S256x128.size inb_S256x128_S256x128_0_0).toLoadRect (harg5.unread x4))⟩] := by
  chain_rfl

theorem dba1_B (hc0 : ¬cond1_0 i) :
    (kernelRun1_B c i arg1 harg1 arg2 harg2 arg3 harg3 arg4 harg4 arg5 harg5 arg6 harg6 arg7 harg7 arg8 harg8 arg9 harg9 arg11 harg11 arg12 harg12 arg13 harg13 arg14 harg14 arg15 harg15 arg16 harg16 hc0 x0 x1 x2 x3 x4 x5 x6 x7 x8 xo11 xo12 xs0).2.2.2.1
      = [⟨wholeBa, k1_pay3 (dzAll arg16 (dzL (zRun arg5 harg5 arg8 harg8 arg9 harg9 x4 x7 x8) (laRun arg5 harg5 arg8 harg8 arg9 harg9 x4 x7 x8) (rdV arg1 harg1 x0) (rdK arg2 harg2 x1) (rdK arg3 harg3 x2) (rdV arg4 harg4 x3) (rdP i arg6 harg6 arg7 harg7 x5 x6) (ldB arg15 harg15 xs0) [] 16)) (View.readAt (Elt F) arg14.view wholeBa.toLoadRect (harg14.unread xo12))⟩] := by
  chain_rfl

theorem ds1_B (hc0 : ¬cond1_0 i) :
    (kernelRun1_B c i arg1 harg1 arg2 harg2 arg3 harg3 arg4 harg4 arg5 harg5 arg6 harg6 arg7 harg7 arg8 harg8 arg9 harg9 arg11 harg11 arg12 harg12 arg13 harg13 arg14 harg14 arg15 harg15 arg16 harg16 hc0 x0 x1 x2 x3 x4 x5 x6 x7 x8 xo11 xo12 xs0).2.2.2.2.1
      = dsL (laRun arg5 harg5 arg8 harg8 arg9 harg9 x4 x7 x8) (rdV arg1 harg1 x0) (rdK arg2 harg2 x1) (ldB arg15 harg15 xs0) [] 16 := by
  chain_rfl

end

end Cert.KernelIdeal.Gen

end
-- ==== Proof.Val.Is.lean ====
module

public import Idealize.ShloMosaic.Lib.Pipeline.Value
public import Idealize.ShloMosaic.Lib.ValueIdx
public import Idealize.ShloMosaic.PureOps.Ideal.Laws

@[expose] public section

noncomputable section

/-! # Arrays of extended reals given by a function of their indices as natural numbers -/

namespace Cert.Val

open Idealize.ShloMosaic

/-- The array `x` of rank one is `f` of its index; -/
def Is1 {n0 : ℕ} (x : (⟨1, ![n0]⟩ : Shape).Idx → EReal) (f : ℕ → EReal) : Prop := ∀ j, x j = f (j 0).val
/-- of rank two; -/
def Is2 {n0 n1 : ℕ} (x : (⟨2, ![n0, n1]⟩ : Shape).Idx → EReal) (f : ℕ → ℕ → EReal) : Prop := ∀ j, x j = f (j 0).val (j 1).val
/-- of rank three; -/
def Is3 {n0 n1 n2 : ℕ} (x : (⟨3, ![n0, n1, n2]⟩ : Shape).Idx → EReal) (f : ℕ → ℕ → ℕ → EReal) : Prop :=
  ∀ j, x j = f (j 0).val (j 1).val (j 2).val
/-- of rank four; -/
def Is4 {n0 n1 n2 n3 : ℕ} (x : (⟨4, ![n0, n1, n2, n3]⟩ : Shape).Idx → EReal) (f : ℕ → ℕ → ℕ → ℕ → EReal) : Prop :=
  ∀ j, x j = f (j 0).val (j 1).val (j 2).val (j 3).val
/-- of rank five. -/
def Is5 {n0 n1 n2 n3 n4 : ℕ} (x : (⟨5, ![n0, n1, n2, n3, n4]⟩ : Shape).Idx → EReal) (f : ℕ → ℕ → ℕ → ℕ → ℕ → EReal) : Prop :=
  ∀ j, x j = f (j 0).val (j 1).val (j 2).val (j 3).val (j 4).val

/-- Two arrays of rank two given by one function are equal, -/
theorem Is2.unique {n0 n1 : ℕ} {x y : (⟨2, ![n0, n1]⟩ : Shape).Idx → EReal} {f : ℕ → ℕ → EReal} (hx : Is2 x f) (hy : Is2 y f) : x = y :=
  funext fun j => (hx j).trans (hy j).symm
/-- and one given by a function is given by any that agrees with it within the bounds. -/
theorem Is2.congr {n0 n1 : ℕ} {x : (⟨2, ![n0, n1]⟩ : Shape).Idx → EReal} {f g : ℕ → ℕ → EReal} (hx : Is2 x f)
    (h : ∀ a b, a < n0 → b < n1 → f a b = g a b) : Is2 x g :=
  fun j => (hx j).trans (h _ _ (j 0).isLt (j 1).isLt)
theorem Is3.congr {n0 n1 n2 : ℕ} {x : (⟨3, ![n0, n1, n2]⟩ : Shape).Idx → EReal} {f g : ℕ → ℕ → ℕ → EReal} (hx : Is3 x f)
    (h : ∀ a b c, a < n0 → b < n1 → c < n2 → f a b c = g a b c) : Is3 x g :=
  fun j => (hx j).trans (h _ _ _ (j 0).isLt (j 1).isLt (j 2).isLt)
theorem Is4.congr {n0 n1 n2 n3 : ℕ} {x : (⟨4, ![n0, n1, n2, n3]⟩ : Shape).Idx → EReal} {f g : ℕ → ℕ → ℕ → ℕ → EReal} (hx : Is4 x f)
    (h : ∀ a b c d, a < n0 → b < n1 → c < n2 → d < n3 → f a b c d = g a b c d) : Is4 x g :=
  fun j => (hx j).trans (h _ _ _ _ (j 0).isLt (j 1).isLt (j 2).isLt (j 3).isLt)
theorem Is5.congr {n0 n1 n2 n3 n4 : ℕ} {x : (⟨5, ![n0, n1, n2, n3, n4]⟩ : Shape).Idx → EReal} {f g : ℕ → ℕ → ℕ → ℕ → ℕ → EReal} (hx : Is5 x f)
    (h : ∀ a b c d e, a < n0 → b < n1 → c < n2 → d < n3 → e < n4 → f a b c d e = g a b c d e) : Is5 x g :=
  fun j => (hx j).trans (h _ _ _ _ _ (j 0).isLt (j 1).isLt (j 2).isLt (j 3).isLt (j 4).isLt)

/-- A sum over a contraction of one axis is a sum over that axis's extent. -/
theorem sum_contr {sl sr so : Shape} (D : DotDims sl sr so) (n : ℕ) (hr : D.contr.rank = 1)
    (hs : D.contr.size ⟨0, by omega⟩ = n) (F : ℕ → EReal) :
    ∑ k : D.contr.Idx, F (k ⟨0, by omega⟩).val = ∑ k ∈ Finset.range n, F k := by
  rw [Finset.sum_range, ← Equiv.sum_comp (ValueIdx.contrEquiv1 D n hr hs).symm]
  exact Finset.sum_congr rfl fun i _ => by rw [ValueIdx.contrEquiv1_symm_val]

/-- A product of matrices on the accelerator, at an index, with its factors named. -/
theorem matmul_at {sl sr so : Shape} {φ₁ φ₂ : FTy} (D : DotDims sl sr so) (prec : Option ContractPrecision)
    (x : FVec Ideal sl φ₁) (y : FVec Ideal sr φ₂) (j : so.Idx) (n : ℕ) (hr : D.contr.rank = 1)
    (hs : D.contr.size ⟨0, by omega⟩ = n) (F : ℕ → EReal)
    (h : ∀ k : D.contr.Idx, (x (D.lhsIdx j k) : EReal) * y (D.rhsIdx j k) = F (k ⟨0, by omega⟩).val) :
    FloatOps.matmul D prec x y (constant so .f32 0x00000000#32) j = ∑ k ∈ Finset.range n, F k :=
  (Ideal.matmul_constant_zero_apply D prec x y j).trans
    ((Finset.sum_congr rfl fun k _ => h k).trans (sum_contr D n hr hs F))

/-- The same on the host. -/
theorem dot_at {sl sr so : Shape} {φ₁ φ₂ : FTy} (D : DotDims sl sr so) (prec : Option ContractPrecision)
    (x : FVec Ideal sl φ₁) (y : FVec Ideal sr φ₂) (j : so.Idx) (n : ℕ) (hr : D.contr.rank = 1)
    (hs : D.contr.size ⟨0, by omega⟩ = n) (F : ℕ → EReal)
    (h : ∀ k : D.contr.Idx, (x (D.lhsIdx j k) : EReal) * y (D.rhsIdx j k) = F (k ⟨0, by omega⟩).val) :
    Host.dotGeneral D prec x y j = ∑ k ∈ Finset.range n, F k :=
  (Ideal.dotGeneral_apply D prec .single x y j).trans
    ((Finset.sum_congr rfl fun k _ => h k).trans (sum_contr D n hr hs F))

/-- A sum along one axis on the accelerator, at an index. -/
theorem red_at {s t : Shape} {a : Fin s.rank} (src : FVec Ideal s .f32) (h : s.Reduces [a] t) (hφ : FKind.Formats .f32)
    (hacc : (0x00000000#32 : BitVec 32) = FKind.add.neutral .f32 hφ) (j : t.Idx) (n : ℕ) (hn : s.size a = n) (F : ℕ → EReal)
    (hF : ∀ k : Fin (s.size a), (src (h.lift j k) : EReal) = F k.val) :
    multiReduction .add [a] t src 0x00000000#32 h hφ hacc j = ∑ k ∈ Finset.range n, F k := by
  subst hn
  rw [Finset.sum_range]
  exact (Ideal.multiReduction_add_single src _ h hφ hacc j).trans (Finset.sum_congr rfl fun k _ => hF k)

/-- A reshape at an index, from the row-major positions of the two. -/
theorem shapeCast_at {s t : Shape} (x : s.Idx → EReal) (h : s.ShapeCasts t) (j : t.Idx) (i : s.Idx)
    (hij : (s.rowMajor i : ℕ) = t.rowMajor j) : shapeCast t x h j = x i :=
  congrArg x (Shape.reshapeEquiv_eq_of_rowMajor h hij)

/-- A term of a sum chosen by a condition. -/
theorem sum_pick (n d : ℕ) (hd : d < n) (F : ℕ → EReal) : ∑ k ∈ Finset.range n, (if d = k then F k else 0) = F d := by
  rw [Finset.sum_ite_eq, if_pos (Finset.mem_range.mpr hd)]
theorem sum_pick' (n d : ℕ) (hd : d < n) (F : ℕ → EReal) : ∑ k ∈ Finset.range n, (if k = d then F k else 0) = F d := by
  rw [Finset.sum_ite_eq', if_pos (Finset.mem_range.mpr hd)]

end Cert.Val

end
-- ==== Proof.Val.Spec.lean ====
module

public import Idealize.ShloMosaic.PureOps.Ideal.Laws

@[expose] public section

noncomputable section

/-! # Gated linear attention and its gradient, on extended reals

A chunk is 64 rows; a pair is one chunk of one head, whose keys have 128 components and whose values have 256. -/

namespace Cert.Val

open Idealize.ShloMosaic

/-- The scale of the queries, -/
def scS : EReal := Ideal.ofBits .f32 0x3DB504F3#32
/-- a sixteenth, -/
def c16 : EReal := Ideal.ofBits .f32 0x3D800000#32
/-- and one, as the programs write them. -/
def c1 : EReal := Ideal.ofBits .f32 0x3F800000#32

/-! ## One pair -/

/-- The running sum of the decays `a`. -/
def cumP (a : ℕ → ℕ → EReal) (i d : ℕ) : EReal := ∑ k ∈ Finset.range 64, if k ≤ i then a k d else 0
/-- The weight of a row at the chunk's end. -/
def wP (a : ℕ → ℕ → EReal) (i d : ℕ) : EReal := Ideal.exp (cumP a 63 d - cumP a i d)
/-- The weight of the state before the chunk. -/
def eP (a : ℕ → ℕ → EReal) (d : ℕ) : EReal := Ideal.exp (cumP a 63 d)
/-- The decayed keys. -/
def kdP (a k : ℕ → ℕ → EReal) (i d : ℕ) : EReal := k i d * wP a i d
/-- The state after the chunk. -/
def stepP (a k v s : ℕ → ℕ → EReal) (d e : ℕ) : EReal := eP a d * s d e + ∑ i ∈ Finset.range 64, kdP a k i d * v i e
/-- The output of the chunk. -/
def readP (q s : ℕ → ℕ → EReal) (i e : ℕ) : EReal := ∑ d ∈ Finset.range 128, q i d * scS * s d e
/-- The gradient of the state after the chunk. -/
def totP (q g ds : ℕ → ℕ → EReal) (d e : ℕ) : EReal := ds d e + ∑ i ∈ Finset.range 64, q i d * scS * g i e
/-- The gradient of the state before it. -/
def passP (a dt : ℕ → ℕ → EReal) (d e : ℕ) : EReal := eP a d * dt d e
/-- The gradient of the queries, -/
def dqP (g s : ℕ → ℕ → EReal) (i d : ℕ) : EReal := (∑ e ∈ Finset.range 256, g i e * s d e) * scS
/-- of the decayed keys, -/
def dkdP (v dt : ℕ → ℕ → EReal) (i d : ℕ) : EReal := ∑ e ∈ Finset.range 256, v i e * dt d e
/-- of the keys, -/
def dkP (a v dt : ℕ → ℕ → EReal) (i d : ℕ) : EReal := dkdP v dt i d * wP a i d
/-- and of the values. -/
def dvP (a k dt : ℕ → ℕ → EReal) (i e : ℕ) : EReal := ∑ d ∈ Finset.range 128, kdP a k i d * dt d e
/-- The gradient of the exponents of the weights. -/
def dwtP (a k v dt : ℕ → ℕ → EReal) (i d : ℕ) : EReal := dkdP v dt i d * kdP a k i d
/-- The gradient of the weight of the state before the chunk. -/
def dexpP (dt sp : ℕ → ℕ → EReal) (d : ℕ) : EReal := ∑ e ∈ Finset.range 256, dt d e * sp d e
/-- The gradient of the running sum from that of the exponents and of the weight. -/
def dcumP (a dwt : ℕ → ℕ → EReal) (dexp : ℕ → EReal) (k d : ℕ) : EReal :=
  if k = 63 then (∑ r ∈ Finset.range 64, dwt r d) + dexp d * eP a d - dwt k d else 0 - dwt k d
/-- The gradient of the decays. -/
def daP (a dwt : ℕ → ℕ → EReal) (dexp : ℕ → EReal) (i d : ℕ) : EReal :=
  ∑ k ∈ Finset.range 64, if i ≤ k then dcumP a dwt dexp k d else 0
/-- The gate's gradient before its activation: the derivative of the logarithm of the logistic function at `z`. -/
def dsigS (z : EReal) : EReal := Ideal.div c1 (c1 + Ideal.exp (0 - (0 - z)))
/-- The activation: the logarithm of the logistic function, over sixteen. -/
def lsigS (z : EReal) : EReal := (min z 0 - Ideal.log (c1 + Ideal.exp (0 - max z (-z)))) * c16
/-- The gradient before the activation. -/
def dzP (z da : ℕ → ℕ → EReal) (i d : ℕ) : EReal := da i d * c16 * dsigS (z i d)

/-! ## All of them -/

section
variable (P : ℕ → ℕ → EReal) (A : ℕ → ℕ → EReal) (b : ℕ → EReal) (G : ℕ → ℕ → EReal)

/-- Rows `64 N + i` and columns `o + d` of an array. -/
def blk (X : ℕ → ℕ → EReal) (N o : ℕ) (i d : ℕ) : EReal := X (64 * N + i) (o + d)

/-- The gates before their activation, -/
def zS (r j : ℕ) : EReal := (∑ a ∈ Finset.range 16, P r (10240 + a) * A a j) + b j
/-- and the decays. -/
def laS (r j : ℕ) : EReal := lsigS (zS P A b r j)

/-- The state before chunk `N`. -/
def stS : ℕ → ℕ → ℕ → ℕ → EReal
  | 0, _ => fun _ _ => 0
  | N + 1, h => stepP (blk (laS P A b) N (128 * h)) (blk P N (512 + 128 * h)) (blk P N (1024 + 256 * h)) (stS N h)

/-- The output. -/
def oS (N h : ℕ) : ℕ → ℕ → EReal := readP (blk P N (128 * h)) (stS P A b (N + 1) h)

/-- The gradient of the state after the chunk `M` before the last, from the chunks after it. -/
def dsS : ℕ → ℕ → ℕ → ℕ → EReal
  | 0, _ => fun _ _ => 0
  | M + 1, h => passP (blk (laS P A b) (63 - M) (128 * h))
      (totP (blk P (63 - M) (128 * h)) (blk G (63 - M) (256 * h)) (dsS M h))

/-- The gradient of the state after chunk `N`. -/
def dtS (N h : ℕ) : ℕ → ℕ → EReal := totP (blk P N (128 * h)) (blk G N (256 * h)) (dsS P A b G (63 - N) h)

/-- The gradients of queries, -/
def dqS (N h : ℕ) : ℕ → ℕ → EReal := dqP (blk G N (256 * h)) (stS P A b (N + 1) h)
/-- of keys, -/
def dkS (N h : ℕ) : ℕ → ℕ → EReal := dkP (blk (laS P A b) N (128 * h)) (blk P N (1024 + 256 * h)) (dtS P A b G N h)
/-- of values, -/
def dvS (N h : ℕ) : ℕ → ℕ → EReal := dvP (blk (laS P A b) N (128 * h)) (blk P N (512 + 128 * h)) (dtS P A b G N h)
/-- of decays, -/
def daS (N h : ℕ) : ℕ → ℕ → EReal :=
  daP (blk (laS P A b) N (128 * h))
    (dwtP (blk (laS P A b) N (128 * h)) (blk P N (512 + 128 * h)) (blk P N (1024 + 256 * h)) (dtS P A b G N h))
    (dexpP (dtS P A b G N h) (stS P A b N h))
/-- and of gates before their activation. -/
def dzS (N h : ℕ) : ℕ → ℕ → EReal := dzP (blk (zS P A b) N (128 * h)) (daS P A b G N h)

/-- The last at a row and a column of the whole array. -/
def dzR (r j : ℕ) : EReal := dzS P A b G (r / 64) (j / 128) (r % 64) (j % 128)
/-- The output at a row and a column. -/
def oR (r j : ℕ) : EReal := oS P A b (r / 64) (j / 256) (r % 64) (j % 256)
/-- The gradient of the projections at a row and a column; the columns past the values' are `X`'s. -/
def dpR (X : ℕ → ℕ → EReal) (r j : ℕ) : EReal :=
  if j < 512 then dqS P A b G (r / 64) (j / 128) (r % 64) (j % 128)
  else if j < 1024 then dkS P A b G (r / 64) ((j - 512) / 128) (r % 64) ((j - 512) % 128)
  else if j < 2048 then dvS P A b G (r / 64) ((j - 1024) / 256) (r % 64) ((j - 1024) % 256)
  else X r j
/-- The gradient of the low-rank projections. -/
def dlrR (r a : ℕ) : EReal := ∑ j ∈ Finset.range 512, dzR P A b G r j * A a j
/-- The gradient of the gates' weights. -/
def dwaR (a j : ℕ) : EReal := ∑ r ∈ Finset.range 4096, P r (10240 + a) * dzR P A b G r j
/-- The gradient of the gates' bias. -/
def dbaR (j : ℕ) : EReal := ∑ r ∈ Finset.range 4096, dzR P A b G r j

end

end Cert.Val

end
-- ==== Proof.Kern.PairVal.lean ====
module

public import proofs.«01_k».proof.Proof.Kern.BwdRun
public import proofs.«01_k».proof.Proof.Val.Is
public import proofs.«01_k».proof.Proof.Val.Spec

@[expose] public section

set_option maxRecDepth 16384

noncomputable section

/-! # The values of one (chunk, head) pair of the two calls -/

namespace Cert.KernelIdeal.Gen

open Idealize.ShloMosaic Idealize.ShloMosaic.TcCoe Idealize.ShloMosaic.Tactic Cert.Val

theorem ofNat_sle {a b : ℕ} (ha : a < 128) (hb : b < 128) : (BitVec.ofNat 32 a).sle (BitVec.ofNat 32 b) = decide (a ≤ b) := by
  rw [Bool.eq_iff_iff]
  simp only [BitVec.sle, decide_eq_true_eq]
  rw [BitVec.toInt_ofNat', BitVec.toInt_ofNat']
  norm_num [Int.bmod, Int.emod_eq_of_lt]
  omega

theorem ofNat_beq {a b : ℕ} (ha : a < 128) (hb : b < 128) : (BitVec.ofNat 32 a == BitVec.ofNat 32 b) = decide (a = b) := by
  rw [Bool.eq_iff_iff]
  simp only [beq_iff_eq, decide_eq_true_eq]
  constructor
  · intro h
    have := congrArg BitVec.toNat h
    simp only [BitVec.toNat_ofNat] at this
    omega
  · rintro rfl; rfl

theorem sitofp_bit (p : Prop) [Decidable p] :
    (FloatOps.sitofp .f32 (BitVec.setWidth 32 (BitVec.ofBool (decide p))) : Ideal .f32) = if p then (1 : EReal) else 0 := by
  by_cases h : p
  · rw [if_pos h, decide_eq_true h]; show ((((1#32 : BitVec 32).toInt : ℝ)) : EReal) = 1; norm_num
  · rw [if_neg h, decide_eq_false h]; show ((((0#32 : BitVec 32).toInt : ℝ)) : EReal) = 0; norm_num

theorem select_bit {α : Type} (p : Prop) [Decidable p] (a b : α) : Scalar.select (BitVec.ofBool (decide p)) a b = if p then a else b := by
  by_cases h : p
  · rw [if_pos h, decide_eq_true h]; rfl
  · rw [if_neg h, decide_eq_false h]; rfl

/-- The lower triangle of ones. -/
theorem tri_is : Is2 (k0_pay3 (F := Ideal)) (fun i k => if k ≤ i then 1 else 0) := by
  intro j
  have h0 : (j 0).val < 64 := (j 0).isLt
  have h1 : (j 1).val < 64 := (j 1).isLt
  show FloatOps.sitofp .f32 (BitVec.setWidth 32 (BitVec.ofBool ((BitVec.ofNat 32 (0 * 64 + (j 1).val)).sle (BitVec.ofNat 32 (0 * 64 + (j 0).val))))) = _
  rw [Nat.zero_mul, Nat.zero_add, Nat.zero_add, ofNat_sle (by omega) (by omega), sitofp_bit]

/-- The upper one. -/
theorem triu_is : Is2 (k1_pay10 (F := Ideal)) (fun i k => if i ≤ k then 1 else 0) := by
  intro j
  have h0 : (j 0).val < 64 := (j 0).isLt
  have h1 : (j 1).val < 64 := (j 1).isLt
  show FloatOps.sitofp .f32 (BitVec.setWidth 32 (BitVec.ofBool ((BitVec.ofNat 32 (0 * 64 + (j 0).val)).sle (BitVec.ofNat 32 (0 * 64 + (j 1).val))))) = _
  rw [Nat.zero_mul, Nat.zero_add, Nat.zero_add, ofNat_sle (by omega) (by omega), sitofp_bit]

section
variable {la z : FVec Ideal S256x512 .f32} {fl fz : ℕ → ℕ → EReal} (hla : Is2 la fl) (hz : Is2 z fz) (c h : Fin 4)

/-- Chunk `c`, head `h` of a block of keys. -/
def sub (f : ℕ → ℕ → EReal) (c h : Fin 4) (i d : ℕ) : EReal := f (64 * c.val + i) (128 * h.val + d)

include hla in
theorem slice_is : Is2 (extractStridedSlice S64x128 ![64 * c.val, 128 * h.val] la (slK c h)) (sub fl c h) := fun _ => hla _

include hla in
theorem cum_is : Is2 (cumV la c h) (cumP (sub fl c h)) := fun j =>
  matmul_at _ _ _ _ j 64 rfl rfl _ fun k =>
    (congrArg₂ (fun x y : EReal => x * y) (tri_is _) (slice_is hla c h _)).trans (by rw [ite_mul, one_mul, zero_mul]; rfl)

include hla in
theorem end_is : Is2 (endV la c h) (fun _ d => cumP (sub fl c h) 63 d) := fun j =>
  (cum_is hla c h _).trans (by
    show cumP _ (63 + (j 0).val) (0 + (j 1).val) = _
    rw [show (j 0).val = 0 from Nat.lt_one_iff.mp (j 0).isLt, Nat.zero_add])

/-- A row repeated down an array. -/
theorem rows_is {n m : ℕ} {x : (⟨2, ![1, m]⟩ : Shape).Idx → EReal} {f : ℕ → ℕ → EReal} (hm : m ≠ 1) (hx : Is2 x f) (hb : (⟨2, ![1, m]⟩ : Shape).Broadcasts ⟨2, ![n, m]⟩) :
    Is2 (broadcastTo ⟨2, ![n, m]⟩ x hb) (fun _ d => f 0 d) := by
  intro j
  refine (hx _).trans ?_
  congr 1
  simp [hm]

/-- A column repeated along an array. -/
theorem cols_is {n m : ℕ} {x : (⟨2, ![n, 1]⟩ : Shape).Idx → EReal} {f : ℕ → ℕ → EReal} (hn : n ≠ 1) (hx : Is2 x f) (hb : (⟨2, ![n, 1]⟩ : Shape).Broadcasts ⟨2, ![n, m]⟩) :
    Is2 (broadcastTo ⟨2, ![n, m]⟩ x hb) (fun i _ => f i 0) := by
  intro j
  refine (hx _).trans ?_
  congr 1
  simp [hn]

include hla in
theorem w_is : Is2 (wV la c h) (wP (sub fl c h)) := fun j =>
  congrArg Ideal.exp (congrArg₂ (fun x y : EReal => x - y)
    (rows_is (by decide) (end_is hla c h) broadcasts_S1x128_S64x128 j) (cum_is hla c h j))

include hla in
theorem kd_is {k : Vec Ideal S64x128 .bf16} {fk : ℕ → ℕ → EReal} (hk : Is2 k fk) : Is2 (kdV la c h k) (kdP (sub fl c h) fk) := fun j =>
  congrArg₂ (fun x y : EReal => x * y) (hk j) (w_is hla c h j)

end

/-- A reshape to the same shape. -/
theorem same_is {n m : ℕ} {x : (⟨2, ![n, m]⟩ : Shape).Idx → EReal} {f : ℕ → ℕ → EReal} (hx : Is2 x f)
    (hc : (⟨2, ![n, m]⟩ : Shape).ShapeCasts ⟨2, ![n, m]⟩) : Is2 (shapeCast ⟨2, ![n, m]⟩ x hc) f := fun j =>
  (shapeCast_at x hc j j rfl).trans (hx j)

theorem zero_is : (FloatOps.ofBits .f32 0x00000000#32 : Ideal .f32) = (0 : EReal) := Ideal.ofBits_zero_f32

/-- The diagonal of a square. -/
theorem diag_is {x : FVec Ideal S128x128 .f32} {f : ℕ → ℕ → EReal} (hx : Is2 x f) :
    Is2 (select (cmpi .eq (iota .tc S128x128 32 [0] iota_S128x128_d0_w32) (iota .tc S128x128 32 [1] iota_S128x128_d1_w32)) x
      (broadcast S128x128 (Scalar.ofBits .f32 0x00000000#32 : Ideal .f32))) (fun i k => if i = k then f i k else 0) := by
  intro j
  have h0 : (j 0).val < 128 := (j 0).isLt
  have h1 : (j 1).val < 128 := (j 1).isLt
  show Scalar.select (BitVec.ofBool (BitVec.ofNat 32 (0 * 128 + (j 0).val) == BitVec.ofNat 32 (0 * 128 + (j 1).val))) (x j) (FloatOps.ofBits .f32 0x00000000#32) = _
  rw [Nat.zero_mul, Nat.zero_add, Nat.zero_add, ofNat_beq (by omega) (by omega), select_bit, hx j, zero_is]

theorem col_is {x : FVec Ideal S1x128 .f32} {f : ℕ → ℕ → EReal} (hx : Is2 x f) : Is2 (colV x) (fun d _ => f 0 d) := by
  intro j
  have h0 : (j 0).val < 128 := (j 0).isLt
  have h1 : (j 1).val = 0 := Nat.lt_one_iff.mp (j 1).isLt
  refine (shapeCast_at _ shapeCasts_S128_S128x1 j (ValueIdx.ix1 (j 0)) ?_).trans ?_
  · rw [Shape.rowMajor_val_one, Shape.rowMajor_val_two]
    show (j 0).val = (j 0).val * 1 + (j 1).val
    omega
  · refine (red_at _ reduces_S128x128_S128 (.inl rfl) rfl (ValueIdx.ix1 (j 0)) 128 rfl (fun k => if (j 0).val = k then f 0 k else 0) fun k => ?_).trans (sum_pick 128 _ h0 _)
    exact diag_is (rows_is (by decide) (same_is hx shapeCasts_S1x128_S1x128) broadcasts_S1x128_S128x128) _

section
variable {la z : FVec Ideal S256x512 .f32} {fl fz : ℕ → ℕ → EReal} (hla : Is2 la fl) (hz : Is2 z fz) (c h : Fin 4)
  {q k : Vec Ideal S64x128 .bf16} {v : Vec Ideal S64x256 .bf16} {g : Vec Ideal S64x256 .f32} {s sp ds dt : Vec Ideal S128x256 .f32}
  {kd dwt da : FVec Ideal S64x128 .f32} {dexp : FVec Ideal S1x128 .f32}
  {fq fk fv fg fs fsp fds fdt fkd fdwt fda : ℕ → ℕ → EReal} {fe : ℕ → EReal}
  (hq : Is2 q fq) (hk : Is2 k fk) (hv : Is2 v fv) (hg : Is2 g fg) (hs : Is2 s fs) (hsp : Is2 sp fsp) (hds : Is2 ds fds) (hdt : Is2 dt fdt)
  (hkd : Is2 kd fkd) (hdwt : Is2 dwt fdwt) (hda : Is2 da fda) (hdexp : Is2 dexp (fun _ d => fe d))

include hla hdt in
theorem pass_is : Is2 (passV la c h dt) (passP (sub fl c h) fdt) := fun j =>
  congrArg₂ (fun x y : EReal => x * y)
    (cols_is (f := fun d _ => Ideal.exp (cumP (sub fl c h) 63 d)) (by decide)
      (col_is (f := fun _ d => Ideal.exp (cumP (sub fl c h) 63 d)) fun i => congrArg Ideal.exp (end_is hla c h i)) broadcasts_S128x1_S128x256 j) (hdt j)

include hla hk hv hs in
theorem step_is : Is2 (stepV la c h k v s) (stepP (sub fl c h) fk fv fs) := fun j =>
  congrArg₂ (fun x y : EReal => x + y) (pass_is hla c h hs j)
    (matmul_at _ _ _ _ j 64 rfl rfl _ fun _ => congrArg₂ (fun x y : EReal => x * y) (kd_is hla c h hk _) (hv _))

include hq hs in
theorem read_is : Is2 (readV q s) (readP fq fs) := fun j =>
  matmul_at _ _ _ _ j 128 rfl rfl _ fun _ =>
    congrArg₂ (fun x y : EReal => x * y) (congrArg (fun x : EReal => x * scS) (hq _)) (hs _)

include hq hg hds in
theorem tot_is : Is2 (totV q g ds) (totP fq fg fds) := fun j =>
  congrArg₂ (fun x y : EReal => x + y) (hds j) (matmul_at _ _ _ _ j 64 rfl rfl _ fun _ =>
    congrArg₂ (fun x y : EReal => x * y) (congrArg (fun x : EReal => x * scS) (hq _)) (hg _))

include hg hs in
theorem dq_is : Is2 (dqV g s) (dqP fg fs) := fun j =>
  congrArg (fun x : EReal => x * scS) (matmul_at _ _ _ _ j 256 rfl rfl _ fun _ => congrArg₂ (fun x y : EReal => x * y) (hg _) (hs _))

include hv hdt in
theorem dkd_is : Is2 (dkdV v dt) (dkdP fv fdt) := fun j =>
  matmul_at _ _ _ _ j 256 rfl rfl _ fun _ => congrArg₂ (fun x y : EReal => x * y) (hv _) (hdt _)

include hla hk hdt in
theorem dv_is : Is2 (dvV (kdV la c h k) dt) (dvP (sub fl c h) fk fdt) := fun j =>
  matmul_at _ none _ _ j 128 rfl rfl _ fun _ => congrArg₂ (fun x y : EReal => x * y) (kd_is hla c h hk _) (hdt _)

include hdt hsp in
theorem dexp_is : Is2 (dexpV (F := Ideal) dt sp) (fun _ d => dexpP fdt fsp d) := by
  intro j
  have h0 : (j 0).val = 0 := Nat.lt_one_iff.mp (j 0).isLt
  have h1 : (j 1).val < 128 := (j 1).isLt
  have hc : Is2 (shapeCast S128x1 (multiReduction (F := Ideal) .add [1] S128 (mulf dt sp) 0x00000000#32 reduces_S128x256_S128 (.inl rfl) rfl) shapeCasts_S128_S128x1)
      (fun d _ => dexpP fdt fsp d) := by
    intro i
    have i1 : (i 1).val = 0 := Nat.lt_one_iff.mp (i 1).isLt
    refine (shapeCast_at _ shapeCasts_S128_S128x1 i (ValueIdx.ix1 (i 0)) ?_).trans ?_
    · rw [Shape.rowMajor_val_one, Shape.rowMajor_val_two]
      show (i 0).val = (i 0).val * 1 + (i 1).val
      omega
    · exact red_at _ reduces_S128x256_S128 (.inl rfl) rfl (ValueIdx.ix1 (i 0)) 256 rfl _ fun k =>
        congrArg₂ (fun x y : EReal => x * y) (hdt _) (hsp _)
  refine (shapeCast_at _ shapeCasts_S128_S1x128 j (ValueIdx.ix1 (j 1)) ?_).trans ?_
  · rw [Shape.rowMajor_val_one, Shape.rowMajor_val_two]
    show (j 1).val = (j 0).val * 128 + (j 1).val
    omega
  · refine (red_at _ reduces_S128x128_S128_2 (.inl rfl) rfl (ValueIdx.ix1 (j 1)) 128 rfl (fun k => if k = (j 1).val then dexpP fdt fsp k else 0) fun k => ?_).trans (sum_pick' 128 _ h1 _)
    exact diag_is (cols_is (by decide) (same_is hc shapeCasts_S128x1_S128x1) broadcasts_S128x1_S128x128) _

include hla hdwt hdexp in
theorem da_is : Is2 (daV la c h dwt dexp) (daP (sub fl c h) fdwt fe) := by
  have hr : Is2 (addf (shapeCast S1x128 (multiReduction .add [0] S128 dwt 0x00000000#32 reduces_S64x128_S128 (.inl rfl) rfl) shapeCasts_S128_S1x128)
          (mulf dexp (exp (endV la c h)))) (fun _ d => (∑ r ∈ Finset.range 64, fdwt r d) + fe d * eP (sub fl c h) d) := by
    intro j
    have h0 : (j 0).val = 0 := Nat.lt_one_iff.mp (j 0).isLt
    refine congrArg₂ (fun x y : EReal => x + y) ((shapeCast_at _ shapeCasts_S128_S1x128 j (ValueIdx.ix1 (j 1)) ?_).trans ?_)
      (congrArg₂ (fun x y : EReal => x * y) (hdexp j) (congrArg Ideal.exp (end_is hla c h j)))
    · rw [Shape.rowMajor_val_one, Shape.rowMajor_val_two]
      show (j 1).val = (j 0).val * 128 + (j 1).val
      omega
    · exact red_at _ reduces_S64x128_S128 (.inl rfl) rfl (ValueIdx.ix1 (j 1)) 64 rfl _ fun k => hdwt _
  have hm : Is2 (select (k1_pay11)
      (subf (broadcastTo S64x128
        (addf (shapeCast S1x128 (multiReduction .add [0] S128 dwt 0x00000000#32 reduces_S64x128_S128 (.inl rfl) rfl) shapeCasts_S128_S1x128)
          (mulf dexp (exp (endV la c h)))) broadcasts_S1x128_S64x128) dwt)
      (subf (broadcast S64x128 (Scalar.ofBits .f32 0x00000000#32)) dwt)) (dcumP (sub fl c h) fdwt fe) := by
    intro i
    have i0 : (i 0).val < 64 := (i 0).isLt
    show Scalar.select (BitVec.ofBool (BitVec.ofNat 32 (0 * 64 + (i 0).val) == BitVec.ofNat 32 63)) _ _ = _
    rw [Nat.zero_mul, Nat.zero_add, ofNat_beq (by omega) (by omega), select_bit]
    exact if_congr Iff.rfl (congrArg₂ (fun x y : EReal => x - y) (rows_is (by decide) hr broadcasts_S1x128_S64x128 i) (hdwt i))
      (congrArg₂ (fun x y : EReal => x - y) zero_is (hdwt i))
  exact fun j => matmul_at _ _ _ _ j 64 rfl rfl _ fun k =>
    (congrArg₂ (fun x y : EReal => x * y) (triu_is _) (hm _)).trans (by rw [ite_mul, one_mul, zero_mul]; rfl)

include hz hda in
theorem dz_is : Is2 (dzV z c h da) (dzP (sub fz c h) fda) := by
  refine same_is (fun j => ?_) shapeCasts_S64x128_S64x128
  show (da j : EReal) * c16 * Ideal.div c1 (c1 + Ideal.exp ((FloatOps.ofBits .f32 0x00000000#32 : Ideal .f32) - ((FloatOps.ofBits .f32 0x00000000#32 : Ideal .f32) - extractStridedSlice S64x128 ![64 * c.val, 128 * h.val] z (slK c h) j))) = _
  rw [zero_is, hda j, slice_is hz c h j]; rfl

end

section
variable {lr : Vec Ideal S256x128 .bf16} {wa : Vec Ideal S128x512 .f32} {ba : Vec Ideal S1x512 .f32} {dz : FVec Ideal S256x512 .f32}
  {fr fw fb fdz fo : ℕ → ℕ → EReal} (hlr : Is2 lr fr) (hwa : Is2 wa fw) (hba : Is2 ba fb) (hdz : Is2 dz fdz)
  {dw : Vec Ideal S128x512 .f32} {db : Vec Ideal S1x512 .f32}

/-- The gates of a block before their activation. -/
def gateF (fr fw fb : ℕ → ℕ → EReal) (r j : ℕ) : EReal := (∑ a ∈ Finset.range 128, fr r a * fw a j) + fb 0 j

include hlr hwa hba in
theorem gate_is : Is2 (k1_pay7 lr wa ba) (gateF fr fw fb) := fun j =>
  congrArg₂ (fun x y : EReal => x + y)
    (matmul_at _ none _ _ j 128 rfl rfl _ fun _ => congrArg₂ (fun x y : EReal => x * y) (hlr _) (same_is hwa shapeCasts_S128x512_S128x512 _))
    (rows_is (by decide) hba broadcasts_S1x512_S256x512 j)

include hlr hwa hba in
theorem act_is : Is2 (k0_pay2 lr wa ba) (fun r j => lsigS (gateF fr fw fb r j)) := fun j => by
  have e : k0_pay2 lr wa ba j = (min (k1_pay7 lr wa ba j : EReal) (FloatOps.ofBits .f32 0x00000000#32 : Ideal .f32) - Ideal.log (c1 + Ideal.exp ((FloatOps.ofBits .f32 0x00000000#32 : Ideal .f32) - max (k1_pay7 lr wa ba j : EReal) (-(k1_pay7 lr wa ba j : EReal))))) * c16 := by chain_rfl
  rw [e, zero_is, gate_is hlr hwa hba j]; rfl

include hdz hwa in
theorem dlr_is : Is2 (k1_pay1 dz wa) (fun r a => ∑ j ∈ Finset.range 512, fdz r j * fw a j) := fun j =>
  matmul_at _ none _ _ j 512 rfl rfl _ fun _ => congrArg₂ (fun x y : EReal => x * y) (hdz _) (same_is hwa shapeCasts_S128x512_S128x512 _)

include hdz hlr in
theorem dwa_is (hdw : Is2 dw fo) : Is2 (k1_pay2 dz dw lr) (fun a j => fo a j + ∑ r ∈ Finset.range 256, fr r a * fdz r j) := fun j =>
  congrArg₂ (fun x y : EReal => x + y) (same_is hdw shapeCasts_S128x512_S128x512 j)
    (matmul_at _ _ _ _ j 256 rfl rfl _ fun _ => congrArg₂ (fun x y : EReal => x * y) (hlr _) (hdz _))

include hdz in
theorem dba_is (hdb : Is2 db fo) : Is2 (k1_pay3 dz db) (fun a j => fo a j + ∑ r ∈ Finset.range 256, fdz r j) := fun j => by
  have h0 : (j 0).val = 0 := Nat.lt_one_iff.mp (j 0).isLt
  refine congrArg₂ (fun x y : EReal => x + y) (same_is hdb shapeCasts_S1x512_S1x512 j)
    ((shapeCast_at _ shapeCasts_S512_S1x512 j (ValueIdx.ix1 (j 1)) ?_).trans ?_)
  · rw [Shape.rowMajor_val_one, Shape.rowMajor_val_two]
    show (j 1).val = (j 0).val * 512 + (j 1).val
    omega
  · exact red_at _ reduces_S256x512_S512 (.inl rfl) rfl (ValueIdx.ix1 (j 1)) 256 rfl _ fun k => hdz _

theorem zeros_is : Is2 (k1_pay5 (F := Ideal)) (fun _ _ => 0) ∧ Is2 (k1_pay6 (F := Ideal)) (fun _ _ => 0) ∧ Is2 (k0_pay1 (F := Ideal)) (fun _ _ => 0) :=
  ⟨fun _ => zero_is, fun _ => zero_is, same_is (fun _ => zero_is) shapeCasts_S512x256_S512x256⟩

end

end Cert.KernelIdeal.Gen

end
-- ==== Proof.Kern.Chain.lean ====
module

public import Idealize.ShloMosaic.Lib.Pipeline.ReadBack
public import proofs.«01_k».proof.Proof.Kern.PairVal

@[expose] public section

set_option maxRecDepth 16384

noncomputable section

/-! # A carried state, four heads in turn over four chunks, read back from its stores -/

namespace Cert.KernelIdeal.Gen

open Idealize.ShloMosaic Idealize.ShloMosaic.TcCoe Idealize.ShloMosaic.Tactic Cert.Val

/-- Stores that are blocks of `G` and cover the buffer leave `G`. -/
theorem canon_eq {s : Shape} {e : EltTy} (G : s.Idx → Elt Ideal e) (L : List (View.Piece (Elt Ideal) s e)) (h : View.PiecesOf G L)
    (hc : ∀ y, ∃ p ∈ L, y ∈ p.1.set) : View.canon L = G :=
  funext fun y => by
    have := View.canon_append_of_piecesOf G [] L h y (hc y)
    rwa [List.append_nil] at this

section
variable (W : ℕ → Vec Ideal S128x256 .f32 → Vec Ideal S128x256 .f32)
  (ld : ℕ → List (View.Piece (Elt Ideal) S512x256 .f32) → Vec Ideal S128x256 .f32) (base : List (View.Piece (Elt Ideal) S512x256 .f32))

/-- The stores of the first `n` pairs, each of what `W` makes of what the pair loads. -/
def genL : ℕ → List (View.Piece (Elt Ideal) S512x256 .f32)
  | 0 => base
  | n + 1 => ⟨boxS (hdOf n), shapeCast S128x256 (W n (ld n (genL n))) shapeCasts_S128x256_S128x256⟩ :: genL n

/-- Head `h` of what they leave. -/
def headL (n : ℕ) (h : Fin 4) : Vec Ideal S128x256 .f32 := fun j => View.canon (genL W ld base n) ((boxS h).idx j)

theorem headL_hit (n : ℕ) : headL W ld base (n + 1) (hdOf n) = W n (ld n (genL W ld base n)) := by
  funext j
  refine (View.canon_cons_emb (boxS (hdOf n)) _ (genL W ld base n) j).trans ?_
  exact shapeCast_at _ _ _ _ rfl

theorem headL_miss (n : ℕ) (h : Fin 4) (hn : h ≠ hdOf n) : headL W ld base (n + 1) h = headL W ld base n h := by
  funext j
  refine View.canon_cons_of_not_mem _ _ fun hm => hn ?_
  obtain ⟨x, hx⟩ := (boxS (hdOf n)).exists_idx_of_mem hm
  have e : 128 * (hdOf n).val + 1 * (x 0).val = 128 * h.val + 1 * (j 0).val := congrArg (fun i : S512x256.Idx => (i 0).val) hx
  have h1 : (x 0).val < 128 := (x 0).isLt
  have h2 : (j 0).val < 128 := (j 0).isLt
  apply Fin.ext
  omega

variable {W ld base} {X : ℕ → ℕ → ℕ → ℕ → EReal}
  (hX : ∀ n, n < 16 → ∀ s, Is2 s (X (n / 4) (n % 4)) → Is2 (W n s) (X (n / 4 + 1) (n % 4))) (full : Prop)
  (h0 : full → ∀ h : Fin 4, Is2 (headL W ld base 0 h) (X 0 h.val))
  (hld : ∀ n, n < 16 → (full ∨ 4 ≤ n → Is2 (headL W ld base n (hdOf n)) (X (n / 4) (n % 4))) → Is2 (ld n (genL W ld base n)) (X (n / 4) (n % 4)))

include hX h0 hld in
theorem head_is (n : ℕ) : n ≤ 16 → ∀ h : Fin 4, full ∨ h.val < n → Is2 (headL W ld base n h) (X ((n + 3 - h.val) / 4) h.val) := by
  induction n with
  | zero =>
    intro _ h hf
    have := h.isLt
    rcases hf with hf | hf
    · rw [show (0 + 3 - h.val) / 4 = 0 by omega]; exact h0 hf h
    · omega
  | succ n ih =>
    intro hn h hf
    have hh := h.isLt
    by_cases e : h = hdOf n
    · subst e
      rw [headL_hit, show (n + 1 + 3 - (hdOf n).val) / 4 = n / 4 + 1 by show (n + 1 + 3 - n % 4) / 4 = n / 4 + 1; omega]
      refine hX n (by omega) _ (hld n (by omega) fun hc => ?_)
      have := ih (by omega) (hdOf n) (hc.imp id fun h4 => by show n % 4 < n; omega)
      rwa [show (n + 3 - (hdOf n).val) / 4 = n / 4 by show (n + 3 - n % 4) / 4 = n / 4; omega] at this
    · rw [headL_miss _ _ _ _ _ e]
      have hne : h.val ≠ n % 4 := fun h' => e (Fin.ext h')
      have := ih (by omega) h (hf.imp id fun h' => by omega)
      rwa [show (n + 1 + 3 - h.val) / 4 = (n + 3 - h.val) / 4 by omega]

include hX h0 hld in
/-- What each pair loads, -/
theorem load_is (n : ℕ) (hn : n < 16) : Is2 (ld n (genL W ld base n)) (X (n / 4) (n % 4)) :=
  hld n hn fun hc => by
    have := head_is hX full h0 hld n (by omega) (hdOf n) (hc.imp id fun h4 => by show n % 4 < n; omega)
    rwa [show (n + 3 - (hdOf n).val) / 4 = n / 4 by show (n + 3 - n % 4) / 4 = n / 4; omega] at this

include hX h0 hld in
/-- and what all of them leave. -/
theorem left_is : Is2 (View.canon (genL W ld base 16)) (fun r e => X 4 (r / 128) (r % 128) e) := by
  intro y
  have y0 : (y 0).val < 512 := (y 0).isLt
  have y1 : (y 1).val < 256 := (y 1).isLt
  have := head_is hX full h0 hld 16 le_rfl ⟨(y 0).val / 128, by omega⟩ (.inr (by show (y 0).val / 128 < 16; omega))
    (ValueIdx.ix2 ⟨(y 0).val % 128, by omega⟩ ⟨(y 1).val, y1⟩)
  rw [show (16 + 3 - (⟨(y 0).val / 128, by omega⟩ : Fin 4).val) / 4 = 4 by show (16 + 3 - (y 0).val / 128) / 4 = 4; omega] at this
  refine (congrArg (View.canon (genL W ld base 16)) ?_).trans this
  funext a
  refine Fin.ext ?_
  fin_cases a
  · show (y 0).val = 128 * ((y 0).val / 128) + 1 * ((y 0).val % 128); omega
  · show (y 1).val = 0 + 1 * (y 1).val; omega

end

end Cert.KernelIdeal.Gen

end
-- ==== Proof.Kern.FwdVal.lean ====
module

public import proofs.«01_k».proof.Proof.Kern.Chain

@[expose] public section

set_option maxRecDepth 16384

noncomputable section

/-! # What one grid step of the forward call leaves -/

namespace Cert.KernelIdeal.Gen

open Idealize.ShloMosaic Idealize.ShloMosaic.TcCoe Idealize.ShloMosaic.Tactic Cert.Val

/-- A load of a whole buffer's box reads the buffer's contents there. -/
theorem readAt_box {s : Shape} {e : EltTy} (A : Memref sig .tc .vmem s e) (hA : A.IsWhole) (x : Vec Ideal s e) (r : Rect s) :
    View.readAt (Elt Ideal) A.view r.toLoadRect (hA.unread x) = fun j => x (r.idx j) := by
  rw [View.readAt_eq_ld, hA.read_unread]

theorem box_is {n0 n1 m0 m1 a b : ℕ} {x : (⟨2, ![n0, n1]⟩ : Shape).Idx → EReal} {f : ℕ → ℕ → EReal} (hx : Is2 x f)
    (inb : ∀ i, (![a, b] : Fin 2 → ℕ) i + (![m0, m1] : Fin 2 → ℕ) i ≤ (⟨2, ![n0, n1]⟩ : Shape).size i) :
    Is2 (n0 := m0) (n1 := m1) (fun j => x ((Rect.unit (s := ⟨2, ![n0, n1]⟩) ![a, b] ![m0, m1] inb).idx j)) (fun i d => f (a + i) (b + d)) := fun j =>
  (hx _).trans (by
    show f (a + 1 * (j 0).val) (b + 1 * (j 1).val) = _
    rw [Nat.one_mul, Nat.one_mul])

/-- A load of all of it reads it all. -/
theorem readAt_all {n0 n1 : ℕ} {ty : EltTy} (A : Memref sig .tc .vmem ⟨2, ![n0, n1]⟩ ty) (hA : A.IsWhole) (x : Vec Ideal ⟨2, ![n0, n1]⟩ ty)
    (inb : ∀ i, (![0, 0] : Fin 2 → ℕ) i + (⟨2, ![n0, n1]⟩ : Shape).size i ≤ (⟨2, ![n0, n1]⟩ : Shape).size i) :
    View.readAt (Elt Ideal) A.view (Rect.unit ![0, 0] (⟨2, ![n0, n1]⟩ : Shape).size inb).toLoadRect (hA.unread x) = x := by
  rw [readAt_box]
  funext j
  refine congrArg x (funext fun a => Fin.ext ?_)
  fin_cases a
  · show 0 + 1 * (j 0).val = (j 0).val; omega
  · show 0 + 1 * (j 1).val = (j 1).val; omega

section
variable (P : ℕ → ℕ → EReal) (A : ℕ → ℕ → EReal) (b : ℕ → EReal) (t : ℕ)

/-- The padded gate weights: sixteen rows, and rows of zeros. -/
def padA (a j : ℕ) : EReal := if a < 16 then A a j else 0

theorem gate_pad (r j : ℕ) : gateF (fun r a => P (256 * t + r) (10240 + a)) (padA A) (fun _ j => b j) r j = zS P A b (256 * t + r) j := by
  refine congrArg (· + b j) ((Finset.sum_subset (Finset.range_subset_range.mpr (by norm_num : 16 ≤ 128)) fun a _ ha => ?_).symm.trans
    (Finset.sum_congr rfl fun a ha => ?_))
  · rw [padA, if_neg (by simpa using ha), mul_zero]
  · rw [padA, if_pos (by simpa using ha)]

theorem sub_blk (L : ℕ → ℕ → EReal) (c h : Fin 4) : sub (fun r j => L (256 * t + r) j) c h = blk L (4 * t + c.val) (128 * h.val) := by
  funext i d
  show L (256 * t + (64 * c.val + i)) (128 * h.val + d) = L (64 * (4 * t + c.val) + i) (128 * h.val + d)
  congr 1
  omega

variable {P A b t} {la : FVec Ideal S256x512 .f32} {q k : ℕ → Vec Ideal S64x128 .bf16} {v : ℕ → Vec Ideal S64x256 .bf16}
  {ld : ℕ → List (View.Piece (Elt Ideal) S512x256 .f32) → Vec Ideal S128x256 .f32} {base : List (View.Piece (Elt Ideal) S512x256 .f32)}
  (hla : Is2 la (fun r j => laS P A b (256 * t + r) j))
  (hq : ∀ n, n < 16 → Is2 (q n) (blk P (4 * t + n / 4) (128 * (n % 4))))
  (hk : ∀ n, n < 16 → Is2 (k n) (blk P (4 * t + n / 4) (512 + 128 * (n % 4))))
  (hv : ∀ n, n < 16 → Is2 (v n) (blk P (4 * t + n / 4) (1024 + 256 * (n % 4))))

include hla hk hv in
theorem fwd_step (n : ℕ) (hn : n < 16) (s : Vec Ideal S128x256 .f32) (hs : Is2 s (stS P A b (4 * t + n / 4) (n % 4))) :
    Is2 (stepV la (chOf n) (hdOf n) (k n) (v n) s) (stS P A b (4 * t + (n / 4 + 1)) (n % 4)) := by
  have := step_is hla (chOf n) (hdOf n) (hk n hn) (hv n hn) hs
  rw [sub_blk, show (chOf n).val = n / 4 from Nat.mod_eq_of_lt (by omega)] at this
  exact this

theorem scrL_eq (n : ℕ) : scrL la k v ld base n = genL (fun n s => stepV la (chOf n) (hdOf n) (k n) (v n) s) ld base n := by
  induction n with
  | zero => rfl
  | succ n ih => rw [scrL, genL, ih]

variable (hld : ∀ n, n < 16 → Is2 (ld n (scrL la k v ld base n)) (stS P A b (4 * t + n / 4) (n % 4)))

include hla hk hv hld in
theorem stN_is (n : ℕ) (hn : n < 16) : Is2 (stN la k v ld base n) (stS P A b (4 * t + (n / 4 + 1)) (n % 4)) :=
  fwd_step hla hk hv n hn _ (hld n hn)

include hla hq hk hv hld in
theorem outL_pieces (n : ℕ) : n ≤ 16 → View.PiecesOf (Val := Elt Ideal) (e := .f32) (fun y : S256x1024.Idx => oR P A b (256 * t + (y 0).val) (y 1).val) (outL la q k v ld base n) := by
  induction n with
  | zero => exact fun _ => trivial
  | succ n ih =>
    intro hn
    refine ⟨fun x => ?_, ih (by omega)⟩
    refine (read_is (hq n (by omega)) (stN_is hla hk hv hld n (by omega)) x).trans ?_
    have x0 : (x 0).val < 64 := (x 0).isLt
    have x1 : (x 1).val < 256 := (x 1).isLt
    show _ = oS P A b ((256 * t + (64 * (n / 4 % 4) + 1 * (x 0).val)) / 64) ((256 * (n % 4) + 1 * (x 1).val) / 256)
      ((256 * t + (64 * (n / 4 % 4) + 1 * (x 0).val)) % 64) ((256 * (n % 4) + 1 * (x 1).val) % 256)
    rw [show (256 * t + (64 * (n / 4 % 4) + 1 * (x 0).val)) / 64 = 4 * t + n / 4 by omega,
      show (256 * t + (64 * (n / 4 % 4) + 1 * (x 0).val)) % 64 = (x 0).val by omega,
      show (256 * (n % 4) + 1 * (x 1).val) / 256 = n % 4 by omega, show (256 * (n % 4) + 1 * (x 1).val) % 256 = (x 1).val by omega]
    rfl

include hla hk hv hld in
theorem stL_pieces (n : ℕ) : n ≤ 16 → View.PiecesOf (Val := Elt Ideal) (e := .f32) (fun y : S4x512x256.Idx => stS P A b (4 * t + ((y 0).val + 1)) ((y 1).val / 128) ((y 1).val % 128) (y 2).val)
    (stL la k v ld base n) := by
  induction n with
  | zero => exact fun _ => trivial
  | succ n ih =>
    intro hn
    refine ⟨fun x => ?_, ih (by omega)⟩
    have x0 : (x 0).val = 0 := Nat.lt_one_iff.mp (x 0).isLt
    have x1 : (x 1).val < 128 := (x 1).isLt
    have x2 : (x 2).val < 256 := (x 2).isLt
    show shapeCast S1x128x256 (stN la k v ld base n) shapeCasts_S128x256_S1x128x256 x = _
    refine (shapeCast_at _ shapeCasts_S128x256_S1x128x256 x (ValueIdx.ix2 ⟨(x 1).val, x1⟩ ⟨(x 2).val, x2⟩) ?_).trans ?_
    · rw [Shape.rowMajor_val_two, Shape.rowMajor_val_three]
      show (x 1).val * 256 + (x 2).val = ((x 0).val * 128 + (x 1).val) * 256 + (x 2).val
      rw [x0]; omega
    · refine (stN_is hla hk hv hld n (by omega) _).trans ?_
      show stS P A b (4 * t + (n / 4 + 1)) (n % 4) (x 1).val (x 2).val = stS P A b (4 * t + ((n / 4 % 4 + 1 * (x 0).val) + 1))
        ((128 * (n % 4) + 1 * (x 1).val) / 128) ((128 * (n % 4) + 1 * (x 1).val) % 128) (0 + 1 * (x 2).val)
      rw [show n / 4 % 4 + 1 * (x 0).val = n / 4 by omega, show (128 * (n % 4) + 1 * (x 1).val) / 128 = n % 4 by omega,
        show (128 * (n % 4) + 1 * (x 1).val) % 128 = (x 1).val by omega, show 0 + 1 * (x 2).val = (x 2).val by omega]

end

section
variable {P A : ℕ → ℕ → EReal} {b : ℕ → EReal} {t : ℕ}
  (c : Dev nD) (i : grid0.Coords) (arg1 : Memref sig .tc .vmem S256x512 .bf16) (harg1 : arg1.IsWhole) (arg2 : Memref sig .tc .vmem S256x512 .bf16) (harg2 : arg2.IsWhole) (arg3 : Memref sig .tc .vmem S256x1024 .bf16) (harg3 : arg3.IsWhole) (arg4 : Memref sig .tc .vmem S256x128 .bf16) (harg4 : arg4.IsWhole) (arg5 : Memref sig .tc .vmem S128x512 .f32) (harg5 : arg5.IsWhole) (arg6 : Memref sig .tc .vmem S1x512 .f32) (harg6 : arg6.IsWhole) (arg7 : Memref sig .tc .vmem S256x1024 .f32) (harg7 : arg7.IsWhole) (arg8 : Memref sig .tc .vmem S4x512x256 .f32) (harg8 : arg8.IsWhole) (arg9 : Memref sig .tc .vmem S512x256 .f32) (harg9 : arg9.IsWhole)
  {x0 : Vec Ideal S256x512 .bf16} {x1 : Vec Ideal S256x512 .bf16} {x2 : Vec Ideal S256x1024 .bf16} {x3 : Vec Ideal S256x128 .bf16} {x4 : Vec Ideal S128x512 .f32} {x5 : Vec Ideal S1x512 .f32} {xs0 : Vec Ideal S512x256 .f32}
  (h0 : Is2 x0 (fun r j => P (256 * t + r) j)) (h1 : Is2 x1 (fun r j => P (256 * t + r) (512 + j)))
  (h2 : Is2 x2 (fun r j => P (256 * t + r) (1024 + j))) (h3 : Is2 x3 (fun r j => P (256 * t + r) (10240 + j)))
  (h4 : Is2 x4 (padA A)) (h5 : Is2 x5 (fun _ j => b j))
  (hs : Is2 xs0 (fun r e => stS P A b (4 * t) (r / 128) (r % 128) e))

include h3 h4 h5 in
theorem laRun_is : Is2 (laRun arg4 harg4 arg5 harg5 arg6 harg6 x3 x4 x5) (fun r j => laS P A b (256 * t + r) j) := by
  unfold laRun
  rw [readAt_all arg4 harg4 x3, readAt_all arg5 harg5 x4, readAt_all arg6 harg6 x5]
  exact (act_is h3 h4 h5).congr fun r j _ _ => congrArg lsigS (gate_pad P A b t r j)

/-- The blocks of keys a step loads, -/
theorem ldK_is {o : ℕ} (B : Memref sig .tc .vmem S256x512 .bf16) (hB : B.IsWhole) {x : Vec Ideal S256x512 .bf16} (hx : Is2 x (fun r j => P (256 * t + r) (o + j)))
    (n : ℕ) (hn : n < 16) : Is2 (ldK B hB x n) (blk P (4 * t + n / 4) (o + 128 * (n % 4))) := by
  unfold ldK
  rw [readAt_box]
  refine (box_is hx _).congr fun i d _ _ => ?_
  show P (256 * t + (64 * (n / 4 % 4) + i)) (o + (128 * (n % 4) + d)) = P (64 * (4 * t + n / 4) + i) (o + 128 * (n % 4) + d)
  congr 1 <;> omega

/-- and of values. -/
theorem ldV_is {o : ℕ} (B : Memref sig .tc .vmem S256x1024 .bf16) (hB : B.IsWhole) {x : Vec Ideal S256x1024 .bf16} (hx : Is2 x (fun r j => P (256 * t + r) (o + j)))
    (n : ℕ) (hn : n < 16) : Is2 (ldV B hB x n) (blk P (4 * t + n / 4) (o + 256 * (n % 4))) := by
  unfold ldV
  rw [readAt_box]
  refine (box_is hx _).congr fun i d _ _ => ?_
  show P (256 * t + (64 * (n / 4 % 4) + i)) (o + (256 * (n % 4) + d)) = P (64 * (4 * t + n / 4) + i) (o + 256 * (n % 4) + d)
  congr 1 <;> omega

theorem zero_add_is {n0 n1 : ℕ} {x : (⟨2, ![n0, n1]⟩ : Shape).Idx → EReal} (hx : Is2 x (fun r j => P (256 * t + r) j)) :
    Is2 x (fun r j => P (256 * t + r) (0 + j)) := hx.congr fun _ _ _ _ => by rw [Nat.zero_add]

/-- The loads of a later grid step's carried state. -/
theorem ldB_is {X : ℕ → ℕ → ℕ → ℕ → EReal} {xs0 : Vec Ideal S512x256 .f32} (hs : Is2 xs0 (fun r e => X 0 (r / 128) (r % 128) e))
    {W : ℕ → Vec Ideal S128x256 .f32 → Vec Ideal S128x256 .f32} (n : ℕ) (hn : n < 16)
    (h : False ∨ 4 ≤ n → Is2 (headL W (ldB arg9 harg9 xs0) [] n (hdOf n)) (X (n / 4) (n % 4))) :
    Is2 (ldB arg9 harg9 xs0 n (genL W (ldB arg9 harg9 xs0) [] n)) (X (n / 4) (n % 4)) := by
  by_cases h4 : n < 4
  · have e : Nat.blt n 4 = true := by simpa [Nat.blt] using h4
    unfold ldB
    rw [e, cond_true, readAt_box]
    refine (box_is hs _).congr fun i d hi _ => ?_
    show X 0 ((128 * (n % 4) + i) / 128) ((128 * (n % 4) + i) % 128) (0 + d) = _
    rw [show (128 * (n % 4) + i) / 128 = n % 4 by omega, show (128 * (n % 4) + i) % 128 = i by omega, show n / 4 = 0 by omega, Nat.zero_add]
  · have e : Nat.blt n 4 = false := Bool.eq_false_iff.mpr fun hb => h4 (by simpa [Nat.blt] using hb)
    have h' := h (.inr (by omega))
    show Is2 (bif Nat.blt n 4 then _ else _) _
    rw [e, cond_false, View.readCov_eq_canon']
    exact h'

theorem baseA_is {W : ℕ → Vec Ideal S128x256 .f32 → Vec Ideal S128x256 .f32} {ld} (h : Fin 4) :
    Is2 (headL W ld (baseA (F := Ideal)) 0 h) (fun _ _ => 0) := by
  intro j
  show View.canon baseA ((boxS h).idx j) = 0
  rw [View.canon_cons_unit_lit]
  · exact zeros_is.2.2 _
  · decide

include h1 h2 h3 h4 h5 in
theorem ldA0_is (ht : t = 0) (n : ℕ) (hn : n < 16) :
    Is2 (ldA arg9 n (scrL (laRun arg4 harg4 arg5 harg5 arg6 harg6 x3 x4 x5) (ldK arg2 harg2 x1) (ldV arg3 harg3 x2) (ldA arg9) baseA n)) (stS P A b (4 * t + n / 4) (n % 4)) := by
  rw [scrL_eq]
  refine load_is (X := fun m h => stS P A b (4 * t + m) h) (fun n hn s hs => fwd_step (laRun_is _ _ _ _ _ _ h3 h4 h5) (ldK_is _ _ h1) (ldV_is _ _ h2) n hn s hs) True (fun _ h => ?_) (fun n hn h => ?_) n hn
  · subst ht; exact baseA_is h
  · unfold ldA; rw [View.readCov_eq_canon']; exact h (.inl trivial)

include h1 h2 h3 h4 h5 hs in
theorem ldB0_is (n : ℕ) (hn : n < 16) :
    Is2 (ldB arg9 harg9 xs0 n (scrL (laRun arg4 harg4 arg5 harg5 arg6 harg6 x3 x4 x5) (ldK arg2 harg2 x1) (ldV arg3 harg3 x2) (ldB arg9 harg9 xs0) [] n)) (stS P A b (4 * t + n / 4) (n % 4)) := by
  rw [scrL_eq]
  exact load_is (X := fun m h => stS P A b (4 * t + m) h) (fun n hn s hs => fwd_step (laRun_is _ _ _ _ _ _ h3 h4 h5) (ldK_is _ _ h1) (ldV_is _ _ h2) n hn s hs) False
    (fun h => h.elim) (fun n hn h => ldB_is arg9 harg9 (X := fun m h => stS P A b (4 * t + m) h) hs n hn h) n hn

include h0 h1 h2 h3 h4 h5 in
/-- What a first grid step leaves of the output, -/
theorem out_A_is (ht : t = 0) (hc0 : cond0_0 i) : Is2 (out0_A_6 c i arg1 harg1 arg2 harg2 arg3 harg3 arg4 harg4 arg5 harg5 arg6 harg6 arg7 harg7 arg8 harg8 arg9 harg9 hc0 x0 x1 x2 x3 x4 x5) (fun r e => oR P A b (256 * t + r) e) := by
  unfold out0_A_6
  rw [View.read_writes_junk_eq_canon, canon_eq _ _ (by
    rw [out0_A]
    have hq := ldK_is arg1 harg1 (zero_add_is h0)
    simp only [Nat.zero_add] at hq
    exact outL_pieces (laRun_is arg4 harg4 arg5 harg5 arg6 harg6 h3 h4 h5) hq (ldK_is arg2 harg2 h1) (ldV_is arg3 harg3 h2) (ldA0_is arg2 harg2 arg3 harg3 arg4 harg4 arg5 harg5 arg6 harg6 arg9 h1 h2 h3 h4 h5 ht) 16 le_rfl) (cover0_A_6 c i arg1 harg1 arg2 harg2 arg3 harg3 arg4 harg4 arg5 harg5 arg6 harg6 arg7 harg7 arg8 harg8 arg9 harg9 hc0 x0 x1 x2 x3 x4 x5)]
  exact fun _ => rfl

include h1 h2 h3 h4 h5 in
/-- of the states after each chunk, -/
theorem st_A_is (ht : t = 0) (hc0 : cond0_0 i) :
    Is3 (out0_A_7 c i arg1 harg1 arg2 harg2 arg3 harg3 arg4 harg4 arg5 harg5 arg6 harg6 arg7 harg7 arg8 harg8 arg9 harg9 hc0 x0 x1 x2 x3 x4 x5) (fun c r e => stS P A b (4 * t + (c + 1)) (r / 128) (r % 128) e) := by
  unfold out0_A_7
  rw [View.read_writes_junk_eq_canon, canon_eq _ _ (by
    rw [st0_A]
    exact stL_pieces (laRun_is arg4 harg4 arg5 harg5 arg6 harg6 h3 h4 h5) (ldK_is arg2 harg2 h1) (ldV_is arg3 harg3 h2) (ldA0_is arg2 harg2 arg3 harg3 arg4 harg4 arg5 harg5 arg6 harg6 arg9 h1 h2 h3 h4 h5 ht) 16 le_rfl) (cover0_A_7 c i arg1 harg1 arg2 harg2 arg3 harg3 arg4 harg4 arg5 harg5 arg6 harg6 arg7 harg7 arg8 harg8 arg9 harg9 hc0 x0 x1 x2 x3 x4 x5)]
  exact fun _ => rfl

include h1 h2 h3 h4 h5 in
/-- and of the carried state. -/
theorem scr_A_is (ht : t = 0) (hc0 : cond0_0 i) : Is2 (sout0_A_0 c i arg1 harg1 arg2 harg2 arg3 harg3 arg4 harg4 arg5 harg5 arg6 harg6 arg7 harg7 arg8 harg8 arg9 harg9 hc0 x0 x1 x2 x3 x4 x5) (fun r e => stS P A b (4 * (t + 1)) (r / 128) (r % 128) e) := by
  unfold sout0_A_0
  rw [View.read_writes_junk_eq_canon, scr0_A, scrL_eq]
  refine left_is (X := fun m h => stS P A b (4 * t + m) h) (fun n hn s hs => fwd_step (laRun_is arg4 harg4 arg5 harg5 arg6 harg6 h3 h4 h5) (ldK_is arg2 harg2 h1) (ldV_is arg3 harg3 h2) n hn s hs) True
    (fun h'' h => ?_) (fun n hn h => ?_)
  · subst ht; exact baseA_is h
  · unfold ldA; rw [View.readCov_eq_canon']; exact h (.inl trivial)

include h0 h1 h2 h3 h4 h5 hs in
/-- What a later one leaves of the output, -/
theorem out_B_is (hc0 : ¬cond0_0 i) : Is2 (out0_B_6 c i arg1 harg1 arg2 harg2 arg3 harg3 arg4 harg4 arg5 harg5 arg6 harg6 arg7 harg7 arg8 harg8 arg9 harg9 hc0 x0 x1 x2 x3 x4 x5 xs0) (fun r e => oR P A b (256 * t + r) e) := by
  unfold out0_B_6
  rw [View.read_writes_junk_eq_canon, canon_eq _ _ (by
    rw [out0_B]
    have hq := ldK_is arg1 harg1 (zero_add_is h0)
    simp only [Nat.zero_add] at hq
    exact outL_pieces (laRun_is arg4 harg4 arg5 harg5 arg6 harg6 h3 h4 h5) hq (ldK_is arg2 harg2 h1) (ldV_is arg3 harg3 h2) (ldB0_is arg2 harg2 arg3 harg3 arg4 harg4 arg5 harg5 arg6 harg6 arg9 harg9 h1 h2 h3 h4 h5 hs) 16 le_rfl) (cover0_B_6 c i arg1 harg1 arg2 harg2 arg3 harg3 arg4 harg4 arg5 harg5 arg6 harg6 arg7 harg7 arg8 harg8 arg9 harg9 hc0 x0 x1 x2 x3 x4 x5 xs0)]
  exact fun _ => rfl

include h1 h2 h3 h4 h5 hs in
/-- of the states after each chunk, -/
theorem st_B_is (hc0 : ¬cond0_0 i) :
    Is3 (out0_B_7 c i arg1 harg1 arg2 harg2 arg3 harg3 arg4 harg4 arg5 harg5 arg6 harg6 arg7 harg7 arg8 harg8 arg9 harg9 hc0 x0 x1 x2 x3 x4 x5 xs0) (fun c r e => stS P A b (4 * t + (c + 1)) (r / 128) (r % 128) e) := by
  unfold out0_B_7
  rw [View.read_writes_junk_eq_canon, canon_eq _ _ (by
    rw [st0_B]
    exact stL_pieces (laRun_is arg4 harg4 arg5 harg5 arg6 harg6 h3 h4 h5) (ldK_is arg2 harg2 h1) (ldV_is arg3 harg3 h2) (ldB0_is arg2 harg2 arg3 harg3 arg4 harg4 arg5 harg5 arg6 harg6 arg9 harg9 h1 h2 h3 h4 h5 hs) 16 le_rfl) (cover0_B_7 c i arg1 harg1 arg2 harg2 arg3 harg3 arg4 harg4 arg5 harg5 arg6 harg6 arg7 harg7 arg8 harg8 arg9 harg9 hc0 x0 x1 x2 x3 x4 x5 xs0)]
  exact fun _ => rfl

include h1 h2 h3 h4 h5 hs in
/-- and of the carried state. -/
theorem scr_B_is (hc0 : ¬cond0_0 i) : Is2 (sout0_B_0 c i arg1 harg1 arg2 harg2 arg3 harg3 arg4 harg4 arg5 harg5 arg6 harg6 arg7 harg7 arg8 harg8 arg9 harg9 hc0 x0 x1 x2 x3 x4 x5 xs0) (fun r e => stS P A b (4 * (t + 1)) (r / 128) (r % 128) e) := by
  unfold sout0_B_0
  rw [View.read_writes_junk_eq_canon, scr0_B, scrL_eq]
  refine left_is (X := fun m h => stS P A b (4 * t + m) h) (fun n hn s hs => fwd_step (laRun_is arg4 harg4 arg5 harg5 arg6 harg6 h3 h4 h5) (ldK_is arg2 harg2 h1) (ldV_is arg3 harg3 h2) n hn s hs) False
    (fun h'' h => ?_) (fun n hn h => ?_)
  · exact h''.elim
  · exact ldB_is arg9 harg9 (X := fun m h => stS P A b (4 * t + m) h) hs n hn h

end

end Cert.KernelIdeal.Gen

end
-- ==== Proof.Kern.FwdArr.lean ====
module

public import Idealize.ShloMosaic.Lib.Pipeline.ValueKit
public import proofs.«01_k».proof.Proof.Kern.FwdVal

@[expose] public section

set_option maxRecDepth 16384

noncomputable section

/-! # The forward call's arrays -/

namespace Cert.KernelIdeal.Gen

open Idealize.ShloMosaic Idealize.ShloMosaic.TcCoe Idealize.ShloMosaic.Tactic Cert.Val

theorem index0_0 : ∀ t : Fin cfg0.N, win0_0.index t = ![t.val, 0] := (by decide +kernel : ∀ t : Fin grid0.N, win0_0.index t = ![t.val, 0])
theorem index0_1 : ∀ t : Fin cfg0.N, win0_1.index t = ![t.val, 1] := (by decide +kernel : ∀ t : Fin grid0.N, win0_1.index t = ![t.val, 1])
theorem index0_2 : ∀ t : Fin cfg0.N, win0_2.index t = ![t.val, 1] := (by decide +kernel : ∀ t : Fin grid0.N, win0_2.index t = ![t.val, 1])
theorem index0_3 : ∀ t : Fin cfg0.N, win0_3.index t = ![t.val, 80] := (by decide +kernel : ∀ t : Fin grid0.N, win0_3.index t = ![t.val, 80])
theorem index0_4 : ∀ t : Fin cfg0.N, win0_4.index t = ![0, 0] := (by decide +kernel : ∀ t : Fin grid0.N, win0_4.index t = ![0, 0])
theorem index0_5 : ∀ t : Fin cfg0.N, win0_5.index t = ![0, 0] := (by decide +kernel : ∀ t : Fin grid0.N, win0_5.index t = ![0, 0])
theorem index0_6 : ∀ t : Fin cfg0.N, win0_6.index t = ![t.val, 0] := (by decide +kernel : ∀ t : Fin grid0.N, win0_6.index t = ![t.val, 0])
theorem index0_7 : ∀ t : Fin cfg0.N, win0_7.index t = ![t.val, 0, 0] := (by decide +kernel : ∀ t : Fin grid0.N, win0_7.index t = ![t.val, 0, 0])

attribute [local irreducible] stS oR out0_A_6 out0_A_7 sout0_A_0 out0_B_6 out0_B_7 sout0_B_0

section
variable (V : (c : Dev nD) → (b : Ref sig .tc) → Buf (Elt Ideal) ((c : Thread nD τ).loc b)) (c : Dev nD)
  {P A : ℕ → ℕ → EReal} {b : ℕ → EReal}
  (hP : Is2 (n0 := 4096) (n1 := 10368) (V c main_arg0) P) (hA : Is2 (n0 := 128) (n1 := 512) (V c main_v1) (padA A))
  (hb : Is2 (n0 := 1) (n1 := 512) (V c main_arg2) (fun _ j => b j))

include hP in
theorem x0_0_is (t : Fin cfg0.N) : Is2 (n0 := 256) (n1 := 512) (X0_0 V c t) (fun r j => P (256 * t.val + r) j) := by
  intro j
  unfold X0_0 Pipeline.Window.fill
  rw [dif_pos (moved0_0 t j)]
  blk_simp [iblk0]
  refine (hP _).trans ?_
  congr 1
  · blk_simp [index0_0]
    show t.val * 256 + (j 0).val = 256 * t.val + (j 0).val; omega
  · blk_simp [index0_0]
include hP in
theorem x0_1_is (t : Fin cfg0.N) : Is2 (n0 := 256) (n1 := 512) (X0_1 V c t) (fun r j => P (256 * t.val + r) (512 + j)) := by
  intro j
  unfold X0_1 Pipeline.Window.fill
  rw [dif_pos (moved0_1 t j)]
  blk_simp [iblk0]
  refine (hP _).trans ?_
  congr 1
  · blk_simp [index0_1]
    show t.val * 256 + (j 0).val = 256 * t.val + (j 0).val; omega
  · blk_simp [index0_1]
include hP in
theorem x0_2_is (t : Fin cfg0.N) : Is2 (n0 := 256) (n1 := 1024) (X0_2 V c t) (fun r j => P (256 * t.val + r) (1024 + j)) := by
  intro j
  unfold X0_2 Pipeline.Window.fill
  rw [dif_pos (moved0_2 t j)]
  blk_simp [iblk0]
  refine (hP _).trans ?_
  congr 1
  · blk_simp [index0_2]
    show t.val * 256 + (j 0).val = 256 * t.val + (j 0).val; omega
  · blk_simp [index0_2]
include hP in
theorem x0_3_is (t : Fin cfg0.N) : Is2 (n0 := 256) (n1 := 128) (iblk0 V c 3 t) (fun r j => P (256 * t.val + r) (10240 + j)) := by
  intro j
  blk_simp [iblk0]
  refine (hP _).trans ?_
  congr 1
  · blk_simp [index0_3]
    show t.val * 256 + (j 0).val = 256 * t.val + (j 0).val; omega
  · blk_simp [index0_3]
include hA in
theorem x0_4_is (t : Fin cfg0.N) : Is2 (n0 := 128) (n1 := 512) (iblk0 V c 4 t) (padA A) := by
  intro j
  blk_simp [iblk0]
  refine (hA _).trans ?_
  congr 1
  · blk_simp [index0_4]
  · blk_simp [index0_4]
include hb in
theorem x0_5_is (t : Fin cfg0.N) : Is2 (n0 := 1) (n1 := 512) (iblk0 V c 5 t) (fun _ j => b j) := by
  intro j
  blk_simp [iblk0]
  refine (hb _).trans ?_
  · blk_simp [index0_5]

include hP hA hb in
/-- What the first grid step leaves, -/
theorem outs0_A_is (t : Fin cfg0.N) (h : t.val % 16 = 0) (h' : t.val = 0) :
    Is2 (n0 := 256) (n1 := 1024) (outsAt0 V c t.val t.isLt).1 (fun r e => oR P A b (256 * t.val + r) e)
    ∧ Is3 (n0 := 4) (n1 := 512) (n2 := 256) (outsAt0 V c t.val t.isLt).2.1 (fun c r e => stS P A b (4 * t.val + (c + 1)) (r / 128) (r % 128) e)
    ∧ Is2 (n0 := 512) (n1 := 256) (outsAt0 V c t.val t.isLt).2.2 (fun r e => stS P A b (4 * (t.val + 1)) (r / 128) (r % 128) e) := by
  rw [outsAt0_A V c t h]
  dsimp only
  exact ⟨out_A_is (t := t.val) c (grid0.coords t) _ _ _ _ _ _ _ _ _ _ _ _ _ _ _ _ _ _ (x0_0_is V c hP t) (x0_1_is V c hP t) (x0_2_is V c hP t) (x0_3_is V c hP t) (x0_4_is V c hA t) (x0_5_is V c hb t) h' ((hcond0_0 t).mpr h),
    st_A_is (t := t.val) c (grid0.coords t) _ _ _ _ _ _ _ _ _ _ _ _ _ _ _ _ _ _ (x0 := X0_0 V c t) (x0_1_is V c hP t) (x0_2_is V c hP t) (x0_3_is V c hP t) (x0_4_is V c hA t) (x0_5_is V c hb t) h' ((hcond0_0 t).mpr h),
    scr_A_is (t := t.val) c (grid0.coords t) _ _ _ _ _ _ _ _ _ _ _ _ _ _ _ _ _ _ (x0 := X0_0 V c t) (x0_1_is V c hP t) (x0_2_is V c hP t) (x0_3_is V c hP t) (x0_4_is V c hA t) (x0_5_is V c hb t) h' ((hcond0_0 t).mpr h)⟩

include hP hA hb in
/-- and a later one. -/
theorem outs0_B_is (t : Fin cfg0.N) (h : ¬t.val % 16 = 0)
    (hs : Is2 (n0 := 512) (n1 := 256) (outsAt0 V c (t.val - 1) (Nat.lt_of_le_of_lt (Nat.sub_le _ _) t.isLt)).2.2 (fun r e => stS P A b (4 * t.val) (r / 128) (r % 128) e)) :
    Is2 (n0 := 256) (n1 := 1024) (outsAt0 V c t.val t.isLt).1 (fun r e => oR P A b (256 * t.val + r) e)
    ∧ Is3 (n0 := 4) (n1 := 512) (n2 := 256) (outsAt0 V c t.val t.isLt).2.1 (fun c r e => stS P A b (4 * t.val + (c + 1)) (r / 128) (r % 128) e)
    ∧ Is2 (n0 := 512) (n1 := 256) (outsAt0 V c t.val t.isLt).2.2 (fun r e => stS P A b (4 * (t.val + 1)) (r / 128) (r % 128) e) := by
  rw [outsAt0_B V c t h]
  dsimp only
  exact ⟨out_B_is (t := t.val) c (grid0.coords t) _ _ _ _ _ _ _ _ _ _ _ _ _ _ _ _ _ _ (x0_0_is V c hP t) (x0_1_is V c hP t) (x0_2_is V c hP t) (x0_3_is V c hP t) (x0_4_is V c hA t) (x0_5_is V c hb t) hs (fun h' => h ((hcond0_0 t).mp h')),
    st_B_is (t := t.val) c (grid0.coords t) _ _ _ _ _ _ _ _ _ _ _ _ _ _ _ _ _ _ (x0 := X0_0 V c t) (x0_1_is V c hP t) (x0_2_is V c hP t) (x0_3_is V c hP t) (x0_4_is V c hA t) (x0_5_is V c hb t) hs (fun h' => h ((hcond0_0 t).mp h')),
    scr_B_is (t := t.val) c (grid0.coords t) _ _ _ _ _ _ _ _ _ _ _ _ _ _ _ _ _ _ (x0 := X0_0 V c t) (x0_1_is V c hP t) (x0_2_is V c hP t) (x0_3_is V c hP t) (x0_4_is V c hA t) (x0_5_is V c hb t) hs (fun h' => h ((hcond0_0 t).mp h'))⟩

include hP hA hb in
/-- The carried state after grid step `n`, -/
theorem carried0_is (n : ℕ) : ∀ hn : n < cfg0.N, Is2 (n0 := 512) (n1 := 256) (outsAt0 V c n hn).2.2 (fun r e => stS P A b (4 * (n + 1)) (r / 128) (r % 128) e) := by
  induction n with
  | zero => exact fun hn => (outs0_A_is V c hP hA hb ⟨0, hn⟩ (Nat.zero_mod _) rfl).2.2
  | succ n ih =>
    intro hn
    have hN : n + 1 < 16 := hn
    exact (outs0_B_is V c hP hA hb ⟨n + 1, hn⟩ (by show ¬(n + 1) % 16 = 0; omega) (ih _)).2.2

include hP hA hb in
/-- and the output's and the states' blocks. -/
theorem outs0_is (t : Fin cfg0.N) : Is2 (n0 := 256) (n1 := 1024) (outsAt0 V c t.val t.isLt).1 (fun r e => oR P A b (256 * t.val + r) e)
    ∧ Is3 (n0 := 4) (n1 := 512) (n2 := 256) (outsAt0 V c t.val t.isLt).2.1 (fun c r e => stS P A b (4 * t.val + (c + 1)) (r / 128) (r % 128) e) := by
  have hN : t.val < 16 := t.isLt
  by_cases h : t.val % 16 = 0
  · have := outs0_A_is V c hP hA hb t h (by omega)
    exact ⟨this.1, this.2.1⟩
  · have hs := carried0_is V c hP hA hb (t.val - 1) (Nat.lt_of_le_of_lt (Nat.sub_le _ _) t.isLt)
    rw [show t.val - 1 + 1 = t.val by omega] at hs
    have := outs0_B_is V c hP hA hb t h hs
    exact ⟨this.1, this.2.1⟩

include hP hA hb in
/-- The output, -/
theorem arr0_6_is : Is2 (n0 := 4096) (n1 := 1024) ((dat0 V c).arrAt 6 cfg0.N) (oR P A b) := by
  rw [(dat0 V c).arrAt_eq_of_covers 6 (fun y : S4096x1024.Idx => oR P A b (y 0).val (y 1).val) (by decide +kernel) fun t hf y => ?_]
  · exact fun _ => rfl
  · blk_simp
    rw [after0_6]
    refine ((outs0_is V c hP hA hb t).1 y).trans ?_
    blk_simp [index0_6]
    show oR P A b (256 * t.val + (y 0).val) (y 1).val = oR P A b (t.val * 256 + (y 0).val) (y 1).val
    rw [Nat.mul_comm]

include hP hA hb in
/-- and the states. -/
theorem arr0_7_is : Is3 (n0 := 64) (n1 := 512) (n2 := 256) ((dat0 V c).arrAt 7 cfg0.N) (fun N r e => stS P A b (N + 1) (r / 128) (r % 128) e) := by
  rw [(dat0 V c).arrAt_eq_of_covers 7 (fun y : S64x512x256.Idx => stS P A b ((y 0).val + 1) ((y 1).val / 128) ((y 1).val % 128) (y 2).val) (by decide +kernel) fun t hf y => ?_]
  · exact fun _ => rfl
  · blk_simp
    rw [after0_7]
    refine ((outs0_is V c hP hA hb t).2 y).trans ?_
    blk_simp [index0_7]
    show stS P A b (4 * t.val + ((y 0).val + 1)) ((y 1).val / 128) ((y 1).val % 128) (y 2).val = stS P A b (t.val * 4 + (y 0).val + 1) ((y 1).val / 128) ((y 1).val % 128) (y 2).val
    rw [show 4 * t.val + ((y 0).val + 1) = t.val * 4 + (y 0).val + 1 by omega]

end

end Cert.KernelIdeal.Gen

end
-- ==== Proof.Kern.BwdVal.lean ====
module

public import Idealize.ShloMosaic.Lib.Ring
public import proofs.«01_k».proof.Proof.Kern.BwdRun
public import proofs.«01_k».proof.Proof.Kern.FwdVal

@[expose] public section

set_option maxRecDepth 16384

noncomputable section

/-! # What one grid step of the backward call leaves

Step `t` works on the block of rows `256 * T`, where `T + t = 15`: the last block first. -/

namespace Cert.KernelIdeal.Gen

open Idealize.ShloMosaic Idealize.ShloMosaic.TcCoe Idealize.ShloMosaic.Tactic Cert.Val

attribute [local irreducible] stS dsS

section
variable (P A : ℕ → ℕ → EReal) (b : ℕ → EReal) (G X : ℕ → ℕ → EReal) (N h i d : ℕ) (hi : i < 64)

include hi in
theorem dpR_q (hh : h < 4) (hd : d < 128) : dpR P A b G X (64 * N + i) (128 * h + d) = dqS P A b G N h i d := by
  rw [dpR, if_pos (by omega), show (64 * N + i) / 64 = N by omega, show (64 * N + i) % 64 = i by omega,
    show (128 * h + d) / 128 = h by omega, show (128 * h + d) % 128 = d by omega]
include hi in
theorem dpR_k (hh : h < 4) (hd : d < 128) : dpR P A b G X (64 * N + i) (512 + 128 * h + d) = dkS P A b G N h i d := by
  rw [dpR, if_neg (by omega), if_pos (by omega), show (64 * N + i) / 64 = N by omega, show (64 * N + i) % 64 = i by omega,
    show (512 + 128 * h + d - 512) / 128 = h by omega, show (512 + 128 * h + d - 512) % 128 = d by omega]
include hi in
theorem dpR_v (hh : h < 4) (hd : d < 256) : dpR P A b G X (64 * N + i) (1024 + 256 * h + d) = dvS P A b G N h i d := by
  rw [dpR, if_neg (by omega), if_neg (by omega), if_pos (by omega), show (64 * N + i) / 64 = N by omega, show (64 * N + i) % 64 = i by omega,
    show (1024 + 256 * h + d - 1024) / 256 = h by omega, show (1024 + 256 * h + d - 1024) % 256 = d by omega]
include hi in
theorem dzR_at (hd : d < 128) : dzR P A b G (64 * N + i) (128 * h + d) = dzS P A b G N h i d := by
  rw [dzR, show (64 * N + i) / 64 = N by omega, show (64 * N + i) % 64 = i by omega,
    show (128 * h + d) / 128 = h by omega, show (128 * h + d) % 128 = d by omega]
end

section
variable {P A : ℕ → ℕ → EReal} {b : ℕ → EReal} {G : ℕ → ℕ → EReal} (X : ℕ → ℕ → EReal) {T t : ℕ} (hT : T + t = 15)

theorem sub_rh (L : ℕ → ℕ → EReal) (n : ℕ) (hn : n < 16) :
    sub (fun r j => L (256 * T + r) j) (rhOf n) (hdOf n) = blk L (4 * T + (3 - n / 4)) (128 * (n % 4)) := by
  rw [sub_blk, show (rhOf n).val = 3 - n / 4 by show 3 - n / 4 % 4 = 3 - n / 4; omega]

variable {z la : FVec Ideal S256x512 .f32} {q k : ℕ → Vec Ideal S64x128 .bf16} {v : ℕ → Vec Ideal S64x256 .bf16} {g : ℕ → Vec Ideal S64x256 .f32}
  {s sp : ℕ → FVec Ideal S128x256 .f32}
  {ld : ℕ → List (View.Piece (Elt Ideal) S512x256 .f32) → Vec Ideal S128x256 .f32} {base : List (View.Piece (Elt Ideal) S512x256 .f32)}
  (hz : Is2 z (fun r j => zS P A b (256 * T + r) j)) (hla : Is2 la (fun r j => laS P A b (256 * T + r) j))
  (hg : ∀ n, n < 16 → Is2 (g n) (blk G (4 * T + (3 - n / 4)) (256 * (n % 4))))
  (hq : ∀ n, n < 16 → Is2 (q n) (blk P (4 * T + (3 - n / 4)) (128 * (n % 4))))
  (hk : ∀ n, n < 16 → Is2 (k n) (blk P (4 * T + (3 - n / 4)) (512 + 128 * (n % 4))))
  (hv : ∀ n, n < 16 → Is2 (v n) (blk P (4 * T + (3 - n / 4)) (1024 + 256 * (n % 4))))
  (hs : ∀ n, n < 16 → Is2 (s n) (stS P A b (4 * T + (3 - n / 4) + 1) (n % 4)))
  (hsp : ∀ n, n < 16 → Is2 (sp n) (stS P A b (4 * T + (3 - n / 4)) (n % 4)))

include hT hla hg hq in
theorem bwd_step (n : ℕ) (hn : n < 16) (x : Vec Ideal S128x256 .f32) (hx : Is2 x (dsS P A b G (4 * t + n / 4) (n % 4))) :
    Is2 (passV la (rhOf n) (hdOf n) (totV (q n) (g n) x)) (dsS P A b G (4 * t + (n / 4 + 1)) (n % 4)) := by
  have := pass_is hla (rhOf n) (hdOf n) (tot_is (hq n hn) (hg n hn) hx)
  rw [sub_rh _ n hn] at this
  rw [← Nat.add_assoc, dsS, show 63 - (4 * t + n / 4) = 4 * T + (3 - n / 4) by omega]
  exact this

theorem dsL_eq (n : ℕ) : dsL la g q ld base n = genL (fun n x => passV la (rhOf n) (hdOf n) (totV (q n) (g n) x)) ld base n := by
  induction n with
  | zero => rfl
  | succ n ih => rw [dsL, genL, ih]

variable (hld : ∀ n, n < 16 → Is2 (ld n (dsL la g q ld base n)) (dsS P A b G (4 * t + n / 4) (n % 4)))

include hT hg hq hld in
/-- The gradient of the state after each pair's chunk. -/
theorem dtN_is (n : ℕ) (hn : n < 16) : Is2 (dtN la g q ld base n) (dtS P A b G (4 * T + (3 - n / 4)) (n % 4)) := by
  have := tot_is (hq n hn) (hg n hn) (hld n hn)
  rw [dtS, show 63 - (4 * T + (3 - n / 4)) = 4 * t + n / 4 by omega]
  exact this

variable (hdt : ∀ n, n < 16 → Is2 (dtN la g q ld base n) (dtS P A b G (4 * T + (3 - n / 4)) (n % 4)))

include hla hg hk hv hs hdt in
theorem dpL_pieces (n : ℕ) : n ≤ 16 → View.PiecesOf (Val := Elt Ideal) (e := .bf16) (fun y : S256x2048.Idx => dpR P A b G X (256 * T + (y 0).val) (y 1).val)
    (dpL la g q k v s ld base n) := by
  induction n with
  | zero => exact fun _ => trivial
  | succ n ih =>
    intro hn
    have hn' : n < 16 := by omega
    refine ⟨fun x => ?_, fun x => ?_, fun x => ?_, ih (by omega)⟩
    · have x0 : (x 0).val < 64 := (x 0).isLt
      have x1 : (x 1).val < 128 := (x 1).isLt
      refine (congrArg₂ (fun x y : EReal => x * y) (dkd_is (hv n hn') (hdt n hn') x) (w_is hla (rhOf n) (hdOf n) x)).trans ?_
      rw [sub_rh _ n hn']
      refine (dpR_k P A b G X (4 * T + (3 - n / 4)) (n % 4) (x 0).val (x 1).val x0 (by omega) x1).symm.trans ?_
      show dpR P A b G X _ _ = dpR P A b G X (256 * T + (64 * (3 - n / 4 % 4) + 1 * (x 0).val)) (512 + 128 * (n % 4) + 1 * (x 1).val)
      rw [show 256 * T + (64 * (3 - n / 4 % 4) + 1 * (x 0).val) = 64 * (4 * T + (3 - n / 4)) + (x 0).val by omega, Nat.one_mul]
    · have x0 : (x 0).val < 64 := (x 0).isLt
      have x1 : (x 1).val < 256 := (x 1).isLt
      refine (dv_is hla (rhOf n) (hdOf n) (hk n hn') (hdt n hn') x).trans ?_
      rw [sub_rh _ n hn']
      refine (dpR_v P A b G X (4 * T + (3 - n / 4)) (n % 4) (x 0).val (x 1).val x0 (by omega) x1).symm.trans ?_
      show dpR P A b G X _ _ = dpR P A b G X (256 * T + (64 * (3 - n / 4 % 4) + 1 * (x 0).val)) (1024 + 256 * (n % 4) + 1 * (x 1).val)
      rw [show 256 * T + (64 * (3 - n / 4 % 4) + 1 * (x 0).val) = 64 * (4 * T + (3 - n / 4)) + (x 0).val by omega, Nat.one_mul]
    · have x0 : (x 0).val < 64 := (x 0).isLt
      have x1 : (x 1).val < 128 := (x 1).isLt
      refine (dq_is (hg n hn') (hs n hn') x).trans ?_
      refine (dpR_q P A b G X (4 * T + (3 - n / 4)) (n % 4) (x 0).val (x 1).val x0 (by omega) x1).symm.trans ?_
      show dpR P A b G X _ _ = dpR P A b G X (256 * T + (64 * (3 - n / 4 % 4) + 1 * (x 0).val)) (128 * (n % 4) + 1 * (x 1).val)
      rw [show 256 * T + (64 * (3 - n / 4 % 4) + 1 * (x 0).val) = 64 * (4 * T + (3 - n / 4)) + (x 0).val by omega, Nat.one_mul]

include hz hla hk hv hsp hdt in
theorem dzL_pieces (n : ℕ) : n ≤ 16 → View.PiecesOf (Val := Elt Ideal) (e := .f32) (fun y : S256x512.Idx => dzR P A b G (256 * T + (y 0).val) (y 1).val)
    (dzL z la g q k v sp ld base n) := by
  induction n with
  | zero => exact fun _ => trivial
  | succ n ih =>
    intro hn
    have hn' : n < 16 := by omega
    refine ⟨fun x => ?_, ih (by omega)⟩
    have x0 : (x 0).val < 64 := (x 0).isLt
    have x1 : (x 1).val < 128 := (x 1).isLt
    have hdwt : Is2 (mulf (dkdV (v n) (dtN la g q ld base n)) (kdV la (rhOf n) (hdOf n) (k n)))
        (dwtP (blk (laS P A b) (4 * T + (3 - n / 4)) (128 * (n % 4))) (blk P (4 * T + (3 - n / 4)) (512 + 128 * (n % 4)))
          (blk P (4 * T + (3 - n / 4)) (1024 + 256 * (n % 4))) (dtS P A b G (4 * T + (3 - n / 4)) (n % 4))) := fun j => by
      refine (congrArg₂ (fun x y : EReal => x * y) (dkd_is (hv n hn') (hdt n hn') j) (kd_is hla (rhOf n) (hdOf n) (hk n hn') j)).trans ?_
      rw [sub_rh _ n hn']; rfl
    have hdx := dexp_is (hsp n hn') (hdt n hn')
    have hda := da_is hla (rhOf n) (hdOf n) hdwt hdx
    have h := dz_is hz (rhOf n) (hdOf n) hda
    rw [sub_rh _ n hn', sub_rh _ n hn'] at h
    refine (h x).trans ?_
    refine (dzR_at P A b G (4 * T + (3 - n / 4)) (n % 4) (x 0).val (x 1).val x0 x1).symm.trans ?_
    show dzR P A b G _ _ = dzR P A b G (256 * T + (64 * (3 - n / 4 % 4) + 1 * (x 0).val)) (128 * (n % 4) + 1 * (x 1).val)
    rw [show 256 * T + (64 * (3 - n / 4 % 4) + 1 * (x 0).val) = 64 * (4 * T + (3 - n / 4)) + (x 0).val by omega, Nat.one_mul]

theorem dzL_cover (y : S256x512.Idx) : ∃ p ∈ dzL z la g q k v sp ld base 16, y ∈ p.1.set :=
  View.cover_of_tiledL (dzL z la g q k v sp ld base 16) S64x128.size (by sl_kernel_rfl) y

include hz hla hk hv hsp hdt in
/-- The gradient before the activation, as the run reads it back. -/
theorem dzAll_is (arg16 : Memref sig .tc .vmem S256x512 .f32) :
    Is2 (dzAll arg16 (dzL z la g q k v sp ld base 16)) (fun r j => dzR P A b G (256 * T + r) j) := by
  unfold dzAll
  rw [View.readCov_eq_canon', canon_eq _ _ (dzL_pieces hz hla hk hv hsp hdt 16 le_rfl) dzL_cover]
  intro j
  show dzR P A b G (256 * T + (0 + 1 * (j 0).val)) (0 + 1 * (j 1).val) = _
  simp only [Nat.zero_add, Nat.one_mul]

end

/-- A block of the states, as a matrix. -/
theorem cast3_is {n0 c o : ℕ} {x : (⟨3, ![n0, 512, 256]⟩ : Shape).Idx → EReal} {f : ℕ → ℕ → ℕ → EReal} (hx : Is3 x f)
    (inb : ∀ a, (![c, o, 0] : Fin 3 → ℕ) a + S1x128x256.size a ≤ (⟨3, ![n0, 512, 256]⟩ : Shape).size a) :
    Is2 (n0 := 128) (n1 := 256) (shapeCast S128x256 (fun j : S1x128x256.Idx => x ((Rect.unit (s := ⟨3, ![n0, 512, 256]⟩) ![c, o, 0] S1x128x256.size inb).idx j))
      shapeCasts_S1x128x256_S128x256) (fun d e => f c (o + d) e) := by
  intro j
  have j0 : (j 0).val < 128 := (j 0).isLt
  have j1 : (j 1).val < 256 := (j 1).isLt
  refine (shapeCast_at _ shapeCasts_S1x128x256_S128x256 j (ValueIdx.ix3 ⟨0, Nat.one_pos⟩ ⟨(j 0).val, j0⟩ ⟨(j 1).val, j1⟩) ?_).trans ?_
  · rw [Shape.rowMajor_val_two, Shape.rowMajor_val_three]
    show (0 * 128 + (j 0).val) * 256 + (j 1).val = (j 0).val * 256 + (j 1).val
    omega
  · refine (hx _).trans ?_
    show f (c + 1 * 0) (o + 1 * (j 0).val) (0 + 1 * (j 1).val) = _
    simp only [Nat.mul_zero, Nat.add_zero, Nat.zero_add, Nat.one_mul]

theorem one_is : Ideal.ofBits .f32 0x3F800000#32 = (1 : EReal) := by simp [Ideal.ofBits, Ideal.ieee, -EReal.coe_mul]; norm_num

/-- The factor of the state before the first chunk of a block: zero at the sequence's start. -/
theorem first_is (i : grid1.Coords) : k1_pay12 (F := Ideal) i = if (i 0).val = 15 then (0 : EReal) else 1 := by
  have hi : (i 0).val < 16 := (i 0).isLt
  show Scalar.select (BitVec.ofBool (BitVec.ofNat 32 (i 0).val == BitVec.ofNat 32 15)) (FloatOps.ofBits .f32 0x00000000#32 : Ideal .f32) (Ideal.ofBits .f32 0x3F800000#32) = _
  rw [ofNat_beq (by omega) (by omega), select_bit, zero_is, one_is]

end Cert.KernelIdeal.Gen

end
-- ==== Proof.Kern.BwdOut.lean ====
module

public import proofs.«01_k».proof.Proof.Kern.BwdVal

@[expose] public section

set_option maxRecDepth 16384

noncomputable section

/-! # The stores of one grid step of the backward call, as values -/

namespace Cert.KernelIdeal.Gen

open Idealize.ShloMosaic Idealize.ShloMosaic.TcCoe Idealize.ShloMosaic.Tactic Cert.Val

attribute [local irreducible] stS dsS

/-- A buffer filled by one store. -/
theorem canon_whole2 {n0 n1 : ℕ} {ty : EltTy} (inb : ∀ i, (![0, 0] : Fin 2 → ℕ) i + (⟨2, ![n0, n1]⟩ : Shape).size i ≤ (⟨2, ![n0, n1]⟩ : Shape).size i)
    (Z : Vec Ideal ⟨2, ![n0, n1]⟩ ty) (L : List (View.Piece (Elt Ideal) ⟨2, ![n0, n1]⟩ ty)) :
    View.canon (⟨Rect.unit ![0, 0] (⟨2, ![n0, n1]⟩ : Shape).size inb, Z⟩ :: L) = Z :=
  View.canon_cons_unit_lit inb Z L (fun a => by fin_cases a <;> rfl)

section
variable {P A : ℕ → ℕ → EReal} {b : ℕ → EReal} {G : ℕ → ℕ → EReal} (X : ℕ → ℕ → EReal) {T t : ℕ} (hT : T + t = 15)
  (c : Dev nD) (i : grid1.Coords) (arg1 : Memref sig .tc .vmem S256x1024 .f32) (harg1 : arg1.IsWhole) (arg2 : Memref sig .tc .vmem S256x512 .bf16) (harg2 : arg2.IsWhole) (arg3 : Memref sig .tc .vmem S256x512 .bf16) (harg3 : arg3.IsWhole) (arg4 : Memref sig .tc .vmem S256x1024 .bf16) (harg4 : arg4.IsWhole) (arg5 : Memref sig .tc .vmem S256x128 .bf16) (harg5 : arg5.IsWhole) (arg6 : Memref sig .tc .vmem S4x512x256 .f32) (harg6 : arg6.IsWhole) (arg7 : Memref sig .tc .vmem S1x512x256 .f32) (harg7 : arg7.IsWhole) (arg8 : Memref sig .tc .vmem S128x512 .f32) (harg8 : arg8.IsWhole) (arg9 : Memref sig .tc .vmem S1x512 .f32) (harg9 : arg9.IsWhole) (arg11 : Memref sig .tc .vmem S256x2048 .bf16) (harg11 : arg11.IsWhole) (arg12 : Memref sig .tc .vmem S256x128 .bf16) (harg12 : arg12.IsWhole) (arg13 : Memref sig .tc .vmem S128x512 .f32) (harg13 : arg13.IsWhole) (arg14 : Memref sig .tc .vmem S1x512 .f32) (harg14 : arg14.IsWhole) (arg15 : Memref sig .tc .vmem S512x256 .f32) (harg15 : arg15.IsWhole) (arg16 : Memref sig .tc .vmem S256x512 .f32) (harg16 : arg16.IsWhole)
  {x0 : Vec Ideal S256x1024 .f32} {x1 : Vec Ideal S256x512 .bf16} {x2 : Vec Ideal S256x512 .bf16} {x3 : Vec Ideal S256x1024 .bf16} {x4 : Vec Ideal S256x128 .bf16} {x5 : Vec Ideal S4x512x256 .f32} {x6 : Vec Ideal S1x512x256 .f32} {x7 : Vec Ideal S128x512 .f32} {x8 : Vec Ideal S1x512 .f32} {xo11 : Vec Ideal S128x512 .f32} {xo12 : Vec Ideal S1x512 .f32} {xs0 : Vec Ideal S512x256 .f32}
  (h0 : Is2 x0 (fun r j => G (256 * T + r) j)) (h1 : Is2 x1 (fun r j => P (256 * T + r) j)) (h2 : Is2 x2 (fun r j => P (256 * T + r) (512 + j)))
  (h3 : Is2 x3 (fun r j => P (256 * T + r) (1024 + j))) (h4 : Is2 x4 (fun r j => P (256 * T + r) (10240 + j)))
  (h5 : Is3 x5 (fun c r e => stS P A b (4 * T + (c + 1)) (r / 128) (r % 128) e))
  (h6 : 0 < T → Is3 x6 (fun _ r e => stS P A b (4 * T) (r / 128) (r % 128) e))
  (h7 : Is2 x7 (padA A)) (h8 : Is2 x8 (fun _ j => b j)) (hi : (i 0).val = t)
  (hxs : Is2 xs0 (fun r e => dsS P A b G (4 * t) (r / 128) (r % 128) e))

/-- The blocks the step loads: of queries or keys, -/
theorem rdK_is {o : ℕ} (B : Memref sig .tc .vmem S256x512 .bf16) (hB : B.IsWhole) {x : Vec Ideal S256x512 .bf16} (hx : Is2 x (fun r j => P (256 * T + r) (o + j)))
    (n : ℕ) (hn : n < 16) : Is2 (rdK B hB x n) (blk P (4 * T + (3 - n / 4)) (o + 128 * (n % 4))) := by
  unfold rdK
  rw [readAt_box]
  refine (box_is hx _).congr fun i d _ _ => ?_
  show P (256 * T + (64 * (3 - n / 4 % 4) + i)) (o + (128 * (n % 4) + d)) = P (64 * (4 * T + (3 - n / 4)) + i) (o + 128 * (n % 4) + d)
  congr 1 <;> omega

/-- of values or outputs' gradients, -/
theorem boxV_at {Q : ℕ → ℕ → EReal} {o : ℕ} {x : S256x1024.Idx → EReal} (hx : Is2 (n0 := 256) (n1 := 1024) x (fun r j => Q (256 * T + r) (o + j)))
    (n : ℕ) (hn : n < 16) : Is2 (n0 := 64) (n1 := 256) (fun j => x ((boxV (rhOf n) (hdOf n)).idx j)) (blk Q (4 * T + (3 - n / 4)) (o + 256 * (n % 4))) := by
  refine (box_is hx _).congr fun i d _ _ => ?_
  show Q (256 * T + (64 * (3 - n / 4 % 4) + i)) (o + (256 * (n % 4) + d)) = Q (64 * (4 * T + (3 - n / 4)) + i) (o + 256 * (n % 4) + d)
  congr 1 <;> omega

include h5 in
/-- of the states after the chunk, -/
theorem rdS_is (n : ℕ) (hn : n < 16) : Is2 (rdS arg6 harg6 x5 n) (stS P A b (4 * T + (3 - n / 4) + 1) (n % 4)) := by
  unfold rdS
  rw [readAt_box]
  refine (cast3_is h5 _).congr fun d e hd _ => ?_
  show stS P A b (4 * T + ((3 - n / 4 % 4) + 1)) ((128 * (n % 4) + d) / 128) ((128 * (n % 4) + d) % 128) e = _
  rw [show 4 * T + ((3 - n / 4 % 4) + 1) = 4 * T + (3 - n / 4) + 1 by omega, show (128 * (n % 4) + d) / 128 = n % 4 by omega, show (128 * (n % 4) + d) % 128 = d by omega]

include hT h5 h6 hi in
/-- and of the states before it. -/
theorem rdP_is (n : ℕ) (hn : n < 16) : Is2 (rdP i arg6 harg6 arg7 harg7 x5 x6 n) (stS P A b (4 * T + (3 - n / 4)) (n % 4)) := by
  by_cases h12 : n < 12
  · have e : Nat.blt n 12 = true := by simpa [Nat.blt] using h12
    unfold rdP
    rw [e, cond_true, readAt_box]
    refine (cast3_is h5 _).congr fun d e hd _ => ?_
    show stS P A b (4 * T + ((2 - n / 4 % 4) + 1)) ((128 * (n % 4) + d) / 128) ((128 * (n % 4) + d) % 128) e = _
    rw [show 4 * T + ((2 - n / 4 % 4) + 1) = 4 * T + (3 - n / 4) by omega, show (128 * (n % 4) + d) / 128 = n % 4 by omega, show (128 * (n % 4) + d) % 128 = d by omega]
  · have e : Nat.blt n 12 = false := Bool.eq_false_iff.mpr fun hb => h12 (by simpa [Nat.blt] using hb)
    unfold rdP
    rw [e, cond_false, readAt_box]
    intro j
    have j0 : (j 0).val < 128 := (j 0).isLt
    refine (congrArg (fun y : EReal => (_ : EReal) * y) (first_is i)).trans ?_
    rw [show 4 * T + (3 - n / 4) = 4 * T by omega]
    by_cases hT0 : T = 0
    · rw [if_pos (by omega), mul_zero, hT0, Nat.mul_zero, stS]
    · rw [if_neg (by omega), mul_one]
      refine (cast3_is (h6 (by omega)) _ j).trans ?_
      show stS P A b (4 * T) ((128 * (n % 4) + (j 0).val) / 128) ((128 * (n % 4) + (j 0).val) % 128) (j 1).val = _
      rw [show (128 * (n % 4) + (j 0).val) / 128 = n % 4 by omega, show (128 * (n % 4) + (j 0).val) % 128 = (j 0).val by omega]

include h4 h7 h8 in
theorem zRun_is : Is2 (zRun arg5 harg5 arg8 harg8 arg9 harg9 x4 x7 x8) (fun r j => zS P A b (256 * T + r) j) := by
  unfold zRun
  rw [readAt_all arg5 harg5 x4, readAt_all arg8 harg8 x7, readAt_all arg9 harg9 x8]
  exact (gate_is h4 h7 h8).congr fun r j _ _ => gate_pad P A b T r j

theorem baseD_is {W : ℕ → Vec Ideal S128x256 .f32 → Vec Ideal S128x256 .f32} {ld} (h : Fin 4) :
    Is2 (headL W ld (baseD (F := Ideal)) 0 h) (fun _ _ => 0) := by
  intro j
  show View.canon baseD ((boxS h).idx j) = 0
  rw [View.canon_cons_unit_lit]
  · exact (show Is2 (k1_pay4 (F := Ideal)) (fun _ _ => 0) from same_is (fun _ => zero_is) shapeCasts_S512x256_S512x256) _
  · decide

theorem zero_col {n0 n1 : ℕ} {Q : ℕ → ℕ → EReal} {x : (⟨2, ![n0, n1]⟩ : Shape).Idx → EReal} (hx : Is2 x (fun r j => Q (256 * T + r) j)) :
    Is2 x (fun r j => Q (256 * T + r) (0 + j)) := hx.congr fun _ _ _ _ => by rw [Nat.zero_add]

include h1 in
theorem q_is (n : ℕ) (hn : n < 16) : Is2 (rdK arg2 harg2 x1 n) (blk P (4 * T + (3 - n / 4)) (128 * (n % 4))) := by
  have := rdK_is arg2 harg2 (zero_col h1) n hn
  rwa [Nat.zero_add] at this
include h0 in
theorem g_is (n : ℕ) (hn : n < 16) : Is2 (rdV arg1 harg1 x0 n) (blk G (4 * T + (3 - n / 4)) (256 * (n % 4))) := by
  unfold rdV
  rw [readAt_box]
  have := boxV_at (zero_col h0) n hn
  rwa [Nat.zero_add] at this
include h3 in
theorem v_is (n : ℕ) (hn : n < 16) : Is2 (rdV arg4 harg4 x3 n) (blk P (4 * T + (3 - n / 4)) (1024 + 256 * (n % 4))) := by
  unfold rdV
  rw [readAt_box]
  exact boxV_at h3 n hn

include hT h0 h1 h4 h7 h8 in
theorem ldA1_is (ht : t = 0) (n : ℕ) (hn : n < 16) :
    Is2 (ldA arg15 n (dsL (laRun arg5 harg5 arg8 harg8 arg9 harg9 x4 x7 x8) (rdV arg1 harg1 x0) (rdK arg2 harg2 x1) (ldA arg15) baseD n)) (dsS P A b G (4 * t + n / 4) (n % 4)) := by
  rw [dsL_eq]
  refine load_is (X := fun m h => dsS P A b G (4 * t + m) h) (fun n hn s hs => bwd_step hT (laRun_is _ _ _ _ _ _ h4 h7 h8) (g_is _ _ h0) (q_is _ _ h1) n hn s hs) True (fun _ h => ?_) (fun n hn h => ?_) n hn
  · subst ht; unfold dsS; exact baseD_is h
  · unfold ldA; rw [View.readCov_eq_canon']; exact h (.inl trivial)

include hT h0 h1 h4 h7 h8 hxs in
theorem ldB1_is (n : ℕ) (hn : n < 16) :
    Is2 (ldB arg15 harg15 xs0 n (dsL (laRun arg5 harg5 arg8 harg8 arg9 harg9 x4 x7 x8) (rdV arg1 harg1 x0) (rdK arg2 harg2 x1) (ldB arg15 harg15 xs0) [] n)) (dsS P A b G (4 * t + n / 4) (n % 4)) := by
  rw [dsL_eq]
  exact load_is (X := fun m h => dsS P A b G (4 * t + m) h) (fun n hn s hs => bwd_step hT (laRun_is _ _ _ _ _ _ h4 h7 h8) (g_is _ _ h0) (q_is _ _ h1) n hn s hs) False
    (fun h => h.elim) (fun n hn h => ldB_is arg15 harg15 (X := fun m h => dsS P A b G (4 * t + m) h) hxs n hn h) n hn

section
variable {ld : ℕ → List (View.Piece (Elt Ideal) S512x256 .f32) → Vec Ideal S128x256 .f32} {base : List (View.Piece (Elt Ideal) S512x256 .f32)}
  (hld : ∀ n, n < 16 → Is2 (ld n (dsL (laRun arg5 harg5 arg8 harg8 arg9 harg9 x4 x7 x8) (rdV arg1 harg1 x0) (rdK arg2 harg2 x1) ld base n)) (dsS P A b G (4 * t + n / 4) (n % 4)))

include hT h0 h1 h2 h3 h4 h5 h7 h8 hld in
/-- The gradients of queries, keys and values, -/
theorem dp_step : View.PiecesOf (Val := Elt Ideal) (e := .bf16) (fun y : S256x2048.Idx => dpR P A b G X (256 * T + (y 0).val) (y 1).val)
    (dpL (laRun arg5 harg5 arg8 harg8 arg9 harg9 x4 x7 x8) (rdV arg1 harg1 x0) (rdK arg2 harg2 x1) (rdK arg3 harg3 x2) (rdV arg4 harg4 x3) (rdS arg6 harg6 x5) ld base 16) :=
  dpL_pieces X (laRun_is _ _ _ _ _ _ h4 h7 h8) (g_is _ _ h0) (rdK_is _ _ h2) (v_is _ _ h3) (rdS_is _ _ h5)
    (dtN_is hT (g_is _ _ h0) (q_is _ _ h1) hld) 16 le_rfl

include hT h0 h1 h2 h3 h4 h5 h6 h7 h8 hi hld in
/-- and of the gates before their activation. -/
theorem dz_step : Is2 (dzAll arg16 (dzL (zRun arg5 harg5 arg8 harg8 arg9 harg9 x4 x7 x8) (laRun arg5 harg5 arg8 harg8 arg9 harg9 x4 x7 x8) (rdV arg1 harg1 x0) (rdK arg2 harg2 x1) (rdK arg3 harg3 x2) (rdV arg4 harg4 x3) (rdP i arg6 harg6 arg7 harg7 x5 x6) ld base 16))
    (fun r j => dzR P A b G (256 * T + r) j) :=
  dzAll_is (zRun_is _ _ _ _ _ _ h4 h7 h8) (laRun_is _ _ _ _ _ _ h4 h7 h8) (rdK_is _ _ h2) (v_is _ _ h3) (rdP_is hT i _ _ _ _ h5 h6 hi)
    (dtN_is hT (g_is _ _ h0) (q_is _ _ h1) hld) arg16

end

include hT h0 h1 h2 h3 h4 h5 h7 h8 in
/-- What a first grid step leaves of the gradients of queries, keys and values, -/
theorem dp_A_is (ht : t = 0) (hc0 : cond1_0 i) : Is2 (n0 := 256) (n1 := 2048) (out1_A_9 c i arg1 harg1 arg2 harg2 arg3 harg3 arg4 harg4 arg5 harg5 arg6 harg6 arg7 harg7 arg8 harg8 arg9 harg9 arg11 harg11 arg12 harg12 arg13 harg13 arg14 harg14 arg15 harg15 arg16 harg16 hc0 x0 x1 x2 x3 x4 x5 x6 x7 x8) (fun r j => dpR P A b G X (256 * T + r) j) := by
  unfold out1_A_9
  rw [View.read_writes_junk_eq_canon, canon_eq _ _ (by
    rw [dp1_A]
    exact dp_step X hT arg1 harg1 arg2 harg2 arg3 harg3 arg4 harg4 arg5 harg5 arg6 harg6 arg8 harg8 arg9 harg9 h0 h1 h2 h3 h4 h5 h7 h8 (ldA1_is hT arg1 harg1 arg2 harg2 arg5 harg5 arg8 harg8 arg9 harg9 arg15 h0 h1 h4 h7 h8 ht)) (cover1_A_9 c i arg1 harg1 arg2 harg2 arg3 harg3 arg4 harg4 arg5 harg5 arg6 harg6 arg7 harg7 arg8 harg8 arg9 harg9 arg11 harg11 arg12 harg12 arg13 harg13 arg14 harg14 arg15 harg15 arg16 harg16 hc0 x0 x1 x2 x3 x4 x5 x6 x7 x8)]
  exact fun _ => rfl

include hT h0 h1 h2 h3 h4 h5 h6 h7 h8 hi in
/-- of the low-rank projections' gradient, -/
theorem dlr_A_is (ht : t = 0) (hc0 : cond1_0 i) : Is2 (n0 := 256) (n1 := 128) (out1_A_10 c i arg1 harg1 arg2 harg2 arg3 harg3 arg4 harg4 arg5 harg5 arg6 harg6 arg7 harg7 arg8 harg8 arg9 harg9 arg11 harg11 arg12 harg12 arg13 harg13 arg14 harg14 arg15 harg15 arg16 harg16 hc0 x0 x1 x2 x3 x4 x5 x6 x7 x8) (fun r a => ∑ j ∈ Finset.range 512, dzR P A b G (256 * T + r) j * padA A a j) := by
  unfold out1_A_10
  rw [View.read_writes_junk_eq_canon, dlr1_A, canon_whole2, readAt_all arg8 harg8 x7]
  exact dlr_is h7 (dz_step hT i arg1 harg1 arg2 harg2 arg3 harg3 arg4 harg4 arg5 harg5 arg6 harg6 arg7 harg7 arg8 harg8 arg9 harg9 arg16 h0 h1 h2 h3 h4 h5 h6 h7 h8 hi (ldA1_is hT arg1 harg1 arg2 harg2 arg5 harg5 arg8 harg8 arg9 harg9 arg15 h0 h1 h4 h7 h8 ht))

include hT h0 h1 h2 h3 h4 h5 h6 h7 h8 hi in
/-- of the gate's weights' gradient, -/
theorem dwa_A_is (ht : t = 0) (hc0 : cond1_0 i) : Is2 (n0 := 128) (n1 := 512) (out1_A_11 c i arg1 harg1 arg2 harg2 arg3 harg3 arg4 harg4 arg5 harg5 arg6 harg6 arg7 harg7 arg8 harg8 arg9 harg9 arg11 harg11 arg12 harg12 arg13 harg13 arg14 harg14 arg15 harg15 arg16 harg16 hc0 x0 x1 x2 x3 x4 x5 x6 x7 x8) (fun a j => 0 + ∑ r ∈ Finset.range 256, P (256 * T + r) (10240 + a) * dzR P A b G (256 * T + r) j) := by
  unfold out1_A_11
  rw [View.read_writes_junk_eq_canon, dwa1_A, canon_whole2, readAt_all arg5 harg5 x4, View.readCov_cons_toLoadRect]
  exact dwa_is h4 (dz_step hT i arg1 harg1 arg2 harg2 arg3 harg3 arg4 harg4 arg5 harg5 arg6 harg6 arg7 harg7 arg8 harg8 arg9 harg9 arg16 h0 h1 h2 h3 h4 h5 h6 h7 h8 hi (ldA1_is hT arg1 harg1 arg2 harg2 arg5 harg5 arg8 harg8 arg9 harg9 arg15 h0 h1 h4 h7 h8 ht)) zeros_is.1

include hT h0 h1 h2 h3 h4 h5 h6 h7 h8 hi in
/-- of the bias's gradient, -/
theorem dba_A_is (ht : t = 0) (hc0 : cond1_0 i) : Is2 (n0 := 1) (n1 := 512) (out1_A_12 c i arg1 harg1 arg2 harg2 arg3 harg3 arg4 harg4 arg5 harg5 arg6 harg6 arg7 harg7 arg8 harg8 arg9 harg9 arg11 harg11 arg12 harg12 arg13 harg13 arg14 harg14 arg15 harg15 arg16 harg16 hc0 x0 x1 x2 x3 x4 x5 x6 x7 x8) (fun _ j => 0 + ∑ r ∈ Finset.range 256, dzR P A b G (256 * T + r) j) := by
  unfold out1_A_12
  rw [View.read_writes_junk_eq_canon, dba1_A, canon_whole2, View.readCov_cons_toLoadRect]
  exact dba_is (dz_step hT i arg1 harg1 arg2 harg2 arg3 harg3 arg4 harg4 arg5 harg5 arg6 harg6 arg7 harg7 arg8 harg8 arg9 harg9 arg16 h0 h1 h2 h3 h4 h5 h6 h7 h8 hi (ldA1_is hT arg1 harg1 arg2 harg2 arg5 harg5 arg8 harg8 arg9 harg9 arg15 h0 h1 h4 h7 h8 ht)) zeros_is.2.1

include hT h0 h1 h4 h7 h8 in
/-- and of the carried gradient of the state. -/
theorem ds_A_is (ht : t = 0) (hc0 : cond1_0 i) : Is2 (n0 := 512) (n1 := 256) (sout1_A_0 c i arg1 harg1 arg2 harg2 arg3 harg3 arg4 harg4 arg5 harg5 arg6 harg6 arg7 harg7 arg8 harg8 arg9 harg9 arg11 harg11 arg12 harg12 arg13 harg13 arg14 harg14 arg15 harg15 arg16 harg16 hc0 x0 x1 x2 x3 x4 x5 x6 x7 x8) (fun r e => dsS P A b G (4 * (t + 1)) (r / 128) (r % 128) e) := by
  unfold sout1_A_0
  rw [View.read_writes_junk_eq_canon, ds1_A, dsL_eq]
  refine left_is (X := fun m h => dsS P A b G (4 * t + m) h) (fun n hn s hs => bwd_step hT (laRun_is arg5 harg5 arg8 harg8 arg9 harg9 h4 h7 h8) (g_is arg1 harg1 h0) (q_is arg2 harg2 h1) n hn s hs) True
    (fun h'' h => ?_) (fun n hn h => ?_)
  · subst ht; unfold dsS; exact baseD_is h
  · unfold ldA; rw [View.readCov_eq_canon']; exact h (.inl trivial)

include hT h0 h1 h2 h3 h4 h5 h7 h8 hxs in
/-- What a later grid step leaves of the gradients of queries, keys and values, -/
theorem dp_B_is (hc0 : ¬cond1_0 i) : Is2 (n0 := 256) (n1 := 2048) (out1_B_9 c i arg1 harg1 arg2 harg2 arg3 harg3 arg4 harg4 arg5 harg5 arg6 harg6 arg7 harg7 arg8 harg8 arg9 harg9 arg11 harg11 arg12 harg12 arg13 harg13 arg14 harg14 arg15 harg15 arg16 harg16 hc0 x0 x1 x2 x3 x4 x5 x6 x7 x8 xo11 xo12 xs0) (fun r j => dpR P A b G X (256 * T + r) j) := by
  unfold out1_B_9
  rw [View.read_writes_junk_eq_canon, canon_eq _ _ (by
    rw [dp1_B]
    exact dp_step X hT arg1 harg1 arg2 harg2 arg3 harg3 arg4 harg4 arg5 harg5 arg6 harg6 arg8 harg8 arg9 harg9 h0 h1 h2 h3 h4 h5 h7 h8 (ldB1_is hT arg1 harg1 arg2 harg2 arg5 harg5 arg8 harg8 arg9 harg9 arg15 harg15 h0 h1 h4 h7 h8 hxs)) (cover1_B_9 c i arg1 harg1 arg2 harg2 arg3 harg3 arg4 harg4 arg5 harg5 arg6 harg6 arg7 harg7 arg8 harg8 arg9 harg9 arg11 harg11 arg12 harg12 arg13 harg13 arg14 harg14 arg15 harg15 arg16 harg16 hc0 x0 x1 x2 x3 x4 x5 x6 x7 x8 xo11 xo12 xs0)]
  exact fun _ => rfl

include hT h0 h1 h2 h3 h4 h5 h6 h7 h8 hi hxs in
/-- of the low-rank projections' gradient, -/
theorem dlr_B_is (hc0 : ¬cond1_0 i) : Is2 (n0 := 256) (n1 := 128) (out1_B_10 c i arg1 harg1 arg2 harg2 arg3 harg3 arg4 harg4 arg5 harg5 arg6 harg6 arg7 harg7 arg8 harg8 arg9 harg9 arg11 harg11 arg12 harg12 arg13 harg13 arg14 harg14 arg15 harg15 arg16 harg16 hc0 x0 x1 x2 x3 x4 x5 x6 x7 x8 xo11 xo12 xs0) (fun r a => ∑ j ∈ Finset.range 512, dzR P A b G (256 * T + r) j * padA A a j) := by
  unfold out1_B_10
  rw [View.read_writes_junk_eq_canon, dlr1_B, canon_whole2, readAt_all arg8 harg8 x7]
  exact dlr_is h7 (dz_step hT i arg1 harg1 arg2 harg2 arg3 harg3 arg4 harg4 arg5 harg5 arg6 harg6 arg7 harg7 arg8 harg8 arg9 harg9 arg16 h0 h1 h2 h3 h4 h5 h6 h7 h8 hi (ldB1_is hT arg1 harg1 arg2 harg2 arg5 harg5 arg8 harg8 arg9 harg9 arg15 harg15 h0 h1 h4 h7 h8 hxs))

include hT h0 h1 h2 h3 h4 h5 h6 h7 h8 hi hxs in
/-- of the gate's weights' gradient, -/
theorem dwa_B_is (hc0 : ¬cond1_0 i) {fo : ℕ → ℕ → EReal} (ho : Is2 xo11 fo) : Is2 (n0 := 128) (n1 := 512) (out1_B_11 c i arg1 harg1 arg2 harg2 arg3 harg3 arg4 harg4 arg5 harg5 arg6 harg6 arg7 harg7 arg8 harg8 arg9 harg9 arg11 harg11 arg12 harg12 arg13 harg13 arg14 harg14 arg15 harg15 arg16 harg16 hc0 x0 x1 x2 x3 x4 x5 x6 x7 x8 xo11 xo12 xs0) (fun a j => fo a j + ∑ r ∈ Finset.range 256, P (256 * T + r) (10240 + a) * dzR P A b G (256 * T + r) j) := by
  unfold out1_B_11
  rw [View.read_writes_junk_eq_canon, dwa1_B, canon_whole2, readAt_all arg5 harg5 x4, readAt_all arg13 harg13 xo11]
  exact dwa_is h4 (dz_step hT i arg1 harg1 arg2 harg2 arg3 harg3 arg4 harg4 arg5 harg5 arg6 harg6 arg7 harg7 arg8 harg8 arg9 harg9 arg16 h0 h1 h2 h3 h4 h5 h6 h7 h8 hi (ldB1_is hT arg1 harg1 arg2 harg2 arg5 harg5 arg8 harg8 arg9 harg9 arg15 harg15 h0 h1 h4 h7 h8 hxs)) ho

include hT h0 h1 h2 h3 h4 h5 h6 h7 h8 hi hxs in
/-- of the bias's gradient, -/
theorem dba_B_is (hc0 : ¬cond1_0 i) {fo : ℕ → ℕ → EReal} (ho : Is2 xo12 fo) : Is2 (n0 := 1) (n1 := 512) (out1_B_12 c i arg1 harg1 arg2 harg2 arg3 harg3 arg4 harg4 arg5 harg5 arg6 harg6 arg7 harg7 arg8 harg8 arg9 harg9 arg11 harg11 arg12 harg12 arg13 harg13 arg14 harg14 arg15 harg15 arg16 harg16 hc0 x0 x1 x2 x3 x4 x5 x6 x7 x8 xo11 xo12 xs0) (fun a j => fo a j + ∑ r ∈ Finset.range 256, dzR P A b G (256 * T + r) j) := by
  unfold out1_B_12
  rw [View.read_writes_junk_eq_canon, dba1_B, canon_whole2, readAt_all arg14 harg14 xo12]
  exact dba_is (dz_step hT i arg1 harg1 arg2 harg2 arg3 harg3 arg4 harg4 arg5 harg5 arg6 harg6 arg7 harg7 arg8 harg8 arg9 harg9 arg16 h0 h1 h2 h3 h4 h5 h6 h7 h8 hi (ldB1_is hT arg1 harg1 arg2 harg2 arg5 harg5 arg8 harg8 arg9 harg9 arg15 harg15 h0 h1 h4 h7 h8 hxs)) ho

include hT h0 h1 h4 h7 h8 hxs in
/-- and of the carried gradient of the state. -/
theorem ds_B_is (hc0 : ¬cond1_0 i) : Is2 (n0 := 512) (n1 := 256) (sout1_B_0 c i arg1 harg1 arg2 harg2 arg3 harg3 arg4 harg4 arg5 harg5 arg6 harg6 arg7 harg7 arg8 harg8 arg9 harg9 arg11 harg11 arg12 harg12 arg13 harg13 arg14 harg14 arg15 harg15 arg16 harg16 hc0 x0 x1 x2 x3 x4 x5 x6 x7 x8 xo11 xo12 xs0) (fun r e => dsS P A b G (4 * (t + 1)) (r / 128) (r % 128) e) := by
  unfold sout1_B_0
  rw [View.read_writes_junk_eq_canon, ds1_B, dsL_eq]
  refine left_is (X := fun m h => dsS P A b G (4 * t + m) h) (fun n hn s hs => bwd_step hT (laRun_is arg5 harg5 arg8 harg8 arg9 harg9 h4 h7 h8) (g_is arg1 harg1 h0) (q_is arg2 harg2 h1) n hn s hs) False
    (fun h'' h => ?_) (fun n hn h => ?_)
  · exact h''.elim
  · exact ldB_is arg15 harg15 (X := fun m h => dsS P A b G (4 * t + m) h) hxs n hn h

end

end Cert.KernelIdeal.Gen

end
-- ==== Proof.Kern.BwdArr.lean ====
module

public import Idealize.ShloMosaic.Lib.Pipeline.ValueKit
public import proofs.«01_k».proof.Proof.Kern.BwdOut

@[expose] public section

set_option maxRecDepth 16384

noncomputable section

/-! # The backward call's arrays -/

namespace Cert.KernelIdeal.Gen

open Idealize.ShloMosaic Idealize.ShloMosaic.TcCoe Idealize.ShloMosaic.Tactic Cert.Val

theorem index1_0 : ∀ t : Fin cfg1.N, win1_0.index t = ![15 - t.val, 0] := (by decide +kernel : ∀ t : Fin grid1.N, win1_0.index t = ![15 - t.val, 0])
theorem index1_1 : ∀ t : Fin cfg1.N, win1_1.index t = ![15 - t.val, 0] := (by decide +kernel : ∀ t : Fin grid1.N, win1_1.index t = ![15 - t.val, 0])
theorem index1_2 : ∀ t : Fin cfg1.N, win1_2.index t = ![15 - t.val, 1] := (by decide +kernel : ∀ t : Fin grid1.N, win1_2.index t = ![15 - t.val, 1])
theorem index1_3 : ∀ t : Fin cfg1.N, win1_3.index t = ![15 - t.val, 1] := (by decide +kernel : ∀ t : Fin grid1.N, win1_3.index t = ![15 - t.val, 1])
theorem index1_4 : ∀ t : Fin cfg1.N, win1_4.index t = ![15 - t.val, 80] := (by decide +kernel : ∀ t : Fin grid1.N, win1_4.index t = ![15 - t.val, 80])
theorem index1_5 : ∀ t : Fin cfg1.N, win1_5.index t = ![15 - t.val, 0, 0] := (by decide +kernel : ∀ t : Fin grid1.N, win1_5.index t = ![15 - t.val, 0, 0])
theorem index1_6 : ∀ t : Fin cfg1.N, win1_6.index t = ![4 * (15 - t.val) - 1, 0, 0] := (by decide +kernel : ∀ t : Fin grid1.N, win1_6.index t = ![4 * (15 - t.val) - 1, 0, 0])
theorem index1_7 : ∀ t : Fin cfg1.N, win1_7.index t = ![0, 0] := (by decide +kernel : ∀ t : Fin grid1.N, win1_7.index t = ![0, 0])
theorem index1_8 : ∀ t : Fin cfg1.N, win1_8.index t = ![0, 0] := (by decide +kernel : ∀ t : Fin grid1.N, win1_8.index t = ![0, 0])
theorem index1_9 : ∀ t : Fin cfg1.N, win1_9.index t = ![15 - t.val, 0] := (by decide +kernel : ∀ t : Fin grid1.N, win1_9.index t = ![15 - t.val, 0])
theorem index1_10 : ∀ t : Fin cfg1.N, win1_10.index t = ![15 - t.val, 0] := (by decide +kernel : ∀ t : Fin grid1.N, win1_10.index t = ![15 - t.val, 0])
theorem index1_11 : ∀ t : Fin cfg1.N, win1_11.index t = ![0, 0] := (by decide +kernel : ∀ t : Fin grid1.N, win1_11.index t = ![0, 0])
theorem index1_12 : ∀ t : Fin cfg1.N, win1_12.index t = ![0, 0] := (by decide +kernel : ∀ t : Fin grid1.N, win1_12.index t = ![0, 0])
theorem coord1 : ∀ t : Fin cfg1.N, (grid1.coords t 0).val = t.val := (by decide +kernel : ∀ t : Fin grid1.N, (grid1.coords t 0).val = t.val)

attribute [local irreducible] stS dsS dpR dzR out1_A_9 out1_A_10 out1_A_11 out1_A_12 sout1_A_0 out1_B_9 out1_B_10 out1_B_11 out1_B_12 sout1_B_0

/-- Sixteen blocks of 256 terms, the last block first. -/
def rev (f : ℕ → EReal) (n : ℕ) : EReal := ∑ t ∈ Finset.range n, ∑ r ∈ Finset.range 256, f (256 * (15 - t) + r)

theorem rev_succ (f : ℕ → EReal) (n : ℕ) : rev f n + ∑ r ∈ Finset.range 256, f (256 * (15 - n) + r) = rev f (n + 1) :=
  (Finset.sum_range_succ _ n).symm

theorem sum_blocks (f : ℕ → EReal) (n : ℕ) : ∑ T ∈ Finset.range n, ∑ r ∈ Finset.range 256, f (256 * T + r) = ∑ r ∈ Finset.range (256 * n), f r := by
  induction n with
  | zero => rfl
  | succ n ih => rw [Finset.sum_range_succ, ih, Nat.mul_succ, Finset.sum_range_add]

theorem rev_all (f : ℕ → EReal) : rev f 16 = ∑ r ∈ Finset.range 4096, f r :=
  (Finset.sum_range_reflect (fun T => ∑ r ∈ Finset.range 256, f (256 * T + r)) 16).trans (sum_blocks f 16)

section
variable (V : (c : Dev nD) → (b : Ref sig .tc) → Buf (Elt Ideal) ((c : Thread nD τ).loc b)) (c : Dev nD)
  {P A : ℕ → ℕ → EReal} {b : ℕ → EReal} {G : ℕ → ℕ → EReal}
  (hP : Is2 (n0 := 4096) (n1 := 10368) (V c main_arg0) P) (hG : Is2 (n0 := 4096) (n1 := 1024) (V c main_arg3) G)
  (hS : Is3 (n0 := 64) (n1 := 512) (n2 := 256) (V c main_v2_1) (fun N r e => stS P A b (N + 1) (r / 128) (r % 128) e))
  (hA : Is2 (n0 := 128) (n1 := 512) (V c main_v1) (padA A))
  (hb : Is2 (n0 := 1) (n1 := 512) (V c main_arg2) (fun _ j => b j))

include hG in
theorem x1_0_is (t : Fin cfg1.N) : Is2 (n0 := 256) (n1 := 1024) (iblk1 V c 0 t) (fun r j => G (256 * (15 - t.val) + r) j) := by
  intro j
  blk_simp [iblk1]
  refine (hG _).trans ?_
  congr 1
  · blk_simp [index1_0]
    show (15 - t.val) * 256 + (j 0).val = 256 * (15 - t.val) + (j 0).val; omega
  · blk_simp [index1_0]
include hP in
theorem x1_1_is (t : Fin cfg1.N) : Is2 (n0 := 256) (n1 := 512) (X1_1 V c t) (fun r j => P (256 * (15 - t.val) + r) j) := by
  intro j
  unfold X1_1 Pipeline.Window.fill
  rw [dif_pos (moved1_1 t j)]
  blk_simp [iblk1]
  refine (hP _).trans ?_
  congr 1
  · blk_simp [index1_1]
    show (15 - t.val) * 256 + (j 0).val = 256 * (15 - t.val) + (j 0).val; omega
  · blk_simp [index1_1]
include hP in
theorem x1_2_is (t : Fin cfg1.N) : Is2 (n0 := 256) (n1 := 512) (X1_2 V c t) (fun r j => P (256 * (15 - t.val) + r) (512 + j)) := by
  intro j
  unfold X1_2 Pipeline.Window.fill
  rw [dif_pos (moved1_2 t j)]
  blk_simp [iblk1]
  refine (hP _).trans ?_
  congr 1
  · blk_simp [index1_2]
    show (15 - t.val) * 256 + (j 0).val = 256 * (15 - t.val) + (j 0).val; omega
  · blk_simp [index1_2]
include hP in
theorem x1_3_is (t : Fin cfg1.N) : Is2 (n0 := 256) (n1 := 1024) (X1_3 V c t) (fun r j => P (256 * (15 - t.val) + r) (1024 + j)) := by
  intro j
  unfold X1_3 Pipeline.Window.fill
  rw [dif_pos (moved1_3 t j)]
  blk_simp [iblk1]
  refine (hP _).trans ?_
  congr 1
  · blk_simp [index1_3]
    show (15 - t.val) * 256 + (j 0).val = 256 * (15 - t.val) + (j 0).val; omega
  · blk_simp [index1_3]
include hP in
theorem x1_4_is (t : Fin cfg1.N) : Is2 (n0 := 256) (n1 := 128) (iblk1 V c 4 t) (fun r j => P (256 * (15 - t.val) + r) (10240 + j)) := by
  intro j
  blk_simp [iblk1]
  refine (hP _).trans ?_
  congr 1
  · blk_simp [index1_4]
    show (15 - t.val) * 256 + (j 0).val = 256 * (15 - t.val) + (j 0).val; omega
  · blk_simp [index1_4]
include hS in
theorem x1_5_is (t : Fin cfg1.N) : Is3 (n0 := 4) (n1 := 512) (n2 := 256) (iblk1 V c 5 t) (fun c r e => stS P A b (4 * (15 - t.val) + (c + 1)) (r / 128) (r % 128) e) := by
  intro j
  blk_simp [iblk1]
  refine (hS _).trans ?_
  blk_simp [index1_5]
  show stS P A b ((15 - t.val) * 4 + (j 0).val + 1) ((j 1).val / 128) ((j 1).val % 128) (j 2).val = _
  rw [show (15 - t.val) * 4 + (j 0).val + 1 = 4 * (15 - t.val) + ((j 0).val + 1) by omega]
include hS in
theorem x1_6_is (t : Fin cfg1.N) (ht : 0 < 15 - t.val) : Is3 (n0 := 1) (n1 := 512) (n2 := 256) (iblk1 V c 6 t) (fun _ r e => stS P A b (4 * (15 - t.val)) (r / 128) (r % 128) e) := by
  intro j
  blk_simp [iblk1]
  refine (hS _).trans ?_
  blk_simp [index1_6]
  show stS P A b (4 * (15 - t.val) - 1 + 1) ((j 1).val / 128) ((j 1).val % 128) (j 2).val = _
  rw [show 4 * (15 - t.val) - 1 + 1 = 4 * (15 - t.val) by omega]
include hA in
theorem x1_7_is (t : Fin cfg1.N) : Is2 (n0 := 128) (n1 := 512) (iblk1 V c 7 t) (padA A) := by
  intro j
  blk_simp [iblk1]
  refine (hA _).trans ?_
  congr 1
  · blk_simp [index1_7]
  · blk_simp [index1_7]
include hb in
theorem x1_8_is (t : Fin cfg1.N) : Is2 (n0 := 1) (n1 := 512) (iblk1 V c 8 t) (fun _ j => b j) := by
  intro j
  blk_simp [iblk1]
  refine (hb _).trans ?_
  · blk_simp [index1_8]

variable (X : ℕ → ℕ → EReal)

include hP hG hS hA hb in
/-- What the first grid step leaves, -/
theorem outs1_A_is (t : Fin cfg1.N) (h : t.val % 16 = 0) (h' : t.val = 0) :
    Is2 (n0 := 256) (n1 := 2048) (outsAt1 V c t.val t.isLt).1 (fun r j => dpR P A b G X (256 * (15 - t.val) + r) j)
    ∧ Is2 (n0 := 256) (n1 := 128) (outsAt1 V c t.val t.isLt).2.1 (fun r a => ∑ j ∈ Finset.range 512, dzR P A b G (256 * (15 - t.val) + r) j * padA A a j)
    ∧ Is2 (n0 := 128) (n1 := 512) (outsAt1 V c t.val t.isLt).2.2.1 (fun a j => rev (fun r => P r (10240 + a) * dzR P A b G r j) (t.val + 1))
    ∧ Is2 (n0 := 1) (n1 := 512) (outsAt1 V c t.val t.isLt).2.2.2.1 (fun _ j => rev (fun r => dzR P A b G r j) (t.val + 1))
    ∧ Is2 (n0 := 512) (n1 := 256) (outsAt1 V c t.val t.isLt).2.2.2.2 (fun r e => dsS P A b G (4 * (t.val + 1)) (r / 128) (r % 128) e) := by
  have hT : 15 - t.val + t.val = 15 := by omega
  rw [outsAt1_A V c t h]
  dsimp only
  have hc := (hcond1_0 t).mpr h
  refine ⟨dp_A_is (T := 15 - t.val) (t := t.val) X hT c (grid1.coords t) _ _ _ _ _ _ _ _ _ _ _ _ _ _ _ _ _ _ _ _ _ _ _ _ _ _ _ _ _ _ (x6 := iblk1 V c 6 t) (x1_0_is V c hG t) (x1_1_is V c hP t) (x1_2_is V c hP t) (x1_3_is V c hP t) (x1_4_is V c hP t) (x1_5_is V c hS t) (x1_7_is V c hA t) (x1_8_is V c hb t) h' hc,
    dlr_A_is (T := 15 - t.val) (t := t.val) hT c (grid1.coords t) _ _ _ _ _ _ _ _ _ _ _ _ _ _ _ _ _ _ _ _ _ _ _ _ _ _ _ _ _ _ (x1_0_is V c hG t) (x1_1_is V c hP t) (x1_2_is V c hP t) (x1_3_is V c hP t) (x1_4_is V c hP t) (x1_5_is V c hS t) (x1_6_is V c hS t) (x1_7_is V c hA t) (x1_8_is V c hb t) (coord1 t) h' hc,
    (dwa_A_is (T := 15 - t.val) (t := t.val) hT c (grid1.coords t) _ _ _ _ _ _ _ _ _ _ _ _ _ _ _ _ _ _ _ _ _ _ _ _ _ _ _ _ _ _ (x1_0_is V c hG t) (x1_1_is V c hP t) (x1_2_is V c hP t) (x1_3_is V c hP t) (x1_4_is V c hP t) (x1_5_is V c hS t) (x1_6_is V c hS t) (x1_7_is V c hA t) (x1_8_is V c hb t) (coord1 t) h' hc).congr fun a j _ _ => ?_,
    (dba_A_is (T := 15 - t.val) (t := t.val) hT c (grid1.coords t) _ _ _ _ _ _ _ _ _ _ _ _ _ _ _ _ _ _ _ _ _ _ _ _ _ _ _ _ _ _ (x1_0_is V c hG t) (x1_1_is V c hP t) (x1_2_is V c hP t) (x1_3_is V c hP t) (x1_4_is V c hP t) (x1_5_is V c hS t) (x1_6_is V c hS t) (x1_7_is V c hA t) (x1_8_is V c hb t) (coord1 t) h' hc).congr fun a j _ _ => ?_,
    ds_A_is (T := 15 - t.val) (t := t.val) hT c (grid1.coords t) _ _ _ _ _ _ _ _ _ _ _ _ _ _ _ _ _ _ _ _ _ _ _ _ _ _ _ _ _ _ (x2 := X1_2 V c t) (x3 := X1_3 V c t) (x5 := iblk1 V c 5 t) (x6 := iblk1 V c 6 t) (x1_0_is V c hG t) (x1_1_is V c hP t) (x1_4_is V c hP t) (x1_7_is V c hA t) (x1_8_is V c hb t) h' hc⟩
  · rw [h']; exact rev_succ (fun r => P r (10240 + a) * dzR P A b G r j) 0
  · rw [h']; exact rev_succ (fun r => dzR P A b G r j) 0

include hP hG hS hA hb in
/-- and a later one. -/
theorem outs1_B_is (t : Fin cfg1.N) (h : ¬t.val % 16 = 0)
    (hw : Is2 (n0 := 128) (n1 := 512) (outsAt1 V c (t.val - 1) (Nat.lt_of_le_of_lt (Nat.sub_le _ _) t.isLt)).2.2.1 (fun a j => rev (fun r => P r (10240 + a) * dzR P A b G r j) t.val))
    (hv : Is2 (n0 := 1) (n1 := 512) (outsAt1 V c (t.val - 1) (Nat.lt_of_le_of_lt (Nat.sub_le _ _) t.isLt)).2.2.2.1 (fun _ j => rev (fun r => dzR P A b G r j) t.val))
    (hs : Is2 (n0 := 512) (n1 := 256) (outsAt1 V c (t.val - 1) (Nat.lt_of_le_of_lt (Nat.sub_le _ _) t.isLt)).2.2.2.2 (fun r e => dsS P A b G (4 * t.val) (r / 128) (r % 128) e)) :
    Is2 (n0 := 256) (n1 := 2048) (outsAt1 V c t.val t.isLt).1 (fun r j => dpR P A b G X (256 * (15 - t.val) + r) j)
    ∧ Is2 (n0 := 256) (n1 := 128) (outsAt1 V c t.val t.isLt).2.1 (fun r a => ∑ j ∈ Finset.range 512, dzR P A b G (256 * (15 - t.val) + r) j * padA A a j)
    ∧ Is2 (n0 := 128) (n1 := 512) (outsAt1 V c t.val t.isLt).2.2.1 (fun a j => rev (fun r => P r (10240 + a) * dzR P A b G r j) (t.val + 1))
    ∧ Is2 (n0 := 1) (n1 := 512) (outsAt1 V c t.val t.isLt).2.2.2.1 (fun _ j => rev (fun r => dzR P A b G r j) (t.val + 1))
    ∧ Is2 (n0 := 512) (n1 := 256) (outsAt1 V c t.val t.isLt).2.2.2.2 (fun r e => dsS P A b G (4 * (t.val + 1)) (r / 128) (r % 128) e) := by
  have hN : t.val < 16 := t.isLt
  have hT : 15 - t.val + t.val = 15 := by omega
  rw [outsAt1_B V c t h]
  dsimp only
  have hc : ¬cond1_0 (grid1.coords t) := fun h' => h ((hcond1_0 t).mp h')
  refine ⟨dp_B_is (T := 15 - t.val) (t := t.val) X hT c (grid1.coords t) _ _ _ _ _ _ _ _ _ _ _ _ _ _ _ _ _ _ _ _ _ _ _ _ _ _ _ _ _ _ (x6 := iblk1 V c 6 t) (x1_0_is V c hG t) (x1_1_is V c hP t) (x1_2_is V c hP t) (x1_3_is V c hP t) (x1_4_is V c hP t) (x1_5_is V c hS t) (x1_7_is V c hA t) (x1_8_is V c hb t) hs hc,
    dlr_B_is (T := 15 - t.val) (t := t.val) hT c (grid1.coords t) _ _ _ _ _ _ _ _ _ _ _ _ _ _ _ _ _ _ _ _ _ _ _ _ _ _ _ _ _ _ (x1_0_is V c hG t) (x1_1_is V c hP t) (x1_2_is V c hP t) (x1_3_is V c hP t) (x1_4_is V c hP t) (x1_5_is V c hS t) (x1_6_is V c hS t) (x1_7_is V c hA t) (x1_8_is V c hb t) (coord1 t) hs hc,
    (dwa_B_is (T := 15 - t.val) (t := t.val) hT c (grid1.coords t) _ _ _ _ _ _ _ _ _ _ _ _ _ _ _ _ _ _ _ _ _ _ _ _ _ _ _ _ _ _ (x1_0_is V c hG t) (x1_1_is V c hP t) (x1_2_is V c hP t) (x1_3_is V c hP t) (x1_4_is V c hP t) (x1_5_is V c hS t) (x1_6_is V c hS t) (x1_7_is V c hA t) (x1_8_is V c hb t) (coord1 t) hs hc hw).congr fun a j _ _ => ?_,
    (dba_B_is (T := 15 - t.val) (t := t.val) hT c (grid1.coords t) _ _ _ _ _ _ _ _ _ _ _ _ _ _ _ _ _ _ _ _ _ _ _ _ _ _ _ _ _ _ (x1_0_is V c hG t) (x1_1_is V c hP t) (x1_2_is V c hP t) (x1_3_is V c hP t) (x1_4_is V c hP t) (x1_5_is V c hS t) (x1_6_is V c hS t) (x1_7_is V c hA t) (x1_8_is V c hb t) (coord1 t) hs hc hv).congr fun a j _ _ => ?_,
    ds_B_is (T := 15 - t.val) (t := t.val) hT c (grid1.coords t) _ _ _ _ _ _ _ _ _ _ _ _ _ _ _ _ _ _ _ _ _ _ _ _ _ _ _ _ _ _ (x2 := X1_2 V c t) (x3 := X1_3 V c t) (x5 := iblk1 V c 5 t) (x6 := iblk1 V c 6 t) (x1_0_is V c hG t) (x1_1_is V c hP t) (x1_4_is V c hP t) (x1_7_is V c hA t) (x1_8_is V c hb t) hs hc⟩
  · exact rev_succ (fun r => P r (10240 + a) * dzR P A b G r j) t.val
  · exact rev_succ (fun r => dzR P A b G r j) t.val

include hP hG hS hA hb in
/-- What every grid step leaves. -/
theorem outs1_is (n : ℕ) : ∀ hn : n < cfg1.N, Is2 (n0 := 256) (n1 := 2048) (outsAt1 V c n hn).1 (fun r j => dpR P A b G X (256 * (15 - n) + r) j)
    ∧ Is2 (n0 := 256) (n1 := 128) (outsAt1 V c n hn).2.1 (fun r a => ∑ j ∈ Finset.range 512, dzR P A b G (256 * (15 - n) + r) j * padA A a j)
    ∧ Is2 (n0 := 128) (n1 := 512) (outsAt1 V c n hn).2.2.1 (fun a j => rev (fun r => P r (10240 + a) * dzR P A b G r j) (n + 1))
    ∧ Is2 (n0 := 1) (n1 := 512) (outsAt1 V c n hn).2.2.2.1 (fun _ j => rev (fun r => dzR P A b G r j) (n + 1))
    ∧ Is2 (n0 := 512) (n1 := 256) (outsAt1 V c n hn).2.2.2.2 (fun r e => dsS P A b G (4 * (n + 1)) (r / 128) (r % 128) e) := by
  induction n with
  | zero => exact fun hn => outs1_A_is V c hP hG hS hA hb X ⟨0, hn⟩ (Nat.zero_mod _) rfl
  | succ n ih =>
    intro hn
    have hN : n + 1 < 16 := hn
    have i := ih (Nat.lt_of_succ_lt hn)
    exact outs1_B_is V c hP hG hS hA hb X ⟨n + 1, hn⟩ (by show ¬(n + 1) % 16 = 0; omega) i.2.2.1 i.2.2.2.1 i.2.2.2.2

include hP hG hS hA hb in
/-- The gradient of the projections, in an array that entered holding `X`, -/
theorem arr1_9_is (hX : Is2 (n0 := 4096) (n1 := 10368) (V c main_v3_0) X) : Is2 (n0 := 4096) (n1 := 10368) ((dat1 V c).arrAt 9 cfg1.N) (dpR P A b G X) := by
  intro j
  rw [(dat1 V c).arrAt_eq_of_coversWhere 9 (P := fun y : S4096x10368.Idx => (y 1).val < 2048) (fun y : S4096x10368.Idx => dpR P A b G X (y 0).val (y 1).val)
    (fun β => β (1 : Fin 2) = 0) (by decide +kernel) (fun t hf y => ?_) (fun j => ?_)]
  · by_cases h : (j 1).val < 2048
    · exact if_pos h
    · refine (if_neg h).trans ?_
      rw [A_eq1]
      refine (hX j).trans ?_
      rw [dpR, if_neg (by omega), if_neg (by omega), if_neg h]
  · blk_simp
    rw [after1_9]
    refine ((outs1_is V c hP hG hS hA hb X t.val t.isLt).1 _).trans ?_
    blk_simp [index1_9]
    show dpR P A b G X (256 * (15 - t.val) + (y 0).val) (y 1).val = dpR P A b G X ((15 - t.val) * 256 + (y 0).val) (y 1).val
    rw [Nat.mul_comm]
  · blk_simp [Pipeline.Window.cell_apply]
    show (j 1).val < 2048 ↔ (j 1).val / 2048 = 0
    omega

include hP hG hS hA hb in
/-- of the low-rank projections, -/
theorem arr1_10_is : Is2 (n0 := 4096) (n1 := 128) ((dat1 V c).arrAt 10 cfg1.N) (fun r a => ∑ j ∈ Finset.range 512, dzR P A b G r j * padA A a j) := by
  rw [(dat1 V c).arrAt_eq_of_covers 10 (fun y : S4096x128.Idx => (∑ j ∈ Finset.range 512, dzR P A b G (y 0).val j * padA A (y 1).val j : EReal)) (by decide +kernel) fun t hf y => ?_]
  · exact fun _ => rfl
  · blk_simp
    rw [after1_10]
    refine ((outs1_is V c hP hG hS hA hb (fun _ _ => 0) t.val t.isLt).2.1 y).trans ?_
    blk_simp [index1_10]
    show ∑ j ∈ Finset.range 512, dzR P A b G (256 * (15 - t.val) + (y 0).val) j * padA A (y 1).val j = ∑ j ∈ Finset.range 512, dzR P A b G ((15 - t.val) * 256 + (y 0).val) j * padA A (y 1).val j
    rw [Nat.mul_comm]

include hP hG hS hA hb in
/-- of the gate's weights, -/
theorem arr1_11_is : Is2 (n0 := 128) (n1 := 512) ((dat1 V c).arrAt 11 cfg1.N) (dwaR P A b G) := by
  rw [(dat1 V c).arrAt_eq_of_after_last 11 (⟨15, by decide⟩ : Fin cfg1.N) (by decide +kernel) (fun y : S128x512.Idx => dwaR P A b G (y 0).val (y 1).val) fun j => ?_]
  · exact fun _ => rfl
  · blk_simp
    exact (congrFun (after1_11 V c ⟨15, by decide⟩) j).trans (((outs1_is V c hP hG hS hA hb (fun _ _ => 0) 15 (by decide)).2.2.1 j).trans (rev_all _))

include hP hG hS hA hb in
/-- and of the gate's bias. -/
theorem arr1_12_is : Is2 (n0 := 1) (n1 := 512) ((dat1 V c).arrAt 12 cfg1.N) (fun _ j => dbaR P A b G j) := by
  rw [(dat1 V c).arrAt_eq_of_after_last 12 (⟨15, by decide⟩ : Fin cfg1.N) (by decide +kernel) (fun y : S1x512.Idx => dbaR P A b G (y 1).val) fun j => ?_]
  · exact fun _ => rfl
  · blk_simp
    exact (congrFun (after1_12 V c ⟨15, by decide⟩) j).trans (((outs1_is V c hP hG hS hA hb (fun _ _ => 0) 15 (by decide)).2.2.2.1 j).trans (rev_all _))

end

end Cert.KernelIdeal.Gen

end
-- ==== Proof.Val.Fn.lean ====
module

public import Idealize.ShloMosaic.Lib.Pipeline.Value
public import proofs.«01_k».proof.Proof.Val.Is

@[expose] public section

noncomputable section

/-! # Arrays as functions of natural numbers, and the operations that move their entries -/

namespace Cert.Val

open Idealize.ShloMosaic

/-- The function an array of rank two is given by: zero out of its bounds. -/
def fn2 {n0 n1 : ℕ} (x : (⟨2, ![n0, n1]⟩ : Shape).Idx → EReal) (a b : ℕ) : EReal :=
  if h : a < n0 ∧ b < n1 then x (ValueIdx.ix2 ⟨a, h.1⟩ ⟨b, h.2⟩) else 0

theorem fn2_is {n0 n1 : ℕ} (x : (⟨2, ![n0, n1]⟩ : Shape).Idx → EReal) : Is2 x (fn2 x) := fun j => by
  rw [fn2, dif_pos ⟨(j 0).isLt, (j 1).isLt⟩]
  congr 1
  funext a
  fin_cases a <;> rfl

/-- A slice of an array of rank two. -/
theorem slice2_is {n0 n1 m0 m1 : ℕ} {x : (⟨2, ![n0, n1]⟩ : Shape).Idx → EReal} {f : ℕ → ℕ → EReal} (hx : Is2 x f) (o0 o1 : ℕ)
    (h : (⟨2, ![n0, n1]⟩ : Shape).Slices ![o0, o1] ⟨2, ![m0, m1]⟩) :
    Is2 (n0 := m0) (n1 := m1) (extractStridedSlice ⟨2, ![m0, m1]⟩ ![o0, o1] x h) (fun a b => f (o0 + a) (o1 + b)) :=
  fun _ => hx _

/-- One array above another. -/
theorem above_is {n m k w : ℕ} {x : (⟨2, ![n, w]⟩ : Shape).Idx → EReal} {y : (⟨2, ![m, w]⟩ : Shape).Idx → EReal} {f g : ℕ → ℕ → EReal}
    (hx : Is2 x f) (hy : Is2 y g) (h : Shape.Concatenates [⟨2, ![n, w]⟩, ⟨2, ![m, w]⟩] ⟨2, ![k, w]⟩ 0) :
    Is2 (n0 := k) (n1 := w) (concatenate ⟨2, ![k, w]⟩ 0 [⟨⟨2, ![n, w]⟩, x⟩, ⟨⟨2, ![m, w]⟩, y⟩] h)
      (fun a b => if a < n then f a b else g (a - n) b) := fun j => by
  have hk : n + m = k := by simpa using h.2.2
  have hj : (j 0).val < k := (j 0).isLt
  by_cases hn : (j 0).val < n
  · refine Eq.trans ?_ (if_pos hn).symm
    refine (concatenate_pair_apply_left _ x y h j rfl (ValueIdx.ix2 ⟨(j 0).val, hn⟩ (j 1)) fun b => ?_).trans (hx _)
    fin_cases b <;> rfl
  · refine Eq.trans ?_ (if_neg hn).symm
    refine (concatenate_pair_apply_right _ x y h j rfl rfl (ValueIdx.ix2 ⟨(j 0).val - n, by omega⟩ (j 1)) (fun b hb => ?_) ?_).trans (hy _)
    · fin_cases b
      · exact absurd rfl hb
      · rfl
    · show (j 0).val - n + n = (j 0).val; omega

end Cert.Val

end
-- ==== Proof.Kern.Final.lean ====
module

public import proofs.«01_k».proof.Proof.Ideal.Run
public import proofs.«01_k».proof.Proof.Kern.FwdArr
public import proofs.«01_k».proof.Proof.Kern.BwdArr
public import proofs.«01_k».proof.Proof.Val.Fn

@[expose] public section

set_option maxRecDepth 16384

noncomputable section

/-! # What the kernel's run leaves in its results -/

namespace Cert.KernelIdeal.Gen

open Idealize.ShloMosaic Idealize.ShloMosaic.TcCoe Idealize.ShloMosaic.Tactic Cert.Val

variable (m : (ℓ : Loc nD τ sig) → Buf (Elt Ideal) ℓ) (ρ : Dev nD → PrngReg) (c : Dev nD)

attribute [local irreducible] oR dpR dzR dwaR dbaR stS

variable {P A : ℕ → ℕ → EReal} {b : ℕ → EReal} {G X : ℕ → ℕ → EReal}
  (hP : Is2 (n0 := 4096) (n1 := 10368) (m ((c : Thread nD τ).loc main_arg0)) P)
  (hA : Is2 (n0 := 16) (n1 := 512) (m ((c : Thread nD τ).loc main_arg1)) A)
  (hb : Is2 (n0 := 1) (n1 := 512) (m ((c : Thread nD τ).loc main_arg2)) (fun _ j => b j))
  (hG : Is2 (n0 := 4096) (n1 := 1024) (m ((c : Thread nD τ).loc main_arg3)) G)
  (hX : Is2 (n0 := 4096) (n1 := 10368) (m ((c : Thread nD τ).loc main_arg4)) X)

include hP in
theorem v1_arg0_is : Is2 (n0 := 4096) (n1 := 10368) (V1 m ρ c main_arg0) P := by
  rw [show V1 m ρ c main_arg0 = m ((c : Thread nD τ).loc main_arg0) from W1_args m ρ c main_arg0 (by decide)]; exact hP
include hb in
theorem v1_arg2_is : Is2 (n0 := 1) (n1 := 512) (V1 m ρ c main_arg2) (fun _ j => b j) := by
  rw [show V1 m ρ c main_arg2 = m ((c : Thread nD τ).loc main_arg2) from W1_args m ρ c main_arg2 (by decide)]; exact hb
include hA in
theorem v1_v1_is : Is2 (n0 := 128) (n1 := 512) (V1 m ρ c main_v1) (padA A) := by
  have e : V1 m ρ c main_v1 = concatenate S128x512 0 [⟨S16x512, m ((c : Thread nD τ).loc main_arg1)⟩,
      ⟨S112x512, broadcastInDim S112x512 ![] bcast_S_S112x512 (constant (F := Ideal) S_ .f32 0x00000000#32)⟩] concatenates_S16x512_S112x512_S128x512_d0 := by
    chain_rfl
  rw [e]
  exact above_is (f := A) (g := fun _ _ => 0) hA (fun _ => Ideal.ofBits_zero_f32) _

include hP in
theorem v3_arg0_is : Is2 (n0 := 4096) (n1 := 10368) (V3 m ρ c main_arg0) P := by
  rw [show V3 m ρ c main_arg0 = m ((c : Thread nD τ).loc main_arg0) from W3_args m ρ c main_arg0 (by decide)]; exact hP
include hb in
theorem v3_arg2_is : Is2 (n0 := 1) (n1 := 512) (V3 m ρ c main_arg2) (fun _ j => b j) := by
  rw [show V3 m ρ c main_arg2 = m ((c : Thread nD τ).loc main_arg2) from W3_args m ρ c main_arg2 (by decide)]; exact hb
include hG in
theorem v3_arg3_is : Is2 (n0 := 4096) (n1 := 1024) (V3 m ρ c main_arg3) G := by
  rw [show V3 m ρ c main_arg3 = m ((c : Thread nD τ).loc main_arg3) from W3_args m ρ c main_arg3 (by decide)]; exact hG
include hA in
theorem v3_v1_is : Is2 (n0 := 128) (n1 := 512) (V3 m ρ c main_v1) (padA A) := by
  rw [show V3 m ρ c main_v1 = V1 m ρ c main_v1 from
    (W3_of m ρ c main_v1 (by decide)).trans (W2_of m ρ c main_v1 (by decide +kernel))]
  exact v1_v1_is m ρ c hA
include hX in
theorem v3_v3_0_is : Is2 (n0 := 4096) (n1 := 10368) (V3 m ρ c main_v3_0) X := by
  rw [show V3 m ρ c main_v3_0 = m ((c : Thread nD τ).loc main_arg4) from
    (show V3 m ρ c main_v3_0 = W2 m ρ c (Proc.devRef .tc main_arg4) by chain_rfl).trans (W2_args m ρ c main_arg4 (by decide))]
  exact hX
include hP hA hb in
theorem v3_v2_1_is : Is3 (n0 := 64) (n1 := 512) (n2 := 256) (V3 m ρ c main_v2_1) (fun N r e => stS P A b (N + 1) (r / 128) (r % 128) e) := by
  rw [show V3 m ρ c main_v2_1 = (dat0 (V1 m ρ) c).arrAt 7 cfg0.N from
    (W3_of m ρ c main_v2_1 (by decide)).trans (W2_arr m ρ c 7)]
  exact arr0_7_is (V1 m ρ) c (v1_arg0_is m ρ c hP) (v1_v1_is m ρ c hA) (v1_arg2_is m ρ c hb)

include hP hA hb in
/-- The output, -/
theorem w5_o_is : Is2 (n0 := 4096) (n1 := 1024) (W5 m ρ c (Proc.devRef .tc main_v2_0)) (oR P A b) := by
  rw [show W5 m ρ c (Proc.devRef .tc main_v2_0) = (dat0 (V1 m ρ) c).arrAt 6 cfg0.N from
    (W5_of m ρ c main_v2_0 (by decide)).trans ((W4_of m ρ c main_v2_0 (by decide +kernel)).trans
      ((W3_of m ρ c main_v2_0 (by decide)).trans (W2_arr m ρ c 6)))]
  exact arr0_6_is (V1 m ρ) c (v1_arg0_is m ρ c hP) (v1_v1_is m ρ c hA) (v1_arg2_is m ρ c hb)

include hP hA hb hG hX in
/-- the gradient of the projections, -/
theorem w5_dp_is : Is2 (n0 := 4096) (n1 := 10368) (W5 m ρ c (Proc.devRef .tc main_v3_0)) (dpR P A b G X) := by
  rw [show W5 m ρ c (Proc.devRef .tc main_v3_0) = (dat1 (V3 m ρ) c).arrAt 9 cfg1.N from
    (W5_of m ρ c main_v3_0 (by decide)).trans (W4_arr m ρ c 9)]
  exact arr1_9_is (V3 m ρ) c (v3_arg0_is m ρ c hP) (v3_arg3_is m ρ c hG) (v3_v2_1_is m ρ c hP hA hb) (v3_v1_is m ρ c hA) (v3_arg2_is m ρ c hb) X
    (v3_v3_0_is m ρ c hX)

include hP hA hb hG in
/-- of the low-rank projections, -/
theorem w5_dlr_is : Is2 (n0 := 4096) (n1 := 16) (W5 m ρ c (Proc.devRef .tc main_v4)) (dlrR P A b G) := by
  rw [show W5 m ρ c (Proc.devRef .tc main_v4) = extractStridedSlice S4096x16 ![0, 0] ((dat1 (V3 m ρ) c).arrAt 10 cfg1.N) slices_S4096x128_S4096x16_0_0 from
    (show W5 m ρ c (Proc.devRef .tc main_v4) = extractStridedSlice S4096x16 ![0, 0] (W4 m ρ c (Proc.devRef .tc main_v3_1)) slices_S4096x128_S4096x16_0_0 by chain_rfl).trans
      (congrArg (extractStridedSlice S4096x16 ![0, 0] · slices_S4096x128_S4096x16_0_0) (W4_arr m ρ c 10))]
  refine (slice2_is (arr1_10_is (V3 m ρ) c (v3_arg0_is m ρ c hP) (v3_arg3_is m ρ c hG) (v3_v2_1_is m ρ c hP hA hb) (v3_v1_is m ρ c hA)
    (v3_arg2_is m ρ c hb)) 0 0 slices_S4096x128_S4096x16_0_0).congr fun r a _ ha => ?_
  simp only [Nat.zero_add]
  exact Finset.sum_congr rfl fun j _ => by rw [padA, if_pos ha]

include hP hA hb hG in
/-- of the gates' weights -/
theorem w5_dwa_is : Is2 (n0 := 16) (n1 := 512) (W5 m ρ c (Proc.devRef .tc main_v5)) (dwaR P A b G) := by
  rw [show W5 m ρ c (Proc.devRef .tc main_v5) = extractStridedSlice S16x512 ![0, 0] ((dat1 (V3 m ρ) c).arrAt 11 cfg1.N) slices_S128x512_S16x512_0_0 from
    (show W5 m ρ c (Proc.devRef .tc main_v5) = extractStridedSlice S16x512 ![0, 0] (W4 m ρ c (Proc.devRef .tc main_v3_2)) slices_S128x512_S16x512_0_0 by chain_rfl).trans
      (congrArg (extractStridedSlice S16x512 ![0, 0] · slices_S128x512_S16x512_0_0) (W4_arr m ρ c 11))]
  refine (slice2_is (arr1_11_is (V3 m ρ) c (v3_arg0_is m ρ c hP) (v3_arg3_is m ρ c hG) (v3_v2_1_is m ρ c hP hA hb) (v3_v1_is m ρ c hA)
    (v3_arg2_is m ρ c hb)) 0 0 slices_S128x512_S16x512_0_0).congr fun a j _ _ => ?_
  simp only [Nat.zero_add]

include hP hA hb hG in
/-- and of the gates' bias. -/
theorem w5_dba_is : Is2 (n0 := 1) (n1 := 512) (W5 m ρ c (Proc.devRef .tc main_v3_3)) (fun _ j => dbaR P A b G j) := by
  rw [show W5 m ρ c (Proc.devRef .tc main_v3_3) = (dat1 (V3 m ρ) c).arrAt 12 cfg1.N from
    (W5_of m ρ c main_v3_3 (by decide)).trans (W4_arr m ρ c 12)]
  exact arr1_12_is (V3 m ρ) c (v3_arg0_is m ρ c hP) (v3_arg3_is m ρ c hG) (v3_v2_1_is m ρ c hP hA hb) (v3_v1_is m ρ c hA) (v3_arg2_is m ρ c hb)

end Cert.KernelIdeal.Gen

end
-- ==== Proof.Ref.Moves.lean ====
module

public import proofs.«01_k».proof.Proof.Ref.Run
public import Idealize.ShloMosaic.PureOps.Ideal.Laws

@[expose] public section

noncomputable section

/-! # The chunk read from a stack, and the one written into it -/

namespace Cert.ReferenceIdeal.Gen

open Idealize.ShloMosaic

/-- An array of the reference program. -/
abbrev Vec (s : Shape) : Type := FVec Ideal s .f32

/-- The start of chunk `i` in a stack of rank five, -/
def at5 (i : IVec S_ 32) : Fin 5 → Int := fun k =>
  ((![i, constantI S_ 32 0#32, constantI S_ 32 0#32, constantI S_ 32 0#32, constantI S_ 32 0#32] : Fin 5 → IVec S_ 32) k (Shape.Idx.first h_S_)).toInt
/-- and in one of rank four. -/
def at4 (i : IVec S_ 32) : Fin 4 → Int := fun k =>
  ((![i, constantI S_ 32 0#32, constantI S_ 32 0#32, constantI S_ 32 0#32] : Fin 4 → IVec S_ 32) k (Shape.Idx.first h_S_)).toInt

/-- Chunk `i` of a stack of chunks of keys, -/
def takeK (x : Vec S64x1x4x64x128) (i : IVec S_ 32) : Vec S1x4x64x128 :=
  shapeCast S1x4x64x128 (Host.dynamicSlice S1x1x4x64x128 x (at5 i) sliceFits_S64x1x4x64x128_S1x1x4x64x128) shapeCasts_S1x1x4x64x128_S1x4x64x128
/-- of values, -/
def takeV (x : Vec S64x1x4x64x256) (i : IVec S_ 32) : Vec S1x4x64x256 :=
  shapeCast S1x4x64x256 (Host.dynamicSlice S1x1x4x64x256 x (at5 i) sliceFits_S64x1x4x64x256_S1x1x4x64x256) shapeCasts_S1x1x4x64x256_S1x4x64x256
/-- of states, -/
def takeS (x : Vec S64x1x4x128x256) (i : IVec S_ 32) : Vec S1x4x128x256 :=
  shapeCast S1x4x128x256 (Host.dynamicSlice S1x1x4x128x256 x (at5 i) sliceFits_S64x1x4x128x256_S1x1x4x128x256) shapeCasts_S1x1x4x128x256_S1x4x128x256
/-- of weights of states, as columns, -/
def takeC (x : Vec S64x1x4x128x1) (i : IVec S_ 32) : Vec S1x4x128x1 :=
  shapeCast S1x4x128x1 (Host.dynamicSlice S1x1x4x128x1 x (at5 i) sliceFits_S64x1x4x128x1_S1x1x4x128x1) shapeCasts_S1x1x4x128x1_S1x4x128x1
/-- and without their unit axis. -/
def takeE (x : Vec S64x1x4x128) (i : IVec S_ 32) : Vec S1x4x128 :=
  shapeCast S1x4x128 (Host.dynamicSlice S1x1x4x128 x (at4 i) sliceFits_S64x1x4x128_S1x1x4x128) shapeCasts_S1x1x4x128_S1x4x128

/-- A stack with chunk `i` replaced: of keys, -/
def putK (x : Vec S64x1x4x64x128) (u : Vec S1x4x64x128) (i : IVec S_ 32) : Vec S64x1x4x64x128 :=
  Host.dynamicUpdateSlice x (broadcastInDim S1x1x4x64x128 ![1, 2, 3, 4] bcast_S1x4x64x128_S1x1x4x64x128_1_2_3_4 u) (at5 i) updateFits_S64x1x4x64x128_S1x1x4x64x128
/-- of values, -/
def putV (x : Vec S64x1x4x64x256) (u : Vec S1x4x64x256) (i : IVec S_ 32) : Vec S64x1x4x64x256 :=
  Host.dynamicUpdateSlice x (broadcastInDim S1x1x4x64x256 ![1, 2, 3, 4] bcast_S1x4x64x256_S1x1x4x64x256_1_2_3_4 u) (at5 i) updateFits_S64x1x4x64x256_S1x1x4x64x256
/-- of states, -/
def putS (x : Vec S64x1x4x128x256) (u : Vec S1x4x128x256) (i : IVec S_ 32) : Vec S64x1x4x128x256 :=
  Host.dynamicUpdateSlice x (broadcastInDim S1x1x4x128x256 ![1, 2, 3, 4] bcast_S1x4x128x256_S1x1x4x128x256_1_2_3_4 u) (at5 i) updateFits_S64x1x4x128x256_S1x1x4x128x256
/-- of weights of states, as columns, -/
def putC (x : Vec S64x1x4x128x1) (u : Vec S1x4x128x1) (i : IVec S_ 32) : Vec S64x1x4x128x1 :=
  Host.dynamicUpdateSlice x (broadcastInDim S1x1x4x128x1 ![1, 2, 3, 4] bcast_S1x4x128x1_S1x1x4x128x1_1_2_3_4 u) (at5 i) updateFits_S64x1x4x128x1_S1x1x4x128x1
/-- and without their unit axis. -/
def putE (x : Vec S64x1x4x128) (u : Vec S1x4x128) (i : IVec S_ 32) : Vec S64x1x4x128 :=
  Host.dynamicUpdateSlice x (broadcastInDim S1x1x4x128 ![1, 2, 3] bcast_S1x4x128_S1x1x4x128_1_2_3 u) (at4 i) updateFits_S64x1x4x128_S1x1x4x128

end Cert.ReferenceIdeal.Gen

end
-- ==== Proof.Ref.Trip1.lean ====
module

public import proofs.«01_k».proof.Proof.Ref.Moves

@[expose] public section

noncomputable section

/-! # What a trip of the second loop computes -/

namespace Cert.ReferenceIdeal.Gen

open Idealize.ShloMosaic Idealize.ShloMosaic.TcCoe
open Idealize.ShloMosaic.StableHlo

/-- Zero, as the reductions start from it. -/
abbrev zeroR : Vec S_ := constant (F := Ideal) S_ .f32 0x00000000#32

/-- The gradient of the state after the chunk, -/
def totR (q : Vec S1x4x64x128) (g : Vec S1x4x64x256) (ds : Vec S1x4x128x256) : Vec S1x4x128x256 :=
  addf ds (transpose S1x4x128x256 [0, 1, 3, 2] (Host.dotGeneral dot_S1x4x64x256_S1x4x64x128_S1x4x256x128_2_2_3_3_01_01 none g q)
    transposes_S1x4x256x128_S1x4x128x256_0_1_3_2)
/-- of the state before it, -/
def passR (ec : Vec S1x4x128x1) (dt : Vec S1x4x128x256) : Vec S1x4x128x256 :=
  mulf (broadcastInDim S1x4x128x256 ![0, 1, 2, 3] bcast_S1x4x128x1_S1x4x128x256_0_1_2_3 ec) dt
/-- of the queries, -/
def dqR (g : Vec S1x4x64x256) (s : Vec S1x4x128x256) : Vec S1x4x64x128 :=
  Host.dotGeneral dot_S1x4x64x256_S1x4x128x256_S1x4x64x128_3_3_2_2_01_01 none g s
/-- of the values, -/
def dvR (kd : Vec S1x4x64x128) (dt : Vec S1x4x128x256) : Vec S1x4x64x256 :=
  transpose S1x4x64x256 [0, 1, 3, 2] (Host.dotGeneral dot_S1x4x128x256_S1x4x64x128_S1x4x256x64_2_3_3_2_01_01 none dt kd)
    transposes_S1x4x256x64_S1x4x64x256_0_1_3_2
/-- of the decayed keys, -/
def dkdR (v : Vec S1x4x64x256) (dt : Vec S1x4x128x256) : Vec S1x4x64x128 :=
  transpose S1x4x64x128 [0, 1, 3, 2] (Host.dotGeneral dot_S1x4x128x256_S1x4x64x256_S1x4x128x64_3_3_2_2_01_01 none dt v)
    transposes_S1x4x128x64_S1x4x64x128_0_1_3_2
/-- of the keys, -/
def dkR (w : Vec S1x4x64x128) (v : Vec S1x4x64x256) (dt : Vec S1x4x128x256) : Vec S1x4x64x128 := mulf (dkdR v dt) w
/-- of the exponents of the weights, -/
def dwtR (k w : Vec S1x4x64x128) (v : Vec S1x4x64x256) (dt : Vec S1x4x128x256) : Vec S1x4x64x128 := mulf (mulf k (dkdR v dt)) w
/-- of the weight of the state before, -/
def dexpR (dt sp : Vec S1x4x128x256) : Vec S1x4x128 :=
  broadcastInDim S1x4x128 ![1, 2] bcast_S4x128_S1x4x128_1_2
    (Host.reduceAdd (shapeCast S1x4x128x1 (Host.reduceAdd (mulf dt sp) zeroR reducesTo_S1x4x128x256_S1x4x128_d3 h_S_) shapeCasts_S1x4x128_S1x4x128x1)
      zeroR reducesTo_S1x4x128x1_S4x128_d0_3 h_S_)
/-- of the chunk's last running sum, -/
def dlastR (e dexp : Vec S1x4x128) (dwt : Vec S1x4x64x128) : Vec S1x4x1x128 :=
  addf (broadcastInDim S1x4x1x128 ![0, 1, 3] bcast_S1x4x128_S1x4x1x128_0_1_3 (mulf dexp e))
    (shapeCast S1x4x1x128 (Host.reduceAdd dwt zeroR reducesTo_S1x4x64x128_S1x4x128_d2 h_S_) shapeCasts_S1x4x128_S1x4x1x128)
/-- of all its running sums -/
def dcumR (e dexp : Vec S1x4x128) (dwt : Vec S1x4x64x128) : Vec S1x4x64x128 :=
  addf (Host.negf dwt) (pad S1x4x64x128 ![0, 0, 63, 0] ![0, 0, 0, 0] ![0, 0, 0, 0] (dlastR e dexp dwt) zeroR
    pads_S1x4x1x128_S1x4x64x128_000_000_6300_000 h_S_)
/-- and of its decays. -/
def daR (dcum : Vec S1x4x64x128) : Vec S1x4x64x128 :=
  Host.reduceWindowAdd ![1, 1, 64, 1] ![1, 1, 1, 1] ![0, 0, 0, 0] ![0, 0, 63, 0] dcum (broadcastInDim S_ ![] bcast_S_S_ zeroR)
    reduceWindows_S1x4x64x128_S1x4x64x128_w1s1p0_0_w1s1p0_0_w64s1p0_63_w1s1p0_0 h_S_

variable (V : Valuation τ sig (Elt Ideal))

/-- The chunk, -/
def jU : IVec S_ 32 := subi (subi (constantI S_ 32 64#32) (V main_v47_10)) (constantI S_ 32 1#32)
/-- its weights, -/
def wU : Vec S1x4x64x128 := takeK (V main_v47_1) (jU V)
/-- the gradient of the state after it, -/
def tU : Vec S1x4x128x256 := totR (takeK (V main_v47_9) (jU V)) (takeV (V main_v47_0) (jU V)) (V main_v47_11)
/-- and that of its exponents. -/
def dwtU : Vec S1x4x64x128 := dwtR (takeK (V main_v47_2) (jU V)) (wU V) (takeV (V main_v47_6) (jU V)) (tU V)

set_option maxRecDepth 100000 in
set_option maxHeartbeats 2000000 in
/-- What a trip leaves in the state's gradient and in the four stacks. -/
theorem trip1_reads :
    afterL trip1I V (Proc.devRef .tc main_v47_11) = passR (takeC (V main_v47_5) (jU V)) (tU V)
    ∧ afterL trip1I V (Proc.devRef .tc main_v47_12) = putK (V main_v47_12) (dqR (takeV (V main_v47_0) (jU V)) (takeS (V main_v47_8) (jU V))) (jU V)
    ∧ afterL trip1I V (Proc.devRef .tc main_v47_13) = putK (V main_v47_13) (dkR (wU V) (takeV (V main_v47_6) (jU V)) (tU V)) (jU V)
    ∧ afterL trip1I V (Proc.devRef .tc main_v47_14) = putV (V main_v47_14) (dvR (takeK (V main_v47_7) (jU V)) (tU V)) (jU V)
    ∧ afterL trip1I V (Proc.devRef .tc main_v47_15) = putK (V main_v47_15)
        (daR (dcumR (takeE (V main_v47_3) (jU V)) (dexpR (tU V) (takeS (V main_v47_4) (jU V))) (dwtU V))) (jU V) := by
  simp only [afterL_cons, afterL_nil]
  refine ⟨?_, ?_, ?_, ?_, ?_⟩ <;>
  · after_reads_simp [unaryIndexed_result_read, binaryIndexed_result_read, indexContents_tref_cons, indexContents_tref_empty]
    rfl

end Cert.ReferenceIdeal.Gen

end
-- ==== Proof.Ref.Trip0.lean ====
module

public import proofs.«01_k».proof.Proof.Ref.Moves

@[expose] public section

noncomputable section

/-! # What a trip of the first loop computes -/

namespace Cert.ReferenceIdeal.Gen

open Idealize.ShloMosaic Idealize.ShloMosaic.TcCoe
open Idealize.ShloMosaic.StableHlo

/-- The running sums of a chunk's decays, -/
def cumR (a : Vec S1x4x64x128) : Vec S1x4x64x128 :=
  Host.reduceWindowAdd ![1, 1, 64, 1] ![1, 1, 1, 1] ![0, 0, 63, 0] ![0, 0, 0, 0] a (broadcastInDim S_ ![] bcast_S_S_ (constant (F := Ideal) S_ .f32 0x00000000#32))
    reduceWindows_S1x4x64x128_S1x4x64x128_w1s1p0_0_w1s1p0_0_w64s1p63_0_w1s1p0_0 h_S_
/-- the last of them, -/
def lastR (a : Vec S1x4x64x128) : Vec S1x4x1x128 := extractStridedSlice S1x4x1x128 ![0, 0, 63, 0] (cumR a) slices_S1x4x64x128_S1x4x1x128_0_0_63_0
/-- the weights of the rows, -/
def wR (a : Vec S1x4x64x128) : Vec S1x4x64x128 :=
  Host.exp (subf (broadcastInDim S1x4x64x128 ![0, 1, 2, 3] bcast_S1x4x1x128_S1x4x64x128_0_1_2_3 (lastR a)) (cumR a))
/-- the decayed keys, -/
def kdR (a k : Vec S1x4x64x128) : Vec S1x4x64x128 := mulf k (wR a)
/-- the weight of the state before, -/
def eR (a : Vec S1x4x64x128) : Vec S1x4x128 := Host.exp (shapeCast S1x4x128 (lastR a) shapeCasts_S1x4x1x128_S1x4x128)
/-- as a column, -/
def ecR (a : Vec S1x4x64x128) : Vec S1x4x128x1 := broadcastInDim S1x4x128x1 ![0, 1, 2] bcast_S1x4x128_S1x4x128x1_0_1_2 (eR a)
/-- the state after, -/
def stepR (a k : Vec S1x4x64x128) (v : Vec S1x4x64x256) (s : Vec S1x4x128x256) : Vec S1x4x128x256 :=
  addf (mulf (broadcastInDim S1x4x128x256 ![0, 1, 2, 3] bcast_S1x4x128x1_S1x4x128x256_0_1_2_3 (ecR a)) s)
    (Host.dotGeneral dot_S1x4x64x128_S1x4x64x256_S1x4x128x256_2_2_3_3_01_01 none (kdR a k) v)
/-- and the output. -/
def readR (q : Vec S1x4x64x128) (s : Vec S1x4x128x256) : Vec S1x4x64x256 :=
  Host.dotGeneral dot_S1x4x64x128_S1x4x128x256_S1x4x64x256_3_2_2_3_01_01 none q s

variable (V : Valuation τ sig (Elt Ideal))

/-- The chunk's decays, -/
def aT : Vec S1x4x64x128 := takeK (V main_v36_3) (V main_v36_4)
/-- keys, -/
def kT : Vec S1x4x64x128 := takeK (V main_v36_1) (V main_v36_4)
/-- queries, -/
def qT : Vec S1x4x64x128 := takeK (V main_v36_0) (V main_v36_4)
/-- values -/
def vT : Vec S1x4x64x256 := takeV (V main_v36_2) (V main_v36_4)
/-- and the state after it. -/
def sT : Vec S1x4x128x256 := stepR (aT V) (kT V) (vT V) (V main_v36_5)

set_option maxRecDepth 100000 in
/-- What a trip leaves in the state and in the seven stacks. -/
theorem trip0_reads :
    afterL trip0I V (Proc.devRef .tc main_v36_5) = sT V
    ∧ afterL trip0I V (Proc.devRef .tc main_v36_6) = putV (V main_v36_6) (readR (qT V) (sT V)) (V main_v36_4)
    ∧ afterL trip0I V (Proc.devRef .tc main_v36_7) = putK (V main_v36_7) (wR (aT V)) (V main_v36_4)
    ∧ afterL trip0I V (Proc.devRef .tc main_v36_8) = putE (V main_v36_8) (eR (aT V)) (V main_v36_4)
    ∧ afterL trip0I V (Proc.devRef .tc main_v36_9) = putS (V main_v36_9) (V main_v36_5) (V main_v36_4)
    ∧ afterL trip0I V (Proc.devRef .tc main_v36_10) = putC (V main_v36_10) (ecR (aT V)) (V main_v36_4)
    ∧ afterL trip0I V (Proc.devRef .tc main_v36_11) = putK (V main_v36_11) (kdR (aT V) (kT V)) (V main_v36_4)
    ∧ afterL trip0I V (Proc.devRef .tc main_v36_12) = putS (V main_v36_12) (sT V) (V main_v36_4) := by
  simp only [afterL_cons, afterL_nil]
  refine ⟨?_, ?_, ?_, ?_, ?_, ?_, ?_, ?_⟩ <;>
  · after_reads_simp [unaryIndexed_result_read, binaryIndexed_result_read, indexContents_tref_cons, indexContents_tref_empty]
    rfl

end Cert.ReferenceIdeal.Gen

end
-- ==== Proof.Val.Host.lean ====
module

public import Idealize.ShloMosaic.Lib.Pipeline.Value
public import Idealize.ShloMosaic.Lib.IdealHost
public import Idealize.ShloMosaic.Lib.KernelVsHost
public import proofs.«01_k».proof.Proof.Val.Fn

@[expose] public section

noncomputable section

/-! # Host operations on arrays given by functions of natural numbers -/

namespace Cert.Val

open Idealize.ShloMosaic

/-- A function of three numbers at equal ones. -/
theorem cong3 (f : ℕ → ℕ → ℕ → EReal) {a a' b b' c c' : ℕ} (ha : a = a') (hb : b = b') (hc : c = c') : f a b c = f a' b' c' := by
  rw [ha, hb, hc]

/-- A start of zero is kept by the clamp. -/
theorem clamp_zero (k : ℕ) (i : Int) (hi : i = 0) : (min (max i 0) (((k - k : ℕ)) : Int)).toNat = 0 := by subst hi; simp

/-- The chunk at `N` of a stack of chunks. -/
theorem take5_is {n a b c N : ℕ} {x : (⟨5, ![n, 1, a, b, c]⟩ : Shape).Idx → EReal} {f : ℕ → ℕ → ℕ → EReal} (start : Fin 5 → Int)
    (h : (⟨5, ![n, 1, a, b, c]⟩ : Shape).Slices (fun _ => 0) ⟨5, ![1, 1, a, b, c]⟩)
    (hc : (⟨5, ![1, 1, a, b, c]⟩ : Shape).ShapeCasts ⟨4, ![1, a, b, c]⟩)
    (hN : N < n) (h0 : start 0 = N) (h2 : start 2 = 0) (h3 : start 3 = 0) (h4 : start 4 = 0)
    (hx : ∀ j, (j 0).val = N → x j = f (j 2).val (j 3).val (j 4).val) :
    Is4 (n0 := 1) (n1 := a) (n2 := b) (n3 := c) (shapeCast ⟨4, ![1, a, b, c]⟩ (Host.dynamicSlice ⟨5, ![1, 1, a, b, c]⟩ x start h) hc)
      (fun _ p q r => f p q r) := fun j => by
  have j0 : (j 0).val < 1 := (j 0).isLt
  refine (shapeCast_at _ hc j (ValueIdx.ix5 0 0 (j 1) (j 2) (j 3)) ?_).trans ?_
  · rw [Shape.rowMajor_val_five, Shape.rowMajor_val_four]
    show (((0 * 1 + 0) * a + (j 1).val) * b + (j 2).val) * c + (j 3).val = (((j 0).val * a + (j 1).val) * b + (j 2).val) * c + (j 3).val
    rw [show (j 0).val = 0 by omega]
  · refine (hx _ ?_).trans ?_
    · show (min (max (start 0) 0) ((n - 1 : ℕ) : Int)).toNat + 0 = N
      rw [h0]; omega
    · congr 1
      · show (min (max (start 2) 0) ((a - a : ℕ) : Int)).toNat + (j 1).val = (j 1).val
        rw [clamp_zero a _ h2, Nat.zero_add]
      · show (min (max (start 3) 0) ((b - b : ℕ) : Int)).toNat + (j 2).val = (j 2).val
        rw [clamp_zero b _ h3, Nat.zero_add]
      · show (min (max (start 4) 0) ((c - c : ℕ) : Int)).toNat + (j 3).val = (j 3).val
        rw [clamp_zero c _ h4, Nat.zero_add]

/-- A chunk as a stack of one. -/
theorem put_at {a b c : ℕ} {u : (⟨4, ![1, a, b, c]⟩ : Shape).Idx → EReal} {f : ℕ → ℕ → ℕ → EReal}
    (hb : (⟨4, ![1, a, b, c]⟩ : Shape).BroadcastsInDim ⟨5, ![1, 1, a, b, c]⟩ ![1, 2, 3, 4])
    (hu : Is4 u (fun _ p q r => f p q r)) (i : (⟨5, ![1, 1, a, b, c]⟩ : Shape).Idx) :
    broadcastInDim ⟨5, ![1, 1, a, b, c]⟩ ![1, 2, 3, 4] hb u i = f (i 2).val (i 3).val (i 4).val :=
  (broadcastInDim_apply _ hb u i (ValueIdx.ix4 0 (i 2) (i 3) (i 4)) (fun k => by
    have key : ∀ (s v : ℕ), v < s → v = if s = 1 then 0 else v := fun s v h => by split <;> omega
    fin_cases k
    · rfl
    · exact key a _ (i 2).isLt
    · exact key b _ (i 3).isLt
    · exact key c _ (i 4).isLt)).trans (hu _)

/-- A stack whose chunk at `N` is replaced: that chunk is the new one, and every other is as it was. -/
theorem put5_is {n a b c N : ℕ} {x : (⟨5, ![n, 1, a, b, c]⟩ : Shape).Idx → EReal} {u : (⟨4, ![1, a, b, c]⟩ : Shape).Idx → EReal}
    {F : ℕ → ℕ → ℕ → ℕ → EReal} {S : ℕ → Prop} (start : Fin 5 → Int)
    (hb : (⟨4, ![1, a, b, c]⟩ : Shape).BroadcastsInDim ⟨5, ![1, 1, a, b, c]⟩ ![1, 2, 3, 4])
    (h : (⟨5, ![n, 1, a, b, c]⟩ : Shape).Slices (fun _ => 0) ⟨5, ![1, 1, a, b, c]⟩)
    (hN : N < n) (h0 : start 0 = N) (h1 : start 1 = 0) (h2 : start 2 = 0) (h3 : start 3 = 0) (h4 : start 4 = 0)
    (hx : ∀ j, S (j 0).val → x j = F (j 0).val (j 2).val (j 3).val (j 4).val) (hu : Is4 u (fun _ p q r => F N p q r)) :
    ∀ j, (j 0).val = N ∨ S (j 0).val →
      Host.dynamicUpdateSlice x (broadcastInDim ⟨5, ![1, 1, a, b, c]⟩ ![1, 2, 3, 4] hb u) start h j = F (j 0).val (j 2).val (j 3).val (j 4).val := fun j hj => by
  have e0 : (min (max (start 0) 0) ((n - 1 : ℕ) : Int)).toNat = N := by rw [h0]; omega
  have e1 := clamp_zero 1 _ h1
  have e2 := clamp_zero a _ h2
  have e3 := clamp_zero b _ h3
  have e4 := clamp_zero c _ h4
  have j1 : (j 1).val < 1 := (j 1).isLt
  unfold Host.dynamicUpdateSlice updateSlice
  by_cases hh : (j 0).val = N
  · rw [dif_pos (fun k => by
      fin_cases k
      · show (min (max (start 0) 0) ((n - 1 : ℕ) : Int)).toNat ≤ (j 0).val ∧ (j 0).val < (min (max (start 0) 0) ((n - 1 : ℕ) : Int)).toNat + 1
        omega
      · show (min (max (start 1) 0) ((1 - 1 : ℕ) : Int)).toNat ≤ (j 1).val ∧ (j 1).val < (min (max (start 1) 0) ((1 - 1 : ℕ) : Int)).toNat + 1
        omega
      · show (min (max (start 2) 0) ((a - a : ℕ) : Int)).toNat ≤ (j 2).val ∧ (j 2).val < (min (max (start 2) 0) ((a - a : ℕ) : Int)).toNat + a
        rw [e2]; exact ⟨Nat.zero_le _, by rw [Nat.zero_add]; exact (j 2).isLt⟩
      · show (min (max (start 3) 0) ((b - b : ℕ) : Int)).toNat ≤ (j 3).val ∧ (j 3).val < (min (max (start 3) 0) ((b - b : ℕ) : Int)).toNat + b
        rw [e3]; exact ⟨Nat.zero_le _, by rw [Nat.zero_add]; exact (j 3).isLt⟩
      · show (min (max (start 4) 0) ((c - c : ℕ) : Int)).toNat ≤ (j 4).val ∧ (j 4).val < (min (max (start 4) 0) ((c - c : ℕ) : Int)).toNat + c
        rw [e4]; exact ⟨Nat.zero_le _, by rw [Nat.zero_add]; exact (j 4).isLt⟩)]
    subst hh
    exact (put_at hb hu _).trans (cong3 (F (j 0).val)
      (show (j 2).val - (min (max (start 2) 0) ((a - a : ℕ) : Int)).toNat = (j 2).val by rw [e2, Nat.sub_zero])
      (show (j 3).val - (min (max (start 3) 0) ((b - b : ℕ) : Int)).toNat = (j 3).val by rw [e3, Nat.sub_zero])
      (show (j 4).val - (min (max (start 4) 0) ((c - c : ℕ) : Int)).toNat = (j 4).val by rw [e4, Nat.sub_zero]))
  · rw [dif_neg (fun hk => hh (by
      have := hk 0
      have t : (min (max (start 0) 0) ((n - 1 : ℕ) : Int)).toNat ≤ (j 0).val ∧ (j 0).val < (min (max (start 0) 0) ((n - 1 : ℕ) : Int)).toNat + 1 := this
      omega))]
    exact hx j (hj.resolve_left hh)

/-- The entry at `N` of a stack of rows of every head. -/
theorem take4_is {n a b N : ℕ} {x : (⟨4, ![n, 1, a, b]⟩ : Shape).Idx → EReal} {f : ℕ → ℕ → EReal} (start : Fin 4 → Int)
    (h : (⟨4, ![n, 1, a, b]⟩ : Shape).Slices (fun _ => 0) ⟨4, ![1, 1, a, b]⟩)
    (hc : (⟨4, ![1, 1, a, b]⟩ : Shape).ShapeCasts ⟨3, ![1, a, b]⟩)
    (hN : N < n) (h0 : start 0 = N) (h2 : start 2 = 0) (h3 : start 3 = 0)
    (hx : ∀ j, (j 0).val = N → x j = f (j 2).val (j 3).val) :
    Is3 (n0 := 1) (n1 := a) (n2 := b) (shapeCast ⟨3, ![1, a, b]⟩ (Host.dynamicSlice ⟨4, ![1, 1, a, b]⟩ x start h) hc)
      (fun _ p q => f p q) := fun j => by
  have j0 : (j 0).val < 1 := (j 0).isLt
  refine (shapeCast_at _ hc j (ValueIdx.ix4 0 0 (j 1) (j 2)) ?_).trans ?_
  · rw [Shape.rowMajor_val_four, Shape.rowMajor_val_three]
    show ((0 * 1 + 0) * a + (j 1).val) * b + (j 2).val = ((j 0).val * a + (j 1).val) * b + (j 2).val
    rw [show (j 0).val = 0 by omega]
  · refine (hx _ ?_).trans (congrArg₂ f ?_ ?_)
    · show (min (max (start 0) 0) ((n - 1 : ℕ) : Int)).toNat + 0 = N
      rw [h0]; omega
    · show (min (max (start 2) 0) ((a - a : ℕ) : Int)).toNat + (j 1).val = (j 1).val
      rw [clamp_zero a _ h2, Nat.zero_add]
    · show (min (max (start 3) 0) ((b - b : ℕ) : Int)).toNat + (j 2).val = (j 2).val
      rw [clamp_zero b _ h3, Nat.zero_add]

/-- A stack of rows of every head whose entry at `N` is replaced. -/
theorem put4_is {n a b N : ℕ} {x : (⟨4, ![n, 1, a, b]⟩ : Shape).Idx → EReal} {u : (⟨3, ![1, a, b]⟩ : Shape).Idx → EReal}
    {F : ℕ → ℕ → ℕ → EReal} {S : ℕ → Prop} (start : Fin 4 → Int)
    (hb : (⟨3, ![1, a, b]⟩ : Shape).BroadcastsInDim ⟨4, ![1, 1, a, b]⟩ ![1, 2, 3])
    (h : (⟨4, ![n, 1, a, b]⟩ : Shape).Slices (fun _ => 0) ⟨4, ![1, 1, a, b]⟩)
    (hN : N < n) (h0 : start 0 = N) (h1 : start 1 = 0) (h2 : start 2 = 0) (h3 : start 3 = 0)
    (hx : ∀ j, S (j 0).val → x j = F (j 0).val (j 2).val (j 3).val) (hu : Is3 u (fun _ p q => F N p q)) :
    ∀ j, (j 0).val = N ∨ S (j 0).val →
      Host.dynamicUpdateSlice x (broadcastInDim ⟨4, ![1, 1, a, b]⟩ ![1, 2, 3] hb u) start h j = F (j 0).val (j 2).val (j 3).val := fun j hj => by
  have e0 : (min (max (start 0) 0) ((n - 1 : ℕ) : Int)).toNat = N := by rw [h0]; omega
  have e1 := clamp_zero 1 _ h1
  have e2 := clamp_zero a _ h2
  have e3 := clamp_zero b _ h3
  have j1 : (j 1).val < 1 := (j 1).isLt
  unfold Host.dynamicUpdateSlice updateSlice
  by_cases hh : (j 0).val = N
  · rw [dif_pos (fun k => by
      fin_cases k
      · show (min (max (start 0) 0) ((n - 1 : ℕ) : Int)).toNat ≤ (j 0).val ∧ (j 0).val < (min (max (start 0) 0) ((n - 1 : ℕ) : Int)).toNat + 1
        omega
      · show (min (max (start 1) 0) ((1 - 1 : ℕ) : Int)).toNat ≤ (j 1).val ∧ (j 1).val < (min (max (start 1) 0) ((1 - 1 : ℕ) : Int)).toNat + 1
        omega
      · show (min (max (start 2) 0) ((a - a : ℕ) : Int)).toNat ≤ (j 2).val ∧ (j 2).val < (min (max (start 2) 0) ((a - a : ℕ) : Int)).toNat + a
        rw [e2]; exact ⟨Nat.zero_le _, by rw [Nat.zero_add]; exact (j 2).isLt⟩
      · show (min (max (start 3) 0) ((b - b : ℕ) : Int)).toNat ≤ (j 3).val ∧ (j 3).val < (min (max (start 3) 0) ((b - b : ℕ) : Int)).toNat + b
        rw [e3]; exact ⟨Nat.zero_le _, by rw [Nat.zero_add]; exact (j 3).isLt⟩)]
    subst hh
    refine (broadcastInDim_apply _ hb u _ (ValueIdx.ix3 0 (j 2) (j 3)) (fun k => ?_)).trans (hu _)
    have key : ∀ (s v w : ℕ), v < s → w = v → v = if s = 1 then 0 else w := fun s v w h e => by split <;> omega
    fin_cases k
    · rfl
    · exact key a _ _ (j 2).isLt (show (j 2).val - (min (max (start 2) 0) ((a - a : ℕ) : Int)).toNat = (j 2).val by rw [e2, Nat.sub_zero])
    · exact key b _ _ (j 3).isLt (show (j 3).val - (min (max (start 3) 0) ((b - b : ℕ) : Int)).toNat = (j 3).val by rw [e3, Nat.sub_zero])
  · rw [dif_neg (fun hk => hh (by
      have := hk 0
      have t : (min (max (start 0) 0) ((n - 1 : ℕ) : Int)).toNat ≤ (j 0).val ∧ (j 0).val < (min (max (start 0) 0) ((n - 1 : ℕ) : Int)).toNat + 1 := this
      omega))]
    exact hx j (hj.resolve_left hh)

/-- The host's sum over one axis. -/
theorem hostred_at {s t u : Shape} {a : Fin s.rank} (src : FVec Ideal s .f32) (init : u.Idx → Ideal .f32) (h' : s.ReducesTo [a] t)
    (h : s.Reduces [a] t) (hu : 0 < u.numel) (hi : init (Shape.Idx.first hu) = (0 : EReal)) (j : t.Idx) (n : ℕ) (hn : s.size a = n)
    (F : ℕ → EReal) (hF : ∀ k : Fin (s.size a), (src (h.lift j k) : EReal) = F k.val) :
    Host.reduceAdd src init h' hu j = ∑ k ∈ Finset.range n, F k := by
  subst hn
  rw [Finset.sum_range]
  refine Eq.trans (Ideal.hostReduceAdd_single h' h src (init (Shape.Idx.first hu)) j) ?_
  rw [hi, zero_add]
  exact Finset.sum_congr rfl fun k _ => hF k

/-- Adding up a list from a value. -/
theorem foldl_add {ι : Type} (g : ι → EReal) (l : List ι) (v : EReal) : l.foldl (fun r i => r + g i) v = v + (l.map g).sum := by
  induction l generalizing v with
  | nil => simp
  | cons i l ih => rw [List.foldl_cons, ih, List.map_cons, List.sum_cons, add_assoc]

/-- The positions of a window along the third of four axes. -/
def alongRows (n : ℕ) : Fin n ≃ (⟨4, ![1, 1, n, 1]⟩ : Shape).Idx where
  toFun i := ValueIdx.ix4 0 0 i 0
  invFun w := w 2
  left_inv _ := rfl
  right_inv w := by
    have w0 : (w 0).val < 1 := (w 0).isLt
    have w1 : (w 1).val < 1 := (w 1).isLt
    have w3 : (w 3).val < 1 := (w 3).isLt
    funext k
    refine Fin.ext ?_
    fin_cases k
    · show 0 = (w 0).val; omega
    · show 0 = (w 1).val; omega
    · rfl
    · show 0 = (w 3).val; omega

/-- A sum over windows along the rows, with `lo` positions before the first row and `hi` after the last. -/
theorem window_is {a n d : ℕ} {u : Shape} (lo hi : ℕ) {x : (⟨4, ![1, a, n, d]⟩ : Shape).Idx → EReal} {f : ℕ → ℕ → ℕ → EReal}
    (init : u.Idx → Ideal .f32)
    (h : (⟨4, ![1, a, n, d]⟩ : Shape).ReduceWindows ![1, 1, n, 1] ![1, 1, 1, 1] ![0, 0, lo, 0] ![0, 0, hi, 0] ⟨4, ![1, a, n, d]⟩)
    (hu : 0 < u.numel) (hv : init (Shape.Idx.first hu) = (0 : EReal)) (hx : Is4 x (fun _ p q r => f p q r)) :
    Is4 (n0 := 1) (n1 := a) (n2 := n) (n3 := d) (Host.reduceWindowAdd (F := Ideal) (φ := .f32) ![1, 1, n, 1] ![1, 1, 1, 1] ![0, 0, lo, 0] ![0, 0, hi, 0] x init h hu)
      (fun _ p q r => ∑ t ∈ Finset.range n, if lo ≤ q + t ∧ q + t - lo < n then f p (q + t - lo) r else 0) := fun j => by
  refine Eq.trans (foldl_add _ _ _) ?_
  have j0 : (j 0).val < 1 := (j 0).isLt
  have h1 : (j 1).val < a := (j 1).isLt
  have h3 : (j 3).val < d := (j 3).isLt
  rw [← List.ofFn_eq_map, List.sum_ofFn, ← Equiv.sum_comp (Shape.rowMajor ⟨4, ![1, 1, n, 1]⟩), ← Equiv.sum_comp (alongRows n)]
  simp only [Equiv.symm_apply_apply]
  refine (congrArg₂ (· + ·) hv (Finset.sum_congr rfl fun t _ => ?_)).trans
    ((zero_add _).trans (Finset.sum_range (fun t => if lo ≤ (j 2).val + t ∧ (j 2).val + t - lo < n then f (j 1).val ((j 2).val + t - lo) (j 3).val else 0)).symm)
  by_cases hq : lo ≤ (j 2).val + t.val ∧ (j 2).val + t.val - lo < n
  · rw [if_pos hq]
    refine (dif_pos (fun k => ?_)).trans ((hx _).trans (cong3 f ?_ ?_ ?_))
    · fin_cases k
      · show 0 ≤ (j 0).val * 1 + 0 ∧ (j 0).val * 1 + 0 - 0 < 1; omega
      · show 0 ≤ (j 1).val * 1 + 0 ∧ (j 1).val * 1 + 0 - 0 < a; omega
      · show lo ≤ (j 2).val * 1 + t.val ∧ (j 2).val * 1 + t.val - lo < n; rw [Nat.mul_one]; exact hq
      · show 0 ≤ (j 3).val * 1 + 0 ∧ (j 3).val * 1 + 0 - 0 < d; omega
    · show (j 1).val * 1 + 0 - 0 = (j 1).val; omega
    · show (j 2).val * 1 + t.val - lo = (j 2).val + t.val - lo; omega
    · show (j 3).val * 1 + 0 - 0 = (j 3).val; omega
  · rw [if_neg hq]
    refine (dif_neg (fun hk => hq ?_)).trans hv
    have := hk 2
    have t' : lo ≤ (j 2).val * 1 + t.val ∧ (j 2).val * 1 + t.val - lo < n := this
    rwa [Nat.mul_one] at t'

/-- The windows that end at a row hold the rows up to it, -/
theorem sum_upto (n i : ℕ) (hi : i < n) (F : ℕ → EReal) :
    ∑ t ∈ Finset.range n, (if n - 1 ≤ i + t ∧ i + t - (n - 1) < n then F (i + t - (n - 1)) else 0) = ∑ k ∈ Finset.range n, if k ≤ i then F k else 0 := by
  rw [← Finset.sum_filter, ← Finset.sum_filter]
  refine Finset.sum_bij' (fun t _ => i + t - (n - 1)) (fun k _ => k + (n - 1) - i) ?_ ?_ ?_ ?_ ?_ <;>
    simp only [Finset.mem_filter, Finset.mem_range] <;> intros <;> first | trivial | omega
/-- and those that begin at it the rows from it. -/
theorem sum_from (n i : ℕ) (F : ℕ → EReal) :
    ∑ t ∈ Finset.range n, (if 0 ≤ i + t ∧ i + t - 0 < n then F (i + t - 0) else 0) = ∑ k ∈ Finset.range n, if i ≤ k then F k else 0 := by
  rw [← Finset.sum_filter, ← Finset.sum_filter]
  refine Finset.sum_bij' (fun t _ => i + t) (fun k _ => k - i) ?_ ?_ ?_ ?_ ?_ <;>
    simp only [Finset.mem_filter, Finset.mem_range, Nat.sub_zero] <;> intros <;> first | trivial | omega

end Cert.Val

end
-- ==== Proof.Ref.Val0.lean ====
module

public import proofs.«01_k».proof.Proof.Ref.Trip0
public import proofs.«01_k».proof.Proof.Val.Host
public import proofs.«01_k».proof.Proof.Val.Spec

@[expose] public section

noncomputable section

/-! # The reference's forward trip, every head of a chunk at once -/

namespace Cert.ReferenceIdeal.Gen

open Idealize.ShloMosaic Cert.Val

variable {a k q w kd : Vec S1x4x64x128} {v g : Vec S1x4x64x256} {s ds dt sp : Vec S1x4x128x256}
  {fa fk fq fw : ℕ → ℕ → ℕ → EReal} {fv fg : ℕ → ℕ → ℕ → EReal} {fs fd ft fp : ℕ → ℕ → ℕ → EReal}

/-- The zero a sum begins at. -/
theorem zero_init (j : (S_ : Shape).Idx) : (broadcastInDim S_ ![] bcast_S_S_ (constant (F := Ideal) S_ .f32 0x00000000#32)) j = (0 : EReal) :=
  Ideal.ofBits_zero_f32

theorem cumR_is (ha : Is4 a (fun _ h i d => fa h i d)) : Is4 (cumR a) (fun _ h i d => cumP (fa h) i d) :=
  (window_is 63 0 (broadcastInDim S_ ![] bcast_S_S_ (constant (F := Ideal) S_ .f32 0x00000000#32)) _ h_S_ (zero_init (Shape.Idx.first h_S_)) ha).congr
    fun _ h i d _ _ hi _ => sum_upto 64 i hi (fun k => fa h k d)

theorem lastR_is (ha : Is4 a (fun _ h i d => fa h i d)) : Is4 (lastR a) (fun _ h _ d => cumP (fa h) 63 d) := fun j => by
  have j2 : (j 2).val < 1 := (j 2).isLt
  refine (cumR_is ha _).trans ?_
  show cumP (fa (0 + (j 1).val)) (63 + (j 2).val) (0 + (j 3).val) = _
  rw [show (j 2).val = 0 by omega, Nat.zero_add, Nat.zero_add]

theorem wR_is (ha : Is4 a (fun _ h i d => fa h i d)) : Is4 (wR a) (fun _ h i d => wP (fa h) i d) := fun j =>
  congrArg Ideal.exp (congrArg₂ (fun x y : EReal => x - y) (lastR_is ha _) (cumR_is ha j))

theorem kdR_is (ha : Is4 a (fun _ h i d => fa h i d)) (hk : Is4 k (fun _ h i d => fk h i d)) :
    Is4 (kdR a k) (fun _ h i d => kdP (fa h) (fk h) i d) := fun j =>
  congrArg₂ (fun x y : EReal => x * y) (hk j) (wR_is ha j)

theorem eR_is (ha : Is4 a (fun _ h i d => fa h i d)) : Is3 (eR a) (fun _ h d => eP (fa h) d) := fun j =>
  congrArg Ideal.exp ((shapeCast_at _ _ j (ValueIdx.ix4 (j 0) (j 1) 0 (j 2)) (by
    rw [Shape.rowMajor_val_four, Shape.rowMajor_val_three]
    show (((j 0).val * 4 + (j 1).val) * 1 + 0) * 128 + (j 2).val = ((j 0).val * 4 + (j 1).val) * 128 + (j 2).val
    omega)).trans (lastR_is ha _))

theorem ecR_is (ha : Is4 a (fun _ h i d => fa h i d)) : Is4 (ecR a) (fun _ h d _ => eP (fa h) d) := fun j => eR_is ha _

theorem stepR_is (ha : Is4 a (fun _ h i d => fa h i d)) (hk : Is4 k (fun _ h i d => fk h i d)) (hv : Is4 v (fun _ h i e => fv h i e))
    (hs : Is4 s (fun _ h d e => fs h d e)) : Is4 (stepR a k v s) (fun _ h d e => stepP (fa h) (fk h) (fv h) (fs h) d e) := fun j =>
  congrArg₂ (fun x y : EReal => x + y) (congrArg₂ (fun x y : EReal => x * y) (ecR_is ha _) (hs j))
    (dot_at _ none (kdR a k) v j 64 rfl rfl _ fun r => congrArg₂ (fun x y : EReal => x * y) (kdR_is ha hk _) (hv _))

theorem readR_is (hq : Is4 q (fun _ h i d => fq h i d * scS)) (hs : Is4 s (fun _ h d e => fs h d e)) :
    Is4 (readR q s) (fun _ h i e => readP (fq h) (fs h) i e) := fun j =>
  dot_at _ none q s j 128 rfl rfl _ fun r => congrArg₂ (fun x y : EReal => x * y) (hq _) (hs _)

end Cert.ReferenceIdeal.Gen

end
-- ==== Proof.Ref.Val1.lean ====
module

public import proofs.«01_k».proof.Proof.Ref.Trip1
public import proofs.«01_k».proof.Proof.Ref.Val0

@[expose] public section

noncomputable section

/-! # The reference's backward trip, every head of a chunk at once -/

namespace Cert.ReferenceIdeal.Gen

open Idealize.ShloMosaic Cert.Val

variable {k q w kd : Vec S1x4x64x128} {v g : Vec S1x4x64x256} {s ds dt sp : Vec S1x4x128x256} {ec : Vec S1x4x128x1} {e dexp : Vec S1x4x128}
  {dwt dcum : Vec S1x4x64x128} {fa fk fq fw fx : ℕ → ℕ → ℕ → EReal} {fv fg : ℕ → ℕ → ℕ → EReal} {fs fd ft fp : ℕ → ℕ → ℕ → EReal}
  {fe : ℕ → ℕ → EReal}

/-- The last two axes of an array exchanged. -/
theorem swap_is {n m p q : ℕ} {x : (⟨4, ![n, m, p, q]⟩ : Shape).Idx → EReal} {f : ℕ → ℕ → ℕ → ℕ → EReal} (hx : Is4 x f)
    (h : (⟨4, ![n, m, p, q]⟩ : Shape).Transposes [0, 1, 3, 2] ⟨4, ![n, m, q, p]⟩) :
    Is4 (n0 := n) (n1 := m) (n2 := q) (n3 := p) (transpose ⟨4, ![n, m, q, p]⟩ [0, 1, 3, 2] x h) (fun a b c d => f a b d c) := fun _ => hx _

theorem totR_is (hq : Is4 q (fun _ h i d => fq h i d * scS)) (hg : Is4 g (fun _ h i e => fg h i e)) (hd : Is4 ds (fun _ h d e => fd h d e)) :
    Is4 (totR q g ds) (fun _ h d e => totP (fq h) (fg h) (fd h) d e) := fun j =>
  congrArg₂ (fun x y : EReal => x + y) (hd j)
    (swap_is (f := fun _ h e d => ∑ r ∈ Finset.range 64, fq h r d * scS * fg h r e) (fun j =>
      dot_at _ none g q j 64 rfl rfl (fun r => fq (j 1).val r (j 3).val * scS * fg (j 1).val r (j 2).val) fun r =>
        (mul_comm (_ : EReal) _).trans (congrArg₂ (fun x y : EReal => x * y) (hq _) (hg _))) _ j)

theorem passR_is (hc : Is4 ec (fun _ h d _ => eP (fa h) d)) (ht : Is4 dt (fun _ h d e => ft h d e)) :
    Is4 (passR ec dt) (fun _ h d e => passP (fa h) (ft h) d e) := fun j =>
  congrArg₂ (fun x y : EReal => x * y) (hc _) (ht j)

theorem dqR_is (hg : Is4 g (fun _ h i e => fg h i e)) (hs : Is4 s (fun _ h d e => fs h d e)) :
    Is4 (dqR g s) (fun _ h i d => ∑ e ∈ Finset.range 256, fg h i e * fs h d e) := fun j =>
  dot_at _ none g s j 256 rfl rfl _ fun r => congrArg₂ (fun x y : EReal => x * y) (hg _) (hs _)

theorem dvR_is (hk : Is4 kd (fun _ h i d => kdP (fa h) (fk h) i d)) (ht : Is4 dt (fun _ h d e => ft h d e)) :
    Is4 (dvR kd dt) (fun _ h i e => dvP (fa h) (fk h) (ft h) i e) :=
  swap_is (f := fun _ h e i => dvP (fa h) (fk h) (ft h) i e) (fun j =>
    dot_at _ none dt kd j 128 rfl rfl (fun r => kdP (fa (j 1).val) (fk (j 1).val) (j 3).val r * ft (j 1).val r (j 2).val) fun r =>
      (mul_comm (_ : EReal) _).trans (congrArg₂ (fun x y : EReal => x * y) (hk _) (ht _))) _

theorem dkdR_is (hv : Is4 v (fun _ h i e => fv h i e)) (ht : Is4 dt (fun _ h d e => ft h d e)) :
    Is4 (dkdR v dt) (fun _ h i d => dkdP (fv h) (ft h) i d) :=
  swap_is (f := fun _ h d i => dkdP (fv h) (ft h) i d) (fun j =>
    dot_at _ none dt v j 256 rfl rfl (fun r => fv (j 1).val (j 3).val r * ft (j 1).val (j 2).val r) fun r =>
      (mul_comm (_ : EReal) _).trans (congrArg₂ (fun x y : EReal => x * y) (hv _) (ht _))) _

theorem dkR_is (hw : Is4 w (fun _ h i d => wP (fa h) i d)) (hv : Is4 v (fun _ h i e => fv h i e)) (ht : Is4 dt (fun _ h d e => ft h d e)) :
    Is4 (dkR w v dt) (fun _ h i d => dkP (fa h) (fv h) (ft h) i d) := fun j =>
  congrArg₂ (fun x y : EReal => x * y) (dkdR_is hv ht j) (hw j)

theorem dwtR_is (hk : Is4 k (fun _ h i d => fk h i d)) (hw : Is4 w (fun _ h i d => wP (fa h) i d)) (hv : Is4 v (fun _ h i e => fv h i e))
    (ht : Is4 dt (fun _ h d e => ft h d e)) : Is4 (dwtR k w v dt) (fun _ h i d => dwtP (fa h) (fk h) (fv h) (ft h) i d) := fun j => by
  refine (congrArg₂ (fun x y : EReal => x * y) (congrArg₂ (fun x y : EReal => x * y) (hk j) (dkdR_is hv ht j)) (hw j)).trans ?_
  show fk (j 1).val (j 2).val (j 3).val * dkdP (fv (j 1).val) (ft (j 1).val) (j 2).val (j 3).val * wP (fa (j 1).val) (j 2).val (j 3).val
    = dkdP (fv (j 1).val) (ft (j 1).val) (j 2).val (j 3).val * (fk (j 1).val (j 2).val (j 3).val * wP (fa (j 1).val) (j 2).val (j 3).val)
  rw [mul_comm (fk _ _ _), mul_assoc]

/-- A sum over two axes of one position. -/
theorem unit_red (x : Vec S1x4x128x1) (init : Vec S_) (h : S1x4x128x1.ReducesTo [0, 3] S4x128) (hu : 0 < S_.numel)
    (hv : init (Shape.Idx.first hu) = (0 : EReal)) (j : S4x128.Idx) :
    Host.reduceAdd (F := Ideal) (φ := .f32) x init h hu j = x (ValueIdx.ix4 0 (j 0) (j 1) 0) := by
  have e : (Finset.univ.filter fun i => h.drop i = j) = {(ValueIdx.ix4 0 (j 0) (j 1) 0 : S1x4x128x1.Idx)} := by
    ext i
    simp only [Finset.mem_filter, Finset.mem_univ, true_and, Finset.mem_singleton]
    have i0 : (i 0).val < 1 := (i 0).isLt
    have i3 : (i 3).val < 1 := (i 3).isLt
    constructor
    · rintro rfl
      funext k
      fin_cases k
      · exact Fin.ext (show (i 0).val = 0 by omega)
      · rfl
      · rfl
      · exact Fin.ext (show (i 3).val = 0 by omega)
    · rintro rfl
      funext k
      fin_cases k <;> rfl
  show init (Shape.Idx.first hu) + ∑ i ∈ Finset.univ.filter (fun i => h.drop i = j), x i = _
  rw [hv, zero_add, e, Finset.sum_singleton]

theorem dexpR_is (ht : Is4 dt (fun _ h d e => ft h d e)) (hp : Is4 sp (fun _ h d e => fp h d e)) :
    Is3 (dexpR dt sp) (fun _ h d => dexpP (ft h) (fp h) d) := fun j => by
  refine (unit_red _ _ _ _ Ideal.ofBits_zero_f32 _).trans ?_
  refine (shapeCast_at _ _ _ (ValueIdx.ix3 0 (j 1) (j 2)) ?_).trans ?_
  · rw [Shape.rowMajor_val_four, Shape.rowMajor_val_three]
    show (0 * 4 + (j 1).val) * 128 + (j 2).val = ((0 * 4 + (j 1).val) * 128 + (j 2).val) * 1 + 0
    omega
  · exact hostred_at (mulf dt sp) zeroR _ (by decide) h_S_ Ideal.ofBits_zero_f32 _ 256 rfl _ fun r =>
      congrArg₂ (fun x y : EReal => x * y) (ht _) (hp _)

theorem dlastR_is (he : Is3 e (fun _ h d => eP (fa h) d)) (hx : Is3 dexp (fun _ h d => fe h d)) (hw : Is4 dwt (fun _ h i d => fx h i d)) :
    Is4 (dlastR e dexp dwt) (fun _ h _ d => fe h d * eP (fa h) d + ∑ r ∈ Finset.range 64, fx h r d) := fun j => by
  have j2 : (j 2).val < 1 := (j 2).isLt
  refine congrArg₂ (fun x y : EReal => x + y) (congrArg₂ (fun x y : EReal => x * y) (hx _) (he _)) ?_
  refine (shapeCast_at _ _ j (ValueIdx.ix3 (j 0) (j 1) (j 3)) ?_).trans ?_
  · rw [Shape.rowMajor_val_four, Shape.rowMajor_val_three]
    show ((j 0).val * 4 + (j 1).val) * 128 + (j 3).val = (((j 0).val * 4 + (j 1).val) * 1 + (j 2).val) * 128 + (j 3).val
    omega
  · exact hostred_at dwt zeroR _ (by decide) h_S_ Ideal.ofBits_zero_f32 _ 64 rfl _ fun r => hw _

theorem dcumR_is (he : Is3 e (fun _ h d => eP (fa h) d)) (hx : Is3 dexp (fun _ h d => fe h d)) (hw : Is4 dwt (fun _ h i d => fx h i d)) :
    Is4 (dcumR e dexp dwt) (fun _ h i d => dcumP (fa h) (fx h) (fe h) i d) := fun j => by
  have h2 : (j 2).val < 64 := (j 2).isLt
  by_cases hj : (j 2).val = 63
  · refine Eq.trans ?_ (if_pos hj).symm
    refine (congrArg₂ (fun x y : EReal => -x + y) (hw j) ((pad_apply_of_inside _ _ _ _ _ _ _ j (ValueIdx.ix4 (j 0) (j 1) 0 (j 3)) (fun a => ?_)).trans
      (dlastR_is he hx hw _))).trans ?_
    · fin_cases a
      · show (j 0).val = 0 + (j 0).val * (0 + 1); omega
      · show (j 1).val = 0 + (j 1).val * (0 + 1); omega
      · show (j 2).val = 63 + 0 * (0 + 1); omega
      · show (j 3).val = 0 + (j 3).val * (0 + 1); omega
    · show -(_ : EReal) + (_ + _) = _ - _
      rw [sub_eq_add_neg, add_comm, add_comm (fe _ _ * _)]
  · refine Eq.trans ?_ (if_neg hj).symm
    refine (congrArg₂ (fun x y : EReal => -x + y) (hw j) ((pad_apply_of_not_inside _ _ _ _ _ _ _ j 2 ?_).trans Ideal.ofBits_zero_f32)).trans ?_
    · intro hh
      have t : 63 ≤ (j 2).val := hh.1
      omega
    · show -(_ : EReal) + 0 = 0 - _
      rw [sub_eq_add_neg, add_comm]

theorem daR_is (hd : Is4 dcum (fun _ h i d => fx h i d)) :
    Is4 (daR dcum) (fun _ h i d => ∑ r ∈ Finset.range 64, if i ≤ r then fx h r d else 0) :=
  (window_is 0 63 (broadcastInDim S_ ![] bcast_S_S_ zeroR) _ h_S_ (zero_init (Shape.Idx.first h_S_)) hd).congr
    fun _ h i d _ _ hi _ => sum_from 64 i (fun r => fx h r d)

end Cert.ReferenceIdeal.Gen

end
-- ==== Proof.Ref.Ends.lean ====
module

public import proofs.«01_k».proof.Proof.Ref.Moves

@[expose] public section

noncomputable section

/-! # What the operations before, between and after the loops compute -/

namespace Cert.ReferenceIdeal.Gen

open Idealize.ShloMosaic Idealize.ShloMosaic.TcCoe
open Idealize.ShloMosaic.StableHlo

/-- The low-rank projections, -/
def lrR (p : FVec Ideal S4096x10368 .bf16) : Vec S4096x16 := extf .f32 (extractStridedSlice S4096x16 ![0, 10240] p slices_S4096x10368_S4096x16_0_10240) bitsLt_bf16_f32
/-- the gates before their activation, -/
def zR (p : FVec Ideal S4096x10368 .bf16) (A : Vec S16x512) (b : Vec S1x512) : Vec S4096x512 :=
  addf (Host.dotGeneral dot_S4096x16_S16x512_S4096x512_1_0_0_1_n_n none (lrR p) A) (broadcastInDim S4096x512 ![0, 1] bcast_S1x512_S4096x512_0_1 b)

/-- One number at every gate. -/
def fillG (b : BitVec 32) : Vec S4096x512 := broadcastInDim S4096x512 ![] bcast_S_S4096x512 (constant (F := Ideal) S_ .f32 b)
/-- The logarithm of one plus the exponential, -/
def softR (x : Vec S4096x512) : Vec S4096x512 :=
  select (cmpf .une (subf x (fillG 0x00000000#32)) (subf x (fillG 0x00000000#32))) (addf x (fillG 0x00000000#32))
    (addf (maximumf x (fillG 0x00000000#32)) (Host.log1p (Host.exp (Host.negf (Host.absf (subf x (fillG 0x00000000#32)))))))
/-- an array with zero in place of infinity, -/
def offR (x : Vec S4096x512) : Vec S4096x512 := select (cmpf .oeq x (fillG 0x7F800000#32)) (fillG 0x00000000#32) x
/-- and its derivative. -/
def dsoftR (x : Vec S4096x512) : Vec S4096x512 := Host.exp (subf (offR x) (offR (softR x)))
/-- The decays. -/
def decR (z : Vec S4096x512) : Vec S4096x512 := Host.divf (Host.negf (softR (Host.negf z))) (fillG 0x41800000#32)

/-- The rows of keys of every head, -/
def rowsK (x : Vec S4096x512) : Vec S1x4096x4x128 := shapeCast S1x4096x4x128 x shapeCasts_S4096x512_S1x4096x4x128
/-- and of values; -/
def rowsV (x : Vec S4096x1024) : Vec S1x4096x4x256 := shapeCast S1x4096x4x256 x shapeCasts_S4096x1024_S1x4096x4x256
/-- the chunks of keys of every head, -/
def chunksK (x : Vec S1x4096x4x128) : Vec S64x1x4x64x128 :=
  transpose S64x1x4x64x128 [1, 0, 3, 2, 4] (shapeCast S1x64x64x4x128 x shapeCasts_S1x4096x4x128_S1x64x64x4x128) transposes_S1x64x64x4x128_S64x1x4x64x128_1_0_3_2_4
/-- and of values; -/
def chunksV (x : Vec S1x64x64x4x256) : Vec S64x1x4x64x256 := transpose S64x1x4x64x256 [1, 0, 3, 2, 4] x transposes_S1x64x64x4x256_S64x1x4x64x256_1_0_3_2_4
/-- and back. -/
def joinK (x : Vec S64x1x4x64x128) : Vec S1x4096x4x128 :=
  shapeCast S1x4096x4x128 (transpose S1x64x64x4x128 [1, 0, 3, 2, 4] x transposes_S64x1x4x64x128_S1x64x64x4x128_1_0_3_2_4) shapeCasts_S1x64x64x4x128_S1x4096x4x128
def backK (x : Vec S1x4096x4x128) : Vec S4096x512 := shapeCast S4096x512 x shapeCasts_S1x4096x4x128_S4096x512
def turnV (x : Vec S64x1x4x64x256) : Vec S1x64x64x4x256 := transpose S1x64x64x4x256 [1, 0, 3, 2, 4] x transposes_S64x1x4x64x256_S1x64x64x4x256_1_0_3_2_4
/-- The scale of the queries at every component. -/
def fillQ : Vec S1x4096x4x128 := broadcastInDim S1x4096x4x128 ![] bcast_S_S1x4096x4x128 (constant (F := Ideal) S_ .f32 0x3DB504F3#32)

variable (V : Valuation τ sig (Elt Ideal))

/-- The gates' pre-activations from the arguments. -/
def zE : Vec S4096x512 := zR (V main_arg0) (V main_arg1) (V main_arg2)
/-- The chunks of queries, scaled, -/
def qE : Vec S64x1x4x64x128 :=
  chunksK (mulf (rowsK (extf .f32 (extractStridedSlice S4096x512 ![0, 0] (V main_arg0 : FVec Ideal S4096x10368 .bf16) slices_S4096x10368_S4096x512_0_0) bitsLt_bf16_f32)) fillQ)
/-- of keys, -/
def kE : Vec S64x1x4x64x128 :=
  chunksK (rowsK (extf .f32 (extractStridedSlice S4096x512 ![0, 512] (V main_arg0 : FVec Ideal S4096x10368 .bf16) slices_S4096x10368_S4096x512_0_512) bitsLt_bf16_f32))
/-- of values, -/
def vE : Vec S64x1x4x64x256 :=
  chunksV (shapeCast S1x64x64x4x256 (rowsV (extf .f32 (extractStridedSlice S4096x1024 ![0, 1024] (V main_arg0 : FVec Ideal S4096x10368 .bf16) slices_S4096x10368_S4096x1024_0_1024) bitsLt_bf16_f32))
    shapeCasts_S1x4096x4x256_S1x64x64x4x256)
/-- and of decays. -/
def aE : Vec S64x1x4x64x128 := chunksK (rowsK (decR (zE V)))

set_option maxRecDepth 100000 in
/-- What the first loop begins with, and two arrays kept for the end. -/
theorem pre_reads :
    afterL preI V (Proc.devRef .tc main_v36_0) = qE V
    ∧ afterL preI V (Proc.devRef .tc main_v36_1) = kE V
    ∧ afterL preI V (Proc.devRef .tc main_v36_2) = vE V
    ∧ afterL preI V (Proc.devRef .tc main_v36_3) = aE V
    ∧ afterL preI V (Proc.devRef .tc main_v36_5) = broadcastInDim S1x4x128x256 ![] bcast_S_S1x4x128x256 (constant (F := Ideal) S_ .f32 0x00000000#32)
    ∧ afterL preI V (Proc.devRef .tc main_v22) = qE V
    ∧ afterL preI V (Proc.devRef .tc main_v24) = kE V
    ∧ afterL preI V (Proc.devRef .tc main_v26) = vE V
    ∧ afterL preI V (Proc.devRef .tc main_v4) = lrR (V main_arg0)
    ∧ afterL preI V (Proc.devRef .tc main_v8_1) = dsoftR (Host.negf (zE V)) := by
  simp only [afterL_cons, afterL_nil]
  refine ⟨?_, ?_, ?_, ?_, ?_, ?_, ?_, ?_, ?_, ?_⟩ <;>
  · after_reads_simp
    rfl

set_option maxRecDepth 100000 in
/-- The output, and what the second loop begins with. -/
theorem mid_reads :
    afterL midI V (Proc.devRef .tc main_v38) = shapeCast S4096x1024 (turnV (V main_v36_6)) shapeCasts_S1x64x64x4x256_S4096x1024
    ∧ afterL midI V (Proc.devRef .tc main_v47_0) = chunksV (shapeCast S1x64x64x4x256 (V main_arg3 : Vec S4096x1024) shapeCasts_S4096x1024_S1x64x64x4x256)
    ∧ afterL midI V (Proc.devRef .tc main_v47_1) = V main_v36_7
    ∧ afterL midI V (Proc.devRef .tc main_v47_2) = V main_v24
    ∧ afterL midI V (Proc.devRef .tc main_v47_3) = V main_v36_8
    ∧ afterL midI V (Proc.devRef .tc main_v47_4) = V main_v36_9
    ∧ afterL midI V (Proc.devRef .tc main_v47_5) = V main_v36_10
    ∧ afterL midI V (Proc.devRef .tc main_v47_6) = V main_v26
    ∧ afterL midI V (Proc.devRef .tc main_v47_7) = V main_v36_11
    ∧ afterL midI V (Proc.devRef .tc main_v47_8) = V main_v36_12
    ∧ afterL midI V (Proc.devRef .tc main_v47_9) = V main_v22
    ∧ afterL midI V (Proc.devRef .tc main_v47_11) = broadcastInDim S1x4x128x256 ![] bcast_S_S1x4x128x256 (constant (F := Ideal) S_ .f32 0x00000000#32) := by
  simp only [afterL_cons, afterL_nil]
  refine ⟨?_, ?_, ?_, ?_, ?_, ?_, ?_, ?_, ?_, ?_, ?_, ?_⟩ <;>
  · after_reads_simp
    rfl

/-- The gradient of the gates before their activation. -/
def dzF : Vec S4096x512 :=
  Host.negf (mulf (Host.negf (Host.divf (backK (joinK (V main_v47_15))) (fillG 0x41800000#32))) (V main_v8_1))

set_option maxRecDepth 100000 in
/-- The gradients at the end. -/
theorem fin_reads :
    afterL finI V (Proc.devRef .tc main_v69) = shapeCast S1x512 (Host.reduceAdd (dzF V) (constant (F := Ideal) S_ .f32 0x00000000#32) reducesTo_S4096x512_S512_d0 h_S_) shapeCasts_S512_S1x512
    ∧ afterL finI V (Proc.devRef .tc main_v71) = transpose S16x512 [1, 0] (Host.dotGeneral dot_S4096x512_S4096x16_S512x16_0_0_1_1_n_n none (φ₂ := .f32) (dzF V) (V main_v4)) transposes_S512x16_S16x512_1_0
    ∧ afterL finI V (Proc.devRef .tc main_v73) = truncf .bf16 (Host.dotGeneral dot_S4096x512_S16x512_S4096x16_1_1_0_0_n_n none (φ₂ := .f32) (dzF V) (V main_arg1)) bitsLt_bf16_f32
    ∧ afterL finI V (Proc.devRef .tc main_v75) = concatenate S4096x10368 1
        [⟨S4096x512, truncf .bf16 (backK (mulf (joinK (V main_v47_12)) fillQ)) bitsLt_bf16_f32⟩,
         ⟨S4096x512, truncf .bf16 (backK (joinK (V main_v47_13))) bitsLt_bf16_f32⟩,
         ⟨S4096x1024, truncf .bf16 (shapeCast S4096x1024 (shapeCast S1x4096x4x256 (turnV (V main_v47_14)) shapeCasts_S1x64x64x4x256_S1x4096x4x256) shapeCasts_S1x4096x4x256_S4096x1024) bitsLt_bf16_f32⟩,
         ⟨S4096x8320, extractStridedSlice S4096x8320 ![0, 2048] (V main_arg4 : FVec Ideal S4096x10368 .bf16) slices_S4096x10368_S4096x8320_0_2048⟩]
        concatenates_S4096x512_S4096x512_S4096x1024_S4096x8320_S4096x10368_d1
    ∧ afterL finI V (Proc.devRef .tc main_v38) = V main_v38 := by
  simp only [afterL_cons, afterL_nil]
  refine ⟨?_, ?_, ?_, ?_, ?_⟩ <;> after_reads_simp <;> rfl

end Cert.ReferenceIdeal.Gen

end
-- ==== Proof.Val.Gate.lean ====
module

public import Idealize.ShloMosaic.PureOps.Ideal.Laws
public import proofs.«01_k».proof.Proof.Val.Spec

@[expose] public section

noncomputable section

/-! # Two ways to write the logarithm of the logistic function, and its derivative -/

namespace Cert.Val

open Idealize.ShloMosaic

theorem f32_zero : Ideal.ofBits .f32 0x00000000#32 = (0 : EReal) := Ideal.ofBits_zero_f32
theorem f32_one : c1 = 1 := by unfold c1; simp [Ideal.ofBits, Ideal.ieee, -EReal.coe_mul]; norm_num
theorem f32_top : Ideal.ofBits .f32 0x7F800000#32 = (⊤ : EReal) := by simp [Ideal.ofBits, Ideal.ieee]
theorem f32_sixteen : Ideal.ofBits .f32 0x41800000#32 = ((16 : ℝ) : EReal) := by
  simp [Ideal.ofBits, Ideal.ieee, -EReal.coe_mul]; norm_num
theorem f32_sixteenth : c16 = ((1 / 16 : ℝ) : EReal) := by
  unfold c16; simp [Ideal.ofBits, Ideal.ieee, -EReal.coe_mul]; norm_num

/-- Division by sixteen is multiplication by a sixteenth. -/
theorem div_sixteen (x : EReal) : Ideal.div x (Ideal.ofBits .f32 0x41800000#32) = x * c16 := by
  rw [f32_sixteen, f32_sixteenth]
  unfold Ideal.div
  rw [if_neg (by norm_cast), ← EReal.coe_inv]
  norm_num

/-- The logarithm of one plus the exponential, as the reference computes it. -/
def softV (y : EReal) : EReal := max y 0 + Ideal.log (1 + Ideal.exp (-max y (-y)))
/-- Zero in place of infinity. -/
def offV (y : EReal) : EReal := if y = ⊤ then 0 else y

theorem one_add_exp (r : ℝ) : (1 : EReal) + Ideal.exp (r : EReal) = ((1 + Real.exp r : ℝ) : EReal) := by
  show (1 : EReal) + ((Real.exp r : ℝ) : EReal) = _
  norm_cast
theorem log_one_add_exp (r : ℝ) : Ideal.log (1 + Ideal.exp (r : EReal)) = ((Real.log (1 + Real.exp r) : ℝ) : EReal) := by
  rw [one_add_exp]
  show (if 1 + Real.exp r ≤ 0 then (⊥ : EReal) else _) = _
  rw [if_neg (by have := Real.exp_pos r; linarith)]
theorem log_one : Ideal.log (1 + 0) = 0 := by
  rw [add_zero]
  show (if (1 : ℝ) ≤ 0 then (⊥ : EReal) else ((Real.log 1 : ℝ) : EReal)) = 0
  rw [if_neg (by norm_num), Real.log_one]; rfl

theorem soft_neg (z : EReal) : -softV (-z) * c16 = lsigS z := by
  unfold softV lsigS
  rw [f32_one]
  congr 1
  induction z using EReal.rec with
  | bot =>
    rw [EReal.neg_bot, max_eq_left (show (0 : EReal) ≤ ⊤ from le_top), min_eq_left (show (⊥ : EReal) ≤ 0 from bot_le), EReal.neg_top,
      max_eq_left (show (⊥ : EReal) ≤ ⊤ from bot_le), max_eq_right (show (⊥ : EReal) ≤ ⊤ from bot_le), zero_sub (⊤ : EReal), EReal.neg_top]
    show -(⊤ + Ideal.log (1 + 0)) = ⊥ - Ideal.log (1 + 0)
    rw [log_one]; simp
  | top =>
    rw [EReal.neg_top, max_eq_right (show (⊥ : EReal) ≤ 0 from bot_le), min_eq_right (show (0 : EReal) ≤ ⊤ from le_top), EReal.neg_bot,
      max_eq_right (show (⊥ : EReal) ≤ ⊤ from bot_le), max_eq_left (show (⊥ : EReal) ≤ ⊤ from bot_le), zero_sub (⊤ : EReal), EReal.neg_top]
    show -(0 + Ideal.log (1 + 0)) = 0 - Ideal.log (1 + 0)
    rw [log_one]; simp
  | coe r =>
    have e1 : max (-(r : EReal)) (- -(r : EReal)) = ((max r (-r) : ℝ) : EReal) := by
      rw [neg_neg, max_comm]; norm_cast
    have e2 : max (r : EReal) (-(r : EReal)) = ((max r (-r) : ℝ) : EReal) := by norm_cast
    have e3 : (0 : EReal) - ((max r (-r) : ℝ) : EReal) = ((-max r (-r) : ℝ) : EReal) := by rw [zero_sub]; norm_cast
    rw [e1, e2, e3, ← EReal.coe_neg (max r (-r)), log_one_add_exp]
    have e4 : max (-(r : EReal)) 0 = ((max (-r) 0 : ℝ) : EReal) := by norm_cast
    have e5 : min (r : EReal) 0 = ((min r 0 : ℝ) : EReal) := by norm_cast
    rw [e4, e5]
    norm_cast
    rw [neg_add, ← min_neg_neg, neg_neg, neg_zero, sub_eq_add_neg]

theorem soft_deriv (z : EReal) : Ideal.exp (offV (-z) - offV (softV (-z))) = dsigS z := by
  unfold softV dsigS
  rw [f32_one, zero_sub, zero_sub, neg_neg]
  induction z using EReal.rec with
  | bot =>
    rw [EReal.neg_bot, max_eq_left (show (0 : EReal) ≤ ⊤ from le_top), max_eq_left (show (⊥ : EReal) ≤ ⊤ from bot_le), EReal.neg_top]
    show Ideal.exp (offV ⊤ - offV (⊤ + Ideal.log (1 + 0))) = Ideal.div 1 (1 + 0)
    rw [log_one, add_zero, add_zero]
    unfold offV Ideal.div
    simp
    show ((Real.exp 0 : ℝ) : EReal) = 1
    simp
  | top =>
    rw [EReal.neg_top, max_eq_right (show (⊥ : EReal) ≤ 0 from bot_le), max_eq_right (show (⊥ : EReal) ≤ ⊤ from bot_le), EReal.neg_top]
    show Ideal.exp (offV ⊥ - offV (0 + Ideal.log (1 + 0))) = Ideal.div 1 (1 + ⊤)
    rw [log_one, add_zero]
    unfold offV Ideal.div
    simp
    rfl
  | coe r =>
    have e1 : max (-(r : EReal)) (r : EReal) = ((max r (-r) : ℝ) : EReal) := by
      rw [max_comm]; norm_cast
    rw [e1, ← EReal.coe_neg (max r (-r)), log_one_add_exp, one_add_exp]
    have e4 : max (-(r : EReal)) 0 = ((max (-r) 0 : ℝ) : EReal) := by norm_cast
    have e6 : offV (-(r : EReal)) = ((-r : ℝ) : EReal) := by unfold offV; rw [← EReal.coe_neg, if_neg (EReal.coe_ne_top _)]
    have e7 : offV (((max (-r) 0 : ℝ) : EReal) + ((Real.log (1 + Real.exp (-max r (-r))) : ℝ) : EReal))
        = ((max (-r) 0 + Real.log (1 + Real.exp (-max r (-r))) : ℝ) : EReal) := by
      unfold offV; rw [← EReal.coe_add, if_neg (EReal.coe_ne_top _)]
    rw [e4, e6, e7, ← EReal.coe_sub]
    have p : 0 < 1 + Real.exp r := by have := Real.exp_pos r; linarith
    unfold Ideal.div
    rw [if_neg (by norm_cast; exact p.ne'), ← EReal.coe_inv, one_mul]
    show ((Real.exp _ : ℝ) : EReal) = _
    norm_cast
    have key : max (-r) 0 + Real.log (1 + Real.exp (-max r (-r))) = Real.log (1 + Real.exp (-r)) := by
      rcases le_total 0 r with h | h
      · rw [max_eq_right (by linarith), max_eq_left (show -r ≤ r by linarith), zero_add]
      · rw [max_eq_left (show (0 : ℝ) ≤ -r by linarith), max_eq_right (show r ≤ -r by linarith), neg_neg]
        rw [show 1 + Real.exp (-r) = Real.exp (-r) * (1 + Real.exp r) by rw [mul_add, mul_one, ← Real.exp_add, neg_add_cancel, Real.exp_zero, add_comm],
          Real.log_mul (Real.exp_pos _).ne' p.ne', Real.log_exp]
    have q : 0 < 1 + Real.exp (-r) := by have := Real.exp_pos (-r); linarith
    rw [key, Real.exp_sub, Real.exp_log q, div_eq_iff q.ne']
    rw [eq_comm, inv_mul_eq_iff_eq_mul₀ p.ne', add_mul, one_mul, ← Real.exp_add, add_neg_cancel, Real.exp_zero, add_comm]

end Cert.Val

end
-- ==== Proof.Val.Layout.lean ====
module

public import proofs.«01_k».proof.Proof.Val.Host

@[expose] public section

noncomputable section

/-! # Rows and columns as chunks and heads, and back -/

namespace Cert.Val

open Idealize.ShloMosaic

variable {m w : ℕ} {f : ℕ → ℕ → EReal}

/-- The columns of an array as heads. -/
theorem heads_is (hm : m = 4 * w) {x : (⟨2, ![4096, m]⟩ : Shape).Idx → EReal} (hx : Is2 x f) (h : (⟨2, ![4096, m]⟩ : Shape).ShapeCasts ⟨4, ![1, 4096, 4, w]⟩) :
    Is4 (n0 := 1) (n1 := 4096) (n2 := 4) (n3 := w) (shapeCast ⟨4, ![1, 4096, 4, w]⟩ x h) (fun _ r h d => f r (w * h + d)) := fun j => by
  subst hm
  have j0 : (j 0).val < 1 := (j 0).isLt
  have j2 : (j 2).val < 4 := (j 2).isLt
  have j3 : (j 3).val < w := (j 3).isLt
  refine (shapeCast_at x h j (ValueIdx.ix2 (j 1) ⟨w * (j 2).val + (j 3).val, by nlinarith⟩) ?_).trans (hx _)
  rw [Shape.rowMajor_val_two, Shape.rowMajor_val_four]
  show (j 1).val * (4 * w) + (w * (j 2).val + (j 3).val) = (((j 0).val * 4096 + (j 1).val) * 4 + (j 2).val) * w + (j 3).val
  rw [show (j 0).val = 0 by omega]; ring

/-- The rows of an array of heads as chunks. -/
theorem split_is {f : ℕ → ℕ → ℕ → EReal} {x : (⟨4, ![1, 4096, 4, w]⟩ : Shape).Idx → EReal} (hx : Is4 x (fun _ r h d => f r h d))
    (h : (⟨4, ![1, 4096, 4, w]⟩ : Shape).ShapeCasts ⟨5, ![1, 64, 64, 4, w]⟩) :
    Is5 (n0 := 1) (n1 := 64) (n2 := 64) (n3 := 4) (n4 := w) (shapeCast ⟨5, ![1, 64, 64, 4, w]⟩ x h) (fun _ n i h d => f (64 * n + i) h d) := fun j => by
  have j0 : (j 0).val < 1 := (j 0).isLt
  have j1 : (j 1).val < 64 := (j 1).isLt
  have j2 : (j 2).val < 64 := (j 2).isLt
  refine (shapeCast_at x h j (ValueIdx.ix4 0 ⟨64 * (j 1).val + (j 2).val, by omega⟩ (j 3) (j 4)) ?_).trans (hx _)
  rw [Shape.rowMajor_val_four, Shape.rowMajor_val_five]
  show ((0 * 4096 + (64 * (j 1).val + (j 2).val)) * 4 + (j 3).val) * w + (j 4).val
    = ((((j 0).val * 64 + (j 1).val) * 64 + (j 2).val) * 4 + (j 3).val) * w + (j 4).val
  rw [show (j 0).val = 0 by omega]; ring

/-- Rows as chunks and columns as heads at once. -/
theorem split2_is (hm : m = 4 * w) {x : (⟨2, ![4096, m]⟩ : Shape).Idx → EReal} (hx : Is2 x f)
    (h : (⟨2, ![4096, m]⟩ : Shape).ShapeCasts ⟨5, ![1, 64, 64, 4, w]⟩) :
    Is5 (n0 := 1) (n1 := 64) (n2 := 64) (n3 := 4) (n4 := w) (shapeCast ⟨5, ![1, 64, 64, 4, w]⟩ x h) (fun _ n i h d => f (64 * n + i) (w * h + d)) := fun j => by
  subst hm
  have j0 : (j 0).val < 1 := (j 0).isLt
  have j1 : (j 1).val < 64 := (j 1).isLt
  have j2 : (j 2).val < 64 := (j 2).isLt
  have j3 : (j 3).val < 4 := (j 3).isLt
  have j4 : (j 4).val < w := (j 4).isLt
  refine (shapeCast_at x h j (ValueIdx.ix2 ⟨64 * (j 1).val + (j 2).val, by omega⟩ ⟨w * (j 3).val + (j 4).val, by nlinarith⟩) ?_).trans (hx _)
  rw [Shape.rowMajor_val_two, Shape.rowMajor_val_five]
  show (64 * (j 1).val + (j 2).val) * (4 * w) + (w * (j 3).val + (j 4).val)
    = ((((j 0).val * 64 + (j 1).val) * 64 + (j 2).val) * 4 + (j 3).val) * w + (j 4).val
  rw [show (j 0).val = 0 by omega]; ring

/-- Chunks first or rows first. -/
theorem turn_is {a b c d e : ℕ} {f : ℕ → ℕ → ℕ → ℕ → ℕ → EReal} {x : (⟨5, ![a, b, c, d, e]⟩ : Shape).Idx → EReal} (hx : Is5 x f)
    (h : (⟨5, ![a, b, c, d, e]⟩ : Shape).Transposes [1, 0, 3, 2, 4] ⟨5, ![b, a, d, c, e]⟩) :
    Is5 (n0 := b) (n1 := a) (n2 := d) (n3 := c) (n4 := e) (transpose ⟨5, ![b, a, d, c, e]⟩ [1, 0, 3, 2, 4] x h)
      (fun n0 n1 n2 n3 n4 => f n1 n0 n3 n2 n4) := fun _ => hx _

/-- Chunks of heads as rows of heads. -/
theorem join_is {f : ℕ → ℕ → ℕ → ℕ → EReal} {x : (⟨5, ![1, 64, 64, 4, w]⟩ : Shape).Idx → EReal} (hx : Is5 x (fun _ n i h d => f n i h d))
    (h : (⟨5, ![1, 64, 64, 4, w]⟩ : Shape).ShapeCasts ⟨4, ![1, 4096, 4, w]⟩) :
    Is4 (n0 := 1) (n1 := 4096) (n2 := 4) (n3 := w) (shapeCast ⟨4, ![1, 4096, 4, w]⟩ x h) (fun _ r h d => f (r / 64) (r % 64) h d) := fun j => by
  have j0 : (j 0).val < 1 := (j 0).isLt
  have j1 : (j 1).val < 4096 := (j 1).isLt
  refine (shapeCast_at x h j (ValueIdx.ix5 0 ⟨(j 1).val / 64, by omega⟩ ⟨(j 1).val % 64, by omega⟩ (j 2) (j 3)) ?_).trans (hx _)
  rw [Shape.rowMajor_val_four, Shape.rowMajor_val_five]
  show (((0 * 64 + (j 1).val / 64) * 64 + (j 1).val % 64) * 4 + (j 2).val) * w + (j 3).val
    = (((j 0).val * 4096 + (j 1).val) * 4 + (j 2).val) * w + (j 3).val
  rw [show (j 0).val = 0 by omega, show (0 * 64 + (j 1).val / 64) * 64 + (j 1).val % 64 = 0 * 4096 + (j 1).val by omega]

/-- Heads as columns. -/
theorem flat_is (hm : m = 4 * w) (hw : 0 < w) {f : ℕ → ℕ → ℕ → EReal} {x : (⟨4, ![1, 4096, 4, w]⟩ : Shape).Idx → EReal}
    (hx : Is4 x (fun _ r h d => f r h d)) (h : (⟨4, ![1, 4096, 4, w]⟩ : Shape).ShapeCasts ⟨2, ![4096, m]⟩) :
    Is2 (n0 := 4096) (n1 := m) (shapeCast ⟨2, ![4096, m]⟩ x h) (fun r c => f r (c / w) (c % w)) := fun j => by
  subst hm
  have j1 : (j 1).val < 4 * w := (j 1).isLt
  refine (shapeCast_at x h j (ValueIdx.ix4 0 (j 0) ⟨(j 1).val / w, (Nat.div_lt_iff_lt_mul hw).mpr j1⟩ ⟨(j 1).val % w, Nat.mod_lt _ hw⟩) ?_).trans (hx _)
  rw [Shape.rowMajor_val_two, Shape.rowMajor_val_four]
  show ((0 * 4096 + (j 0).val) * 4 + (j 1).val / w) * w + (j 1).val % w = (j 0).val * (4 * w) + (j 1).val
  have := Nat.div_add_mod (j 1).val w
  nlinarith

/-- Chunks of heads as rows and columns. -/
theorem flat2_is (hm : m = 4 * w) (hw : 0 < w) {f : ℕ → ℕ → ℕ → ℕ → EReal} {x : (⟨5, ![1, 64, 64, 4, w]⟩ : Shape).Idx → EReal}
    (hx : Is5 x (fun _ n i h d => f n i h d)) (h : (⟨5, ![1, 64, 64, 4, w]⟩ : Shape).ShapeCasts ⟨2, ![4096, m]⟩) :
    Is2 (n0 := 4096) (n1 := m) (shapeCast ⟨2, ![4096, m]⟩ x h) (fun r c => f (r / 64) (r % 64) (c / w) (c % w)) := fun j => by
  subst hm
  have j0 : (j 0).val < 4096 := (j 0).isLt
  have j1 : (j 1).val < 4 * w := (j 1).isLt
  refine (shapeCast_at x h j (ValueIdx.ix5 0 ⟨(j 0).val / 64, by omega⟩ ⟨(j 0).val % 64, by omega⟩
    ⟨(j 1).val / w, (Nat.div_lt_iff_lt_mul hw).mpr j1⟩ ⟨(j 1).val % w, Nat.mod_lt _ hw⟩) ?_).trans (hx _)
  rw [Shape.rowMajor_val_two, Shape.rowMajor_val_five]
  show (((0 * 64 + (j 0).val / 64) * 64 + (j 0).val % 64) * 4 + (j 1).val / w) * w + (j 1).val % w = (j 0).val * (4 * w) + (j 1).val
  rw [show (0 * 64 + (j 0).val / 64) * 64 + (j 0).val % 64 = (j 0).val by omega]
  have := Nat.div_add_mod (j 1).val w
  nlinarith

end Cert.Val

end
-- ==== Proof.Ref.ValE.lean ====
module

public import proofs.«01_k».proof.Proof.Ref.Ends
public import proofs.«01_k».proof.Proof.Ref.Val0
public import proofs.«01_k».proof.Proof.Val.Gate
public import proofs.«01_k».proof.Proof.Val.Layout

@[expose] public section

noncomputable section

/-! # The reference's arrays before its loops, and its results after them -/

namespace Cert.ReferenceIdeal.Gen

open Idealize.ShloMosaic Idealize.ShloMosaic.TcCoe Cert.Val

attribute [local irreducible] stS dsS

/-- A choice by a condition. -/
theorem select_if (p : Prop) [Decidable p] (a b : EReal) : Scalar.select (BitVec.ofBool (decide p)) a b = if p then a else b := by
  by_cases h : p
  · rw [if_pos h, decide_eq_true h]; rfl
  · rw [if_neg h, decide_eq_false h]; rfl

theorem softR_at (x : Vec S4096x512) (j : S4096x512.Idx) : softR x j = softV (x j) := by
  show Scalar.select (BitVec.ofBool (decide ((x j : EReal) - Ideal.ofBits .f32 0x00000000#32 ≠ (x j : EReal) - Ideal.ofBits .f32 0x00000000#32)))
    ((x j : EReal) + Ideal.ofBits .f32 0x00000000#32)
    (max (x j : EReal) (Ideal.ofBits .f32 0x00000000#32) + Ideal.log (1 + Ideal.exp (-max ((x j : EReal) - Ideal.ofBits .f32 0x00000000#32) (-((x j : EReal) - Ideal.ofBits .f32 0x00000000#32))))) = _
  rw [select_if, if_neg (by simp), f32_zero, sub_zero]
  rfl

theorem offR_at (x : Vec S4096x512) (j : S4096x512.Idx) : offR x j = offV (x j) := by
  show Scalar.select (BitVec.ofBool (decide ((x j : EReal) = Ideal.ofBits .f32 0x7F800000#32))) (Ideal.ofBits .f32 0x00000000#32) (x j : EReal) = _
  rw [select_if, f32_zero, f32_top]
  rfl

theorem decR_at (z : Vec S4096x512) (j : S4096x512.Idx) : decR z j = lsigS (z j) := by
  refine Eq.trans ?_ (soft_neg (z j))
  refine Eq.trans ?_ (div_sixteen _)
  exact congrArg (fun x : EReal => Ideal.div (-x) (Ideal.ofBits .f32 0x41800000#32)) (softR_at (Host.negf z) j)

theorem dsoftR_at (z : Vec S4096x512) (j : S4096x512.Idx) : dsoftR (Host.negf z) j = dsigS (z j) := by
  refine Eq.trans ?_ (soft_deriv (z j))
  exact congrArg Ideal.exp (congrArg₂ (fun x y : EReal => x - y) (offR_at _ j) ((offR_at _ j).trans (congrArg offV (softR_at _ j))))

theorem chunksK_is {f : ℕ → ℕ → EReal} {x : Vec S4096x512} (hx : Is2 x f) :
    Is5 (chunksK (rowsK x)) (fun N _ h i d => f (64 * N + i) (128 * h + d)) :=
  turn_is (split_is (heads_is (w := 128) rfl hx shapeCasts_S4096x512_S1x4096x4x128) _) transposes_S1x64x64x4x128_S64x1x4x64x128_1_0_3_2_4

section
variable {V : Valuation τ sig (Elt Ideal)} {P A : ℕ → ℕ → EReal} {b : ℕ → EReal} {G X : ℕ → ℕ → EReal}

theorem lrR_is {p : FVec Ideal S4096x10368 .bf16} (hP : Is2 (p : S4096x10368.Idx → EReal) P) : Is2 (lrR p) (fun r a => P r (10240 + a)) := fun j =>
  (hP _).trans (congrArg (P · _) (Nat.zero_add _))

theorem zE_is (hP : Is2 (n0 := 4096) (n1 := 10368) (V main_arg0) P) (hA : Is2 (n0 := 16) (n1 := 512) (V main_arg1) A)
    (hb : Is2 (n0 := 1) (n1 := 512) (V main_arg2) (fun _ j => b j)) : Is2 (zE V) (zS P A b) := fun j =>
  congrArg₂ (fun x y : EReal => x + y)
    (dot_at _ none (lrR (V main_arg0)) (V main_arg1 : Vec S16x512) j 16 rfl rfl (fun a => P (j 0).val (10240 + a) * A a (j 1).val) fun a =>
      congrArg₂ (fun x y : EReal => x * y) (lrR_is hP _) (hA _)) (hb _)

theorem aE_is (hP : Is2 (n0 := 4096) (n1 := 10368) (V main_arg0) P) (hA : Is2 (n0 := 16) (n1 := 512) (V main_arg1) A)
    (hb : Is2 (n0 := 1) (n1 := 512) (V main_arg2) (fun _ j => b j)) :
    Is5 (aE V) (fun N _ h i d => blk (laS P A b) N (128 * h) i d) :=
  chunksK_is (f := laS P A b) fun j => (decR_at (zE V) j).trans (congrArg lsigS (zE_is hP hA hb j))

theorem dsig_is (hP : Is2 (n0 := 4096) (n1 := 10368) (V main_arg0) P) (hA : Is2 (n0 := 16) (n1 := 512) (V main_arg1) A)
    (hb : Is2 (n0 := 1) (n1 := 512) (V main_arg2) (fun _ j => b j)) :
    Is2 (dsoftR (Host.negf (zE V))) (fun r c => dsigS (zS P A b r c)) := fun j =>
  (dsoftR_at (zE V) j).trans (congrArg dsigS (zE_is hP hA hb j))

theorem qE_is (hP : Is2 (n0 := 4096) (n1 := 10368) (V main_arg0) P) : Is5 (qE V) (fun N _ h i d => blk P N (128 * h) i d * scS) :=
  Is5.congr (f := fun N _ h i d => P (0 + (64 * N + i)) (0 + (128 * h + d)) * scS)
    (turn_is (split_is (f := fun r h d => P (0 + r) (0 + (128 * h + d)) * scS) (fun j => congrArg (fun x : EReal => x * scS)
        (heads_is (w := 128) rfl (slice2_is hP 0 0 slices_S4096x10368_S4096x512_0_0) shapeCasts_S4096x512_S1x4096x4x128 j)) shapeCasts_S1x4096x4x128_S1x64x64x4x128)
      transposes_S1x64x64x4x128_S64x1x4x64x128_1_0_3_2_4) fun N _ h i d _ _ _ _ _ => by
    show P (0 + (64 * N + i)) (0 + (128 * h + d)) * scS = P (64 * N + i) (128 * h + d) * scS
    rw [Nat.zero_add, Nat.zero_add]

theorem kE_is (hP : Is2 (n0 := 4096) (n1 := 10368) (V main_arg0) P) : Is5 (kE V) (fun N _ h i d => blk P N (512 + 128 * h) i d) :=
  (chunksK_is (f := fun r c => P (0 + r) (512 + c)) (slice2_is hP 0 512 slices_S4096x10368_S4096x512_0_512)).congr fun N _ h i d _ _ _ _ _ => by
    show P (0 + (64 * N + i)) (512 + (128 * h + d)) = P (64 * N + i) (512 + 128 * h + d)
    rw [Nat.zero_add, Nat.add_assoc]

theorem vE_is (hP : Is2 (n0 := 4096) (n1 := 10368) (V main_arg0) P) : Is5 (vE V) (fun N _ h i e => blk P N (1024 + 256 * h) i e) :=
  Is5.congr (f := fun N _ h i e => P (0 + (64 * N + i)) (1024 + (256 * h + e)))
    (turn_is (split_is (heads_is (w := 256) rfl (slice2_is hP 0 1024 slices_S4096x10368_S4096x1024_0_1024) shapeCasts_S4096x1024_S1x4096x4x256) _)
      transposes_S1x64x64x4x256_S64x1x4x64x256_1_0_3_2_4) fun N _ h i d _ _ _ _ _ => by
    show P (0 + (64 * N + i)) (1024 + (256 * h + d)) = P (64 * N + i) (1024 + 256 * h + d)
    rw [Nat.zero_add, Nat.add_assoc]

theorem gE_is {g : Vec S4096x1024} (hG : Is2 g G) :
    Is5 (chunksV (shapeCast S1x64x64x4x256 g shapeCasts_S4096x1024_S1x64x64x4x256)) (fun N _ h i e => blk G N (256 * h) i e) :=
  turn_is (split2_is (w := 256) rfl hG shapeCasts_S4096x1024_S1x64x64x4x256) transposes_S1x64x64x4x256_S64x1x4x64x256_1_0_3_2_4

/-- Chunks of keys of every head as an array. -/
theorem backK_is {F : ℕ → ℕ → ℕ → ℕ → EReal} {x : Vec S64x1x4x64x128} (hx : Is5 x (fun N _ h i d => F N h i d)) :
    Is2 (backK (joinK x)) (fun r c => F (r / 64) (c / 128) (r % 64) (c % 128)) :=
  flat_is (w := 128) (f := fun r h d => F (r / 64) h (r % 64) d) rfl (by decide)
    (join_is (turn_is hx transposes_S64x1x4x64x128_S1x64x64x4x128_1_0_3_2_4) shapeCasts_S1x64x64x4x128_S1x4096x4x128) shapeCasts_S1x4096x4x128_S4096x512

theorem backQ_is {F : ℕ → ℕ → ℕ → ℕ → EReal} {x : Vec S64x1x4x64x128} (hx : Is5 x (fun N _ h i d => F N h i d)) :
    Is2 (backK (mulf (joinK x) fillQ)) (fun r c => F (r / 64) (c / 128) (r % 64) (c % 128) * scS) :=
  flat_is (w := 128) (f := fun r h d => F (r / 64) h (r % 64) d * scS) rfl (by decide)
    (fun j => congrArg (fun x : EReal => x * scS) (join_is (turn_is hx transposes_S64x1x4x64x128_S1x64x64x4x128_1_0_3_2_4) shapeCasts_S1x64x64x4x128_S1x4096x4x128 j))
    shapeCasts_S1x4096x4x128_S4096x512

theorem backV_is {F : ℕ → ℕ → ℕ → ℕ → EReal} {x : Vec S64x1x4x64x256} (hx : Is5 x (fun N _ h i e => F N h i e)) :
    Is2 (shapeCast S4096x1024 (shapeCast S1x4096x4x256 (turnV x) shapeCasts_S1x64x64x4x256_S1x4096x4x256) shapeCasts_S1x4096x4x256_S4096x1024)
      (fun r c => F (r / 64) (c / 256) (r % 64) (c % 256)) :=
  flat_is (w := 256) (f := fun r h d => F (r / 64) h (r % 64) d) rfl (by decide)
    (join_is (turn_is hx transposes_S64x1x4x64x256_S1x64x64x4x256_1_0_3_2_4) shapeCasts_S1x64x64x4x256_S1x4096x4x256) shapeCasts_S1x4096x4x256_S4096x1024

theorem outV_is {F : ℕ → ℕ → ℕ → ℕ → EReal} {x : Vec S64x1x4x64x256} (hx : Is5 x (fun N _ h i e => F N h i e)) :
    Is2 (shapeCast S4096x1024 (turnV x) shapeCasts_S1x64x64x4x256_S4096x1024) (fun r c => F (r / 64) (c / 256) (r % 64) (c % 256)) :=
  flat2_is (w := 256) rfl (by decide) (turn_is hx transposes_S64x1x4x64x256_S1x64x64x4x256_1_0_3_2_4) shapeCasts_S1x64x64x4x256_S4096x1024

theorem dzF_is (h15 : Is5 (n0 := 64) (n1 := 1) (n2 := 4) (n3 := 64) (n4 := 128) (V main_v47_15) (fun N _ h i d => daS P A b G N h i d))
    (h8 : Is2 (n0 := 4096) (n1 := 512) (V main_v8_1) (fun r c => dsigS (zS P A b r c))) : Is2 (dzF V) (dzR P A b G) := fun j => by
  have j0 : (j 0).val < 4096 := (j 0).isLt
  refine (congrArg₂ (fun x y : EReal => -(-Ideal.div x (Ideal.ofBits .f32 0x41800000#32) * y)) (backK_is h15 j) (h8 j)).trans ?_
  show -(-Ideal.div _ (Ideal.ofBits .f32 0x41800000#32) * _) = daS P A b G _ _ _ _ * c16 * dsigS (zS P A b (64 * ((j 0).val / 64) + (j 0).val % 64) (128 * ((j 1).val / 128) + (j 1).val % 128))
  rw [EReal.neg_mul, neg_neg, div_sixteen, Nat.div_add_mod, Nat.div_add_mod]

theorem dba_is {x : Vec S4096x512} (hx : Is2 x (dzR P A b G)) :
    Is2 (n0 := 1) (n1 := 512) (shapeCast S1x512 (Host.reduceAdd x (constant (F := Ideal) S_ .f32 0x00000000#32) reducesTo_S4096x512_S512_d0 h_S_) shapeCasts_S512_S1x512)
      (fun _ c => dbaR P A b G c) := fun j => by
  have j0 : (j 0).val < 1 := (j 0).isLt
  refine (shapeCast_at _ _ j (ValueIdx.ix1 (j 1)) ?_).trans ?_
  · rw [Shape.rowMajor_val_one, Shape.rowMajor_val_two]
    show (j 1).val = (j 0).val * 512 + (j 1).val
    omega
  · exact hostred_at x _ _ (by decide) h_S_ f32_zero _ 4096 rfl (fun r => dzR P A b G r (j 1).val) fun r => hx _

theorem dwa_is {x : Vec S4096x512} {l : Vec S4096x16} (hx : Is2 x (dzR P A b G)) (hl : Is2 l (fun r a => P r (10240 + a))) :
    Is2 (n0 := 16) (n1 := 512) (transpose S16x512 [1, 0] (Host.dotGeneral dot_S4096x512_S4096x16_S512x16_0_0_1_1_n_n none (φ₂ := .f32) x l) transposes_S512x16_S16x512_1_0)
      (dwaR P A b G) := by
  have e : Is2 (n0 := 512) (n1 := 16) (Host.dotGeneral dot_S4096x512_S4096x16_S512x16_0_0_1_1_n_n none (φ₂ := .f32) x l) (fun c a => dwaR P A b G a c) := fun j =>
    dot_at _ none x l j 4096 rfl rfl (fun r => P r (10240 + (j 1).val) * dzR P A b G r (j 0).val) fun r =>
      (mul_comm (_ : EReal) _).trans (congrArg₂ (fun x y : EReal => x * y) (hl _) (hx _))
  exact fun j => e _

theorem dlr_is {x : Vec S4096x512} {a : Vec S16x512} (hx : Is2 x (dzR P A b G)) (ha : Is2 a A) :
    Is2 (n0 := 4096) (n1 := 16) (truncf .bf16 (Host.dotGeneral dot_S4096x512_S16x512_S4096x16_1_1_0_0_n_n none (φ₂ := .f32) x a) bitsLt_bf16_f32) (dlrR P A b G) := fun j =>
  dot_at _ none x a j 512 rfl rfl (fun c => dzR P A b G (j 0).val c * A (j 1).val c) fun c =>
    congrArg₂ (fun x y : EReal => x * y) (hx _) (ha _)

end

end Cert.ReferenceIdeal.Gen

end
-- ==== Proof.Ref.Loop.lean ====
module

public import proofs.«01_k».proof.Proof.Ref.Val1
public import proofs.«01_k».proof.Proof.Ref.ValE

@[expose] public section

noncomputable section

/-! # What the reference's loops keep true from trip to trip -/

namespace Cert.ReferenceIdeal.Gen

open Idealize.ShloMosaic Idealize.ShloMosaic.TcCoe Cert.Val
open Idealize.ShloMosaic.StableHlo

/-- A stack holds `F` at the chunks `S`: of rank five, -/
def On5 (S : ℕ → Prop) {n a b c : ℕ} (x : (⟨5, ![n, 1, a, b, c]⟩ : Shape).Idx → EReal) (F : ℕ → ℕ → ℕ → ℕ → EReal) : Prop :=
  ∀ j, S (j 0).val → x j = F (j 0).val (j 2).val (j 3).val (j 4).val
/-- and of rank four. -/
def On4 (S : ℕ → Prop) {n a b : ℕ} (x : (⟨4, ![n, 1, a, b]⟩ : Shape).Idx → EReal) (F : ℕ → ℕ → ℕ → EReal) : Prop :=
  ∀ j, S (j 0).val → x j = F (j 0).val (j 2).val (j 3).val

/-- A counter's value. -/
def Ctr (i : IVec S_ 32) (N : ℕ) : Prop := (i (Shape.Idx.first h_S_)).toInt = N

section
variable {S S' : ℕ → Prop} {a b c : ℕ} {F : ℕ → ℕ → ℕ → ℕ → EReal} {F4 : ℕ → ℕ → ℕ → EReal} {i : IVec S_ 32} {N : ℕ}

theorem take_is {x : (⟨5, ![64, 1, a, b, c]⟩ : Shape).Idx → EReal} (hi : Ctr i N) (hN : N < 64) (hS : S N) (hx : On5 S x F)
    (h : (⟨5, ![64, 1, a, b, c]⟩ : Shape).Slices (fun _ => 0) ⟨5, ![1, 1, a, b, c]⟩)
    (hc : (⟨5, ![1, 1, a, b, c]⟩ : Shape).ShapeCasts ⟨4, ![1, a, b, c]⟩) :
    Is4 (n0 := 1) (n1 := a) (n2 := b) (n3 := c) (shapeCast ⟨4, ![1, a, b, c]⟩ (Host.dynamicSlice ⟨5, ![1, 1, a, b, c]⟩ x (at5 i) h) hc) (fun _ p q r => F N p q r) :=
  take5_is (at5 i) h hc hN hi rfl rfl rfl fun j hj => by rw [hx j (hj ▸ hS), hj]

theorem take_row_is {x : (⟨4, ![64, 1, a, b]⟩ : Shape).Idx → EReal} (hi : Ctr i N) (hN : N < 64) (hS : S N) (hx : On4 S x F4)
    (h : (⟨4, ![64, 1, a, b]⟩ : Shape).Slices (fun _ => 0) ⟨4, ![1, 1, a, b]⟩)
    (hc : (⟨4, ![1, 1, a, b]⟩ : Shape).ShapeCasts ⟨3, ![1, a, b]⟩) :
    Is3 (n0 := 1) (n1 := a) (n2 := b) (shapeCast ⟨3, ![1, a, b]⟩ (Host.dynamicSlice ⟨4, ![1, 1, a, b]⟩ x (at4 i) h) hc) (fun _ p q => F4 N p q) :=
  take4_is (at4 i) h hc hN hi rfl rfl fun j hj => by rw [hx j (hj ▸ hS), hj]

theorem put_is {x : (⟨5, ![64, 1, a, b, c]⟩ : Shape).Idx → EReal} {u : (⟨4, ![1, a, b, c]⟩ : Shape).Idx → EReal}
    (hi : Ctr i N) (hN : N < 64) (hS : ∀ n, S' n → n = N ∨ S n) (hx : On5 S x F) (hu : Is4 u (fun _ p q r => F N p q r))
    (hb : (⟨4, ![1, a, b, c]⟩ : Shape).BroadcastsInDim ⟨5, ![1, 1, a, b, c]⟩ ![1, 2, 3, 4])
    (h : (⟨5, ![64, 1, a, b, c]⟩ : Shape).Slices (fun _ => 0) ⟨5, ![1, 1, a, b, c]⟩) :
    On5 S' (Host.dynamicUpdateSlice x (broadcastInDim ⟨5, ![1, 1, a, b, c]⟩ ![1, 2, 3, 4] hb u) (at5 i) h) F := fun j hj =>
  put5_is (at5 i) hb h hN hi rfl rfl rfl rfl hx hu j (hS _ hj)

theorem put_row_is {x : (⟨4, ![64, 1, a, b]⟩ : Shape).Idx → EReal} {u : (⟨3, ![1, a, b]⟩ : Shape).Idx → EReal}
    (hi : Ctr i N) (hN : N < 64) (hS : ∀ n, S' n → n = N ∨ S n) (hx : On4 S x F4) (hu : Is3 u (fun _ p q => F4 N p q))
    (hb : (⟨3, ![1, a, b]⟩ : Shape).BroadcastsInDim ⟨4, ![1, 1, a, b]⟩ ![1, 2, 3])
    (h : (⟨4, ![64, 1, a, b]⟩ : Shape).Slices (fun _ => 0) ⟨4, ![1, 1, a, b]⟩) :
    On4 S' (Host.dynamicUpdateSlice x (broadcastInDim ⟨4, ![1, 1, a, b]⟩ ![1, 2, 3] hb u) (at4 i) h) F4 := fun j hj =>
  put4_is (at4 i) hb h hN hi rfl rfl rfl hx hu j (hS _ hj)
end

section
variable (P A : ℕ → ℕ → EReal) (b : ℕ → EReal) (G : ℕ → ℕ → EReal) (V : Valuation τ sig (Elt Ideal))

/-- What the first loop reads. -/
structure In0 : Prop where
  q : Is5 (n0 := 64) (n1 := 1) (n2 := 4) (n3 := 64) (n4 := 128) (V main_v36_0) (fun N _ h i d => blk P N (128 * h) i d * scS)
  k : Is5 (n0 := 64) (n1 := 1) (n2 := 4) (n3 := 64) (n4 := 128) (V main_v36_1) (fun N _ h i d => blk P N (512 + 128 * h) i d)
  v : Is5 (n0 := 64) (n1 := 1) (n2 := 4) (n3 := 64) (n4 := 256) (V main_v36_2) (fun N _ h i e => blk P N (1024 + 256 * h) i e)
  a : Is5 (n0 := 64) (n1 := 1) (n2 := 4) (n3 := 64) (n4 := 128) (V main_v36_3) (fun N _ h i d => blk (laS P A b) N (128 * h) i d)

/-- What its stacks hold at the chunks `S`. -/
structure Out0 (S : ℕ → Prop) : Prop where
  o : On5 (n := 64) (a := 4) (b := 64) (c := 256) S (V main_v36_6) (fun N h i e => oS P A b N h i e)
  w : On5 (n := 64) (a := 4) (b := 64) (c := 128) S (V main_v36_7) (fun N h i d => wP (blk (laS P A b) N (128 * h)) i d)
  e : On4 (n := 64) (a := 4) (b := 128) S (V main_v36_8) (fun N h d => eP (blk (laS P A b) N (128 * h)) d)
  sp : On5 (n := 64) (a := 4) (b := 128) (c := 256) S (V main_v36_9) (fun N h d e => stS P A b N h d e)
  ec : On5 (n := 64) (a := 4) (b := 128) (c := 1) S (V main_v36_10) (fun N h d _ => eP (blk (laS P A b) N (128 * h)) d)
  kd : On5 (n := 64) (a := 4) (b := 64) (c := 128) S (V main_v36_11) (fun N h i d => kdP (blk (laS P A b) N (128 * h)) (blk P N (512 + 128 * h)) i d)
  st : On5 (n := 64) (a := 4) (b := 128) (c := 256) S (V main_v36_12) (fun N h d e => stS P A b (N + 1) h d e)

/-- The state before chunk `k`. -/
def St0 (k : ℕ) : Prop := Is4 (n0 := 1) (n1 := 4) (n2 := 128) (n3 := 256) (V main_v36_5) (fun _ h d e => stS P A b k h d e)

/-- What the second loop reads. -/
structure In1 : Prop where
  g : Is5 (n0 := 64) (n1 := 1) (n2 := 4) (n3 := 64) (n4 := 256) (V main_v47_0) (fun N _ h i e => blk G N (256 * h) i e)
  w : On5 (n := 64) (a := 4) (b := 64) (c := 128) (· < 64) (V main_v47_1) (fun N h i d => wP (blk (laS P A b) N (128 * h)) i d)
  k : Is5 (n0 := 64) (n1 := 1) (n2 := 4) (n3 := 64) (n4 := 128) (V main_v47_2) (fun N _ h i d => blk P N (512 + 128 * h) i d)
  e : On4 (n := 64) (a := 4) (b := 128) (· < 64) (V main_v47_3) (fun N h d => eP (blk (laS P A b) N (128 * h)) d)
  sp : On5 (n := 64) (a := 4) (b := 128) (c := 256) (· < 64) (V main_v47_4) (fun N h d e => stS P A b N h d e)
  ec : On5 (n := 64) (a := 4) (b := 128) (c := 1) (· < 64) (V main_v47_5) (fun N h d _ => eP (blk (laS P A b) N (128 * h)) d)
  v : Is5 (n0 := 64) (n1 := 1) (n2 := 4) (n3 := 64) (n4 := 256) (V main_v47_6) (fun N _ h i e => blk P N (1024 + 256 * h) i e)
  kd : On5 (n := 64) (a := 4) (b := 64) (c := 128) (· < 64) (V main_v47_7) (fun N h i d => kdP (blk (laS P A b) N (128 * h)) (blk P N (512 + 128 * h)) i d)
  st : On5 (n := 64) (a := 4) (b := 128) (c := 256) (· < 64) (V main_v47_8) (fun N h d e => stS P A b (N + 1) h d e)
  q : Is5 (n0 := 64) (n1 := 1) (n2 := 4) (n3 := 64) (n4 := 128) (V main_v47_9) (fun N _ h i d => blk P N (128 * h) i d * scS)

/-- What its stacks hold at the chunks `S`. -/
structure Out1 (S : ℕ → Prop) : Prop where
  dq : On5 (n := 64) (a := 4) (b := 64) (c := 128) S (V main_v47_12)
    (fun N h i d => ∑ e ∈ Finset.range 256, blk G N (256 * h) i e * stS P A b (N + 1) h d e)
  dk : On5 (n := 64) (a := 4) (b := 64) (c := 128) S (V main_v47_13) (fun N h i d => dkS P A b G N h i d)
  dv : On5 (n := 64) (a := 4) (b := 64) (c := 256) S (V main_v47_14) (fun N h i e => dvS P A b G N h i e)
  da : On5 (n := 64) (a := 4) (b := 64) (c := 128) S (V main_v47_15) (fun N h i d => daS P A b G N h i d)

/-- The gradient of the state before the `k`-th trip. -/
def St1 (k : ℕ) : Prop := Is4 (n0 := 1) (n1 := 4) (n2 := 128) (n3 := 256) (V main_v47_11) (fun _ h d e => dsS P A b G k h d e)

variable {P A b G V} {k : ℕ}

theorem st_zero (h : ℕ) : stS P A b 0 h = fun _ _ => 0 := by rw [stS]

theorem ds_zero (h : ℕ) : dsS P A b G 0 h = fun _ _ => 0 := by rw [dsS]

theorem st_succ (h : ℕ) : stS P A b (k + 1) h
    = stepP (blk (laS P A b) k (128 * h)) (blk P k (512 + 128 * h)) (blk P k (1024 + 256 * h)) (stS P A b k h) := by
  rw [stS]

theorem ds_succ (h : ℕ) : dsS P A b G (k + 1) h
    = passP (blk (laS P A b) (63 - k) (128 * h)) (totP (blk P (63 - k) (128 * h)) (blk G (63 - k) (256 * h)) (dsS P A b G k h)) := by
  rw [dsS]

attribute [local irreducible] stS dsS stepP totP passP readP wP eP kdP dqP dkdP dkP dvP dwtP dexpP dcumP blk laS

theorem step0 (hk : k < 64) (hc : Ctr (V main_v36_4) k) (hi : In0 P A b V) (ho : Out0 P A b V (· < k)) (hs : St0 P A b V k) :
    Out0 P A b (afterL trip0I V) (· < k + 1) ∧ St0 P A b (afterL trip0I V) (k + 1) := by
  obtain ⟨r5, r6, r7, r8, r9, r10, r11, r12⟩ := trip0_reads V
  have S : ∀ n, n < k + 1 → n = k ∨ n < k := fun n h => by omega
  have ha : Is4 (aT V) (fun _ h i d => blk (laS P A b) k (128 * h) i d) :=
    take_is (S := fun _ => True) (F := fun N h i d => blk (laS P A b) N (128 * h) i d) hc hk trivial (fun j _ => hi.a j) sliceFits_S64x1x4x64x128_S1x1x4x64x128 shapeCasts_S1x1x4x64x128_S1x4x64x128
  have hkk : Is4 (kT V) (fun _ h i d => blk P k (512 + 128 * h) i d) :=
    take_is (S := fun _ => True) (F := fun N h i d => blk P N (512 + 128 * h) i d) hc hk trivial (fun j _ => hi.k j) sliceFits_S64x1x4x64x128_S1x1x4x64x128 shapeCasts_S1x1x4x64x128_S1x4x64x128
  have hv : Is4 (vT V) (fun _ h i e => blk P k (1024 + 256 * h) i e) :=
    take_is (S := fun _ => True) (F := fun N h i d => blk P N (1024 + 256 * h) i d) hc hk trivial (fun j _ => hi.v j) sliceFits_S64x1x4x64x256_S1x1x4x64x256 shapeCasts_S1x1x4x64x256_S1x4x64x256
  have hq : Is4 (qT V) (fun _ h i d => blk P k (128 * h) i d * scS) :=
    take_is (S := fun _ => True) (F := fun N h i d => blk P N (128 * h) i d * scS) hc hk trivial (fun j _ => hi.q j) sliceFits_S64x1x4x64x128_S1x1x4x64x128 shapeCasts_S1x1x4x64x128_S1x4x64x128
  have hst : Is4 (sT V) (fun _ h d e => stS P A b (k + 1) h d e) := fun j =>
    (stepR_is ha hkk hv hs j).trans (congrFun (congrFun (st_succ _).symm _) _)
  refine ⟨⟨?_, ?_, ?_, ?_, ?_, ?_, ?_⟩, ?_⟩
  · rw [r6]; exact put_is hc hk S ho.o (readR_is hq hst) _ _
  · rw [r7]; exact put_is hc hk S ho.w (wR_is ha) _ _
  · rw [r8]; exact put_row_is hc hk S ho.e (eR_is ha) _ _
  · rw [r9]; exact put_is hc hk S ho.sp hs _ _
  · rw [r10]; exact put_is hc hk S ho.ec (ecR_is ha) _ _
  · rw [r11]; exact put_is hc hk S ho.kd (kdR_is ha hkk) _ _
  · rw [r12]; exact put_is hc hk S ho.st hst _ _
  · unfold St0; rw [r5]; exact hst

theorem step1 (hk : k < 64) (hc : Ctr (jU V) (63 - k)) (hi : In1 P A b G V) (ho : Out1 P A b G V (64 - k ≤ ·)) (hs : St1 P A b G V k) :
    Out1 P A b G (afterL trip1I V) (64 - (k + 1) ≤ ·) ∧ St1 P A b G (afterL trip1I V) (k + 1) := by
  obtain ⟨r11, r12, r13, r14, r15⟩ := trip1_reads V
  have hN : 63 - k < 64 := by omega
  have S : ∀ n, 64 - (k + 1) ≤ n → n = 63 - k ∨ 64 - k ≤ n := fun n h => by omega
  have hg : Is4 (takeV (V main_v47_0) (jU V)) (fun _ h i e => blk G (63 - k) (256 * h) i e) :=
    take_is (S := fun _ => True) (F := fun N h i d => blk G N (256 * h) i d) hc hN trivial (fun j _ => hi.g j) sliceFits_S64x1x4x64x256_S1x1x4x64x256 shapeCasts_S1x1x4x64x256_S1x4x64x256
  have hq : Is4 (takeK (V main_v47_9) (jU V)) (fun _ h i d => blk P (63 - k) (128 * h) i d * scS) :=
    take_is (S := fun _ => True) (F := fun N h i d => blk P N (128 * h) i d * scS) hc hN trivial (fun j _ => hi.q j) sliceFits_S64x1x4x64x128_S1x1x4x64x128 shapeCasts_S1x1x4x64x128_S1x4x64x128
  have hkk : Is4 (takeK (V main_v47_2) (jU V)) (fun _ h i d => blk P (63 - k) (512 + 128 * h) i d) :=
    take_is (S := fun _ => True) (F := fun N h i d => blk P N (512 + 128 * h) i d) hc hN trivial (fun j _ => hi.k j) sliceFits_S64x1x4x64x128_S1x1x4x64x128 shapeCasts_S1x1x4x64x128_S1x4x64x128
  have hv : Is4 (takeV (V main_v47_6) (jU V)) (fun _ h i e => blk P (63 - k) (1024 + 256 * h) i e) :=
    take_is (S := fun _ => True) (F := fun N h i d => blk P N (1024 + 256 * h) i d) hc hN trivial (fun j _ => hi.v j) sliceFits_S64x1x4x64x256_S1x1x4x64x256 shapeCasts_S1x1x4x64x256_S1x4x64x256
  have hw : Is4 (wU V) (fun _ h i d => wP (blk (laS P A b) (63 - k) (128 * h)) i d) := take_is hc hN hN hi.w sliceFits_S64x1x4x64x128_S1x1x4x64x128 shapeCasts_S1x1x4x64x128_S1x4x64x128
  have he : Is3 (takeE (V main_v47_3) (jU V)) (fun _ h d => eP (blk (laS P A b) (63 - k) (128 * h)) d) := take_row_is hc hN hN hi.e _ _
  have hsp : Is4 (takeS (V main_v47_4) (jU V)) (fun _ h d e => stS P A b (63 - k) h d e) := take_is hc hN hN hi.sp _ _
  have hec : Is4 (takeC (V main_v47_5) (jU V)) (fun _ h d _ => eP (blk (laS P A b) (63 - k) (128 * h)) d) := take_is hc hN hN hi.ec _ _
  have hkd : Is4 (takeK (V main_v47_7) (jU V)) (fun _ h i d => kdP (blk (laS P A b) (63 - k) (128 * h)) (blk P (63 - k) (512 + 128 * h)) i d) :=
    take_is hc hN hN hi.kd _ _
  have hst : Is4 (takeS (V main_v47_8) (jU V)) (fun _ h d e => stS P A b (63 - k + 1) h d e) := take_is hc hN hN hi.st _ _
  have ht0 := totR_is hq hg hs
  have e : ∀ h, totP (blk P (63 - k) (128 * h)) (blk G (63 - k) (256 * h)) (dsS P A b G k h) = dtS P A b G (63 - k) h := fun h => by
    rw [dtS, show 63 - (63 - k) = k by omega]
  have ht : Is4 (tU V) (fun _ h d e => dtS P A b G (63 - k) h d e) := fun j => (ht0 j).trans (congrFun (congrFun (e _) _) _)
  have hx := dcumR_is he (dexpR_is ht hsp) (dwtR_is hkk hw hv ht)
  refine ⟨⟨?_, ?_, ?_, ?_⟩, ?_⟩
  · rw [r12]; exact put_is hc hN S ho.dq (dqR_is hg hst) _ _
  · rw [r13]; exact put_is hc hN S ho.dk (dkR_is hw hv ht) _ _
  · rw [r14]; exact put_is hc hN S ho.dv (dvR_is hkd ht) _ _
  · rw [r15]; exact put_is hc hN S ho.da (daR_is hx) _ _
  · unfold St1; rw [r11]
    exact fun j => (passR_is hec ht0 j).trans (congrFun (congrFun (ds_succ _).symm _) _)

end

end Cert.ReferenceIdeal.Gen

end
-- ==== Proof.Ref.Final.lean ====
module

public import proofs.«01_k».proof.Proof.Ref.Loop

@[expose] public section

noncomputable section

/-! # The reference's results -/

namespace Cert.ReferenceIdeal.Gen

open Idealize.ShloMosaic Idealize.ShloMosaic.TcCoe Cert.Val
open Idealize.ShloMosaic.StableHlo

section
variable {P A : ℕ → ℕ → EReal} {b : ℕ → EReal} {G : ℕ → ℕ → EReal} {V V' : Valuation τ sig (Elt Ideal)} {S : ℕ → Prop} {k : ℕ}

/-! ## What a test leaves -/

theorem In0.of (h : ∀ r : Ref sig .tc, r ∉ test0W → V' (Proc.devRef .tc r) = V (Proc.devRef .tc r)) (hi : In0 P A b V) : In0 P A b V' :=
  ⟨by rw [h _ (by decide)]; exact hi.q, by rw [h _ (by decide)]; exact hi.k, by rw [h _ (by decide)]; exact hi.v, by rw [h _ (by decide)]; exact hi.a⟩
theorem Out0.of (h : ∀ r : Ref sig .tc, r ∉ test0W → V' (Proc.devRef .tc r) = V (Proc.devRef .tc r)) (ho : Out0 P A b V S) : Out0 P A b V' S :=
  ⟨by rw [h _ (by decide)]; exact ho.o, by rw [h _ (by decide)]; exact ho.w, by rw [h _ (by decide)]; exact ho.e, by rw [h _ (by decide)]; exact ho.sp,
    by rw [h _ (by decide)]; exact ho.ec, by rw [h _ (by decide)]; exact ho.kd, by rw [h _ (by decide)]; exact ho.st⟩
theorem St0.of (h : ∀ r : Ref sig .tc, r ∉ test0W → V' (Proc.devRef .tc r) = V (Proc.devRef .tc r)) (hs : St0 P A b V k) : St0 P A b V' k := by
  unfold St0; rw [h _ (by decide)]; exact hs
theorem In1.of (h : ∀ r : Ref sig .tc, r ∉ test1W → V' (Proc.devRef .tc r) = V (Proc.devRef .tc r)) (hi : In1 P A b G V) : In1 P A b G V' :=
  ⟨by rw [h _ (by decide)]; exact hi.g, by rw [h _ (by decide)]; exact hi.w, by rw [h _ (by decide)]; exact hi.k, by rw [h _ (by decide)]; exact hi.e,
    by rw [h _ (by decide)]; exact hi.sp, by rw [h _ (by decide)]; exact hi.ec, by rw [h _ (by decide)]; exact hi.v, by rw [h _ (by decide)]; exact hi.kd,
    by rw [h _ (by decide)]; exact hi.st, by rw [h _ (by decide)]; exact hi.q⟩
theorem Out1.of (h : ∀ r : Ref sig .tc, r ∉ test1W → V' (Proc.devRef .tc r) = V (Proc.devRef .tc r)) (ho : Out1 P A b G V S) : Out1 P A b G V' S :=
  ⟨by rw [h _ (by decide)]; exact ho.dq, by rw [h _ (by decide)]; exact ho.dk, by rw [h _ (by decide)]; exact ho.dv, by rw [h _ (by decide)]; exact ho.da⟩
theorem St1.of (h : ∀ r : Ref sig .tc, r ∉ test1W → V' (Proc.devRef .tc r) = V (Proc.devRef .tc r)) (hs : St1 P A b G V k) : St1 P A b G V' k := by
  unfold St1; rw [h _ (by decide)]; exact hs

/-! ## The counters -/

theorem iv_toInt (hk : k < 64) : (Scf.iv 0#32 1#32 k).toInt = k :=
  (by decide : ∀ n : Fin 64, (Scf.iv 0#32 1#32 n.val).toInt = n.val) ⟨k, hk⟩
theorem back_toInt (hk : k < 64) : ((64#32 - Scf.iv 0#32 1#32 k) - 1#32).toInt = (63 - k : ℕ) :=
  (by decide : ∀ n : Fin 64, ((64#32 - Scf.iv 0#32 1#32 n.val) - 1#32).toInt = (63 - n.val : ℕ)) ⟨k, hk⟩

end

/-- The four gradients side by side. -/
theorem joined_is {P A : ℕ → ℕ → EReal} {b : ℕ → EReal} {G X : ℕ → ℕ → EReal} {x y : S4096x512.Idx → EReal} {z : S4096x1024.Idx → EReal} {t : S4096x8320.Idx → EReal}
    (hx : Is2 x (fun r c => dqS P A b G (r / 64) (c / 128) (r % 64) (c % 128))) (hy : Is2 y (fun r c => dkS P A b G (r / 64) (c / 128) (r % 64) (c % 128)))
    (hz : Is2 z (fun r c => dvS P A b G (r / 64) (c / 256) (r % 64) (c % 256))) (ht : Is2 t (fun r c => X (0 + r) (2048 + c))) :
    Is2 (n0 := 4096) (n1 := 10368) (concatenate S4096x10368 1 [⟨S4096x512, x⟩, ⟨S4096x512, y⟩, ⟨S4096x1024, z⟩, ⟨S4096x8320, t⟩]
      concatenates_S4096x512_S4096x512_S4096x1024_S4096x8320_S4096x10368_d1) (dpR P A b G X) := fun j => by
  have j1 : (j 1).val < 10368 := (j 1).isLt
  have side : ∀ (w : ℕ) (i : (⟨2, ![4096, w]⟩ : Shape).Idx), (i 0).val = (j 0).val → ∀ a : Fin 2, a ≠ 1 → (i a).val = (j a).val := fun w i h a ha => by
    fin_cases a
    · exact h
    · exact absurd rfl ha
  show _ = dpR P A b G X (j 0).val (j 1).val
  unfold dpR
  by_cases h1 : (j 1).val < 512
  · rw [if_pos h1]
    exact (concatenate_apply_piece 1 _ _ j 0 (by simp) S4096x512 x rfl rfl 0 rfl (ValueIdx.ix2 (j 0) ⟨(j 1).val, h1⟩) (side 512 _ rfl) (Nat.zero_add _)).trans (hx _)
  rw [if_neg h1]
  by_cases h2 : (j 1).val < 1024
  · rw [if_pos h2]
    exact (concatenate_apply_piece 1 _ _ j 1 (by simp) S4096x512 y rfl rfl 512 rfl (ValueIdx.ix2 (j 0) ⟨(j 1).val - 512, by omega⟩) (side 512 _ rfl)
      (show 512 + ((j 1).val - 512) = (j 1).val by omega)).trans (hy _)
  rw [if_neg h2]
  by_cases h3 : (j 1).val < 2048
  · rw [if_pos h3]
    exact (concatenate_apply_piece 1 _ _ j 2 (by simp) S4096x1024 z rfl rfl 1024 rfl (ValueIdx.ix2 (j 0) ⟨(j 1).val - 1024, by omega⟩) (side 1024 _ rfl)
      (show 1024 + ((j 1).val - 1024) = (j 1).val by omega)).trans (hz _)
  rw [if_neg h3]
  refine (concatenate_apply_piece 1 _ _ j 3 (by simp) S4096x8320 t rfl rfl 2048 rfl (ValueIdx.ix2 (j 0) ⟨(j 1).val - 2048, by omega⟩) (side 8320 _ rfl)
      (show 2048 + ((j 1).val - 2048) = (j 1).val by omega)).trans ((ht _).trans ?_)
  show X (0 + (j 0).val) (2048 + ((j 1).val - 2048)) = _
  rw [Nat.zero_add, show 2048 + ((j 1).val - 2048) = (j 1).val by omega]

section
variable {P A : ℕ → ℕ → EReal} {b : ℕ → EReal} {G X : ℕ → ℕ → EReal} {V : Valuation τ sig (Elt Ideal)}

theorem dq_is (ho : Out1 P A b G V (0 ≤ ·)) :
    Is2 (backK (mulf (joinK (V main_v47_12)) fillQ)) (fun r c => dqS P A b G (r / 64) (c / 128) (r % 64) (c % 128)) :=
  backQ_is (F := fun N h i d => ∑ e ∈ Finset.range 256, blk G N (256 * h) i e * stS P A b (N + 1) h d e) fun j => ho.dq j (Nat.zero_le _)
theorem dk_is (ho : Out1 P A b G V (0 ≤ ·)) :
    Is2 (backK (joinK (V main_v47_13))) (fun r c => dkS P A b G (r / 64) (c / 128) (r % 64) (c % 128)) :=
  backK_is (F := dkS P A b G) fun j => ho.dk j (Nat.zero_le _)
theorem dv_is (ho : Out1 P A b G V (0 ≤ ·)) :
    Is2 (shapeCast S4096x1024 (shapeCast S1x4096x4x256 (turnV (V main_v47_14)) shapeCasts_S1x64x64x4x256_S1x4096x4x256) shapeCasts_S1x4096x4x256_S4096x1024)
      (fun r c => dvS P A b G (r / 64) (c / 256) (r % 64) (c % 256)) :=
  backV_is (F := dvS P A b G) fun j => ho.dv j (Nat.zero_le _)
theorem rest_is (hx : Is2 (n0 := 4096) (n1 := 10368) (V (Proc.devRef .tc main_arg4)) X) :
    Is2 (extractStridedSlice S4096x8320 ![0, 2048] (V main_arg4 : FVec Ideal S4096x10368 .bf16) slices_S4096x10368_S4096x8320_0_2048) (fun r c => X (0 + r) (2048 + c)) :=
  slice2_is (m0 := 4096) (m1 := 8320) hx 0 2048 slices_S4096x10368_S4096x8320_0_2048

theorem dp_is (ho : Out1 P A b G V (0 ≤ ·)) (hx : Is2 (n0 := 4096) (n1 := 10368) (V (Proc.devRef .tc main_arg4)) X) :
    Is2 (n0 := 4096) (n1 := 10368) (concatenate S4096x10368 1
        [⟨S4096x512, truncf .bf16 (backK (mulf (joinK (V main_v47_12)) fillQ)) bitsLt_bf16_f32⟩,
         ⟨S4096x512, truncf .bf16 (backK (joinK (V main_v47_13))) bitsLt_bf16_f32⟩,
         ⟨S4096x1024, truncf .bf16 (shapeCast S4096x1024 (shapeCast S1x4096x4x256 (turnV (V main_v47_14)) shapeCasts_S1x64x64x4x256_S1x4096x4x256) shapeCasts_S1x4096x4x256_S4096x1024) bitsLt_bf16_f32⟩,
         ⟨S4096x8320, extractStridedSlice S4096x8320 ![0, 2048] (V main_arg4 : FVec Ideal S4096x10368 .bf16) slices_S4096x10368_S4096x8320_0_2048⟩]
        concatenates_S4096x512_S4096x512_S4096x1024_S4096x8320_S4096x10368_d1) (dpR P A b G X) :=
  joined_is (x := truncf .bf16 (backK (mulf (joinK (V main_v47_12)) fillQ)) bitsLt_bf16_f32) (y := truncf .bf16 (backK (joinK (V main_v47_13))) bitsLt_bf16_f32)
    (z := truncf .bf16 (shapeCast S4096x1024 (shapeCast S1x4096x4x256 (turnV (V main_v47_14)) shapeCasts_S1x64x64x4x256_S1x4096x4x256) shapeCasts_S1x4096x4x256_S4096x1024) bitsLt_bf16_f32)
    (fun j => dq_is ho j) (fun j => dk_is ho j) (fun j => dv_is ho j) (rest_is hx)

end

variable (m : (ℓ : Loc nD τ sig) → Buf (Elt Ideal) ℓ) (c : Dev nD)

/-! ## Buffers that keep their contents -/

theorem entry0_keep {r : Ref sig .tc} (h : r ∉ preW) : entry0 m c (Proc.devRef .tc r) = m ((c.tc : Thread nD τ).loc r) := by
  rw [entry0, afterL_flatten]
  exact after_unwritten preW pre_writes h _
theorem at0_keep {r : Ref sig .tc} (h : r ∉ trip0W ++ test0W) (k : ℕ) : at0 m k c (Proc.devRef .tc r) = entry0 m c (Proc.devRef .tc r) := by
  simp only [List.mem_append, not_or] at h
  induction k with
  | zero => rfl
  | succ k ih =>
    rw [show at0 m (k + 1) c = afterL trip0I (after test0 (at0 m k c)) from rfl, afterL_flatten, after_unwritten trip0W trip0_writes h.1 _, after_test0 _ h.2, ih]
theorem entry1_keep {r : Ref sig .tc} (h : r ∉ midW ++ (trip0W ++ test0W)) : entry1 m c (Proc.devRef .tc r) = entry0 m c (Proc.devRef .tc r) := by
  have h2 := fun t => h (List.mem_append_right midW t)
  simp only [List.mem_append, not_or] at h
  rw [entry1, afterL_flatten, after_unwritten midW mid_writes h.1 _, after_test0 _ h.2.2, at0_keep m c h2]
theorem at1_keep {r : Ref sig .tc} (h : r ∉ trip1W ++ test1W) (k : ℕ) : at1 m k c (Proc.devRef .tc r) = entry1 m c (Proc.devRef .tc r) := by
  simp only [List.mem_append, not_or] at h
  induction k with
  | zero => rfl
  | succ k ih =>
    rw [show at1 m (k + 1) c = afterL trip1I (after test1 (at1 m k c)) from rfl, afterL_flatten, after_unwritten trip1W trip1_writes h.1 _, after_test1 _ h.2, ih]

section
variable {P A : ℕ → ℕ → EReal} {b : ℕ → EReal} {G X : ℕ → ℕ → EReal}
  (hP : Is2 (n0 := 4096) (n1 := 10368) (m ((c.tc : Thread nD τ).loc main_arg0)) P)
  (hA : Is2 (n0 := 16) (n1 := 512) (m ((c.tc : Thread nD τ).loc main_arg1)) A)
  (hb : Is2 (n0 := 1) (n1 := 512) (m ((c.tc : Thread nD τ).loc main_arg2)) (fun _ j => b j))
  (hG : Is2 (n0 := 4096) (n1 := 1024) (m ((c.tc : Thread nD τ).loc main_arg3)) G)
  (hX : Is2 (n0 := 4096) (n1 := 10368) (m ((c.tc : Thread nD τ).loc main_arg4)) X)

include hP hA hb in
theorem in0 (k : ℕ) : In0 P A b (at0 m k c) := by
  obtain ⟨r0, r1, r2, r3, -⟩ := pre_reads (launchContents m c)
  refine ⟨?_, ?_, ?_, ?_⟩ <;> rw [at0_keep m c (by decide +kernel)]
  · rw [entry0, r0]; exact qE_is hP
  · rw [entry0, r1]; exact kE_is hP
  · rw [entry0, r2]; exact vE_is hP
  · rw [entry0, r3]; exact aE_is hP hA hb

include hP hA hb in
theorem loop0 : ∀ k ≤ 64, Out0 P A b (at0 m k c) (· < k) ∧ St0 P A b (at0 m k c) k
  | 0, _ => ⟨⟨fun _ h => absurd h (Nat.not_lt_zero _), fun _ h => absurd h (Nat.not_lt_zero _), fun _ h => absurd h (Nat.not_lt_zero _),
      fun _ h => absurd h (Nat.not_lt_zero _), fun _ h => absurd h (Nat.not_lt_zero _), fun _ h => absurd h (Nat.not_lt_zero _),
      fun _ h => absurd h (Nat.not_lt_zero _)⟩, by
    obtain ⟨-, -, -, -, r5, -⟩ := pre_reads (launchContents m c)
    unfold St0
    rw [show at0 m 0 c = entry0 m c from rfl, entry0, r5]
    exact fun j => f32_zero.trans (congrFun (congrFun (st_zero _).symm _) _)⟩
  | k + 1, hk => by
    have h : ∀ r : Ref sig .tc, r ∉ test0W → after test0 (at0 m k c) (Proc.devRef .tc r) = at0 m k c (Proc.devRef .tc r) := fun r hr => after_test0 _ hr
    obtain ⟨ho, hs⟩ := loop0 k (by omega)
    rw [show at0 m (k + 1) c = afterL trip0I (after test0 (at0 m k c)) from rfl]
    exact step0 hk (by unfold Ctr; rw [h _ (by decide), ctr0]; exact iv_toInt hk) ((in0 m c hP hA hb k).of h) (ho.of h) (hs.of h)

include hP hA hb hG in
theorem in1_entry : In1 P A b G (entry1 m c) := by
  obtain ⟨-, r0, r1, r2, r3, r4, r5, r6, r7, r8, r9, -⟩ := mid_reads (after test0 (at0 m 64 c))
  obtain ⟨-, -, -, -, -, q, k, v, -⟩ := pre_reads (launchContents m c)
  have h : ∀ r : Ref sig .tc, r ∉ test0W → after test0 (at0 m 64 c) (Proc.devRef .tc r) = at0 m 64 c (Proc.devRef .tc r) := fun r hr => after_test0 _ hr
  have ho := ((loop0 m c hP hA hb 64 le_rfl).1).of h
  refine ⟨?_, ?_, ?_, ?_, ?_, ?_, ?_, ?_, ?_, ?_⟩
  · rw [entry1, r0, h _ (by decide), at0_keep m c (by decide +kernel), entry0_keep m c (by decide +kernel)]; exact gE_is hG
  · rw [entry1, r1]; exact ho.w
  · rw [entry1, r2, h _ (by decide), at0_keep m c (by decide +kernel), entry0, k]; exact kE_is hP
  · rw [entry1, r3]; exact ho.e
  · rw [entry1, r4]; exact ho.sp
  · rw [entry1, r5]; exact ho.ec
  · rw [entry1, r6, h _ (by decide), at0_keep m c (by decide +kernel), entry0, v]; exact vE_is hP
  · rw [entry1, r7]; exact ho.kd
  · rw [entry1, r8]; exact ho.st
  · rw [entry1, r9, h _ (by decide), at0_keep m c (by decide +kernel), entry0, q]; exact qE_is hP

include hP hA hb hG in
theorem in1 (k : ℕ) : In1 P A b G (at1 m k c) := by
  have h := in1_entry m c hP hA hb hG
  refine ⟨?_, ?_, ?_, ?_, ?_, ?_, ?_, ?_, ?_, ?_⟩ <;> rw [at1_keep m c (by decide +kernel)]
  · exact h.g
  · exact h.w
  · exact h.k
  · exact h.e
  · exact h.sp
  · exact h.ec
  · exact h.v
  · exact h.kd
  · exact h.st
  · exact h.q

include hP hA hb hG in
theorem loop1 : ∀ k ≤ 64, Out1 P A b G (at1 m k c) (64 - k ≤ ·) ∧ St1 P A b G (at1 m k c) k
  | 0, _ => ⟨⟨fun j h => absurd h (by have : (j 0).val < 64 := (j 0).isLt; omega), fun j h => absurd h (by have : (j 0).val < 64 := (j 0).isLt; omega),
      fun j h => absurd h (by have : (j 0).val < 64 := (j 0).isLt; omega), fun j h => absurd h (by have : (j 0).val < 64 := (j 0).isLt; omega)⟩, by
    obtain ⟨-, -, -, -, -, -, -, -, -, -, -, r11⟩ := mid_reads (after test0 (at0 m 64 c))
    unfold St1
    rw [show at1 m 0 c = entry1 m c from rfl, entry1, r11]
    exact fun j => f32_zero.trans (congrFun (congrFun (ds_zero _).symm _) _)⟩
  | k + 1, hk => by
    have h : ∀ r : Ref sig .tc, r ∉ test1W → after test1 (at1 m k c) (Proc.devRef .tc r) = at1 m k c (Proc.devRef .tc r) := fun r hr => after_test1 _ hr
    obtain ⟨ho, hs⟩ := loop1 k (by omega)
    rw [show at1 m (k + 1) c = afterL trip1I (after test1 (at1 m k c)) from rfl]
    exact step1 hk (by unfold Ctr jU; rw [h _ (by decide), ctr1]; exact back_toInt hk) ((in1 m c hP hA hb hG k).of h) (ho.of h) (hs.of h)

/-! ## The five results -/

include hP hA hb in
theorem final_o_is : Is2 (n0 := 4096) (n1 := 1024) (final m c (Proc.devRef .tc main_v38)) (oR P A b) := by
  obtain ⟨-, -, -, -, r⟩ := fin_reads (after test1 (at1 m 64 c))
  obtain ⟨r0, -⟩ := mid_reads (after test0 (at0 m 64 c))
  rw [final, r, after_test1 _ (by decide), at1_keep m c (by decide +kernel), entry1, r0, after_test0 _ (by decide)]
  exact outV_is (F := oS P A b) fun j => (loop0 m c hP hA hb 64 le_rfl).1.o j (j 0).isLt

include hP hA hb hG in
theorem final_dz_is : Is2 (dzF (after test1 (at1 m 64 c))) (dzR P A b G) := by
  obtain ⟨-, -, -, -, -, -, -, -, -, z⟩ := pre_reads (launchContents m c)
  refine dzF_is ?_ ?_
  · rw [after_test1 _ (by decide)]
    exact fun j => (loop1 m c hP hA hb hG 64 le_rfl).1.da j (Nat.zero_le _)
  · rw [after_test1 _ (by decide), at1_keep m c (by decide +kernel), entry1_keep m c (by decide +kernel), entry0, z]
    exact dsig_is hP hA hb

include hP hA hb hG in
theorem final_dba_is : Is2 (n0 := 1) (n1 := 512) (final m c (Proc.devRef .tc main_v69)) (fun _ j => dbaR P A b G j) := by
  obtain ⟨r, -⟩ := fin_reads (after test1 (at1 m 64 c))
  rw [final, r]
  exact dba_is (final_dz_is m c hP hA hb hG)

include hP hA hb hG in
theorem final_dwa_is : Is2 (n0 := 16) (n1 := 512) (final m c (Proc.devRef .tc main_v71)) (dwaR P A b G) := by
  obtain ⟨-, r, -⟩ := fin_reads (after test1 (at1 m 64 c))
  obtain ⟨-, -, -, -, -, -, -, -, l, -⟩ := pre_reads (launchContents m c)
  rw [final, r]
  refine dwa_is (final_dz_is m c hP hA hb hG) ?_
  rw [after_test1 _ (by decide), at1_keep m c (by decide +kernel), entry1_keep m c (by decide +kernel), entry0, l]
  exact lrR_is hP

include hP hA hb hG in
theorem final_dlr_is : Is2 (n0 := 4096) (n1 := 16) (final m c (Proc.devRef .tc main_v73)) (dlrR P A b G) := by
  obtain ⟨-, -, r, -⟩ := fin_reads (after test1 (at1 m 64 c))
  rw [final, r]
  refine dlr_is (final_dz_is m c hP hA hb hG) ?_
  rw [after_test1 _ (by decide), at1_keep m c (by decide +kernel), entry1_keep m c (by decide +kernel), entry0_keep m c (by decide +kernel)]
  exact hA

include hP hA hb hG in
theorem final_out1 : Out1 P A b G (after test1 (at1 m 64 c)) (0 ≤ ·) :=
  ((loop1 m c hP hA hb hG 64 le_rfl).1).of fun r hr => after_test1 _ hr

include hX in
theorem final_rest_is : Is2 (n0 := 4096) (n1 := 10368) (after test1 (at1 m 64 c) (Proc.devRef .tc main_arg4)) X := by
  rw [after_test1 _ (by decide), at1_keep m c (by decide +kernel), entry1_keep m c (by decide +kernel), entry0_keep m c (by decide +kernel)]
  exact hX

include hP hA hb hG hX in
theorem final_dp_is : Is2 (n0 := 4096) (n1 := 10368) (final m c (Proc.devRef .tc main_v75)) (dpR P A b G X) := by
  have ho := final_out1 m c hP hA hb hG
  have hx := final_rest_is m c hX
  rw [final, (fin_reads (after test1 (at1 m 64 c))).2.2.2.1]
  generalize after test1 (at1 m 64 c) = V at ho hx ⊢
  exact dp_is ho hx

end

end Cert.ReferenceIdeal.Gen

end
-- ==== Proof.Alg.lean ====
module

public import proofs.«01_k».proof.Proof.Frames
public import proofs.«01_k».proof.Proof.Kern.Final
public import proofs.«01_k».proof.Proof.Ref.Final

@[expose] public section

set_option maxRecDepth 16384

noncomputable section

/-! # The two programs end with equal results -/

namespace Cert.Proof

open Idealize.ShloMosaic Idealize.SL.Sem Cert.Val
open KernelIdeal (nD τ sig)
open KernelIdeal.Gen (mem_uc W5 w5_o_is w5_dp_is w5_dlr_is w5_dwa_is w5_dba_is)

attribute [local instance] KernelIdeal.Gen.facts ReferenceIdeal.Gen.facts

section
variable (m : (ℓ : Loc nD τ sig) → Buf (Elt Ideal) ℓ) (g : Dev nD → PrngReg)
variable (m' : (ℓ : Loc ReferenceIdeal.nD ReferenceIdeal.τ ReferenceIdeal.sig) → Buf (Elt Ideal) ℓ)
variable (c : Dev nD)

/-- The arguments on a device as functions of natural numbers: the projections, -/
def argP : ℕ → ℕ → EReal := fn2 (n0 := 4096) (n1 := 10368) (m ((c.tc : Thread nD τ).loc KernelIdeal.main_arg0))
/-- the gates' weights, -/
def argA : ℕ → ℕ → EReal := fn2 (n0 := 16) (n1 := 512) (m ((c.tc : Thread nD τ).loc KernelIdeal.main_arg1))
/-- the gates' bias, -/
def argB : ℕ → EReal := fn2 (n0 := 1) (n1 := 512) (m ((c.tc : Thread nD τ).loc KernelIdeal.main_arg2)) 0
/-- the gradient of the output, -/
def argG : ℕ → ℕ → EReal := fn2 (n0 := 4096) (n1 := 1024) (m ((c.tc : Thread nD τ).loc KernelIdeal.main_arg3))
/-- and the gradients of the other projections. -/
def argX : ℕ → ℕ → EReal := fn2 (n0 := 4096) (n1 := 10368) (m ((c.tc : Thread nD τ).loc KernelIdeal.main_arg4))

theorem argP_is : Is2 (n0 := 4096) (n1 := 10368) (m ((c.tc : Thread nD τ).loc KernelIdeal.main_arg0)) (argP m c) := fn2_is _
theorem argA_is : Is2 (n0 := 16) (n1 := 512) (m ((c.tc : Thread nD τ).loc KernelIdeal.main_arg1)) (argA m c) := fn2_is _
theorem argB_is : Is2 (n0 := 1) (n1 := 512) (m ((c.tc : Thread nD τ).loc KernelIdeal.main_arg2)) (fun _ j => argB m c j) :=
  (fn2_is _).congr fun r j hr _ => by obtain rfl : r = 0 := by omega
                                      rfl
theorem argG_is : Is2 (n0 := 4096) (n1 := 1024) (m ((c.tc : Thread nD τ).loc KernelIdeal.main_arg3)) (argG m c) := fn2_is _
theorem argX_is : Is2 (n0 := 4096) (n1 := 10368) (m ((c.tc : Thread nD τ).loc KernelIdeal.main_arg4)) (argX m c) := fn2_is _

/-- That the reference starts from the kernel's arguments on a device. -/
def SameArgs : Prop :=
  m' ((c.tc : Thread ReferenceIdeal.nD ReferenceIdeal.τ).loc ReferenceIdeal.main_arg0) = m ((c.tc : Thread nD τ).loc KernelIdeal.main_arg0)
  ∧ m' ((c.tc : Thread ReferenceIdeal.nD ReferenceIdeal.τ).loc ReferenceIdeal.main_arg1) = m ((c.tc : Thread nD τ).loc KernelIdeal.main_arg1)
  ∧ m' ((c.tc : Thread ReferenceIdeal.nD ReferenceIdeal.τ).loc ReferenceIdeal.main_arg2) = m ((c.tc : Thread nD τ).loc KernelIdeal.main_arg2)
  ∧ m' ((c.tc : Thread ReferenceIdeal.nD ReferenceIdeal.τ).loc ReferenceIdeal.main_arg3) = m ((c.tc : Thread nD τ).loc KernelIdeal.main_arg3)
  ∧ m' ((c.tc : Thread ReferenceIdeal.nD ReferenceIdeal.τ).loc ReferenceIdeal.main_arg4) = m ((c.tc : Thread nD τ).loc KernelIdeal.main_arg4)

variable {m m' c} (h : SameArgs m m' c)
include h
theorem refP_is : Is2 (n0 := 4096) (n1 := 10368) (m' ((c.tc : Thread ReferenceIdeal.nD ReferenceIdeal.τ).loc ReferenceIdeal.main_arg0)) (argP m c) := by
  rw [h.1]; exact argP_is m c
theorem refA_is : Is2 (n0 := 16) (n1 := 512) (m' ((c.tc : Thread ReferenceIdeal.nD ReferenceIdeal.τ).loc ReferenceIdeal.main_arg1)) (argA m c) := by
  rw [h.2.1]; exact argA_is m c
theorem refB_is : Is2 (n0 := 1) (n1 := 512) (m' ((c.tc : Thread ReferenceIdeal.nD ReferenceIdeal.τ).loc ReferenceIdeal.main_arg2)) (fun _ j => argB m c j) := by
  rw [h.2.2.1]; exact argB_is m c
theorem refG_is : Is2 (n0 := 4096) (n1 := 1024) (m' ((c.tc : Thread ReferenceIdeal.nD ReferenceIdeal.τ).loc ReferenceIdeal.main_arg3)) (argG m c) := by
  rw [h.2.2.2.1]; exact argG_is m c
theorem refX_is : Is2 (n0 := 4096) (n1 := 10368) (m' ((c.tc : Thread ReferenceIdeal.nD ReferenceIdeal.τ).loc ReferenceIdeal.main_arg4)) (argX m c) := by
  rw [h.2.2.2.2]; exact argX_is m c

/-- The output is the same, -/
theorem same_o : ReferenceIdeal.Gen.final m' c (Proc.devRef .tc ReferenceIdeal.main_v38) = W5 m g c (Proc.devRef .tc KernelIdeal.main_v2_0) :=
  (ReferenceIdeal.Gen.final_o_is m' c (refP_is h) (refA_is h) (refB_is h)).unique (w5_o_is m g c (argP_is m c) (argA_is m c) (argB_is m c))
/-- and so are the gradients: of the projections, -/
theorem same_dp : ReferenceIdeal.Gen.final m' c (Proc.devRef .tc ReferenceIdeal.main_v75) = W5 m g c (Proc.devRef .tc KernelIdeal.main_v3_0) :=
  (ReferenceIdeal.Gen.final_dp_is m' c (refP_is h) (refA_is h) (refB_is h) (refG_is h) (refX_is h)).unique
    (w5_dp_is m g c (argP_is m c) (argA_is m c) (argB_is m c) (argG_is m c) (argX_is m c))
/-- of the low-rank projections, -/
theorem same_dlr : ReferenceIdeal.Gen.final m' c (Proc.devRef .tc ReferenceIdeal.main_v73) = W5 m g c (Proc.devRef .tc KernelIdeal.main_v4) :=
  (ReferenceIdeal.Gen.final_dlr_is m' c (refP_is h) (refA_is h) (refB_is h) (refG_is h)).unique
    (w5_dlr_is m g c (argP_is m c) (argA_is m c) (argB_is m c) (argG_is m c))
/-- of the gates' weights -/
theorem same_dwa : ReferenceIdeal.Gen.final m' c (Proc.devRef .tc ReferenceIdeal.main_v71) = W5 m g c (Proc.devRef .tc KernelIdeal.main_v5) :=
  (ReferenceIdeal.Gen.final_dwa_is m' c (refP_is h) (refA_is h) (refB_is h) (refG_is h)).unique
    (w5_dwa_is m g c (argP_is m c) (argA_is m c) (argB_is m c) (argG_is m c))
/-- and of the gates' bias. -/
theorem same_dba : ReferenceIdeal.Gen.final m' c (Proc.devRef .tc ReferenceIdeal.main_v69) = W5 m g c (Proc.devRef .tc KernelIdeal.main_v3_3) :=
  (ReferenceIdeal.Gen.final_dba_is m' c (refP_is h) (refA_is h) (refB_is h) (refG_is h)).unique
    (w5_dba_is m g c (argP_is m c) (argA_is m c) (argB_is m c) (argG_is m c))

end

/-- Both programs end with equal results, the arguments unchanged. -/
theorem equal_results : algebraic_KernelIdeal_ReferenceIdeal := fun m g m' g' _ h =>
  ⟨fun c => W5 m g c (Proc.devRef .tc KernelIdeal.main_v2_0), fun c => W5 m g c (Proc.devRef .tc KernelIdeal.main_v3_0),
    fun c => W5 m g c (Proc.devRef .tc KernelIdeal.main_v4), fun c => W5 m g c (Proc.devRef .tc KernelIdeal.main_v5),
    fun c => W5 m g c (Proc.devRef .tc KernelIdeal.main_v3_3),
    (θ_run _ _ _).mono (fun r k c =>
      ⟨k.1 c _ (mem_uc KernelIdeal.main_v2_0 (by decide)), k.1 c _ (mem_uc KernelIdeal.main_v3_0 (by decide)),
        k.1 c _ (mem_uc KernelIdeal.main_v4 (by decide)), k.1 c _ (mem_uc KernelIdeal.main_v5 (by decide)),
        k.1 c _ (mem_uc KernelIdeal.main_v3_3 (by decide)),
        (k.1 c _ (mem_uc KernelIdeal.main_arg0 (by decide))).trans (KernelIdeal.Gen.W5_main_arg0 m g c),
        (k.1 c _ (mem_uc KernelIdeal.main_arg1 (by decide))).trans (KernelIdeal.Gen.W5_main_arg1 m g c),
        (k.1 c _ (mem_uc KernelIdeal.main_arg2 (by decide))).trans (KernelIdeal.Gen.W5_main_arg2 m g c),
        (k.1 c _ (mem_uc KernelIdeal.main_arg3 (by decide))).trans (KernelIdeal.Gen.W5_main_arg3 m g c),
        (k.1 c _ (mem_uc KernelIdeal.main_arg4 (by decide))).trans (KernelIdeal.Gen.W5_main_arg4 m g c)⟩)
      (KernelIdeal.Gen.run_all m g),
    (ReferenceIdeal.Gen.run_final m' g').mono fun r k c =>
      ⟨(k.1 c ReferenceIdeal.main_v38 (by decide)).trans (same_o g (h c)), (k.1 c ReferenceIdeal.main_v75 (by decide)).trans (same_dp g (h c)),
        (k.1 c ReferenceIdeal.main_v73 (by decide)).trans (same_dlr g (h c)), (k.1 c ReferenceIdeal.main_v71 (by decide)).trans (same_dwa g (h c)),
        (k.1 c ReferenceIdeal.main_v69 (by decide)).trans (same_dba g (h c)),
        (k.1 c ReferenceIdeal.main_arg0 (by decide)).trans (ReferenceIdeal.Gen.final_main_arg0 m' c),
        (k.1 c ReferenceIdeal.main_arg1 (by decide)).trans (ReferenceIdeal.Gen.final_main_arg1 m' c),
        (k.1 c ReferenceIdeal.main_arg2 (by decide)).trans (ReferenceIdeal.Gen.final_main_arg2 m' c),
        (k.1 c ReferenceIdeal.main_arg3 (by decide)).trans (ReferenceIdeal.Gen.final_main_arg3 m' c),
        (k.1 c ReferenceIdeal.main_arg4 (by decide)).trans (ReferenceIdeal.Gen.final_main_arg4 m' c)⟩⟩

end Cert.Proof

end
-- ==== Proof.Mm.Block.lean ====
module

public import proofs.«01_k».proof.Proof.Val.Fn

@[expose] public section

noncomputable section

/-! # Products of matrices taken block by block -/

namespace Cert.Val

open Idealize.ShloMosaic

theorem mul_of {a b c d : EReal} (h : a = c) (h' : b = d) : a * b = c * d := by rw [h, h']

/-- The product of two matrices given by functions of natural numbers, over a contraction of extent `n`; -/
def nn (n : ℕ) (A B : ℕ → ℕ → EReal) (i j : ℕ) : EReal := ∑ r ∈ Finset.range n, A i r * B r j
/-- the second transposed; -/
def nt (n : ℕ) (A B : ℕ → ℕ → EReal) (i j : ℕ) : EReal := ∑ r ∈ Finset.range n, A i r * B j r
/-- the first transposed. -/
def tn (n : ℕ) (A B : ℕ → ℕ → EReal) (i j : ℕ) : EReal := ∑ r ∈ Finset.range n, A r i * B r j

theorem tn_comm (n : ℕ) (A B : ℕ → ℕ → EReal) (i j : ℕ) : tn n A B i j = tn n B A j i := Finset.sum_congr rfl fun _ _ => mul_comm _ _

section
variable {M N a0 a1 b0 b1 : ℕ} {x : (⟨2, ![a0, a1]⟩ : Shape).Idx → EReal} {y : (⟨2, ![b0, b1]⟩ : Shape).Idx → EReal} {A B : ℕ → ℕ → EReal}
  (hx : Is2 x A) (hy : Is2 y B) (D : DotDims ⟨2, ![a0, a1]⟩ ⟨2, ![b0, b1]⟩ ⟨2, ![M, N]⟩) (K : ℕ) (hr : D.contr.rank = 1) (hs : D.contr.size ⟨0, hr.symm ▸ Nat.one_pos⟩ = K)
include hx hy hs

/-- A product on the accelerator, the second factor transposed, -/
theorem matmul_nt (hD : ∀ j k, (D.lhsIdx j k 0).val = (j 0).val ∧ (D.lhsIdx j k 1).val = (k ⟨0, hr.symm ▸ Nat.one_pos⟩).val
    ∧ (D.rhsIdx j k 0).val = (j 1).val ∧ (D.rhsIdx j k 1).val = (k ⟨0, hr.symm ▸ Nat.one_pos⟩).val) :
    Is2 (n0 := M) (n1 := N) (FloatOps.matmul (F := Ideal) (φ₁ := .bf16) (φ₂ := .bf16) D none x y (constant ⟨2, ![M, N]⟩ .f32 0x00000000#32)) (nt K A B) := fun j =>
  matmul_at (φ₁ := .bf16) (φ₂ := .bf16) D none x y j K hr hs _ fun k => mul_of ((hx _).trans (by rw [(hD j k).1, (hD j k).2.1])) ((hy _).trans (by rw [(hD j k).2.2.1, (hD j k).2.2.2]))
/-- the first transposed, -/
theorem matmul_tn (hD : ∀ j k, (D.lhsIdx j k 0).val = (k ⟨0, hr.symm ▸ Nat.one_pos⟩).val ∧ (D.lhsIdx j k 1).val = (j 0).val
    ∧ (D.rhsIdx j k 0).val = (k ⟨0, hr.symm ▸ Nat.one_pos⟩).val ∧ (D.rhsIdx j k 1).val = (j 1).val) :
    Is2 (n0 := M) (n1 := N) (FloatOps.matmul (F := Ideal) (φ₁ := .bf16) (φ₂ := .bf16) D none x y (constant ⟨2, ![M, N]⟩ .f32 0x00000000#32)) (tn K A B) := fun j =>
  matmul_at (φ₁ := .bf16) (φ₂ := .bf16) D none x y j K hr hs _ fun k => mul_of ((hx _).trans (by rw [(hD j k).1, (hD j k).2.1])) ((hy _).trans (by rw [(hD j k).2.2.1, (hD j k).2.2.2]))
/-- neither. -/
theorem matmul_nn (hD : ∀ j k, (D.lhsIdx j k 0).val = (j 0).val ∧ (D.lhsIdx j k 1).val = (k ⟨0, hr.symm ▸ Nat.one_pos⟩).val
    ∧ (D.rhsIdx j k 0).val = (k ⟨0, hr.symm ▸ Nat.one_pos⟩).val ∧ (D.rhsIdx j k 1).val = (j 1).val) :
    Is2 (n0 := M) (n1 := N) (FloatOps.matmul (F := Ideal) (φ₁ := .bf16) (φ₂ := .bf16) D none x y (constant ⟨2, ![M, N]⟩ .f32 0x00000000#32)) (nn K A B) := fun j =>
  matmul_at (φ₁ := .bf16) (φ₂ := .bf16) D none x y j K hr hs _ fun k => mul_of ((hx _).trans (by rw [(hD j k).1, (hD j k).2.1])) ((hy _).trans (by rw [(hD j k).2.2.1, (hD j k).2.2.2]))

/-- The same on the host. -/
theorem dot_nt (hD : ∀ j k, (D.lhsIdx j k 0).val = (j 0).val ∧ (D.lhsIdx j k 1).val = (k ⟨0, hr.symm ▸ Nat.one_pos⟩).val
    ∧ (D.rhsIdx j k 0).val = (j 1).val ∧ (D.rhsIdx j k 1).val = (k ⟨0, hr.symm ▸ Nat.one_pos⟩).val) :
    Is2 (n0 := M) (n1 := N) (Host.dotGeneral (F := Ideal) (φ₁ := .f32) (φ₂ := .f32) D none x y) (nt K A B) := fun j =>
  dot_at (φ₁ := .f32) (φ₂ := .f32) D none x y j K hr hs _ fun k => mul_of ((hx _).trans (by rw [(hD j k).1, (hD j k).2.1])) ((hy _).trans (by rw [(hD j k).2.2.1, (hD j k).2.2.2]))
theorem dot_tn (hD : ∀ j k, (D.lhsIdx j k 0).val = (k ⟨0, hr.symm ▸ Nat.one_pos⟩).val ∧ (D.lhsIdx j k 1).val = (j 0).val
    ∧ (D.rhsIdx j k 0).val = (k ⟨0, hr.symm ▸ Nat.one_pos⟩).val ∧ (D.rhsIdx j k 1).val = (j 1).val) :
    Is2 (n0 := M) (n1 := N) (Host.dotGeneral (F := Ideal) (φ₁ := .f32) (φ₂ := .f32) D none x y) (tn K A B) := fun j =>
  dot_at (φ₁ := .f32) (φ₂ := .f32) D none x y j K hr hs _ fun k => mul_of ((hx _).trans (by rw [(hD j k).1, (hD j k).2.1])) ((hy _).trans (by rw [(hD j k).2.2.1, (hD j k).2.2.2]))
theorem dot_nn (hD : ∀ j k, (D.lhsIdx j k 0).val = (j 0).val ∧ (D.lhsIdx j k 1).val = (k ⟨0, hr.symm ▸ Nat.one_pos⟩).val
    ∧ (D.rhsIdx j k 0).val = (k ⟨0, hr.symm ▸ Nat.one_pos⟩).val ∧ (D.rhsIdx j k 1).val = (j 1).val) :
    Is2 (n0 := M) (n1 := N) (Host.dotGeneral (F := Ideal) (φ₁ := .f32) (φ₂ := .f32) D none x y) (nn K A B) := fun j =>
  dot_at (φ₁ := .f32) (φ₂ := .f32) D none x y j K hr hs _ fun k => mul_of ((hx _).trans (by rw [(hD j k).1, (hD j k).2.1])) ((hy _).trans (by rw [(hD j k).2.2.1, (hD j k).2.2.2]))

end

/-- The block with indices `p`, `q` of an array given by a function. -/
theorem Is2.block {n0 n1 s0 s1 : ℕ} {x : (⟨2, ![n0, n1]⟩ : Shape).Idx → EReal} {A : ℕ → ℕ → EReal} (hx : Is2 x A) {b : (⟨2, ![s0, s1]⟩ : Shape).Idx → EReal}
    (p q : ℕ) (e : (⟨2, ![s0, s1]⟩ : Shape).Idx → (⟨2, ![n0, n1]⟩ : Shape).Idx) (hb : ∀ j, b j = x (e j))
    (h0 : ∀ j, (e j 0).val = p * s0 + (j 0).val) (h1 : ∀ j, (e j 1).val = q * s1 + (j 1).val) : Is2 b (fun i r => A (p * s0 + i) (q * s1 + r)) := fun j => by
  rw [hb, hx, h0, h1]

/-- A product of whole bands of two arrays is a block of their product. -/
theorem nn_tile (K : ℕ) (A B : ℕ → ℕ → EReal) (u v i j : ℕ) : nn K (fun i r => A (u + i) (0 * K + r)) (fun r j => B (0 * K + r) (v + j)) i j = nn K A B (u + i) (v + j) := by
  simp only [nn, Nat.zero_mul, Nat.zero_add]
theorem nt_tile (K : ℕ) (A B : ℕ → ℕ → EReal) (u v i j : ℕ) : nt K (fun i r => A (u + i) (0 * K + r)) (fun j r => B (v + j) (0 * K + r)) i j = nt K A B (u + i) (v + j) := by
  simp only [nt, Nat.zero_mul, Nat.zero_add]
theorem tn_tile (K : ℕ) (A B : ℕ → ℕ → EReal) (u v i j : ℕ) : tn K (fun r i => A (0 * K + r) (u + i)) (fun r j => B (0 * K + r) (v + j)) i j = tn K A B (u + i) (v + j) := by
  simp only [tn, Nat.zero_mul, Nat.zero_add]

/-- A sum over the first blocks of a contraction, and over one more. -/
theorem sum_more (w k : ℕ) (F : ℕ → EReal) :
    ∑ r ∈ Finset.range (k * w), F r + ∑ r ∈ Finset.range w, F (k * w + r) = ∑ r ∈ Finset.range ((k + 1) * w), F r := by
  rw [Nat.succ_mul, Finset.sum_range_add]

/-- An accumulator set at the first of every `K` steps and added to at the others holds the sum over the blocks met since. -/
theorem partial_is {N K w n0 n1 : ℕ} (F : ℕ → ℕ → ℕ → ℕ → EReal) (X : (n : ℕ) → n < N → (⟨2, ![n0, n1]⟩ : Shape).Idx → EReal)
    (hA : ∀ n hn, n % K = 0 → Is2 (X n hn) (fun i j => ∑ r ∈ Finset.range w, F (n / K) i j (n % K * w + r)))
    (hB : ∀ n hn, ¬n % K = 0 → ∀ f, Is2 (X (n - 1) (Nat.lt_of_le_of_lt (Nat.sub_le _ _) hn)) f →
      Is2 (X n hn) (fun i j => f i j + ∑ r ∈ Finset.range w, F (n / K) i j (n % K * w + r)))
    (n : ℕ) : ∀ hn, Is2 (X n hn) (fun i j => ∑ r ∈ Finset.range ((n % K + 1) * w), F (n / K) i j r) := by
  have first : ∀ n hn, n % K = 0 → Is2 (X n hn) (fun i j => ∑ r ∈ Finset.range ((n % K + 1) * w), F (n / K) i j r) := fun n hn h =>
    (hA n hn h).congr fun i j _ _ => by rw [h]; simp
  induction n with
  | zero => exact fun hn => first 0 hn (Nat.zero_mod _)
  | succ n ih =>
    intro hn
    by_cases h : (n + 1) % K = 0
    · exact first _ hn h
    · have hK : (n + 1) % K = n % K + 1 ∧ (n + 1) / K = n / K := by
        have hd : ¬K ∣ n + 1 := fun d => h (Nat.mod_eq_zero_of_dvd d)
        have e := Nat.succ_div_of_not_dvd hd
        have e1 := Nat.div_add_mod (n + 1) K
        have e2 := Nat.div_add_mod n K
        rw [e] at e1
        exact ⟨by omega, e⟩
      refine (hB _ hn h _ (ih (Nat.lt_of_succ_lt hn))).congr fun i j _ _ => ?_
      rw [hK.1, hK.2, sum_more]

end Cert.Val

end
-- ==== Proof.Mm.Chips.lean ====
module

public import proofs.«01_k».proof.Proof.Mm.Block

@[expose] public section

noncomputable section

/-! # Weights whose columns lie on four chips, and the two halves of a gradient side by side -/

namespace Cert.Val

open Idealize.ShloMosaic

/-- Two arrays of rank three given by one function are equal. -/
theorem Is3.unique {n0 n1 n2 : ℕ} {x y : (⟨3, ![n0, n1, n2]⟩ : Shape).Idx → EReal} {f : ℕ → ℕ → ℕ → EReal} (hx : Is3 x f) (hy : Is3 y f) : x = y :=
  funext fun j => (hx j).trans (hy j).symm

/-- The function an array of rank three is given by: zero out of its bounds. -/
def fn3 {n0 n1 n2 : ℕ} (x : (⟨3, ![n0, n1, n2]⟩ : Shape).Idx → EReal) (a b c : ℕ) : EReal :=
  if h : a < n0 ∧ b < n1 ∧ c < n2 then x (ValueIdx.ix3 ⟨a, h.1⟩ ⟨b, h.2.1⟩ ⟨c, h.2.2⟩) else 0

theorem fn3_is {n0 n1 n2 : ℕ} (x : (⟨3, ![n0, n1, n2]⟩ : Shape).Idx → EReal) : Is3 x (fn3 x) := fun j => by
  rw [fn3, dif_pos ⟨(j 0).isLt, (j 1).isLt, (j 2).isLt⟩]
  congr 1
  funext a
  fin_cases a <;> rfl

/-- The columns of the four chips in a row. -/
def row (n : ℕ) (W : ℕ → ℕ → ℕ → EReal) (r j : ℕ) : EReal := W (j / n) r (j % n)

theorem row_at {n : ℕ} (W : ℕ → ℕ → ℕ → EReal) (r q j : ℕ) (hj : j < n) : row n W r (n * q + j) = W q r j := by
  rw [row, Nat.mul_add_div (by omega), Nat.div_eq_of_lt hj, Nat.mul_add_mod, Nat.mod_eq_of_lt hj, Nat.add_zero]

section
variable {k n : ℕ}

/-- One chip's block as a matrix, -/
theorem drop_is {f : ℕ → ℕ → EReal} {x : (⟨3, ![1, k, n]⟩ : Shape).Idx → EReal} (hx : Is3 x (fun _ i j => f i j))
    (h : (⟨3, ![1, k, n]⟩ : Shape).ShapeCasts ⟨2, ![k, n]⟩) : Is2 (n0 := k) (n1 := n) (shapeCast ⟨2, ![k, n]⟩ x h) f := fun j => by
  refine (shapeCast_at x h j (ValueIdx.ix3 ⟨0, Nat.one_pos⟩ (j 0) (j 1)) ?_).trans (hx _)
  rw [Shape.rowMajor_val_two, Shape.rowMajor_val_three]
  show (0 * k + (j 0).val) * n + (j 1).val = (j 0).val * n + (j 1).val
  ring
/-- and a matrix as one chip's block. -/
theorem lift_is {f : ℕ → ℕ → EReal} {x : (⟨2, ![k, n]⟩ : Shape).Idx → EReal} (hx : Is2 x f)
    (h : (⟨2, ![k, n]⟩ : Shape).ShapeCasts ⟨3, ![1, k, n]⟩) : Is3 (n0 := 1) (n1 := k) (n2 := n) (shapeCast ⟨3, ![1, k, n]⟩ x h) (fun _ i j => f i j) := fun j => by
  refine (shapeCast_at x h j (ValueIdx.ix2 (j 1) (j 2)) ?_).trans (hx _)
  rw [Shape.rowMajor_val_two, Shape.rowMajor_val_three]
  have j0 : (j 0).val < 1 := (j 0).isLt
  show (j 1).val * n + (j 2).val = ((j 0).val * k + (j 1).val) * n + (j 2).val
  rw [show (j 0).val = 0 by omega]; ring

variable {w : ℕ} (hw : w = 4 * n)
include hw

/-- The chips' columns joined on the host, -/
theorem join_chips {W : ℕ → ℕ → ℕ → EReal} {x : (⟨3, ![4, k, n]⟩ : Shape).Idx → EReal} (hx : Is3 x W)
    (ht : (⟨3, ![4, k, n]⟩ : Shape).Transposes [1, 0, 2] ⟨3, ![k, 4, n]⟩) (h : (⟨3, ![k, 4, n]⟩ : Shape).ShapeCasts ⟨2, ![k, w]⟩) :
    Is2 (n0 := k) (n1 := w) (shapeCast ⟨2, ![k, w]⟩ (transpose ⟨3, ![k, 4, n]⟩ [1, 0, 2] x ht) h) (row n W) := fun j => by
  subst hw
  have j1 : (j 1).val < 4 * n := (j 1).isLt
  have hn : 0 < n := by omega
  refine (shapeCast_at _ h j (ValueIdx.ix3 (j 0) ⟨(j 1).val / n, Nat.div_lt_of_lt_mul (Nat.lt_of_lt_of_eq j1 (Nat.mul_comm _ _))⟩ ⟨(j 1).val % n, Nat.mod_lt _ hn⟩) ?_).trans (hx _)
  rw [Shape.rowMajor_val_two, Shape.rowMajor_val_three]
  show ((j 0).val * 4 + (j 1).val / n) * n + (j 1).val % n = (j 0).val * (4 * n) + (j 1).val
  rw [Nat.add_mul, Nat.add_assoc, Nat.mul_comm ((j 1).val / n), Nat.div_add_mod]; ring
/-- and split. -/
theorem split_chips {f : ℕ → ℕ → EReal} {x : (⟨2, ![k, w]⟩ : Shape).Idx → EReal} (hx : Is2 x f)
    (h : (⟨2, ![k, w]⟩ : Shape).ShapeCasts ⟨3, ![k, 4, n]⟩) (ht : (⟨3, ![k, 4, n]⟩ : Shape).Transposes [1, 0, 2] ⟨3, ![4, k, n]⟩) :
    Is3 (n0 := 4) (n1 := k) (n2 := n) (transpose ⟨3, ![4, k, n]⟩ [1, 0, 2] (shapeCast ⟨3, ![k, 4, n]⟩ x h) ht) (fun c i j => f i (n * c + j)) := fun j => by
  have j0 : (j 0).val < 4 := (j 0).isLt
  have j2 : (j 2).val < n := (j 2).isLt
  have hb : n * (j 0).val + (j 2).val < w := by
    have := Nat.mul_le_mul_left n (show (j 0).val + 1 ≤ 4 by omega)
    rw [Nat.mul_add] at this; omega
  refine (shapeCast_at x h (ht.src j) (ValueIdx.ix2 (j 1) ⟨n * (j 0).val + (j 2).val, hb⟩) ?_).trans (hx _)
  rw [Shape.rowMajor_val_two, Shape.rowMajor_val_three]
  show (j 1).val * w + (n * (j 0).val + (j 2).val) = ((j 1).val * 4 + (j 0).val) * n + (j 2).val
  rw [hw]; ring

end

/-- Where a chip's block lies among all columns, a chip's columns being `per` blocks of `w`. -/
theorem chip_col {n per w : ℕ} (hn : per * w = n) (q a i : ℕ) (ha : a < 1) : n * (q / per * 1 + a) + (q % per * w + i) = q * w + i := by
  rw [show a = 0 by omega, ← hn]
  calc per * w * (q / per * 1 + 0) + (q % per * w + i) = (per * (q / per) + q % per) * w + i := by ring
    _ = q * w + i := by rw [Nat.div_add_mod]

/-- One chip's block as a matrix, read off the columns of all in a row. -/
theorem Is3.chip {n0 n1 n s1 s2 per : ℕ} {x : (⟨3, ![n0, n1, n]⟩ : Shape).Idx → EReal} {W : ℕ → ℕ → ℕ → EReal} (hx : Is3 x W)
    {b : (⟨3, ![1, s1, s2]⟩ : Shape).Idx → EReal} (hn : per * s2 = n) (p q : ℕ) (e : (⟨3, ![1, s1, s2]⟩ : Shape).Idx → (⟨3, ![n0, n1, n]⟩ : Shape).Idx)
    (hb : ∀ j, b j = x (e j)) (h0 : ∀ j, (e j 0).val = q / per * 1 + (j 0).val) (h1 : ∀ j, (e j 1).val = p * s1 + (j 1).val)
    (h2 : ∀ j, (e j 2).val = q % per * s2 + (j 2).val) (h : (⟨3, ![1, s1, s2]⟩ : Shape).ShapeCasts ⟨2, ![s1, s2]⟩) :
    Is2 (n0 := s1) (n1 := s2) (shapeCast ⟨2, ![s1, s2]⟩ b h) (fun r i => row n W (p * s1 + r) (q * s2 + i)) :=
  drop_is (fun j => by
    show b j = row n W (p * s1 + (j 1).val) (q * s2 + (j 2).val)
    rw [← chip_col hn q (j 0).val (j 2).val (j 0).isLt, row_at _ _ _ _ (h2 j ▸ (e j 2).isLt), hb, hx, h0, h1, h2]) h

/-- Two functions side by side at column `m`. -/
def beside (m : ℕ) (f g : ℕ → ℕ → EReal) (i j : ℕ) : EReal := if j < m then f i j else g i (j - m)

theorem beside_left {m : ℕ} (f g : ℕ → ℕ → EReal) (i : ℕ) {j : ℕ} (h : j < m) : f i j = beside m f g i j := (if_pos h).symm
theorem beside_right {m : ℕ} (f g : ℕ → ℕ → EReal) (i : ℕ) {j k : ℕ} (h : j = m + k) : g i k = beside m f g i j := by
  rw [beside, if_neg (by omega), h, Nat.add_sub_cancel_left]

/-- One array beside another. -/
theorem beside_is {n m p k : ℕ} {x : (⟨2, ![n, m]⟩ : Shape).Idx → EReal} {y : (⟨2, ![n, p]⟩ : Shape).Idx → EReal} {f g : ℕ → ℕ → EReal}
    (hx : Is2 x f) (hy : Is2 y g) (h : Shape.Concatenates [⟨2, ![n, m]⟩, ⟨2, ![n, p]⟩] ⟨2, ![n, k]⟩ 1) :
    Is2 (n0 := n) (n1 := k) (concatenate ⟨2, ![n, k]⟩ 1 [⟨⟨2, ![n, m]⟩, x⟩, ⟨⟨2, ![n, p]⟩, y⟩] h) (beside m f g) := fun j => by
  have hk : m + p = k := by simpa using h.2.2
  have hj : (j 1).val < k := (j 1).isLt
  by_cases hn : (j 1).val < m
  · refine Eq.trans ?_ (if_pos hn).symm
    refine (concatenate_pair_apply_left _ x y h j rfl (ValueIdx.ix2 (j 0) ⟨(j 1).val, hn⟩) fun b => ?_).trans (hx _)
    fin_cases b <;> rfl
  · refine Eq.trans ?_ (if_neg hn).symm
    refine (concatenate_pair_apply_right _ x y h j rfl rfl (ValueIdx.ix2 (j 0) ⟨(j 1).val - m, by omega⟩) (fun b hb => ?_) ?_).trans (hy _)
    · fin_cases b
      · rfl
      · exact absurd rfl hb
    · show (j 1).val - m + m = (j 1).val; omega

end Cert.Val

end
-- ==== Proof.Mm.Dw.lean ====
module

public import Idealize.ShloMosaic.Lib.Pipeline.ValueKit
public import proofs.«01_k».proof.Proof.Gen.InDwIdeal.Value
public import proofs.«01_k».proof.Proof.Gen.RefInDwIdeal.Run
public import proofs.«01_k».proof.Proof.Gen.InDw.Frame
public import proofs.«01_k».proof.Proof.Mm.Block
public import proofs.«01_k».proof.Defs
public import proofs.«01_k».proof.Proof.Gen.ODwIdeal.Value
public import proofs.«01_k».proof.Proof.Gen.RefODwIdeal.Run
public import proofs.«01_k».proof.Proof.Gen.ODw.Frame
public import proofs.«01_k».proof.Proof.Gen.OgDwIdeal.Value
public import proofs.«01_k».proof.Proof.Gen.RefOgDwIdeal.Run
public import proofs.«01_k».proof.Proof.Gen.OgDw.Frame
public import proofs.«01_k».proof.Proof.Mm.Chips
public import Idealize.ShloMosaic.Lib.Pipeline.ReadBack
public import proofs.«01_k».proof.Proof.Gen.UpDwIdeal.Value
public import proofs.«01_k».proof.Proof.Gen.RefUpDwIdeal.Run
public import proofs.«01_k».proof.Proof.Gen.UpDw.Frame
public import proofs.«01_k».proof.Proof.Gen.DnDwIdeal.Value
public import proofs.«01_k».proof.Proof.Gen.RefDnDwIdeal.Run
public import proofs.«01_k».proof.Proof.Gen.DnDw.Frame

@[expose] public section

set_option maxRecDepth 16384

noncomputable section

open Idealize.ShloMosaic Idealize.ShloMosaic.TcCoe Idealize.ShloMosaic.Tactic Idealize.SL.Sem Cert.Val

/-! # The gradient of the input projections' weights -/

namespace Cert.InDwIdeal.Gen

theorem index0 : ∀ t : Fin cfg0.N, win0_0.index t = ![0, t.val % 4] := (by decide +kernel : ∀ t : Fin grid0.N, win0_0.index t = ![0, t.val % 4])
theorem index1 : ∀ t : Fin cfg0.N, win0_1.index t = ![0, t.val / 4] := (by decide +kernel : ∀ t : Fin grid0.N, win0_1.index t = ![0, t.val / 4])
theorem index2 : ∀ t : Fin cfg0.N, win0_2.index t = ![t.val % 4, t.val / 4] := (by decide +kernel : ∀ t : Fin grid0.N, win0_2.index t = ![t.val % 4, t.val / 4])

section
variable (m : (ℓ : Loc nD τ sig) → Buf (Elt Ideal) ℓ) (c : Dev nD) {A B : ℕ → ℕ → EReal}
  (hA : Is2 (n0 := 4096) (n1 := 2048) (m ((c.tc : Thread nD τ).loc main_arg0)) A) (hB : Is2 (n0 := 4096) (n1 := 10368) (m ((c.tc : Thread nD τ).loc main_arg1)) B)

include hA in
theorem block0 (t : Fin cfg0.N) : Is2 (n0 := 4096) (n1 := 512) (iblk m c 0 t) (fun r i => A (0 * 4096 + r) (t.val % 4 * 512 + i)) :=
  hA.block 0 (t.val % 4) ((win0_0.blk t).view.emb) (fun _ => rfl) (fun j => by blk_simp [index0]) (fun j => by blk_simp [index0])
include hB in
theorem block1 (t : Fin cfg0.N) : Is2 (n0 := 4096) (n1 := 1152) (iblk m c 1 t) (fun r i => B (0 * 4096 + r) (t.val / 4 * 1152 + i)) :=
  hB.block 0 (t.val / 4) ((win0_1.blk t).view.emb) (fun _ => rfl) (fun j => by blk_simp [index1]) (fun j => by blk_simp [index1])

include hA hB in
theorem result_is : Is2 (n0 := 2048) (n1 := 10368) ((dats m 0 c).arrAt 2 cfg0.N) (tn 4096 A B) := by
  rw [(dats m 0 c).arrAt_eq_of_covers 2 (fun y : S2048x10368.Idx => tn 4096 A B (y 0).val (y 1).val) (by decide +kernel) fun t hf y => ?_]
  · exact fun _ => rfl
  · blk_simp [after0_2]
    frame_out
    refine (matmul_tn (block0 m c hA t) (block1 m c hB t) dot_S4096x512_S4096x1152_S512x1152_0_0_1_1_n_n 4096 rfl rfl (fun _ _ => ⟨rfl, rfl, rfl, rfl⟩) y).trans ?_
    blk_simp [index2]
    exact tn_tile 4096 A B _ _ _ _

end

attribute [local instance] InDw.Gen.facts InDwIdeal.Gen.facts RefInDwIdeal.Gen.facts

theorem frame_in_dw : quiescent_InDw := fun m g _ => InDw.Gen.frame m g
theorem frame_in_dw_ideal : quiescent_InDwIdeal := fun m g _ => frame m g
theorem frame_in_dw_reference : quiescent_RefInDwIdeal := fun m g _ =>
  (θ_run _ _ _).mono (fun r h => ⟨fun c => (h c).2, sem_eq_zero_of_no_sems (by decide) r.2⟩) (RefInDwIdeal.Value.run m g)

theorem equal_in_dw : algebraic_InDwIdeal_RefInDwIdeal := fun m g m' g' _ h =>
  ⟨fun c => (dats m 0 c).arrAt 2 cfg0.N, Value.run_blocks m g,
    (θ_run _ _ _).mono (fun r k c => ⟨(k c).1.trans (Is2.unique (n0 := 2048) (n1 := 10368) (fun y => by
      rw [(h c).1, (h c).2]
      exact (dot_tn (fn2_is (n0 := 4096) (n1 := 10368) _) (fn2_is (n0 := 4096) (n1 := 2048) _) RefInDwIdeal.dot_S4096x10368_S4096x2048_S10368x2048_0_0_1_1_n_n
        4096 rfl rfl (fun _ _ => ⟨rfl, rfl, rfl, rfl⟩) _).trans (tn_comm _ _ _ _ _)) (result_is m c (fn2_is _) (fn2_is _))), (k c).2⟩) (RefInDwIdeal.Value.run m' g')⟩

end Cert.InDwIdeal.Gen

/-! # The gradient of the mixers' output weights -/

namespace Cert.ODwIdeal.Gen

theorem index0 : ∀ t : Fin cfg0.N, win0_0.index t = ![0, t.val % 4] := (by decide +kernel : ∀ t : Fin grid0.N, win0_0.index t = ![0, t.val % 4])
theorem index1 : ∀ t : Fin cfg0.N, win0_1.index t = ![0, t.val / 4] := (by decide +kernel : ∀ t : Fin grid0.N, win0_1.index t = ![0, t.val / 4])
theorem index2 : ∀ t : Fin cfg0.N, win0_2.index t = ![t.val % 4, t.val / 4] := (by decide +kernel : ∀ t : Fin grid0.N, win0_2.index t = ![t.val % 4, t.val / 4])

section
variable (m : (ℓ : Loc nD τ sig) → Buf (Elt Ideal) ℓ) (c : Dev nD) {A B : ℕ → ℕ → EReal}
  (hA : Is2 (n0 := 4096) (n1 := 2048) (m ((c.tc : Thread nD τ).loc main_arg0)) A) (hB : Is2 (n0 := 4096) (n1 := 2048) (m ((c.tc : Thread nD τ).loc main_arg1)) B)

include hA in
theorem block0 (t : Fin cfg0.N) : Is2 (n0 := 4096) (n1 := 512) (iblk m c 0 t) (fun r i => A (0 * 4096 + r) (t.val % 4 * 512 + i)) :=
  hA.block 0 (t.val % 4) ((win0_0.blk t).view.emb) (fun _ => rfl) (fun j => by blk_simp [index0]) (fun j => by blk_simp [index0])
include hB in
theorem block1 (t : Fin cfg0.N) : Is2 (n0 := 4096) (n1 := 1024) (iblk m c 1 t) (fun r i => B (0 * 4096 + r) (t.val / 4 * 1024 + i)) :=
  hB.block 0 (t.val / 4) ((win0_1.blk t).view.emb) (fun _ => rfl) (fun j => by blk_simp [index1]) (fun j => by blk_simp [index1])

include hA hB in
theorem result_is : Is2 (n0 := 2048) (n1 := 2048) ((dats m 0 c).arrAt 2 cfg0.N) (tn 4096 A B) := by
  rw [(dats m 0 c).arrAt_eq_of_covers 2 (fun y : S2048x2048.Idx => tn 4096 A B (y 0).val (y 1).val) (by decide +kernel) fun t hf y => ?_]
  · exact fun _ => rfl
  · blk_simp [after0_2]
    frame_out
    refine (matmul_tn (block0 m c hA t) (block1 m c hB t) dot_S4096x512_S4096x1024_S512x1024_0_0_1_1_n_n 4096 rfl rfl (fun _ _ => ⟨rfl, rfl, rfl, rfl⟩) y).trans ?_
    blk_simp [index2]
    exact tn_tile 4096 A B _ _ _ _

end

attribute [local instance] ODw.Gen.facts ODwIdeal.Gen.facts RefODwIdeal.Gen.facts

theorem frame_o_dw : quiescent_ODw := fun m g _ => ODw.Gen.frame m g
theorem frame_o_dw_ideal : quiescent_ODwIdeal := fun m g _ => frame m g
theorem frame_o_dw_reference : quiescent_RefODwIdeal := fun m g _ =>
  (θ_run _ _ _).mono (fun r h => ⟨fun c => (h c).2, sem_eq_zero_of_no_sems (by decide) r.2⟩) (RefODwIdeal.Value.run m g)

theorem equal_o_dw : algebraic_ODwIdeal_RefODwIdeal := fun m g m' g' _ h =>
  ⟨fun c => (dats m 0 c).arrAt 2 cfg0.N, Value.run_blocks m g,
    (θ_run _ _ _).mono (fun r k c => ⟨(k c).1.trans (Is2.unique (n0 := 2048) (n1 := 2048) (fun y => by
      rw [(h c).1, (h c).2]
      exact (dot_tn (fn2_is (n0 := 4096) (n1 := 2048) _) (fn2_is (n0 := 4096) (n1 := 2048) _) RefODwIdeal.dot_S4096x2048_S4096x2048_S2048x2048_0_0_1_1_n_n
        4096 rfl rfl (fun _ _ => ⟨rfl, rfl, rfl, rfl⟩) _).trans (tn_comm _ _ _ _ _)) (result_is m c (fn2_is _) (fn2_is _))), (k c).2⟩) (RefODwIdeal.Value.run m' g')⟩

end Cert.ODwIdeal.Gen

/-! # The gradient of the output weights whose columns lie on the chips -/

namespace Cert.OgDwIdeal.Gen

theorem index0 : ∀ t : Fin cfg0.N, win0_0.index t = ![0, t.val % 2] := (by decide +kernel : ∀ t : Fin grid0.N, win0_0.index t = ![0, t.val % 2])
theorem index1 : ∀ t : Fin cfg0.N, win0_1.index t = ![0, t.val / 2] := (by decide +kernel : ∀ t : Fin grid0.N, win0_1.index t = ![0, t.val / 2])
theorem index2 : ∀ t : Fin cfg0.N, win0_2.index t = ![t.val / 2 / 1, t.val % 2, t.val / 2 % 1] := (by decide +kernel : ∀ t : Fin grid0.N, win0_2.index t = ![t.val / 2 / 1, t.val % 2, t.val / 2 % 1])

section
variable (m : (ℓ : Loc nD τ sig) → Buf (Elt Ideal) ℓ) (c : Dev nD) {A B : ℕ → ℕ → EReal}
  (hA : Is2 (n0 := 4096) (n1 := 1024) (m ((c.tc : Thread nD τ).loc main_arg0)) A) (hB : Is2 (n0 := 4096) (n1 := 2048) (m ((c.tc : Thread nD τ).loc main_arg1)) B)

include hA in
theorem block0 (t : Fin cfg0.N) : Is2 (n0 := 4096) (n1 := 512) (iblk m c 0 t) (fun r i => A (0 * 4096 + r) (t.val % 2 * 512 + i)) :=
  hA.block 0 (t.val % 2) ((win0_0.blk t).view.emb) (fun _ => rfl) (fun j => by blk_simp [index0]) (fun j => by blk_simp [index0])
include hB in
theorem block1 (t : Fin cfg0.N) : Is2 (n0 := 4096) (n1 := 512) (iblk m c 1 t) (fun r i => B (0 * 4096 + r) (t.val / 2 * 512 + i)) :=
  hB.block 0 (t.val / 2) ((win0_1.blk t).view.emb) (fun _ => rfl) (fun j => by blk_simp [index1]) (fun j => by blk_simp [index1])

include hA hB in
theorem result_is : Is3 (n0 := 4) (n1 := 1024) (n2 := 512) ((dats m 0 c).arrAt 2 cfg0.N) (fun q i j => tn 4096 A B i (512 * q + j)) := by
  rw [(dats m 0 c).arrAt_eq_of_covers 2 (fun y : S4x1024x512.Idx => tn 4096 A B (y 1).val (512 * (y 0).val + (y 2).val)) (by decide +kernel) fun t hf y => ?_]
  · exact fun _ => rfl
  · blk_simp [after0_2]
    frame_out
    refine (lift_is (matmul_tn (block0 m c hA t) (block1 m c hB t) dot_S4096x512_S4096x512_S512x512_0_0_1_1_n_n 4096 rfl rfl (fun _ _ => ⟨rfl, rfl, rfl, rfl⟩)) _ y).trans ?_
    blk_simp [index2]
    refine (tn_tile 4096 A B _ _ _ _).trans (congrArg _ ?_)
    omega

end

attribute [local instance] OgDw.Gen.facts OgDwIdeal.Gen.facts RefOgDwIdeal.Gen.facts

theorem frame_og_dw : quiescent_OgDw := fun m g _ => OgDw.Gen.frame m g
theorem frame_og_dw_ideal : quiescent_OgDwIdeal := fun m g _ => frame m g
theorem frame_og_dw_reference : quiescent_RefOgDwIdeal := fun m g _ =>
  (θ_run _ _ _).mono (fun r h => ⟨fun c => (h c).2, sem_eq_zero_of_no_sems (by decide) r.2⟩) (RefOgDwIdeal.Value.run m g)

theorem equal_og_dw : algebraic_OgDwIdeal_RefOgDwIdeal := fun m g m' g' _ h =>
  ⟨fun c => (dats m 0 c).arrAt 2 cfg0.N, Value.run_blocks m g,
    (θ_run _ _ _).mono (fun r k c => ⟨(k c).1.trans (Is3.unique (n0 := 4) (n1 := 1024) (n2 := 512) (by
      rw [(h c).1, (h c).2]
      exact split_chips (k := 1024) (n := 512) (w := 2048) rfl (fun y => (dot_tn (fn2_is (n0 := 4096) (n1 := 2048) _) (fn2_is (n0 := 4096) (n1 := 1024) _)
        RefOgDwIdeal.dot_S4096x2048_S4096x1024_S2048x1024_0_0_1_1_n_n 4096 rfl rfl (fun _ _ => ⟨rfl, rfl, rfl, rfl⟩) _).trans (tn_comm _ _ _ _ _)) _ _)
      (result_is m c (fn2_is _) (fn2_is _))), (k c).2⟩) (RefOgDwIdeal.Value.run m' g')⟩

end Cert.OgDwIdeal.Gen

/-! # The gradient of the feed-forward's first weights, accumulated over two blocks of tokens -/

namespace Cert.UpDwIdeal.Gen

theorem index0 : ∀ t : Fin cfg0.N, win0_0.index t = ![t.val % 2, t.val / 2 % 2] := (by decide +kernel : ∀ t : Fin grid0.N, win0_0.index t = ![t.val % 2, t.val / 2 % 2])
theorem index1 : ∀ t : Fin cfg0.N, t.val < 16 → win0_1.index t = ![t.val % 2, t.val / 2 / 2] := (by decide +kernel : ∀ t : Fin grid0.N, t.val < 16 → win0_1.index t = ![t.val % 2, t.val / 2 / 2])
theorem index2 : ∀ t : Fin cfg0.N, 16 ≤ t.val → win0_2.index t = ![t.val % 2, t.val / 2 / 2 - 4] := (by decide +kernel : ∀ t : Fin grid0.N, 16 ≤ t.val → win0_2.index t = ![t.val % 2, t.val / 2 / 2 - 4])
theorem index3 : ∀ t : Fin cfg0.N, win0_3.index t = ![t.val / 2 / 2 / 2, t.val / 2 % 2, t.val / 2 / 2 % 2] := (by decide +kernel : ∀ t : Fin grid0.N, win0_3.index t = ![t.val / 2 / 2 / 2, t.val / 2 % 2, t.val / 2 / 2 % 2])
theorem last3 : ∀ t : Fin cfg0.N, (cfg0.win 3).flush t = true → t.val % 2 = 1 := (by decide +kernel : ∀ t : Fin grid0.N, win0_3.flush t = true → t.val % 2 = 1)

section
variable (m : (ℓ : Loc nD τ sig) → Buf (Elt Ideal) ℓ) (c : Dev nD) {H F G : ℕ → ℕ → EReal}
  (hH : Is2 (n0 := 4096) (n1 := 2048) (m ((c.tc : Thread nD τ).loc main_arg0)) H)
  (hF : Is2 (n0 := 4096) (n1 := 5632) (m ((c.tc : Thread nD τ).loc main_arg1)) F) (hG : Is2 (n0 := 4096) (n1 := 5632) (m ((c.tc : Thread nD τ).loc main_arg2)) G)

include hH in
theorem block0 (t : Fin cfg0.N) : Is2 (n0 := 2048) (n1 := 1024) (iblk m c 0 t) (fun r i => H (t.val % 2 * 2048 + r) (t.val / 2 % 2 * 1024 + i)) :=
  hH.block (t.val % 2) (t.val / 2 % 2) ((win0_0.blk t).view.emb) (fun _ => rfl) (fun j => by blk_simp [index0]) (fun j => by blk_simp [index0])
include hF in
/-- The first half's block at a step of its own, -/
theorem block1 (t : Fin cfg0.N) (h : t.val < 16) :
    Is2 (n0 := 2048) (n1 := 1408) (iblk m c 1 t) (fun r i => beside 5632 F G (t.val % 2 * 2048 + r) (t.val / 2 / 2 * 1408 + i)) :=
  (hF.block (t.val % 2) (t.val / 2 / 2) ((win0_1.blk t).view.emb) (fun _ => rfl) (fun j => by blk_simp [index1 t h]) (fun j => by blk_simp [index1 t h])).congr
    fun r i _ hi => beside_left _ _ _ (by omega)
include hG in
/-- and the second's. -/
theorem block2 (t : Fin cfg0.N) (h : 16 ≤ t.val) :
    Is2 (n0 := 2048) (n1 := 1408) (iblk m c 2 t) (fun r i => beside 5632 F G (t.val % 2 * 2048 + r) (t.val / 2 / 2 * 1408 + i)) :=
  (hG.block (t.val % 2) (t.val / 2 / 2 - 4) ((win0_2.blk t).view.emb) (fun _ => rfl) (fun j => by blk_simp [index2 t h]) (fun j => by blk_simp [index2 t h])).congr
    fun r i _ hi => beside_right _ _ _ (by omega)

include hH hF hG in
/-- What the accumulator holds after step `n`. -/
theorem acc_is (n : ℕ) (hn : n < cfg0.N) : Is2 (n0 := 1024) (n1 := 1408) (outsAt0 m c n hn).2
    (fun i j => ∑ r ∈ Finset.range ((n % 2 + 1) * 2048), H r (n / 2 % 2 * 1024 + i) * beside 5632 F G r (n / 2 / 2 * 1408 + j)) :=
  have step : ∀ (t : Fin cfg0.N) (x : S2048x1408.Idx → EReal), Is2 (n0 := 2048) (n1 := 1408) x (fun r i => beside 5632 F G (t.val % 2 * 2048 + r) (t.val / 2 / 2 * 1408 + i)) →
      Is2 (n0 := 1024) (n1 := 1408) (k0_pay1 (F := Ideal) (iblk m c 0 t) x) _ := fun t x hx =>
    matmul_tn (block0 m c hH t) hx dot_S2048x1024_S2048x1408_S1024x1408_0_0_1_1_n_n 2048 rfl rfl (fun _ _ => ⟨rfl, rfl, rfl, rfl⟩)
  partial_is (K := 2) (w := 2048) (fun q i j r => H r (q % 2 * 1024 + i) * beside 5632 F G r (q / 2 * 1408 + j)) (fun n hn => (outsAt0 m c n hn).2)
    (fun n hn h y => by
      by_cases h4 : 16 ≤ n
      · rw [outsAt0_C m c ⟨n, hn⟩ (by show ¬n < 16; omega) h4 h (by show ¬n % 2 = 1; omega) (by show ¬n % 2 = 1; omega)]
        frame_out
        exact (shapeCast_at _ _ y y rfl).trans (step ⟨n, hn⟩ _ (block2 m c hG ⟨n, hn⟩ h4) y)
      · rw [outsAt0_A m c ⟨n, hn⟩ (by show n < 16; omega) h (by show ¬n % 2 = 1; omega) (by show ¬n % 2 = 1; omega) h4]
        frame_out
        exact (shapeCast_at _ _ y y rfl).trans (step ⟨n, hn⟩ _ (block1 m c hF ⟨n, hn⟩ (by show n < 16; omega)) y))
    (fun n hn h f hf y => by
      by_cases h4 : 16 ≤ n
      · rw [outsAt0_D m c ⟨n, hn⟩ (by show ¬n < 16; omega) h4 h (by show n % 2 = 1; omega) (by show n % 2 = 1; omega)]
        frame_out
        rw [read_unread_whole]
        unfold k0_pay7
        refine (shapeCast_at _ _ y y rfl).trans ?_
        exact congrArg₂ (fun a b : EReal => a + b) (hf y) (step ⟨n, hn⟩ _ (block2 m c hG ⟨n, hn⟩ h4) y)
      · rw [outsAt0_B m c ⟨n, hn⟩ (by show n < 16; omega) h (by show n % 2 = 1; omega) (by show n % 2 = 1; omega) h4]
        frame_out
        rw [read_unread_whole]
        unfold k0_pay3
        refine (shapeCast_at _ _ y y rfl).trans ?_
        exact congrArg₂ (fun a b : EReal => a + b) (hf y) (step ⟨n, hn⟩ _ (block1 m c hF ⟨n, hn⟩ (by show n < 16; omega)) y)) n hn

/-- The output's buffer after the last step of a block is the accumulator. -/
theorem out_eq (t : Fin cfg0.N) (h : t.val % 2 = 1) : (outsAt0 m c t.val t.isLt).1 = k0_pay4 (outsAt0 m c t.val t.isLt).2 := by
  by_cases h4 : 16 ≤ t.val
  · rw [outsAt0_D m c t (by omega) h4 (by omega) h h]
    frame_out
    rfl
  · rw [outsAt0_B m c t (by omega) (by omega) h h h4]
    frame_out

include hH hF hG in
theorem result_is : Is3 (n0 := 4) (n1 := 2048) (n2 := 2816) ((dats m 0 c).arrAt 3 cfg0.N) (fun q i j => tn 4096 H (beside 5632 F G) i (2816 * q + j)) := by
  rw [(dats m 0 c).arrAt_eq_of_covers 3 (fun y : S4x2048x2816.Idx => tn 4096 H (beside 5632 F G) (y 1).val (2816 * (y 0).val + (y 2).val)) (by decide +kernel) fun t hf y => ?_]
  · exact fun _ => rfl
  · blk_simp [after0_3]
    rw [out_eq m c t (last3 t hf)]
    refine (lift_is (acc_is m c hH hF hG t.val t.isLt) _ y).trans ?_
    blk_simp [index3]
    rw [last3 t hf]
    refine congrArg (tn 4096 H (beside 5632 F G) _) ?_
    omega

end

attribute [local instance] UpDw.Gen.facts UpDwIdeal.Gen.facts RefUpDwIdeal.Gen.facts

theorem frame_up_dw : quiescent_UpDw := fun m g _ => UpDw.Gen.frame m g
theorem frame_up_dw_ideal : quiescent_UpDwIdeal := fun m g _ => frame m g
theorem frame_up_dw_reference : quiescent_RefUpDwIdeal := fun m g _ =>
  (θ_run _ _ _).mono (fun r h => ⟨fun c => (h c).2, sem_eq_zero_of_no_sems (by decide) r.2⟩) (RefUpDwIdeal.Value.run m g)

theorem equal_up_dw : algebraic_UpDwIdeal_RefUpDwIdeal := fun m g m' g' _ h =>
  ⟨fun c => (dats m 0 c).arrAt 3 cfg0.N, Value.run_blocks m g,
    (θ_run _ _ _).mono (fun r k c => ⟨(k c).1.trans (Is3.unique (n0 := 4) (n1 := 2048) (n2 := 2816) (by
      rw [(h c).1, (h c).2.1, (h c).2.2]
      exact split_chips (k := 2048) (n := 2816) (w := 11264) rfl (fun y => (dot_tn (beside_is (k := 11264) (fn2_is (n0 := 4096) (n1 := 5632) _) (fn2_is (n0 := 4096) (n1 := 5632) _) _)
        (fn2_is (n0 := 4096) (n1 := 2048) _) RefUpDwIdeal.dot_S4096x11264_S4096x2048_S11264x2048_0_0_1_1_n_n 4096 rfl rfl (fun _ _ => ⟨rfl, rfl, rfl, rfl⟩) _).trans
        (tn_comm _ _ _ _ _)) _ _)
      (result_is m c (fn2_is _) (fn2_is _) (fn2_is _))), (k c).2⟩) (RefUpDwIdeal.Value.run m' g')⟩

end Cert.UpDwIdeal.Gen

/-! # The gradient of the feed-forward's second weights -/

namespace Cert.DnDwIdeal.Gen

theorem index0 : ∀ t : Fin cfg0.N, win0_0.index t = ![0, t.val % 11] := (by decide +kernel : ∀ t : Fin grid0.N, win0_0.index t = ![0, t.val % 11])
theorem index1 : ∀ t : Fin cfg0.N, win0_1.index t = ![0, t.val / 11] := (by decide +kernel : ∀ t : Fin grid0.N, win0_1.index t = ![0, t.val / 11])
theorem index2 : ∀ t : Fin cfg0.N, win0_2.index t = ![t.val % 11, t.val / 11] := (by decide +kernel : ∀ t : Fin grid0.N, win0_2.index t = ![t.val % 11, t.val / 11])

section
variable (m : (ℓ : Loc nD τ sig) → Buf (Elt Ideal) ℓ) (c : Dev nD) {A B : ℕ → ℕ → EReal}
  (hA : Is2 (n0 := 4096) (n1 := 5632) (m ((c.tc : Thread nD τ).loc main_arg0)) A) (hB : Is2 (n0 := 4096) (n1 := 2048) (m ((c.tc : Thread nD τ).loc main_arg1)) B)

include hA in
theorem block0 (t : Fin cfg0.N) : Is2 (n0 := 4096) (n1 := 512) (iblk m c 0 t) (fun r i => A (0 * 4096 + r) (t.val % 11 * 512 + i)) :=
  hA.block 0 (t.val % 11) ((win0_0.blk t).view.emb) (fun _ => rfl) (fun j => by blk_simp [index0]) (fun j => by blk_simp [index0])
include hB in
theorem block1 (t : Fin cfg0.N) : Is2 (n0 := 4096) (n1 := 1024) (iblk m c 1 t) (fun r i => B (0 * 4096 + r) (t.val / 11 * 1024 + i)) :=
  hB.block 0 (t.val / 11) ((win0_1.blk t).view.emb) (fun _ => rfl) (fun j => by blk_simp [index1]) (fun j => by blk_simp [index1])

include hA hB in
theorem result_is : Is2 (n0 := 5632) (n1 := 2048) ((dats m 0 c).arrAt 2 cfg0.N) (tn 4096 A B) := by
  rw [(dats m 0 c).arrAt_eq_of_covers 2 (fun y : S5632x2048.Idx => tn 4096 A B (y 0).val (y 1).val) (by decide +kernel) fun t hf y => ?_]
  · exact fun _ => rfl
  · blk_simp [after0_2]
    frame_out
    refine (matmul_tn (block0 m c hA t) (block1 m c hB t) dot_S4096x512_S4096x1024_S512x1024_0_0_1_1_n_n 4096 rfl rfl (fun _ _ => ⟨rfl, rfl, rfl, rfl⟩) y).trans ?_
    blk_simp [index2]
    exact tn_tile 4096 A B _ _ _ _

end

attribute [local instance] DnDw.Gen.facts DnDwIdeal.Gen.facts RefDnDwIdeal.Gen.facts

theorem frame_dn_dw : quiescent_DnDw := fun m g _ => DnDw.Gen.frame m g
theorem frame_dn_dw_ideal : quiescent_DnDwIdeal := fun m g _ => frame m g
theorem frame_dn_dw_reference : quiescent_RefDnDwIdeal := fun m g _ =>
  (θ_run _ _ _).mono (fun r h => ⟨fun c => (h c).2, sem_eq_zero_of_no_sems (by decide) r.2⟩) (RefDnDwIdeal.Value.run m g)

theorem equal_dn_dw : algebraic_DnDwIdeal_RefDnDwIdeal := fun m g m' g' _ h =>
  ⟨fun c => (dats m 0 c).arrAt 2 cfg0.N, Value.run_blocks m g,
    (θ_run _ _ _).mono (fun r k c => ⟨(k c).1.trans (Is2.unique (n0 := 5632) (n1 := 2048) (fun y => by
      rw [(h c).1, (h c).2]
      exact (dot_tn (fn2_is (n0 := 4096) (n1 := 2048) _) (fn2_is (n0 := 4096) (n1 := 5632) _) RefDnDwIdeal.dot_S4096x2048_S4096x5632_S2048x5632_0_0_1_1_n_n
        4096 rfl rfl (fun _ _ => ⟨rfl, rfl, rfl, rfl⟩) _).trans (tn_comm _ _ _ _ _)) (result_is m c (fn2_is _) (fn2_is _))), (k c).2⟩) (RefDnDwIdeal.Value.run m' g')⟩

end Cert.DnDwIdeal.Gen

end
-- ==== Proof.Mm.Dx.lean ====
module

public import Idealize.ShloMosaic.Lib.Pipeline.ValueKit
public import proofs.«01_k».proof.Proof.Gen.InDxIdeal.Value
public import proofs.«01_k».proof.Proof.Gen.RefInDxIdeal.Run
public import proofs.«01_k».proof.Proof.Gen.InDx.Frame
public import proofs.«01_k».proof.Proof.Mm.Block
public import proofs.«01_k».proof.Defs
public import proofs.«01_k».proof.Proof.Gen.ODxIdeal.Value
public import proofs.«01_k».proof.Proof.Gen.RefODxIdeal.Run
public import proofs.«01_k».proof.Proof.Gen.ODx.Frame
public import proofs.«01_k».proof.Proof.Gen.OgDxIdeal.Value
public import proofs.«01_k».proof.Proof.Gen.RefOgDxIdeal.Run
public import proofs.«01_k».proof.Proof.Gen.OgDx.Frame
public import proofs.«01_k».proof.Proof.Mm.Chips
public import proofs.«01_k».proof.Proof.Gen.UpDxIdeal.Value
public import proofs.«01_k».proof.Proof.Gen.RefUpDxIdeal.Run
public import proofs.«01_k».proof.Proof.Gen.UpDx.Frame
public import proofs.«01_k».proof.Proof.Gen.DnDxIdeal.Value
public import proofs.«01_k».proof.Proof.Gen.RefDnDxIdeal.Run
public import proofs.«01_k».proof.Proof.Gen.DnDx.Frame

@[expose] public section

set_option maxRecDepth 16384

noncomputable section

open Idealize.ShloMosaic Idealize.ShloMosaic.TcCoe Idealize.ShloMosaic.Tactic Idealize.SL.Sem Cert.Val

/-! # The gradient of the input projections' input, accumulated over nine blocks of the contraction -/

namespace Cert.InDxIdeal.Gen

theorem index0 : ∀ t : Fin cfg0.N, win0_0.index t = ![t.val / 9, t.val % 9] := (by decide +kernel : ∀ t : Fin grid0.N, win0_0.index t = ![t.val / 9, t.val % 9])
theorem index1 : ∀ t : Fin cfg0.N, win0_1.index t = ![0, t.val % 9] := (by decide +kernel : ∀ t : Fin grid0.N, win0_1.index t = ![0, t.val % 9])
theorem index2 : ∀ t : Fin cfg0.N, win0_2.index t = ![t.val / 9, 0] := (by decide +kernel : ∀ t : Fin grid0.N, win0_2.index t = ![t.val / 9, 0])
theorem last2 : ∀ t : Fin cfg0.N, (cfg0.win 2).flush t = true → t.val % 9 = 8 := (by decide +kernel : ∀ t : Fin grid0.N, win0_2.flush t = true → t.val % 9 = 8)

section
variable (m : (ℓ : Loc nD τ sig) → Buf (Elt Ideal) ℓ) (c : Dev nD) {A B : ℕ → ℕ → EReal}
  (hA : Is2 (n0 := 4096) (n1 := 10368) (m ((c.tc : Thread nD τ).loc main_arg0)) A) (hB : Is2 (n0 := 2048) (n1 := 10368) (m ((c.tc : Thread nD τ).loc main_arg1)) B)

include hA in
theorem block0 (t : Fin cfg0.N) : Is2 (n0 := 1024) (n1 := 1152) (iblk m c 0 t) (fun i r => A (t.val / 9 * 1024 + i) (t.val % 9 * 1152 + r)) :=
  hA.block (t.val / 9) (t.val % 9) ((win0_0.blk t).view.emb) (fun _ => rfl) (fun j => by blk_simp [index0]) (fun j => by blk_simp [index0])
include hB in
theorem block1 (t : Fin cfg0.N) : Is2 (n0 := 2048) (n1 := 1152) (iblk m c 1 t) (fun i r => B (0 * 2048 + i) (t.val % 9 * 1152 + r)) :=
  hB.block 0 (t.val % 9) ((win0_1.blk t).view.emb) (fun _ => rfl) (fun j => by blk_simp [index1]) (fun j => by blk_simp [index1])

include hA hB in
/-- What the output's buffer holds after step `n`. -/
theorem outs_is (n : ℕ) (hn : n < cfg0.N) : Is2 (n0 := 1024) (n1 := 2048) (outsAt0 m c n hn)
    (fun i j => ∑ r ∈ Finset.range ((n % 9 + 1) * 1152), A (n / 9 * 1024 + i) r * B (0 * 2048 + j) r) :=
  have step : ∀ t : Fin cfg0.N, Is2 (n0 := 1024) (n1 := 2048) (k0_pay1 (F := Ideal) (iblk m c 0 t) (iblk m c 1 t)) _ := fun t =>
    matmul_nt (block0 m c hA t) (block1 m c hB t) dot_S1024x1152_S2048x1152_S1024x2048_1_1_0_0_n_n 1152 rfl rfl (fun _ _ => ⟨rfl, rfl, rfl, rfl⟩)
  partial_is (K := 9) (w := 1152) (fun q i j r => A (q * 1024 + i) r * B (0 * 2048 + j) r) (outsAt0 m c)
    (fun n hn h y => by
      rw [outsAt0_A m c ⟨n, hn⟩ h (by show ¬1 ≤ n % 9; omega)]
      frame_out
      exact step ⟨n, hn⟩ y)
    (fun n hn h f hf y => by
      rw [outsAt0_B m c ⟨n, hn⟩ h (by show 1 ≤ n % 9; omega)]
      frame_out
      exact congrArg₂ (fun a b : EReal => a + b) ((shapeCast_at _ _ y y rfl).trans (hf y)) (step ⟨n, hn⟩ y)) n hn

include hA hB in
theorem result_is : Is2 (n0 := 4096) (n1 := 2048) ((dats m 0 c).arrAt 2 cfg0.N) (nt 10368 A B) := by
  rw [(dats m 0 c).arrAt_eq_of_covers 2 (fun y : S4096x2048.Idx => nt 10368 A B (y 0).val (y 1).val) (by decide +kernel) fun t hf y => ?_]
  · exact fun _ => rfl
  · blk_simp [after0_2]
    refine (outs_is m c hA hB t.val t.isLt y).trans ?_
    blk_simp [index2]
    rw [last2 t hf]
    rfl

end

attribute [local instance] InDx.Gen.facts InDxIdeal.Gen.facts RefInDxIdeal.Gen.facts

theorem frame_in_dx : quiescent_InDx := fun m g _ => InDx.Gen.frame m g
theorem frame_in_dx_ideal : quiescent_InDxIdeal := fun m g _ => frame m g
theorem frame_in_dx_reference : quiescent_RefInDxIdeal := fun m g _ =>
  (θ_run _ _ _).mono (fun r h => ⟨fun c => (h c).2, sem_eq_zero_of_no_sems (by decide) r.2⟩) (RefInDxIdeal.Value.run m g)

theorem equal_in_dx : algebraic_InDxIdeal_RefInDxIdeal := fun m g m' g' _ h =>
  ⟨fun c => (dats m 0 c).arrAt 2 cfg0.N, Value.run_blocks m g,
    (θ_run _ _ _).mono (fun r k c => ⟨(k c).1.trans (Is2.unique (n0 := 4096) (n1 := 2048) (by
      rw [(h c).1, (h c).2]
      exact dot_nt (fn2_is (n0 := 4096) (n1 := 10368) _) (fn2_is (n0 := 2048) (n1 := 10368) _) RefInDxIdeal.dot_S4096x10368_S2048x10368_S4096x2048_1_1_0_0_n_n
        10368 rfl rfl (fun _ _ => ⟨rfl, rfl, rfl, rfl⟩)) (result_is m c (fn2_is _) (fn2_is _))), (k c).2⟩) (RefInDxIdeal.Value.run m' g')⟩

end Cert.InDxIdeal.Gen

/-! # The gradient of the mixers' joined output -/

namespace Cert.ODxIdeal.Gen

theorem index0 : ∀ t : Fin cfg0.N, win0_0.index t = ![t.val % 8, 0] := (by decide +kernel : ∀ t : Fin grid0.N, win0_0.index t = ![t.val % 8, 0])
theorem index1 : ∀ t : Fin cfg0.N, win0_1.index t = ![t.val / 8, 0] := (by decide +kernel : ∀ t : Fin grid0.N, win0_1.index t = ![t.val / 8, 0])
theorem index2 : ∀ t : Fin cfg0.N, win0_2.index t = ![t.val % 8, t.val / 8] := (by decide +kernel : ∀ t : Fin grid0.N, win0_2.index t = ![t.val % 8, t.val / 8])

section
variable (m : (ℓ : Loc nD τ sig) → Buf (Elt Ideal) ℓ) (c : Dev nD) {A B : ℕ → ℕ → EReal}
  (hA : Is2 (n0 := 4096) (n1 := 2048) (m ((c.tc : Thread nD τ).loc main_arg0)) A) (hB : Is2 (n0 := 2048) (n1 := 2048) (m ((c.tc : Thread nD τ).loc main_arg1)) B)

include hA in
theorem block0 (t : Fin cfg0.N) : Is2 (n0 := 512) (n1 := 2048) (iblk m c 0 t) (fun i r => A (t.val % 8 * 512 + i) (0 * 2048 + r)) :=
  hA.block (t.val % 8) 0 ((win0_0.blk t).view.emb) (fun _ => rfl) (fun j => by blk_simp [index0]) (fun j => by blk_simp [index0])
include hB in
theorem block1 (t : Fin cfg0.N) : Is2 (n0 := 1024) (n1 := 2048) (iblk m c 1 t) (fun i r => B (t.val / 8 * 1024 + i) (0 * 2048 + r)) :=
  hB.block (t.val / 8) 0 ((win0_1.blk t).view.emb) (fun _ => rfl) (fun j => by blk_simp [index1]) (fun j => by blk_simp [index1])

include hA hB in
theorem result_is : Is2 (n0 := 4096) (n1 := 2048) ((dats m 0 c).arrAt 2 cfg0.N) (nt 2048 A B) := by
  rw [(dats m 0 c).arrAt_eq_of_covers 2 (fun y : S4096x2048.Idx => nt 2048 A B (y 0).val (y 1).val) (by decide +kernel) fun t hf y => ?_]
  · exact fun _ => rfl
  · blk_simp [after0_2]
    frame_out
    refine (matmul_nt (block0 m c hA t) (block1 m c hB t) dot_S512x2048_S1024x2048_S512x1024_1_1_0_0_n_n 2048 rfl rfl (fun _ _ => ⟨rfl, rfl, rfl, rfl⟩) y).trans ?_
    blk_simp [index2]
    exact nt_tile 2048 A B _ _ _ _

end

attribute [local instance] ODx.Gen.facts ODxIdeal.Gen.facts RefODxIdeal.Gen.facts

theorem frame_o_dx : quiescent_ODx := fun m g _ => ODx.Gen.frame m g
theorem frame_o_dx_ideal : quiescent_ODxIdeal := fun m g _ => frame m g
theorem frame_o_dx_reference : quiescent_RefODxIdeal := fun m g _ =>
  (θ_run _ _ _).mono (fun r h => ⟨fun c => (h c).2, sem_eq_zero_of_no_sems (by decide) r.2⟩) (RefODxIdeal.Value.run m g)

theorem equal_o_dx : algebraic_ODxIdeal_RefODxIdeal := fun m g m' g' _ h =>
  ⟨fun c => (dats m 0 c).arrAt 2 cfg0.N, Value.run_blocks m g,
    (θ_run _ _ _).mono (fun r k c => ⟨(k c).1.trans (Is2.unique (n0 := 4096) (n1 := 2048) (fun y => by
      rw [(h c).1, (h c).2]
      exact dot_nt (fn2_is (n0 := 4096) (n1 := 2048) _) (fn2_is (n0 := 2048) (n1 := 2048) _) RefODxIdeal.dot_S4096x2048_S2048x2048_S4096x2048_1_1_0_0_n_n
        2048 rfl rfl (fun _ _ => ⟨rfl, rfl, rfl, rfl⟩) _) (result_is m c (fn2_is _) (fn2_is _))), (k c).2⟩) (RefODxIdeal.Value.run m' g')⟩

end Cert.ODxIdeal.Gen

/-! # The gradient of the input of the product whose columns lie on the chips, accumulated over the chips -/

namespace Cert.OgDxIdeal.Gen

theorem index0 : ∀ t : Fin cfg0.N, win0_0.index t = ![t.val / 4, t.val % 4] := (by decide +kernel : ∀ t : Fin grid0.N, win0_0.index t = ![t.val / 4, t.val % 4])
theorem index1 : ∀ t : Fin cfg0.N, win0_1.index t = ![t.val % 4 / 1, 0, t.val % 4 % 1] := (by decide +kernel : ∀ t : Fin grid0.N, win0_1.index t = ![t.val % 4 / 1, 0, t.val % 4 % 1])
theorem index2 : ∀ t : Fin cfg0.N, win0_2.index t = ![t.val / 4, 0] := (by decide +kernel : ∀ t : Fin grid0.N, win0_2.index t = ![t.val / 4, 0])
theorem last2 : ∀ t : Fin cfg0.N, (cfg0.win 2).flush t = true → t.val % 4 = 3 := (by decide +kernel : ∀ t : Fin grid0.N, win0_2.flush t = true → t.val % 4 = 3)

section
variable (m : (ℓ : Loc nD τ sig) → Buf (Elt Ideal) ℓ) (c : Dev nD) {A : ℕ → ℕ → EReal} {W : ℕ → ℕ → ℕ → EReal}
  (hA : Is2 (n0 := 4096) (n1 := 2048) (m ((c.tc : Thread nD τ).loc main_arg0)) A) (hW : Is3 (n0 := 4) (n1 := 1024) (n2 := 512) (m ((c.tc : Thread nD τ).loc main_arg1)) W)

include hA in
theorem block0 (t : Fin cfg0.N) : Is2 (n0 := 2048) (n1 := 512) (iblk m c 0 t) (fun i r => A (t.val / 4 * 2048 + i) (t.val % 4 * 512 + r)) :=
  hA.block (t.val / 4) (t.val % 4) ((win0_0.blk t).view.emb) (fun _ => rfl) (fun j => by blk_simp [index0]) (fun j => by blk_simp [index0])
include hW in
theorem block1 (t : Fin cfg0.N) (h : S1x1024x512.ShapeCasts S1024x512) :
    Is2 (n0 := 1024) (n1 := 512) (shapeCast S1024x512 (iblk m c 1 t) h) (fun i r => row 512 W (0 * 1024 + i) (t.val % 4 * 512 + r)) :=
  hW.chip (per := 1) rfl 0 (t.val % 4) ((win0_1.blk t).view.emb) (fun _ => rfl) (fun j => by blk_simp [index1]) (fun j => by blk_simp [index1]) (fun j => by blk_simp [index1]) h

include hA hW in
/-- What the output's buffer holds after step `n`. -/
theorem outs_is (n : ℕ) (hn : n < cfg0.N) : Is2 (n0 := 2048) (n1 := 1024) (outsAt0 m c n hn)
    (fun i j => ∑ r ∈ Finset.range ((n % 4 + 1) * 512), A (n / 4 * 2048 + i) r * row 512 W (0 * 1024 + j) r) :=
  have step : ∀ t : Fin cfg0.N, Is2 (n0 := 2048) (n1 := 1024) (k0_pay1 (F := Ideal) (iblk m c 0 t) (iblk m c 1 t)) _ := fun t =>
    matmul_nt (block0 m c hA t) (block1 m c hW t _) dot_S2048x512_S1024x512_S2048x1024_1_1_0_0_n_n 512 rfl rfl (fun _ _ => ⟨rfl, rfl, rfl, rfl⟩)
  partial_is (K := 4) (w := 512) (fun q i j r => A (q * 2048 + i) r * row 512 W (0 * 1024 + j) r) (outsAt0 m c)
    (fun n hn h y => by
      rw [outsAt0_A m c ⟨n, hn⟩ h (by show ¬1 ≤ n % 4; omega)]
      frame_out
      exact step ⟨n, hn⟩ y)
    (fun n hn h f hf y => by
      rw [outsAt0_B m c ⟨n, hn⟩ h (by show 1 ≤ n % 4; omega)]
      frame_out
      exact congrArg₂ (fun a b : EReal => a + b) ((shapeCast_at _ _ y y rfl).trans (hf y)) (step ⟨n, hn⟩ y)) n hn

include hA hW in
theorem result_is : Is2 (n0 := 4096) (n1 := 1024) ((dats m 0 c).arrAt 2 cfg0.N) (nt 2048 A (row 512 W)) := by
  rw [(dats m 0 c).arrAt_eq_of_covers 2 (fun y : S4096x1024.Idx => nt 2048 A (row 512 W) (y 0).val (y 1).val) (by decide +kernel) fun t hf y => ?_]
  · exact fun _ => rfl
  · blk_simp [after0_2]
    refine (outs_is m c hA hW t.val t.isLt y).trans ?_
    blk_simp [index2]
    rw [last2 t hf]
    rfl

end

attribute [local instance] OgDx.Gen.facts OgDxIdeal.Gen.facts RefOgDxIdeal.Gen.facts

theorem frame_og_dx : quiescent_OgDx := fun m g _ => OgDx.Gen.frame m g
theorem frame_og_dx_ideal : quiescent_OgDxIdeal := fun m g _ => frame m g
theorem frame_og_dx_reference : quiescent_RefOgDxIdeal := fun m g _ =>
  (θ_run _ _ _).mono (fun r h => ⟨fun c => (h c).2, sem_eq_zero_of_no_sems (by decide) r.2⟩) (RefOgDxIdeal.Value.run m g)

theorem equal_og_dx : algebraic_OgDxIdeal_RefOgDxIdeal := fun m g m' g' _ h =>
  ⟨fun c => (dats m 0 c).arrAt 2 cfg0.N, Value.run_blocks m g,
    (θ_run _ _ _).mono (fun r k c => ⟨(k c).1.trans (Is2.unique (n0 := 4096) (n1 := 1024) (by
      rw [(h c).1, (h c).2]
      exact dot_nt (fn2_is (n0 := 4096) (n1 := 2048) _) (join_chips (k := 1024) (n := 512) rfl (fn3_is _) _ _) RefOgDxIdeal.dot_S4096x2048_S1024x2048_S4096x1024_1_1_0_0_n_n
        2048 rfl rfl (fun _ _ => ⟨rfl, rfl, rfl, rfl⟩)) (result_is m c (fn2_is _) (fn3_is _))), (k c).2⟩) (RefOgDxIdeal.Value.run m' g')⟩

end Cert.OgDxIdeal.Gen

/-! # The gradient of the feed-forward's first input, accumulated over the two halves of the contraction -/

namespace Cert.UpDxIdeal.Gen

theorem index0 : ∀ t : Fin cfg0.N, win0_0.index t = ![t.val / 8, min 3 (t.val % 8)] := (by decide +kernel : ∀ t : Fin grid0.N, win0_0.index t = ![t.val / 8, min 3 (t.val % 8)])
theorem index1 : ∀ t : Fin cfg0.N, win0_1.index t = ![t.val / 8, t.val % 8 - 4] := (by decide +kernel : ∀ t : Fin grid0.N, win0_1.index t = ![t.val / 8, t.val % 8 - 4])
theorem index2 : ∀ t : Fin cfg0.N, win0_2.index t = ![t.val % 8 / 2, 0, t.val % 8 % 2] := (by decide +kernel : ∀ t : Fin grid0.N, win0_2.index t = ![t.val % 8 / 2, 0, t.val % 8 % 2])
theorem index3 : ∀ t : Fin cfg0.N, win0_3.index t = ![t.val / 8, 0] := (by decide +kernel : ∀ t : Fin grid0.N, win0_3.index t = ![t.val / 8, 0])
theorem last3 : ∀ t : Fin cfg0.N, (cfg0.win 3).flush t = true → t.val % 8 = 7 := (by decide +kernel : ∀ t : Fin grid0.N, win0_3.flush t = true → t.val % 8 = 7)

section
variable (m : (ℓ : Loc nD τ sig) → Buf (Elt Ideal) ℓ) (c : Dev nD) {F G : ℕ → ℕ → EReal} {W : ℕ → ℕ → ℕ → EReal}
  (hF : Is2 (n0 := 4096) (n1 := 5632) (m ((c.tc : Thread nD τ).loc main_arg0)) F) (hG : Is2 (n0 := 4096) (n1 := 5632) (m ((c.tc : Thread nD τ).loc main_arg1)) G)
  (hW : Is3 (n0 := 4) (n1 := 2048) (n2 := 2816) (m ((c.tc : Thread nD τ).loc main_arg2)) W)

include hF in
/-- The first half's block at a step of its own, -/
theorem block0 (t : Fin cfg0.N) (h : t.val % 8 ≤ 3) :
    Is2 (n0 := 1024) (n1 := 1408) (iblk m c 0 t) (fun i r => beside 5632 F G (t.val / 8 * 1024 + i) (t.val % 8 * 1408 + r)) :=
  (hF.block (t.val / 8) (min 3 (t.val % 8)) ((win0_0.blk t).view.emb) (fun _ => rfl) (fun j => by blk_simp [index0]) (fun j => by blk_simp [index0])).congr
    fun i r _ hr => by rw [min_eq_right h]; exact beside_left _ _ _ (by omega)
include hG in
/-- and the second's. -/
theorem block1 (t : Fin cfg0.N) (h : 4 ≤ t.val % 8) :
    Is2 (n0 := 1024) (n1 := 1408) (iblk m c 1 t) (fun i r => beside 5632 F G (t.val / 8 * 1024 + i) (t.val % 8 * 1408 + r)) :=
  (hG.block (t.val / 8) (t.val % 8 - 4) ((win0_1.blk t).view.emb) (fun _ => rfl) (fun j => by blk_simp [index1]) (fun j => by blk_simp [index1])).congr
    fun i r _ hr => beside_right _ _ _ (by omega)
include hW in
theorem block2 (t : Fin cfg0.N) (h : S1x2048x1408.ShapeCasts S2048x1408) :
    Is2 (n0 := 2048) (n1 := 1408) (shapeCast S2048x1408 (iblk m c 2 t) h) (fun i r => row 2816 W (0 * 2048 + i) (t.val % 8 * 1408 + r)) :=
  hW.chip (per := 2) rfl 0 (t.val % 8) ((win0_2.blk t).view.emb) (fun _ => rfl) (fun j => by blk_simp [index2]) (fun j => by blk_simp [index2]) (fun j => by blk_simp [index2]) h

include hF hG hW in
/-- What the output's buffer holds after step `n`. -/
theorem outs_is (n : ℕ) (hn : n < cfg0.N) : Is2 (n0 := 1024) (n1 := 2048) (outsAt0 m c n hn)
    (fun i j => ∑ r ∈ Finset.range ((n % 8 + 1) * 1408), beside 5632 F G (n / 8 * 1024 + i) r * row 2816 W (0 * 2048 + j) r) :=
  have step : ∀ (t : Fin cfg0.N) (x : S1024x1408.Idx → EReal), Is2 (n0 := 1024) (n1 := 1408) x (fun i r => beside 5632 F G (t.val / 8 * 1024 + i) (t.val % 8 * 1408 + r)) →
      Is2 (n0 := 1024) (n1 := 2048) (k0_pay1 (F := Ideal) x (iblk m c 2 t)) _ := fun t x hx =>
    matmul_nt hx (block2 m c hW t _) dot_S1024x1408_S2048x1408_S1024x2048_1_1_0_0_n_n 1408 rfl rfl (fun _ _ => ⟨rfl, rfl, rfl, rfl⟩)
  partial_is (K := 8) (w := 1408) (fun q i j r => beside 5632 F G (q * 1024 + i) r * row 2816 W (0 * 2048 + j) r) (outsAt0 m c)
    (fun n hn h y => by
      rw [outsAt0_A m c ⟨n, hn⟩ (by show n % 8 ≤ 3; omega) h (by show ¬1 ≤ n % 8; omega) (by show ¬4 ≤ n % 8; omega)]
      frame_out
      exact step ⟨n, hn⟩ _ (block0 m c hF ⟨n, hn⟩ (by show n % 8 ≤ 3; omega)) y)
    (fun n hn h f hf y => by
      by_cases h4 : 4 ≤ n % 8
      · rw [outsAt0_C m c ⟨n, hn⟩ (by show ¬n % 8 ≤ 3; omega) h4 h (by show 1 ≤ n % 8; omega)]
        frame_out
        exact congrArg₂ (fun a b : EReal => a + b) ((shapeCast_at _ _ y y rfl).trans (hf y)) (step ⟨n, hn⟩ _ (block1 m c hG ⟨n, hn⟩ h4) y)
      · rw [outsAt0_B m c ⟨n, hn⟩ (by show n % 8 ≤ 3; omega) h (by show 1 ≤ n % 8; omega) h4]
        frame_out
        exact congrArg₂ (fun a b : EReal => a + b) ((shapeCast_at _ _ y y rfl).trans (hf y)) (step ⟨n, hn⟩ _ (block0 m c hF ⟨n, hn⟩ (by show n % 8 ≤ 3; omega)) y)) n hn

include hF hG hW in
theorem result_is : Is2 (n0 := 4096) (n1 := 2048) ((dats m 0 c).arrAt 3 cfg0.N) (nt 11264 (beside 5632 F G) (row 2816 W)) := by
  rw [(dats m 0 c).arrAt_eq_of_covers 3 (fun y : S4096x2048.Idx => nt 11264 (beside 5632 F G) (row 2816 W) (y 0).val (y 1).val) (by decide +kernel) fun t hf y => ?_]
  · exact fun _ => rfl
  · blk_simp [after0_3]
    refine (outs_is m c hF hG hW t.val t.isLt y).trans ?_
    blk_simp [index3]
    rw [last3 t hf]
    rfl

end

attribute [local instance] UpDx.Gen.facts UpDxIdeal.Gen.facts RefUpDxIdeal.Gen.facts

theorem frame_up_dx : quiescent_UpDx := fun m g _ => UpDx.Gen.frame m g
theorem frame_up_dx_ideal : quiescent_UpDxIdeal := fun m g _ => frame m g
theorem frame_up_dx_reference : quiescent_RefUpDxIdeal := fun m g _ =>
  (θ_run _ _ _).mono (fun r h => ⟨fun c => (h c).2, sem_eq_zero_of_no_sems (by decide) r.2⟩) (RefUpDxIdeal.Value.run m g)

theorem equal_up_dx : algebraic_UpDxIdeal_RefUpDxIdeal := fun m g m' g' _ h =>
  ⟨fun c => (dats m 0 c).arrAt 3 cfg0.N, Value.run_blocks m g,
    (θ_run _ _ _).mono (fun r k c => ⟨(k c).1.trans (Is2.unique (n0 := 4096) (n1 := 2048) (by
      rw [(h c).1, (h c).2.1, (h c).2.2]
      exact dot_nt (beside_is (k := 11264) (fn2_is (n0 := 4096) (n1 := 5632) _) (fn2_is (n0 := 4096) (n1 := 5632) _) _) (join_chips (k := 2048) (n := 2816) rfl (fn3_is _) _ _)
        RefUpDxIdeal.dot_S4096x11264_S2048x11264_S4096x2048_1_1_0_0_n_n 11264 rfl rfl (fun _ _ => ⟨rfl, rfl, rfl, rfl⟩))
      (result_is m c (fn2_is _) (fn2_is _) (fn3_is _))), (k c).2⟩) (RefUpDxIdeal.Value.run m' g')⟩

end Cert.UpDxIdeal.Gen

/-! # The gradient of the feed-forward's second input -/

namespace Cert.DnDxIdeal.Gen

theorem index0 : ∀ t : Fin cfg0.N, win0_0.index t = ![t.val % 8, 0] := (by decide +kernel : ∀ t : Fin grid0.N, win0_0.index t = ![t.val % 8, 0])
theorem index1 : ∀ t : Fin cfg0.N, win0_1.index t = ![t.val / 8, 0] := (by decide +kernel : ∀ t : Fin grid0.N, win0_1.index t = ![t.val / 8, 0])
theorem index2 : ∀ t : Fin cfg0.N, win0_2.index t = ![t.val % 8, t.val / 8] := (by decide +kernel : ∀ t : Fin grid0.N, win0_2.index t = ![t.val % 8, t.val / 8])

section
variable (m : (ℓ : Loc nD τ sig) → Buf (Elt Ideal) ℓ) (c : Dev nD) {A B : ℕ → ℕ → EReal}
  (hA : Is2 (n0 := 4096) (n1 := 2048) (m ((c.tc : Thread nD τ).loc main_arg0)) A) (hB : Is2 (n0 := 5632) (n1 := 2048) (m ((c.tc : Thread nD τ).loc main_arg1)) B)

include hA in
theorem block0 (t : Fin cfg0.N) : Is2 (n0 := 512) (n1 := 2048) (iblk m c 0 t) (fun i r => A (t.val % 8 * 512 + i) (0 * 2048 + r)) :=
  hA.block (t.val % 8) 0 ((win0_0.blk t).view.emb) (fun _ => rfl) (fun j => by blk_simp [index0]) (fun j => by blk_simp [index0])
include hB in
theorem block1 (t : Fin cfg0.N) : Is2 (n0 := 1408) (n1 := 2048) (iblk m c 1 t) (fun i r => B (t.val / 8 * 1408 + i) (0 * 2048 + r)) :=
  hB.block (t.val / 8) 0 ((win0_1.blk t).view.emb) (fun _ => rfl) (fun j => by blk_simp [index1]) (fun j => by blk_simp [index1])

include hA hB in
theorem result_is : Is2 (n0 := 4096) (n1 := 5632) ((dats m 0 c).arrAt 2 cfg0.N) (nt 2048 A B) := by
  rw [(dats m 0 c).arrAt_eq_of_covers 2 (fun y : S4096x5632.Idx => nt 2048 A B (y 0).val (y 1).val) (by decide +kernel) fun t hf y => ?_]
  · exact fun _ => rfl
  · blk_simp [after0_2]
    frame_out
    refine (matmul_nt (block0 m c hA t) (block1 m c hB t) dot_S512x2048_S1408x2048_S512x1408_1_1_0_0_n_n 2048 rfl rfl (fun _ _ => ⟨rfl, rfl, rfl, rfl⟩) y).trans ?_
    blk_simp [index2]
    exact nt_tile 2048 A B _ _ _ _

end

attribute [local instance] DnDx.Gen.facts DnDxIdeal.Gen.facts RefDnDxIdeal.Gen.facts

theorem frame_dn_dx : quiescent_DnDx := fun m g _ => DnDx.Gen.frame m g
theorem frame_dn_dx_ideal : quiescent_DnDxIdeal := fun m g _ => frame m g
theorem frame_dn_dx_reference : quiescent_RefDnDxIdeal := fun m g _ =>
  (θ_run _ _ _).mono (fun r h => ⟨fun c => (h c).2, sem_eq_zero_of_no_sems (by decide) r.2⟩) (RefDnDxIdeal.Value.run m g)

theorem equal_dn_dx : algebraic_DnDxIdeal_RefDnDxIdeal := fun m g m' g' _ h =>
  ⟨fun c => (dats m 0 c).arrAt 2 cfg0.N, Value.run_blocks m g,
    (θ_run _ _ _).mono (fun r k c => ⟨(k c).1.trans (Is2.unique (n0 := 4096) (n1 := 5632) (fun y => by
      rw [(h c).1, (h c).2]
      exact dot_nt (fn2_is (n0 := 4096) (n1 := 2048) _) (fn2_is (n0 := 5632) (n1 := 2048) _) RefDnDxIdeal.dot_S4096x2048_S5632x2048_S4096x5632_1_1_0_0_n_n
        2048 rfl rfl (fun _ _ => ⟨rfl, rfl, rfl, rfl⟩) _) (result_is m c (fn2_is _) (fn2_is _))), (k c).2⟩) (RefDnDxIdeal.Value.run m' g')⟩

end Cert.DnDxIdeal.Gen

end
-- ==== Proof.Mm.Fw.lean ====
module

public import Idealize.ShloMosaic.Lib.Pipeline.ValueKit
public import proofs.«01_k».proof.Proof.Gen.InFwIdeal.Value
public import proofs.«01_k».proof.Proof.Gen.RefInFwIdeal.Run
public import proofs.«01_k».proof.Proof.Gen.InFw.Frame
public import proofs.«01_k».proof.Proof.Mm.Block
public import proofs.«01_k».proof.Defs
public import proofs.«01_k».proof.Proof.Gen.OFwIdeal.Value
public import proofs.«01_k».proof.Proof.Gen.RefOFwIdeal.Run
public import proofs.«01_k».proof.Proof.Gen.OFw.Frame
public import proofs.«01_k».proof.Proof.Gen.OgFwIdeal.Value
public import proofs.«01_k».proof.Proof.Gen.RefOgFwIdeal.Run
public import proofs.«01_k».proof.Proof.Gen.OgFw.Frame
public import proofs.«01_k».proof.Proof.Mm.Chips
public import proofs.«01_k».proof.Proof.Gen.UpFwIdeal.Value
public import proofs.«01_k».proof.Proof.Gen.RefUpFwIdeal.Run
public import proofs.«01_k».proof.Proof.Gen.UpFw.Frame
public import proofs.«01_k».proof.Proof.Gen.DnFwIdeal.Value
public import proofs.«01_k».proof.Proof.Gen.RefDnFwIdeal.Run
public import proofs.«01_k».proof.Proof.Gen.DnFw.Frame

@[expose] public section

set_option maxRecDepth 16384

noncomputable section

open Idealize.ShloMosaic Idealize.ShloMosaic.TcCoe Idealize.ShloMosaic.Tactic Idealize.SL.Sem Cert.Val

/-! # The input projections -/

namespace Cert.InFwIdeal.Gen

theorem index0 : ∀ t : Fin cfg0.N, win0_0.index t = ![t.val % 8, 0] := (by decide +kernel : ∀ t : Fin grid0.N, win0_0.index t = ![t.val % 8, 0])
theorem index1 : ∀ t : Fin cfg0.N, win0_1.index t = ![0, t.val / 8] := (by decide +kernel : ∀ t : Fin grid0.N, win0_1.index t = ![0, t.val / 8])
theorem index2 : ∀ t : Fin cfg0.N, win0_2.index t = ![t.val % 8, t.val / 8] := (by decide +kernel : ∀ t : Fin grid0.N, win0_2.index t = ![t.val % 8, t.val / 8])

section
variable (m : (ℓ : Loc nD τ sig) → Buf (Elt Ideal) ℓ) (c : Dev nD) {A B : ℕ → ℕ → EReal}
  (hA : Is2 (n0 := 4096) (n1 := 2048) (m ((c.tc : Thread nD τ).loc main_arg0)) A) (hB : Is2 (n0 := 2048) (n1 := 10368) (m ((c.tc : Thread nD τ).loc main_arg1)) B)

include hA in
theorem block0 (t : Fin cfg0.N) : Is2 (n0 := 512) (n1 := 2048) (iblk m c 0 t) (fun i r => A (t.val % 8 * 512 + i) (0 * 2048 + r)) :=
  hA.block (t.val % 8) 0 ((win0_0.blk t).view.emb) (fun _ => rfl) (fun j => by blk_simp [index0]) (fun j => by blk_simp [index0])
include hB in
theorem block1 (t : Fin cfg0.N) : Is2 (n0 := 2048) (n1 := 1152) (iblk m c 1 t) (fun r i => B (0 * 2048 + r) (t.val / 8 * 1152 + i)) :=
  hB.block 0 (t.val / 8) ((win0_1.blk t).view.emb) (fun _ => rfl) (fun j => by blk_simp [index1]) (fun j => by blk_simp [index1])

include hA hB in
theorem result_is : Is2 (n0 := 4096) (n1 := 10368) ((dats m 0 c).arrAt 2 cfg0.N) (nn 2048 A B) := by
  rw [(dats m 0 c).arrAt_eq_of_covers 2 (fun y : S4096x10368.Idx => nn 2048 A B (y 0).val (y 1).val) (by decide +kernel) fun t hf y => ?_]
  · exact fun _ => rfl
  · blk_simp [after0_2]
    frame_out
    refine (matmul_nn (block0 m c hA t) (block1 m c hB t) dot_S512x2048_S2048x1152_S512x1152_1_0_0_1_n_n 2048 rfl rfl (fun _ _ => ⟨rfl, rfl, rfl, rfl⟩) y).trans ?_
    blk_simp [index2]
    exact nn_tile 2048 A B _ _ _ _

end

attribute [local instance] InFw.Gen.facts InFwIdeal.Gen.facts RefInFwIdeal.Gen.facts

theorem frame_in_fw : quiescent_InFw := fun m g _ => InFw.Gen.frame m g
theorem frame_in_fw_ideal : quiescent_InFwIdeal := fun m g _ => frame m g
theorem frame_in_fw_reference : quiescent_RefInFwIdeal := fun m g _ =>
  (θ_run _ _ _).mono (fun r h => ⟨fun c => (h c).2, sem_eq_zero_of_no_sems (by decide) r.2⟩) (RefInFwIdeal.Value.run m g)

theorem equal_in_fw : algebraic_InFwIdeal_RefInFwIdeal := fun m g m' g' _ h =>
  ⟨fun c => (dats m 0 c).arrAt 2 cfg0.N, Value.run_blocks m g,
    (θ_run _ _ _).mono (fun r k c => ⟨(k c).1.trans (Is2.unique (n0 := 4096) (n1 := 10368) (fun y => by
      rw [(h c).1, (h c).2]
      exact dot_nn (fn2_is (n0 := 4096) (n1 := 2048) _) (fn2_is (n0 := 2048) (n1 := 10368) _) RefInFwIdeal.dot_S4096x2048_S2048x10368_S4096x10368_1_0_0_1_n_n
        2048 rfl rfl (fun _ _ => ⟨rfl, rfl, rfl, rfl⟩) _) (result_is m c (fn2_is _) (fn2_is _))), (k c).2⟩) (RefInFwIdeal.Value.run m' g')⟩

end Cert.InFwIdeal.Gen

/-! # The mixers' output product -/

namespace Cert.OFwIdeal.Gen

theorem index0 : ∀ t : Fin cfg0.N, win0_0.index t = ![t.val % 8, 0] := (by decide +kernel : ∀ t : Fin grid0.N, win0_0.index t = ![t.val % 8, 0])
theorem index1 : ∀ t : Fin cfg0.N, win0_1.index t = ![0, t.val / 8] := (by decide +kernel : ∀ t : Fin grid0.N, win0_1.index t = ![0, t.val / 8])
theorem index2 : ∀ t : Fin cfg0.N, win0_2.index t = ![t.val % 8, t.val / 8] := (by decide +kernel : ∀ t : Fin grid0.N, win0_2.index t = ![t.val % 8, t.val / 8])

section
variable (m : (ℓ : Loc nD τ sig) → Buf (Elt Ideal) ℓ) (c : Dev nD) {A B : ℕ → ℕ → EReal}
  (hA : Is2 (n0 := 4096) (n1 := 2048) (m ((c.tc : Thread nD τ).loc main_arg0)) A) (hB : Is2 (n0 := 2048) (n1 := 2048) (m ((c.tc : Thread nD τ).loc main_arg1)) B)

include hA in
theorem block0 (t : Fin cfg0.N) : Is2 (n0 := 512) (n1 := 2048) (iblk m c 0 t) (fun i r => A (t.val % 8 * 512 + i) (0 * 2048 + r)) :=
  hA.block (t.val % 8) 0 ((win0_0.blk t).view.emb) (fun _ => rfl) (fun j => by blk_simp [index0]) (fun j => by blk_simp [index0])
include hB in
theorem block1 (t : Fin cfg0.N) : Is2 (n0 := 2048) (n1 := 1024) (iblk m c 1 t) (fun r i => B (0 * 2048 + r) (t.val / 8 * 1024 + i)) :=
  hB.block 0 (t.val / 8) ((win0_1.blk t).view.emb) (fun _ => rfl) (fun j => by blk_simp [index1]) (fun j => by blk_simp [index1])

include hA hB in
theorem result_is : Is2 (n0 := 4096) (n1 := 2048) ((dats m 0 c).arrAt 2 cfg0.N) (nn 2048 A B) := by
  rw [(dats m 0 c).arrAt_eq_of_covers 2 (fun y : S4096x2048.Idx => nn 2048 A B (y 0).val (y 1).val) (by decide +kernel) fun t hf y => ?_]
  · exact fun _ => rfl
  · blk_simp [after0_2]
    frame_out
    refine (matmul_nn (block0 m c hA t) (block1 m c hB t) dot_S512x2048_S2048x1024_S512x1024_1_0_0_1_n_n 2048 rfl rfl (fun _ _ => ⟨rfl, rfl, rfl, rfl⟩) y).trans ?_
    blk_simp [index2]
    exact nn_tile 2048 A B _ _ _ _

end

attribute [local instance] OFw.Gen.facts OFwIdeal.Gen.facts RefOFwIdeal.Gen.facts

theorem frame_o_fw : quiescent_OFw := fun m g _ => OFw.Gen.frame m g
theorem frame_o_fw_ideal : quiescent_OFwIdeal := fun m g _ => frame m g
theorem frame_o_fw_reference : quiescent_RefOFwIdeal := fun m g _ =>
  (θ_run _ _ _).mono (fun r h => ⟨fun c => (h c).2, sem_eq_zero_of_no_sems (by decide) r.2⟩) (RefOFwIdeal.Value.run m g)

theorem equal_o_fw : algebraic_OFwIdeal_RefOFwIdeal := fun m g m' g' _ h =>
  ⟨fun c => (dats m 0 c).arrAt 2 cfg0.N, Value.run_blocks m g,
    (θ_run _ _ _).mono (fun r k c => ⟨(k c).1.trans (Is2.unique (n0 := 4096) (n1 := 2048) (fun y => by
      rw [(h c).1, (h c).2]
      exact dot_nn (fn2_is (n0 := 4096) (n1 := 2048) _) (fn2_is (n0 := 2048) (n1 := 2048) _) RefOFwIdeal.dot_S4096x2048_S2048x2048_S4096x2048_1_0_0_1_n_n
        2048 rfl rfl (fun _ _ => ⟨rfl, rfl, rfl, rfl⟩) _) (result_is m c (fn2_is _) (fn2_is _))), (k c).2⟩) (RefOFwIdeal.Value.run m' g')⟩

end Cert.OFwIdeal.Gen

/-! # The product with the output weights whose columns lie on the chips -/

namespace Cert.OgFwIdeal.Gen

theorem index0 : ∀ t : Fin cfg0.N, win0_0.index t = ![t.val % 2, 0] := (by decide +kernel : ∀ t : Fin grid0.N, win0_0.index t = ![t.val % 2, 0])
theorem index1 : ∀ t : Fin cfg0.N, win0_1.index t = ![t.val / 2 / 1, 0, t.val / 2 % 1] := (by decide +kernel : ∀ t : Fin grid0.N, win0_1.index t = ![t.val / 2 / 1, 0, t.val / 2 % 1])
theorem index2 : ∀ t : Fin cfg0.N, win0_2.index t = ![t.val % 2, t.val / 2] := (by decide +kernel : ∀ t : Fin grid0.N, win0_2.index t = ![t.val % 2, t.val / 2])

section
variable (m : (ℓ : Loc nD τ sig) → Buf (Elt Ideal) ℓ) (c : Dev nD) {A : ℕ → ℕ → EReal} {W : ℕ → ℕ → ℕ → EReal}
  (hA : Is2 (n0 := 4096) (n1 := 1024) (m ((c.tc : Thread nD τ).loc main_arg0)) A) (hW : Is3 (n0 := 4) (n1 := 1024) (n2 := 512) (m ((c.tc : Thread nD τ).loc main_arg1)) W)

include hA in
theorem block0 (t : Fin cfg0.N) : Is2 (n0 := 2048) (n1 := 1024) (iblk m c 0 t) (fun i r => A (t.val % 2 * 2048 + i) (0 * 1024 + r)) :=
  hA.block (t.val % 2) 0 ((win0_0.blk t).view.emb) (fun _ => rfl) (fun j => by blk_simp [index0]) (fun j => by blk_simp [index0])
include hW in
theorem block1 (t : Fin cfg0.N) (h : S1x1024x512.ShapeCasts S1024x512) :
    Is2 (n0 := 1024) (n1 := 512) (shapeCast S1024x512 (iblk m c 1 t) h) (fun r i => row 512 W (0 * 1024 + r) (t.val / 2 * 512 + i)) :=
  hW.chip (per := 1) rfl 0 (t.val / 2) ((win0_1.blk t).view.emb) (fun _ => rfl) (fun j => by blk_simp [index1]) (fun j => by blk_simp [index1]) (fun j => by blk_simp [index1]) h

include hA hW in
theorem result_is : Is2 (n0 := 4096) (n1 := 2048) ((dats m 0 c).arrAt 2 cfg0.N) (nn 1024 A (row 512 W)) := by
  rw [(dats m 0 c).arrAt_eq_of_covers 2 (fun y : S4096x2048.Idx => nn 1024 A (row 512 W) (y 0).val (y 1).val) (by decide +kernel) fun t hf y => ?_]
  · exact fun _ => rfl
  · blk_simp [after0_2]
    frame_out
    refine (matmul_nn (block0 m c hA t) (block1 m c hW t _) dot_S2048x1024_S1024x512_S2048x512_1_0_0_1_n_n 1024 rfl rfl (fun _ _ => ⟨rfl, rfl, rfl, rfl⟩) y).trans ?_
    blk_simp [index2]
    exact nn_tile 1024 A (row 512 W) _ _ _ _

end

attribute [local instance] OgFw.Gen.facts OgFwIdeal.Gen.facts RefOgFwIdeal.Gen.facts

theorem frame_og_fw : quiescent_OgFw := fun m g _ => OgFw.Gen.frame m g
theorem frame_og_fw_ideal : quiescent_OgFwIdeal := fun m g _ => frame m g
theorem frame_og_fw_reference : quiescent_RefOgFwIdeal := fun m g _ =>
  (θ_run _ _ _).mono (fun r h => ⟨fun c => (h c).2, sem_eq_zero_of_no_sems (by decide) r.2⟩) (RefOgFwIdeal.Value.run m g)

theorem equal_og_fw : algebraic_OgFwIdeal_RefOgFwIdeal := fun m g m' g' _ h =>
  ⟨fun c => (dats m 0 c).arrAt 2 cfg0.N, Value.run_blocks m g,
    (θ_run _ _ _).mono (fun r k c => ⟨(k c).1.trans (Is2.unique (n0 := 4096) (n1 := 2048) (fun y => by
      rw [(h c).1, (h c).2]
      exact dot_nn (fn2_is (n0 := 4096) (n1 := 1024) _) (join_chips (k := 1024) (n := 512) rfl (fn3_is _) _ _) RefOgFwIdeal.dot_S4096x1024_S1024x2048_S4096x2048_1_0_0_1_n_n
        1024 rfl rfl (fun _ _ => ⟨rfl, rfl, rfl, rfl⟩) _) (result_is m c (fn2_is _) (fn3_is _))), (k c).2⟩) (RefOgFwIdeal.Value.run m' g')⟩

end Cert.OgFwIdeal.Gen

/-! # The feed-forward's first product -/

namespace Cert.UpFwIdeal.Gen

theorem index0 : ∀ t : Fin cfg0.N, win0_0.index t = ![t.val % 8, 0] := (by decide +kernel : ∀ t : Fin grid0.N, win0_0.index t = ![t.val % 8, 0])
theorem index1 : ∀ t : Fin cfg0.N, win0_1.index t = ![t.val / 8 / 2, 0, t.val / 8 % 2] := (by decide +kernel : ∀ t : Fin grid0.N, win0_1.index t = ![t.val / 8 / 2, 0, t.val / 8 % 2])
theorem index2 : ∀ t : Fin cfg0.N, win0_2.index t = ![t.val % 8, t.val / 8] := (by decide +kernel : ∀ t : Fin grid0.N, win0_2.index t = ![t.val % 8, t.val / 8])

section
variable (m : (ℓ : Loc nD τ sig) → Buf (Elt Ideal) ℓ) (c : Dev nD) {A : ℕ → ℕ → EReal} {W : ℕ → ℕ → ℕ → EReal}
  (hA : Is2 (n0 := 4096) (n1 := 2048) (m ((c.tc : Thread nD τ).loc main_arg0)) A) (hW : Is3 (n0 := 4) (n1 := 2048) (n2 := 2816) (m ((c.tc : Thread nD τ).loc main_arg1)) W)

include hA in
theorem block0 (t : Fin cfg0.N) : Is2 (n0 := 512) (n1 := 2048) (iblk m c 0 t) (fun i r => A (t.val % 8 * 512 + i) (0 * 2048 + r)) :=
  hA.block (t.val % 8) 0 ((win0_0.blk t).view.emb) (fun _ => rfl) (fun j => by blk_simp [index0]) (fun j => by blk_simp [index0])
include hW in
theorem block1 (t : Fin cfg0.N) (h : S1x2048x1408.ShapeCasts S2048x1408) :
    Is2 (n0 := 2048) (n1 := 1408) (shapeCast S2048x1408 (iblk m c 1 t) h) (fun r i => row 2816 W (0 * 2048 + r) (t.val / 8 * 1408 + i)) :=
  hW.chip (per := 2) rfl 0 (t.val / 8) ((win0_1.blk t).view.emb) (fun _ => rfl) (fun j => by blk_simp [index1]) (fun j => by blk_simp [index1]) (fun j => by blk_simp [index1]) h

include hA hW in
theorem result_is : Is2 (n0 := 4096) (n1 := 11264) ((dats m 0 c).arrAt 2 cfg0.N) (nn 2048 A (row 2816 W)) := by
  rw [(dats m 0 c).arrAt_eq_of_covers 2 (fun y : S4096x11264.Idx => nn 2048 A (row 2816 W) (y 0).val (y 1).val) (by decide +kernel) fun t hf y => ?_]
  · exact fun _ => rfl
  · blk_simp [after0_2]
    frame_out
    refine (matmul_nn (block0 m c hA t) (block1 m c hW t _) dot_S512x2048_S2048x1408_S512x1408_1_0_0_1_n_n 2048 rfl rfl (fun _ _ => ⟨rfl, rfl, rfl, rfl⟩) y).trans ?_
    blk_simp [index2]
    exact nn_tile 2048 A (row 2816 W) _ _ _ _

end

attribute [local instance] UpFw.Gen.facts UpFwIdeal.Gen.facts RefUpFwIdeal.Gen.facts

theorem frame_up_fw : quiescent_UpFw := fun m g _ => UpFw.Gen.frame m g
theorem frame_up_fw_ideal : quiescent_UpFwIdeal := fun m g _ => frame m g
theorem frame_up_fw_reference : quiescent_RefUpFwIdeal := fun m g _ =>
  (θ_run _ _ _).mono (fun r h => ⟨fun c => (h c).2, sem_eq_zero_of_no_sems (by decide) r.2⟩) (RefUpFwIdeal.Value.run m g)

theorem equal_up_fw : algebraic_UpFwIdeal_RefUpFwIdeal := fun m g m' g' _ h =>
  ⟨fun c => (dats m 0 c).arrAt 2 cfg0.N, Value.run_blocks m g,
    (θ_run _ _ _).mono (fun r k c => ⟨(k c).1.trans (Is2.unique (n0 := 4096) (n1 := 11264) (fun y => by
      rw [(h c).1, (h c).2]
      exact dot_nn (fn2_is (n0 := 4096) (n1 := 2048) _) (join_chips (k := 2048) (n := 2816) rfl (fn3_is _) _ _) RefUpFwIdeal.dot_S4096x2048_S2048x11264_S4096x11264_1_0_0_1_n_n
        2048 rfl rfl (fun _ _ => ⟨rfl, rfl, rfl, rfl⟩) _) (result_is m c (fn2_is _) (fn3_is _))), (k c).2⟩) (RefUpFwIdeal.Value.run m' g')⟩

end Cert.UpFwIdeal.Gen

/-! # The feed-forward's second product, accumulated over four blocks of the contraction -/

namespace Cert.DnFwIdeal.Gen

theorem index0 : ∀ t : Fin cfg0.N, win0_0.index t = ![t.val / 4, t.val % 4] := (by decide +kernel : ∀ t : Fin grid0.N, win0_0.index t = ![t.val / 4, t.val % 4])
theorem index1 : ∀ t : Fin cfg0.N, win0_1.index t = ![t.val % 4, 0] := (by decide +kernel : ∀ t : Fin grid0.N, win0_1.index t = ![t.val % 4, 0])
theorem index2 : ∀ t : Fin cfg0.N, win0_2.index t = ![t.val / 4, 0] := (by decide +kernel : ∀ t : Fin grid0.N, win0_2.index t = ![t.val / 4, 0])
theorem last2 : ∀ t : Fin cfg0.N, (cfg0.win 2).flush t = true → t.val % 4 = 3 := (by decide +kernel : ∀ t : Fin grid0.N, win0_2.flush t = true → t.val % 4 = 3)

section
variable (m : (ℓ : Loc nD τ sig) → Buf (Elt Ideal) ℓ) (c : Dev nD) {A B : ℕ → ℕ → EReal}
  (hA : Is2 (n0 := 4096) (n1 := 5632) (m ((c.tc : Thread nD τ).loc main_arg0)) A) (hB : Is2 (n0 := 5632) (n1 := 2048) (m ((c.tc : Thread nD τ).loc main_arg1)) B)

include hA in
theorem block0 (t : Fin cfg0.N) : Is2 (n0 := 1024) (n1 := 1408) (iblk m c 0 t) (fun i r => A (t.val / 4 * 1024 + i) (t.val % 4 * 1408 + r)) :=
  hA.block (t.val / 4) (t.val % 4) ((win0_0.blk t).view.emb) (fun _ => rfl) (fun j => by blk_simp [index0]) (fun j => by blk_simp [index0])
include hB in
theorem block1 (t : Fin cfg0.N) : Is2 (n0 := 1408) (n1 := 2048) (iblk m c 1 t) (fun r i => B (t.val % 4 * 1408 + r) (0 * 2048 + i)) :=
  hB.block (t.val % 4) 0 ((win0_1.blk t).view.emb) (fun _ => rfl) (fun j => by blk_simp [index1]) (fun j => by blk_simp [index1])

include hA hB in
/-- What the output's buffer holds after step `n`. -/
theorem outs_is (n : ℕ) (hn : n < cfg0.N) : Is2 (n0 := 1024) (n1 := 2048) (outsAt0 m c n hn)
    (fun i j => ∑ r ∈ Finset.range ((n % 4 + 1) * 1408), A (n / 4 * 1024 + i) r * B r (0 * 2048 + j)) :=
  have step : ∀ t : Fin cfg0.N, Is2 (n0 := 1024) (n1 := 2048) (k0_pay1 (F := Ideal) (iblk m c 0 t) (iblk m c 1 t)) _ := fun t =>
    matmul_nn (block0 m c hA t) (block1 m c hB t) dot_S1024x1408_S1408x2048_S1024x2048_1_0_0_1_n_n 1408 rfl rfl (fun _ _ => ⟨rfl, rfl, rfl, rfl⟩)
  partial_is (K := 4) (w := 1408) (fun q i j r => A (q * 1024 + i) r * B r (0 * 2048 + j)) (outsAt0 m c)
    (fun n hn h y => by
      rw [outsAt0_A m c ⟨n, hn⟩ h (by show ¬1 ≤ n % 4; omega)]
      frame_out
      exact step ⟨n, hn⟩ y)
    (fun n hn h f hf y => by
      rw [outsAt0_B m c ⟨n, hn⟩ h (by show 1 ≤ n % 4; omega)]
      frame_out
      exact congrArg₂ (fun a b : EReal => a + b) ((shapeCast_at _ _ y y rfl).trans (hf y)) (step ⟨n, hn⟩ y)) n hn

include hA hB in
theorem result_is : Is2 (n0 := 4096) (n1 := 2048) ((dats m 0 c).arrAt 2 cfg0.N) (nn 5632 A B) := by
  rw [(dats m 0 c).arrAt_eq_of_covers 2 (fun y : S4096x2048.Idx => nn 5632 A B (y 0).val (y 1).val) (by decide +kernel) fun t hf y => ?_]
  · exact fun _ => rfl
  · blk_simp [after0_2]
    refine (outs_is m c hA hB t.val t.isLt y).trans ?_
    blk_simp [index2]
    rw [last2 t hf]
    rfl

end

attribute [local instance] DnFw.Gen.facts DnFwIdeal.Gen.facts RefDnFwIdeal.Gen.facts

theorem frame_dn_fw : quiescent_DnFw := fun m g _ => DnFw.Gen.frame m g
theorem frame_dn_fw_ideal : quiescent_DnFwIdeal := fun m g _ => frame m g
theorem frame_dn_fw_reference : quiescent_RefDnFwIdeal := fun m g _ =>
  (θ_run _ _ _).mono (fun r h => ⟨fun c => (h c).2, sem_eq_zero_of_no_sems (by decide) r.2⟩) (RefDnFwIdeal.Value.run m g)

theorem equal_dn_fw : algebraic_DnFwIdeal_RefDnFwIdeal := fun m g m' g' _ h =>
  ⟨fun c => (dats m 0 c).arrAt 2 cfg0.N, Value.run_blocks m g,
    (θ_run _ _ _).mono (fun r k c => ⟨(k c).1.trans (Is2.unique (n0 := 4096) (n1 := 2048) (by
      rw [(h c).1, (h c).2]
      exact dot_nn (fn2_is (n0 := 4096) (n1 := 5632) _) (fn2_is (n0 := 5632) (n1 := 2048) _) RefDnFwIdeal.dot_S4096x5632_S5632x2048_S4096x2048_1_0_0_1_n_n
        5632 rfl rfl (fun _ _ => ⟨rfl, rfl, rfl, rfl⟩)) (result_is m c (fn2_is _) (fn2_is _))), (k c).2⟩) (RefDnFwIdeal.Value.run m' g')⟩

end Cert.DnFwIdeal.Gen

end
-- ==== Proof.Mm.Adam.lean ====
module

public import Idealize.ShloMosaic.Lib.Pipeline.ValueKit

@[expose] public section

noncomputable section

/-! # One step of AdamW, entry by entry -/

namespace Cert.Val

open Idealize.ShloMosaic FloatOps

variable {s : Shape}

/-- A constant of the update, from its bits. -/
def cst (b : BitVec 32) : Ideal .f32 := ofBits .f32 b

/-- The two cores' gradients, added. -/
def adG (a b : FVec Ideal s .f32) : FVec Ideal s .f32 := fun y => addf (a y) (b y)

/-- The new first moment. -/
def adM (m g : FVec Ideal s .f32) : FVec Ideal s .f32 := fun y =>
  addf (mulf (cst 0x3F666666#32) (m y)) (mulf (cst 0x3DCCCCCD#32) (g y))

/-- The new second moment. -/
def adV (v g : FVec Ideal s .f32) : FVec Ideal s .f32 := fun y =>
  addf (mulf (cst 0x3F7FBE77#32) (v y)) (mulf (cst 0x3A83126F#32) (mulf (g y) (g y)))

/-- The change of the weight. -/
def adD (w m v g : FVec Ideal s .f32) : FVec Ideal s .f32 := fun y =>
  mulf (cst 0xBA83126F#32) (addf
    (divf (divf (adM m g y) (cst 0x3F26BD02#32)) (addf (sqrt (divf (adV v g y) (cst 0x3C231ACC#32))) (cst 0x322BCC77#32)))
    (mulf (cst 0x3C23D70A#32) (w y)))

/-- A block that is cast to another shape and back is read where it was. -/
theorem back {t : Shape} (f : FVec Ideal s .f32) (h : s.ShapeCasts t) (h' : t.ShapeCasts s) (y : s.Idx) :
    shapeCast s (shapeCast t f h) h' y = f y :=
  congrFun (shapeCast_shapeCast f h h') y

end Cert.Val

end
-- ==== Proof.Mm.AdWide.lean ====
module

public import proofs.«01_k».proof.Proof.Gen.AdDnIdeal.Value
public import proofs.«01_k».proof.Proof.Gen.RefAdDnIdeal.Run
public import proofs.«01_k».proof.Proof.Gen.AdDn.Frame
public import proofs.«01_k».proof.Proof.Gen.AdUpIdeal.Value
public import proofs.«01_k».proof.Proof.Gen.RefAdUpIdeal.Run
public import proofs.«01_k».proof.Proof.Gen.AdUp.Frame
public import proofs.«01_k».proof.Proof.Mm.Adam
public import proofs.«01_k».proof.Defs

@[expose] public section

set_option maxRecDepth 16384

noncomputable section

/-! # The update of the two projections of the channel mixer -/

open Idealize.ShloMosaic Idealize.ShloMosaic.TcCoe Idealize.ShloMosaic.Tactic Idealize.SL.Sem Cert.Val

namespace Cert.AdDnIdeal.Gen

attribute [local instance] AdDn.Gen.facts facts RefAdDnIdeal.Gen.facts

theorem frame_ad_dn : quiescent_AdDn := fun m g _ => AdDn.Gen.frame m g
theorem frame_ad_dn_ideal : quiescent_AdDnIdeal := fun m g _ => frame m g
theorem frame_ad_dn_reference : quiescent_RefAdDnIdeal := fun m g _ =>
  (θ_run _ _ _).mono (fun r h => ⟨fun c => (h c).2.2.2.2, sem_eq_zero_of_no_sems (by decide) r.2⟩) (RefAdDnIdeal.Value.run m g)

theorem equal_ad_dn : algebraic_AdDnIdeal_RefAdDnIdeal := fun m g m' g' _ h =>
  ⟨_, _, _, _, Value.run_blocks m g, (θ_run _ _ _).mono (fun r k c => by
    obtain ⟨k0, k1, k2, k3, kept⟩ := k c
    simp only [h c] at k0 k1 k2 k3
    let a r := m ((c.tc : Thread nD τ).loc r)
    let g : FVec Ideal S2x1408x2048 .f32 := adG (a main_arg3) (a main_arg4)
    refine ⟨k0.trans ((dats m 0 c).arrAt_eq_of_covers 5 g (by decide +kernel) fun t _ y => ?_).symm,
      k1.trans ((dats m 0 c).arrAt_eq_of_covers 6 (adD (a main_arg0) (a main_arg1) (a main_arg2) g) (by decide +kernel) fun t _ y => ?_).symm,
      k2.trans ((dats m 0 c).arrAt_eq_of_covers 7 (adM (a main_arg1) g) (by decide +kernel) fun t _ y => ?_).symm,
      k3.trans ((dats m 0 c).arrAt_eq_of_covers 8 (adV (a main_arg2) g) (by decide +kernel) fun t _ y => ?_).symm, kept⟩
    all_goals
      blk_simp [after0_5, after0_6, after0_7, after0_8]
      frame_out
      let b i := iblk m c i t
    · exact back (adG (b 3) (b 4)) _ _ y
    · exact back (adD (b 0) (b 1) (b 2) (adG (b 3) (b 4))) _ _ y
    · exact back (adM (b 1) (adG (b 3) (b 4))) _ _ y
    · exact back (adV (b 2) (adG (b 3) (b 4))) _ _ y) (RefAdDnIdeal.Value.run m' g')⟩

end Cert.AdDnIdeal.Gen

namespace Cert.AdUpIdeal.Gen

attribute [local instance] AdUp.Gen.facts facts RefAdUpIdeal.Gen.facts

theorem frame_ad_up : quiescent_AdUp := fun m g _ => AdUp.Gen.frame m g
theorem frame_ad_up_ideal : quiescent_AdUpIdeal := fun m g _ => frame m g
theorem frame_ad_up_reference : quiescent_RefAdUpIdeal := fun m g _ =>
  (θ_run _ _ _).mono (fun r h => ⟨fun c => (h c).2.2.2.2, sem_eq_zero_of_no_sems (by decide) r.2⟩) (RefAdUpIdeal.Value.run m g)

theorem equal_ad_up : algebraic_AdUpIdeal_RefAdUpIdeal := fun m g m' g' _ h =>
  ⟨_, _, _, _, Value.run_blocks m g, (θ_run _ _ _).mono (fun r k c => by
    obtain ⟨k0, k1, k2, k3, kept⟩ := k c
    simp only [h c] at k0 k1 k2 k3
    let a r := m ((c.tc : Thread nD τ).loc r)
    let g : FVec Ideal S2x2048x2816 .f32 := adG (a main_arg3) (a main_arg4)
    refine ⟨k0.trans ((dats m 0 c).arrAt_eq_of_covers 5 g (by decide +kernel) fun t _ y => ?_).symm,
      k1.trans ((dats m 0 c).arrAt_eq_of_covers 6 (adD (a main_arg0) (a main_arg1) (a main_arg2) g) (by decide +kernel) fun t _ y => ?_).symm,
      k2.trans ((dats m 0 c).arrAt_eq_of_covers 7 (adM (a main_arg1) g) (by decide +kernel) fun t _ y => ?_).symm,
      k3.trans ((dats m 0 c).arrAt_eq_of_covers 8 (adV (a main_arg2) g) (by decide +kernel) fun t _ y => ?_).symm, kept⟩
    all_goals
      blk_simp [after0_5, after0_6, after0_7, after0_8]
      frame_out
      let b i := iblk m c i t
    · exact back (adG (b 3) (b 4)) _ _ y
    · exact back (adD (b 0) (b 1) (b 2) (adG (b 3) (b 4))) _ _ y
    · exact back (adM (b 1) (adG (b 3) (b 4))) _ _ y
    · exact back (adV (b 2) (adG (b 3) (b 4))) _ _ y) (RefAdUpIdeal.Value.run m' g')⟩

end Cert.AdUpIdeal.Gen

end
-- ==== Proof.Mm.AdMix.lean ====
module

public import proofs.«01_k».proof.Proof.Gen.AdOIdeal.Value
public import proofs.«01_k».proof.Proof.Gen.RefAdOIdeal.Run
public import proofs.«01_k».proof.Proof.Gen.AdO.Frame
public import proofs.«01_k».proof.Proof.Gen.AdOgIdeal.Value
public import proofs.«01_k».proof.Proof.Gen.RefAdOgIdeal.Run
public import proofs.«01_k».proof.Proof.Gen.AdOg.Frame
public import proofs.«01_k».proof.Proof.Mm.Adam
public import proofs.«01_k».proof.Defs

@[expose] public section

set_option maxRecDepth 16384

noncomputable section

/-! # The update of the mixers' projections -/

open Idealize.ShloMosaic Idealize.ShloMosaic.TcCoe Idealize.ShloMosaic.Tactic Idealize.SL.Sem Cert.Val

namespace Cert.AdOIdeal.Gen

attribute [local instance] AdO.Gen.facts facts RefAdOIdeal.Gen.facts

theorem frame_ad_o : quiescent_AdO := fun m g _ => AdO.Gen.frame m g
theorem frame_ad_o_ideal : quiescent_AdOIdeal := fun m g _ => frame m g
theorem frame_ad_o_reference : quiescent_RefAdOIdeal := fun m g _ =>
  (θ_run _ _ _).mono (fun r h => ⟨fun c => (h c).2.2.2.2, sem_eq_zero_of_no_sems (by decide) r.2⟩) (RefAdOIdeal.Value.run m g)

theorem equal_ad_o : algebraic_AdOIdeal_RefAdOIdeal := fun m g m' g' _ h =>
  ⟨_, _, _, _, Value.run_blocks m g, (θ_run _ _ _).mono (fun r k c => by
    obtain ⟨k0, k1, k2, k3, kept⟩ := k c
    simp only [h c] at k0 k1 k2 k3
    let a r := m ((c.tc : Thread nD τ).loc r)
    let g : FVec Ideal S2x512x2048 .f32 := adG (a main_arg3) (a main_arg4)
    refine ⟨k0.trans ((dats m 0 c).arrAt_eq_of_covers 5 g (by decide +kernel) fun t _ y => ?_).symm,
      k1.trans ((dats m 0 c).arrAt_eq_of_covers 6 (adD (a main_arg0) (a main_arg1) (a main_arg2) g) (by decide +kernel) fun t _ y => ?_).symm,
      k2.trans ((dats m 0 c).arrAt_eq_of_covers 7 (adM (a main_arg1) g) (by decide +kernel) fun t _ y => ?_).symm,
      k3.trans ((dats m 0 c).arrAt_eq_of_covers 8 (adV (a main_arg2) g) (by decide +kernel) fun t _ y => ?_).symm, kept⟩
    all_goals
      blk_simp [after0_5, after0_6, after0_7, after0_8]
      frame_out
      let b i := iblk m c i t
    · exact back (adG (b 3) (b 4)) _ _ y
    · exact back (adD (b 0) (b 1) (b 2) (adG (b 3) (b 4))) _ _ y
    · exact back (adM (b 1) (adG (b 3) (b 4))) _ _ y
    · exact back (adV (b 2) (adG (b 3) (b 4))) _ _ y) (RefAdOIdeal.Value.run m' g')⟩

end Cert.AdOIdeal.Gen

namespace Cert.AdOgIdeal.Gen

attribute [local instance] AdOg.Gen.facts facts RefAdOgIdeal.Gen.facts

theorem frame_ad_og : quiescent_AdOg := fun m g _ => AdOg.Gen.frame m g
theorem frame_ad_og_ideal : quiescent_AdOgIdeal := fun m g _ => frame m g
theorem frame_ad_og_reference : quiescent_RefAdOgIdeal := fun m g _ =>
  (θ_run _ _ _).mono (fun r h => ⟨fun c => (h c).2.2.2.2, sem_eq_zero_of_no_sems (by decide) r.2⟩) (RefAdOgIdeal.Value.run m g)

theorem equal_ad_og : algebraic_AdOgIdeal_RefAdOgIdeal := fun m g m' g' _ h =>
  ⟨_, _, _, _, Value.run_blocks m g, (θ_run _ _ _).mono (fun r k c => by
    obtain ⟨k0, k1, k2, k3, kept⟩ := k c
    simp only [h c] at k0 k1 k2 k3
    let a r := m ((c.tc : Thread nD τ).loc r)
    let g : FVec Ideal S2x1024x512 .f32 := adG (a main_arg3) (a main_arg4)
    refine ⟨k0.trans ((dats m 0 c).arrAt_eq_of_covers 5 g (by decide +kernel) fun t _ y => ?_).symm,
      k1.trans ((dats m 0 c).arrAt_eq_of_covers 6 (adD (a main_arg0) (a main_arg1) (a main_arg2) g) (by decide +kernel) fun t _ y => ?_).symm,
      k2.trans ((dats m 0 c).arrAt_eq_of_covers 7 (adM (a main_arg1) g) (by decide +kernel) fun t _ y => ?_).symm,
      k3.trans ((dats m 0 c).arrAt_eq_of_covers 8 (adV (a main_arg2) g) (by decide +kernel) fun t _ y => ?_).symm, kept⟩
    all_goals
      blk_simp [after0_5, after0_6, after0_7, after0_8]
      frame_out
      let b i := iblk m c i t
    · exact back (adG (b 3) (b 4)) _ _ y
    · exact back (adD (b 0) (b 1) (b 2) (adG (b 3) (b 4))) _ _ y
    · exact back (adM (b 1) (adG (b 3) (b 4))) _ _ y
    · exact back (adV (b 2) (adG (b 3) (b 4))) _ _ y) (RefAdOgIdeal.Value.run m' g')⟩

end Cert.AdOgIdeal.Gen

end
-- ==== Proof.Mm.AdIn.lean ====
module

public import proofs.«01_k».proof.Proof.Gen.AdInIdeal.Value
public import proofs.«01_k».proof.Proof.Gen.RefAdInIdeal.Run
public import proofs.«01_k».proof.Proof.Gen.AdIn.Frame
public import proofs.«01_k».proof.Proof.Gen.AdAdaIdeal.Value
public import proofs.«01_k».proof.Proof.Gen.RefAdAdaIdeal.Run
public import proofs.«01_k».proof.Proof.Gen.AdAda.Frame
public import proofs.«01_k».proof.Proof.Gen.AdBadaIdeal.Value
public import proofs.«01_k».proof.Proof.Gen.RefAdBadaIdeal.Run
public import proofs.«01_k».proof.Proof.Gen.AdBada.Frame
public import proofs.«01_k».proof.Proof.Mm.Adam
public import proofs.«01_k».proof.Defs

@[expose] public section

set_option maxRecDepth 16384

noncomputable section

/-! # The update of the input projection, and of the modulation with its bias -/

open Idealize.ShloMosaic Idealize.ShloMosaic.TcCoe Idealize.ShloMosaic.Tactic Idealize.SL.Sem Cert.Val

namespace Cert.AdInIdeal.Gen

attribute [local instance] AdIn.Gen.facts facts RefAdInIdeal.Gen.facts

theorem frame_ad_in : quiescent_AdIn := fun m g _ => AdIn.Gen.frame m g
theorem frame_ad_in_ideal : quiescent_AdInIdeal := fun m g _ => frame m g
theorem frame_ad_in_reference : quiescent_RefAdInIdeal := fun m g _ =>
  (θ_run _ _ _).mono (fun r h => ⟨fun c => (h c).2.2.2.2, sem_eq_zero_of_no_sems (by decide) r.2⟩) (RefAdInIdeal.Value.run m g)

theorem equal_ad_in : algebraic_AdInIdeal_RefAdInIdeal := fun m g m' g' _ h =>
  ⟨_, _, _, _, Value.run_blocks m g, (θ_run _ _ _).mono (fun r k c => by
    obtain ⟨k0, k1, k2, k3, kept⟩ := k c
    simp only [h c] at k0 k1 k2 k3
    let a r := m ((c.tc : Thread nD τ).loc r)
    let g : FVec Ideal S2564x2x2048 .f32 := adG (a main_arg3) (a main_arg4)
    refine ⟨k0.trans ((dats m 0 c).arrAt_eq_of_covers 5 g (by decide +kernel) fun t _ y => ?_).symm,
      k1.trans ((dats m 0 c).arrAt_eq_of_covers 6 (adD (a main_arg0) (a main_arg1) (a main_arg2) g) (by decide +kernel) fun t _ y => ?_).symm,
      k2.trans ((dats m 0 c).arrAt_eq_of_covers 7 (adM (a main_arg1) g) (by decide +kernel) fun t _ y => ?_).symm,
      k3.trans ((dats m 0 c).arrAt_eq_of_covers 8 (adV (a main_arg2) g) (by decide +kernel) fun t _ y => ?_).symm, kept⟩
    all_goals
      blk_simp [after0_5, after0_6, after0_7, after0_8]
      frame_out
      rfl) (RefAdInIdeal.Value.run m' g')⟩

end Cert.AdInIdeal.Gen

namespace Cert.AdAdaIdeal.Gen

attribute [local instance] AdAda.Gen.facts facts RefAdAdaIdeal.Gen.facts

theorem frame_ad_ada : quiescent_AdAda := fun m g _ => AdAda.Gen.frame m g
theorem frame_ad_ada_ideal : quiescent_AdAdaIdeal := fun m g _ => frame m g
theorem frame_ad_ada_reference : quiescent_RefAdAdaIdeal := fun m g _ =>
  (θ_run _ _ _).mono (fun r h => ⟨fun c => (h c).2.2.2.2, sem_eq_zero_of_no_sems (by decide) r.2⟩) (RefAdAdaIdeal.Value.run m g)

theorem equal_ad_ada : algebraic_AdAdaIdeal_RefAdAdaIdeal := fun m g m' g' _ h =>
  ⟨_, _, _, _, Value.run_blocks m g, (θ_run _ _ _).mono (fun r k c => by
    obtain ⟨k0, k1, k2, k3, kept⟩ := k c
    simp only [h c] at k0 k1 k2 k3
    let a r := m ((c.tc : Thread nD τ).loc r)
    let g : FVec Ideal S2x2048x3072 .f32 := a main_arg3
    refine ⟨k0.trans ((dats m 0 c).arrAt_eq_of_covers 4 g (by decide +kernel) fun t _ y => ?_).symm,
      k1.trans ((dats m 0 c).arrAt_eq_of_covers 5 (adD (a main_arg0) (a main_arg1) (a main_arg2) g) (by decide +kernel) fun t _ y => ?_).symm,
      k2.trans ((dats m 0 c).arrAt_eq_of_covers 6 (adM (a main_arg1) g) (by decide +kernel) fun t _ y => ?_).symm,
      k3.trans ((dats m 0 c).arrAt_eq_of_covers 7 (adV (a main_arg2) g) (by decide +kernel) fun t _ y => ?_).symm, kept⟩
    all_goals
      blk_simp [after0_4, after0_5, after0_6, after0_7]
      frame_out
      let b i := iblk m c i t
    · exact back (b 3) _ _ y
    · exact back (adD (b 0) (b 1) (b 2) (b 3)) _ _ y
    · exact back (adM (b 1) (b 3)) _ _ y
    · exact back (adV (b 2) (b 3)) _ _ y) (RefAdAdaIdeal.Value.run m' g')⟩

end Cert.AdAdaIdeal.Gen

namespace Cert.AdBadaIdeal.Gen

attribute [local instance] AdBada.Gen.facts facts RefAdBadaIdeal.Gen.facts

theorem frame_ad_bada : quiescent_AdBada := fun m g _ => AdBada.Gen.frame m g
theorem frame_ad_bada_ideal : quiescent_AdBadaIdeal := fun m g _ => frame m g
theorem frame_ad_bada_reference : quiescent_RefAdBadaIdeal := fun m g _ =>
  (θ_run _ _ _).mono (fun r h => ⟨fun c => (h c).2.2.2.2, sem_eq_zero_of_no_sems (by decide) r.2⟩) (RefAdBadaIdeal.Value.run m g)

theorem equal_ad_bada : algebraic_AdBadaIdeal_RefAdBadaIdeal := fun m g m' g' _ h =>
  ⟨_, _, _, _, Value.run_blocks m g, (θ_run _ _ _).mono (fun r k c => by
    obtain ⟨k0, k1, k2, k3, kept⟩ := k c
    simp only [h c] at k0 k1 k2 k3
    let a r := m ((c.tc : Thread nD τ).loc r)
    let g : FVec Ideal S1x2x12288 .f32 := a main_arg3
    refine ⟨k0.trans ((dats m 0 c).arrAt_eq_of_covers 4 g (by decide +kernel) fun t _ y => ?_).symm,
      k1.trans ((dats m 0 c).arrAt_eq_of_covers 5 (adD (a main_arg0) (a main_arg1) (a main_arg2) g) (by decide +kernel) fun t _ y => ?_).symm,
      k2.trans ((dats m 0 c).arrAt_eq_of_covers 6 (adM (a main_arg1) g) (by decide +kernel) fun t _ y => ?_).symm,
      k3.trans ((dats m 0 c).arrAt_eq_of_covers 7 (adV (a main_arg2) g) (by decide +kernel) fun t _ y => ?_).symm, kept⟩
    all_goals
      blk_simp [after0_4, after0_5, after0_6, after0_7]
      frame_out
      let b i := iblk m c i t
    · exact back (b 3) _ _ y
    · exact back (adD (b 0) (b 1) (b 2) (b 3)) _ _ y
    · exact back (adM (b 1) (b 3)) _ _ y
    · exact back (adV (b 2) (b 3)) _ _ y) (RefAdBadaIdeal.Value.run m' g')⟩

end Cert.AdBadaIdeal.Gen

end
-- ==== Proof.Mm.AdGate.lean ====
module

public import proofs.«01_k».proof.Proof.Gen.AdNormIdeal.Value
public import proofs.«01_k».proof.Proof.Gen.RefAdNormIdeal.Run
public import proofs.«01_k».proof.Proof.Gen.AdNorm.Frame
public import proofs.«01_k».proof.Proof.Gen.AdWaIdeal.Value
public import proofs.«01_k».proof.Proof.Gen.RefAdWaIdeal.Run
public import proofs.«01_k».proof.Proof.Gen.AdWa.Frame
public import proofs.«01_k».proof.Proof.Gen.AdBaIdeal.Value
public import proofs.«01_k».proof.Proof.Gen.RefAdBaIdeal.Run
public import proofs.«01_k».proof.Proof.Gen.AdBa.Frame
public import proofs.«01_k».proof.Proof.Gen.AdGnIdeal.Value
public import proofs.«01_k».proof.Proof.Gen.RefAdGnIdeal.Run
public import proofs.«01_k».proof.Proof.Gen.AdGn.Frame
public import proofs.«01_k».proof.Proof.Mm.Adam
public import proofs.«01_k».proof.Defs

@[expose] public section

set_option maxRecDepth 16384

noncomputable section

/-! # The update of the norms' weights and of the gate's low-rank weight and bias -/

open Idealize.ShloMosaic Idealize.ShloMosaic.TcCoe Idealize.ShloMosaic.Tactic Idealize.SL.Sem Cert.Val

namespace Cert.AdNormIdeal.Gen

attribute [local instance] AdNorm.Gen.facts facts RefAdNormIdeal.Gen.facts

theorem frame_ad_norm : quiescent_AdNorm := fun m g _ => AdNorm.Gen.frame m g
theorem frame_ad_norm_ideal : quiescent_AdNormIdeal := fun m g _ => frame m g
theorem frame_ad_norm_reference : quiescent_RefAdNormIdeal := fun m g _ =>
  (θ_run _ _ _).mono (fun r h => ⟨fun c => (h c).2.2.2.2, sem_eq_zero_of_no_sems (by decide) r.2⟩) (RefAdNormIdeal.Value.run m g)

theorem equal_ad_norm : algebraic_AdNormIdeal_RefAdNormIdeal := fun m g m' g' _ h =>
  ⟨_, _, _, _, Value.run_blocks m g, (θ_run _ _ _).mono (fun r k c => by
    obtain ⟨k0, k1, k2, k3, kept⟩ := k c
    simp only [h c] at k0 k1 k2 k3
    let a r := m ((c.tc : Thread nD τ).loc r)
    let g : FVec Ideal S2x4x512 .f32 := a main_arg3
    refine ⟨k0.trans ((dats m 0 c).arrAt_eq_of_covers 4 g (by decide +kernel) fun t _ y => ?_).symm,
      k1.trans ((dats m 0 c).arrAt_eq_of_covers 5 (adD (a main_arg0) (a main_arg1) (a main_arg2) g) (by decide +kernel) fun t _ y => ?_).symm,
      k2.trans ((dats m 0 c).arrAt_eq_of_covers 6 (adM (a main_arg1) g) (by decide +kernel) fun t _ y => ?_).symm,
      k3.trans ((dats m 0 c).arrAt_eq_of_covers 7 (adV (a main_arg2) g) (by decide +kernel) fun t _ y => ?_).symm, kept⟩
    all_goals
      blk_simp [after0_4, after0_5, after0_6, after0_7]
      frame_out
      let b i := iblk m c i t
    · exact back (b 3) _ _ y
    · exact back (adD (b 0) (b 1) (b 2) (b 3)) _ _ y
    · exact back (adM (b 1) (b 3)) _ _ y
    · exact back (adV (b 2) (b 3)) _ _ y) (RefAdNormIdeal.Value.run m' g')⟩

end Cert.AdNormIdeal.Gen

namespace Cert.AdWaIdeal.Gen

attribute [local instance] AdWa.Gen.facts facts RefAdWaIdeal.Gen.facts

theorem frame_ad_wa : quiescent_AdWa := fun m g _ => AdWa.Gen.frame m g
theorem frame_ad_wa_ideal : quiescent_AdWaIdeal := fun m g _ => frame m g
theorem frame_ad_wa_reference : quiescent_RefAdWaIdeal := fun m g _ =>
  (θ_run _ _ _).mono (fun r h => ⟨fun c => (h c).2.2.2.2, sem_eq_zero_of_no_sems (by decide) r.2⟩) (RefAdWaIdeal.Value.run m g)

theorem equal_ad_wa : algebraic_AdWaIdeal_RefAdWaIdeal := fun m g m' g' _ h =>
  ⟨_, _, _, _, Value.run_blocks m g, (θ_run _ _ _).mono (fun r k c => by
    obtain ⟨k0, k1, k2, k3, kept⟩ := k c
    simp only [h c] at k0 k1 k2 k3
    let a r := m ((c.tc : Thread nD τ).loc r)
    let g : FVec Ideal S2x16x128 .f32 := a main_arg3
    refine ⟨k0.trans ((dats m 0 c).arrAt_eq_of_covers 4 g (by decide +kernel) fun t _ y => ?_).symm,
      k1.trans ((dats m 0 c).arrAt_eq_of_covers 5 (adD (a main_arg0) (a main_arg1) (a main_arg2) g) (by decide +kernel) fun t _ y => ?_).symm,
      k2.trans ((dats m 0 c).arrAt_eq_of_covers 6 (adM (a main_arg1) g) (by decide +kernel) fun t _ y => ?_).symm,
      k3.trans ((dats m 0 c).arrAt_eq_of_covers 7 (adV (a main_arg2) g) (by decide +kernel) fun t _ y => ?_).symm, kept⟩
    all_goals
      blk_simp [after0_4, after0_5, after0_6, after0_7]
      frame_out
      let b i := iblk m c i t
    · exact back (b 3) _ _ y
    · exact back (adD (b 0) (b 1) (b 2) (b 3)) _ _ y
    · exact back (adM (b 1) (b 3)) _ _ y
    · exact back (adV (b 2) (b 3)) _ _ y) (RefAdWaIdeal.Value.run m' g')⟩

end Cert.AdWaIdeal.Gen

namespace Cert.AdBaIdeal.Gen

attribute [local instance] AdBa.Gen.facts facts RefAdBaIdeal.Gen.facts

theorem frame_ad_ba : quiescent_AdBa := fun m g _ => AdBa.Gen.frame m g
theorem frame_ad_ba_ideal : quiescent_AdBaIdeal := fun m g _ => frame m g
theorem frame_ad_ba_reference : quiescent_RefAdBaIdeal := fun m g _ =>
  (θ_run _ _ _).mono (fun r h => ⟨fun c => (h c).2.2.2.2, sem_eq_zero_of_no_sems (by decide) r.2⟩) (RefAdBaIdeal.Value.run m g)

theorem equal_ad_ba : algebraic_AdBaIdeal_RefAdBaIdeal := fun m g m' g' _ h =>
  ⟨_, _, _, _, Value.run_blocks m g, (θ_run _ _ _).mono (fun r k c => by
    obtain ⟨k0, k1, k2, k3, kept⟩ := k c
    simp only [h c] at k0 k1 k2 k3
    let a r := m ((c.tc : Thread nD τ).loc r)
    let g : FVec Ideal S1x2x512 .f32 := a main_arg3
    refine ⟨k0.trans ((dats m 0 c).arrAt_eq_of_covers 4 g (by decide +kernel) fun t _ y => ?_).symm,
      k1.trans ((dats m 0 c).arrAt_eq_of_covers 5 (adD (a main_arg0) (a main_arg1) (a main_arg2) g) (by decide +kernel) fun t _ y => ?_).symm,
      k2.trans ((dats m 0 c).arrAt_eq_of_covers 6 (adM (a main_arg1) g) (by decide +kernel) fun t _ y => ?_).symm,
      k3.trans ((dats m 0 c).arrAt_eq_of_covers 7 (adV (a main_arg2) g) (by decide +kernel) fun t _ y => ?_).symm, kept⟩
    all_goals
      blk_simp [after0_4, after0_5, after0_6, after0_7]
      frame_out
      let b i := iblk m c i t
    · exact back (b 3) _ _ y
    · exact back (adD (b 0) (b 1) (b 2) (b 3)) _ _ y
    · exact back (adM (b 1) (b 3)) _ _ y
    · exact back (adV (b 2) (b 3)) _ _ y) (RefAdBaIdeal.Value.run m' g')⟩

end Cert.AdBaIdeal.Gen

namespace Cert.AdGnIdeal.Gen

attribute [local instance] AdGn.Gen.facts facts RefAdGnIdeal.Gen.facts

theorem frame_ad_gn : quiescent_AdGn := fun m g _ => AdGn.Gen.frame m g
theorem frame_ad_gn_ideal : quiescent_AdGnIdeal := fun m g _ => frame m g
theorem frame_ad_gn_reference : quiescent_RefAdGnIdeal := fun m g _ =>
  (θ_run _ _ _).mono (fun r h => ⟨fun c => (h c).2.2.2.2, sem_eq_zero_of_no_sems (by decide) r.2⟩) (RefAdGnIdeal.Value.run m g)

theorem equal_ad_gn : algebraic_AdGnIdeal_RefAdGnIdeal := fun m g m' g' _ h =>
  ⟨_, _, _, _, Value.run_blocks m g, (θ_run _ _ _).mono (fun r k c => by
    obtain ⟨k0, k1, k2, k3, kept⟩ := k c
    simp only [h c] at k0 k1 k2 k3
    let a r := m ((c.tc : Thread nD τ).loc r)
    let g : FVec Ideal S1x2x256 .f32 := a main_arg3
    refine ⟨k0.trans ((dats m 0 c).arrAt_eq_of_covers 4 g (by decide +kernel) fun t _ y => ?_).symm,
      k1.trans ((dats m 0 c).arrAt_eq_of_covers 5 (adD (a main_arg0) (a main_arg1) (a main_arg2) g) (by decide +kernel) fun t _ y => ?_).symm,
      k2.trans ((dats m 0 c).arrAt_eq_of_covers 6 (adM (a main_arg1) g) (by decide +kernel) fun t _ y => ?_).symm,
      k3.trans ((dats m 0 c).arrAt_eq_of_covers 7 (adV (a main_arg2) g) (by decide +kernel) fun t _ y => ?_).symm, kept⟩
    all_goals
      blk_simp [after0_4, after0_5, after0_6, after0_7]
      frame_out
      let b i := iblk m c i t
    · exact back (b 3) _ _ y
    · exact back (adD (b 0) (b 1) (b 2) (b 3)) _ _ y
    · exact back (adM (b 1) (b 3)) _ _ y
    · exact back (adV (b 2) (b 3)) _ _ y) (RefAdGnIdeal.Value.run m' g')⟩

end Cert.AdGnIdeal.Gen

end
-- ==== Proof.Mm.AdConv.lean ====
module

public import proofs.«01_k».proof.Proof.Gen.AdCwIdeal.Value
public import proofs.«01_k».proof.Proof.Gen.RefAdCwIdeal.Run
public import proofs.«01_k».proof.Proof.Gen.AdCw.Frame
public import proofs.«01_k».proof.Proof.Gen.AdFwIdeal.Value
public import proofs.«01_k».proof.Proof.Gen.RefAdFwIdeal.Run
public import proofs.«01_k».proof.Proof.Gen.AdFw.Frame
public import proofs.«01_k».proof.Proof.Mm.Adam
public import proofs.«01_k».proof.Defs

@[expose] public section

set_option maxRecDepth 16384

noncomputable section

/-! # The update of the two short convolutions -/

open Idealize.ShloMosaic Idealize.ShloMosaic.TcCoe Idealize.ShloMosaic.Tactic Idealize.SL.Sem Cert.Val

namespace Cert.AdCwIdeal.Gen

attribute [local instance] AdCw.Gen.facts facts RefAdCwIdeal.Gen.facts

theorem frame_ad_cw : quiescent_AdCw := fun m g _ => AdCw.Gen.frame m g
theorem frame_ad_cw_ideal : quiescent_AdCwIdeal := fun m g _ => frame m g
theorem frame_ad_cw_reference : quiescent_RefAdCwIdeal := fun m g _ =>
  (θ_run _ _ _).mono (fun r h => ⟨fun c => (h c).2.2.2.2, sem_eq_zero_of_no_sems (by decide) r.2⟩) (RefAdCwIdeal.Value.run m g)

theorem equal_ad_cw : algebraic_AdCwIdeal_RefAdCwIdeal := fun m g m' g' _ h =>
  ⟨_, _, _, _, Value.run_blocks m g, (θ_run _ _ _).mono (fun r k c => by
    obtain ⟨k0, k1, k2, k3, kept⟩ := k c
    simp only [h c] at k0 k1 k2 k3
    let a r := m ((c.tc : Thread nD τ).loc r)
    let g : FVec Ideal S2x3x256 .f32 := a main_arg3
    refine ⟨k0.trans ((dats m 0 c).arrAt_eq_of_covers 4 g (by decide +kernel) fun t _ y => ?_).symm,
      k1.trans ((dats m 0 c).arrAt_eq_of_covers 5 (adD (a main_arg0) (a main_arg1) (a main_arg2) g) (by decide +kernel) fun t _ y => ?_).symm,
      k2.trans ((dats m 0 c).arrAt_eq_of_covers 6 (adM (a main_arg1) g) (by decide +kernel) fun t _ y => ?_).symm,
      k3.trans ((dats m 0 c).arrAt_eq_of_covers 7 (adV (a main_arg2) g) (by decide +kernel) fun t _ y => ?_).symm, kept⟩
    all_goals
      blk_simp [after0_4, after0_5, after0_6, after0_7]
      frame_out
      let b i := iblk m c i t
    · exact back (b 3) _ _ y
    · exact back (adD (b 0) (b 1) (b 2) (b 3)) _ _ y
    · exact back (adM (b 1) (b 3)) _ _ y
    · exact back (adV (b 2) (b 3)) _ _ y) (RefAdCwIdeal.Value.run m' g')⟩

end Cert.AdCwIdeal.Gen

namespace Cert.AdFwIdeal.Gen

attribute [local instance] AdFw.Gen.facts facts RefAdFwIdeal.Gen.facts

theorem frame_ad_fw : quiescent_AdFw := fun m g _ => AdFw.Gen.frame m g
theorem frame_ad_fw_ideal : quiescent_AdFwIdeal := fun m g _ => frame m g
theorem frame_ad_fw_reference : quiescent_RefAdFwIdeal := fun m g _ =>
  (θ_run _ _ _).mono (fun r h => ⟨fun c => (h c).2.2.2.2, sem_eq_zero_of_no_sems (by decide) r.2⟩) (RefAdFwIdeal.Value.run m g)

theorem equal_ad_fw : algebraic_AdFwIdeal_RefAdFwIdeal := fun m g m' g' _ h =>
  ⟨_, _, _, _, Value.run_blocks m g, (θ_run _ _ _).mono (fun r k c => by
    obtain ⟨k0, k1, k2, k3, kept⟩ := k c
    simp only [h c] at k0 k1 k2 k3
    let a r := m ((c.tc : Thread nD τ).loc r)
    let g : FVec Ideal S2x3x1408 .f32 := a main_arg3
    refine ⟨k0.trans ((dats m 0 c).arrAt_eq_of_covers 4 g (by decide +kernel) fun t _ y => ?_).symm,
      k1.trans ((dats m 0 c).arrAt_eq_of_covers 5 (adD (a main_arg0) (a main_arg1) (a main_arg2) g) (by decide +kernel) fun t _ y => ?_).symm,
      k2.trans ((dats m 0 c).arrAt_eq_of_covers 6 (adM (a main_arg1) g) (by decide +kernel) fun t _ y => ?_).symm,
      k3.trans ((dats m 0 c).arrAt_eq_of_covers 7 (adV (a main_arg2) g) (by decide +kernel) fun t _ y => ?_).symm, kept⟩
    all_goals
      blk_simp [after0_4, after0_5, after0_6, after0_7]
      frame_out
      let b i := iblk m c i t
    · exact back (b 3) _ _ y
    · exact back (adD (b 0) (b 1) (b 2) (b 3)) _ _ y
    · exact back (adM (b 1) (b 3)) _ _ y
    · exact back (adV (b 2) (b 3)) _ _ y) (RefAdFwIdeal.Value.run m' g')⟩

end Cert.AdFwIdeal.Gen

end
-- ==== Proof.lean ====
/- The proof of `Claim`: the frames, that no rewrite was made, and that the results are equal. -/
module

public import proofs.«01_k».proof.Proof.Alg
public import proofs.«01_k».proof.Proof.Mm.Dw
public import proofs.«01_k».proof.Proof.Mm.Dx
public import proofs.«01_k».proof.Proof.Mm.Fw
public import proofs.«01_k».proof.Proof.Mm.AdWide
public import proofs.«01_k».proof.Proof.Mm.AdMix
public import proofs.«01_k».proof.Proof.Mm.AdIn
public import proofs.«01_k».proof.Proof.Mm.AdGate
public import proofs.«01_k».proof.Proof.Mm.AdConv

@[expose] public section

noncomputable section

namespace Cert.Proof

open Idealize.ShloMosaic Idealize.SL.Sem

/-- Everything the certificate claims. -/
theorem claim : Claim :=
  ⟨Kernel.Gen.facts, KernelIdeal.Gen.facts, ReferenceIdeal.Gen.facts,
    InDw.Gen.facts, InDwIdeal.Gen.facts, RefInDwIdeal.Gen.facts,
    InDx.Gen.facts, InDxIdeal.Gen.facts, RefInDxIdeal.Gen.facts,
    UpDw.Gen.facts, UpDwIdeal.Gen.facts, RefUpDwIdeal.Gen.facts,
    UpDx.Gen.facts, UpDxIdeal.Gen.facts, RefUpDxIdeal.Gen.facts,
    DnDw.Gen.facts, DnDwIdeal.Gen.facts, RefDnDwIdeal.Gen.facts,
    DnDx.Gen.facts, DnDxIdeal.Gen.facts, RefDnDxIdeal.Gen.facts,
    ODw.Gen.facts, ODwIdeal.Gen.facts, RefODwIdeal.Gen.facts,
    ODx.Gen.facts, ODxIdeal.Gen.facts, RefODxIdeal.Gen.facts,
    OgDw.Gen.facts, OgDwIdeal.Gen.facts, RefOgDwIdeal.Gen.facts,
    OgDx.Gen.facts, OgDxIdeal.Gen.facts, RefOgDxIdeal.Gen.facts,
    InFw.Gen.facts, InFwIdeal.Gen.facts, RefInFwIdeal.Gen.facts,
    OgFw.Gen.facts, OgFwIdeal.Gen.facts, RefOgFwIdeal.Gen.facts,
    OFw.Gen.facts, OFwIdeal.Gen.facts, RefOFwIdeal.Gen.facts,
    UpFw.Gen.facts, UpFwIdeal.Gen.facts, RefUpFwIdeal.Gen.facts,
    DnFw.Gen.facts, DnFwIdeal.Gen.facts, RefDnFwIdeal.Gen.facts,
    AdDn.Gen.facts, AdDnIdeal.Gen.facts, RefAdDnIdeal.Gen.facts,
    AdUp.Gen.facts, AdUpIdeal.Gen.facts, RefAdUpIdeal.Gen.facts,
    AdO.Gen.facts, AdOIdeal.Gen.facts, RefAdOIdeal.Gen.facts,
    AdOg.Gen.facts, AdOgIdeal.Gen.facts, RefAdOgIdeal.Gen.facts,
    AdIn.Gen.facts, AdInIdeal.Gen.facts, RefAdInIdeal.Gen.facts,
    AdAda.Gen.facts, AdAdaIdeal.Gen.facts, RefAdAdaIdeal.Gen.facts,
    AdBada.Gen.facts, AdBadaIdeal.Gen.facts, RefAdBadaIdeal.Gen.facts,
    AdNorm.Gen.facts, AdNormIdeal.Gen.facts, RefAdNormIdeal.Gen.facts,
    AdWa.Gen.facts, AdWaIdeal.Gen.facts, RefAdWaIdeal.Gen.facts,
    AdBa.Gen.facts, AdBaIdeal.Gen.facts, RefAdBaIdeal.Gen.facts,
    AdGn.Gen.facts, AdGnIdeal.Gen.facts, RefAdGnIdeal.Gen.facts,
    AdCw.Gen.facts, AdCwIdeal.Gen.facts, RefAdCwIdeal.Gen.facts,
    AdFw.Gen.facts, AdFwIdeal.Gen.facts, RefAdFwIdeal.Gen.facts,
    frame_kernel, frame_ideal, frame_reference,
    InDwIdeal.Gen.frame_in_dw, InDwIdeal.Gen.frame_in_dw_ideal, InDwIdeal.Gen.frame_in_dw_reference,
    InDxIdeal.Gen.frame_in_dx, InDxIdeal.Gen.frame_in_dx_ideal, InDxIdeal.Gen.frame_in_dx_reference,
    UpDwIdeal.Gen.frame_up_dw, UpDwIdeal.Gen.frame_up_dw_ideal, UpDwIdeal.Gen.frame_up_dw_reference,
    UpDxIdeal.Gen.frame_up_dx, UpDxIdeal.Gen.frame_up_dx_ideal, UpDxIdeal.Gen.frame_up_dx_reference,
    DnDwIdeal.Gen.frame_dn_dw, DnDwIdeal.Gen.frame_dn_dw_ideal, DnDwIdeal.Gen.frame_dn_dw_reference,
    DnDxIdeal.Gen.frame_dn_dx, DnDxIdeal.Gen.frame_dn_dx_ideal, DnDxIdeal.Gen.frame_dn_dx_reference,
    ODwIdeal.Gen.frame_o_dw, ODwIdeal.Gen.frame_o_dw_ideal, ODwIdeal.Gen.frame_o_dw_reference,
    ODxIdeal.Gen.frame_o_dx, ODxIdeal.Gen.frame_o_dx_ideal, ODxIdeal.Gen.frame_o_dx_reference,
    OgDwIdeal.Gen.frame_og_dw, OgDwIdeal.Gen.frame_og_dw_ideal, OgDwIdeal.Gen.frame_og_dw_reference,
    OgDxIdeal.Gen.frame_og_dx, OgDxIdeal.Gen.frame_og_dx_ideal, OgDxIdeal.Gen.frame_og_dx_reference,
    InFwIdeal.Gen.frame_in_fw, InFwIdeal.Gen.frame_in_fw_ideal, InFwIdeal.Gen.frame_in_fw_reference,
    OgFwIdeal.Gen.frame_og_fw, OgFwIdeal.Gen.frame_og_fw_ideal, OgFwIdeal.Gen.frame_og_fw_reference,
    OFwIdeal.Gen.frame_o_fw, OFwIdeal.Gen.frame_o_fw_ideal, OFwIdeal.Gen.frame_o_fw_reference,
    UpFwIdeal.Gen.frame_up_fw, UpFwIdeal.Gen.frame_up_fw_ideal, UpFwIdeal.Gen.frame_up_fw_reference,
    DnFwIdeal.Gen.frame_dn_fw, DnFwIdeal.Gen.frame_dn_fw_ideal, DnFwIdeal.Gen.frame_dn_fw_reference,
    AdDnIdeal.Gen.frame_ad_dn, AdDnIdeal.Gen.frame_ad_dn_ideal, AdDnIdeal.Gen.frame_ad_dn_reference,
    AdUpIdeal.Gen.frame_ad_up, AdUpIdeal.Gen.frame_ad_up_ideal, AdUpIdeal.Gen.frame_ad_up_reference,
    AdOIdeal.Gen.frame_ad_o, AdOIdeal.Gen.frame_ad_o_ideal, AdOIdeal.Gen.frame_ad_o_reference,
    AdOgIdeal.Gen.frame_ad_og, AdOgIdeal.Gen.frame_ad_og_ideal, AdOgIdeal.Gen.frame_ad_og_reference,
    AdInIdeal.Gen.frame_ad_in, AdInIdeal.Gen.frame_ad_in_ideal, AdInIdeal.Gen.frame_ad_in_reference,
    AdAdaIdeal.Gen.frame_ad_ada, AdAdaIdeal.Gen.frame_ad_ada_ideal, AdAdaIdeal.Gen.frame_ad_ada_reference,
    AdBadaIdeal.Gen.frame_ad_bada, AdBadaIdeal.Gen.frame_ad_bada_ideal, AdBadaIdeal.Gen.frame_ad_bada_reference,
    AdNormIdeal.Gen.frame_ad_norm, AdNormIdeal.Gen.frame_ad_norm_ideal, AdNormIdeal.Gen.frame_ad_norm_reference,
    AdWaIdeal.Gen.frame_ad_wa, AdWaIdeal.Gen.frame_ad_wa_ideal, AdWaIdeal.Gen.frame_ad_wa_reference,
    AdBaIdeal.Gen.frame_ad_ba, AdBaIdeal.Gen.frame_ad_ba_ideal, AdBaIdeal.Gen.frame_ad_ba_reference,
    AdGnIdeal.Gen.frame_ad_gn, AdGnIdeal.Gen.frame_ad_gn_ideal, AdGnIdeal.Gen.frame_ad_gn_reference,
    AdCwIdeal.Gen.frame_ad_cw, AdCwIdeal.Gen.frame_ad_cw_ideal, AdCwIdeal.Gen.frame_ad_cw_reference,
    AdFwIdeal.Gen.frame_ad_fw, AdFwIdeal.Gen.frame_ad_fw_ideal, AdFwIdeal.Gen.frame_ad_fw_reference,
    trivial, equal_results,
    trivial, InDwIdeal.Gen.equal_in_dw,
    trivial, InDxIdeal.Gen.equal_in_dx,
    trivial, UpDwIdeal.Gen.equal_up_dw,
    trivial, UpDxIdeal.Gen.equal_up_dx,
    trivial, DnDwIdeal.Gen.equal_dn_dw,
    trivial, DnDxIdeal.Gen.equal_dn_dx,
    trivial, ODwIdeal.Gen.equal_o_dw,
    trivial, ODxIdeal.Gen.equal_o_dx,
    trivial, OgDwIdeal.Gen.equal_og_dw,
    trivial, OgDxIdeal.Gen.equal_og_dx,
    trivial, InFwIdeal.Gen.equal_in_fw,
    trivial, OgFwIdeal.Gen.equal_og_fw,
    trivial, OFwIdeal.Gen.equal_o_fw,
    trivial, UpFwIdeal.Gen.equal_up_fw,
    trivial, DnFwIdeal.Gen.equal_dn_fw,
    trivial, AdDnIdeal.Gen.equal_ad_dn,
    trivial, AdUpIdeal.Gen.equal_ad_up,
    trivial, AdOIdeal.Gen.equal_ad_o,
    trivial, AdOgIdeal.Gen.equal_ad_og,
    trivial, AdInIdeal.Gen.equal_ad_in,
    trivial, AdAdaIdeal.Gen.equal_ad_ada,
    trivial, AdBadaIdeal.Gen.equal_ad_bada,
    trivial, AdNormIdeal.Gen.equal_ad_norm,
    trivial, AdWaIdeal.Gen.equal_ad_wa,
    trivial, AdBaIdeal.Gen.equal_ad_ba,
    trivial, AdGnIdeal.Gen.equal_ad_gn,
    trivial, AdCwIdeal.Gen.equal_ad_cw,
    trivial, AdFwIdeal.Gen.equal_ad_fw⟩

end Cert.Proof

end
